-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_WinLeft (m : (ℓ : Loc Cert.WinLeft.nD Cert.WinLeft.τ Cert.WinLeft.sig) → Buf (Elt Bits) ℓ) : Prop :=
  True

def Pre_WinLeftIdeal (m : (ℓ : Loc Cert.WinLeftIdeal.nD Cert.WinLeftIdeal.τ Cert.WinLeftIdeal.sig) → Buf (Elt Ideal) ℓ) : Prop :=
  True

def Pre_WinLeftRefIdeal (m : (ℓ : Loc Cert.WinLeftRefIdeal.nD Cert.WinLeftRefIdeal.τ Cert.WinLeftRefIdeal.sig) → Buf (Elt Ideal) ℓ) : Prop :=
  True

def Pre_WinRight (m : (ℓ : Loc Cert.WinRight.nD Cert.WinRight.τ Cert.WinRight.sig) → Buf (Elt Bits) ℓ) : Prop :=
  True

def Pre_WinRightIdeal (m : (ℓ : Loc Cert.WinRightIdeal.nD Cert.WinRightIdeal.τ Cert.WinRightIdeal.sig) → Buf (Elt Ideal) ℓ) : Prop :=
  True

def Pre_WinRightRefIdeal (m : (ℓ : Loc Cert.WinRightRefIdeal.nD Cert.WinRightRefIdeal.τ Cert.WinRightRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_finite_dx [hPre_finite_dx : Cert.Pre_finite_dx.Facts] (m : (ℓ : Loc Cert.DxIdeal.nD Cert.DxIdeal.τ Cert.DxIdeal.sig) → Buf (Elt Ideal) ℓ) : Prop :=
  ∀ c : Dev Cert.DxIdeal.nD,
    (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4))).1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4))).2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4))).2.2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4))).2.2.2 = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_finite_dx [hPre_finite_dx : Cert.Pre_finite_dx.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))).1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))).2.1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))).2.2.1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Wbr (m : (ℓ : Loc Cert.Wbr.nD Cert.Wbr.τ Cert.Wbr.sig) → Buf (Elt Bits) ℓ) : Prop :=
  True

def Pre_WbrIdeal (m : (ℓ : Loc Cert.WbrIdeal.nD Cert.WbrIdeal.τ Cert.WbrIdeal.sig) → Buf (Elt Ideal) ℓ) : Prop :=
  True

def Pre_WbrRefIdeal (m : (ℓ : Loc Cert.WbrRefIdeal.nD Cert.WbrRefIdeal.τ Cert.WbrRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossIdeal_finite_loss [hPre_finite_loss : Cert.Pre_finite_loss.Facts] (m : (ℓ : Loc Cert.OutLossIdeal.nD Cert.OutLossIdeal.τ Cert.OutLossIdeal.sig) → Buf (Elt Ideal) ℓ) : Prop :=
  ∀ c : Dev Cert.OutLossIdeal.nD,
    (Cert.Pre_finite_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4))).1 = (fun _ => 1#1)
    ∧ (Cert.Pre_finite_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4))).2.1 = (fun _ => 1#1)
    ∧ (Cert.Pre_finite_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4))).2.2.1 = (fun _ => 1#1)
    ∧ (Cert.Pre_finite_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4))).2.2.2.1 = (fun _ => 1#1)
    ∧ (Cert.Pre_finite_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4))).2.2.2.2 = (fun _ => 1#1)

def Pre_OutLossRefIdeal (m : (ℓ : Loc Cert.OutLossRefIdeal.nD Cert.OutLossRefIdeal.τ Cert.OutLossRefIdeal.sig) → Buf (Elt Ideal) ℓ) : Prop :=
  True

def Pre_OutLossRefIdeal_finite_loss [hPre_finite_loss : Cert.Pre_finite_loss.Facts] (m : (ℓ : Loc Cert.OutLossRefIdeal.nD Cert.OutLossRefIdeal.τ Cert.OutLossRefIdeal.sig) → Buf (Elt Ideal) ℓ) : Prop :=
  ∀ c : Dev Cert.OutLossRefIdeal.nD,
    (Cert.Pre_finite_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4))).1 = (fun _ => 1#1)
    ∧ (Cert.Pre_finite_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4))).2.1 = (fun _ => 1#1)
    ∧ (Cert.Pre_finite_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4))).2.2.1 = (fun _ => 1#1)
    ∧ (Cert.Pre_finite_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4))).2.2.2.1 = (fun _ => 1#1)
    ∧ (Cert.Pre_finite_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4))).2.2.2.2 = (fun _ => 1#1)

def Pre_DyBr (m : (ℓ : Loc Cert.DyBr.nD Cert.DyBr.τ Cert.DyBr.sig) → Buf (Elt Bits) ℓ) : Prop :=
  True

def Pre_DyBrIdeal (m : (ℓ : Loc Cert.DyBrIdeal.nD Cert.DyBrIdeal.τ Cert.DyBrIdeal.sig) → Buf (Elt Ideal) ℓ) : Prop :=
  True

def Pre_DyBrRefIdeal (m : (ℓ : Loc Cert.DyBrRefIdeal.nD Cert.DyBrRefIdeal.τ Cert.DyBrRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Wmem (m : (ℓ : Loc Cert.Wmem.nD Cert.Wmem.τ Cert.Wmem.sig) → Buf (Elt Bits) ℓ) : Prop :=
  True

def Pre_WmemIdeal (m : (ℓ : Loc Cert.WmemIdeal.nD Cert.WmemIdeal.τ Cert.WmemIdeal.sig) → Buf (Elt Ideal) ℓ) : Prop :=
  True

def Pre_WmemRefIdeal (m : (ℓ : Loc Cert.WmemRefIdeal.nD Cert.WmemRefIdeal.τ Cert.WmemRefIdeal.sig) → Buf (Elt Ideal) ℓ) : Prop :=
  True

def Pre_Dmemn (m : (ℓ : Loc Cert.Dmemn.nD Cert.Dmemn.τ Cert.Dmemn.sig) → Buf (Elt Bits) ℓ) : Prop :=
  True

def Pre_DmemnIdeal (m : (ℓ : Loc Cert.DmemnIdeal.nD Cert.DmemnIdeal.τ Cert.DmemnIdeal.sig) → Buf (Elt Ideal) ℓ) : Prop :=
  True

def Pre_DmemnRefIdeal (m : (ℓ : Loc Cert.DmemnRefIdeal.nD Cert.DmemnRefIdeal.τ Cert.DmemnRefIdeal.sig) → Buf (Elt Ideal) ℓ) : Prop :=
  True

def Pre_OptRows [hPre_a_chip : Cert.Pre_a_chip.Facts] (m : (ℓ : Loc Cert.OptRows.nD Cert.OptRows.τ Cert.OptRows.sig) → Buf (Elt Bits) ℓ) : Prop :=
  ∀ c : Dev Cert.OptRows.nD,
    (Cert.Pre_a_chip.fn (F := Bits) (m ((c.tc : Thread Cert.OptRows.nD Cert.OptRows.τ).loc Cert.OptRows.main_arg0)) (m ((c.tc : Thread Cert.OptRows.nD Cert.OptRows.τ).loc Cert.OptRows.main_arg1)) (m ((c.tc : Thread Cert.OptRows.nD Cert.OptRows.τ).loc Cert.OptRows.main_arg2)) (m ((c.tc : Thread Cert.OptRows.nD Cert.OptRows.τ).loc Cert.OptRows.main_arg3)) (m ((c.tc : Thread Cert.OptRows.nD Cert.OptRows.τ).loc Cert.OptRows.main_arg4)) (m ((c.tc : Thread Cert.OptRows.nD Cert.OptRows.τ).loc Cert.OptRows.main_arg5))).1 = (fun _ => 1#1)
    ∧ (Cert.Pre_a_chip.fn (F := Bits) (m ((c.tc : Thread Cert.OptRows.nD Cert.OptRows.τ).loc Cert.OptRows.main_arg0)) (m ((c.tc : Thread Cert.OptRows.nD Cert.OptRows.τ).loc Cert.OptRows.main_arg1)) (m ((c.tc : Thread Cert.OptRows.nD Cert.OptRows.τ).loc Cert.OptRows.main_arg2)) (m ((c.tc : Thread Cert.OptRows.nD Cert.OptRows.τ).loc Cert.OptRows.main_arg3)) (m ((c.tc : Thread Cert.OptRows.nD Cert.OptRows.τ).loc Cert.OptRows.main_arg4)) (m ((c.tc : Thread Cert.OptRows.nD Cert.OptRows.τ).loc Cert.OptRows.main_arg5))).2 = (fun _ => 1#1)

def Pre_OptRowsIdeal [hPre_a_chip : Cert.Pre_a_chip.Facts] (m : (ℓ : Loc Cert.OptRowsIdeal.nD Cert.OptRowsIdeal.τ Cert.OptRowsIdeal.sig) → Buf (Elt Ideal) ℓ) : Prop :=
  ∀ c : Dev Cert.OptRowsIdeal.nD,
    (Cert.Pre_a_chip.fn (F := Ideal) (m ((c.tc : Thread Cert.OptRowsIdeal.nD Cert.OptRowsIdeal.τ).loc Cert.OptRowsIdeal.main_arg0)) (m ((c.tc : Thread Cert.OptRowsIdeal.nD Cert.OptRowsIdeal.τ).loc Cert.OptRowsIdeal.main_arg1)) (m ((c.tc : Thread Cert.OptRowsIdeal.nD Cert.OptRowsIdeal.τ).loc Cert.OptRowsIdeal.main_arg2)) (m ((c.tc : Thread Cert.OptRowsIdeal.nD Cert.OptRowsIdeal.τ).loc Cert.OptRowsIdeal.main_arg3)) (m ((c.tc : Thread Cert.OptRowsIdeal.nD Cert.OptRowsIdeal.τ).loc Cert.OptRowsIdeal.main_arg4)) (m ((c.tc : Thread Cert.OptRowsIdeal.nD Cert.OptRowsIdeal.τ).loc Cert.OptRowsIdeal.main_arg5))).1 = (fun _ => 1#1)
    ∧ (Cert.Pre_a_chip.fn (F := Ideal) (m ((c.tc : Thread Cert.OptRowsIdeal.nD Cert.OptRowsIdeal.τ).loc Cert.OptRowsIdeal.main_arg0)) (m ((c.tc : Thread Cert.OptRowsIdeal.nD Cert.OptRowsIdeal.τ).loc Cert.OptRowsIdeal.main_arg1)) (m ((c.tc : Thread Cert.OptRowsIdeal.nD Cert.OptRowsIdeal.τ).loc Cert.OptRowsIdeal.main_arg2)) (m ((c.tc : Thread Cert.OptRowsIdeal.nD Cert.OptRowsIdeal.τ).loc Cert.OptRowsIdeal.main_arg3)) (m ((c.tc : Thread Cert.OptRowsIdeal.nD Cert.OptRowsIdeal.τ).loc Cert.OptRowsIdeal.main_arg4)) (m ((c.tc : Thread Cert.OptRowsIdeal.nD Cert.OptRowsIdeal.τ).loc Cert.OptRowsIdeal.main_arg5))).2 = (fun _ => 1#1)

def Pre_OptRowsRefIdeal (m : (ℓ : Loc Cert.OptRowsRefIdeal.nD Cert.OptRowsRefIdeal.τ Cert.OptRowsRefIdeal.sig) → Buf (Elt Ideal) ℓ) : Prop :=
  True

def Pre_OptRowsRefIdeal_a_chip [hPre_a_chip : Cert.Pre_a_chip.Facts] (m : (ℓ : Loc Cert.OptRowsRefIdeal.nD Cert.OptRowsRefIdeal.τ Cert.OptRowsRefIdeal.sig) → Buf (Elt Ideal) ℓ) : Prop :=
  ∀ c : Dev Cert.OptRowsRefIdeal.nD,
    (Cert.Pre_a_chip.fn (F := Ideal) (m ((c.tc : Thread Cert.OptRowsRefIdeal.nD Cert.OptRowsRefIdeal.τ).loc Cert.OptRowsRefIdeal.main_arg0)) (m ((c.tc : Thread Cert.OptRowsRefIdeal.nD Cert.OptRowsRefIdeal.τ).loc Cert.OptRowsRefIdeal.main_arg1)) (m ((c.tc : Thread Cert.OptRowsRefIdeal.nD Cert.OptRowsRefIdeal.τ).loc Cert.OptRowsRefIdeal.main_arg2)) (m ((c.tc : Thread Cert.OptRowsRefIdeal.nD Cert.OptRowsRefIdeal.τ).loc Cert.OptRowsRefIdeal.main_arg3)) (m ((c.tc : Thread Cert.OptRowsRefIdeal.nD Cert.OptRowsRefIdeal.τ).loc Cert.OptRowsRefIdeal.main_arg4)) (m ((c.tc : Thread Cert.OptRowsRefIdeal.nD Cert.OptRowsRefIdeal.τ).loc Cert.OptRowsRefIdeal.main_arg5))).1 = (fun _ => 1#1)
    ∧ (Cert.Pre_a_chip.fn (F := Ideal) (m ((c.tc : Thread Cert.OptRowsRefIdeal.nD Cert.OptRowsRefIdeal.τ).loc Cert.OptRowsRefIdeal.main_arg0)) (m ((c.tc : Thread Cert.OptRowsRefIdeal.nD Cert.OptRowsRefIdeal.τ).loc Cert.OptRowsRefIdeal.main_arg1)) (m ((c.tc : Thread Cert.OptRowsRefIdeal.nD Cert.OptRowsRefIdeal.τ).loc Cert.OptRowsRefIdeal.main_arg2)) (m ((c.tc : Thread Cert.OptRowsRefIdeal.nD Cert.OptRowsRefIdeal.τ).loc Cert.OptRowsRefIdeal.main_arg3)) (m ((c.tc : Thread Cert.OptRowsRefIdeal.nD Cert.OptRowsRefIdeal.τ).loc Cert.OptRowsRefIdeal.main_arg4)) (m ((c.tc : Thread Cert.OptRowsRefIdeal.nD Cert.OptRowsRefIdeal.τ).loc Cert.OptRowsRefIdeal.main_arg5))).2 = (fun _ => 1#1)

def Pre_OptColumns [hPre_a_chip_columns : Cert.Pre_a_chip_columns.Facts] (m : (ℓ : Loc Cert.OptColumns.nD Cert.OptColumns.τ Cert.OptColumns.sig) → Buf (Elt Bits) ℓ) : Prop :=
  ∀ c : Dev Cert.OptColumns.nD,
    (Cert.Pre_a_chip_columns.fn (F := Bits) (m ((c.tc : Thread Cert.OptColumns.nD Cert.OptColumns.τ).loc Cert.OptColumns.main_arg0)) (m ((c.tc : Thread Cert.OptColumns.nD Cert.OptColumns.τ).loc Cert.OptColumns.main_arg1)) (m ((c.tc : Thread Cert.OptColumns.nD Cert.OptColumns.τ).loc Cert.OptColumns.main_arg2)) (m ((c.tc : Thread Cert.OptColumns.nD Cert.OptColumns.τ).loc Cert.OptColumns.main_arg3)) (m ((c.tc : Thread Cert.OptColumns.nD Cert.OptColumns.τ).loc Cert.OptColumns.main_arg4)) (m ((c.tc : Thread Cert.OptColumns.nD Cert.OptColumns.τ).loc Cert.OptColumns.main_arg5))).1 = (fun _ => 1#1)
    ∧ (Cert.Pre_a_chip_columns.fn (F := Bits) (m ((c.tc : Thread Cert.OptColumns.nD Cert.OptColumns.τ).loc Cert.OptColumns.main_arg0)) (m ((c.tc : Thread Cert.OptColumns.nD Cert.OptColumns.τ).loc Cert.OptColumns.main_arg1)) (m ((c.tc : Thread Cert.OptColumns.nD Cert.OptColumns.τ).loc Cert.OptColumns.main_arg2)) (m ((c.tc : Thread Cert.OptColumns.nD Cert.OptColumns.τ).loc Cert.OptColumns.main_arg3)) (m ((c.tc : Thread Cert.OptColumns.nD Cert.OptColumns.τ).loc Cert.OptColumns.main_arg4)) (m ((c.tc : Thread Cert.OptColumns.nD Cert.OptColumns.τ).loc Cert.OptColumns.main_arg5))).2 = (fun _ => 1#1)

def Pre_OptColumnsIdeal [hPre_a_chip_columns : Cert.Pre_a_chip_columns.Facts] (m : (ℓ : Loc Cert.OptColumnsIdeal.nD Cert.OptColumnsIdeal.τ Cert.OptColumnsIdeal.sig) → Buf (Elt Ideal) ℓ) : Prop :=
  ∀ c : Dev Cert.OptColumnsIdeal.nD,
    (Cert.Pre_a_chip_columns.fn (F := Ideal) (m ((c.tc : Thread Cert.OptColumnsIdeal.nD Cert.OptColumnsIdeal.τ).loc Cert.OptColumnsIdeal.main_arg0)) (m ((c.tc : Thread Cert.OptColumnsIdeal.nD Cert.OptColumnsIdeal.τ).loc Cert.OptColumnsIdeal.main_arg1)) (m ((c.tc : Thread Cert.OptColumnsIdeal.nD Cert.OptColumnsIdeal.τ).loc Cert.OptColumnsIdeal.main_arg2)) (m ((c.tc : Thread Cert.OptColumnsIdeal.nD Cert.OptColumnsIdeal.τ).loc Cert.OptColumnsIdeal.main_arg3)) (m ((c.tc : Thread Cert.OptColumnsIdeal.nD Cert.OptColumnsIdeal.τ).loc Cert.OptColumnsIdeal.main_arg4)) (m ((c.tc : Thread Cert.OptColumnsIdeal.nD Cert.OptColumnsIdeal.τ).loc Cert.OptColumnsIdeal.main_arg5))).1 = (fun _ => 1#1)
    ∧ (Cert.Pre_a_chip_columns.fn (F := Ideal) (m ((c.tc : Thread Cert.OptColumnsIdeal.nD Cert.OptColumnsIdeal.τ).loc Cert.OptColumnsIdeal.main_arg0)) (m ((c.tc : Thread Cert.OptColumnsIdeal.nD Cert.OptColumnsIdeal.τ).loc Cert.OptColumnsIdeal.main_arg1)) (m ((c.tc : Thread Cert.OptColumnsIdeal.nD Cert.OptColumnsIdeal.τ).loc Cert.OptColumnsIdeal.main_arg2)) (m ((c.tc : Thread Cert.OptColumnsIdeal.nD Cert.OptColumnsIdeal.τ).loc Cert.OptColumnsIdeal.main_arg3)) (m ((c.tc : Thread Cert.OptColumnsIdeal.nD Cert.OptColumnsIdeal.τ).loc Cert.OptColumnsIdeal.main_arg4)) (m ((c.tc : Thread Cert.OptColumnsIdeal.nD Cert.OptColumnsIdeal.τ).loc Cert.OptColumnsIdeal.main_arg5))).2 = (fun _ => 1#1)

def Pre_OptColumnsRefIdeal (m : (ℓ : Loc Cert.OptColumnsRefIdeal.nD Cert.OptColumnsRefIdeal.τ Cert.OptColumnsRefIdeal.sig) → Buf (Elt Ideal) ℓ) : Prop :=
  True

def Pre_OptColumnsRefIdeal_a_chip_columns [hPre_a_chip_columns : Cert.Pre_a_chip_columns.Facts] (m : (ℓ : Loc Cert.OptColumnsRefIdeal.nD Cert.OptColumnsRefIdeal.τ Cert.OptColumnsRefIdeal.sig) → Buf (Elt Ideal) ℓ) : Prop :=
  ∀ c : Dev Cert.OptColumnsRefIdeal.nD,
    (Cert.Pre_a_chip_columns.fn (F := Ideal) (m ((c.tc : Thread Cert.OptColumnsRefIdeal.nD Cert.OptColumnsRefIdeal.τ).loc Cert.OptColumnsRefIdeal.main_arg0)) (m ((c.tc : Thread Cert.OptColumnsRefIdeal.nD Cert.OptColumnsRefIdeal.τ).loc Cert.OptColumnsRefIdeal.main_arg1)) (m ((c.tc : Thread Cert.OptColumnsRefIdeal.nD Cert.OptColumnsRefIdeal.τ).loc Cert.OptColumnsRefIdeal.main_arg2)) (m ((c.tc : Thread Cert.OptColumnsRefIdeal.nD Cert.OptColumnsRefIdeal.τ).loc Cert.OptColumnsRefIdeal.main_arg3)) (m ((c.tc : Thread Cert.OptColumnsRefIdeal.nD Cert.OptColumnsRefIdeal.τ).loc Cert.OptColumnsRefIdeal.main_arg4)) (m ((c.tc : Thread Cert.OptColumnsRefIdeal.nD Cert.OptColumnsRefIdeal.τ).loc Cert.OptColumnsRefIdeal.main_arg5))).1 = (fun _ => 1#1)
    ∧ (Cert.Pre_a_chip_columns.fn (F := Ideal) (m ((c.tc : Thread Cert.OptColumnsRefIdeal.nD Cert.OptColumnsRefIdeal.τ).loc Cert.OptColumnsRefIdeal.main_arg0)) (m ((c.tc : Thread Cert.OptColumnsRefIdeal.nD Cert.OptColumnsRefIdeal.τ).loc Cert.OptColumnsRefIdeal.main_arg1)) (m ((c.tc : Thread Cert.OptColumnsRefIdeal.nD Cert.OptColumnsRefIdeal.τ).loc Cert.OptColumnsRefIdeal.main_arg2)) (m ((c.tc : Thread Cert.OptColumnsRefIdeal.nD Cert.OptColumnsRefIdeal.τ).loc Cert.OptColumnsRefIdeal.main_arg3)) (m ((c.tc : Thread Cert.OptColumnsRefIdeal.nD Cert.OptColumnsRefIdeal.τ).loc Cert.OptColumnsRefIdeal.main_arg4)) (m ((c.tc : Thread Cert.OptColumnsRefIdeal.nD Cert.OptColumnsRefIdeal.τ).loc Cert.OptColumnsRefIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WinLeft [hWinLeft : Cert.WinLeft.Facts] : Prop :=
  ∀ (m : (ℓ : Loc Cert.WinLeft.nD Cert.WinLeft.τ Cert.WinLeft.sig) → Buf (Elt Bits) ℓ) (g : Dev Cert.WinLeft.nD → PrngReg), Pre_WinLeft m →
    θ_run (Cert.WinLeft.defs (F := Bits)) (onTc (τ := Cert.WinLeft.τ) (Cert.WinLeft.main (F := Bits))) ⟨m, fun _ => 0, g⟩ (fun r => (∀ c : Dev Cert.WinLeft.nD,
      r.2.mem ((c.tc : Thread Cert.WinLeft.nD Cert.WinLeft.τ).loc Cert.WinLeft.main_arg0) = m ((c.tc : Thread Cert.WinLeft.nD Cert.WinLeft.τ).loc Cert.WinLeft.main_arg0)
      ∧ r.2.mem ((c.tc : Thread Cert.WinLeft.nD Cert.WinLeft.τ).loc Cert.WinLeft.main_arg1) = m ((c.tc : Thread Cert.WinLeft.nD Cert.WinLeft.τ).loc Cert.WinLeft.main_arg1))
      ∧ r.2.sem = fun _ => 0)

def quiescent_WinLeftIdeal [hWinLeftIdeal : Cert.WinLeftIdeal.Facts] : Prop :=
  ∀ (m : (ℓ : Loc Cert.WinLeftIdeal.nD Cert.WinLeftIdeal.τ Cert.WinLeftIdeal.sig) → Buf (Elt Ideal) ℓ) (g : Dev Cert.WinLeftIdeal.nD → PrngReg), Pre_WinLeftIdeal m →
    θ_run (Cert.WinLeftIdeal.defs (F := Ideal)) (onTc (τ := Cert.WinLeftIdeal.τ) (Cert.WinLeftIdeal.main (F := Ideal))) ⟨m, fun _ => 0, g⟩ (fun r => (∀ c : Dev Cert.WinLeftIdeal.nD,
      r.2.mem ((c.tc : Thread Cert.WinLeftIdeal.nD Cert.WinLeftIdeal.τ).loc Cert.WinLeftIdeal.main_arg0) = m ((c.tc : Thread Cert.WinLeftIdeal.nD Cert.WinLeftIdeal.τ).loc Cert.WinLeftIdeal.main_arg0)
      ∧ r.2.mem ((c.tc : Thread Cert.WinLeftIdeal.nD Cert.WinLeftIdeal.τ).loc Cert.WinLeftIdeal.main_arg1) = m ((c.tc : Thread Cert.WinLeftIdeal.nD Cert.WinLeftIdeal.τ).loc Cert.WinLeftIdeal.main_arg1))
      ∧ r.2.sem = fun _ => 0)

def quiescent_WinLeftRefIdeal [hWinLeftRefIdeal : Cert.WinLeftRefIdeal.Facts] : Prop :=
  ∀ (m : (ℓ : Loc Cert.WinLeftRefIdeal.nD Cert.WinLeftRefIdeal.τ Cert.WinLeftRefIdeal.sig) → Buf (Elt Ideal) ℓ) (g : Dev Cert.WinLeftRefIdeal.nD → PrngReg), Pre_WinLeftRefIdeal m →
    θ_run (Cert.WinLeftRefIdeal.defs (F := Ideal)) (onTc (τ := Cert.WinLeftRefIdeal.τ) (Cert.WinLeftRefIdeal.main (F := Ideal))) ⟨m, fun _ => 0, g⟩ (fun r => (∀ c : Dev Cert.WinLeftRefIdeal.nD,
      r.2.mem ((c.tc : Thread Cert.WinLeftRefIdeal.nD Cert.WinLeftRefIdeal.τ).loc Cert.WinLeftRefIdeal.main_arg0) = m ((c.tc : Thread Cert.WinLeftRefIdeal.nD Cert.WinLeftRefIdeal.τ).loc Cert.WinLeftRefIdeal.main_arg0)
      ∧ r.2.mem ((c.tc : Thread Cert.WinLeftRefIdeal.nD Cert.WinLeftRefIdeal.τ).loc Cert.WinLeftRefIdeal.main_arg1) = m ((c.tc : Thread Cert.WinLeftRefIdeal.nD Cert.WinLeftRefIdeal.τ).loc Cert.WinLeftRefIdeal.main_arg1))
      ∧ r.2.sem = fun _ => 0)

def quiescent_WinRight [hWinRight : Cert.WinRight.Facts] : Prop :=
  ∀ (m : (ℓ : Loc Cert.WinRight.nD Cert.WinRight.τ Cert.WinRight.sig) → Buf (Elt Bits) ℓ) (g : Dev Cert.WinRight.nD → PrngReg), Pre_WinRight m →
    θ_run (Cert.WinRight.defs (F := Bits)) (onTc (τ := Cert.WinRight.τ) (Cert.WinRight.main (F := Bits))) ⟨m, fun _ => 0, g⟩ (fun r => (∀ c : Dev Cert.WinRight.nD,
      r.2.mem ((c.tc : Thread Cert.WinRight.nD Cert.WinRight.τ).loc Cert.WinRight.main_arg0) = m ((c.tc : Thread Cert.WinRight.nD Cert.WinRight.τ).loc Cert.WinRight.main_arg0)
      ∧ r.2.mem ((c.tc : Thread Cert.WinRight.nD Cert.WinRight.τ).loc Cert.WinRight.main_arg1) = m ((c.tc : Thread Cert.WinRight.nD Cert.WinRight.τ).loc Cert.WinRight.main_arg1))
      ∧ r.2.sem = fun _ => 0)

def quiescent_WinRightIdeal [hWinRightIdeal : Cert.WinRightIdeal.Facts] : Prop :=
  ∀ (m : (ℓ : Loc Cert.WinRightIdeal.nD Cert.WinRightIdeal.τ Cert.WinRightIdeal.sig) → Buf (Elt Ideal) ℓ) (g : Dev Cert.WinRightIdeal.nD → PrngReg), Pre_WinRightIdeal m →
    θ_run (Cert.WinRightIdeal.defs (F := Ideal)) (onTc (τ := Cert.WinRightIdeal.τ) (Cert.WinRightIdeal.main (F := Ideal))) ⟨m, fun _ => 0, g⟩ (fun r => (∀ c : Dev Cert.WinRightIdeal.nD,
      r.2.mem ((c.tc : Thread Cert.WinRightIdeal.nD Cert.WinRightIdeal.τ).loc Cert.WinRightIdeal.main_arg0) = m ((c.tc : Thread Cert.WinRightIdeal.nD Cert.WinRightIdeal.τ).loc Cert.WinRightIdeal.main_arg0)
      ∧ r.2.mem ((c.tc : Thread Cert.WinRightIdeal.nD Cert.WinRightIdeal.τ).loc Cert.WinRightIdeal.main_arg1) = m ((c.tc : Thread Cert.WinRightIdeal.nD Cert.WinRightIdeal.τ).loc Cert.WinRightIdeal.main_arg1))
      ∧ r.2.sem = fun _ => 0)

def quiescent_WinRightRefIdeal [hWinRightRefIdeal : Cert.WinRightRefIdeal.Facts] : Prop :=
  ∀ (m : (ℓ : Loc Cert.WinRightRefIdeal.nD Cert.WinRightRefIdeal.τ Cert.WinRightRefIdeal.sig) → Buf (Elt Ideal) ℓ) (g : Dev Cert.WinRightRefIdeal.nD → PrngReg), Pre_WinRightRefIdeal m →
    θ_run (Cert.WinRightRefIdeal.defs (F := Ideal)) (onTc (τ := Cert.WinRightRefIdeal.τ) (Cert.WinRightRefIdeal.main (F := Ideal))) ⟨m, fun _ => 0, g⟩ (fun r => (∀ c : Dev Cert.WinRightRefIdeal.nD,
      r.2.mem ((c.tc : Thread Cert.WinRightRefIdeal.nD Cert.WinRightRefIdeal.τ).loc Cert.WinRightRefIdeal.main_arg0) = m ((c.tc : Thread Cert.WinRightRefIdeal.nD Cert.WinRightRefIdeal.τ).loc Cert.WinRightRefIdeal.main_arg0)
      ∧ r.2.mem ((c.tc : Thread Cert.WinRightRefIdeal.nD Cert.WinRightRefIdeal.τ).loc Cert.WinRightRefIdeal.main_arg1) = m ((c.tc : Thread Cert.WinRightRefIdeal.nD Cert.WinRightRefIdeal.τ).loc Cert.WinRightRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxIdeal_pre_finite_dx [hDxIdeal : Cert.DxIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg), Pre_DxIdeal_finite_dx m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_DxRefIdeal_pre_finite_dx [hDxRefIdeal : Cert.DxRefIdeal.Facts] [hPre_finite_dx : Cert.Pre_finite_dx.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_finite_dx m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Wbr [hWbr : Cert.Wbr.Facts] : Prop :=
  ∀ (m : (ℓ : Loc Cert.Wbr.nD Cert.Wbr.τ Cert.Wbr.sig) → Buf (Elt Bits) ℓ) (g : Dev Cert.Wbr.nD → PrngReg), Pre_Wbr m →
    θ_run (Cert.Wbr.defs (F := Bits)) (onTc (τ := Cert.Wbr.τ) (Cert.Wbr.main (F := Bits))) ⟨m, fun _ => 0, g⟩ (fun r => (∀ c : Dev Cert.Wbr.nD,
      r.2.mem ((c.tc : Thread Cert.Wbr.nD Cert.Wbr.τ).loc Cert.Wbr.main_arg0) = m ((c.tc : Thread Cert.Wbr.nD Cert.Wbr.τ).loc Cert.Wbr.main_arg0)
      ∧ r.2.mem ((c.tc : Thread Cert.Wbr.nD Cert.Wbr.τ).loc Cert.Wbr.main_arg1) = m ((c.tc : Thread Cert.Wbr.nD Cert.Wbr.τ).loc Cert.Wbr.main_arg1))
      ∧ r.2.sem = fun _ => 0)

def quiescent_WbrIdeal [hWbrIdeal : Cert.WbrIdeal.Facts] : Prop :=
  ∀ (m : (ℓ : Loc Cert.WbrIdeal.nD Cert.WbrIdeal.τ Cert.WbrIdeal.sig) → Buf (Elt Ideal) ℓ) (g : Dev Cert.WbrIdeal.nD → PrngReg), Pre_WbrIdeal m →
    θ_run (Cert.WbrIdeal.defs (F := Ideal)) (onTc (τ := Cert.WbrIdeal.τ) (Cert.WbrIdeal.main (F := Ideal))) ⟨m, fun _ => 0, g⟩ (fun r => (∀ c : Dev Cert.WbrIdeal.nD,
      r.2.mem ((c.tc : Thread Cert.WbrIdeal.nD Cert.WbrIdeal.τ).loc Cert.WbrIdeal.main_arg0) = m ((c.tc : Thread Cert.WbrIdeal.nD Cert.WbrIdeal.τ).loc Cert.WbrIdeal.main_arg0)
      ∧ r.2.mem ((c.tc : Thread Cert.WbrIdeal.nD Cert.WbrIdeal.τ).loc Cert.WbrIdeal.main_arg1) = m ((c.tc : Thread Cert.WbrIdeal.nD Cert.WbrIdeal.τ).loc Cert.WbrIdeal.main_arg1))
      ∧ r.2.sem = fun _ => 0)

def quiescent_WbrRefIdeal [hWbrRefIdeal : Cert.WbrRefIdeal.Facts] : Prop :=
  ∀ (m : (ℓ : Loc Cert.WbrRefIdeal.nD Cert.WbrRefIdeal.τ Cert.WbrRefIdeal.sig) → Buf (Elt Ideal) ℓ) (g : Dev Cert.WbrRefIdeal.nD → PrngReg), Pre_WbrRefIdeal m →
    θ_run (Cert.WbrRefIdeal.defs (F := Ideal)) (onTc (τ := Cert.WbrRefIdeal.τ) (Cert.WbrRefIdeal.main (F := Ideal))) ⟨m, fun _ => 0, g⟩ (fun r => (∀ c : Dev Cert.WbrRefIdeal.nD,
      r.2.mem ((c.tc : Thread Cert.WbrRefIdeal.nD Cert.WbrRefIdeal.τ).loc Cert.WbrRefIdeal.main_arg0) = m ((c.tc : Thread Cert.WbrRefIdeal.nD Cert.WbrRefIdeal.τ).loc Cert.WbrRefIdeal.main_arg0)
      ∧ r.2.mem ((c.tc : Thread Cert.WbrRefIdeal.nD Cert.WbrRefIdeal.τ).loc Cert.WbrRefIdeal.main_arg1) = m ((c.tc : Thread Cert.WbrRefIdeal.nD Cert.WbrRefIdeal.τ).loc Cert.WbrRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossIdeal_pre_finite_loss [hOutLossIdeal : Cert.OutLossIdeal.Facts] [hPre_finite_loss : Cert.Pre_finite_loss.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal_finite_loss m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_OutLossRefIdeal_pre_finite_loss [hOutLossRefIdeal : Cert.OutLossRefIdeal.Facts] [hPre_finite_loss : Cert.Pre_finite_loss.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal_finite_loss m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_DyBr [hDyBr : Cert.DyBr.Facts] : Prop :=
  ∀ (m : (ℓ : Loc Cert.DyBr.nD Cert.DyBr.τ Cert.DyBr.sig) → Buf (Elt Bits) ℓ) (g : Dev Cert.DyBr.nD → PrngReg), Pre_DyBr m →
    θ_run (Cert.DyBr.defs (F := Bits)) (onTc (τ := Cert.DyBr.τ) (Cert.DyBr.main (F := Bits))) ⟨m, fun _ => 0, g⟩ (fun r => (∀ c : Dev Cert.DyBr.nD,
      r.2.mem ((c.tc : Thread Cert.DyBr.nD Cert.DyBr.τ).loc Cert.DyBr.main_arg0) = m ((c.tc : Thread Cert.DyBr.nD Cert.DyBr.τ).loc Cert.DyBr.main_arg0)
      ∧ r.2.mem ((c.tc : Thread Cert.DyBr.nD Cert.DyBr.τ).loc Cert.DyBr.main_arg1) = m ((c.tc : Thread Cert.DyBr.nD Cert.DyBr.τ).loc Cert.DyBr.main_arg1)
      ∧ r.2.mem ((c.tc : Thread Cert.DyBr.nD Cert.DyBr.τ).loc Cert.DyBr.main_arg2) = m ((c.tc : Thread Cert.DyBr.nD Cert.DyBr.τ).loc Cert.DyBr.main_arg2)
      ∧ r.2.mem ((c.tc : Thread Cert.DyBr.nD Cert.DyBr.τ).loc Cert.DyBr.main_arg3) = m ((c.tc : Thread Cert.DyBr.nD Cert.DyBr.τ).loc Cert.DyBr.main_arg3)
      ∧ r.2.mem ((c.tc : Thread Cert.DyBr.nD Cert.DyBr.τ).loc Cert.DyBr.main_arg4) = m ((c.tc : Thread Cert.DyBr.nD Cert.DyBr.τ).loc Cert.DyBr.main_arg4)
      ∧ r.2.mem ((c.tc : Thread Cert.DyBr.nD Cert.DyBr.τ).loc Cert.DyBr.main_arg5) = m ((c.tc : Thread Cert.DyBr.nD Cert.DyBr.τ).loc Cert.DyBr.main_arg5))
      ∧ r.2.sem = fun _ => 0)

def quiescent_DyBrIdeal [hDyBrIdeal : Cert.DyBrIdeal.Facts] : Prop :=
  ∀ (m : (ℓ : Loc Cert.DyBrIdeal.nD Cert.DyBrIdeal.τ Cert.DyBrIdeal.sig) → Buf (Elt Ideal) ℓ) (g : Dev Cert.DyBrIdeal.nD → PrngReg), Pre_DyBrIdeal m →
    θ_run (Cert.DyBrIdeal.defs (F := Ideal)) (onTc (τ := Cert.DyBrIdeal.τ) (Cert.DyBrIdeal.main (F := Ideal))) ⟨m, fun _ => 0, g⟩ (fun r => (∀ c : Dev Cert.DyBrIdeal.nD,
      r.2.mem ((c.tc : Thread Cert.DyBrIdeal.nD Cert.DyBrIdeal.τ).loc Cert.DyBrIdeal.main_arg0) = m ((c.tc : Thread Cert.DyBrIdeal.nD Cert.DyBrIdeal.τ).loc Cert.DyBrIdeal.main_arg0)
      ∧ r.2.mem ((c.tc : Thread Cert.DyBrIdeal.nD Cert.DyBrIdeal.τ).loc Cert.DyBrIdeal.main_arg1) = m ((c.tc : Thread Cert.DyBrIdeal.nD Cert.DyBrIdeal.τ).loc Cert.DyBrIdeal.main_arg1)
      ∧ r.2.mem ((c.tc : Thread Cert.DyBrIdeal.nD Cert.DyBrIdeal.τ).loc Cert.DyBrIdeal.main_arg2) = m ((c.tc : Thread Cert.DyBrIdeal.nD Cert.DyBrIdeal.τ).loc Cert.DyBrIdeal.main_arg2)
      ∧ r.2.mem ((c.tc : Thread Cert.DyBrIdeal.nD Cert.DyBrIdeal.τ).loc Cert.DyBrIdeal.main_arg3) = m ((c.tc : Thread Cert.DyBrIdeal.nD Cert.DyBrIdeal.τ).loc Cert.DyBrIdeal.main_arg3)
      ∧ r.2.mem ((c.tc : Thread Cert.DyBrIdeal.nD Cert.DyBrIdeal.τ).loc Cert.DyBrIdeal.main_arg4) = m ((c.tc : Thread Cert.DyBrIdeal.nD Cert.DyBrIdeal.τ).loc Cert.DyBrIdeal.main_arg4)
      ∧ r.2.mem ((c.tc : Thread Cert.DyBrIdeal.nD Cert.DyBrIdeal.τ).loc Cert.DyBrIdeal.main_arg5) = m ((c.tc : Thread Cert.DyBrIdeal.nD Cert.DyBrIdeal.τ).loc Cert.DyBrIdeal.main_arg5))
      ∧ r.2.sem = fun _ => 0)

def quiescent_DyBrRefIdeal [hDyBrRefIdeal : Cert.DyBrRefIdeal.Facts] : Prop :=
  ∀ (m : (ℓ : Loc Cert.DyBrRefIdeal.nD Cert.DyBrRefIdeal.τ Cert.DyBrRefIdeal.sig) → Buf (Elt Ideal) ℓ) (g : Dev Cert.DyBrRefIdeal.nD → PrngReg), Pre_DyBrRefIdeal m →
    θ_run (Cert.DyBrRefIdeal.defs (F := Ideal)) (onTc (τ := Cert.DyBrRefIdeal.τ) (Cert.DyBrRefIdeal.main (F := Ideal))) ⟨m, fun _ => 0, g⟩ (fun r => (∀ c : Dev Cert.DyBrRefIdeal.nD,
      r.2.mem ((c.tc : Thread Cert.DyBrRefIdeal.nD Cert.DyBrRefIdeal.τ).loc Cert.DyBrRefIdeal.main_arg0) = m ((c.tc : Thread Cert.DyBrRefIdeal.nD Cert.DyBrRefIdeal.τ).loc Cert.DyBrRefIdeal.main_arg0)
      ∧ r.2.mem ((c.tc : Thread Cert.DyBrRefIdeal.nD Cert.DyBrRefIdeal.τ).loc Cert.DyBrRefIdeal.main_arg1) = m ((c.tc : Thread Cert.DyBrRefIdeal.nD Cert.DyBrRefIdeal.τ).loc Cert.DyBrRefIdeal.main_arg1)
      ∧ r.2.mem ((c.tc : Thread Cert.DyBrRefIdeal.nD Cert.DyBrRefIdeal.τ).loc Cert.DyBrRefIdeal.main_arg2) = m ((c.tc : Thread Cert.DyBrRefIdeal.nD Cert.DyBrRefIdeal.τ).loc Cert.DyBrRefIdeal.main_arg2)
      ∧ r.2.mem ((c.tc : Thread Cert.DyBrRefIdeal.nD Cert.DyBrRefIdeal.τ).loc Cert.DyBrRefIdeal.main_arg3) = m ((c.tc : Thread Cert.DyBrRefIdeal.nD Cert.DyBrRefIdeal.τ).loc Cert.DyBrRefIdeal.main_arg3)
      ∧ r.2.mem ((c.tc : Thread Cert.DyBrRefIdeal.nD Cert.DyBrRefIdeal.τ).loc Cert.DyBrRefIdeal.main_arg4) = m ((c.tc : Thread Cert.DyBrRefIdeal.nD Cert.DyBrRefIdeal.τ).loc Cert.DyBrRefIdeal.main_arg4)
      ∧ r.2.mem ((c.tc : Thread Cert.DyBrRefIdeal.nD Cert.DyBrRefIdeal.τ).loc Cert.DyBrRefIdeal.main_arg5) = m ((c.tc : Thread Cert.DyBrRefIdeal.nD Cert.DyBrRefIdeal.τ).loc Cert.DyBrRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Wmem [hWmem : Cert.Wmem.Facts] : Prop :=
  ∀ (m : (ℓ : Loc Cert.Wmem.nD Cert.Wmem.τ Cert.Wmem.sig) → Buf (Elt Bits) ℓ) (g : Dev Cert.Wmem.nD → PrngReg), Pre_Wmem m →
    θ_run (Cert.Wmem.defs (F := Bits)) (onTc (τ := Cert.Wmem.τ) (Cert.Wmem.main (F := Bits))) ⟨m, fun _ => 0, g⟩ (fun r => (∀ c : Dev Cert.Wmem.nD,
      r.2.mem ((c.tc : Thread Cert.Wmem.nD Cert.Wmem.τ).loc Cert.Wmem.main_arg0) = m ((c.tc : Thread Cert.Wmem.nD Cert.Wmem.τ).loc Cert.Wmem.main_arg0)
      ∧ r.2.mem ((c.tc : Thread Cert.Wmem.nD Cert.Wmem.τ).loc Cert.Wmem.main_arg1) = m ((c.tc : Thread Cert.Wmem.nD Cert.Wmem.τ).loc Cert.Wmem.main_arg1))
      ∧ r.2.sem = fun _ => 0)

def quiescent_WmemIdeal [hWmemIdeal : Cert.WmemIdeal.Facts] : Prop :=
  ∀ (m : (ℓ : Loc Cert.WmemIdeal.nD Cert.WmemIdeal.τ Cert.WmemIdeal.sig) → Buf (Elt Ideal) ℓ) (g : Dev Cert.WmemIdeal.nD → PrngReg), Pre_WmemIdeal m →
    θ_run (Cert.WmemIdeal.defs (F := Ideal)) (onTc (τ := Cert.WmemIdeal.τ) (Cert.WmemIdeal.main (F := Ideal))) ⟨m, fun _ => 0, g⟩ (fun r => (∀ c : Dev Cert.WmemIdeal.nD,
      r.2.mem ((c.tc : Thread Cert.WmemIdeal.nD Cert.WmemIdeal.τ).loc Cert.WmemIdeal.main_arg0) = m ((c.tc : Thread Cert.WmemIdeal.nD Cert.WmemIdeal.τ).loc Cert.WmemIdeal.main_arg0)
      ∧ r.2.mem ((c.tc : Thread Cert.WmemIdeal.nD Cert.WmemIdeal.τ).loc Cert.WmemIdeal.main_arg1) = m ((c.tc : Thread Cert.WmemIdeal.nD Cert.WmemIdeal.τ).loc Cert.WmemIdeal.main_arg1))
      ∧ r.2.sem = fun _ => 0)

def quiescent_WmemRefIdeal [hWmemRefIdeal : Cert.WmemRefIdeal.Facts] : Prop :=
  ∀ (m : (ℓ : Loc Cert.WmemRefIdeal.nD Cert.WmemRefIdeal.τ Cert.WmemRefIdeal.sig) → Buf (Elt Ideal) ℓ) (g : Dev Cert.WmemRefIdeal.nD → PrngReg), Pre_WmemRefIdeal m →
    θ_run (Cert.WmemRefIdeal.defs (F := Ideal)) (onTc (τ := Cert.WmemRefIdeal.τ) (Cert.WmemRefIdeal.main (F := Ideal))) ⟨m, fun _ => 0, g⟩ (fun r => (∀ c : Dev Cert.WmemRefIdeal.nD,
      r.2.mem ((c.tc : Thread Cert.WmemRefIdeal.nD Cert.WmemRefIdeal.τ).loc Cert.WmemRefIdeal.main_arg0) = m ((c.tc : Thread Cert.WmemRefIdeal.nD Cert.WmemRefIdeal.τ).loc Cert.WmemRefIdeal.main_arg0)
      ∧ r.2.mem ((c.tc : Thread Cert.WmemRefIdeal.nD Cert.WmemRefIdeal.τ).loc Cert.WmemRefIdeal.main_arg1) = m ((c.tc : Thread Cert.WmemRefIdeal.nD Cert.WmemRefIdeal.τ).loc Cert.WmemRefIdeal.main_arg1))
      ∧ r.2.sem = fun _ => 0)

def quiescent_Dmemn [hDmemn : Cert.Dmemn.Facts] : Prop :=
  ∀ (m : (ℓ : Loc Cert.Dmemn.nD Cert.Dmemn.τ Cert.Dmemn.sig) → Buf (Elt Bits) ℓ) (g : Dev Cert.Dmemn.nD → PrngReg), Pre_Dmemn m →
    θ_run (Cert.Dmemn.defs (F := Bits)) (onTc (τ := Cert.Dmemn.τ) (Cert.Dmemn.main (F := Bits))) ⟨m, fun _ => 0, g⟩ (fun r => (∀ c : Dev Cert.Dmemn.nD,
      r.2.mem ((c.tc : Thread Cert.Dmemn.nD Cert.Dmemn.τ).loc Cert.Dmemn.main_arg0) = m ((c.tc : Thread Cert.Dmemn.nD Cert.Dmemn.τ).loc Cert.Dmemn.main_arg0)
      ∧ r.2.mem ((c.tc : Thread Cert.Dmemn.nD Cert.Dmemn.τ).loc Cert.Dmemn.main_arg1) = m ((c.tc : Thread Cert.Dmemn.nD Cert.Dmemn.τ).loc Cert.Dmemn.main_arg1))
      ∧ r.2.sem = fun _ => 0)

def quiescent_DmemnIdeal [hDmemnIdeal : Cert.DmemnIdeal.Facts] : Prop :=
  ∀ (m : (ℓ : Loc Cert.DmemnIdeal.nD Cert.DmemnIdeal.τ Cert.DmemnIdeal.sig) → Buf (Elt Ideal) ℓ) (g : Dev Cert.DmemnIdeal.nD → PrngReg), Pre_DmemnIdeal m →
    θ_run (Cert.DmemnIdeal.defs (F := Ideal)) (onTc (τ := Cert.DmemnIdeal.τ) (Cert.DmemnIdeal.main (F := Ideal))) ⟨m, fun _ => 0, g⟩ (fun r => (∀ c : Dev Cert.DmemnIdeal.nD,
      r.2.mem ((c.tc : Thread Cert.DmemnIdeal.nD Cert.DmemnIdeal.τ).loc Cert.DmemnIdeal.main_arg0) = m ((c.tc : Thread Cert.DmemnIdeal.nD Cert.DmemnIdeal.τ).loc Cert.DmemnIdeal.main_arg0)
      ∧ r.2.mem ((c.tc : Thread Cert.DmemnIdeal.nD Cert.DmemnIdeal.τ).loc Cert.DmemnIdeal.main_arg1) = m ((c.tc : Thread Cert.DmemnIdeal.nD Cert.DmemnIdeal.τ).loc Cert.DmemnIdeal.main_arg1))
      ∧ r.2.sem = fun _ => 0)

def quiescent_DmemnRefIdeal [hDmemnRefIdeal : Cert.DmemnRefIdeal.Facts] : Prop :=
  ∀ (m : (ℓ : Loc Cert.DmemnRefIdeal.nD Cert.DmemnRefIdeal.τ Cert.DmemnRefIdeal.sig) → Buf (Elt Ideal) ℓ) (g : Dev Cert.DmemnRefIdeal.nD → PrngReg), Pre_DmemnRefIdeal m →
    θ_run (Cert.DmemnRefIdeal.defs (F := Ideal)) (onTc (τ := Cert.DmemnRefIdeal.τ) (Cert.DmemnRefIdeal.main (F := Ideal))) ⟨m, fun _ => 0, g⟩ (fun r => (∀ c : Dev Cert.DmemnRefIdeal.nD,
      r.2.mem ((c.tc : Thread Cert.DmemnRefIdeal.nD Cert.DmemnRefIdeal.τ).loc Cert.DmemnRefIdeal.main_arg0) = m ((c.tc : Thread Cert.DmemnRefIdeal.nD Cert.DmemnRefIdeal.τ).loc Cert.DmemnRefIdeal.main_arg0)
      ∧ r.2.mem ((c.tc : Thread Cert.DmemnRefIdeal.nD Cert.DmemnRefIdeal.τ).loc Cert.DmemnRefIdeal.main_arg1) = m ((c.tc : Thread Cert.DmemnRefIdeal.nD Cert.DmemnRefIdeal.τ).loc Cert.DmemnRefIdeal.main_arg1))
      ∧ r.2.sem = fun _ => 0)

def quiescent_OptRows [hOptRows : Cert.OptRows.Facts] [hPre_a_chip : Cert.Pre_a_chip.Facts] : Prop :=
  ∀ (m : (ℓ : Loc Cert.OptRows.nD Cert.OptRows.τ Cert.OptRows.sig) → Buf (Elt Bits) ℓ) (g : Dev Cert.OptRows.nD → PrngReg), Pre_OptRows m →
    θ_run (Cert.OptRows.defs (F := Bits)) (onTc (τ := Cert.OptRows.τ) (Cert.OptRows.main (F := Bits))) ⟨m, fun _ => 0, g⟩ (fun r => (∀ c : Dev Cert.OptRows.nD,
      r.2.mem ((c.tc : Thread Cert.OptRows.nD Cert.OptRows.τ).loc Cert.OptRows.main_arg0) = m ((c.tc : Thread Cert.OptRows.nD Cert.OptRows.τ).loc Cert.OptRows.main_arg0)
      ∧ r.2.mem ((c.tc : Thread Cert.OptRows.nD Cert.OptRows.τ).loc Cert.OptRows.main_arg1) = m ((c.tc : Thread Cert.OptRows.nD Cert.OptRows.τ).loc Cert.OptRows.main_arg1)
      ∧ r.2.mem ((c.tc : Thread Cert.OptRows.nD Cert.OptRows.τ).loc Cert.OptRows.main_arg2) = m ((c.tc : Thread Cert.OptRows.nD Cert.OptRows.τ).loc Cert.OptRows.main_arg2)
      ∧ r.2.mem ((c.tc : Thread Cert.OptRows.nD Cert.OptRows.τ).loc Cert.OptRows.main_arg3) = m ((c.tc : Thread Cert.OptRows.nD Cert.OptRows.τ).loc Cert.OptRows.main_arg3)
      ∧ r.2.mem ((c.tc : Thread Cert.OptRows.nD Cert.OptRows.τ).loc Cert.OptRows.main_arg4) = m ((c.tc : Thread Cert.OptRows.nD Cert.OptRows.τ).loc Cert.OptRows.main_arg4)
      ∧ r.2.mem ((c.tc : Thread Cert.OptRows.nD Cert.OptRows.τ).loc Cert.OptRows.main_arg5) = m ((c.tc : Thread Cert.OptRows.nD Cert.OptRows.τ).loc Cert.OptRows.main_arg5))
      ∧ r.2.sem = fun _ => 0)

def quiescent_OptRowsIdeal [hOptRowsIdeal : Cert.OptRowsIdeal.Facts] [hPre_a_chip : Cert.Pre_a_chip.Facts] : Prop :=
  ∀ (m : (ℓ : Loc Cert.OptRowsIdeal.nD Cert.OptRowsIdeal.τ Cert.OptRowsIdeal.sig) → Buf (Elt Ideal) ℓ) (g : Dev Cert.OptRowsIdeal.nD → PrngReg), Pre_OptRowsIdeal m →
    θ_run (Cert.OptRowsIdeal.defs (F := Ideal)) (onTc (τ := Cert.OptRowsIdeal.τ) (Cert.OptRowsIdeal.main (F := Ideal))) ⟨m, fun _ => 0, g⟩ (fun r => (∀ c : Dev Cert.OptRowsIdeal.nD,
      r.2.mem ((c.tc : Thread Cert.OptRowsIdeal.nD Cert.OptRowsIdeal.τ).loc Cert.OptRowsIdeal.main_arg0) = m ((c.tc : Thread Cert.OptRowsIdeal.nD Cert.OptRowsIdeal.τ).loc Cert.OptRowsIdeal.main_arg0)
      ∧ r.2.mem ((c.tc : Thread Cert.OptRowsIdeal.nD Cert.OptRowsIdeal.τ).loc Cert.OptRowsIdeal.main_arg1) = m ((c.tc : Thread Cert.OptRowsIdeal.nD Cert.OptRowsIdeal.τ).loc Cert.OptRowsIdeal.main_arg1)
      ∧ r.2.mem ((c.tc : Thread Cert.OptRowsIdeal.nD Cert.OptRowsIdeal.τ).loc Cert.OptRowsIdeal.main_arg2) = m ((c.tc : Thread Cert.OptRowsIdeal.nD Cert.OptRowsIdeal.τ).loc Cert.OptRowsIdeal.main_arg2)
      ∧ r.2.mem ((c.tc : Thread Cert.OptRowsIdeal.nD Cert.OptRowsIdeal.τ).loc Cert.OptRowsIdeal.main_arg3) = m ((c.tc : Thread Cert.OptRowsIdeal.nD Cert.OptRowsIdeal.τ).loc Cert.OptRowsIdeal.main_arg3)
      ∧ r.2.mem ((c.tc : Thread Cert.OptRowsIdeal.nD Cert.OptRowsIdeal.τ).loc Cert.OptRowsIdeal.main_arg4) = m ((c.tc : Thread Cert.OptRowsIdeal.nD Cert.OptRowsIdeal.τ).loc Cert.OptRowsIdeal.main_arg4)
      ∧ r.2.mem ((c.tc : Thread Cert.OptRowsIdeal.nD Cert.OptRowsIdeal.τ).loc Cert.OptRowsIdeal.main_arg5) = m ((c.tc : Thread Cert.OptRowsIdeal.nD Cert.OptRowsIdeal.τ).loc Cert.OptRowsIdeal.main_arg5))
      ∧ r.2.sem = fun _ => 0)

def quiescent_OptRowsRefIdeal [hOptRowsRefIdeal : Cert.OptRowsRefIdeal.Facts] : Prop :=
  ∀ (m : (ℓ : Loc Cert.OptRowsRefIdeal.nD Cert.OptRowsRefIdeal.τ Cert.OptRowsRefIdeal.sig) → Buf (Elt Ideal) ℓ) (g : Dev Cert.OptRowsRefIdeal.nD → PrngReg), Pre_OptRowsRefIdeal m →
    θ_run (Cert.OptRowsRefIdeal.defs (F := Ideal)) (onTc (τ := Cert.OptRowsRefIdeal.τ) (Cert.OptRowsRefIdeal.main (F := Ideal))) ⟨m, fun _ => 0, g⟩ (fun r => (∀ c : Dev Cert.OptRowsRefIdeal.nD,
      r.2.mem ((c.tc : Thread Cert.OptRowsRefIdeal.nD Cert.OptRowsRefIdeal.τ).loc Cert.OptRowsRefIdeal.main_arg0) = m ((c.tc : Thread Cert.OptRowsRefIdeal.nD Cert.OptRowsRefIdeal.τ).loc Cert.OptRowsRefIdeal.main_arg0)
      ∧ r.2.mem ((c.tc : Thread Cert.OptRowsRefIdeal.nD Cert.OptRowsRefIdeal.τ).loc Cert.OptRowsRefIdeal.main_arg1) = m ((c.tc : Thread Cert.OptRowsRefIdeal.nD Cert.OptRowsRefIdeal.τ).loc Cert.OptRowsRefIdeal.main_arg1)
      ∧ r.2.mem ((c.tc : Thread Cert.OptRowsRefIdeal.nD Cert.OptRowsRefIdeal.τ).loc Cert.OptRowsRefIdeal.main_arg2) = m ((c.tc : Thread Cert.OptRowsRefIdeal.nD Cert.OptRowsRefIdeal.τ).loc Cert.OptRowsRefIdeal.main_arg2)
      ∧ r.2.mem ((c.tc : Thread Cert.OptRowsRefIdeal.nD Cert.OptRowsRefIdeal.τ).loc Cert.OptRowsRefIdeal.main_arg3) = m ((c.tc : Thread Cert.OptRowsRefIdeal.nD Cert.OptRowsRefIdeal.τ).loc Cert.OptRowsRefIdeal.main_arg3)
      ∧ r.2.mem ((c.tc : Thread Cert.OptRowsRefIdeal.nD Cert.OptRowsRefIdeal.τ).loc Cert.OptRowsRefIdeal.main_arg4) = m ((c.tc : Thread Cert.OptRowsRefIdeal.nD Cert.OptRowsRefIdeal.τ).loc Cert.OptRowsRefIdeal.main_arg4)
      ∧ r.2.mem ((c.tc : Thread Cert.OptRowsRefIdeal.nD Cert.OptRowsRefIdeal.τ).loc Cert.OptRowsRefIdeal.main_arg5) = m ((c.tc : Thread Cert.OptRowsRefIdeal.nD Cert.OptRowsRefIdeal.τ).loc Cert.OptRowsRefIdeal.main_arg5))
      ∧ r.2.sem = fun _ => 0)

def quiescent_OptRowsRefIdeal_pre_a_chip [hOptRowsRefIdeal : Cert.OptRowsRefIdeal.Facts] [hPre_a_chip : Cert.Pre_a_chip.Facts] : Prop :=
  ∀ (m : (ℓ : Loc Cert.OptRowsRefIdeal.nD Cert.OptRowsRefIdeal.τ Cert.OptRowsRefIdeal.sig) → Buf (Elt Ideal) ℓ) (g : Dev Cert.OptRowsRefIdeal.nD → PrngReg), Pre_OptRowsRefIdeal_a_chip m →
    θ_run (Cert.OptRowsRefIdeal.defs (F := Ideal)) (onTc (τ := Cert.OptRowsRefIdeal.τ) (Cert.OptRowsRefIdeal.main (F := Ideal))) ⟨m, fun _ => 0, g⟩ (fun r => (∀ c : Dev Cert.OptRowsRefIdeal.nD,
      r.2.mem ((c.tc : Thread Cert.OptRowsRefIdeal.nD Cert.OptRowsRefIdeal.τ).loc Cert.OptRowsRefIdeal.main_arg0) = m ((c.tc : Thread Cert.OptRowsRefIdeal.nD Cert.OptRowsRefIdeal.τ).loc Cert.OptRowsRefIdeal.main_arg0)
      ∧ r.2.mem ((c.tc : Thread Cert.OptRowsRefIdeal.nD Cert.OptRowsRefIdeal.τ).loc Cert.OptRowsRefIdeal.main_arg1) = m ((c.tc : Thread Cert.OptRowsRefIdeal.nD Cert.OptRowsRefIdeal.τ).loc Cert.OptRowsRefIdeal.main_arg1)
      ∧ r.2.mem ((c.tc : Thread Cert.OptRowsRefIdeal.nD Cert.OptRowsRefIdeal.τ).loc Cert.OptRowsRefIdeal.main_arg2) = m ((c.tc : Thread Cert.OptRowsRefIdeal.nD Cert.OptRowsRefIdeal.τ).loc Cert.OptRowsRefIdeal.main_arg2)
      ∧ r.2.mem ((c.tc : Thread Cert.OptRowsRefIdeal.nD Cert.OptRowsRefIdeal.τ).loc Cert.OptRowsRefIdeal.main_arg3) = m ((c.tc : Thread Cert.OptRowsRefIdeal.nD Cert.OptRowsRefIdeal.τ).loc Cert.OptRowsRefIdeal.main_arg3)
      ∧ r.2.mem ((c.tc : Thread Cert.OptRowsRefIdeal.nD Cert.OptRowsRefIdeal.τ).loc Cert.OptRowsRefIdeal.main_arg4) = m ((c.tc : Thread Cert.OptRowsRefIdeal.nD Cert.OptRowsRefIdeal.τ).loc Cert.OptRowsRefIdeal.main_arg4)
      ∧ r.2.mem ((c.tc : Thread Cert.OptRowsRefIdeal.nD Cert.OptRowsRefIdeal.τ).loc Cert.OptRowsRefIdeal.main_arg5) = m ((c.tc : Thread Cert.OptRowsRefIdeal.nD Cert.OptRowsRefIdeal.τ).loc Cert.OptRowsRefIdeal.main_arg5))
      ∧ r.2.sem = fun _ => 0)

def quiescent_OptColumns [hOptColumns : Cert.OptColumns.Facts] [hPre_a_chip_columns : Cert.Pre_a_chip_columns.Facts] : Prop :=
  ∀ (m : (ℓ : Loc Cert.OptColumns.nD Cert.OptColumns.τ Cert.OptColumns.sig) → Buf (Elt Bits) ℓ) (g : Dev Cert.OptColumns.nD → PrngReg), Pre_OptColumns m →
    θ_run (Cert.OptColumns.defs (F := Bits)) (onTc (τ := Cert.OptColumns.τ) (Cert.OptColumns.main (F := Bits))) ⟨m, fun _ => 0, g⟩ (fun r => (∀ c : Dev Cert.OptColumns.nD,
      r.2.mem ((c.tc : Thread Cert.OptColumns.nD Cert.OptColumns.τ).loc Cert.OptColumns.main_arg0) = m ((c.tc : Thread Cert.OptColumns.nD Cert.OptColumns.τ).loc Cert.OptColumns.main_arg0)
      ∧ r.2.mem ((c.tc : Thread Cert.OptColumns.nD Cert.OptColumns.τ).loc Cert.OptColumns.main_arg1) = m ((c.tc : Thread Cert.OptColumns.nD Cert.OptColumns.τ).loc Cert.OptColumns.main_arg1)
      ∧ r.2.mem ((c.tc : Thread Cert.OptColumns.nD Cert.OptColumns.τ).loc Cert.OptColumns.main_arg2) = m ((c.tc : Thread Cert.OptColumns.nD Cert.OptColumns.τ).loc Cert.OptColumns.main_arg2)
      ∧ r.2.mem ((c.tc : Thread Cert.OptColumns.nD Cert.OptColumns.τ).loc Cert.OptColumns.main_arg3) = m ((c.tc : Thread Cert.OptColumns.nD Cert.OptColumns.τ).loc Cert.OptColumns.main_arg3)
      ∧ r.2.mem ((c.tc : Thread Cert.OptColumns.nD Cert.OptColumns.τ).loc Cert.OptColumns.main_arg4) = m ((c.tc : Thread Cert.OptColumns.nD Cert.OptColumns.τ).loc Cert.OptColumns.main_arg4)
      ∧ r.2.mem ((c.tc : Thread Cert.OptColumns.nD Cert.OptColumns.τ).loc Cert.OptColumns.main_arg5) = m ((c.tc : Thread Cert.OptColumns.nD Cert.OptColumns.τ).loc Cert.OptColumns.main_arg5))
      ∧ r.2.sem = fun _ => 0)

def quiescent_OptColumnsIdeal [hOptColumnsIdeal : Cert.OptColumnsIdeal.Facts] [hPre_a_chip_columns : Cert.Pre_a_chip_columns.Facts] : Prop :=
  ∀ (m : (ℓ : Loc Cert.OptColumnsIdeal.nD Cert.OptColumnsIdeal.τ Cert.OptColumnsIdeal.sig) → Buf (Elt Ideal) ℓ) (g : Dev Cert.OptColumnsIdeal.nD → PrngReg), Pre_OptColumnsIdeal m →
    θ_run (Cert.OptColumnsIdeal.defs (F := Ideal)) (onTc (τ := Cert.OptColumnsIdeal.τ) (Cert.OptColumnsIdeal.main (F := Ideal))) ⟨m, fun _ => 0, g⟩ (fun r => (∀ c : Dev Cert.OptColumnsIdeal.nD,
      r.2.mem ((c.tc : Thread Cert.OptColumnsIdeal.nD Cert.OptColumnsIdeal.τ).loc Cert.OptColumnsIdeal.main_arg0) = m ((c.tc : Thread Cert.OptColumnsIdeal.nD Cert.OptColumnsIdeal.τ).loc Cert.OptColumnsIdeal.main_arg0)
      ∧ r.2.mem ((c.tc : Thread Cert.OptColumnsIdeal.nD Cert.OptColumnsIdeal.τ).loc Cert.OptColumnsIdeal.main_arg1) = m ((c.tc : Thread Cert.OptColumnsIdeal.nD Cert.OptColumnsIdeal.τ).loc Cert.OptColumnsIdeal.main_arg1)
      ∧ r.2.mem ((c.tc : Thread Cert.OptColumnsIdeal.nD Cert.OptColumnsIdeal.τ).loc Cert.OptColumnsIdeal.main_arg2) = m ((c.tc : Thread Cert.OptColumnsIdeal.nD Cert.OptColumnsIdeal.τ).loc Cert.OptColumnsIdeal.main_arg2)
      ∧ r.2.mem ((c.tc : Thread Cert.OptColumnsIdeal.nD Cert.OptColumnsIdeal.τ).loc Cert.OptColumnsIdeal.main_arg3) = m ((c.tc : Thread Cert.OptColumnsIdeal.nD Cert.OptColumnsIdeal.τ).loc Cert.OptColumnsIdeal.main_arg3)
      ∧ r.2.mem ((c.tc : Thread Cert.OptColumnsIdeal.nD Cert.OptColumnsIdeal.τ).loc Cert.OptColumnsIdeal.main_arg4) = m ((c.tc : Thread Cert.OptColumnsIdeal.nD Cert.OptColumnsIdeal.τ).loc Cert.OptColumnsIdeal.main_arg4)
      ∧ r.2.mem ((c.tc : Thread Cert.OptColumnsIdeal.nD Cert.OptColumnsIdeal.τ).loc Cert.OptColumnsIdeal.main_arg5) = m ((c.tc : Thread Cert.OptColumnsIdeal.nD Cert.OptColumnsIdeal.τ).loc Cert.OptColumnsIdeal.main_arg5))
      ∧ r.2.sem = fun _ => 0)

def quiescent_OptColumnsRefIdeal [hOptColumnsRefIdeal : Cert.OptColumnsRefIdeal.Facts] : Prop :=
  ∀ (m : (ℓ : Loc Cert.OptColumnsRefIdeal.nD Cert.OptColumnsRefIdeal.τ Cert.OptColumnsRefIdeal.sig) → Buf (Elt Ideal) ℓ) (g : Dev Cert.OptColumnsRefIdeal.nD → PrngReg), Pre_OptColumnsRefIdeal m →
    θ_run (Cert.OptColumnsRefIdeal.defs (F := Ideal)) (onTc (τ := Cert.OptColumnsRefIdeal.τ) (Cert.OptColumnsRefIdeal.main (F := Ideal))) ⟨m, fun _ => 0, g⟩ (fun r => (∀ c : Dev Cert.OptColumnsRefIdeal.nD,
      r.2.mem ((c.tc : Thread Cert.OptColumnsRefIdeal.nD Cert.OptColumnsRefIdeal.τ).loc Cert.OptColumnsRefIdeal.main_arg0) = m ((c.tc : Thread Cert.OptColumnsRefIdeal.nD Cert.OptColumnsRefIdeal.τ).loc Cert.OptColumnsRefIdeal.main_arg0)
      ∧ r.2.mem ((c.tc : Thread Cert.OptColumnsRefIdeal.nD Cert.OptColumnsRefIdeal.τ).loc Cert.OptColumnsRefIdeal.main_arg1) = m ((c.tc : Thread Cert.OptColumnsRefIdeal.nD Cert.OptColumnsRefIdeal.τ).loc Cert.OptColumnsRefIdeal.main_arg1)
      ∧ r.2.mem ((c.tc : Thread Cert.OptColumnsRefIdeal.nD Cert.OptColumnsRefIdeal.τ).loc Cert.OptColumnsRefIdeal.main_arg2) = m ((c.tc : Thread Cert.OptColumnsRefIdeal.nD Cert.OptColumnsRefIdeal.τ).loc Cert.OptColumnsRefIdeal.main_arg2)
      ∧ r.2.mem ((c.tc : Thread Cert.OptColumnsRefIdeal.nD Cert.OptColumnsRefIdeal.τ).loc Cert.OptColumnsRefIdeal.main_arg3) = m ((c.tc : Thread Cert.OptColumnsRefIdeal.nD Cert.OptColumnsRefIdeal.τ).loc Cert.OptColumnsRefIdeal.main_arg3)
      ∧ r.2.mem ((c.tc : Thread Cert.OptColumnsRefIdeal.nD Cert.OptColumnsRefIdeal.τ).loc Cert.OptColumnsRefIdeal.main_arg4) = m ((c.tc : Thread Cert.OptColumnsRefIdeal.nD Cert.OptColumnsRefIdeal.τ).loc Cert.OptColumnsRefIdeal.main_arg4)
      ∧ r.2.mem ((c.tc : Thread Cert.OptColumnsRefIdeal.nD Cert.OptColumnsRefIdeal.τ).loc Cert.OptColumnsRefIdeal.main_arg5) = m ((c.tc : Thread Cert.OptColumnsRefIdeal.nD Cert.OptColumnsRefIdeal.τ).loc Cert.OptColumnsRefIdeal.main_arg5))
      ∧ r.2.sem = fun _ => 0)

def quiescent_OptColumnsRefIdeal_pre_a_chip_columns [hOptColumnsRefIdeal : Cert.OptColumnsRefIdeal.Facts] [hPre_a_chip_columns : Cert.Pre_a_chip_columns.Facts] : Prop :=
  ∀ (m : (ℓ : Loc Cert.OptColumnsRefIdeal.nD Cert.OptColumnsRefIdeal.τ Cert.OptColumnsRefIdeal.sig) → Buf (Elt Ideal) ℓ) (g : Dev Cert.OptColumnsRefIdeal.nD → PrngReg), Pre_OptColumnsRefIdeal_a_chip_columns m →
    θ_run (Cert.OptColumnsRefIdeal.defs (F := Ideal)) (onTc (τ := Cert.OptColumnsRefIdeal.τ) (Cert.OptColumnsRefIdeal.main (F := Ideal))) ⟨m, fun _ => 0, g⟩ (fun r => (∀ c : Dev Cert.OptColumnsRefIdeal.nD,
      r.2.mem ((c.tc : Thread Cert.OptColumnsRefIdeal.nD Cert.OptColumnsRefIdeal.τ).loc Cert.OptColumnsRefIdeal.main_arg0) = m ((c.tc : Thread Cert.OptColumnsRefIdeal.nD Cert.OptColumnsRefIdeal.τ).loc Cert.OptColumnsRefIdeal.main_arg0)
      ∧ r.2.mem ((c.tc : Thread Cert.OptColumnsRefIdeal.nD Cert.OptColumnsRefIdeal.τ).loc Cert.OptColumnsRefIdeal.main_arg1) = m ((c.tc : Thread Cert.OptColumnsRefIdeal.nD Cert.OptColumnsRefIdeal.τ).loc Cert.OptColumnsRefIdeal.main_arg1)
      ∧ r.2.mem ((c.tc : Thread Cert.OptColumnsRefIdeal.nD Cert.OptColumnsRefIdeal.τ).loc Cert.OptColumnsRefIdeal.main_arg2) = m ((c.tc : Thread Cert.OptColumnsRefIdeal.nD Cert.OptColumnsRefIdeal.τ).loc Cert.OptColumnsRefIdeal.main_arg2)
      ∧ r.2.mem ((c.tc : Thread Cert.OptColumnsRefIdeal.nD Cert.OptColumnsRefIdeal.τ).loc Cert.OptColumnsRefIdeal.main_arg3) = m ((c.tc : Thread Cert.OptColumnsRefIdeal.nD Cert.OptColumnsRefIdeal.τ).loc Cert.OptColumnsRefIdeal.main_arg3)
      ∧ r.2.mem ((c.tc : Thread Cert.OptColumnsRefIdeal.nD Cert.OptColumnsRefIdeal.τ).loc Cert.OptColumnsRefIdeal.main_arg4) = m ((c.tc : Thread Cert.OptColumnsRefIdeal.nD Cert.OptColumnsRefIdeal.τ).loc Cert.OptColumnsRefIdeal.main_arg4)
      ∧ r.2.mem ((c.tc : Thread Cert.OptColumnsRefIdeal.nD Cert.OptColumnsRefIdeal.τ).loc Cert.OptColumnsRefIdeal.main_arg5) = m ((c.tc : Thread Cert.OptColumnsRefIdeal.nD Cert.OptColumnsRefIdeal.τ).loc Cert.OptColumnsRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_WinLeft_WinLeftIdeal : Prop :=
  True

def algebraic_WinLeftIdeal_WinLeftRefIdeal [hWinLeftIdeal : Cert.WinLeftIdeal.Facts] [hWinLeftRefIdeal : Cert.WinLeftRefIdeal.Facts] : Prop :=
  ∀ (m : (ℓ : Loc Cert.WinLeftIdeal.nD Cert.WinLeftIdeal.τ Cert.WinLeftIdeal.sig) → Buf (Elt Ideal) ℓ) (g : Dev Cert.WinLeftIdeal.nD → PrngReg)
    (m' : (ℓ : Loc Cert.WinLeftRefIdeal.nD Cert.WinLeftRefIdeal.τ Cert.WinLeftRefIdeal.sig) → Buf (Elt Ideal) ℓ) (g' : Dev Cert.WinLeftRefIdeal.nD → PrngReg), Pre_WinLeftIdeal m →
    (∀ c : Dev Cert.WinLeftIdeal.nD,
      m' ((c.tc : Thread Cert.WinLeftRefIdeal.nD Cert.WinLeftRefIdeal.τ).loc Cert.WinLeftRefIdeal.main_arg0) = m ((c.tc : Thread Cert.WinLeftIdeal.nD Cert.WinLeftIdeal.τ).loc Cert.WinLeftIdeal.main_arg0)
      ∧ m' ((c.tc : Thread Cert.WinLeftRefIdeal.nD Cert.WinLeftRefIdeal.τ).loc Cert.WinLeftRefIdeal.main_arg1) = m ((c.tc : Thread Cert.WinLeftIdeal.nD Cert.WinLeftIdeal.τ).loc Cert.WinLeftIdeal.main_arg1)) →
    ∃ (v0 : (c : Dev Cert.WinLeftIdeal.nD) → Buf (Elt Ideal) ((c.tc : Thread Cert.WinLeftIdeal.nD Cert.WinLeftIdeal.τ).loc Cert.WinLeftIdeal.main_v0)),
      θ_run (Cert.WinLeftIdeal.defs (F := Ideal)) (onTc (τ := Cert.WinLeftIdeal.τ) (Cert.WinLeftIdeal.main (F := Ideal))) ⟨m, fun _ => 0, g⟩ (fun r => ∀ c : Dev Cert.WinLeftIdeal.nD,
          r.2.mem ((c.tc : Thread Cert.WinLeftIdeal.nD Cert.WinLeftIdeal.τ).loc Cert.WinLeftIdeal.main_v0) = v0 c
          ∧ r.2.mem ((c.tc : Thread Cert.WinLeftIdeal.nD Cert.WinLeftIdeal.τ).loc Cert.WinLeftIdeal.main_arg0) = m ((c.tc : Thread Cert.WinLeftIdeal.nD Cert.WinLeftIdeal.τ).loc Cert.WinLeftIdeal.main_arg0)
          ∧ r.2.mem ((c.tc : Thread Cert.WinLeftIdeal.nD Cert.WinLeftIdeal.τ).loc Cert.WinLeftIdeal.main_arg1) = m ((c.tc : Thread Cert.WinLeftIdeal.nD Cert.WinLeftIdeal.τ).loc Cert.WinLeftIdeal.main_arg1))
      ∧ θ_run (Cert.WinLeftRefIdeal.defs (F := Ideal)) (onTc (τ := Cert.WinLeftRefIdeal.τ) (Cert.WinLeftRefIdeal.main (F := Ideal))) ⟨m', fun _ => 0, g'⟩ (fun r => ∀ c : Dev Cert.WinLeftRefIdeal.nD,
          r.2.mem ((c.tc : Thread Cert.WinLeftRefIdeal.nD Cert.WinLeftRefIdeal.τ).loc Cert.WinLeftRefIdeal.main_v8) = v0 c
          ∧ r.2.mem ((c.tc : Thread Cert.WinLeftRefIdeal.nD Cert.WinLeftRefIdeal.τ).loc Cert.WinLeftRefIdeal.main_arg0) = m' ((c.tc : Thread Cert.WinLeftRefIdeal.nD Cert.WinLeftRefIdeal.τ).loc Cert.WinLeftRefIdeal.main_arg0)
          ∧ r.2.mem ((c.tc : Thread Cert.WinLeftRefIdeal.nD Cert.WinLeftRefIdeal.τ).loc Cert.WinLeftRefIdeal.main_arg1) = m' ((c.tc : Thread Cert.WinLeftRefIdeal.nD Cert.WinLeftRefIdeal.τ).loc Cert.WinLeftRefIdeal.main_arg1))

def preserves_WinRight_WinRightIdeal : Prop :=
  True

def algebraic_WinRightIdeal_WinRightRefIdeal [hWinRightIdeal : Cert.WinRightIdeal.Facts] [hWinRightRefIdeal : Cert.WinRightRefIdeal.Facts] : Prop :=
  ∀ (m : (ℓ : Loc Cert.WinRightIdeal.nD Cert.WinRightIdeal.τ Cert.WinRightIdeal.sig) → Buf (Elt Ideal) ℓ) (g : Dev Cert.WinRightIdeal.nD → PrngReg)
    (m' : (ℓ : Loc Cert.WinRightRefIdeal.nD Cert.WinRightRefIdeal.τ Cert.WinRightRefIdeal.sig) → Buf (Elt Ideal) ℓ) (g' : Dev Cert.WinRightRefIdeal.nD → PrngReg), Pre_WinRightIdeal m →
    (∀ c : Dev Cert.WinRightIdeal.nD,
      m' ((c.tc : Thread Cert.WinRightRefIdeal.nD Cert.WinRightRefIdeal.τ).loc Cert.WinRightRefIdeal.main_arg0) = m ((c.tc : Thread Cert.WinRightIdeal.nD Cert.WinRightIdeal.τ).loc Cert.WinRightIdeal.main_arg0)
      ∧ m' ((c.tc : Thread Cert.WinRightRefIdeal.nD Cert.WinRightRefIdeal.τ).loc Cert.WinRightRefIdeal.main_arg1) = m ((c.tc : Thread Cert.WinRightIdeal.nD Cert.WinRightIdeal.τ).loc Cert.WinRightIdeal.main_arg1)) →
    ∃ (v0 : (c : Dev Cert.WinRightIdeal.nD) → Buf (Elt Ideal) ((c.tc : Thread Cert.WinRightIdeal.nD Cert.WinRightIdeal.τ).loc Cert.WinRightIdeal.main_v0)),
      θ_run (Cert.WinRightIdeal.defs (F := Ideal)) (onTc (τ := Cert.WinRightIdeal.τ) (Cert.WinRightIdeal.main (F := Ideal))) ⟨m, fun _ => 0, g⟩ (fun r => ∀ c : Dev Cert.WinRightIdeal.nD,
          r.2.mem ((c.tc : Thread Cert.WinRightIdeal.nD Cert.WinRightIdeal.τ).loc Cert.WinRightIdeal.main_v0) = v0 c
          ∧ r.2.mem ((c.tc : Thread Cert.WinRightIdeal.nD Cert.WinRightIdeal.τ).loc Cert.WinRightIdeal.main_arg0) = m ((c.tc : Thread Cert.WinRightIdeal.nD Cert.WinRightIdeal.τ).loc Cert.WinRightIdeal.main_arg0)
          ∧ r.2.mem ((c.tc : Thread Cert.WinRightIdeal.nD Cert.WinRightIdeal.τ).loc Cert.WinRightIdeal.main_arg1) = m ((c.tc : Thread Cert.WinRightIdeal.nD Cert.WinRightIdeal.τ).loc Cert.WinRightIdeal.main_arg1))
      ∧ θ_run (Cert.WinRightRefIdeal.defs (F := Ideal)) (onTc (τ := Cert.WinRightRefIdeal.τ) (Cert.WinRightRefIdeal.main (F := Ideal))) ⟨m', fun _ => 0, g'⟩ (fun r => ∀ c : Dev Cert.WinRightRefIdeal.nD,
          r.2.mem ((c.tc : Thread Cert.WinRightRefIdeal.nD Cert.WinRightRefIdeal.τ).loc Cert.WinRightRefIdeal.main_v8) = v0 c
          ∧ r.2.mem ((c.tc : Thread Cert.WinRightRefIdeal.nD Cert.WinRightRefIdeal.τ).loc Cert.WinRightRefIdeal.main_arg0) = m' ((c.tc : Thread Cert.WinRightRefIdeal.nD Cert.WinRightRefIdeal.τ).loc Cert.WinRightRefIdeal.main_arg0)
          ∧ r.2.mem ((c.tc : Thread Cert.WinRightRefIdeal.nD Cert.WinRightRefIdeal.τ).loc Cert.WinRightRefIdeal.main_arg1) = m' ((c.tc : Thread Cert.WinRightRefIdeal.nD Cert.WinRightRefIdeal.τ).loc Cert.WinRightRefIdeal.main_arg1))

def preserves_Dx_DxIdeal : Prop :=
  True

def algebraic_DxIdeal_DxRefIdeal_pre_finite_dx [hDxIdeal : Cert.DxIdeal.Facts] [hDxRefIdeal : Cert.DxRefIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_finite_dx m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v39) = v0 c
          ∧ r.2.mem ((c.tc : Thread Cert.DxRefIdeal.nD Cert.DxRefIdeal.τ).loc Cert.DxRefIdeal.main_v22) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_v46) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_v50) = v4 c
          ∧ r.2.mem ((c.tc : Thread Cert.MergeRefIdeal.nD Cert.MergeRefIdeal.τ).loc Cert.MergeRefIdeal.main_v51) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v8) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Wbr_WbrIdeal : Prop :=
  True

def algebraic_WbrIdeal_WbrRefIdeal [hWbrIdeal : Cert.WbrIdeal.Facts] [hWbrRefIdeal : Cert.WbrRefIdeal.Facts] : Prop :=
  ∀ (m : (ℓ : Loc Cert.WbrIdeal.nD Cert.WbrIdeal.τ Cert.WbrIdeal.sig) → Buf (Elt Ideal) ℓ) (g : Dev Cert.WbrIdeal.nD → PrngReg)
    (m' : (ℓ : Loc Cert.WbrRefIdeal.nD Cert.WbrRefIdeal.τ Cert.WbrRefIdeal.sig) → Buf (Elt Ideal) ℓ) (g' : Dev Cert.WbrRefIdeal.nD → PrngReg), Pre_WbrIdeal m →
    (∀ c : Dev Cert.WbrIdeal.nD,
      m' ((c.tc : Thread Cert.WbrRefIdeal.nD Cert.WbrRefIdeal.τ).loc Cert.WbrRefIdeal.main_arg0) = m ((c.tc : Thread Cert.WbrIdeal.nD Cert.WbrIdeal.τ).loc Cert.WbrIdeal.main_arg0)
      ∧ m' ((c.tc : Thread Cert.WbrRefIdeal.nD Cert.WbrRefIdeal.τ).loc Cert.WbrRefIdeal.main_arg1) = m ((c.tc : Thread Cert.WbrIdeal.nD Cert.WbrIdeal.τ).loc Cert.WbrIdeal.main_arg1)) →
    ∃ (v0 : (c : Dev Cert.WbrIdeal.nD) → Buf (Elt Ideal) ((c.tc : Thread Cert.WbrIdeal.nD Cert.WbrIdeal.τ).loc Cert.WbrIdeal.main_v0)),
      θ_run (Cert.WbrIdeal.defs (F := Ideal)) (onTc (τ := Cert.WbrIdeal.τ) (Cert.WbrIdeal.main (F := Ideal))) ⟨m, fun _ => 0, g⟩ (fun r => ∀ c : Dev Cert.WbrIdeal.nD,
          r.2.mem ((c.tc : Thread Cert.WbrIdeal.nD Cert.WbrIdeal.τ).loc Cert.WbrIdeal.main_v0) = v0 c
          ∧ r.2.mem ((c.tc : Thread Cert.WbrIdeal.nD Cert.WbrIdeal.τ).loc Cert.WbrIdeal.main_arg0) = m ((c.tc : Thread Cert.WbrIdeal.nD Cert.WbrIdeal.τ).loc Cert.WbrIdeal.main_arg0)
          ∧ r.2.mem ((c.tc : Thread Cert.WbrIdeal.nD Cert.WbrIdeal.τ).loc Cert.WbrIdeal.main_arg1) = m ((c.tc : Thread Cert.WbrIdeal.nD Cert.WbrIdeal.τ).loc Cert.WbrIdeal.main_arg1))
      ∧ θ_run (Cert.WbrRefIdeal.defs (F := Ideal)) (onTc (τ := Cert.WbrRefIdeal.τ) (Cert.WbrRefIdeal.main (F := Ideal))) ⟨m', fun _ => 0, g'⟩ (fun r => ∀ c : Dev Cert.WbrRefIdeal.nD,
          r.2.mem ((c.tc : Thread Cert.WbrRefIdeal.nD Cert.WbrRefIdeal.τ).loc Cert.WbrRefIdeal.main_v8) = v0 c
          ∧ r.2.mem ((c.tc : Thread Cert.WbrRefIdeal.nD Cert.WbrRefIdeal.τ).loc Cert.WbrRefIdeal.main_arg0) = m' ((c.tc : Thread Cert.WbrRefIdeal.nD Cert.WbrRefIdeal.τ).loc Cert.WbrRefIdeal.main_arg0)
          ∧ r.2.mem ((c.tc : Thread Cert.WbrRefIdeal.nD Cert.WbrRefIdeal.τ).loc Cert.WbrRefIdeal.main_arg1) = m' ((c.tc : Thread Cert.WbrRefIdeal.nD Cert.WbrRefIdeal.τ).loc Cert.WbrRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v29) = v0 c
          ∧ r.2.mem ((c.tc : Thread Cert.MergeFwdRefIdeal.nD Cert.MergeFwdRefIdeal.τ).loc Cert.MergeFwdRefIdeal.main_v30) = v1 c
          ∧ r.2.mem ((c.tc : Thread Cert.MergeFwdRefIdeal.nD Cert.MergeFwdRefIdeal.τ).loc Cert.MergeFwdRefIdeal.main_v31) = v2 c
          ∧ r.2.mem ((c.tc : Thread Cert.MergeFwdRefIdeal.nD Cert.MergeFwdRefIdeal.τ).loc Cert.MergeFwdRefIdeal.main_v32) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_OutLoss_OutLossIdeal : Prop :=
  True

def algebraic_OutLossIdeal_OutLossRefIdeal_pre_finite_loss [hOutLossIdeal : Cert.OutLossIdeal.Facts] [hOutLossRefIdeal : Cert.OutLossRefIdeal.Facts] [hPre_finite_loss : Cert.Pre_finite_loss.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal_finite_loss m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)) →
    ∃ (v0 : (c : Dev Cert.OutLossIdeal.nD) → Buf (Elt Ideal) ((c.tc : Thread Cert.OutLossIdeal.nD Cert.OutLossIdeal.τ).loc Cert.OutLossIdeal.main_v0_0)) (v1 : (c : Dev Cert.OutLossIdeal.nD) → Buf (Elt Ideal) ((c.tc : Thread Cert.OutLossIdeal.nD Cert.OutLossIdeal.τ).loc Cert.OutLossIdeal.main_v0_1)) (v2 : (c : Dev Cert.OutLossIdeal.nD) → Buf (Elt Ideal) ((c.tc : Thread Cert.OutLossIdeal.nD Cert.OutLossIdeal.τ).loc Cert.OutLossIdeal.main_v0_2)) (v3 : (c : Dev Cert.OutLossIdeal.nD) → Buf (Elt Ideal) ((c.tc : Thread Cert.OutLossIdeal.nD Cert.OutLossIdeal.τ).loc Cert.OutLossIdeal.main_v0_3)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v0_0) = v0 c
          ∧ r.2.mem ((c.tc : Thread Cert.OutLossIdeal.nD Cert.OutLossIdeal.τ).loc Cert.OutLossIdeal.main_v0_1) = v1 c
          ∧ r.2.mem ((c.tc : Thread Cert.OutLossIdeal.nD Cert.OutLossIdeal.τ).loc Cert.OutLossIdeal.main_v0_2) = v2 c
          ∧ r.2.mem ((c.tc : Thread Cert.OutLossIdeal.nD Cert.OutLossIdeal.τ).loc Cert.OutLossIdeal.main_v0_3) = v3 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v53) = v0 c
          ∧ r.2.mem ((c.tc : Thread Cert.OutLossRefIdeal.nD Cert.OutLossRefIdeal.τ).loc Cert.OutLossRefIdeal.main_v33) = v1 c
          ∧ r.2.mem ((c.tc : Thread Cert.OutLossRefIdeal.nD Cert.OutLossRefIdeal.τ).loc Cert.OutLossRefIdeal.main_v54) = v2 c
          ∧ r.2.mem ((c.tc : Thread Cert.OutLossRefIdeal.nD Cert.OutLossRefIdeal.τ).loc Cert.OutLossRefIdeal.main_v36) = v3 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4))

def preserves_DyBr_DyBrIdeal : Prop :=
  True

def algebraic_DyBrIdeal_DyBrRefIdeal [hDyBrIdeal : Cert.DyBrIdeal.Facts] [hDyBrRefIdeal : Cert.DyBrRefIdeal.Facts] : Prop :=
  ∀ (m : (ℓ : Loc Cert.DyBrIdeal.nD Cert.DyBrIdeal.τ Cert.DyBrIdeal.sig) → Buf (Elt Ideal) ℓ) (g : Dev Cert.DyBrIdeal.nD → PrngReg)
    (m' : (ℓ : Loc Cert.DyBrRefIdeal.nD Cert.DyBrRefIdeal.τ Cert.DyBrRefIdeal.sig) → Buf (Elt Ideal) ℓ) (g' : Dev Cert.DyBrRefIdeal.nD → PrngReg), Pre_DyBrIdeal m →
    (∀ c : Dev Cert.DyBrIdeal.nD,
      m' ((c.tc : Thread Cert.DyBrRefIdeal.nD Cert.DyBrRefIdeal.τ).loc Cert.DyBrRefIdeal.main_arg0) = m ((c.tc : Thread Cert.DyBrIdeal.nD Cert.DyBrIdeal.τ).loc Cert.DyBrIdeal.main_arg0)
      ∧ m' ((c.tc : Thread Cert.DyBrRefIdeal.nD Cert.DyBrRefIdeal.τ).loc Cert.DyBrRefIdeal.main_arg1) = m ((c.tc : Thread Cert.DyBrIdeal.nD Cert.DyBrIdeal.τ).loc Cert.DyBrIdeal.main_arg1)
      ∧ m' ((c.tc : Thread Cert.DyBrRefIdeal.nD Cert.DyBrRefIdeal.τ).loc Cert.DyBrRefIdeal.main_arg2) = m ((c.tc : Thread Cert.DyBrIdeal.nD Cert.DyBrIdeal.τ).loc Cert.DyBrIdeal.main_arg2)
      ∧ m' ((c.tc : Thread Cert.DyBrRefIdeal.nD Cert.DyBrRefIdeal.τ).loc Cert.DyBrRefIdeal.main_arg3) = m ((c.tc : Thread Cert.DyBrIdeal.nD Cert.DyBrIdeal.τ).loc Cert.DyBrIdeal.main_arg3)
      ∧ m' ((c.tc : Thread Cert.DyBrRefIdeal.nD Cert.DyBrRefIdeal.τ).loc Cert.DyBrRefIdeal.main_arg4) = m ((c.tc : Thread Cert.DyBrIdeal.nD Cert.DyBrIdeal.τ).loc Cert.DyBrIdeal.main_arg4)
      ∧ m' ((c.tc : Thread Cert.DyBrRefIdeal.nD Cert.DyBrRefIdeal.τ).loc Cert.DyBrRefIdeal.main_arg5) = m ((c.tc : Thread Cert.DyBrIdeal.nD Cert.DyBrIdeal.τ).loc Cert.DyBrIdeal.main_arg5)) →
    ∃ (v0 : (c : Dev Cert.DyBrIdeal.nD) → Buf (Elt Ideal) ((c.tc : Thread Cert.DyBrIdeal.nD Cert.DyBrIdeal.τ).loc Cert.DyBrIdeal.main_v0_0)) (v1 : (c : Dev Cert.DyBrIdeal.nD) → Buf (Elt Ideal) ((c.tc : Thread Cert.DyBrIdeal.nD Cert.DyBrIdeal.τ).loc Cert.DyBrIdeal.main_v0_1)) (v2 : (c : Dev Cert.DyBrIdeal.nD) → Buf (Elt Ideal) ((c.tc : Thread Cert.DyBrIdeal.nD Cert.DyBrIdeal.τ).loc Cert.DyBrIdeal.main_v0_2)),
      θ_run (Cert.DyBrIdeal.defs (F := Ideal)) (onTc (τ := Cert.DyBrIdeal.τ) (Cert.DyBrIdeal.main (F := Ideal))) ⟨m, fun _ => 0, g⟩ (fun r => ∀ c : Dev Cert.DyBrIdeal.nD,
          r.2.mem ((c.tc : Thread Cert.DyBrIdeal.nD Cert.DyBrIdeal.τ).loc Cert.DyBrIdeal.main_v0_0) = v0 c
          ∧ r.2.mem ((c.tc : Thread Cert.DyBrIdeal.nD Cert.DyBrIdeal.τ).loc Cert.DyBrIdeal.main_v0_1) = v1 c
          ∧ r.2.mem ((c.tc : Thread Cert.DyBrIdeal.nD Cert.DyBrIdeal.τ).loc Cert.DyBrIdeal.main_v0_2) = v2 c
          ∧ r.2.mem ((c.tc : Thread Cert.DyBrIdeal.nD Cert.DyBrIdeal.τ).loc Cert.DyBrIdeal.main_arg0) = m ((c.tc : Thread Cert.DyBrIdeal.nD Cert.DyBrIdeal.τ).loc Cert.DyBrIdeal.main_arg0)
          ∧ r.2.mem ((c.tc : Thread Cert.DyBrIdeal.nD Cert.DyBrIdeal.τ).loc Cert.DyBrIdeal.main_arg1) = m ((c.tc : Thread Cert.DyBrIdeal.nD Cert.DyBrIdeal.τ).loc Cert.DyBrIdeal.main_arg1)
          ∧ r.2.mem ((c.tc : Thread Cert.DyBrIdeal.nD Cert.DyBrIdeal.τ).loc Cert.DyBrIdeal.main_arg2) = m ((c.tc : Thread Cert.DyBrIdeal.nD Cert.DyBrIdeal.τ).loc Cert.DyBrIdeal.main_arg2)
          ∧ r.2.mem ((c.tc : Thread Cert.DyBrIdeal.nD Cert.DyBrIdeal.τ).loc Cert.DyBrIdeal.main_arg3) = m ((c.tc : Thread Cert.DyBrIdeal.nD Cert.DyBrIdeal.τ).loc Cert.DyBrIdeal.main_arg3)
          ∧ r.2.mem ((c.tc : Thread Cert.DyBrIdeal.nD Cert.DyBrIdeal.τ).loc Cert.DyBrIdeal.main_arg4) = m ((c.tc : Thread Cert.DyBrIdeal.nD Cert.DyBrIdeal.τ).loc Cert.DyBrIdeal.main_arg4)
          ∧ r.2.mem ((c.tc : Thread Cert.DyBrIdeal.nD Cert.DyBrIdeal.τ).loc Cert.DyBrIdeal.main_arg5) = m ((c.tc : Thread Cert.DyBrIdeal.nD Cert.DyBrIdeal.τ).loc Cert.DyBrIdeal.main_arg5))
      ∧ θ_run (Cert.DyBrRefIdeal.defs (F := Ideal)) (onTc (τ := Cert.DyBrRefIdeal.τ) (Cert.DyBrRefIdeal.main (F := Ideal))) ⟨m', fun _ => 0, g'⟩ (fun r => ∀ c : Dev Cert.DyBrRefIdeal.nD,
          r.2.mem ((c.tc : Thread Cert.DyBrRefIdeal.nD Cert.DyBrRefIdeal.τ).loc Cert.DyBrRefIdeal.main_v15) = v0 c
          ∧ r.2.mem ((c.tc : Thread Cert.DyBrRefIdeal.nD Cert.DyBrRefIdeal.τ).loc Cert.DyBrRefIdeal.main_v14) = v1 c
          ∧ r.2.mem ((c.tc : Thread Cert.DyBrRefIdeal.nD Cert.DyBrRefIdeal.τ).loc Cert.DyBrRefIdeal.main_v13) = v2 c
          ∧ r.2.mem ((c.tc : Thread Cert.DyBrRefIdeal.nD Cert.DyBrRefIdeal.τ).loc Cert.DyBrRefIdeal.main_arg0) = m' ((c.tc : Thread Cert.DyBrRefIdeal.nD Cert.DyBrRefIdeal.τ).loc Cert.DyBrRefIdeal.main_arg0)
          ∧ r.2.mem ((c.tc : Thread Cert.DyBrRefIdeal.nD Cert.DyBrRefIdeal.τ).loc Cert.DyBrRefIdeal.main_arg1) = m' ((c.tc : Thread Cert.DyBrRefIdeal.nD Cert.DyBrRefIdeal.τ).loc Cert.DyBrRefIdeal.main_arg1)
          ∧ r.2.mem ((c.tc : Thread Cert.DyBrRefIdeal.nD Cert.DyBrRefIdeal.τ).loc Cert.DyBrRefIdeal.main_arg2) = m' ((c.tc : Thread Cert.DyBrRefIdeal.nD Cert.DyBrRefIdeal.τ).loc Cert.DyBrRefIdeal.main_arg2)
          ∧ r.2.mem ((c.tc : Thread Cert.DyBrRefIdeal.nD Cert.DyBrRefIdeal.τ).loc Cert.DyBrRefIdeal.main_arg3) = m' ((c.tc : Thread Cert.DyBrRefIdeal.nD Cert.DyBrRefIdeal.τ).loc Cert.DyBrRefIdeal.main_arg3)
          ∧ r.2.mem ((c.tc : Thread Cert.DyBrRefIdeal.nD Cert.DyBrRefIdeal.τ).loc Cert.DyBrRefIdeal.main_arg4) = m' ((c.tc : Thread Cert.DyBrRefIdeal.nD Cert.DyBrRefIdeal.τ).loc Cert.DyBrRefIdeal.main_arg4)
          ∧ r.2.mem ((c.tc : Thread Cert.DyBrRefIdeal.nD Cert.DyBrRefIdeal.τ).loc Cert.DyBrRefIdeal.main_arg5) = m' ((c.tc : Thread Cert.DyBrRefIdeal.nD Cert.DyBrRefIdeal.τ).loc Cert.DyBrRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Wmem_WmemIdeal : Prop :=
  True

def algebraic_WmemIdeal_WmemRefIdeal [hWmemIdeal : Cert.WmemIdeal.Facts] [hWmemRefIdeal : Cert.WmemRefIdeal.Facts] : Prop :=
  ∀ (m : (ℓ : Loc Cert.WmemIdeal.nD Cert.WmemIdeal.τ Cert.WmemIdeal.sig) → Buf (Elt Ideal) ℓ) (g : Dev Cert.WmemIdeal.nD → PrngReg)
    (m' : (ℓ : Loc Cert.WmemRefIdeal.nD Cert.WmemRefIdeal.τ Cert.WmemRefIdeal.sig) → Buf (Elt Ideal) ℓ) (g' : Dev Cert.WmemRefIdeal.nD → PrngReg), Pre_WmemIdeal m →
    (∀ c : Dev Cert.WmemIdeal.nD,
      m' ((c.tc : Thread Cert.WmemRefIdeal.nD Cert.WmemRefIdeal.τ).loc Cert.WmemRefIdeal.main_arg0) = m ((c.tc : Thread Cert.WmemIdeal.nD Cert.WmemIdeal.τ).loc Cert.WmemIdeal.main_arg0)
      ∧ m' ((c.tc : Thread Cert.WmemRefIdeal.nD Cert.WmemRefIdeal.τ).loc Cert.WmemRefIdeal.main_arg1) = m ((c.tc : Thread Cert.WmemIdeal.nD Cert.WmemIdeal.τ).loc Cert.WmemIdeal.main_arg1)) →
    ∃ (v0 : (c : Dev Cert.WmemIdeal.nD) → Buf (Elt Ideal) ((c.tc : Thread Cert.WmemIdeal.nD Cert.WmemIdeal.τ).loc Cert.WmemIdeal.main_v0)),
      θ_run (Cert.WmemIdeal.defs (F := Ideal)) (onTc (τ := Cert.WmemIdeal.τ) (Cert.WmemIdeal.main (F := Ideal))) ⟨m, fun _ => 0, g⟩ (fun r => ∀ c : Dev Cert.WmemIdeal.nD,
          r.2.mem ((c.tc : Thread Cert.WmemIdeal.nD Cert.WmemIdeal.τ).loc Cert.WmemIdeal.main_v0) = v0 c
          ∧ r.2.mem ((c.tc : Thread Cert.WmemIdeal.nD Cert.WmemIdeal.τ).loc Cert.WmemIdeal.main_arg0) = m ((c.tc : Thread Cert.WmemIdeal.nD Cert.WmemIdeal.τ).loc Cert.WmemIdeal.main_arg0)
          ∧ r.2.mem ((c.tc : Thread Cert.WmemIdeal.nD Cert.WmemIdeal.τ).loc Cert.WmemIdeal.main_arg1) = m ((c.tc : Thread Cert.WmemIdeal.nD Cert.WmemIdeal.τ).loc Cert.WmemIdeal.main_arg1))
      ∧ θ_run (Cert.WmemRefIdeal.defs (F := Ideal)) (onTc (τ := Cert.WmemRefIdeal.τ) (Cert.WmemRefIdeal.main (F := Ideal))) ⟨m', fun _ => 0, g'⟩ (fun r => ∀ c : Dev Cert.WmemRefIdeal.nD,
          r.2.mem ((c.tc : Thread Cert.WmemRefIdeal.nD Cert.WmemRefIdeal.τ).loc Cert.WmemRefIdeal.main_v8) = v0 c
          ∧ r.2.mem ((c.tc : Thread Cert.WmemRefIdeal.nD Cert.WmemRefIdeal.τ).loc Cert.WmemRefIdeal.main_arg0) = m' ((c.tc : Thread Cert.WmemRefIdeal.nD Cert.WmemRefIdeal.τ).loc Cert.WmemRefIdeal.main_arg0)
          ∧ r.2.mem ((c.tc : Thread Cert.WmemRefIdeal.nD Cert.WmemRefIdeal.τ).loc Cert.WmemRefIdeal.main_arg1) = m' ((c.tc : Thread Cert.WmemRefIdeal.nD Cert.WmemRefIdeal.τ).loc Cert.WmemRefIdeal.main_arg1))

def preserves_Dmemn_DmemnIdeal : Prop :=
  True

def algebraic_DmemnIdeal_DmemnRefIdeal [hDmemnIdeal : Cert.DmemnIdeal.Facts] [hDmemnRefIdeal : Cert.DmemnRefIdeal.Facts] : Prop :=
  ∀ (m : (ℓ : Loc Cert.DmemnIdeal.nD Cert.DmemnIdeal.τ Cert.DmemnIdeal.sig) → Buf (Elt Ideal) ℓ) (g : Dev Cert.DmemnIdeal.nD → PrngReg)
    (m' : (ℓ : Loc Cert.DmemnRefIdeal.nD Cert.DmemnRefIdeal.τ Cert.DmemnRefIdeal.sig) → Buf (Elt Ideal) ℓ) (g' : Dev Cert.DmemnRefIdeal.nD → PrngReg), Pre_DmemnIdeal m →
    (∀ c : Dev Cert.DmemnIdeal.nD,
      m' ((c.tc : Thread Cert.DmemnRefIdeal.nD Cert.DmemnRefIdeal.τ).loc Cert.DmemnRefIdeal.main_arg0) = m ((c.tc : Thread Cert.DmemnIdeal.nD Cert.DmemnIdeal.τ).loc Cert.DmemnIdeal.main_arg0)
      ∧ m' ((c.tc : Thread Cert.DmemnRefIdeal.nD Cert.DmemnRefIdeal.τ).loc Cert.DmemnRefIdeal.main_arg1) = m ((c.tc : Thread Cert.DmemnIdeal.nD Cert.DmemnIdeal.τ).loc Cert.DmemnIdeal.main_arg1)) →
    ∃ (v0 : (c : Dev Cert.DmemnIdeal.nD) → Buf (Elt Ideal) ((c.tc : Thread Cert.DmemnIdeal.nD Cert.DmemnIdeal.τ).loc Cert.DmemnIdeal.main_v0)),
      θ_run (Cert.DmemnIdeal.defs (F := Ideal)) (onTc (τ := Cert.DmemnIdeal.τ) (Cert.DmemnIdeal.main (F := Ideal))) ⟨m, fun _ => 0, g⟩ (fun r => ∀ c : Dev Cert.DmemnIdeal.nD,
          r.2.mem ((c.tc : Thread Cert.DmemnIdeal.nD Cert.DmemnIdeal.τ).loc Cert.DmemnIdeal.main_v0) = v0 c
          ∧ r.2.mem ((c.tc : Thread Cert.DmemnIdeal.nD Cert.DmemnIdeal.τ).loc Cert.DmemnIdeal.main_arg0) = m ((c.tc : Thread Cert.DmemnIdeal.nD Cert.DmemnIdeal.τ).loc Cert.DmemnIdeal.main_arg0)
          ∧ r.2.mem ((c.tc : Thread Cert.DmemnIdeal.nD Cert.DmemnIdeal.τ).loc Cert.DmemnIdeal.main_arg1) = m ((c.tc : Thread Cert.DmemnIdeal.nD Cert.DmemnIdeal.τ).loc Cert.DmemnIdeal.main_arg1))
      ∧ θ_run (Cert.DmemnRefIdeal.defs (F := Ideal)) (onTc (τ := Cert.DmemnRefIdeal.τ) (Cert.DmemnRefIdeal.main (F := Ideal))) ⟨m', fun _ => 0, g'⟩ (fun r => ∀ c : Dev Cert.DmemnRefIdeal.nD,
          r.2.mem ((c.tc : Thread Cert.DmemnRefIdeal.nD Cert.DmemnRefIdeal.τ).loc Cert.DmemnRefIdeal.main_v4) = v0 c
          ∧ r.2.mem ((c.tc : Thread Cert.DmemnRefIdeal.nD Cert.DmemnRefIdeal.τ).loc Cert.DmemnRefIdeal.main_arg0) = m' ((c.tc : Thread Cert.DmemnRefIdeal.nD Cert.DmemnRefIdeal.τ).loc Cert.DmemnRefIdeal.main_arg0)
          ∧ r.2.mem ((c.tc : Thread Cert.DmemnRefIdeal.nD Cert.DmemnRefIdeal.τ).loc Cert.DmemnRefIdeal.main_arg1) = m' ((c.tc : Thread Cert.DmemnRefIdeal.nD Cert.DmemnRefIdeal.τ).loc Cert.DmemnRefIdeal.main_arg1))

def preserves_OptRows_OptRowsIdeal : Prop :=
  True

def algebraic_OptRowsIdeal_OptRowsRefIdeal [hOptRowsIdeal : Cert.OptRowsIdeal.Facts] [hOptRowsRefIdeal : Cert.OptRowsRefIdeal.Facts] [hPre_a_chip : Cert.Pre_a_chip.Facts] : Prop :=
  ∀ (m : (ℓ : Loc Cert.OptRowsIdeal.nD Cert.OptRowsIdeal.τ Cert.OptRowsIdeal.sig) → Buf (Elt Ideal) ℓ) (g : Dev Cert.OptRowsIdeal.nD → PrngReg)
    (m' : (ℓ : Loc Cert.OptRowsRefIdeal.nD Cert.OptRowsRefIdeal.τ Cert.OptRowsRefIdeal.sig) → Buf (Elt Ideal) ℓ) (g' : Dev Cert.OptRowsRefIdeal.nD → PrngReg), Pre_OptRowsIdeal m →
    (∀ c : Dev Cert.OptRowsIdeal.nD,
      m' ((c.tc : Thread Cert.OptRowsRefIdeal.nD Cert.OptRowsRefIdeal.τ).loc Cert.OptRowsRefIdeal.main_arg0) = m ((c.tc : Thread Cert.OptRowsIdeal.nD Cert.OptRowsIdeal.τ).loc Cert.OptRowsIdeal.main_arg0)
      ∧ m' ((c.tc : Thread Cert.OptRowsRefIdeal.nD Cert.OptRowsRefIdeal.τ).loc Cert.OptRowsRefIdeal.main_arg1) = m ((c.tc : Thread Cert.OptRowsIdeal.nD Cert.OptRowsIdeal.τ).loc Cert.OptRowsIdeal.main_arg1)
      ∧ m' ((c.tc : Thread Cert.OptRowsRefIdeal.nD Cert.OptRowsRefIdeal.τ).loc Cert.OptRowsRefIdeal.main_arg2) = m ((c.tc : Thread Cert.OptRowsIdeal.nD Cert.OptRowsIdeal.τ).loc Cert.OptRowsIdeal.main_arg2)
      ∧ m' ((c.tc : Thread Cert.OptRowsRefIdeal.nD Cert.OptRowsRefIdeal.τ).loc Cert.OptRowsRefIdeal.main_arg3) = m ((c.tc : Thread Cert.OptRowsIdeal.nD Cert.OptRowsIdeal.τ).loc Cert.OptRowsIdeal.main_arg3)
      ∧ m' ((c.tc : Thread Cert.OptRowsRefIdeal.nD Cert.OptRowsRefIdeal.τ).loc Cert.OptRowsRefIdeal.main_arg4) = m ((c.tc : Thread Cert.OptRowsIdeal.nD Cert.OptRowsIdeal.τ).loc Cert.OptRowsIdeal.main_arg4)
      ∧ m' ((c.tc : Thread Cert.OptRowsRefIdeal.nD Cert.OptRowsRefIdeal.τ).loc Cert.OptRowsRefIdeal.main_arg5) = m ((c.tc : Thread Cert.OptRowsIdeal.nD Cert.OptRowsIdeal.τ).loc Cert.OptRowsIdeal.main_arg5)) →
    ∃ (v0 : (c : Dev Cert.OptRowsIdeal.nD) → Buf (Elt Ideal) ((c.tc : Thread Cert.OptRowsIdeal.nD Cert.OptRowsIdeal.τ).loc Cert.OptRowsIdeal.main_v0_0)) (v1 : (c : Dev Cert.OptRowsIdeal.nD) → Buf (Elt Ideal) ((c.tc : Thread Cert.OptRowsIdeal.nD Cert.OptRowsIdeal.τ).loc Cert.OptRowsIdeal.main_v0_1)) (v2 : (c : Dev Cert.OptRowsIdeal.nD) → Buf (Elt Ideal) ((c.tc : Thread Cert.OptRowsIdeal.nD Cert.OptRowsIdeal.τ).loc Cert.OptRowsIdeal.main_v0_2)) (v3 : (c : Dev Cert.OptRowsIdeal.nD) → Buf (Elt Ideal) ((c.tc : Thread Cert.OptRowsIdeal.nD Cert.OptRowsIdeal.τ).loc Cert.OptRowsIdeal.main_v0_3)),
      θ_run (Cert.OptRowsIdeal.defs (F := Ideal)) (onTc (τ := Cert.OptRowsIdeal.τ) (Cert.OptRowsIdeal.main (F := Ideal))) ⟨m, fun _ => 0, g⟩ (fun r => ∀ c : Dev Cert.OptRowsIdeal.nD,
          r.2.mem ((c.tc : Thread Cert.OptRowsIdeal.nD Cert.OptRowsIdeal.τ).loc Cert.OptRowsIdeal.main_v0_0) = v0 c
          ∧ r.2.mem ((c.tc : Thread Cert.OptRowsIdeal.nD Cert.OptRowsIdeal.τ).loc Cert.OptRowsIdeal.main_v0_1) = v1 c
          ∧ r.2.mem ((c.tc : Thread Cert.OptRowsIdeal.nD Cert.OptRowsIdeal.τ).loc Cert.OptRowsIdeal.main_v0_2) = v2 c
          ∧ r.2.mem ((c.tc : Thread Cert.OptRowsIdeal.nD Cert.OptRowsIdeal.τ).loc Cert.OptRowsIdeal.main_v0_3) = v3 c
          ∧ r.2.mem ((c.tc : Thread Cert.OptRowsIdeal.nD Cert.OptRowsIdeal.τ).loc Cert.OptRowsIdeal.main_arg0) = m ((c.tc : Thread Cert.OptRowsIdeal.nD Cert.OptRowsIdeal.τ).loc Cert.OptRowsIdeal.main_arg0)
          ∧ r.2.mem ((c.tc : Thread Cert.OptRowsIdeal.nD Cert.OptRowsIdeal.τ).loc Cert.OptRowsIdeal.main_arg1) = m ((c.tc : Thread Cert.OptRowsIdeal.nD Cert.OptRowsIdeal.τ).loc Cert.OptRowsIdeal.main_arg1)
          ∧ r.2.mem ((c.tc : Thread Cert.OptRowsIdeal.nD Cert.OptRowsIdeal.τ).loc Cert.OptRowsIdeal.main_arg2) = m ((c.tc : Thread Cert.OptRowsIdeal.nD Cert.OptRowsIdeal.τ).loc Cert.OptRowsIdeal.main_arg2)
          ∧ r.2.mem ((c.tc : Thread Cert.OptRowsIdeal.nD Cert.OptRowsIdeal.τ).loc Cert.OptRowsIdeal.main_arg3) = m ((c.tc : Thread Cert.OptRowsIdeal.nD Cert.OptRowsIdeal.τ).loc Cert.OptRowsIdeal.main_arg3)
          ∧ r.2.mem ((c.tc : Thread Cert.OptRowsIdeal.nD Cert.OptRowsIdeal.τ).loc Cert.OptRowsIdeal.main_arg4) = m ((c.tc : Thread Cert.OptRowsIdeal.nD Cert.OptRowsIdeal.τ).loc Cert.OptRowsIdeal.main_arg4)
          ∧ r.2.mem ((c.tc : Thread Cert.OptRowsIdeal.nD Cert.OptRowsIdeal.τ).loc Cert.OptRowsIdeal.main_arg5) = m ((c.tc : Thread Cert.OptRowsIdeal.nD Cert.OptRowsIdeal.τ).loc Cert.OptRowsIdeal.main_arg5))
      ∧ θ_run (Cert.OptRowsRefIdeal.defs (F := Ideal)) (onTc (τ := Cert.OptRowsRefIdeal.τ) (Cert.OptRowsRefIdeal.main (F := Ideal))) ⟨m', fun _ => 0, g'⟩ (fun r => ∀ c : Dev Cert.OptRowsRefIdeal.nD,
          r.2.mem ((c.tc : Thread Cert.OptRowsRefIdeal.nD Cert.OptRowsRefIdeal.τ).loc Cert.OptRowsRefIdeal.main_v9) = v0 c
          ∧ r.2.mem ((c.tc : Thread Cert.OptRowsRefIdeal.nD Cert.OptRowsRefIdeal.τ).loc Cert.OptRowsRefIdeal.main_v33) = v1 c
          ∧ r.2.mem ((c.tc : Thread Cert.OptRowsRefIdeal.nD Cert.OptRowsRefIdeal.τ).loc Cert.OptRowsRefIdeal.main_v14) = v2 c
          ∧ r.2.mem ((c.tc : Thread Cert.OptRowsRefIdeal.nD Cert.OptRowsRefIdeal.τ).loc Cert.OptRowsRefIdeal.main_v20) = v3 c
          ∧ r.2.mem ((c.tc : Thread Cert.OptRowsRefIdeal.nD Cert.OptRowsRefIdeal.τ).loc Cert.OptRowsRefIdeal.main_arg0) = m' ((c.tc : Thread Cert.OptRowsRefIdeal.nD Cert.OptRowsRefIdeal.τ).loc Cert.OptRowsRefIdeal.main_arg0)
          ∧ r.2.mem ((c.tc : Thread Cert.OptRowsRefIdeal.nD Cert.OptRowsRefIdeal.τ).loc Cert.OptRowsRefIdeal.main_arg1) = m' ((c.tc : Thread Cert.OptRowsRefIdeal.nD Cert.OptRowsRefIdeal.τ).loc Cert.OptRowsRefIdeal.main_arg1)
          ∧ r.2.mem ((c.tc : Thread Cert.OptRowsRefIdeal.nD Cert.OptRowsRefIdeal.τ).loc Cert.OptRowsRefIdeal.main_arg2) = m' ((c.tc : Thread Cert.OptRowsRefIdeal.nD Cert.OptRowsRefIdeal.τ).loc Cert.OptRowsRefIdeal.main_arg2)
          ∧ r.2.mem ((c.tc : Thread Cert.OptRowsRefIdeal.nD Cert.OptRowsRefIdeal.τ).loc Cert.OptRowsRefIdeal.main_arg3) = m' ((c.tc : Thread Cert.OptRowsRefIdeal.nD Cert.OptRowsRefIdeal.τ).loc Cert.OptRowsRefIdeal.main_arg3)
          ∧ r.2.mem ((c.tc : Thread Cert.OptRowsRefIdeal.nD Cert.OptRowsRefIdeal.τ).loc Cert.OptRowsRefIdeal.main_arg4) = m' ((c.tc : Thread Cert.OptRowsRefIdeal.nD Cert.OptRowsRefIdeal.τ).loc Cert.OptRowsRefIdeal.main_arg4)
          ∧ r.2.mem ((c.tc : Thread Cert.OptRowsRefIdeal.nD Cert.OptRowsRefIdeal.τ).loc Cert.OptRowsRefIdeal.main_arg5) = m' ((c.tc : Thread Cert.OptRowsRefIdeal.nD Cert.OptRowsRefIdeal.τ).loc Cert.OptRowsRefIdeal.main_arg5))

def preserves_OptColumns_OptColumnsIdeal : Prop :=
  True

def algebraic_OptColumnsIdeal_OptColumnsRefIdeal [hOptColumnsIdeal : Cert.OptColumnsIdeal.Facts] [hOptColumnsRefIdeal : Cert.OptColumnsRefIdeal.Facts] [hPre_a_chip_columns : Cert.Pre_a_chip_columns.Facts] : Prop :=
  ∀ (m : (ℓ : Loc Cert.OptColumnsIdeal.nD Cert.OptColumnsIdeal.τ Cert.OptColumnsIdeal.sig) → Buf (Elt Ideal) ℓ) (g : Dev Cert.OptColumnsIdeal.nD → PrngReg)
    (m' : (ℓ : Loc Cert.OptColumnsRefIdeal.nD Cert.OptColumnsRefIdeal.τ Cert.OptColumnsRefIdeal.sig) → Buf (Elt Ideal) ℓ) (g' : Dev Cert.OptColumnsRefIdeal.nD → PrngReg), Pre_OptColumnsIdeal m →
    (∀ c : Dev Cert.OptColumnsIdeal.nD,
      m' ((c.tc : Thread Cert.OptColumnsRefIdeal.nD Cert.OptColumnsRefIdeal.τ).loc Cert.OptColumnsRefIdeal.main_arg0) = m ((c.tc : Thread Cert.OptColumnsIdeal.nD Cert.OptColumnsIdeal.τ).loc Cert.OptColumnsIdeal.main_arg0)
      ∧ m' ((c.tc : Thread Cert.OptColumnsRefIdeal.nD Cert.OptColumnsRefIdeal.τ).loc Cert.OptColumnsRefIdeal.main_arg1) = m ((c.tc : Thread Cert.OptColumnsIdeal.nD Cert.OptColumnsIdeal.τ).loc Cert.OptColumnsIdeal.main_arg1)
      ∧ m' ((c.tc : Thread Cert.OptColumnsRefIdeal.nD Cert.OptColumnsRefIdeal.τ).loc Cert.OptColumnsRefIdeal.main_arg2) = m ((c.tc : Thread Cert.OptColumnsIdeal.nD Cert.OptColumnsIdeal.τ).loc Cert.OptColumnsIdeal.main_arg2)
      ∧ m' ((c.tc : Thread Cert.OptColumnsRefIdeal.nD Cert.OptColumnsRefIdeal.τ).loc Cert.OptColumnsRefIdeal.main_arg3) = m ((c.tc : Thread Cert.OptColumnsIdeal.nD Cert.OptColumnsIdeal.τ).loc Cert.OptColumnsIdeal.main_arg3)
      ∧ m' ((c.tc : Thread Cert.OptColumnsRefIdeal.nD Cert.OptColumnsRefIdeal.τ).loc Cert.OptColumnsRefIdeal.main_arg4) = m ((c.tc : Thread Cert.OptColumnsIdeal.nD Cert.OptColumnsIdeal.τ).loc Cert.OptColumnsIdeal.main_arg4)
      ∧ m' ((c.tc : Thread Cert.OptColumnsRefIdeal.nD Cert.OptColumnsRefIdeal.τ).loc Cert.OptColumnsRefIdeal.main_arg5) = m ((c.tc : Thread Cert.OptColumnsIdeal.nD Cert.OptColumnsIdeal.τ).loc Cert.OptColumnsIdeal.main_arg5)) →
    ∃ (v0 : (c : Dev Cert.OptColumnsIdeal.nD) → Buf (Elt Ideal) ((c.tc : Thread Cert.OptColumnsIdeal.nD Cert.OptColumnsIdeal.τ).loc Cert.OptColumnsIdeal.main_v0_0)) (v1 : (c : Dev Cert.OptColumnsIdeal.nD) → Buf (Elt Ideal) ((c.tc : Thread Cert.OptColumnsIdeal.nD Cert.OptColumnsIdeal.τ).loc Cert.OptColumnsIdeal.main_v0_1)) (v2 : (c : Dev Cert.OptColumnsIdeal.nD) → Buf (Elt Ideal) ((c.tc : Thread Cert.OptColumnsIdeal.nD Cert.OptColumnsIdeal.τ).loc Cert.OptColumnsIdeal.main_v0_2)) (v3 : (c : Dev Cert.OptColumnsIdeal.nD) → Buf (Elt Ideal) ((c.tc : Thread Cert.OptColumnsIdeal.nD Cert.OptColumnsIdeal.τ).loc Cert.OptColumnsIdeal.main_v0_3)),
      θ_run (Cert.OptColumnsIdeal.defs (F := Ideal)) (onTc (τ := Cert.OptColumnsIdeal.τ) (Cert.OptColumnsIdeal.main (F := Ideal))) ⟨m, fun _ => 0, g⟩ (fun r => ∀ c : Dev Cert.OptColumnsIdeal.nD,
          r.2.mem ((c.tc : Thread Cert.OptColumnsIdeal.nD Cert.OptColumnsIdeal.τ).loc Cert.OptColumnsIdeal.main_v0_0) = v0 c
          ∧ r.2.mem ((c.tc : Thread Cert.OptColumnsIdeal.nD Cert.OptColumnsIdeal.τ).loc Cert.OptColumnsIdeal.main_v0_1) = v1 c
          ∧ r.2.mem ((c.tc : Thread Cert.OptColumnsIdeal.nD Cert.OptColumnsIdeal.τ).loc Cert.OptColumnsIdeal.main_v0_2) = v2 c
          ∧ r.2.mem ((c.tc : Thread Cert.OptColumnsIdeal.nD Cert.OptColumnsIdeal.τ).loc Cert.OptColumnsIdeal.main_v0_3) = v3 c
          ∧ r.2.mem ((c.tc : Thread Cert.OptColumnsIdeal.nD Cert.OptColumnsIdeal.τ).loc Cert.OptColumnsIdeal.main_arg0) = m ((c.tc : Thread Cert.OptColumnsIdeal.nD Cert.OptColumnsIdeal.τ).loc Cert.OptColumnsIdeal.main_arg0)
          ∧ r.2.mem ((c.tc : Thread Cert.OptColumnsIdeal.nD Cert.OptColumnsIdeal.τ).loc Cert.OptColumnsIdeal.main_arg1) = m ((c.tc : Thread Cert.OptColumnsIdeal.nD Cert.OptColumnsIdeal.τ).loc Cert.OptColumnsIdeal.main_arg1)
          ∧ r.2.mem ((c.tc : Thread Cert.OptColumnsIdeal.nD Cert.OptColumnsIdeal.τ).loc Cert.OptColumnsIdeal.main_arg2) = m ((c.tc : Thread Cert.OptColumnsIdeal.nD Cert.OptColumnsIdeal.τ).loc Cert.OptColumnsIdeal.main_arg2)
          ∧ r.2.mem ((c.tc : Thread Cert.OptColumnsIdeal.nD Cert.OptColumnsIdeal.τ).loc Cert.OptColumnsIdeal.main_arg3) = m ((c.tc : Thread Cert.OptColumnsIdeal.nD Cert.OptColumnsIdeal.τ).loc Cert.OptColumnsIdeal.main_arg3)
          ∧ r.2.mem ((c.tc : Thread Cert.OptColumnsIdeal.nD Cert.OptColumnsIdeal.τ).loc Cert.OptColumnsIdeal.main_arg4) = m ((c.tc : Thread Cert.OptColumnsIdeal.nD Cert.OptColumnsIdeal.τ).loc Cert.OptColumnsIdeal.main_arg4)
          ∧ r.2.mem ((c.tc : Thread Cert.OptColumnsIdeal.nD Cert.OptColumnsIdeal.τ).loc Cert.OptColumnsIdeal.main_arg5) = m ((c.tc : Thread Cert.OptColumnsIdeal.nD Cert.OptColumnsIdeal.τ).loc Cert.OptColumnsIdeal.main_arg5))
      ∧ θ_run (Cert.OptColumnsRefIdeal.defs (F := Ideal)) (onTc (τ := Cert.OptColumnsRefIdeal.τ) (Cert.OptColumnsRefIdeal.main (F := Ideal))) ⟨m', fun _ => 0, g'⟩ (fun r => ∀ c : Dev Cert.OptColumnsRefIdeal.nD,
          r.2.mem ((c.tc : Thread Cert.OptColumnsRefIdeal.nD Cert.OptColumnsRefIdeal.τ).loc Cert.OptColumnsRefIdeal.main_v9) = v0 c
          ∧ r.2.mem ((c.tc : Thread Cert.OptColumnsRefIdeal.nD Cert.OptColumnsRefIdeal.τ).loc Cert.OptColumnsRefIdeal.main_v33) = v1 c
          ∧ r.2.mem ((c.tc : Thread Cert.OptColumnsRefIdeal.nD Cert.OptColumnsRefIdeal.τ).loc Cert.OptColumnsRefIdeal.main_v14) = v2 c
          ∧ r.2.mem ((c.tc : Thread Cert.OptColumnsRefIdeal.nD Cert.OptColumnsRefIdeal.τ).loc Cert.OptColumnsRefIdeal.main_v20) = v3 c
          ∧ r.2.mem ((c.tc : Thread Cert.OptColumnsRefIdeal.nD Cert.OptColumnsRefIdeal.τ).loc Cert.OptColumnsRefIdeal.main_arg0) = m' ((c.tc : Thread Cert.OptColumnsRefIdeal.nD Cert.OptColumnsRefIdeal.τ).loc Cert.OptColumnsRefIdeal.main_arg0)
          ∧ r.2.mem ((c.tc : Thread Cert.OptColumnsRefIdeal.nD Cert.OptColumnsRefIdeal.τ).loc Cert.OptColumnsRefIdeal.main_arg1) = m' ((c.tc : Thread Cert.OptColumnsRefIdeal.nD Cert.OptColumnsRefIdeal.τ).loc Cert.OptColumnsRefIdeal.main_arg1)
          ∧ r.2.mem ((c.tc : Thread Cert.OptColumnsRefIdeal.nD Cert.OptColumnsRefIdeal.τ).loc Cert.OptColumnsRefIdeal.main_arg2) = m' ((c.tc : Thread Cert.OptColumnsRefIdeal.nD Cert.OptColumnsRefIdeal.τ).loc Cert.OptColumnsRefIdeal.main_arg2)
          ∧ r.2.mem ((c.tc : Thread Cert.OptColumnsRefIdeal.nD Cert.OptColumnsRefIdeal.τ).loc Cert.OptColumnsRefIdeal.main_arg3) = m' ((c.tc : Thread Cert.OptColumnsRefIdeal.nD Cert.OptColumnsRefIdeal.τ).loc Cert.OptColumnsRefIdeal.main_arg3)
          ∧ r.2.mem ((c.tc : Thread Cert.OptColumnsRefIdeal.nD Cert.OptColumnsRefIdeal.τ).loc Cert.OptColumnsRefIdeal.main_arg4) = m' ((c.tc : Thread Cert.OptColumnsRefIdeal.nD Cert.OptColumnsRefIdeal.τ).loc Cert.OptColumnsRefIdeal.main_arg4)
          ∧ r.2.mem ((c.tc : Thread Cert.OptColumnsRefIdeal.nD Cert.OptColumnsRefIdeal.τ).loc Cert.OptColumnsRefIdeal.main_arg5) = m' ((c.tc : Thread Cert.OptColumnsRefIdeal.nD Cert.OptColumnsRefIdeal.τ).loc Cert.OptColumnsRefIdeal.main_arg5))

def Claim : Prop :=
  ∃ (hKernel : Cert.Kernel.Facts) (hKernelIdeal : Cert.KernelIdeal.Facts) (hReferenceIdeal : Cert.ReferenceIdeal.Facts) (hWinLeft : Cert.WinLeft.Facts) (hWinLeftIdeal : Cert.WinLeftIdeal.Facts) (hWinLeftRefIdeal : Cert.WinLeftRefIdeal.Facts) (hWinRight : Cert.WinRight.Facts) (hWinRightIdeal : Cert.WinRightIdeal.Facts) (hWinRightRefIdeal : Cert.WinRightRefIdeal.Facts) (hDx : Cert.Dx.Facts) (hDxIdeal : Cert.DxIdeal.Facts) (hDxRefIdeal : Cert.DxRefIdeal.Facts) (hMerge : Cert.Merge.Facts) (hMergeIdeal : Cert.MergeIdeal.Facts) (hMergeRefIdeal : Cert.MergeRefIdeal.Facts) (hWout : Cert.Wout.Facts) (hWoutIdeal : Cert.WoutIdeal.Facts) (hWoutRefIdeal : Cert.WoutRefIdeal.Facts) (hWbr : Cert.Wbr.Facts) (hWbrIdeal : Cert.WbrIdeal.Facts) (hWbrRefIdeal : Cert.WbrRefIdeal.Facts) (hMergeFwd : Cert.MergeFwd.Facts) (hMergeFwdIdeal : Cert.MergeFwdIdeal.Facts) (hMergeFwdRefIdeal : Cert.MergeFwdRefIdeal.Facts) (hOutLoss : Cert.OutLoss.Facts) (hOutLossIdeal : Cert.OutLossIdeal.Facts) (hOutLossRefIdeal : Cert.OutLossRefIdeal.Facts) (hDyBr : Cert.DyBr.Facts) (hDyBrIdeal : Cert.DyBrIdeal.Facts) (hDyBrRefIdeal : Cert.DyBrRefIdeal.Facts) (hMemKv : Cert.MemKv.Facts) (hMemKvIdeal : Cert.MemKvIdeal.Facts) (hMemKvRefIdeal : Cert.MemKvRefIdeal.Facts) (hWmem : Cert.Wmem.Facts) (hWmemIdeal : Cert.WmemIdeal.Facts) (hWmemRefIdeal : Cert.WmemRefIdeal.Facts) (hDmemn : Cert.Dmemn.Facts) (hDmemnIdeal : Cert.DmemnIdeal.Facts) (hDmemnRefIdeal : Cert.DmemnRefIdeal.Facts) (hOptRows : Cert.OptRows.Facts) (hOptRowsIdeal : Cert.OptRowsIdeal.Facts) (hOptRowsRefIdeal : Cert.OptRowsRefIdeal.Facts) (hOptColumns : Cert.OptColumns.Facts) (hOptColumnsIdeal : Cert.OptColumnsIdeal.Facts) (hOptColumnsRefIdeal : Cert.OptColumnsRefIdeal.Facts) (hPre_finite : Cert.Pre_finite.Facts) (hPre_finite_dx : Cert.Pre_finite_dx.Facts) (hPre_finite_loss : Cert.Pre_finite_loss.Facts) (hPre_a_chip : Cert.Pre_a_chip.Facts) (hPre_a_chip_columns : Cert.Pre_a_chip_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WinLeft (hWinLeft := hWinLeft)
    ∧ quiescent_WinLeftIdeal (hWinLeftIdeal := hWinLeftIdeal)
    ∧ quiescent_WinLeftRefIdeal (hWinLeftRefIdeal := hWinLeftRefIdeal)
    ∧ quiescent_WinRight (hWinRight := hWinRight)
    ∧ quiescent_WinRightIdeal (hWinRightIdeal := hWinRightIdeal)
    ∧ quiescent_WinRightRefIdeal (hWinRightRefIdeal := hWinRightRefIdeal)
    ∧ quiescent_Dx (hDx := hDx)
    ∧ quiescent_DxIdeal (hDxIdeal := hDxIdeal)
    ∧ quiescent_DxIdeal_pre_finite_dx (hDxIdeal := hDxIdeal) (hPre_finite_dx := hPre_finite_dx)
    ∧ quiescent_DxRefIdeal (hDxRefIdeal := hDxRefIdeal)
    ∧ quiescent_DxRefIdeal_pre_finite_dx (hDxRefIdeal := hDxRefIdeal) (hPre_finite_dx := hPre_finite_dx)
    ∧ quiescent_Merge (hMerge := hMerge)
    ∧ quiescent_MergeIdeal (hMergeIdeal := hMergeIdeal)
    ∧ quiescent_MergeRefIdeal (hMergeRefIdeal := hMergeRefIdeal)
    ∧ quiescent_Wout (hWout := hWout)
    ∧ quiescent_WoutIdeal (hWoutIdeal := hWoutIdeal)
    ∧ quiescent_WoutRefIdeal (hWoutRefIdeal := hWoutRefIdeal)
    ∧ quiescent_Wbr (hWbr := hWbr)
    ∧ quiescent_WbrIdeal (hWbrIdeal := hWbrIdeal)
    ∧ quiescent_WbrRefIdeal (hWbrRefIdeal := hWbrRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_OutLoss (hOutLoss := hOutLoss)
    ∧ quiescent_OutLossIdeal (hOutLossIdeal := hOutLossIdeal)
    ∧ quiescent_OutLossIdeal_pre_finite_loss (hOutLossIdeal := hOutLossIdeal) (hPre_finite_loss := hPre_finite_loss)
    ∧ quiescent_OutLossRefIdeal (hOutLossRefIdeal := hOutLossRefIdeal)
    ∧ quiescent_OutLossRefIdeal_pre_finite_loss (hOutLossRefIdeal := hOutLossRefIdeal) (hPre_finite_loss := hPre_finite_loss)
    ∧ quiescent_DyBr (hDyBr := hDyBr)
    ∧ quiescent_DyBrIdeal (hDyBrIdeal := hDyBrIdeal)
    ∧ quiescent_DyBrRefIdeal (hDyBrRefIdeal := hDyBrRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Wmem (hWmem := hWmem)
    ∧ quiescent_WmemIdeal (hWmemIdeal := hWmemIdeal)
    ∧ quiescent_WmemRefIdeal (hWmemRefIdeal := hWmemRefIdeal)
    ∧ quiescent_Dmemn (hDmemn := hDmemn)
    ∧ quiescent_DmemnIdeal (hDmemnIdeal := hDmemnIdeal)
    ∧ quiescent_DmemnRefIdeal (hDmemnRefIdeal := hDmemnRefIdeal)
    ∧ quiescent_OptRows (hOptRows := hOptRows) (hPre_a_chip := hPre_a_chip)
    ∧ quiescent_OptRowsIdeal (hOptRowsIdeal := hOptRowsIdeal) (hPre_a_chip := hPre_a_chip)
    ∧ quiescent_OptRowsRefIdeal (hOptRowsRefIdeal := hOptRowsRefIdeal)
    ∧ quiescent_OptRowsRefIdeal_pre_a_chip (hOptRowsRefIdeal := hOptRowsRefIdeal) (hPre_a_chip := hPre_a_chip)
    ∧ quiescent_OptColumns (hOptColumns := hOptColumns) (hPre_a_chip_columns := hPre_a_chip_columns)
    ∧ quiescent_OptColumnsIdeal (hOptColumnsIdeal := hOptColumnsIdeal) (hPre_a_chip_columns := hPre_a_chip_columns)
    ∧ quiescent_OptColumnsRefIdeal (hOptColumnsRefIdeal := hOptColumnsRefIdeal)
    ∧ quiescent_OptColumnsRefIdeal_pre_a_chip_columns (hOptColumnsRefIdeal := hOptColumnsRefIdeal) (hPre_a_chip_columns := hPre_a_chip_columns)
    ∧ preserves_Kernel_KernelIdeal
    ∧ algebraic_KernelIdeal_ReferenceIdeal_pre_finite (hKernelIdeal := hKernelIdeal) (hReferenceIdeal := hReferenceIdeal) (hPre_finite := hPre_finite)
    ∧ preserves_WinLeft_WinLeftIdeal
    ∧ algebraic_WinLeftIdeal_WinLeftRefIdeal (hWinLeftIdeal := hWinLeftIdeal) (hWinLeftRefIdeal := hWinLeftRefIdeal)
    ∧ preserves_WinRight_WinRightIdeal
    ∧ algebraic_WinRightIdeal_WinRightRefIdeal (hWinRightIdeal := hWinRightIdeal) (hWinRightRefIdeal := hWinRightRefIdeal)
    ∧ preserves_Dx_DxIdeal
    ∧ algebraic_DxIdeal_DxRefIdeal_pre_finite_dx (hDxIdeal := hDxIdeal) (hDxRefIdeal := hDxRefIdeal) (hPre_finite_dx := hPre_finite_dx)
    ∧ preserves_Merge_MergeIdeal
    ∧ algebraic_MergeIdeal_MergeRefIdeal (hMergeIdeal := hMergeIdeal) (hMergeRefIdeal := hMergeRefIdeal)
    ∧ preserves_Wout_WoutIdeal
    ∧ algebraic_WoutIdeal_WoutRefIdeal (hWoutIdeal := hWoutIdeal) (hWoutRefIdeal := hWoutRefIdeal)
    ∧ preserves_Wbr_WbrIdeal
    ∧ algebraic_WbrIdeal_WbrRefIdeal (hWbrIdeal := hWbrIdeal) (hWbrRefIdeal := hWbrRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_OutLoss_OutLossIdeal
    ∧ algebraic_OutLossIdeal_OutLossRefIdeal_pre_finite_loss (hOutLossIdeal := hOutLossIdeal) (hOutLossRefIdeal := hOutLossRefIdeal) (hPre_finite_loss := hPre_finite_loss)
    ∧ preserves_DyBr_DyBrIdeal
    ∧ algebraic_DyBrIdeal_DyBrRefIdeal (hDyBrIdeal := hDyBrIdeal) (hDyBrRefIdeal := hDyBrRefIdeal)
    ∧ preserves_MemKv_MemKvIdeal
    ∧ algebraic_MemKvIdeal_MemKvRefIdeal (hMemKvIdeal := hMemKvIdeal) (hMemKvRefIdeal := hMemKvRefIdeal)
    ∧ preserves_Wmem_WmemIdeal
    ∧ algebraic_WmemIdeal_WmemRefIdeal (hWmemIdeal := hWmemIdeal) (hWmemRefIdeal := hWmemRefIdeal)
    ∧ preserves_Dmemn_DmemnIdeal
    ∧ algebraic_DmemnIdeal_DmemnRefIdeal (hDmemnIdeal := hDmemnIdeal) (hDmemnRefIdeal := hDmemnRefIdeal)
    ∧ preserves_OptRows_OptRowsIdeal
    ∧ algebraic_OptRowsIdeal_OptRowsRefIdeal (hOptRowsIdeal := hOptRowsIdeal) (hOptRowsRefIdeal := hOptRowsRefIdeal) (hPre_a_chip := hPre_a_chip)
    ∧ preserves_OptColumns_OptColumnsIdeal
    ∧ algebraic_OptColumnsIdeal_OptColumnsRefIdeal (hOptColumnsIdeal := hOptColumnsIdeal) (hOptColumnsRefIdeal := hOptColumnsRefIdeal) (hPre_a_chip_columns := hPre_a_chip_columns)
-- ==== Pre_a_chip.lean ====
abbrev S4x256x2048 : Shape := ⟨3, ![4, 256, 2048]⟩
abbrev S1 : Shape := ⟨1, ![1]⟩
abbrev S1x256x2048 : Shape := ⟨3, ![1, 256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x256x2048 .bf16) (main_arg1 : FVec F S4x256x2048 .bf16) (main_arg2 : IVec S1 32) (main_arg3 : FVec F S1x256x2048 .f32) (main_arg4 : FVec F S1x256x2048 .f32) (main_arg5 : FVec F S1x256x2048 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  (main_v1, main_v3)
-- ==== Pre_a_chip_columns.lean ====
abbrev S4x1024x256 : Shape := ⟨3, ![4, 1024, 256]⟩
abbrev S1 : Shape := ⟨1, ![1]⟩
abbrev S1x1024x256 : Shape := ⟨3, ![1, 1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x256 .bf16) (main_arg1 : FVec F S4x1024x256 .bf16) (main_arg2 : IVec S1 32) (main_arg3 : FVec F S1x1024x256 .f32) (main_arg4 : FVec F S1x1024x256 .f32) (main_arg5 : FVec F S1x1024x256 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  (main_v1, main_v3)
-- ==== Pre_finite.lean ====
abbrev S2048x1024 : Shape := ⟨2, ![2048, 1024]⟩
abbrev S256x2048 : Shape := ⟨2, ![256, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S256x2048 : S_.BroadcastsInDim S256x2048 (![] : Fin 0 → Fin S256x2048.rank)

variable [Facts]

def fn {F : FTy → Type} [FloatOps F] (main_arg0 : FVec F S2048x1024 .bf16) (main_arg1 : FVec F S256x2048 .bf16) (main_arg2 : FVec F S2048x1024 .f32) (main_arg3 : FVec F S2048x1024 .f32) : IVec S2048x1024 1 × IVec S256x2048 1 × IVec S2048x1024 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S2048x1024 .f32 := Host.absf main_arg3
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  (main_v3, main_v7, main_v10, main_v13)
-- ==== Pre_finite_dx.lean ====
abbrev S2048x12544 : Shape := ⟨2, ![2048, 12544]⟩
abbrev S12544x2048 : Shape := ⟨2, ![12544, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S2048x12544 : S_.BroadcastsInDim S2048x12544 (![] : Fin 0 → Fin S2048x12544.rank)
  bcast_S_S12544x2048 : S_.BroadcastsInDim S12544x2048 (![] : Fin 0 → Fin S12544x2048.rank)
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x12544 .bf16) (main_arg1 : FVec F S12544x2048 .bf16) (main_arg2 : FVec F S2048x2048 .f32) (main_arg3 : FVec F S2048x2048 .f32) (main_arg4 : FVec F S1x2048 .f32) : IVec S2048x12544 1 × IVec S12544x2048 1 × IVec S2048x2048 1 × IVec S1x2048 1 :=
  let main_v0 : FVec F S2048x12544 .f32 := (extf .f32 · bitsLt_bf16_f32) main_arg0
  let main_v1 : FVec F S2048x12544 .f32 := Host.absf main_v0
  let main_cst : FVec F S_ .f32 := constant S_ .f32 0x7F800000#32
  let main_v2 : FVec F S2048x12544 .f32 := broadcastInDim S2048x12544 ![] bcast_S_S2048x12544 main_cst
  let main_v3 : IVec S2048x12544 1 := cmpf .olt main_v1 main_v2
  let main_v4 : FVec F S12544x2048 .f32 := (extf .f32 · bitsLt_bf16_f32) main_arg1
  let main_v5 : FVec F S12544x2048 .f32 := Host.absf main_v4
  let main_cst_0 : FVec F S_ .f32 := constant S_ .f32 0x7F800000#32
  let main_v6 : FVec F S12544x2048 .f32 := broadcastInDim S12544x2048 ![] bcast_S_S12544x2048 main_cst_0
  let main_v7 : IVec S12544x2048 1 := cmpf .olt main_v5 main_v6
  let main_v8 : FVec F S2048x2048 .f32 := Host.absf main_arg2
  let main_cst_1 : FVec F S_ .f32 := constant S_ .f32 0x7F800000#32
  let main_v9 : FVec F S2048x2048 .f32 := broadcastInDim S2048x2048 ![] bcast_S_S2048x2048 main_cst_1
  let main_v10 : IVec S2048x2048 1 := cmpf .olt main_v8 main_v9
  let main_v11 : FVec F S1x2048 .f32 := Host.absf main_arg4
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  (main_v3, main_v7, main_v10, main_v13)
-- ==== Pre_finite_loss.lean ====
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .bf16) (main_arg1 : FVec F S2048x2048 .bf16) (main_arg2 : FVec F S2048x2048 .f32) (main_arg3 : FVec F S2048x2048 .f32) (main_arg4 : FVec F S1x2048 .f32) : IVec S2048x2048 1 × IVec S2048x2048 1 × IVec S2048x2048 1 × IVec S2048x2048 1 × IVec S1x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S2048x2048 .f32 := Host.absf main_arg2
  let main_cst_1 : FVec F S_ .f32 := constant S_ .f32 0x7F800000#32
  let main_v9 : FVec F S2048x2048 .f32 := broadcastInDim S2048x2048 ![] bcast_S_S2048x2048 main_cst_1
  let main_v10 : IVec S2048x2048 1 := cmpf .olt main_v8 main_v9
  let main_v11 : FVec F S2048x2048 .f32 := Host.absf main_arg3
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_v14 : FVec F S1x2048 .f32 := Host.absf main_arg4
  let main_cst_3 : FVec F S_ .f32 := constant S_ .f32 0x7F800000#32
  let main_v15 : FVec F S1x2048 .f32 := broadcastInDim S1x2048 ![] bcast_S_S1x2048 main_cst_3
  let main_v16 : IVec S1x2048 1 := cmpf .olt main_v14 main_v15
  (main_v3, main_v7, main_v10, main_v13, main_v16)
-- ==== Kernel.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 35
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S2048x1024, .f32⟩
  | .hbm, ⟨8, _⟩ => ⟨S2048x4x256, .f32⟩
  | .hbm, ⟨9, _⟩ => ⟨S256x4x256, .f32⟩
  | .hbm, ⟨10, _⟩ => ⟨S256x4x256, .f32⟩
  | .hbm, ⟨11, _⟩ => ⟨S4x2048x256, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048x1, .f32⟩
  | .hbm, ⟨21, _⟩ => ⟨S4x2048x256, .f32⟩
  | .hbm, ⟨22, _⟩ => ⟨S4x2048x256, .f32⟩
  | .hbm, ⟨23, _⟩ => ⟨S4x2048x256, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S4x2048x256, .f32⟩
  | .hbm, ⟨28, _⟩ => ⟨S4x2048x256, .f32⟩
  | .hbm, ⟨29, _⟩ => ⟨S4x256x2048, .f32⟩
  | .hbm, ⟨30, _⟩ => ⟨S2048x4x256, .f32⟩
  | .hbm, ⟨31, _⟩ => ⟨S2048x1024, .f32⟩
  | .hbm, ⟨32, _⟩ => ⟨S2048x1024, .bf16⟩
  | .hbm, ⟨33, _⟩ => ⟨S2048x1024, .bf16⟩
  | .hbm, ⟨34, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S256x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S2048x4x256, .f32⟩
  | .hbm, ⟨9, _⟩ => ⟨S256x4x256, .f32⟩
  | .hbm, ⟨10, _⟩ => ⟨S256x4x256, .f32⟩
  | .hbm, ⟨11, _⟩ => ⟨S4x2048x256, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .i1⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S4x2048, .i1⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x256, .f32⟩
  | .hbm, ⟨48, _⟩ => ⟨S4x2048x256, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x256x2048, .f32⟩
  | .hbm, ⟨54, _⟩ => ⟨S2048x4x256, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x4x256, .f32⟩
  | .hbm, ⟨77, _⟩ => ⟨S4x256x2048, .f32⟩
  | .hbm, ⟨78, _⟩ => ⟨S4x2048x256, .f32⟩
  | .hbm, ⟨79, _⟩ => ⟨S4x256x256, .f32⟩
  | .hbm, ⟨80, _⟩ => ⟨S256x4x256, .f32⟩
  | .hbm, ⟨81, _⟩ => ⟨S4x2048x256, .f32⟩
  | .hbm, ⟨82, _⟩ => ⟨S4x2048x256, .f32⟩
  | .hbm, ⟨83, _⟩ => ⟨S4x2048x256, .f32⟩
  | .hbm, ⟨84, _⟩ => ⟨S_, .f32⟩
  | .hbm, ⟨85, _⟩ => ⟨S4x2048, .f32⟩
  | .hbm, ⟨86, _⟩ => ⟨S4x2048x1, .f32⟩
  | .hbm, ⟨87, _⟩ => ⟨S4x2048x1, .f32⟩
  | .hbm, ⟨88, _⟩ => ⟨S4x2048x256, .f32⟩
  | .hbm, ⟨89, _⟩ => ⟨S4x2048x256, .f32⟩
  | .hbm, ⟨90, _⟩ => ⟨S_, .f32⟩
  | .hbm, ⟨91, _⟩ => ⟨S4x2048, .f32⟩
  | .hbm, ⟨92, _⟩ => ⟨S4x2048x256, .f32⟩
  | .hbm, ⟨93, _⟩ => ⟨S4x2048x256, .f32⟩
  | .hbm, ⟨94, _⟩ => ⟨S4x2048x256, .f32⟩
  | .hbm, ⟨95, _⟩ => ⟨S_, .f32⟩
  | .hbm, ⟨96, _⟩ => ⟨S4x2048x256, .f32⟩
  | .hbm, ⟨97, _⟩ => ⟨S4x2048x256, .f32⟩
  | .hbm, ⟨98, _⟩ => ⟨S4x256x256, .f32⟩
  | .hbm, ⟨99, _⟩ => ⟨S256x4x256, .f32⟩
  | .hbm, ⟨100, _⟩ => ⟨S4x2048x256, .f32⟩
  | .hbm, ⟨101, _⟩ => ⟨S2048x4x256, .f32⟩
  | .hbm, ⟨102, _⟩ => ⟨S256x1024, .f32⟩
  | .hbm, ⟨103, _⟩ => ⟨S256x1024, .f32⟩
  | .hbm, ⟨104, _⟩ => ⟨S2048x1024, .f32⟩
  | .hbm, ⟨105, _⟩ => ⟨S256x2048, .f32⟩
  | .hbm, ⟨106, _⟩ => ⟨S2048x1024, .bf16⟩
  | .hbm, ⟨107, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v41_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v41_1 : Ref sig .tc := ⟨.hbm, 67, rfl⟩
abbrev main_v41_0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== WinLeft.lean ====
abbrev S2048x12544 : Shape := ⟨2, ![2048, 12544]⟩
abbrev S2048x2048 : Shape := ⟨2, ![2048, 2048]⟩
abbrev S12544x1024 : Shape := ⟨2, ![12544, 1024]⟩
abbrev S2048x1792 : Shape := ⟨2, ![2048, 1792]⟩
abbrev S2048x1024 : Shape := ⟨2, ![2048, 1024]⟩
abbrev S1792x1024 : Shape := ⟨2, ![1792, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x12544, .bf16⟩
  | .hbm, ⟨1, _⟩ => ⟨S2048x2048, .bf16⟩
  | .hbm, ⟨2, _⟩ => ⟨S12544x1024, .bf16⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S1792x1024, .bf16⟩
  | .local _ .vmem, ⟨4, _⟩ => ⟨S1792x1024, .bf16⟩
  | _, _ => ⟨S2048x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinLeftRefIdeal.lean ====
abbrev S2048x12544 : Shape := ⟨2, ![2048, 12544]⟩
abbrev S2048x2048 : Shape := ⟨2, ![2048, 2048]⟩
abbrev S_ : Shape := ⟨0, ![]⟩
abbrev S12544x2048 : Shape := ⟨2, ![12544, 2048]⟩
abbrev S12544x1024 : Shape := ⟨2, ![12544, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x12544, .bf16⟩
  | .hbm, ⟨1, _⟩ => ⟨S2048x2048, .bf16⟩
  | .hbm, ⟨2, _⟩ => ⟨S_, .f32⟩
  | .hbm, ⟨3, _⟩ => ⟨S2048x12544, .f32⟩
  | .hbm, ⟨4, _⟩ => ⟨S2048x2048, .f32⟩
  | .hbm, ⟨5, _⟩ => ⟨S2048x12544, .f32⟩
  | .hbm, ⟨6, _⟩ => ⟨S2048x12544, .f32⟩
  | .hbm, ⟨7, _⟩ => ⟨S12544x2048, .f32⟩
  | .hbm, ⟨8, _⟩ => ⟨S2048x12544, .f32⟩
  | .hbm, ⟨9, _⟩ => ⟨S12544x2048, .f32⟩
  | .hbm, ⟨10, _⟩ => ⟨S12544x1024, .f32⟩
  | .hbm, ⟨11, _⟩ => ⟨S12544x1024, .bf16⟩
  | _, _ => ⟨S2048x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WinRight.lean ====
abbrev S2048x12544 : Shape := ⟨2, ![2048, 12544]⟩
abbrev S2048x2048 : Shape := ⟨2, ![2048, 2048]⟩
abbrev S12544x1024 : Shape := ⟨2, ![12544, 1024]⟩
abbrev S2048x1792 : Shape := ⟨2, ![2048, 1792]⟩
abbrev S2048x1024 : Shape := ⟨2, ![2048, 1024]⟩
abbrev S1792x1024 : Shape := ⟨2, ![1792, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x12544, .bf16⟩
  | .hbm, ⟨1, _⟩ => ⟨S2048x2048, .bf16⟩
  | .hbm, ⟨2, _⟩ => ⟨S12544x1024, .bf16⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S1792x1024, .bf16⟩
  | .local _ .vmem, ⟨4, _⟩ => ⟨S1792x1024, .bf16⟩
  | _, _ => ⟨S2048x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRightRefIdeal.lean ====
abbrev S2048x12544 : Shape := ⟨2, ![2048, 12544]⟩
abbrev S2048x2048 : Shape := ⟨2, ![2048, 2048]⟩
abbrev S_ : Shape := ⟨0, ![]⟩
abbrev S12544x2048 : Shape := ⟨2, ![12544, 2048]⟩
abbrev S12544x1024 : Shape := ⟨2, ![12544, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x12544, .bf16⟩
  | .hbm, ⟨1, _⟩ => ⟨S2048x2048, .bf16⟩
  | .hbm, ⟨2, _⟩ => ⟨S_, .f32⟩
  | .hbm, ⟨3, _⟩ => ⟨S2048x12544, .f32⟩
  | .hbm, ⟨4, _⟩ => ⟨S2048x2048, .f32⟩
  | .hbm, ⟨5, _⟩ => ⟨S2048x12544, .f32⟩
  | .hbm, ⟨6, _⟩ => ⟨S2048x12544, .f32⟩
  | .hbm, ⟨7, _⟩ => ⟨S12544x2048, .f32⟩
  | .hbm, ⟨8, _⟩ => ⟨S2048x12544, .f32⟩
  | .hbm, ⟨9, _⟩ => ⟨S12544x2048, .f32⟩
  | .hbm, ⟨10, _⟩ => ⟨S12544x1024, .f32⟩
  | .hbm, ⟨11, _⟩ => ⟨S12544x1024, .bf16⟩
  | _, _ => ⟨S2048x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dx.lean ====
abbrev S2048x12544 : Shape := ⟨2, ![2048, 12544]⟩
abbrev S12544x2048 : Shape := ⟨2, ![12544, 2048]⟩
abbrev S2048x2048 : Shape := ⟨2, ![2048, 2048]⟩
abbrev S1x2048 : Shape := ⟨2, ![1, 2048]⟩
abbrev S512x1792 : Shape := ⟨2, ![512, 1792]⟩
abbrev S1792x2048 : Shape := ⟨2, ![1792, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S2048x12544, .bf16⟩
  | .hbm, ⟨1, _⟩ => ⟨S12544x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S512x1792, .bf16⟩
  | .local _ .vmem, ⟨1, _⟩ => ⟨S512x1792, .bf16⟩
  | .local _ .vmem, ⟨2, _⟩ => ⟨S1792x2048, .bf16⟩
  | .local _ .vmem, ⟨3, _⟩ => ⟨S1792x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S2048x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 7], ![false, false]⟩

def k0_cond3 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32_11 : BitVec 32 := 0#32
  let v18 : BitVec 1 := Scalar.cmpi .ne v17 c0_i32_11
  v18

@[reducible] def k0_t1_loop : Scf.Loop 32 :=
  let c0_i32_12 : BitVec 32 := 0#32
  let c8_i32 : BitVec 32 := 8#32
  let v19 : BitVec 32 := Scalar.addi c0_i32_12 c8_i32
  let c1_i32 : BitVec 32 := 1#32
  ⟨c0_i32_12, v19, c1_i32⟩
def k0_mult1 (k0_t1 : Fin k0_t1_loop.trips) : BitVec 32 :=
  let c0_i32_12 : BitVec 32 := 0#32
  let c1_i32 : BitVec 32 := 1#32
  let arg10 : BitVec 32 := Scf.iv c0_i32_12 c1_i32 k0_t1
  let c64_i32 : BitVec 32 := 64#32
  let v20 : BitVec 32 := Scalar.muli arg10 c64_i32
  v20
def k0_off1 (k0_t1 : Fin k0_t1_loop.trips) : Fin 2 → Nat :=
  let c0_i32_12 : BitVec 32 := 0#32
  let c1_i32 : BitVec 32 := 1#32
  let arg10 : BitVec 32 := Scf.iv c0_i32_12 c1_i32 k0_t1
  let c64_i32 : BitVec 32 := 64#32
  let v20 : BitVec 32 := Scalar.muli arg10 c64_i32
  let v21 : BitVec 32 := v20
  let v22 : Index := Scalar.indexCast v21
  let c0_14 : Index := 0#32
  ![v22.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DxRefIdeal.lean ====
abbrev S2048x12544 : Shape := ⟨2, ![2048, 12544]⟩
abbrev S12544x2048 : Shape := ⟨2, ![12544, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x12544, .bf16⟩
  | .hbm, ⟨1, _⟩ => ⟨S12544x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S12544x2048, .f32⟩
  | .hbm, ⟨25, _⟩ => ⟨S2048x12544, .f32⟩
  | .hbm, ⟨26, _⟩ => ⟨S2048x12544, .f32⟩
  | .hbm, ⟨27, _⟩ => ⟨S2048x12544, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | _, _ => ⟨S2048x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Merge.lean ====
abbrev S2048x2048 : Shape := ⟨2, ![2048, 2048]⟩
abbrev S3x2048x2048 : Shape := ⟨3, ![3, 2048, 2048]⟩
abbrev S1024x2048 : Shape := ⟨2, ![1024, 2048]⟩
abbrev S256x2048 : Shape := ⟨2, ![256, 2048]⟩
abbrev S1024x256 : Shape := ⟨2, ![1024, 256]⟩
abbrev S1x1024x256 : Shape := ⟨3, ![1, 1024, 256]⟩

abbrev nBuf : Space → Nat
  | .hbm => 12
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S3x2048x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S2048x2048 : Shape := ⟨2, ![2048, 2048]⟩
abbrev S3x2048x2048 : Shape := ⟨3, ![3, 2048, 2048]⟩
abbrev S_ : Shape := ⟨0, ![]⟩
abbrev S1x2048x2048 : Shape := ⟨3, ![1, 2048, 2048]⟩

abbrev nBuf : Space → Nat
  | .hbm => 64
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S3x2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S3x2048x2048, .f32⟩
  | .hbm, ⟨11, _⟩ => ⟨S3x2048x2048, .f32⟩
  | .hbm, ⟨12, _⟩ => ⟨S_, .f32⟩
  | .hbm, ⟨13, _⟩ => ⟨S3x2048x2048, .f32⟩
  | .hbm, ⟨14, _⟩ => ⟨S3x2048x2048, .f32⟩
  | .hbm, ⟨15, _⟩ => ⟨S_, .f32⟩
  | .hbm, ⟨16, _⟩ => ⟨S3x2048x2048, .f32⟩
  | .hbm, ⟨17, _⟩ => ⟨S3x2048x2048, .f32⟩
  | .hbm, ⟨18, _⟩ => ⟨S_, .f32⟩
  | .hbm, ⟨19, _⟩ => ⟨S3x2048x2048, .f32⟩
  | .hbm, ⟨20, _⟩ => ⟨S3x2048x2048, .f32⟩
  | .hbm, ⟨21, _⟩ => ⟨S3x2048x2048, .f32⟩
  | .hbm, ⟨22, _⟩ => ⟨S1x2048x2048, .f32⟩
  | .hbm, ⟨23, _⟩ => ⟨S2048x2048, .f32⟩
  | .hbm, ⟨24, _⟩ => ⟨S2048x2048, .f32⟩
  | .hbm, ⟨25, _⟩ => ⟨S1x2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S1x2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S1x2048x2048, .f32⟩
  | .hbm, ⟨39, _⟩ => ⟨S_, .f32⟩
  | .hbm, ⟨40, _⟩ => ⟨S3x2048x2048, .f32⟩
  | .hbm, ⟨41, _⟩ => ⟨S2048x2048, .f32⟩
  | .hbm, ⟨42, _⟩ => ⟨S2048x2048, .f32⟩
  | .hbm, ⟨43, _⟩ => ⟨S1x2048x2048, .f32⟩
  | .hbm, ⟨44, _⟩ => ⟨S_, .f32⟩
  | .hbm, ⟨45, _⟩ => ⟨S3x2048x2048, .f32⟩
  | .hbm, ⟨46, _⟩ => ⟨S3x2048x2048, .f32⟩
  | .hbm, ⟨47, _⟩ => ⟨S2048x2048, .f32⟩
  | .hbm, ⟨48, _⟩ => ⟨S2048x2048, .f32⟩
  | .hbm, ⟨49, _⟩ => ⟨S1x2048x2048, .f32⟩
  | .hbm, ⟨50, _⟩ => ⟨S_, .f32⟩
  | .hbm, ⟨51, _⟩ => ⟨S3x2048x2048, .f32⟩
  | .hbm, ⟨52, _⟩ => ⟨S3x2048x2048, .f32⟩
  | .hbm, ⟨53, _⟩ => ⟨S3x2048x2048, .f32⟩
  | .hbm, ⟨54, _⟩ => ⟨S3x2048x2048, .bf16⟩
  | .hbm, ⟨55, _⟩ => ⟨S1x2048x2048, .bf16⟩
  | .hbm, ⟨56, _⟩ => ⟨S2048x2048, .bf16⟩
  | .hbm, ⟨57, _⟩ => ⟨S1x2048x2048, .bf16⟩
  | .hbm, ⟨58, _⟩ => ⟨S2048x2048, .bf16⟩
  | .hbm, ⟨59, _⟩ => ⟨S1x2048x2048, .bf16⟩
  | .hbm, ⟨60, _⟩ => ⟨S2048x2048, .bf16⟩
  | .hbm, ⟨61, _⟩ => ⟨S2048x2048, .bf16⟩
  | .hbm, ⟨62, _⟩ => ⟨S2048x2048, .bf16⟩
  | .hbm, ⟨63, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Wout.lean ====
abbrev S2048x2048 : Shape := ⟨2, ![2048, 2048]⟩
abbrev S2x4x256x2048 : Shape := ⟨4, ![2, 4, 256, 2048]⟩
abbrev S2048x256 : Shape := ⟨2, ![2048, 256]⟩
abbrev S1x1x256x2048 : Shape := ⟨4, ![1, 1, 256, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2x4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x1x256x2048, .bf16⟩
  | .local _ .vmem, ⟨4, _⟩ => ⟨S1x1x256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutRefIdeal.lean ====
abbrev S2048x2048 : Shape := ⟨2, ![2048, 2048]⟩
abbrev S_ : Shape := ⟨0, ![]⟩
abbrev S4x2x256x2048 : Shape := ⟨4, ![4, 2, 256, 2048]⟩
abbrev S2x4x256x2048 : Shape := ⟨4, ![2, 4, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x2x256x2048, .bf16⟩
  | .hbm, ⟨11, _⟩ => ⟨S2x4x256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Wbr.lean ====
abbrev S2048x1024 : Shape := ⟨2, ![2048, 1024]⟩
abbrev S2048x2048 : Shape := ⟨2, ![2048, 2048]⟩
abbrev S2x4x1024x256 : Shape := ⟨4, ![2, 4, 1024, 256]⟩
abbrev S2048x256 : Shape := ⟨2, ![2048, 256]⟩
abbrev S1x1x1024x256 : Shape := ⟨4, ![1, 1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2x4x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1x1024x256, .bf16⟩
  | .local _ .vmem, ⟨4, _⟩ => ⟨S1x1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg1.toNat, c0_i32_10.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbrRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x2x256 : Shape := ⟨4, ![1024, 4, 2, 256]⟩
abbrev S2x4x1024x256 : Shape := ⟨4, ![2, 4, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x4x2x256, .bf16⟩
  | .hbm, ⟨11, _⟩ => ⟨S2x4x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MergeFwd.lean ====
abbrev S2048x1024 : Shape := ⟨2, ![2048, 1024]⟩
abbrev S3x2048x2048 : Shape := ⟨3, ![3, 2048, 2048]⟩
abbrev S2048x2048 : Shape := ⟨2, ![2048, 2048]⟩
abbrev S1024x1024 : Shape := ⟨2, ![1024, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 11
  | .vmem => 26
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x2048x2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeFwdRefIdeal.lean ====
abbrev S2048x1024 : Shape := ⟨2, ![2048, 1024]⟩
abbrev S3x2048x2048 : Shape := ⟨3, ![3, 2048, 2048]⟩
abbrev S_ : Shape := ⟨0, ![]⟩
abbrev S1024x2048 : Shape := ⟨2, ![1024, 2048]⟩
abbrev S2048x2048 : Shape := ⟨2, ![2048, 2048]⟩
abbrev S1x2048x2048 : Shape := ⟨3, ![1, 2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x2048x2048, .f32⟩
  | .hbm, ⟨7, _⟩ => ⟨S3x2048x2048, .f32⟩
  | .hbm, ⟨8, _⟩ => ⟨S3x2048x2048, .f32⟩
  | .hbm, ⟨9, _⟩ => ⟨S_, .f32⟩
  | .hbm, ⟨10, _⟩ => ⟨S3x2048x2048, .f32⟩
  | .hbm, ⟨11, _⟩ => ⟨S3x2048x2048, .f32⟩
  | .hbm, ⟨12, _⟩ => ⟨S_, .f32⟩
  | .hbm, ⟨13, _⟩ => ⟨S3x2048x2048, .f32⟩
  | .hbm, ⟨14, _⟩ => ⟨S3x2048x2048, .f32⟩
  | .hbm, ⟨15, _⟩ => ⟨S2048x1024, .f32⟩
  | .hbm, ⟨16, _⟩ => ⟨S2048x1024, .f32⟩
  | .hbm, ⟨17, _⟩ => ⟨S1024x2048, .f32⟩
  | .hbm, ⟨18, _⟩ => ⟨S2048x2048, .f32⟩
  | .hbm, ⟨19, _⟩ => ⟨S2048x1024, .f32⟩
  | .hbm, ⟨20, _⟩ => ⟨S2048x1024, .f32⟩
  | .hbm, ⟨21, _⟩ => ⟨S1024x2048, .f32⟩
  | .hbm, ⟨22, _⟩ => ⟨S2048x2048, .f32⟩
  | .hbm, ⟨23, _⟩ => ⟨S2048x1024, .f32⟩
  | .hbm, ⟨24, _⟩ => ⟨S2048x1024, .f32⟩
  | .hbm, ⟨25, _⟩ => ⟨S1024x2048, .f32⟩
  | .hbm, ⟨26, _⟩ => ⟨S2048x2048, .f32⟩
  | .hbm, ⟨27, _⟩ => ⟨S1x2048x2048, .f32⟩
  | .hbm, ⟨28, _⟩ => ⟨S2048x2048, .f32⟩
  | .hbm, ⟨29, _⟩ => ⟨S2048x2048, .f32⟩
  | .hbm, ⟨30, _⟩ => ⟨S1x2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S1x2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .bf16⟩
  | .hbm, ⟨39, _⟩ => ⟨S2048x2048, .bf16⟩
  | .hbm, ⟨40, _⟩ => ⟨S2048x2048, .bf16⟩
  | .hbm, ⟨41, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== OutLoss.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .bf16⟩
  | .hbm, ⟨6, _⟩ => ⟨S2048x2048, .f32⟩
  | .hbm, ⟨7, _⟩ => ⟨S8x128, .f32⟩
  | .hbm, ⟨8, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S8x128, .f32⟩
  | .local _ .vmem, ⟨13, _⟩ => ⟨S1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutLossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .bf16⟩
  | .hbm, ⟨75, _⟩ => ⟨S8x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== DyBr.lean ====
abbrev S2048x2048 : Shape := ⟨2, ![2048, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  ![v3.toNat, c0_i32_2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  ![v3.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DyBrRefIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S1024x2048, .f32⟩
  | .hbm, ⟨10, _⟩ => ⟨S2048x2048, .f32⟩
  | .hbm, ⟨11, _⟩ => ⟨S2048x1024, .f32⟩
  | .hbm, ⟨12, _⟩ => ⟨S1024x2048, .f32⟩
  | .hbm, ⟨13, _⟩ => ⟨S2048x2048, .f32⟩
  | .hbm, ⟨14, _⟩ => ⟨S2048x1024, .f32⟩
  | .hbm, ⟨15, _⟩ => ⟨S1024x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x1024, .f32⟩
  | .hbm, ⟨21, _⟩ => ⟨S2048x1024, .f32⟩
  | .hbm, ⟨22, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MemKv.lean ====
abbrev S256x2048 : Shape := ⟨2, ![256, 2048]⟩
abbrev S2048x2048 : Shape := ⟨2, ![2048, 2048]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .bf16⟩
  | .local _ .vmem, ⟨4, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvRefIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Wmem.lean ====
abbrev S256x2048 : Shape := ⟨2, ![256, 2048]⟩
abbrev S2x4x256x2048 : Shape := ⟨4, ![2, 4, 256, 2048]⟩
abbrev S256x256 : Shape := ⟨2, ![256, 256]⟩
abbrev S1x1x256x2048 : Shape := ⟨4, ![1, 1, 256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2x4x256x2048, .bf16⟩
  | .local _ .vmem, ⟨0, _⟩ => ⟨S256x256, .bf16⟩
  | .local _ .vmem, ⟨1, _⟩ => ⟨S256x256, .bf16⟩
  | .local _ .vmem, ⟨2, _⟩ => ⟨S256x2048, .bf16⟩
  | .local _ .vmem, ⟨3, _⟩ => ⟨S1x1x256x2048, .bf16⟩
  | .local _ .vmem, ⟨4, _⟩ => ⟨S1x1x256x2048, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WmemRefIdeal.lean ====
abbrev S256x2048 : Shape := ⟨2, ![256, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x2x256x2048, .bf16⟩
  | .hbm, ⟨11, _⟩ => ⟨S2x4x256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dmemn.lean ====
abbrev S256x2048 : Shape := ⟨2, ![256, 2048]⟩
abbrev S2048x2048 : Shape := ⟨2, ![2048, 2048]⟩
abbrev S512x2048 : Shape := ⟨2, ![512, 2048]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S512x2048, .bf16⟩
  | .local _ .vmem, ⟨2, _⟩ => ⟨S512x2048, .bf16⟩
  | .local _ .vmem, ⟨3, _⟩ => ⟨S256x512, .f32⟩
  | .local _ .vmem, ⟨4, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmemnRefIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OptRows.lean ====
abbrev S4x256x2048 : Shape := ⟨3, ![4, 256, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 9
  | .vmem => 11
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let v2 : BitVec 32 := Scalar.extui v1
  let c0_i32_0 : BitVec 32 := 0#32
  let v3 : BitVec 32 := Scalar.addi c0_i32_0 v2
  let c0_i32_1 : BitVec 32 := 0#32
  let c0_i32_2 : BitVec 32 := 0#32
  ![v3.toNat, arg0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let v2 : BitVec 32 := Scalar.extui v1
  let c1_i32_0 : BitVec 32 := 1#32
  let v3 : BitVec 32 := Scalar.addi c1_i32_0 v2
  let c0_i32 : BitVec 32 := 0#32
  let c0_i32_1 : BitVec 32 := 0#32
  ![v3.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let v2 : BitVec 32 := Scalar.extui v1
  let c2_i32_0 : BitVec 32 := 2#32
  let v3 : BitVec 32 := Scalar.addi c2_i32_0 v2
  let c0_i32 : BitVec 32 := 0#32
  let c0_i32_1 : BitVec 32 := 0#32
  ![v3.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== OptRowsIdeal.lean ====
abbrev S4x256x2048 : Shape := ⟨3, ![4, 256, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 9
  | .vmem => 11
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let v2 : BitVec 32 := Scalar.extui v1
  let c0_i32_0 : BitVec 32 := 0#32
  let v3 : BitVec 32 := Scalar.addi c0_i32_0 v2
  let c0_i32_1 : BitVec 32 := 0#32
  let c0_i32_2 : BitVec 32 := 0#32
  ![v3.toNat, arg0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let v2 : BitVec 32 := Scalar.extui v1
  let c1_i32_0 : BitVec 32 := 1#32
  let v3 : BitVec 32 := Scalar.addi c1_i32_0 v2
  let c0_i32 : BitVec 32 := 0#32
  let c0_i32_1 : BitVec 32 := 0#32
  ![v3.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let v2 : BitVec 32 := Scalar.extui v1
  let c2_i32_0 : BitVec 32 := 2#32
  let v3 : BitVec 32 := Scalar.addi c2_i32_0 v2
  let c0_i32 : BitVec 32 := 0#32
  let c0_i32_1 : BitVec 32 := 0#32
  ![v3.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== OptRowsRefIdeal.lean ====
abbrev S4x256x2048 : Shape := ⟨3, ![4, 256, 2048]⟩
abbrev S1 : Shape := ⟨1, ![1]⟩
abbrev S1x256x2048 : Shape := ⟨3, ![1, 256, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩
abbrev S256x2048 : Shape := ⟨2, ![256, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S1, .i32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x256x2048, .f32⟩
  | .hbm, ⟨12, _⟩ => ⟨S4x256x2048, .f32⟩
  | .hbm, ⟨13, _⟩ => ⟨S4x256x2048, .i1⟩
  | .hbm, ⟨14, _⟩ => ⟨S4x256x2048, .f32⟩
  | .hbm, ⟨15, _⟩ => ⟨S_, .f32⟩
  | .hbm, ⟨16, _⟩ => ⟨S256x2048, .f32⟩
  | .hbm, ⟨17, _⟩ => ⟨S1x256x2048, .f32⟩
  | .hbm, ⟨18, _⟩ => ⟨S_, .f32⟩
  | .hbm, ⟨19, _⟩ => ⟨S1x256x2048, .f32⟩
  | .hbm, ⟨20, _⟩ => ⟨S1x256x2048, .f32⟩
  | .hbm, ⟨21, _⟩ => ⟨S_, .f32⟩
  | .hbm, ⟨22, _⟩ => ⟨S1x256x2048, .f32⟩
  | .hbm, ⟨23, _⟩ => ⟨S1x256x2048, .f32⟩
  | .hbm, ⟨24, _⟩ => ⟨S1x256x2048, .f32⟩
  | .hbm, ⟨25, _⟩ => ⟨S_, .f32⟩
  | .hbm, ⟨26, _⟩ => ⟨S1x256x2048, .f32⟩
  | .hbm, ⟨27, _⟩ => ⟨S1x256x2048, .f32⟩
  | .hbm, ⟨28, _⟩ => ⟨S1x256x2048, .f32⟩
  | .hbm, ⟨29, _⟩ => ⟨S_, .f32⟩
  | .hbm, ⟨30, _⟩ => ⟨S1x256x2048, .f32⟩
  | .hbm, ⟨31, _⟩ => ⟨S1x256x2048, .f32⟩
  | .hbm, ⟨32, _⟩ => ⟨S1x256x2048, .f32⟩
  | .hbm, ⟨33, _⟩ => ⟨S_, .f32⟩
  | .hbm, ⟨34, _⟩ => ⟨S1x256x2048, .f32⟩
  | .hbm, ⟨35, _⟩ => ⟨S1x256x2048, .f32⟩
  | .hbm, ⟨36, _⟩ => ⟨S_, .f32⟩
  | .hbm, ⟨37, _⟩ => ⟨S1x256x2048, .f32⟩
  | .hbm, ⟨38, _⟩ => ⟨S1x256x2048, .f32⟩
  | .hbm, ⟨39, _⟩ => ⟨S1x256x2048, .f32⟩
  | .hbm, ⟨40, _⟩ => ⟨S_, .f32⟩
  | .hbm, ⟨41, _⟩ => ⟨S1x256x2048, .f32⟩
  | .hbm, ⟨42, _⟩ => ⟨S1x256x2048, .f32⟩
  | .hbm, ⟨43, _⟩ => ⟨S1x256x2048, .f32⟩
  | .hbm, ⟨44, _⟩ => ⟨S_, .f32⟩
  | .hbm, ⟨45, _⟩ => ⟨S1x256x2048, .f32⟩
  | .hbm, ⟨46, _⟩ => ⟨S1x256x2048, .f32⟩
  | .hbm, ⟨47, _⟩ => ⟨S1x256x2048, .f32⟩
  | .hbm, ⟨48, _⟩ => ⟨S_, .f32⟩
  | .hbm, ⟨49, _⟩ => ⟨S1x256x2048, .f32⟩
  | .hbm, ⟨50, _⟩ => ⟨S1x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== OptColumns.lean ====
abbrev S4x1024x256 : Shape := ⟨3, ![4, 1024, 256]⟩
abbrev S1 : Shape := ⟨1, ![1]⟩
abbrev S1x1024x256 : Shape := ⟨3, ![1, 1024, 256]⟩
abbrev S1x256x256 : Shape := ⟨3, ![1, 256, 256]⟩
abbrev S256x256 : Shape := ⟨2, ![256, 256]⟩

abbrev nBuf : Space → Nat
  | .hbm => 9
  | .vmem => 22
  | .smem => 1
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .smem, ⟨0, _⟩ => ⟨S1, .i32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let v2 : BitVec 32 := Scalar.extui v1
  let c0_i32_0 : BitVec 32 := 0#32
  let v3 : BitVec 32 := Scalar.addi c0_i32_0 v2
  let c0_i32_1 : BitVec 32 := 0#32
  let c0_i32_2 : BitVec 32 := 0#32
  ![v3.toNat, arg0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let v2 : BitVec 32 := Scalar.extui v1
  let c1_i32_0 : BitVec 32 := 1#32
  let v3 : BitVec 32 := Scalar.addi c1_i32_0 v2
  let c0_i32 : BitVec 32 := 0#32
  let c0_i32_1 : BitVec 32 := 0#32
  ![v3.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let v2 : BitVec 32 := Scalar.extui v1
  let c2_i32_0 : BitVec 32 := 2#32
  let v3 : BitVec 32 := Scalar.addi c2_i32_0 v2
  let c0_i32 : BitVec 32 := 0#32
  let c0_i32_1 : BitVec 32 := 0#32
  ![v3.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OptColumnsRefIdeal.lean ====
abbrev S4x1024x256 : Shape := ⟨3, ![4, 1024, 256]⟩
abbrev S1 : Shape := ⟨1, ![1]⟩
abbrev S1x1024x256 : Shape := ⟨3, ![1, 1024, 256]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩
abbrev S1024x256 : Shape := ⟨2, ![1024, 256]⟩

abbrev nBuf : Space → Nat
  | .hbm => 51
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S1, .i32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x1024x256, .f32⟩
  | .hbm, ⟨12, _⟩ => ⟨S4x1024x256, .f32⟩
  | .hbm, ⟨13, _⟩ => ⟨S4x1024x256, .i1⟩
  | .hbm, ⟨14, _⟩ => ⟨S4x1024x256, .f32⟩
  | .hbm, ⟨15, _⟩ => ⟨S_, .f32⟩
  | .hbm, ⟨16, _⟩ => ⟨S1024x256, .f32⟩
  | .hbm, ⟨17, _⟩ => ⟨S1x1024x256, .f32⟩
  | .hbm, ⟨18, _⟩ => ⟨S_, .f32⟩
  | .hbm, ⟨19, _⟩ => ⟨S1x1024x256, .f32⟩
  | .hbm, ⟨20, _⟩ => ⟨S1x1024x256, .f32⟩
  | .hbm, ⟨21, _⟩ => ⟨S_, .f32⟩
  | .hbm, ⟨22, _⟩ => ⟨S1x1024x256, .f32⟩
  | .hbm, ⟨23, _⟩ => ⟨S1x1024x256, .f32⟩
  | .hbm, ⟨24, _⟩ => ⟨S1x1024x256, .f32⟩
  | .hbm, ⟨25, _⟩ => ⟨S_, .f32⟩
  | .hbm, ⟨26, _⟩ => ⟨S1x1024x256, .f32⟩
  | .hbm, ⟨27, _⟩ => ⟨S1x1024x256, .f32⟩
  | .hbm, ⟨28, _⟩ => ⟨S1x1024x256, .f32⟩
  | .hbm, ⟨29, _⟩ => ⟨S_, .f32⟩
  | .hbm, ⟨30, _⟩ => ⟨S1x1024x256, .f32⟩
  | .hbm, ⟨31, _⟩ => ⟨S1x1024x256, .f32⟩
  | .hbm, ⟨32, _⟩ => ⟨S1x1024x256, .f32⟩
  | .hbm, ⟨33, _⟩ => ⟨S_, .f32⟩
  | .hbm, ⟨34, _⟩ => ⟨S1x1024x256, .f32⟩
  | .hbm, ⟨35, _⟩ => ⟨S1x1024x256, .f32⟩
  | .hbm, ⟨36, _⟩ => ⟨S_, .f32⟩
  | .hbm, ⟨37, _⟩ => ⟨S1x1024x256, .f32⟩
  | .hbm, ⟨38, _⟩ => ⟨S1x1024x256, .f32⟩
  | .hbm, ⟨39, _⟩ => ⟨S1x1024x256, .f32⟩
  | .hbm, ⟨40, _⟩ => ⟨S_, .f32⟩
  | .hbm, ⟨41, _⟩ => ⟨S1x1024x256, .f32⟩
  | .hbm, ⟨42, _⟩ => ⟨S1x1024x256, .f32⟩
  | .hbm, ⟨43, _⟩ => ⟨S1x1024x256, .f32⟩
  | .hbm, ⟨44, _⟩ => ⟨S_, .f32⟩
  | .hbm, ⟨45, _⟩ => ⟨S1x1024x256, .f32⟩
  | .hbm, ⟨46, _⟩ => ⟨S1x1024x256, .f32⟩
  | .hbm, ⟨47, _⟩ => ⟨S1x1024x256, .f32⟩
  | .hbm, ⟨48, _⟩ => ⟨S_, .f32⟩
  | .hbm, ⟨49, _⟩ => ⟨S1x1024x256, .f32⟩
  | .hbm, ⟨50, _⟩ => ⟨S1x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proof.Spec.lean ====
module

public import Idealize.ShloMosaic.PureOps.Ideal.Laws
public import Mathlib.Data.EReal.Operations
public import Mathlib.Analysis.SpecialFunctions.Exp

/-!
The mathematics of the gated cross-attention onto a memory and of its gradient, over the real numbers.

One row of one head is stated at a time: `q` is a query row, `K` and `V` hold the keys and the values of the memory
slots, `w` is the cotangent of the attention's output row. Nothing here speaks of blocks or tiles.
-/

@[expose] public section

noncomputable section
namespace Cert.Mem
open Idealize.ShloMosaic

variable {δ μ ι : Type} [Fintype δ] [Fintype μ]

/-- A memory slot's score: the query's product with the slot's key, over the root of the head's width. -/
def score (q : δ → ℝ) (K : μ → δ → ℝ) (m : μ) : ℝ := (∑ d, q d * K m d) * (1 / 16)

/-- The weight of a slot: the softmax of the scores. -/
def prob (q : δ → ℝ) (K : μ → δ → ℝ) (m : μ) : ℝ := Real.exp (score q K m) / ∑ m', Real.exp (score q K m')

/-- The attention's output row. -/
def attn (q : δ → ℝ) (K V : μ → δ → ℝ) (d : δ) : ℝ := ∑ m, prob q K m * V m d

/-- The cotangent of a slot's weight. -/
def dprob (w : δ → ℝ) (V : μ → δ → ℝ) (m : μ) : ℝ := ∑ d, w d * V m d

/-- The cotangent of a slot's unscaled score: the softmax's own gradient, over the root of the head's width. -/
def dscore (q : δ → ℝ) (K V : μ → δ → ℝ) (w : δ → ℝ) (m : μ) : ℝ :=
  (prob q K m * (dprob w V m - ∑ m', prob q K m' * dprob w V m')) * (1 / 16)

/-- The cotangent of the query row. -/
def dquery (q : δ → ℝ) (K V : μ → δ → ℝ) (w : δ → ℝ) (d : δ) : ℝ := ∑ m, dscore q K V w m * K m d

/-- The logistic function. -/
def sgm (x : ℝ) : ℝ := 1 / (1 + Real.exp (-x))

/-- The gate's derivative, of `x * sgm x`. -/
def dgate (x : ℝ) : ℝ := sgm x * (1 + x * (1 - sgm x))

theorem one_add_exp_ne (x : ℝ) : 1 + Real.exp x ≠ 0 := by positivity

theorem sum_exp_ne [Nonempty μ] (s : μ → ℝ) : ∑ m, Real.exp (s m) ≠ 0 :=
  (Finset.sum_pos (fun m _ => Real.exp_pos (s m)) Finset.univ_nonempty).ne'

/-- Shifting every score by one number leaves the weights alone. -/
theorem prob_shift (q : δ → ℝ) (K : μ → δ → ℝ) (M : ℝ) (m : μ) :
    Real.exp (score q K m - M) / ∑ m', Real.exp (score q K m' - M) = prob q K m := by
  unfold prob
  simp only [sub_eq_add_neg, Real.exp_add]
  rw [← Finset.sum_mul, mul_div_mul_right _ _ (Real.exp_pos _).ne']

/-- The softmax's gradient as differentiating the quotient writes it: the numerator's part and the denominator's. -/
theorem dscore_quotient [Nonempty μ] (q : δ → ℝ) (K V : μ → δ → ℝ) (w : δ → ℝ) (M : ℝ) (m : μ)
    (E : μ → ℝ) (hE : ∀ m, E m = Real.exp (score q K m - M)) :
    ((dprob w V m / (∑ m', E m') + -(∑ m', dprob w V m' * (1 / ((∑ m', E m') * (∑ m', E m'))) * E m')) * E m) * (1 / 16)
      = dscore q K V w m := by
  have hp : ∀ m, prob q K m = E m / ∑ m', E m' := fun m => by
    rw [← prob_shift q K M m, hE m]; simp only [hE]
  have hZ : (∑ m', E m') ≠ 0 := by simp only [hE]; exact sum_exp_ne _
  unfold dscore
  simp only [hp]
  have h1 : ∀ Z : ℝ, ∑ m', dprob w V m' * (1 / (Z * Z)) * E m' = (∑ m', E m' * dprob w V m') / (Z * Z) := fun Z => by
    rw [Finset.sum_div]; exact Finset.sum_congr rfl fun m' _ => by ring
  have h2 : ∀ Z : ℝ, ∑ m', E m' / Z * dprob w V m' = (∑ m', E m' * dprob w V m') / Z := fun Z => by
    rw [Finset.sum_div]; exact Finset.sum_congr rfl fun m' _ => by ring
  rw [h1, h2]
  field_simp
  ring

/-- A sum of real numbers, taken in the extended reals. -/
theorem coe_sum (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers whose divisor is not zero. -/
theorem coe_div (a : ℝ) {b : ℝ} (hb : b ≠ 0) : Ideal.div (a : EReal) (b : EReal) = ((a / b : ℝ) : EReal) := by
  rw [Ideal.div_coe hb, ← EReal.coe_mul]; congr 1; ring

/-- The greatest of finitely many real numbers is a real number. -/
theorem fold_max_coe (s : Finset ι) (hs : s.Nonempty) (f : ι → ℝ) :
    ∃ M : ℝ, s.fold max (⊥ : EReal) (fun i => ((f i : ℝ) : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

theorem ofBits_one : Ideal.ofBits .f32 0x3F800000#32 = ((1 : ℝ) : EReal) := by
  simp [Ideal.ofBits, Ideal.ieee]
  rw [← EReal.coe_one, ← EReal.coe_mul]
  norm_num
theorem ofBits_sixteenth : Ideal.ofBits .f32 0x3D800000#32 = ((1 / 16 : ℝ) : EReal) := by
  simp [Ideal.ofBits, Ideal.ieee]
  rw [← EReal.coe_mul]
  norm_num
theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]

/-! ## The four heads side by side: a row of 1024 columns, and the memory's 2048 columns (the keys, then the values) -/

/-- Column `d` of head `h` in a row. -/
def qCol (h : Fin 4) (d : Fin 256) : Fin 1024 := ⟨256 * h.val + d.val, by omega⟩
/-- Column `d` of head `h` among the keys. -/
def kCol (h : Fin 4) (d : Fin 256) : Fin 2048 := ⟨256 * h.val + d.val, by omega⟩
/-- Column `d` of head `h` among the values. -/
def vCol (h : Fin 4) (d : Fin 256) : Fin 2048 := ⟨1024 + 256 * h.val + d.val, by omega⟩

/-- A head's part of a row. -/
def part (x : Fin 1024 → ℝ) (h : Fin 4) (d : Fin 256) : ℝ := x (qCol h d)
/-- A head's keys. -/
def keys (kv : Fin 256 → Fin 2048 → ℝ) (h : Fin 4) (m d : Fin 256) : ℝ := kv m (kCol h d)
/-- A head's values. -/
def vals (kv : Fin 256 → Fin 2048 → ℝ) (h : Fin 4) (m d : Fin 256) : ℝ := kv m (vCol h d)

/-- The cotangent of the attention's output: the branch's, through the gate. -/
def gated (dy g : Fin 1024 → ℝ) (c : Fin 1024) : ℝ := dy c * (g c * sgm (g c))

/-- The attention's output row, by head and column. -/
def rowAttn (q : Fin 1024 → ℝ) (kv : Fin 256 → Fin 2048 → ℝ) (h : Fin 4) (d : Fin 256) : ℝ :=
  attn (part q h) (keys kv h) (vals kv h) d

/-- The query row's gradient, by head and column. -/
def rowDq (q : Fin 1024 → ℝ) (kv : Fin 256 → Fin 2048 → ℝ) (w : Fin 1024 → ℝ) (h : Fin 4) (d : Fin 256) : ℝ :=
  dquery (part q h) (keys kv h) (vals kv h) (part w h) d

/-- What one row adds to the keys' gradient. -/
def rowDk (q : Fin 1024 → ℝ) (kv : Fin 256 → Fin 2048 → ℝ) (w : Fin 1024 → ℝ) (h : Fin 4) (m d : Fin 256) : ℝ :=
  dscore (part q h) (keys kv h) (vals kv h) (part w h) m * q (qCol h d)

/-- What one row adds to the values' gradient. -/
def rowDv (q : Fin 1024 → ℝ) (kv : Fin 256 → Fin 2048 → ℝ) (w : Fin 1024 → ℝ) (h : Fin 4) (m d : Fin 256) : ℝ :=
  prob (part q h) (keys kv h) m * w (qCol h d)

/-- The head a column lies in. -/
def headOf (c : Fin 1024) : Fin 4 := ⟨c.val / 256, by omega⟩
/-- Where in its head a column lies. -/
def laneOf (c : Fin 1024) : Fin 256 := ⟨c.val % 256, by omega⟩

theorem headOf_qCol (h : Fin 4) (d : Fin 256) : headOf (qCol h d) = h := Fin.ext (by show (256 * h.val + d.val) / 256 = _; omega)
theorem laneOf_qCol (h : Fin 4) (d : Fin 256) : laneOf (qCol h d) = d := Fin.ext (by show (256 * h.val + d.val) % 256 = _; omega)
theorem qCol_headOf (c : Fin 1024) : qCol (headOf c) (laneOf c) = c := Fin.ext (by show 256 * (c.val / 256) + c.val % 256 = _; omega)

/-- What one row adds to the memory's gradient, at slot `m` and column `c`: the keys' part below column 1024, the values' from it on. -/
def rowDkv (q : Fin 1024 → ℝ) (kv : Fin 256 → Fin 2048 → ℝ) (w : Fin 1024 → ℝ) (m : Fin 256) (c : Fin 2048) : ℝ :=
  if h : c.val < 1024 then rowDk q kv w (headOf ⟨c.val, h⟩) m (laneOf ⟨c.val, h⟩)
  else rowDv q kv w (headOf ⟨c.val - 1024, by omega⟩) m (laneOf ⟨c.val - 1024, by omega⟩)

theorem rowDkv_kCol (q : Fin 1024 → ℝ) (kv : Fin 256 → Fin 2048 → ℝ) (w : Fin 1024 → ℝ) (m : Fin 256) (h : Fin 4) (d : Fin 256) :
    rowDkv q kv w m (kCol h d) = rowDk q kv w h m d := by
  unfold rowDkv
  rw [dif_pos (show (kCol h d).val < 1024 by show 256 * h.val + d.val < 1024; omega)]
  exact congrArg₂ (fun a b => rowDk q kv w a m b) (headOf_qCol h d) (laneOf_qCol h d)

theorem rowDkv_vCol (q : Fin 1024 → ℝ) (kv : Fin 256 → Fin 2048 → ℝ) (w : Fin 1024 → ℝ) (m : Fin 256) (h : Fin 4) (d : Fin 256) :
    rowDkv q kv w m (vCol h d) = rowDv q kv w h m d := by
  unfold rowDkv
  rw [dif_neg (show ¬(vCol h d).val < 1024 by show ¬(1024 + 256 * h.val + d.val < 1024); omega)]
  have e : (⟨(vCol h d).val - 1024, by omega⟩ : Fin 1024) = qCol h d :=
    Fin.ext (by show 1024 + 256 * h.val + d.val - 1024 = 256 * h.val + d.val; omega)
  rw [e, headOf_qCol, laneOf_qCol]

/-- Every column of the memory is one of a head's keys or values. -/
theorem col_cases (c : Fin 2048) : (∃ h d, c = kCol h d) ∨ (∃ h d, c = vCol h d) := by
  by_cases hc : c.val < 1024
  · exact .inl ⟨⟨c.val / 256, by omega⟩, ⟨c.val % 256, by omega⟩, Fin.ext (by show c.val = 256 * (c.val / 256) + c.val % 256; omega)⟩
  · exact .inr ⟨⟨(c.val - 1024) / 256, by omega⟩, ⟨(c.val - 1024) % 256, by omega⟩,
      Fin.ext (by show c.val = 1024 + 256 * ((c.val - 1024) / 256) + (c.val - 1024) % 256; omega)⟩

end Cert.Mem
-- ==== Proof.Head.lean ====
module

public import proofs.«01_k».proof.Proof.Gen.KernelIdeal.Value
public import proofs.«01_k».proof.Proof.Spec
public import Idealize.ShloMosaic.Lib.ValueIdx

/-!
What one head of one block computes.

The body runs the same operations for each of its four heads. `k0_pay3` … `k0_pay11` are the first head's; the others'
are those operations cut at other places, so each is the first head's by unfolding. Then each of the first head's results
is read at an entry, over the extended reals, on blocks whose entries are real numbers.
-/

@[expose] public section
set_option maxRecDepth 16384

noncomputable section
namespace Cert.KernelIdeal.Hand
open Cert.KernelIdeal Cert.KernelIdeal.Gen Idealize.ShloMosaic Idealize.ShloMosaic.TcCoe
open Idealize.ShloMosaic.ValueIdx
open Cert.Mem

section
variable {F : FTy → Type} [FloatOps F]
variable (q : Vec F S512x256 .bf16) (k v : Vec F S256x256 .bf16) (g dy o : Vec F S512x256 .f32) (acc : Vec F S256x256 .f32)

/-- A head's block of the query's gradient. -/
def headDq : FVec F S512x256 .bf16 := k0_pay9 k v (k0_pay5 g dy) (k0_pay6 q k)
/-- A head's block of the gate's gradient. -/
def headDg : FVec F S512x256 .bf16 := k0_pay4 g dy o
/-- A head's keys' gradient, added to what is there. -/
def headDk : FVec F S256x256 .f32 := k0_pay10 q v (k0_pay5 g dy) (k0_pay6 q k) acc
/-- A head's values' gradient, added to what is there. -/
def headDv : FVec F S256x256 .f32 := k0_pay11 (k0_pay5 g dy) (k0_pay6 q k) acc

theorem second_dq : k0_pay19 k (k0_pay15 q k) (k0_pay16 v g dy) (k0_pay17 q k v g dy) = headDq q k v g dy := rfl
theorem second_dg : k0_pay13 g dy o = headDg g dy o := rfl
theorem second_dk : k0_pay20 q (k0_pay15 q k) (k0_pay16 v g dy) (k0_pay17 q k v g dy) acc = headDk q k v g dy acc := rfl
theorem second_dv : k0_pay21 (k0_pay14 g dy) (k0_pay15 q k) acc = headDv q k g dy acc := rfl
theorem third_dq : k0_pay29 q k v g (k0_pay22 g) k0_pay23 dy = headDq q k v g dy := rfl
theorem third_dg : k0_pay25 g (k0_pay22 g) k0_pay23 dy o = headDg g dy o := rfl
theorem third_dk : k0_pay30 q (k0_pay28 q k v g (k0_pay22 g) k0_pay23 dy) acc = headDk q k v g dy acc := rfl
theorem third_dv : k0_pay31 (k0_pay26 g (k0_pay22 g) k0_pay23 dy) (k0_pay27 q k) acc = headDv q k g dy acc := rfl
theorem fourth_dq : k0_pay39 q k v g (k0_pay32 g) dy = headDq q k v g dy := rfl
theorem fourth_dg : k0_pay35 (k0_pay32 g) (k0_pay33 dy o) (k0_pay34 g) (Scalar.ofBits .f32 0x3F800000#32) = headDg g dy o := rfl
theorem fourth_dk : k0_pay40 q k v g (k0_pay32 g) dy acc = headDk q k v g dy acc := rfl
theorem fourth_dv : k0_pay1 (k0_pay36 g (k0_pay32 g) dy) (k0_pay37 q k) acc = headDv q k g dy acc := rfl
end

/-- A sum over the columns of a 512 × 256 block, spread back over them. -/
theorem rowSum_apply (x : FVec Ideal S512x256 .f32) (i : Fin 512) (m : Fin 256) :
    broadcastTo S512x256 (shapeCast S512x1 (multiReduction .add [1] S512 x 0x00000000#32 reduces_S512x256_S512 (.inl rfl) rfl)
      shapeCasts_S512_S512x1) broadcasts_S512x1_S512x256 (ix2 i m) = ∑ m' : Fin 256, x (ix2 i m') := by
  rw [broadcastTo_apply _ _ (ix2 i m) (ix2 i (0 : Fin 1)) (by intro a; match a with | ⟨0, _⟩ => rfl | ⟨1, _⟩ => rfl),
    shapeCast_apply _ _ (ix2 i (0 : Fin 1)) (ix1 i) (by rfl)]
  refine (Ideal.multiReduction_add_single x _ _ _ _ (ix1 i)).trans ?_
  refine Finset.sum_congr rfl fun m' _ => congrArg x ?_
  funext a; match a with | ⟨0, _⟩ => rfl | ⟨1, _⟩ => rfl

/-- The greatest entry of a row of a 512 × 256 block, spread back over its columns. -/
theorem rowMax_apply (x : FVec Ideal S512x256 .f32) (i : Fin 512) (m : Fin 256) :
    broadcastTo S512x256 (shapeCast S512x1 (multiReduction .maximumf [1] S512 x 0xFF800000#32 reduces_S512x256_S512 (.inl rfl) rfl)
      shapeCasts_S512_S512x1) broadcasts_S512x1_S512x256 (ix2 i m)
      = (Finset.univ : Finset (Fin 256)).fold max (⊥ : EReal) (fun m' => x (ix2 i m')) := by
  rw [broadcastTo_apply _ _ (ix2 i m) (ix2 i (0 : Fin 1)) (by intro a; match a with | ⟨0, _⟩ => rfl | ⟨1, _⟩ => rfl),
    shapeCast_apply _ _ (ix2 i (0 : Fin 1)) (ix1 i) (by rfl)]
  refine (Ideal.multiReduction_maximumf_single x _ _ _ _ (ix1 i)).trans ?_
  show Finset.fold max (Ideal.ofBits .f32 0xFF800000#32) _ _ = _
  rw [ofBits_neg_inf]
  refine congrArg (fun f => Finset.fold max (⊥ : EReal) f _) (funext fun m' => congrArg x ?_)
  funext a; match a with | ⟨0, _⟩ => rfl | ⟨1, _⟩ => rfl

/-- The product of two blocks over their last axes. -/
theorem matNT_apply (x : FVec Ideal S512x256 .bf16) (y : FVec Ideal S256x256 .bf16) (i : Fin 512) (m : Fin 256) :
    matmul dot_S512x256_S256x256_S512x256_1_1_0_0_n_n none x y (constant (F := Ideal) S512x256 .f32 0x00000000#32) (ix2 i m)
      = ∑ d : Fin 256, x (ix2 i d) * y (ix2 m d) := by
  simp only [matmul]
  rw [Ideal.matmul_constant_zero_apply, ← Equiv.sum_comp (contrEquiv1 dot_S512x256_S256x256_S512x256_1_1_0_0_n_n 256 rfl rfl).symm]
  refine Finset.sum_congr rfl fun z _ => congrArg₂ (· * ·) (congrArg x (funext fun a => Fin.ext ?_)) (congrArg y (funext fun a => Fin.ext ?_))
  · match a with | ⟨0, _⟩ => rfl | ⟨1, _⟩ => rfl
  · match a with | ⟨0, _⟩ => rfl | ⟨1, _⟩ => rfl

/-- The product of two blocks, rows by columns. -/
theorem matNN_apply (x : FVec Ideal S512x256 .bf16) (y : FVec Ideal S256x256 .bf16) (i : Fin 512) (d : Fin 256) :
    matmul dot_S512x256_S256x256_S512x256_1_0_0_1_n_n none x y (constant (F := Ideal) S512x256 .f32 0x00000000#32) (ix2 i d)
      = ∑ m : Fin 256, x (ix2 i m) * y (ix2 m d) := by
  simp only [matmul]
  rw [Ideal.matmul_constant_zero_apply, ← Equiv.sum_comp (contrEquiv1 dot_S512x256_S256x256_S512x256_1_0_0_1_n_n 256 rfl rfl).symm]
  refine Finset.sum_congr rfl fun z _ => congrArg₂ (· * ·) (congrArg x (funext fun a => Fin.ext ?_)) (congrArg y (funext fun a => Fin.ext ?_))
  · match a with | ⟨0, _⟩ => rfl | ⟨1, _⟩ => rfl
  · match a with | ⟨0, _⟩ => rfl | ⟨1, _⟩ => rfl

/-- The product of two blocks over their rows. -/
theorem matTN_apply (x : FVec Ideal S512x256 .bf16) (y : FVec Ideal S512x256 .bf16) (m d : Fin 256) :
    matmul dot_S512x256_S512x256_S256x256_0_0_1_1_n_n none x y (constant (F := Ideal) S256x256 .f32 0x00000000#32) (ix2 m d)
      = ∑ i : Fin 512, x (ix2 i m) * y (ix2 i d) := by
  simp only [matmul]
  rw [Ideal.matmul_constant_zero_apply, ← Equiv.sum_comp (contrEquiv1 dot_S512x256_S512x256_S256x256_0_0_1_1_n_n 512 rfl rfl).symm]
  refine Finset.sum_congr rfl fun z _ => congrArg₂ (· * ·) (congrArg x (funext fun a => Fin.ext ?_)) (congrArg y (funext fun a => Fin.ext ?_))
  · match a with | ⟨0, _⟩ => rfl | ⟨1, _⟩ => rfl
  · match a with | ⟨0, _⟩ => rfl | ⟨1, _⟩ => rfl

section
variable {q : Vec Ideal S512x256 .bf16} {k v : Vec Ideal S256x256 .bf16} {g dy o : Vec Ideal S512x256 .f32} {acc : Vec Ideal S256x256 .f32}
variable {Q : Fin 512 → Fin 256 → ℝ} {K V : Fin 256 → Fin 256 → ℝ} {G DY O : Fin 512 → Fin 256 → ℝ}
variable (hq : ∀ i d, (q (ix2 i d) : EReal) = (Q i d : ℝ)) (hk : ∀ m d, (k (ix2 m d) : EReal) = (K m d : ℝ))
  (hv : ∀ m d, (v (ix2 m d) : EReal) = (V m d : ℝ)) (hg : ∀ i d, (g (ix2 i d) : EReal) = (G i d : ℝ))
  (hdy : ∀ i d, (dy (ix2 i d) : EReal) = (DY i d : ℝ)) (ho : ∀ i d, (o (ix2 i d) : EReal) = (O i d : ℝ))

include hg in
/-- The logistic function of the gate. -/
theorem pay3_apply (i : Fin 512) (d : Fin 256) : k0_pay3 g (ix2 i d) = ((sgm (G i d) : ℝ) : EReal) := by
  unfold k0_pay3
  simp only [divf_apply, addf_apply, subf_apply, broadcast_apply]
  show Ideal.div (Ideal.ofBits .f32 0x3F800000#32)
    (Ideal.ofBits .f32 0x3F800000#32 + Ideal.exp (Ideal.ofBits .f32 0x00000000#32 - (g (ix2 i d) : EReal))) = _
  rw [hg, ofBits_one, Ideal.ofBits_zero_f32, zero_sub, ← EReal.coe_neg, Ideal.exp_coe, ← EReal.coe_add, coe_div _ (one_add_exp_ne _)]
  rfl

include hg hdy in
/-- The cotangent of the attention's output. -/
theorem pay5_apply (i : Fin 512) (d : Fin 256) :
    k0_pay5 g dy (ix2 i d) = ((DY i d * (G i d * sgm (G i d)) : ℝ) : EReal) := by
  unfold k0_pay5
  simp only [truncf_apply, mulf_apply, hg, hdy, pay3_apply hg]
  show ((DY i d : ℝ) : EReal) * (((G i d : ℝ) : EReal) * ((sgm (G i d) : ℝ) : EReal)) = _
  push_cast; rfl

include hg hdy ho in
/-- The gate's gradient. -/
theorem headDg_apply (i : Fin 512) (d : Fin 256) :
    headDg g dy o (ix2 i d) = ((DY i d * O i d * dgate (G i d) : ℝ) : EReal) := by
  unfold headDg k0_pay4
  simp only [truncf_apply, mulf_apply, addf_apply, subf_apply, broadcast_apply, shapeCast_self, hg, hdy, ho, pay3_apply hg]
  show ((DY i d : ℝ) : EReal) * ((O i d : ℝ) : EReal) * (((sgm (G i d) : ℝ) : EReal) * (Ideal.ofBits .f32 0x3F800000#32
    + ((G i d : ℝ) : EReal) * (Ideal.ofBits .f32 0x3F800000#32 - ((sgm (G i d) : ℝ) : EReal)))) = _
  rw [ofBits_one]
  unfold dgate
  push_cast; rfl

include hq hk in
/-- The scores. -/
theorem pay6_apply (i : Fin 512) (m : Fin 256) : k0_pay6 q k (ix2 i m) = ((score (Q i) K m : ℝ) : EReal) := by
  unfold k0_pay6
  rw [mulf_apply, matNT_apply, broadcast_apply]
  show (∑ d : Fin 256, (q (ix2 i d) : EReal) * (k (ix2 m d) : EReal)) * Ideal.ofBits .f32 0x3D800000#32 = _
  simp only [hq, hk, ← EReal.coe_mul]
  rw [coe_sum, ofBits_sixteenth, ← EReal.coe_mul]
  rfl

include hq hk in
/-- The weights. -/
theorem pay7_apply (i : Fin 512) (m : Fin 256) : k0_pay7 (k0_pay6 q k) (ix2 i m) = ((prob (Q i) K m : ℝ) : EReal) := by
  unfold k0_pay7
  dsimp only
  obtain ⟨M, hM⟩ := fold_max_coe (Finset.univ : Finset (Fin 256)) Finset.univ_nonempty (score (Q i) K)
  have he : ∀ m, exp (subf (k0_pay6 q k) (broadcastTo S512x256 (shapeCast S512x1 (multiReduction .maximumf [1] S512 (k0_pay6 q k)
      0xFF800000#32 reduces_S512x256_S512 (.inl rfl) rfl) shapeCasts_S512_S512x1) broadcasts_S512x1_S512x256)) (ix2 i m)
      = ((Real.exp (score (Q i) K m - M) : ℝ) : EReal) := fun m => by
    refine (congrArg Ideal.exp (subf_apply _ _ _)).trans ?_
    rw [rowMax_apply]
    simp only [pay6_apply hq hk]
    rw [hM, ← EReal.coe_sub, Ideal.exp_coe]
  rw [divf_apply, rowSum_apply]
  simp only [he]
  rw [coe_sum]
  exact (coe_div _ (sum_exp_ne _)).trans (congrArg _ (prob_shift _ _ _ _))

include hq hk hv hg hdy in
/-- The scores' cotangent. -/
theorem pay8_apply (i : Fin 512) (m : Fin 256) :
    k0_pay8 v (k0_pay5 g dy) (k0_pay6 q k) (ix2 i m)
      = ((dscore (Q i) K V (fun d => DY i d * (G i d * sgm (G i d))) m : ℝ) : EReal) := by
  have hd : ∀ m, matmul dot_S512x256_S256x256_S512x256_1_1_0_0_n_n none (k0_pay5 g dy) v
      (constant (F := Ideal) S512x256 .f32 0x00000000#32) (ix2 i m)
      = ((dprob (fun d => DY i d * (G i d * sgm (G i d))) V m : ℝ) : EReal) := fun m => by
    rw [matNT_apply]
    simp only [pay5_apply hg hdy]
    show ∑ d : Fin 256, _ * (v (ix2 m d) : EReal) = _
    simp only [hv, ← EReal.coe_mul]
    exact coe_sum _ _
  unfold k0_pay8
  dsimp only
  simp only [truncf_apply, mulf_apply, subf_apply, broadcast_apply, hd, pay7_apply hq hk]
  rw [rowSum_apply]
  simp only [mulf_apply, hd, pay7_apply hq hk]
  show ((prob (Q i) K m : ℝ) : EReal) * (((dprob (fun d => DY i d * (G i d * sgm (G i d))) V m : ℝ) : EReal)
    - ∑ m' : Fin 256, ((prob (Q i) K m' : ℝ) : EReal) * ((dprob (fun d => DY i d * (G i d * sgm (G i d))) V m' : ℝ) : EReal))
    * Ideal.ofBits .f32 0x3D800000#32 = _
  simp only [← EReal.coe_mul]
  rw [coe_sum, ofBits_sixteenth, ← EReal.coe_sub, ← EReal.coe_mul, ← EReal.coe_mul]
  rfl

include hq hk hv hg hdy in
/-- The query's gradient. -/
theorem headDq_apply (i : Fin 512) (d : Fin 256) :
    headDq q k v g dy (ix2 i d) = ((dquery (Q i) K V (fun d => DY i d * (G i d * sgm (G i d))) d : ℝ) : EReal) := by
  unfold headDq k0_pay9
  rw [truncf_apply, matNN_apply]
  simp only [pay8_apply hq hk hv hg hdy]
  show ∑ m : Fin 256, _ * (k (ix2 m d) : EReal) = _
  simp only [hk, ← EReal.coe_mul]
  exact coe_sum _ _

include hq hk hv hg hdy in
/-- The keys' gradient. -/
theorem headDk_apply (m d : Fin 256) :
    headDk q k v g dy acc (ix2 m d)
      = (acc (ix2 m d) : EReal)
        + ((∑ i, dscore (Q i) K V (fun d => DY i d * (G i d * sgm (G i d))) m * Q i d : ℝ) : EReal) := by
  unfold headDk k0_pay10
  rw [addf_apply, shapeCast_self, matTN_apply]
  simp only [pay8_apply hq hk hv hg hdy]
  show (acc (ix2 m d) : EReal) + ∑ i : Fin 512, _ * (q (ix2 i d) : EReal) = _
  simp only [hq, ← EReal.coe_mul]
  rw [coe_sum]

include hq hk hg hdy in
/-- The values' gradient. -/
theorem headDv_apply (m d : Fin 256) :
    headDv q k g dy acc (ix2 m d)
      = (acc (ix2 m d) : EReal) + ((∑ i, prob (Q i) K m * (DY i d * (G i d * sgm (G i d))) : ℝ) : EReal) := by
  unfold headDv k0_pay11
  rw [addf_apply, shapeCast_self, matTN_apply]
  simp only [truncf_apply, pay7_apply hq hk, pay5_apply hg hdy]
  show (acc (ix2 m d) : EReal) + ∑ i : Fin 512, ((prob (Q i) K m : ℝ) : EReal) * ((DY i d * (G i d * sgm (G i d)) : ℝ) : EReal) = _
  simp only [← EReal.coe_mul]
  rw [coe_sum]
end

end Cert.KernelIdeal.Hand
-- ==== Proof.Blocks.lean ====
module

public import proofs.«01_k».proof.Proof.Head
public import Idealize.ShloMosaic.Lib.WholeRead

/-!
What the body leaves in the outputs' blocks at one grid point, over the extended reals, where the input blocks' entries
are real numbers: the query's and the gate's gradients, and the memory's gradient added to what its block held before
(to nothing, at the first point).
-/

@[expose] public section
set_option maxRecDepth 16384

noncomputable section
namespace Cert.KernelIdeal.Hand
open Cert.KernelIdeal Cert.KernelIdeal.Gen Idealize.ShloMosaic Idealize.ShloMosaic.TcCoe Idealize.ShloMosaic.ValueIdx Cert.Mem

/-- Loading 256 columns of a block of 1024, from column `o` on. -/
theorem load1024 {e : EltTy} {M : Memref sig .tc .vmem S512x1024 e} (hM : M.IsWhole) (x : Vec Ideal S512x1024 e)
    (o : Nat) (inb : ∀ a, (![0, o] : Fin 2 → ℕ) a + S512x256.size a ≤ S512x1024.size a) (h : Fin 4) (ho : o = 256 * h.val)
    (i : Fin 512) (d : Fin 256) :
    View.readAt (Elt Ideal) M.view (Rect.unit (s := S512x1024) ![0, o] S512x256.size inb).toLoadRect (hM.unread x) (ix2 i d) = x (ix2 i (qCol h d)) := by
  subst ho
  rw [hM.readAt_unread]
  refine congrArg x (funext fun a => Fin.ext ?_)
  match a with
  | ⟨0, _⟩ => show 0 + 1 * i.val = i.val; omega
  | ⟨1, _⟩ => show 256 * h.val + 1 * d.val = 256 * h.val + d.val; omega

/-- Loading 256 columns of the memory's block, from column `o` on. -/
theorem load2048 {e : EltTy} {M : Memref sig .tc .vmem S256x2048 e} (hM : M.IsWhole) (x : Vec Ideal S256x2048 e)
    (o : Nat) (inb : ∀ a, (![0, o] : Fin 2 → ℕ) a + S256x256.size a ≤ S256x2048.size a) (m d : Fin 256) (c : Fin 2048) (hc : c.val = o + d.val) :
    View.readAt (Elt Ideal) M.view (Rect.unit (s := S256x2048) ![0, o] S256x256.size inb).toLoadRect (hM.unread x) (ix2 m d) = x (ix2 m c) := by
  rw [hM.readAt_unread]
  refine congrArg x (funext fun a => Fin.ext ?_)
  match a with
  | ⟨0, _⟩ => show 0 + 1 * m.val = m.val; omega
  | ⟨1, _⟩ => show o + 1 * d.val = c.val; omega

/-- Where a store of 256 columns puts its entries, in a block of 1024. -/
theorem emb1024 (o : Nat) (inb : ∀ a, (![0, o] : Fin 2 → ℕ) a + S512x256.size a ≤ S512x1024.size a) (h : Fin 4) (ho : o = 256 * h.val)
    (i : Fin 512) (d : Fin 256) : (Rect.unit (s := S512x1024) ![0, o] S512x256.size inb).emb (ix2 i d) = ix2 i (qCol h d) := by
  subst ho
  refine funext fun a => Fin.ext ?_
  match a with
  | ⟨0, _⟩ => show 0 + 1 * i.val = i.val; omega
  | ⟨1, _⟩ => show 256 * h.val + 1 * d.val = 256 * h.val + d.val; omega

/-- Where a store of 256 columns puts its entries, in the memory's block. -/
theorem emb2048 (o : Nat) (inb : ∀ a, (![0, o] : Fin 2 → ℕ) a + S256x256.size a ≤ S256x2048.size a) (m d : Fin 256) (c : Fin 2048)
    (hc : c.val = o + d.val) : (Rect.unit (s := S256x2048) ![0, o] S256x256.size inb).emb (ix2 m d) = ix2 m c := by
  refine funext fun a => Fin.ext ?_
  match a with
  | ⟨0, _⟩ => show 0 + 1 * m.val = m.val; omega
  | ⟨1, _⟩ => show o + 1 * d.val = c.val; omega

section
variable (c : Dev nD) (i : grid0.Coords) (arg1 : Memref sig .tc .vmem S512x1024 .bf16) (harg1 : arg1.IsWhole)
  (arg2 : Memref sig .tc .vmem S256x2048 .bf16) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S512x1024 .bf16) (harg6 : arg6.IsWhole) (arg7 : Memref sig .tc .vmem S512x1024 .bf16) (harg7 : arg7.IsWhole)
  (arg8 : Memref sig .tc .vmem S256x2048 .f32) (harg8 : arg8.IsWhole)
variable (x0 : Vec Ideal S512x1024 .bf16) (x1 : Vec Ideal S256x2048 .bf16) (x2 x3 x4 : Vec Ideal S512x1024 .f32)
  (xo7 : Vec Ideal S256x2048 .f32)
variable (X0 X2 X3 X4 : Fin 512 → Fin 1024 → ℝ) (X1 : Fin 256 → Fin 2048 → ℝ)
variable (h0 : ∀ i c, (x0 (ix2 i c) : EReal) = (X0 i c : ℝ)) (h1 : ∀ m c, (x1 (ix2 m c) : EReal) = (X1 m c : ℝ))
  (h2 : ∀ i c, (x2 (ix2 i c) : EReal) = (X2 i c : ℝ)) (h3 : ∀ i c, (x3 (ix2 i c) : EReal) = (X3 i c : ℝ))
  (h4 : ∀ i c, (x4 (ix2 i c) : EReal) = (X4 i c : ℝ))

/-- The query's gradient, at a block's entry. -/
def blockDq (y : S512x1024.Idx) : EReal :=
  ((rowDq (X0 (y 0)) X1 (gated (X4 (y 0)) (X2 (y 0))) (headOf (y 1)) (laneOf (y 1)) : ℝ) : EReal)

/-- The gate's gradient, at a block's entry. -/
def blockDg (y : S512x1024.Idx) : EReal := ((X4 (y 0) (y 1) * X3 (y 0) (y 1) * dgate (X2 (y 0) (y 1)) : ℝ) : EReal)

theorem blockDq_qCol (i : Fin 512) (h : Fin 4) (d : Fin 256) :
    blockDq X0 X2 X4 X1 (ix2 i (qCol h d)) = ((rowDq (X0 i) X1 (gated (X4 i) (X2 i)) h d : ℝ) : EReal) := by
  show ((rowDq (X0 i) X1 (gated (X4 i) (X2 i)) (headOf (qCol h d)) (laneOf (qCol h d)) : ℝ) : EReal) = _
  rw [headOf_qCol, laneOf_qCol]

/-- The memory's gradient over the block's rows, added to what `base` holds. -/
def blockDkv (base : S256x2048.Idx → EReal) (y : S256x2048.Idx) : EReal :=
  base y + ((∑ r : Fin 512, rowDkv (X0 r) X1 (gated (X4 r) (X2 r)) (y 0) (y 1) : ℝ) : EReal)

include h0 h1 h2 h4 in
/-- One head's store of the query's gradient. -/
theorem piece_dq (h : Fin 4) (o ov : Nat) (ho : o = 256 * h.val) (hov : ov = 1024 + 256 * h.val) (inb inb' inb'' inbs)
    (x : (Rect.unit (s := S512x1024) ![0, o] S512x256.size inbs).shape.Idx) :
    (headDq (F := Ideal) (View.readAt (Elt Ideal) arg1.view (Rect.unit (s := S512x1024) ![0, o] S512x256.size inb).toLoadRect (harg1.unread x0))
      (View.readAt (Elt Ideal) arg2.view (Rect.unit (s := S256x2048) ![0, o] S256x256.size inb').toLoadRect (harg2.unread x1))
      (View.readAt (Elt Ideal) arg2.view (Rect.unit (s := S256x2048) ![0, ov] S256x256.size inb'').toLoadRect (harg2.unread x1))
      (View.readAt (Elt Ideal) arg3.view (Rect.unit (s := S512x1024) ![0, o] S512x256.size inb).toLoadRect (harg3.unread x2))
      (View.readAt (Elt Ideal) arg5.view (Rect.unit (s := S512x1024) ![0, o] S512x256.size inb).toLoadRect (harg5.unread x4)) x : EReal)
      = blockDq X0 X2 X4 X1 ((Rect.unit (s := S512x1024) ![0, o] S512x256.size inbs).emb x) := by
  obtain ⟨r, d, rfl⟩ : ∃ (r : Fin 512) (d : Fin 256), x = ix2 r d := ⟨x 0, x 1, eq_ix2 x⟩
  rw [emb1024 o inbs h ho, blockDq_qCol]
  exact headDq_apply (fun r d => (load1024 harg1 x0 o inb h ho r d).trans (h0 r _))
    (fun m d => (load2048 harg2 x1 o inb' m d (kCol h d) (by rw [ho]; rfl)).trans (h1 m _))
    (fun m d => (load2048 harg2 x1 ov inb'' m d (vCol h d) (by rw [hov]; rfl)).trans (h1 m _))
    (fun r d => (load1024 harg3 x2 o inb h ho r d).trans (h2 r _))
    (fun r d => (load1024 harg5 x4 o inb h ho r d).trans (h4 r _)) r d

include h2 h3 h4 in
/-- One head's store of the gate's gradient. -/
theorem piece_dg (h : Fin 4) (o : Nat) (ho : o = 256 * h.val) (inb inbs)
    (x : (Rect.unit (s := S512x1024) ![0, o] S512x256.size inbs).shape.Idx) :
    (headDg (F := Ideal) (View.readAt (Elt Ideal) arg3.view (Rect.unit (s := S512x1024) ![0, o] S512x256.size inb).toLoadRect (harg3.unread x2))
      (View.readAt (Elt Ideal) arg5.view (Rect.unit (s := S512x1024) ![0, o] S512x256.size inb).toLoadRect (harg5.unread x4))
      (View.readAt (Elt Ideal) arg4.view (Rect.unit (s := S512x1024) ![0, o] S512x256.size inb).toLoadRect (harg4.unread x3)) x : EReal)
      = blockDg X2 X3 X4 ((Rect.unit (s := S512x1024) ![0, o] S512x256.size inbs).emb x) := by
  obtain ⟨r, d, rfl⟩ : ∃ (r : Fin 512) (d : Fin 256), x = ix2 r d := ⟨x 0, x 1, eq_ix2 x⟩
  rw [emb1024 o inbs h ho]
  exact headDg_apply (fun r d => (load1024 harg3 x2 o inb h ho r d).trans (h2 r _))
    (fun r d => (load1024 harg5 x4 o inb h ho r d).trans (h4 r _))
    (fun r d => (load1024 harg4 x3 o inb h ho r d).trans (h3 r _)) r d

include h0 h1 h2 h4 in
/-- One head's store of the keys' gradient, added to a loaded block. -/
theorem piece_dk (h : Fin 4) (o ov : Nat) (ho : o = 256 * h.val) (hov : ov = 1024 + 256 * h.val) (inb inb' inb'' inbs)
    (acc : Vec Ideal S256x256 .f32) (base : S256x2048.Idx → EReal) (hacc : ∀ m d, (acc (ix2 m d) : EReal) = base (ix2 m (kCol h d)))
    (x : (Rect.unit (s := S256x2048) ![0, o] S256x256.size inbs).shape.Idx) :
    (headDk (F := Ideal) (View.readAt (Elt Ideal) arg1.view (Rect.unit (s := S512x1024) ![0, o] S512x256.size inb).toLoadRect (harg1.unread x0))
      (View.readAt (Elt Ideal) arg2.view (Rect.unit (s := S256x2048) ![0, o] S256x256.size inb').toLoadRect (harg2.unread x1))
      (View.readAt (Elt Ideal) arg2.view (Rect.unit (s := S256x2048) ![0, ov] S256x256.size inb'').toLoadRect (harg2.unread x1))
      (View.readAt (Elt Ideal) arg3.view (Rect.unit (s := S512x1024) ![0, o] S512x256.size inb).toLoadRect (harg3.unread x2))
      (View.readAt (Elt Ideal) arg5.view (Rect.unit (s := S512x1024) ![0, o] S512x256.size inb).toLoadRect (harg5.unread x4)) acc x : EReal)
      = blockDkv X0 X2 X4 X1 base ((Rect.unit (s := S256x2048) ![0, o] S256x256.size inbs).emb x) := by
  obtain ⟨m, d, rfl⟩ : ∃ (m d : Fin 256), x = ix2 m d := ⟨x 0, x 1, eq_ix2 x⟩
  rw [emb2048 o inbs m d (kCol h d) (by rw [ho]; rfl)]
  refine (headDk_apply (fun r d => (load1024 harg1 x0 o inb h ho r d).trans (h0 r _))
    (fun m d => (load2048 harg2 x1 o inb' m d (kCol h d) (by rw [ho]; rfl)).trans (h1 m _))
    (fun m d => (load2048 harg2 x1 ov inb'' m d (vCol h d) (by rw [hov]; rfl)).trans (h1 m _))
    (fun r d => (load1024 harg3 x2 o inb h ho r d).trans (h2 r _))
    (fun r d => (load1024 harg5 x4 o inb h ho r d).trans (h4 r _)) m d).trans ?_
  refine congrArg₂ (fun a b : EReal => a + b) (hacc m d) (congrArg _ (Finset.sum_congr rfl fun r _ => ?_))
  exact (rowDkv_kCol (X0 r) X1 (gated (X4 r) (X2 r)) m h d).symm

include h0 h1 h2 h4 in
/-- One head's store of the values' gradient, added to a loaded block. -/
theorem piece_dv (h : Fin 4) (o ov : Nat) (ho : o = 256 * h.val) (hov : ov = 1024 + 256 * h.val) (inb inb' inbs)
    (acc : Vec Ideal S256x256 .f32) (base : S256x2048.Idx → EReal) (hacc : ∀ m d, (acc (ix2 m d) : EReal) = base (ix2 m (vCol h d)))
    (x : (Rect.unit (s := S256x2048) ![0, ov] S256x256.size inbs).shape.Idx) :
    (headDv (F := Ideal) (View.readAt (Elt Ideal) arg1.view (Rect.unit (s := S512x1024) ![0, o] S512x256.size inb).toLoadRect (harg1.unread x0))
      (View.readAt (Elt Ideal) arg2.view (Rect.unit (s := S256x2048) ![0, o] S256x256.size inb').toLoadRect (harg2.unread x1))
      (View.readAt (Elt Ideal) arg3.view (Rect.unit (s := S512x1024) ![0, o] S512x256.size inb).toLoadRect (harg3.unread x2))
      (View.readAt (Elt Ideal) arg5.view (Rect.unit (s := S512x1024) ![0, o] S512x256.size inb).toLoadRect (harg5.unread x4)) acc x : EReal)
      = blockDkv X0 X2 X4 X1 base ((Rect.unit (s := S256x2048) ![0, ov] S256x256.size inbs).emb x) := by
  obtain ⟨m, d, rfl⟩ : ∃ (m d : Fin 256), x = ix2 m d := ⟨x 0, x 1, eq_ix2 x⟩
  rw [emb2048 ov inbs m d (vCol h d) (by rw [hov]; rfl)]
  refine (headDv_apply (fun r d => (load1024 harg1 x0 o inb h ho r d).trans (h0 r _))
    (fun m d => (load2048 harg2 x1 o inb' m d (kCol h d) (by rw [ho]; rfl)).trans (h1 m _))
    (fun r d => (load1024 harg3 x2 o inb h ho r d).trans (h2 r _))
    (fun r d => (load1024 harg5 x4 o inb h ho r d).trans (h4 r _)) m d).trans ?_
  refine congrArg₂ (fun a b : EReal => a + b) (hacc m d) (congrArg _ (Finset.sum_congr rfl fun r _ => ?_))
  exact (rowDkv_vCol (X0 r) X1 (gated (X4 r) (X2 r)) m h d).symm

include h0 h1 h2 h4 in
/-- The query's gradient, at a point after the first. -/
theorem out_B_5 (hc0 : ¬cond0_0 i) (y : S512x1024.Idx) :
    out0_B_5 c i arg1 harg1 arg2 harg2 arg3 harg3 arg4 harg4 arg5 harg5 arg6 harg6 arg7 harg7 arg8 harg8 hc0 x0 x1 x2 x3 x4 xo7 y
      = blockDq X0 X2 X4 X1 y := by
  have hcov := cover0_B_5 c i arg1 harg1 arg2 harg2 arg3 harg3 arg4 harg4 arg5 harg5 arg6 harg6 arg7 harg7 arg8 harg8 hc0 x0 x1 x2 x3 x4 xo7 y
  unfold out0_B_5
  refine View.read_writes_apply_of_pieces _ _ (blockDq X0 X2 X4 X1) _ ?_ y hcov
  clear hcov
  unfold kernelRun0_B
  dsimp only
  sl_unfold_run_names
  refine List.forall_mem_cons.2 ⟨fun x => ?_, List.forall_mem_cons.2 ⟨fun x => ?_, List.forall_mem_cons.2 ⟨fun x => ?_, List.forall_mem_singleton.2 fun x => ?_⟩⟩⟩
  · exact (congrFun (fourth_dq _ _ _ _ _) x).trans (piece_dq arg1 harg1 arg2 harg2 arg3 harg3 arg5 harg5 x0 x1 x2 x4 X0 X2 X4 X1 h0 h1 h2 h4 3 768 1792 rfl rfl _ _ _ inb_S512x1024_S512x256_0_768 x)
  · exact (congrFun (third_dq _ _ _ _ _) x).trans (piece_dq arg1 harg1 arg2 harg2 arg3 harg3 arg5 harg5 x0 x1 x2 x4 X0 X2 X4 X1 h0 h1 h2 h4 2 512 1536 rfl rfl _ _ _ inb_S512x1024_S512x256_0_512 x)
  · exact (congrFun (second_dq _ _ _ _ _) x).trans (piece_dq arg1 harg1 arg2 harg2 arg3 harg3 arg5 harg5 x0 x1 x2 x4 X0 X2 X4 X1 h0 h1 h2 h4 1 256 1280 rfl rfl _ _ _ inb_S512x1024_S512x256_0_256 x)
  · exact piece_dq arg1 harg1 arg2 harg2 arg3 harg3 arg5 harg5 x0 x1 x2 x4 X0 X2 X4 X1 h0 h1 h2 h4 0 0 1024 rfl rfl _ _ _ inb_S512x1024_S512x256_0_0 x

include h0 h1 h2 h4 in
/-- The query's gradient, at the first point. -/
theorem out_A_5 (hc0 : cond0_0 i) (y : S512x1024.Idx) :
    out0_A_5 c i arg1 harg1 arg2 harg2 arg3 harg3 arg4 harg4 arg5 harg5 arg6 harg6 arg7 harg7 arg8 harg8 hc0 x0 x1 x2 x3 x4 y
      = blockDq X0 X2 X4 X1 y := by
  have hcov := cover0_A_5 c i arg1 harg1 arg2 harg2 arg3 harg3 arg4 harg4 arg5 harg5 arg6 harg6 arg7 harg7 arg8 harg8 hc0 x0 x1 x2 x3 x4 y
  unfold out0_A_5
  refine View.read_writes_apply_of_pieces _ _ (blockDq X0 X2 X4 X1) _ ?_ y hcov
  clear hcov
  unfold kernelRun0_A
  dsimp only
  sl_unfold_run_names
  refine List.forall_mem_cons.2 ⟨fun x => ?_, List.forall_mem_cons.2 ⟨fun x => ?_, List.forall_mem_cons.2 ⟨fun x => ?_, List.forall_mem_singleton.2 fun x => ?_⟩⟩⟩
  · exact (congrFun (fourth_dq _ _ _ _ _) x).trans (piece_dq arg1 harg1 arg2 harg2 arg3 harg3 arg5 harg5 x0 x1 x2 x4 X0 X2 X4 X1 h0 h1 h2 h4 3 768 1792 rfl rfl _ _ _ inb_S512x1024_S512x256_0_768 x)
  · exact (congrFun (third_dq _ _ _ _ _) x).trans (piece_dq arg1 harg1 arg2 harg2 arg3 harg3 arg5 harg5 x0 x1 x2 x4 X0 X2 X4 X1 h0 h1 h2 h4 2 512 1536 rfl rfl _ _ _ inb_S512x1024_S512x256_0_512 x)
  · exact (congrFun (second_dq _ _ _ _ _) x).trans (piece_dq arg1 harg1 arg2 harg2 arg3 harg3 arg5 harg5 x0 x1 x2 x4 X0 X2 X4 X1 h0 h1 h2 h4 1 256 1280 rfl rfl _ _ _ inb_S512x1024_S512x256_0_256 x)
  · exact piece_dq arg1 harg1 arg2 harg2 arg3 harg3 arg5 harg5 x0 x1 x2 x4 X0 X2 X4 X1 h0 h1 h2 h4 0 0 1024 rfl rfl _ _ _ inb_S512x1024_S512x256_0_0 x

include h2 h3 h4 in
/-- The gate's gradient, at a point after the first. -/
theorem out_B_6 (hc0 : ¬cond0_0 i) (y : S512x1024.Idx) :
    out0_B_6 c i arg1 harg1 arg2 harg2 arg3 harg3 arg4 harg4 arg5 harg5 arg6 harg6 arg7 harg7 arg8 harg8 hc0 x0 x1 x2 x3 x4 xo7 y
      = blockDg X2 X3 X4 y := by
  have hcov := cover0_B_6 c i arg1 harg1 arg2 harg2 arg3 harg3 arg4 harg4 arg5 harg5 arg6 harg6 arg7 harg7 arg8 harg8 hc0 x0 x1 x2 x3 x4 xo7 y
  unfold out0_B_6
  refine View.read_writes_apply_of_pieces _ _ (blockDg X2 X3 X4) _ ?_ y hcov
  clear hcov
  unfold kernelRun0_B
  dsimp only
  sl_unfold_run_names
  refine List.forall_mem_cons.2 ⟨fun x => ?_, List.forall_mem_cons.2 ⟨fun x => ?_, List.forall_mem_cons.2 ⟨fun x => ?_, List.forall_mem_singleton.2 fun x => ?_⟩⟩⟩
  · exact (congrFun (fourth_dg _ _ _) x).trans (piece_dg arg3 harg3 arg4 harg4 arg5 harg5 x2 x3 x4 X2 X3 X4 h2 h3 h4 3 768 rfl _ inb_S512x1024_S512x256_0_768 x)
  · exact (congrFun (third_dg _ _ _) x).trans (piece_dg arg3 harg3 arg4 harg4 arg5 harg5 x2 x3 x4 X2 X3 X4 h2 h3 h4 2 512 rfl _ inb_S512x1024_S512x256_0_512 x)
  · exact (congrFun (second_dg _ _ _) x).trans (piece_dg arg3 harg3 arg4 harg4 arg5 harg5 x2 x3 x4 X2 X3 X4 h2 h3 h4 1 256 rfl _ inb_S512x1024_S512x256_0_256 x)
  · exact piece_dg arg3 harg3 arg4 harg4 arg5 harg5 x2 x3 x4 X2 X3 X4 h2 h3 h4 0 0 rfl _ inb_S512x1024_S512x256_0_0 x

include h2 h3 h4 in
/-- The gate's gradient, at the first point. -/
theorem out_A_6 (hc0 : cond0_0 i) (y : S512x1024.Idx) :
    out0_A_6 c i arg1 harg1 arg2 harg2 arg3 harg3 arg4 harg4 arg5 harg5 arg6 harg6 arg7 harg7 arg8 harg8 hc0 x0 x1 x2 x3 x4 y
      = blockDg X2 X3 X4 y := by
  have hcov := cover0_A_6 c i arg1 harg1 arg2 harg2 arg3 harg3 arg4 harg4 arg5 harg5 arg6 harg6 arg7 harg7 arg8 harg8 hc0 x0 x1 x2 x3 x4 y
  unfold out0_A_6
  refine View.read_writes_apply_of_pieces _ _ (blockDg X2 X3 X4) _ ?_ y hcov
  clear hcov
  unfold kernelRun0_A
  dsimp only
  sl_unfold_run_names
  refine List.forall_mem_cons.2 ⟨fun x => ?_, List.forall_mem_cons.2 ⟨fun x => ?_, List.forall_mem_cons.2 ⟨fun x => ?_, List.forall_mem_singleton.2 fun x => ?_⟩⟩⟩
  · exact (congrFun (fourth_dg _ _ _) x).trans (piece_dg arg3 harg3 arg4 harg4 arg5 harg5 x2 x3 x4 X2 X3 X4 h2 h3 h4 3 768 rfl _ inb_S512x1024_S512x256_0_768 x)
  · exact (congrFun (third_dg _ _ _) x).trans (piece_dg arg3 harg3 arg4 harg4 arg5 harg5 x2 x3 x4 X2 X3 X4 h2 h3 h4 2 512 rfl _ inb_S512x1024_S512x256_0_512 x)
  · exact (congrFun (second_dg _ _ _) x).trans (piece_dg arg3 harg3 arg4 harg4 arg5 harg5 x2 x3 x4 X2 X3 X4 h2 h3 h4 1 256 rfl _ inb_S512x1024_S512x256_0_256 x)
  · exact piece_dg arg3 harg3 arg4 harg4 arg5 harg5 x2 x3 x4 X2 X3 X4 h2 h3 h4 0 0 rfl _ inb_S512x1024_S512x256_0_0 x

include h0 h1 h2 h4 in
/-- The memory's gradient, at a point after the first: added to what the block held. -/
theorem out_B_7 (hc0 : ¬cond0_0 i) (y : S256x2048.Idx) :
    out0_B_7 c i arg1 harg1 arg2 harg2 arg3 harg3 arg4 harg4 arg5 harg5 arg6 harg6 arg7 harg7 arg8 harg8 hc0 x0 x1 x2 x3 x4 xo7 y
      = blockDkv X0 X2 X4 X1 xo7 y := by
  have hcov := cover0_B_7 c i arg1 harg1 arg2 harg2 arg3 harg3 arg4 harg4 arg5 harg5 arg6 harg6 arg7 harg7 arg8 harg8 hc0 x0 x1 x2 x3 x4 xo7 y
  unfold out0_B_7
  refine View.read_writes_apply_of_pieces _ _ (blockDkv X0 X2 X4 X1 xo7) _ ?_ y hcov
  clear hcov
  unfold kernelRun0_B
  dsimp only
  sl_unfold_run_names
  refine List.forall_mem_cons.2 ⟨fun x => ?_, List.forall_mem_cons.2 ⟨fun x => ?_, List.forall_mem_cons.2 ⟨fun x => ?_, List.forall_mem_cons.2 ⟨fun x => ?_, ?_⟩⟩⟩⟩
  · exact (congrFun (fourth_dv _ _ _ _ _) x).trans (piece_dv arg1 harg1 arg2 harg2 arg3 harg3 arg5 harg5 x0 x1 x2 x4 X0 X2 X4 X1 h0 h1 h2 h4 3 768 1792 rfl rfl _ _ inb_S256x2048_S256x256_0_1792 _ xo7 (fun m d => load2048 harg8 xo7 1792 _ m d (vCol 3 d) rfl) x)
  · exact (congrFun (fourth_dk _ _ _ _ _ _) x).trans (piece_dk arg1 harg1 arg2 harg2 arg3 harg3 arg5 harg5 x0 x1 x2 x4 X0 X2 X4 X1 h0 h1 h2 h4 3 768 1792 rfl rfl _ _ _ inb_S256x2048_S256x256_0_768 _ xo7 (fun m d => load2048 harg8 xo7 768 _ m d (kCol 3 d) rfl) x)
  · exact (congrFun (third_dv _ _ _ _ _) x).trans (piece_dv arg1 harg1 arg2 harg2 arg3 harg3 arg5 harg5 x0 x1 x2 x4 X0 X2 X4 X1 h0 h1 h2 h4 2 512 1536 rfl rfl _ _ inb_S256x2048_S256x256_0_1536 _ xo7 (fun m d => load2048 harg8 xo7 1536 _ m d (vCol 2 d) rfl) x)
  · exact (congrFun (third_dk _ _ _ _ _ _) x).trans (piece_dk arg1 harg1 arg2 harg2 arg3 harg3 arg5 harg5 x0 x1 x2 x4 X0 X2 X4 X1 h0 h1 h2 h4 2 512 1536 rfl rfl _ _ _ inb_S256x2048_S256x256_0_512 _ xo7 (fun m d => load2048 harg8 xo7 512 _ m d (kCol 2 d) rfl) x)
  refine List.forall_mem_cons.2 ⟨fun x => ?_, List.forall_mem_cons.2 ⟨fun x => ?_, List.forall_mem_cons.2 ⟨fun x => ?_, List.forall_mem_singleton.2 fun x => ?_⟩⟩⟩
  · exact (congrFun (second_dv _ _ _ _ _) x).trans (piece_dv arg1 harg1 arg2 harg2 arg3 harg3 arg5 harg5 x0 x1 x2 x4 X0 X2 X4 X1 h0 h1 h2 h4 1 256 1280 rfl rfl _ _ inb_S256x2048_S256x256_0_1280 _ xo7 (fun m d => load2048 harg8 xo7 1280 _ m d (vCol 1 d) rfl) x)
  · exact (congrFun (second_dk _ _ _ _ _ _) x).trans (piece_dk arg1 harg1 arg2 harg2 arg3 harg3 arg5 harg5 x0 x1 x2 x4 X0 X2 X4 X1 h0 h1 h2 h4 1 256 1280 rfl rfl _ _ _ inb_S256x2048_S256x256_0_256 _ xo7 (fun m d => load2048 harg8 xo7 256 _ m d (kCol 1 d) rfl) x)
  · exact piece_dv arg1 harg1 arg2 harg2 arg3 harg3 arg5 harg5 x0 x1 x2 x4 X0 X2 X4 X1 h0 h1 h2 h4 0 0 1024 rfl rfl _ _ inb_S256x2048_S256x256_0_1024 _ xo7 (fun m d => load2048 harg8 xo7 1024 _ m d (vCol 0 d) rfl) x
  · exact piece_dk arg1 harg1 arg2 harg2 arg3 harg3 arg5 harg5 x0 x1 x2 x4 X0 X2 X4 X1 h0 h1 h2 h4 0 0 1024 rfl rfl _ _ _ inb_S256x2048_S256x256_0_0 _ xo7 (fun m d => load2048 harg8 xo7 0 _ m d (kCol 0 d) rfl) x

end

end Cert.KernelIdeal.Hand
-- ==== Proof.BlocksFirst.lean ====
module

public import proofs.«01_k».proof.Proof.Blocks
public import Idealize.ShloMosaic.Lib.WritesUnit

/-!
The memory's gradient at the first grid point. The body first fills the block with zeros and then adds each head's keys'
and values' gradients to what it reads back; the eight parts do not meet, so what it reads back is always the zeros.
-/

@[expose] public section
set_option maxRecDepth 16384

noncomputable section
namespace Cert.KernelIdeal.Hand
open Cert.KernelIdeal Cert.KernelIdeal.Gen Idealize.ShloMosaic Idealize.ShloMosaic.TcCoe Idealize.ShloMosaic.ValueIdx Cert.Mem

/-- Reading past a store of 256 columns that `y` does not lie in. -/
theorem read_skip {κ : Kind} {sp : Space} (v : View sig κ sp S256x2048 .f32) (f : v.ty.Contents (Elt Ideal)) (o : Nat)
    (inb : ∀ a, (![0, o] : Fin 2 → ℕ) a + S256x256.size a ≤ S256x2048.size a) (w : FVec Ideal S256x256 .f32)
    (L : List (View.Piece (Elt Ideal) S256x2048 .f32)) (y : S256x2048.Idx) (hy : (y 1).val < o ∨ o + 256 ≤ (y 1).val) :
    v.read (Elt Ideal) (v.writes (Elt Ideal) f (⟨Rect.unit (s := S256x2048) ![0, o] S256x256.size inb, w⟩ :: L)) y
      = v.read (Elt Ideal) (v.writes (Elt Ideal) f L) y :=
  View.read_writes_cons_unit_of_not_mem v f inb w L y rfl 1 hy

/-- Reading where the last store wrote, or else what the stores before it wrote. -/
theorem read_step {κ : Kind} {sp : Space} (v : View sig κ sp S256x2048 .f32) (f : v.ty.Contents (Elt Ideal)) (o : Nat)
    (inb : ∀ a, (![0, o] : Fin 2 → ℕ) a + S256x256.size a ≤ S256x2048.size a) (w : FVec Ideal S256x256 .f32)
    (L : List (View.Piece (Elt Ideal) S256x2048 .f32)) (G : S256x2048.Idx → EReal) (y : S256x2048.Idx)
    (hw : ∀ x : (Rect.unit (s := S256x2048) ![0, o] S256x256.size inb).shape.Idx,
      (w x : EReal) = G ((Rect.unit (s := S256x2048) ![0, o] S256x256.size inb).emb x))
    (hy : ((y 1).val < o ∨ o + 256 ≤ (y 1).val) → v.read (Elt Ideal) (v.writes (Elt Ideal) f L) y = G y) :
    v.read (Elt Ideal) (v.writes (Elt Ideal) f (⟨Rect.unit (s := S256x2048) ![0, o] S256x256.size inb, w⟩ :: L)) y = G y := by
  by_cases h : (y 1).val < o ∨ o + 256 ≤ (y 1).val
  · exact (read_skip v f o inb w L y h).trans (hy h)
  · have e : (Rect.unit (s := S256x2048) ![0, o] S256x256.size inb).emb (ix2 (y 0) (⟨(y 1).val - o, by omega⟩ : Fin 256)) = y := by
      rw [emb2048 o inb (y 0) ⟨(y 1).val - o, by omega⟩ (y 1) (by show (y 1).val = o + ((y 1).val - o); omega)]
      exact (eq_ix2 y).symm
    conv_lhs => rw [← e]
    rw [View.read_writes_cons_emb, hw, e]

section
variable (c : Dev nD) (i : grid0.Coords) (arg1 : Memref sig .tc .vmem S512x1024 .bf16) (harg1 : arg1.IsWhole)
  (arg2 : Memref sig .tc .vmem S256x2048 .bf16) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S512x1024 .bf16) (harg6 : arg6.IsWhole) (arg7 : Memref sig .tc .vmem S512x1024 .bf16) (harg7 : arg7.IsWhole)
  (arg8 : Memref sig .tc .vmem S256x2048 .f32) (harg8 : arg8.IsWhole)
variable (x0 : Vec Ideal S512x1024 .bf16) (x1 : Vec Ideal S256x2048 .bf16) (x2 x3 x4 : Vec Ideal S512x1024 .f32)
variable (X0 X2 X3 X4 : Fin 512 → Fin 1024 → ℝ) (X1 : Fin 256 → Fin 2048 → ℝ)
variable (h0 : ∀ i c, (x0 (ix2 i c) : EReal) = (X0 i c : ℝ)) (h1 : ∀ m c, (x1 (ix2 m c) : EReal) = (X1 m c : ℝ))
  (h2 : ∀ i c, (x2 (ix2 i c) : EReal) = (X2 i c : ℝ)) (h3 : ∀ i c, (x3 (ix2 i c) : EReal) = (X3 i c : ℝ))
  (h4 : ∀ i c, (x4 (ix2 i c) : EReal) = (X4 i c : ℝ))

/-- The zeros the body begins with. -/
theorem zeros_1 {κ : Kind} {sp : Space} (v : View sig κ sp S256x2048 .f32) (f : v.ty.Contents (Elt Ideal)) (y : S256x2048.Idx) :
    v.read (Elt Ideal) (v.writes (Elt Ideal) f kernelRun0_A.sl.H7_1) y = (0 : EReal) := by
  unfold kernelRun0_A.sl.H7_1
  refine (View.read_writes_cons_unit_of_mem v f inb_S256x2048_S256x2048_0_0 _ [] y y rfl fun a => ?_).trans ?_
  · match a with
    | ⟨0, _⟩ => exact (Nat.zero_add _).symm
    | ⟨1, _⟩ => exact (Nat.zero_add _).symm
  · exact Ideal.ofBits_zero_f32

/-- After 1 of the stores the columns they have not reached still hold zeros. -/
theorem zeros_2 {κ : Kind} {sp : Space} (v : View sig κ sp S256x2048 .f32) (f : v.ty.Contents (Elt Ideal)) (y : S256x2048.Idx) (hy : 256 ≤ (y 1).val) :
    v.read (Elt Ideal) (v.writes (Elt Ideal) f (kernelRun0_A.sl.H7_2 c arg1 harg1 arg2 harg2 arg3 harg3 arg5 harg5 arg8 x0 x1 x2 x4)) y = (0 : EReal) := by
  unfold kernelRun0_A.sl.H7_2
  exact (read_skip v f 0 inb_S256x2048_S256x256_0_0 _ _ y (by omega)).trans (zeros_1 v f y)

/-- After 2 of the stores the columns they have not reached still hold zeros. -/
theorem zeros_3 {κ : Kind} {sp : Space} (v : View sig κ sp S256x2048 .f32) (f : v.ty.Contents (Elt Ideal)) (y : S256x2048.Idx) (hy : 256 ≤ (y 1).val ∧ ((y 1).val < 1024 ∨ 1280 ≤ (y 1).val)) :
    v.read (Elt Ideal) (v.writes (Elt Ideal) f (kernelRun0_A.sl.H7_3 c arg1 harg1 arg2 harg2 arg3 harg3 arg5 harg5 arg8 x0 x1 x2 x4)) y = (0 : EReal) := by
  unfold kernelRun0_A.sl.H7_3
  exact (read_skip v f 1024 inb_S256x2048_S256x256_0_1024 _ _ y (by omega)).trans (zeros_2 c arg1 harg1 arg2 harg2 arg3 harg3 arg5 harg5 arg8 x0 x1 x2 x4 v f y (by omega))

/-- After 3 of the stores the columns they have not reached still hold zeros. -/
theorem zeros_4 {κ : Kind} {sp : Space} (v : View sig κ sp S256x2048 .f32) (f : v.ty.Contents (Elt Ideal)) (y : S256x2048.Idx) (hy : 512 ≤ (y 1).val ∧ ((y 1).val < 1024 ∨ 1280 ≤ (y 1).val)) :
    v.read (Elt Ideal) (v.writes (Elt Ideal) f (kernelRun0_A.sl.H7_4 c arg1 harg1 arg2 harg2 arg3 harg3 arg5 harg5 arg8 x0 x1 x2 x4)) y = (0 : EReal) := by
  unfold kernelRun0_A.sl.H7_4
  exact (read_skip v f 256 inb_S256x2048_S256x256_0_256 _ _ y (by omega)).trans (zeros_3 c arg1 harg1 arg2 harg2 arg3 harg3 arg5 harg5 arg8 x0 x1 x2 x4 v f y (by omega))

/-- After 4 of the stores the columns they have not reached still hold zeros. -/
theorem zeros_5 {κ : Kind} {sp : Space} (v : View sig κ sp S256x2048 .f32) (f : v.ty.Contents (Elt Ideal)) (y : S256x2048.Idx) (hy : 512 ≤ (y 1).val ∧ ((y 1).val < 1024 ∨ 1536 ≤ (y 1).val)) :
    v.read (Elt Ideal) (v.writes (Elt Ideal) f (kernelRun0_A.sl.H7_5 c arg1 harg1 arg2 harg2 arg3 harg3 arg5 harg5 arg8 x0 x1 x2 x4)) y = (0 : EReal) := by
  unfold kernelRun0_A.sl.H7_5
  exact (read_skip v f 1280 inb_S256x2048_S256x256_0_1280 _ _ y (by omega)).trans (zeros_4 c arg1 harg1 arg2 harg2 arg3 harg3 arg5 harg5 arg8 x0 x1 x2 x4 v f y (by omega))

/-- After 5 of the stores the columns they have not reached still hold zeros. -/
theorem zeros_6 {κ : Kind} {sp : Space} (v : View sig κ sp S256x2048 .f32) (f : v.ty.Contents (Elt Ideal)) (y : S256x2048.Idx) (hy : 768 ≤ (y 1).val ∧ ((y 1).val < 1024 ∨ 1536 ≤ (y 1).val)) :
    v.read (Elt Ideal) (v.writes (Elt Ideal) f (kernelRun0_A.sl.H7_6 c arg1 harg1 arg2 harg2 arg3 harg3 arg5 harg5 arg8 x0 x1 x2 x4)) y = (0 : EReal) := by
  unfold kernelRun0_A.sl.H7_6
  exact (read_skip v f 512 inb_S256x2048_S256x256_0_512 _ _ y (by omega)).trans (zeros_5 c arg1 harg1 arg2 harg2 arg3 harg3 arg5 harg5 arg8 x0 x1 x2 x4 v f y (by omega))

/-- After 6 of the stores the columns they have not reached still hold zeros. -/
theorem zeros_7 {κ : Kind} {sp : Space} (v : View sig κ sp S256x2048 .f32) (f : v.ty.Contents (Elt Ideal)) (y : S256x2048.Idx) (hy : 768 ≤ (y 1).val ∧ ((y 1).val < 1024 ∨ 1792 ≤ (y 1).val)) :
    v.read (Elt Ideal) (v.writes (Elt Ideal) f (kernelRun0_A.sl.H7_7 c arg1 harg1 arg2 harg2 arg3 harg3 arg5 harg5 arg8 x0 x1 x2 x4)) y = (0 : EReal) := by
  unfold kernelRun0_A.sl.H7_7
  exact (read_skip v f 1536 inb_S256x2048_S256x256_0_1536 _ _ y (by omega)).trans (zeros_6 c arg1 harg1 arg2 harg2 arg3 harg3 arg5 harg5 arg8 x0 x1 x2 x4 v f y (by omega))

/-- After 7 of the stores the columns they have not reached still hold zeros. -/
theorem zeros_8 {κ : Kind} {sp : Space} (v : View sig κ sp S256x2048 .f32) (f : v.ty.Contents (Elt Ideal)) (y : S256x2048.Idx) (hy : 1024 ≤ (y 1).val ∧ 1792 ≤ (y 1).val) :
    v.read (Elt Ideal) (v.writes (Elt Ideal) f (kernelRun0_A.sl.H7_8 c arg1 harg1 arg2 harg2 arg3 harg3 arg5 harg5 arg8 x0 x1 x2 x4)) y = (0 : EReal) := by
  unfold kernelRun0_A.sl.H7_8
  exact (read_skip v f 768 inb_S256x2048_S256x256_0_768 _ _ y (by omega)).trans (zeros_7 c arg1 harg1 arg2 harg2 arg3 harg3 arg5 harg5 arg8 x0 x1 x2 x4 v f y (by omega))

set_option maxHeartbeats 4000000 in
include h0 h1 h2 h4 in
/-- The memory's gradient, at the first point: from nothing. -/
theorem out_A_7 (hc0 : cond0_0 i) (y : S256x2048.Idx) :
    out0_A_7 c i arg1 harg1 arg2 harg2 arg3 harg3 arg4 harg4 arg5 harg5 arg6 harg6 arg7 harg7 arg8 harg8 hc0 x0 x1 x2 x3 x4 y
      = blockDkv X0 X2 X4 X1 (fun _ => 0) y := by
  have hy1 : (y 1).val < 2048 := (y 1).isLt
  unfold out0_A_7 kernelRun0_A
  dsimp only
  refine read_step _ _ 1792 inb_S256x2048_S256x256_0_1792 _ _ _ y (fun x => (congrFun (fourth_dv _ _ _ _ _) x).trans (piece_dv arg1 harg1 arg2 harg2 arg3 harg3 arg5 harg5 x0 x1 x2 x4 X0 X2 X4 X1 h0 h1 h2 h4 3 768 1792 rfl rfl _ _ inb_S256x2048_S256x256_0_1792 _ (fun _ => 0) (fun m d => (congrArg (arg8.view.read (Elt Ideal) _) (emb2048 1792 inb_S256x2048_S256x256_0_1792 m d (vCol 3 d) rfl)).trans (zeros_8 c arg1 harg1 arg2 harg2 arg3 harg3 arg5 harg5 arg8 x0 x1 x2 x4 arg8.view _ _ (by have := d.isLt; show 1024 ≤ 1792 + d.val ∧ 1792 ≤ 1792 + d.val; omega))) x)) fun k0 => ?_
  unfold kernelRun0_A.sl.H7_8
  refine read_step _ _ 768 inb_S256x2048_S256x256_0_768 _ _ _ y (fun x => (congrFun (fourth_dk _ _ _ _ _ _) x).trans (piece_dk arg1 harg1 arg2 harg2 arg3 harg3 arg5 harg5 x0 x1 x2 x4 X0 X2 X4 X1 h0 h1 h2 h4 3 768 1792 rfl rfl _ _ _ inb_S256x2048_S256x256_0_768 _ (fun _ => 0) (fun m d => (congrArg (arg8.view.read (Elt Ideal) _) (emb2048 768 inb_S256x2048_S256x256_0_768 m d (kCol 3 d) rfl)).trans (zeros_7 c arg1 harg1 arg2 harg2 arg3 harg3 arg5 harg5 arg8 x0 x1 x2 x4 arg8.view _ _ (by have := d.isLt; show 768 ≤ 768 + d.val ∧ (768 + d.val < 1024 ∨ 1792 ≤ 768 + d.val); omega))) x)) fun k1 => ?_
  unfold kernelRun0_A.sl.H7_7
  refine read_step _ _ 1536 inb_S256x2048_S256x256_0_1536 _ _ _ y (fun x => (congrFun (third_dv _ _ _ _ _) x).trans (piece_dv arg1 harg1 arg2 harg2 arg3 harg3 arg5 harg5 x0 x1 x2 x4 X0 X2 X4 X1 h0 h1 h2 h4 2 512 1536 rfl rfl _ _ inb_S256x2048_S256x256_0_1536 _ (fun _ => 0) (fun m d => (congrArg (arg8.view.read (Elt Ideal) _) (emb2048 1536 inb_S256x2048_S256x256_0_1536 m d (vCol 2 d) rfl)).trans (zeros_6 c arg1 harg1 arg2 harg2 arg3 harg3 arg5 harg5 arg8 x0 x1 x2 x4 arg8.view _ _ (by have := d.isLt; show 768 ≤ 1536 + d.val ∧ (1536 + d.val < 1024 ∨ 1536 ≤ 1536 + d.val); omega))) x)) fun k2 => ?_
  unfold kernelRun0_A.sl.H7_6
  refine read_step _ _ 512 inb_S256x2048_S256x256_0_512 _ _ _ y (fun x => (congrFun (third_dk _ _ _ _ _ _) x).trans (piece_dk arg1 harg1 arg2 harg2 arg3 harg3 arg5 harg5 x0 x1 x2 x4 X0 X2 X4 X1 h0 h1 h2 h4 2 512 1536 rfl rfl _ _ _ inb_S256x2048_S256x256_0_512 _ (fun _ => 0) (fun m d => (congrArg (arg8.view.read (Elt Ideal) _) (emb2048 512 inb_S256x2048_S256x256_0_512 m d (kCol 2 d) rfl)).trans (zeros_5 c arg1 harg1 arg2 harg2 arg3 harg3 arg5 harg5 arg8 x0 x1 x2 x4 arg8.view _ _ (by have := d.isLt; show 512 ≤ 512 + d.val ∧ (512 + d.val < 1024 ∨ 1536 ≤ 512 + d.val); omega))) x)) fun k3 => ?_
  unfold kernelRun0_A.sl.H7_5
  refine read_step _ _ 1280 inb_S256x2048_S256x256_0_1280 _ _ _ y (fun x => (congrFun (second_dv _ _ _ _ _) x).trans (piece_dv arg1 harg1 arg2 harg2 arg3 harg3 arg5 harg5 x0 x1 x2 x4 X0 X2 X4 X1 h0 h1 h2 h4 1 256 1280 rfl rfl _ _ inb_S256x2048_S256x256_0_1280 _ (fun _ => 0) (fun m d => (congrArg (arg8.view.read (Elt Ideal) _) (emb2048 1280 inb_S256x2048_S256x256_0_1280 m d (vCol 1 d) rfl)).trans (zeros_4 c arg1 harg1 arg2 harg2 arg3 harg3 arg5 harg5 arg8 x0 x1 x2 x4 arg8.view _ _ (by have := d.isLt; show 512 ≤ 1280 + d.val ∧ (1280 + d.val < 1024 ∨ 1280 ≤ 1280 + d.val); omega))) x)) fun k4 => ?_
  unfold kernelRun0_A.sl.H7_4
  refine read_step _ _ 256 inb_S256x2048_S256x256_0_256 _ _ _ y (fun x => (congrFun (second_dk _ _ _ _ _ _) x).trans (piece_dk arg1 harg1 arg2 harg2 arg3 harg3 arg5 harg5 x0 x1 x2 x4 X0 X2 X4 X1 h0 h1 h2 h4 1 256 1280 rfl rfl _ _ _ inb_S256x2048_S256x256_0_256 _ (fun _ => 0) (fun m d => (congrArg (arg8.view.read (Elt Ideal) _) (emb2048 256 inb_S256x2048_S256x256_0_256 m d (kCol 1 d) rfl)).trans (zeros_3 c arg1 harg1 arg2 harg2 arg3 harg3 arg5 harg5 arg8 x0 x1 x2 x4 arg8.view _ _ (by have := d.isLt; show 256 ≤ 256 + d.val ∧ (256 + d.val < 1024 ∨ 1280 ≤ 256 + d.val); omega))) x)) fun k5 => ?_
  unfold kernelRun0_A.sl.H7_3
  refine read_step _ _ 1024 inb_S256x2048_S256x256_0_1024 _ _ _ y (fun x => piece_dv arg1 harg1 arg2 harg2 arg3 harg3 arg5 harg5 x0 x1 x2 x4 X0 X2 X4 X1 h0 h1 h2 h4 0 0 1024 rfl rfl _ _ inb_S256x2048_S256x256_0_1024 _ (fun _ => 0) (fun m d => (congrArg (arg8.view.read (Elt Ideal) _) (emb2048 1024 inb_S256x2048_S256x256_0_1024 m d (vCol 0 d) rfl)).trans (zeros_2 c arg1 harg1 arg2 harg2 arg3 harg3 arg5 harg5 arg8 x0 x1 x2 x4 arg8.view _ _ (by have := d.isLt; show 256 ≤ 1024 + d.val; omega))) x) fun k6 => ?_
  unfold kernelRun0_A.sl.H7_2
  refine read_step _ _ 0 inb_S256x2048_S256x256_0_0 _ _ _ y (fun x => piece_dk arg1 harg1 arg2 harg2 arg3 harg3 arg5 harg5 x0 x1 x2 x4 X0 X2 X4 X1 h0 h1 h2 h4 0 0 1024 rfl rfl _ _ _ inb_S256x2048_S256x256_0_0 _ (fun _ => 0) (fun m d => (congrArg (arg8.view.read (Elt Ideal) _) (emb2048 0 inb_S256x2048_S256x256_0_0 m d (kCol 0 d) rfl)).trans (zeros_1 arg8.view _ _)) x) fun k7 => ?_
  exfalso; omega
end

end Cert.KernelIdeal.Hand
-- ==== Proof.Arrays.lean ====
module

public import proofs.«01_k».proof.Proof.BlocksFirst
public import Idealize.ShloMosaic.Lib.Pipeline.ValueKit

/-!
What the kernel's three result arrays hold after the run, where the argument arrays' entries are real numbers: a row of
the query's and of the gate's gradient lies in the block of one grid point, and the memory's gradient is the sum of what
the four points add.
-/

@[expose] public section
set_option maxRecDepth 16384

noncomputable section
namespace Cert.KernelIdeal.Hand
open Cert.KernelIdeal Cert.KernelIdeal.Gen
open Idealize.ShloMosaic hiding ix2 ix1 eq_ix2
open Idealize.ShloMosaic.TcCoe Idealize.ShloMosaic.ValueIdx Cert.Mem

/-- The block every window stages at a grid point. -/
theorem index_facts : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] :=
  (by decide +kernel : ∀ t : Fin grid0.N, _)

/-- Every point writes its blocks of the query's and the gate's gradients back. -/
theorem flush_facts : ∀ t : Fin cfg0.N, (cfg0.win 5).flush t = true ∧ (cfg0.win 6).flush t = true :=
  (by decide +kernel : ∀ t : Fin grid0.N, _)

/-- Row `r` of the block of point `t`. -/
def rowAt (t : Fin cfg0.N) (r : Fin 512) : Fin 2048 :=
  ⟨512 * t.val + r.val, by have h := t.isLt; have e : cfg0.N = 4 := N_0; omega⟩

variable (m : (ℓ : Loc nD τ sig) → Buf (Elt Ideal) ℓ) (c : Dev nD)

/-- Window 0's block, read where the array has it. -/
theorem iblk_0 (t : Fin cfg0.N) (r : Fin 512) (k : Fin 1024) :
    (iblk m c 0 t : Vec Ideal S512x1024 .bf16) (ix2 r k) = V m c main_arg0 (ix2 (rowAt t r) k) := by
  refine congrArg (V m c main_arg0) (funext fun a => Fin.ext ?_)
  have h := (index_facts t).1
  match a with
  | ⟨0, _⟩ => exact (Pipeline.Window.rect_emb_val win0_0 t (ix2 r k) 0).trans (by rw [h]; show t.val * 512 + r.val = 512 * t.val + r.val; omega)
  | ⟨1, _⟩ => exact (Pipeline.Window.rect_emb_val win0_0 t (ix2 r k) 1).trans (by rw [h]; show 0 * 1024 + k.val = k.val; omega)

/-- The memory's block is the whole array. -/
theorem iblk_1 (t : Fin cfg0.N) (r : Fin 256) (k : Fin 2048) :
    (iblk m c 1 t : Vec Ideal S256x2048 .bf16) (ix2 r k) = V m c main_arg1 (ix2 r k) := by
  refine congrArg (V m c main_arg1) (funext fun a => Fin.ext ?_)
  have h := (index_facts t).2.1
  match a with
  | ⟨0, _⟩ => exact (Pipeline.Window.rect_emb_val win0_1 t (ix2 r k) 0).trans (by rw [h]; show 0 * 256 + r.val = r.val; omega)
  | ⟨1, _⟩ => exact (Pipeline.Window.rect_emb_val win0_1 t (ix2 r k) 1).trans (by rw [h]; show 0 * 2048 + k.val = k.val; omega)

/-- Window 2's block, read where the array has it. -/
theorem iblk_2 (t : Fin cfg0.N) (r : Fin 512) (k : Fin 1024) :
    (iblk m c 2 t : Vec Ideal S512x1024 .f32) (ix2 r k) = V m c main_arg2 (ix2 (rowAt t r) k) := by
  refine congrArg (V m c main_arg2) (funext fun a => Fin.ext ?_)
  have h := (index_facts t).2.2.1
  match a with
  | ⟨0, _⟩ => exact (Pipeline.Window.rect_emb_val win0_2 t (ix2 r k) 0).trans (by rw [h]; show t.val * 512 + r.val = 512 * t.val + r.val; omega)
  | ⟨1, _⟩ => exact (Pipeline.Window.rect_emb_val win0_2 t (ix2 r k) 1).trans (by rw [h]; show 0 * 1024 + k.val = k.val; omega)

/-- Window 3's block, read where the array has it. -/
theorem iblk_3 (t : Fin cfg0.N) (r : Fin 512) (k : Fin 1024) :
    (iblk m c 3 t : Vec Ideal S512x1024 .f32) (ix2 r k) = V m c main_v23 (ix2 (rowAt t r) k) := by
  refine congrArg (V m c main_v23) (funext fun a => Fin.ext ?_)
  have h := (index_facts t).2.2.2.1
  match a with
  | ⟨0, _⟩ => exact (Pipeline.Window.rect_emb_val win0_3 t (ix2 r k) 0).trans (by rw [h]; show t.val * 512 + r.val = 512 * t.val + r.val; omega)
  | ⟨1, _⟩ => exact (Pipeline.Window.rect_emb_val win0_3 t (ix2 r k) 1).trans (by rw [h]; show 0 * 1024 + k.val = k.val; omega)

/-- Window 4's block, read where the array has it. -/
theorem iblk_4 (t : Fin cfg0.N) (r : Fin 512) (k : Fin 1024) :
    (iblk m c 4 t : Vec Ideal S512x1024 .f32) (ix2 r k) = V m c main_arg3 (ix2 (rowAt t r) k) := by
  refine congrArg (V m c main_arg3) (funext fun a => Fin.ext ?_)
  have h := (index_facts t).2.2.2.2.1
  match a with
  | ⟨0, _⟩ => exact (Pipeline.Window.rect_emb_val win0_4 t (ix2 r k) 0).trans (by rw [h]; show t.val * 512 + r.val = 512 * t.val + r.val; omega)
  | ⟨1, _⟩ => exact (Pipeline.Window.rect_emb_val win0_4 t (ix2 r k) 1).trans (by rw [h]; show 0 * 1024 + k.val = k.val; omega)

/-- Where the query gradient's block lies in its array. -/
theorem emb_5 (t : Fin cfg0.N) (r : Fin 512) (k : Fin 1024) :
    (((cfg0.win 5).blk t).view.emb (ix2 r k) : S2048x1024.Idx) = ix2 (rowAt t r) k := by
  refine funext fun a => Fin.ext ?_
  have h := (index_facts t).2.2.2.2.2.1
  match a with
  | ⟨0, _⟩ => exact (Pipeline.Window.rect_emb_val win0_5 t (ix2 r k) 0).trans (by rw [h]; show t.val * 512 + r.val = 512 * t.val + r.val; omega)
  | ⟨1, _⟩ => exact (Pipeline.Window.rect_emb_val win0_5 t (ix2 r k) 1).trans (by rw [h]; show 0 * 1024 + k.val = k.val; omega)

/-- Where the gate gradient's block lies in its array. -/
theorem emb_6 (t : Fin cfg0.N) (r : Fin 512) (k : Fin 1024) :
    (((cfg0.win 6).blk t).view.emb (ix2 r k) : S2048x1024.Idx) = ix2 (rowAt t r) k := by
  refine funext fun a => Fin.ext ?_
  have h := (index_facts t).2.2.2.2.2.2.1
  match a with
  | ⟨0, _⟩ => exact (Pipeline.Window.rect_emb_val win0_6 t (ix2 r k) 0).trans (by rw [h]; show t.val * 512 + r.val = 512 * t.val + r.val; omega)
  | ⟨1, _⟩ => exact (Pipeline.Window.rect_emb_val win0_6 t (ix2 r k) 1).trans (by rw [h]; show 0 * 1024 + k.val = k.val; omega)

/-- The memory gradient's block is the whole array. -/
theorem emb_7 (t : Fin cfg0.N) (r : Fin 256) (k : Fin 2048) :
    (((cfg0.win 7).blk t).view.emb (ix2 r k) : S256x2048.Idx) = ix2 r k := by
  refine funext fun a => Fin.ext ?_
  have h := (index_facts t).2.2.2.2.2.2.2
  match a with
  | ⟨0, _⟩ => exact (Pipeline.Window.rect_emb_val win0_7 t (ix2 r k) 0).trans (by rw [h]; show 0 * 256 + r.val = r.val; omega)
  | ⟨1, _⟩ => exact (Pipeline.Window.rect_emb_val win0_7 t (ix2 r k) 1).trans (by rw [h]; show 0 * 2048 + k.val = k.val; omega)

/-- Every row lies in the block of one point. -/
theorem row_cover (i : Fin 2048) : ∃ (t : Fin cfg0.N) (r : Fin 512), i = rowAt t r :=
  ⟨⟨i.val / 512, by have e : cfg0.N = 4 := N_0; have := i.isLt; omega⟩, ⟨i.val % 512, by omega⟩,
    Fin.ext (by show i.val = 512 * (i.val / 512) + i.val % 512; omega)⟩

variable (Q G O DY : Fin 2048 → Fin 1024 → ℝ) (KV : Fin 256 → Fin 2048 → ℝ)
variable (hq : ∀ i k, @Eq EReal (V m c main_arg0 (ix2 i k)) (Q i k : ℝ)) (hkv : ∀ r k, @Eq EReal (V m c main_arg1 (ix2 r k)) (KV r k : ℝ))
  (hg : ∀ i k, @Eq EReal (V m c main_arg2 (ix2 i k)) (G i k : ℝ)) (ho : ∀ i k, @Eq EReal (V m c main_v23 (ix2 i k)) (O i k : ℝ))
  (hdy : ∀ i k, @Eq EReal (V m c main_arg3 (ix2 i k)) (DY i k : ℝ))

/-- The query's gradient, at an entry of its array. -/
def arrDq (y : S2048x1024.Idx) : EReal :=
  ((rowDq (Q (y 0)) KV (gated (DY (y 0)) (G (y 0))) (headOf (y 1)) (laneOf (y 1)) : ℝ) : EReal)

/-- The gate's gradient, at an entry of its array. -/
def arrDg (y : S2048x1024.Idx) : EReal := ((DY (y 0) (y 1) * O (y 0) (y 1) * dgate (G (y 0) (y 1)) : ℝ) : EReal)

/-- The memory's gradient over all rows, at an entry of its array. -/
def arrDkv (y : S256x2048.Idx) : EReal :=
  ((∑ i : Fin 2048, rowDkv (Q i) KV (gated (DY i) (G i)) (y 0) (y 1) : ℝ) : EReal)

include hq hkv hg hdy in
/-- The array of the query's gradient after the run. -/
theorem final_5 : (dats m 0 c).arrAt 5 cfg0.N = arrDq Q G DY KV := by
  refine Pipeline.Dat.arrAt_eq_of_cover (dats m 0 c) 5 _ (fun t _ => ?_) (fun i => ?_)
  · funext y
    obtain ⟨r, k, rfl⟩ : ∃ (r : Fin 512) (k : Fin 1024), y = ix2 r k := ⟨y 0, y 1, eq_ix2 y⟩
    have e : (((cfg0.win 5).blk t).view.read (Elt Ideal) (arrDq Q G DY KV) : S512x1024.Idx → EReal) (ix2 r k)
        = blockDq (fun r => Q (rowAt t r)) (fun r => G (rowAt t r)) (fun r => DY (rowAt t r)) KV (ix2 r k) := by
      show arrDq Q G DY KV (((cfg0.win 5).blk t).view.emb (ix2 r k)) = _
      rw [emb_5]; rfl
    refine Eq.trans ?_ e.symm
    by_cases h0 : t.val % 4 = 0
    · rw [Value.flushed5_A m c t h0]
      exact out_A_5 c (grid0.coords t) (ms0_0 t) (hs0_0 t) (ms0_1 t) (hs0_1 t) (ms0_2 t) (hs0_2 t) (ms0_3 t) (hs0_3 t) (ms0_4 t) (hs0_4 t) (ms0_5 t)
        (hs0_5 t) (ms0_6 t) (hs0_6 t) (ms0_7 t) (hs0_7 t) _ _ _ _ _ _ _ _ _ (fun r k => (iblk_0 m c t r k).trans (hq _ _))
        (fun r k => (iblk_1 m c t r k).trans (hkv _ _)) (fun r k => (iblk_2 m c t r k).trans (hg _ _))
        (fun r k => (iblk_4 m c t r k).trans (hdy _ _)) ((hcond0_0 t).mpr h0) (ix2 r k)
    · rw [Value.flushed5_B m c t h0]
      exact out_B_5 c (grid0.coords t) (ms0_0 t) (hs0_0 t) (ms0_1 t) (hs0_1 t) (ms0_2 t) (hs0_2 t) (ms0_3 t) (hs0_3 t) (ms0_4 t) (hs0_4 t) (ms0_5 t)
        (hs0_5 t) (ms0_6 t) (hs0_6 t) (ms0_7 t) (hs0_7 t) _ _ _ _ _ _ _ _ _ _ (fun r k => (iblk_0 m c t r k).trans (hq _ _))
        (fun r k => (iblk_1 m c t r k).trans (hkv _ _)) (fun r k => (iblk_2 m c t r k).trans (hg _ _))
        (fun r k => (iblk_4 m c t r k).trans (hdy _ _)) (fun h => h0 ((hcond0_0 t).mp h)) (ix2 r k)
  · obtain ⟨i, k, rfl⟩ : ∃ (a : Fin 2048) (k : Fin 1024), i = ix2 a k := ⟨i 0, i 1, eq_ix2 i⟩
    obtain ⟨t, r, rfl⟩ := row_cover i
    exact ⟨t, (flush_facts t).1, Eq.subst (motive := fun j => j ∈ ((cfg0.win 5).blk t).view.set) (emb_5 t r k)
      (((cfg0.win 5).blk t).view.emb_mem_set (ix2 r k))⟩

include hg ho hdy in
/-- The array of the gate's gradient after the run. -/
theorem final_6 : (dats m 0 c).arrAt 6 cfg0.N = arrDg G O DY := by
  refine Pipeline.Dat.arrAt_eq_of_cover (dats m 0 c) 6 _ (fun t _ => ?_) (fun i => ?_)
  · funext y
    obtain ⟨r, k, rfl⟩ : ∃ (r : Fin 512) (k : Fin 1024), y = ix2 r k := ⟨y 0, y 1, eq_ix2 y⟩
    have e : (((cfg0.win 6).blk t).view.read (Elt Ideal) (arrDg G O DY) : S512x1024.Idx → EReal) (ix2 r k)
        = blockDg (fun r => G (rowAt t r)) (fun r => O (rowAt t r)) (fun r => DY (rowAt t r)) (ix2 r k) := by
      show arrDg G O DY (((cfg0.win 6).blk t).view.emb (ix2 r k)) = _
      rw [emb_6]; rfl
    refine Eq.trans ?_ e.symm
    by_cases h0 : t.val % 4 = 0
    · rw [Value.flushed6_A m c t h0]
      exact out_A_6 c (grid0.coords t) (ms0_0 t) (hs0_0 t) (ms0_1 t) (hs0_1 t) (ms0_2 t) (hs0_2 t) (ms0_3 t) (hs0_3 t) (ms0_4 t) (hs0_4 t) (ms0_5 t)
        (hs0_5 t) (ms0_6 t) (hs0_6 t) (ms0_7 t) (hs0_7 t) _ _ _ _ _ _ _ _ (fun r k => (iblk_2 m c t r k).trans (hg _ _))
        (fun r k => (iblk_3 m c t r k).trans (ho _ _)) (fun r k => (iblk_4 m c t r k).trans (hdy _ _)) ((hcond0_0 t).mpr h0) (ix2 r k)
    · rw [Value.flushed6_B m c t h0]
      exact out_B_6 c (grid0.coords t) (ms0_0 t) (hs0_0 t) (ms0_1 t) (hs0_1 t) (ms0_2 t) (hs0_2 t) (ms0_3 t) (hs0_3 t) (ms0_4 t) (hs0_4 t) (ms0_5 t)
        (hs0_5 t) (ms0_6 t) (hs0_6 t) (ms0_7 t) (hs0_7 t) _ _ _ _ _ _ _ _ _ (fun r k => (iblk_2 m c t r k).trans (hg _ _))
        (fun r k => (iblk_3 m c t r k).trans (ho _ _)) (fun r k => (iblk_4 m c t r k).trans (hdy _ _)) (fun h => h0 ((hcond0_0 t).mp h)) (ix2 r k)
  · obtain ⟨i, k, rfl⟩ : ∃ (a : Fin 2048) (k : Fin 1024), i = ix2 a k := ⟨i 0, i 1, eq_ix2 i⟩
    obtain ⟨t, r, rfl⟩ := row_cover i
    exact ⟨t, (flush_facts t).2, Eq.subst (motive := fun j => j ∈ ((cfg0.win 6).blk t).view.set) (emb_6 t r k)
      (((cfg0.win 6).blk t).view.emb_mem_set (ix2 r k))⟩

/-- What row number `i` adds to an entry of the memory's gradient. -/
def addDkv (y : S256x2048.Idx) (i : ℕ) : ℝ :=
  rowDkv (Q (Fin.ofNat 2048 i)) KV (gated (DY (Fin.ofNat 2048 i)) (G (Fin.ofNat 2048 i))) (y 0) (y 1)

/-- The rows of point `t` continue those of the points before it. -/
theorem add_rows (y : S256x2048.Idx) (t : Fin cfg0.N) :
    ∑ i ∈ Finset.range (512 * t.val), addDkv Q G DY KV y i
        + ∑ r : Fin 512, rowDkv (Q (rowAt t r)) KV (gated (DY (rowAt t r)) (G (rowAt t r))) (y 0) (y 1)
      = ∑ i ∈ Finset.range (512 * (t.val + 1)), addDkv Q G DY KV y i := by
  rw [Nat.mul_add, Nat.mul_one, Finset.sum_range_add, Finset.sum_range (n := 512)]
  refine congrArg _ (Finset.sum_congr rfl fun r _ => ?_)
  have e : Fin.ofNat 2048 (512 * t.val + r.val) = rowAt t r := by
    refine Fin.ext ?_
    show (512 * t.val + r.val) % 2048 = 512 * t.val + r.val
    have := (rowAt t r).isLt
    exact Nat.mod_eq_of_lt this
  simp only [addDkv, e]

include hq hkv hg hdy in
/-- What the first point leaves in the memory gradient's block. -/
theorem first_7 (t : Fin cfg0.N) (h0 : t.val % 4 = 0) (y : S256x2048.Idx) :
    ((outsAt0 m c t.val t.isLt).2.2 : S256x2048.Idx → EReal) y
      = blockDkv (fun r => Q (rowAt t r)) (fun r => G (rowAt t r)) (fun r => DY (rowAt t r)) KV (fun _ => 0) y :=
  (congrArg (fun p => p.2.2 y) (outsAt0_A m c t h0)).trans
    (out_A_7 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (iblk m c 0 t) (iblk m c 1 t) (iblk m c 2 t) (iblk m c 3 t) (iblk m c 4 t)
      _ _ _ _ (fun r k => (iblk_0 m c t r k).trans (hq _ _))
      (fun r k => (iblk_1 m c t r k).trans (hkv _ _)) (fun r k => (iblk_2 m c t r k).trans (hg _ _))
      (fun r k => (iblk_4 m c t r k).trans (hdy _ _)) ((hcond0_0 t).mpr h0) y)

include hq hkv hg hdy in
/-- What a later point leaves there, over what the point before it left. -/
theorem next_7 (t : Fin cfg0.N) (h0 : ¬t.val % 4 = 0) (y : S256x2048.Idx) :
    ((outsAt0 m c t.val t.isLt).2.2 : S256x2048.Idx → EReal) y
      = blockDkv (fun r => Q (rowAt t r)) (fun r => G (rowAt t r)) (fun r => DY (rowAt t r)) KV
          (outsAt0 m c (t.val - 1) (Nat.lt_of_le_of_lt (Nat.sub_le _ _) t.isLt)).2.2 y :=
  (congrArg (fun p => p.2.2 y) (outsAt0_B m c t h0)).trans
    (out_B_7 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (iblk m c 0 t) (iblk m c 1 t) (iblk m c 2 t) (iblk m c 3 t) (iblk m c 4 t)
      _ _ _ _ _ (fun r k => (iblk_0 m c t r k).trans (hq _ _))
      (fun r k => (iblk_1 m c t r k).trans (hkv _ _)) (fun r k => (iblk_2 m c t r k).trans (hg _ _))
      (fun r k => (iblk_4 m c t r k).trans (hdy _ _)) (fun h => h0 ((hcond0_0 t).mp h)) y)

include hq hkv hg hdy in
/-- What the memory gradient's block holds after point `n`: the sum over the rows of the points so far. -/
theorem partial_7 (y : S256x2048.Idx) : ∀ (n : ℕ) (hn : n < cfg0.N),
    ((outsAt0 m c n hn).2.2 : S256x2048.Idx → EReal) y = ((∑ i ∈ Finset.range (512 * (n + 1)), addDkv Q G DY KV y i : ℝ) : EReal) := by
  intro n
  induction n with
  | zero =>
    intro hn
    refine (first_7 m c Q G DY KV hq hkv hg hdy ⟨0, hn⟩ rfl y).trans ?_
    rw [← add_rows Q G DY KV y ⟨0, hn⟩]
    unfold blockDkv
    rw [zero_add, Nat.mul_zero, Finset.range_zero, Finset.sum_empty, zero_add]
  | succ n ih =>
    intro hn
    have h0 : ¬(⟨n + 1, hn⟩ : Fin cfg0.N).val % 4 = 0 := by have hN : cfg0.N = 4 := N_0; show ¬(n + 1) % 4 = 0; omega
    refine (next_7 m c Q G DY KV hq hkv hg hdy ⟨n + 1, hn⟩ h0 y).trans ?_
    rw [← add_rows Q G DY KV y ⟨n + 1, hn⟩, EReal.coe_add]
    exact congrArg (· + _) (ih (Nat.lt_of_succ_lt hn))

include hq hkv hg hdy in
/-- The array of the memory's gradient after the run. -/
theorem final_7 : (dats m 0 c).arrAt 7 cfg0.N = arrDkv Q G DY KV := by
  have key : ∀ t : Fin cfg0.N, (cfg0.win 7).flush t = true → t.val = 3 := (by decide +kernel : ∀ t : Fin grid0.N, _)
  have h3 : 3 < cfg0.N := by have e : cfg0.N = 4 := N_0; omega
  refine Pipeline.Dat.arrAt_eq_of_cover (dats m 0 c) 7 _ (fun t ht => ?_) (fun i => ?_)
  · funext y
    obtain ⟨r, k, rfl⟩ : ∃ (r : Fin 256) (k : Fin 2048), y = ix2 r k := ⟨y 0, y 1, eq_ix2 y⟩
    have e : (((cfg0.win 7).blk t).view.read (Elt Ideal) (arrDkv Q G DY KV) : S256x2048.Idx → EReal) (ix2 r k)
        = arrDkv Q G DY KV (ix2 r k) := by
      show arrDkv Q G DY KV (((cfg0.win 7).blk t).view.emb (ix2 r k)) = _
      rw [emb_7]
    refine Eq.trans ?_ e.symm
    rw [Value.flushed7 m c t]
    refine (partial_7 m c Q G DY KV hq hkv hg hdy (ix2 r k) t.val t.isLt).trans ?_
    rw [key t ht, Finset.sum_range]
    refine congrArg _ (Finset.sum_congr rfl fun i _ => ?_)
    have e : Fin.ofNat 2048 i.val = i := Fin.ext (Nat.mod_eq_of_lt i.isLt)
    simp only [addDkv]
    rw [e]
  · obtain ⟨r, k, rfl⟩ : ∃ (a : Fin 256) (k : Fin 2048), i = ix2 a k := ⟨i 0, i 1, eq_ix2 i⟩
    exact ⟨⟨3, h3⟩, (by decide +kernel : (cfg0.win 7).flush (⟨3, by decide⟩ : Fin grid0.N) = true), Eq.subst (motive := fun j => j ∈ ((cfg0.win 7).blk ⟨3, h3⟩).view.set) (emb_7 ⟨3, h3⟩ r k)
      (((cfg0.win 7).blk ⟨3, h3⟩).view.emb_mem_set (ix2 r k))⟩

end Cert.KernelIdeal.Hand
-- ==== Proof.RefForward.lean ====
module

public import proofs.«01_k».proof.Proof.Spec
public import proofs.«01_k».proof.Proof.Gen.ReferenceIdeal.Read

/-!
What the reference program's forward operations compute, over the extended reals, where its arguments' entries are real
numbers: the scores, the softmax's numerators and denominators, the weights, the attention's output, the gate.
-/

@[expose] public section
set_option maxRecDepth 16384

noncomputable section
namespace Cert.ReferenceIdeal.Hand
open Cert.ReferenceIdeal Cert.ReferenceIdeal.Gen Cert.ReferenceIdeal.Read Idealize.ShloMosaic Idealize.ShloMosaic.ValueIdx Cert.Mem

/-- Two indices of three axes are equal where their coordinates are. -/
theorem ext3 {a b c : ℕ} {f g : (⟨3, ![a, b, c]⟩ : Shape).Idx} (h0 : (f 0).val = (g 0).val) (h1 : (f 1).val = (g 1).val)
    (h2 : (f 2).val = (g 2).val) : f = g :=
  funext fun x => Fin.ext (match x with | ⟨0, _⟩ => h0 | ⟨1, _⟩ => h1 | ⟨2, _⟩ => h2)

/-- Two indices of two axes are equal where their coordinates are. -/
theorem ext2 {a b : ℕ} {f g : (⟨2, ![a, b]⟩ : Shape).Idx} (h0 : (f 0).val = (g 0).val) (h1 : (f 1).val = (g 1).val) : f = g :=
  funext fun x => Fin.ext (match x with | ⟨0, _⟩ => h0 | ⟨1, _⟩ => h1)

variable (x0 : (⟨S2048x1024, .bf16⟩ : BufTy).Contents (Elt Ideal)) (x1 : (⟨S256x2048, .bf16⟩ : BufTy).Contents (Elt Ideal))
  (x2 x3 : (⟨S2048x1024, .f32⟩ : BufTy).Contents (Elt Ideal))
variable (Q G DY : Fin 2048 → Fin 1024 → ℝ) (KV : Fin 256 → Fin 2048 → ℝ)
variable (h0 : ∀ i k, @Eq EReal (x0 (ix2 i k)) (Q i k : ℝ)) (h1 : ∀ r k, @Eq EReal (x1 (ix2 r k)) (KV r k : ℝ))
  (h2 : ∀ i k, @Eq EReal (x2 (ix2 i k)) (G i k : ℝ)) (h3 : ∀ i k, @Eq EReal (x3 (ix2 i k)) (DY i k : ℝ))

include h0 in
/-- The queries, by row, head and column. -/
theorem v4_apply (i : Fin 2048) (h : Fin 4) (d : Fin 256) :
    @Eq EReal (val_main_v4 (F := Ideal) x0 (ix3 i h d)) (part (Q i) h d : ℝ) := by
  rw [val_main_v4_apply]
  refine (congrArg x0 (ext2 ?_ ?_)).trans (h0 i (qCol h d))
  · show ((i.val * 4 + h.val) * 256 + d.val) / 1024 = i.val; omega
  · show ((i.val * 4 + h.val) * 256 + d.val) % 1024 = 256 * h.val + d.val; omega

include h1 in
/-- The keys, by slot, head and column. -/
theorem v5_apply (m : Fin 256) (h : Fin 4) (d : Fin 256) :
    @Eq EReal (val_main_v5 (F := Ideal) x1 (ix3 m h d)) (keys KV h m d : ℝ) := by
  rw [val_main_v5_apply, val_main_v2_apply]
  refine (congrArg x1 (ext2 ?_ ?_)).trans (h1 m (kCol h d))
  · show ((m.val * 4 + h.val) * 256 + d.val) / 1024 = m.val; omega
  · show ((m.val * 4 + h.val) * 256 + d.val) % 1024 = 256 * h.val + d.val; omega

include h1 in
/-- The values, by slot, head and column. -/
theorem v6_apply (m : Fin 256) (h : Fin 4) (d : Fin 256) :
    @Eq EReal (val_main_v6 (F := Ideal) x1 (ix3 m h d)) (vals KV h m d : ℝ) := by
  rw [val_main_v6_apply, val_main_v3_apply]
  refine (congrArg x1 (ext2 ?_ ?_)).trans (h1 m (vCol h d))
  · show ((m.val * 4 + h.val) * 256 + d.val) / 1024 = m.val; omega
  · show 1024 + ((m.val * 4 + h.val) * 256 + d.val) % 1024 = 1024 + 256 * h.val + d.val; omega

include h0 h1 in
/-- The scores. -/
theorem v9_apply (h : Fin 4) (i : Fin 2048) (m : Fin 256) :
    @Eq EReal (val_main_v9 (F := Ideal) x0 x1 (ix3 h i m)) (score (part (Q i) h) (keys KV h) m : ℝ) := by
  rw [val_main_v9_apply, val_main_v7_apply, val_main_v8_apply, val_main_cst_apply, Ideal.mulf_def]
  have e : ∀ d : Fin 256, @Eq EReal (val_main_v4 (F := Ideal) x0 (lidx_main_v7 (ix3 h i m) d) * val_main_v5 (F := Ideal) x1 (ridx_main_v7 (ix3 h i m) d))
      (part (Q i) h d * keys KV h m d : ℝ) := fun d => by
    rw [show lidx_main_v7 (ix3 h i m) d = ix3 i h d from ext3 rfl rfl rfl, show ridx_main_v7 (ix3 h i m) d = ix3 m h d from ext3 rfl rfl rfl, EReal.coe_mul]
    exact congrArg₂ (· * ·) (v4_apply x0 Q h0 i h d) (v5_apply x1 KV h1 m h d)
  refine (congrArg₂ (· * ·) ((Finset.sum_congr rfl fun d _ => e d).trans (coe_sum _ _)) ofBits_sixteenth).trans ?_
  rw [← EReal.coe_mul]; rfl

include h0 h1 in
/-- The greatest score of a row is a real number. -/
theorem v17_real (h : Fin 4) (i : Fin 2048) : ∃ M : ℝ, @Eq EReal (val_main_v17 (F := Ideal) x0 x1 (ix2 h i)) (M : ℝ) := by
  obtain ⟨M, hM⟩ := fold_max_coe (Finset.univ : Finset (Fin 256)) Finset.univ_nonempty (score (part (Q i) h) (keys KV h))
  refine ⟨M, ?_⟩
  rw [val_main_v17_apply, val_main_v16_apply, val_main_cst_2_apply, Ideal.maximumf_def]
  have e10 : @Eq EReal (val_main_v10 (F := Ideal) x0 x1 (ix2 h i)) (M : ℝ) := by
    unfold val_main_v10
    refine (Host.reduce_eq_fold_single (FloatOps.maximumf (F := Ideal) (φ := .f32)) _ _ _ (by decide) _ _).trans ?_
    refine Eq.trans ?_ hM
    show Finset.fold max (Ideal.ofBits .f32 0xFF800000#32) _ _ = _
    rw [ofBits_neg_inf]
    refine congrArg (fun f => Finset.fold max (⊥ : EReal) f _) (funext fun m => ?_)
    exact (congrArg (val_main_v9 (F := Ideal) x0 x1) (ext3 rfl rfl rfl)).trans (v9_apply x0 x1 Q KV h0 h1 h i m)
  exact (congrArg₂ max ofBits_neg_inf e10).trans (max_eq_right bot_le)

/-- The softmax's numerator, over the row's greatest score `M`. -/
def expo (M : ℝ) (q : Fin 1024 → ℝ) (h : Fin 4) (m : Fin 256) : ℝ := Real.exp (score (part q h) (keys KV h) m - M)

variable (M : Fin 4 → Fin 2048 → ℝ) (hM : ∀ h i, @Eq EReal (val_main_v17 (F := Ideal) x0 x1 (ix2 h i)) (M h i : ℝ))

include h0 h1 hM in
/-- The softmax's numerators. -/
theorem v30_apply (h : Fin 4) (i : Fin 2048) (m : Fin 256) :
    @Eq EReal (val_main_v30 (F := Ideal) x0 x1 (ix3 h i m)) (expo KV (M h i) (Q i) h m : ℝ) := by
  rw [val_main_v30_apply, val_main_v29_apply, val_main_v28_apply, val_main_v27_apply, Ideal.hostUnary_exp_def, Ideal.subf_def]
  refine (congrArg Ideal.exp (congrArg₂ (· - ·) (v9_apply x0 x1 Q KV h0 h1 h i m)
    ((congrArg (val_main_v17 (F := Ideal) x0 x1) (show idx_main_v27 (idx_main_v28 (ix3 h i m)) = ix2 h i from ext2 rfl rfl)).trans (hM h i)))).trans ?_
  rw [← EReal.coe_sub, Ideal.exp_coe]; rfl

include h0 h1 hM in
/-- The softmax's denominators. -/
theorem v32_apply (h : Fin 4) (i : Fin 2048) (z : Fin 1) :
    @Eq EReal (val_main_v32 (F := Ideal) x0 x1 (ix3 h i z)) (∑ m : Fin 256, expo KV (M h i) (Q i) h m : ℝ) := by
  rw [val_main_v32_apply, val_main_v31_apply, val_main_cst_8_apply]
  refine (congrArg₂ (· + ·) Ideal.ofBits_zero_f32 ((Finset.sum_congr rfl fun m _ =>
    (congrArg (val_main_v30 (F := Ideal) x0 x1) (show idx_main_v31 (idx_main_v32 (ix3 h i z)) m = ix3 h i m from ext3 rfl rfl rfl)).trans (v30_apply x0 x1 Q KV h0 h1 M hM h i m)).trans (coe_sum _ _))).trans ?_
  exact zero_add _

/-- A denominator is not zero. -/
theorem expo_sum_ne (M : ℝ) (q : Fin 1024 → ℝ) (h : Fin 4) : (∑ m : Fin 256, expo KV M q h m) ≠ 0 := sum_exp_ne _

include h0 h1 hM in
/-- The weights. -/
theorem v34_apply (h : Fin 4) (i : Fin 2048) (m : Fin 256) :
    @Eq EReal (val_main_v34 (F := Ideal) x0 x1 (ix3 h i m)) (prob (part (Q i) h) (keys KV h) m : ℝ) := by
  rw [val_main_v34_apply, val_main_v33_apply, Ideal.hostDivf_def]
  refine (congrArg₂ Ideal.div (v30_apply x0 x1 Q KV h0 h1 M hM h i m)
    ((congrArg (val_main_v32 (F := Ideal) x0 x1) (show idx_main_v33 (ix3 h i m) = ix3 h i 0 from ext3 rfl rfl rfl)).trans
      (v32_apply x0 x1 Q KV h0 h1 M hM h i 0))).trans ?_
  rw [coe_div _ (expo_sum_ne KV (M h i) (Q i) h)]
  exact congrArg _ (prob_shift (part (Q i) h) (keys KV h) (M h i) m)

include h0 h1 hM in
/-- The square of a denominator, inverted. -/
theorem v37_apply (h : Fin 4) (i : Fin 2048) (z : Fin 1) :
    @Eq EReal (val_main_v37 (F := Ideal) x0 x1 (ix3 h i z))
      (1 / ((∑ m : Fin 256, expo KV (M h i) (Q i) h m) * (∑ m : Fin 256, expo KV (M h i) (Q i) h m)) : ℝ) := by
  rw [val_main_v37_apply, val_main_v36_apply, val_main_cst_9_apply, val_main_v35_apply, Ideal.hostDivf_def, Ideal.mulf_def]
  refine (congrArg₂ Ideal.div ofBits_one (congrArg₂ (· * ·) (v32_apply x0 x1 Q KV h0 h1 M hM h i z) (v32_apply x0 x1 Q KV h0 h1 M hM h i z))).trans ?_
  rw [← EReal.coe_mul, coe_div _ (mul_ne_zero (expo_sum_ne KV (M h i) (Q i) h) (expo_sum_ne KV (M h i) (Q i) h))]

include h0 h1 in
/-- The attention's output. -/
theorem v40_apply (i : Fin 2048) (h : Fin 4) (d : Fin 256) :
    @Eq EReal (val_main_v40 (F := Ideal) x0 x1 (ix2 i (qCol h d))) (rowAttn (Q i) KV h d : ℝ) := by
  choose M hM using v17_real x0 x1 Q KV h0 h1
  rw [val_main_v40_apply, val_main_v39_apply]
  have e : idx_main_v39 (idx_main_v40 (ix2 i (qCol h d))) = ix3 h d i := ext3
    (show (i.val * 1024 + (256 * h.val + d.val)) / 256 % 4 = h.val by omega)
    (show (i.val * 1024 + (256 * h.val + d.val)) % 256 = d.val by omega)
    (show (i.val * 1024 + (256 * h.val + d.val)) / 1024 = i.val by omega)
  rw [e, val_main_v38_apply]
  have et : ∀ m : Fin 256, @Eq EReal (val_main_v6 (F := Ideal) x1 (lidx_main_v38 (ix3 h d i) m) * val_main_v34 (F := Ideal) x0 x1 (ridx_main_v38 (ix3 h d i) m))
      (prob (part (Q i) h) (keys KV h) m * vals KV h m d : ℝ) := fun m => by
    rw [show lidx_main_v38 (ix3 h d i) m = ix3 m h d from ext3 rfl rfl rfl, show ridx_main_v38 (ix3 h d i) m = ix3 h i m from ext3 rfl rfl rfl,
      mul_comm (prob _ _ _), EReal.coe_mul]
    exact congrArg₂ (· * ·) (v6_apply x1 KV h1 m h d) (v34_apply x0 x1 Q KV h0 h1 M hM h i m)
  exact (Finset.sum_congr rfl fun m _ => et m).trans (coe_sum _ _)

include h2 in
/-- The gate's logistic. -/
theorem v41_2_apply (i : Fin 2048) (k : Fin 1024) : @Eq EReal (val_main_v41_2 (F := Ideal) x2 (ix2 i k)) (sgm (G i k) : ℝ) := by
  rw [val_main_v41_2_apply, val_main_call0_v3_apply, val_main_call0_v1_apply, val_main_call0_v0_apply, val_main_call0_v2_apply,
    val_main_call0_v4_apply, val_main_call0_cst_apply, val_main_call0_cst_0_apply, Ideal.hostDivf_def, Ideal.addf_def, Ideal.hostUnary_exp_def]
  refine (congrArg₂ Ideal.div ofBits_one (congrArg₂ (· + ·) ofBits_one (congrArg (fun x => Ideal.exp (-x)) (h2 i k)))).trans ?_
  rw [← EReal.coe_neg, Ideal.exp_coe, ← EReal.coe_add, coe_div _ (one_add_exp_ne _)]; rfl

include h2 in
/-- The gate. -/
theorem v41_0_apply (i : Fin 2048) (k : Fin 1024) :
    @Eq EReal (val_main_v41_0 (F := Ideal) x2 (ix2 i k)) (G i k * sgm (G i k) : ℝ) := by
  rw [val_main_v41_0_apply, Ideal.mulf_def, EReal.coe_mul]
  exact congrArg₂ (· * ·) (h2 i k) (v41_2_apply x2 G h2 i k)

include h2 in
/-- The logistic's derivative. -/
theorem v41_1_apply (i : Fin 2048) (k : Fin 1024) :
    @Eq EReal (val_main_v41_1 (F := Ideal) x2 (ix2 i k)) (sgm (G i k) * (1 - sgm (G i k)) : ℝ) := by
  rw [val_main_v41_1_apply, val_main_call0_v7_apply, val_main_call0_v6_apply, val_main_call0_cst_1_apply, Ideal.mulf_def, Ideal.subf_def,
    EReal.coe_mul, EReal.coe_sub]
  exact congrArg₂ (· * ·) (v41_2_apply x2 G h2 i k) (congrArg₂ (· - ·) ofBits_one (v41_2_apply x2 G h2 i k))

end Cert.ReferenceIdeal.Hand
-- ==== Proof.RefBackward.lean ====
module

public import proofs.«01_k».proof.Proof.RefForward

/-!
What the reference program's backward operations compute, over the extended reals, where its arguments' entries are real
numbers: its three results, the gradients of the query, of the gate and of the memory.
-/

@[expose] public section
set_option maxRecDepth 16384

noncomputable section
namespace Cert.ReferenceIdeal.Hand
open Cert.ReferenceIdeal Cert.ReferenceIdeal.Gen Cert.ReferenceIdeal.Read Idealize.ShloMosaic Idealize.ShloMosaic.ValueIdx Cert.Mem

variable (x0 : (⟨S2048x1024, .bf16⟩ : BufTy).Contents (Elt Ideal)) (x1 : (⟨S256x2048, .bf16⟩ : BufTy).Contents (Elt Ideal))
  (x2 x3 : (⟨S2048x1024, .f32⟩ : BufTy).Contents (Elt Ideal))
variable (Q G DY : Fin 2048 → Fin 1024 → ℝ) (KV : Fin 256 → Fin 2048 → ℝ)
variable (h0 : ∀ i k, @Eq EReal (x0 (ix2 i k)) (Q i k : ℝ)) (h1 : ∀ r k, @Eq EReal (x1 (ix2 r k)) (KV r k : ℝ))
  (h2 : ∀ i k, @Eq EReal (x2 (ix2 i k)) (G i k : ℝ)) (h3 : ∀ i k, @Eq EReal (x3 (ix2 i k)) (DY i k : ℝ))

include h0 h1 h2 h3 in
/-- The gate's gradient. -/
theorem v74_apply (i : Fin 2048) (k : Fin 1024) :
    @Eq EReal (val_main_v74 (F := Ideal) x0 x1 x2 x3 (ix2 i k))
      (DY i k * rowAttn (Q i) KV (headOf k) (laneOf k) * dgate (G i k) : ℝ) := by
  have ho : @Eq EReal (val_main_v40 (F := Ideal) x0 x1 (ix2 i k)) (rowAttn (Q i) KV (headOf k) (laneOf k) : ℝ) := by
    have := v40_apply x0 x1 Q KV h0 h1 i (headOf k) (laneOf k)
    rwa [qCol_headOf] at this
  rw [val_main_v74_apply, val_main_v45_apply, val_main_call1_v1_apply, val_main_call1_v2_apply, val_main_call1_v0_apply, val_main_v43_apply]
  simp only [Ideal.truncf_def, Ideal.addf_def, Ideal.mulf_def]
  have e43 := congrArg₂ (fun x y : EReal => x * y) ho (h3 i k)
  refine (congrArg₂ (fun x y : EReal => x + y) (congrArg₂ (fun x y : EReal => x * y) e43 (v41_2_apply x2 G h2 i k))
    (congrArg₂ (fun x y : EReal => x * y) (congrArg₂ (fun x y : EReal => x * y) (h2 i k) e43) (v41_1_apply x2 G h2 i k))).trans ?_
  simp only [← EReal.coe_mul, ← EReal.coe_add]
  refine congrArg _ ?_
  unfold dgate
  ring

include h2 h3 in
/-- The cotangent of the attention's output, by head, column and row. -/
theorem v47_apply (h : Fin 4) (d : Fin 256) (i : Fin 2048) :
    @Eq EReal (val_main_v47 (F := Ideal) x2 x3 (ix3 h d i)) (part (gated (DY i) (G i)) h d : ℝ) := by
  rw [val_main_v47_apply, val_main_v46_apply]
  have e : idx_main_v46 (idx_main_v47 (ix3 h d i)) = ix2 i (qCol h d) := ext2
    (show ((i.val * 4 + h.val) * 256 + d.val) / 1024 = i.val by omega)
    (show ((i.val * 4 + h.val) * 256 + d.val) % 1024 = 256 * h.val + d.val by omega)
  rw [e, val_main_v44_apply, Ideal.mulf_def]
  refine (congrArg₂ (fun x y : EReal => x * y) (h3 i _) (v41_0_apply x2 G h2 i _)).trans ?_
  rw [← EReal.coe_mul]; rfl

include h1 h2 h3 in
/-- The cotangent of the weights. -/
theorem v48_apply (h : Fin 4) (i : Fin 2048) (m : Fin 256) :
    @Eq EReal (val_main_v48 (F := Ideal) x1 x2 x3 (ix3 h i m)) (dprob (part (gated (DY i) (G i)) h) (vals KV h) m : ℝ) := by
  rw [val_main_v48_apply]
  have et : ∀ d : Fin 256, @Eq EReal (val_main_v47 (F := Ideal) x2 x3 (lidx_main_v48 (ix3 h i m) d) * val_main_v6 (F := Ideal) x1 (ridx_main_v48 (ix3 h i m) d))
      (part (gated (DY i) (G i)) h d * vals KV h m d : ℝ) := fun d => by
    rw [show lidx_main_v48 (ix3 h i m) d = ix3 h d i from ext3 rfl rfl rfl, show ridx_main_v48 (ix3 h i m) d = ix3 m h d from ext3 rfl rfl rfl, EReal.coe_mul]
    exact congrArg₂ (fun x y : EReal => x * y) (v47_apply x2 x3 G DY h2 h3 h d i) (v6_apply x1 KV h1 m h d)
  exact (Finset.sum_congr rfl fun d _ => et d).trans (coe_sum _ _)

section
variable (M : Fin 4 → Fin 2048 → ℝ) (hM : ∀ h i, @Eq EReal (val_main_v17 (F := Ideal) x0 x1 (ix2 h i)) (M h i : ℝ))

include h0 h1 h2 h3 hM in
/-- The part of a score's cotangent that the softmax's denominator brings, before its sign. -/
theorem v54_apply (h : Fin 4) (i : Fin 2048) :
    @Eq EReal (val_main_v54 (F := Ideal) x0 x1 x2 x3 (ix2 h i))
      (∑ m : Fin 256, dprob (part (gated (DY i) (G i)) h) (vals KV h) m
        * (1 / ((∑ m : Fin 256, expo KV (M h i) (Q i) h m) * (∑ m : Fin 256, expo KV (M h i) (Q i) h m))) * expo KV (M h i) (Q i) h m : ℝ) := by
  rw [val_main_v54_apply, val_main_cst_10_apply]
  have et : ∀ m : Fin 256, @Eq EReal (val_main_v53 (F := Ideal) x0 x1 x2 x3 (idx_main_v54 (ix2 h i) m))
      (dprob (part (gated (DY i) (G i)) h) (vals KV h) m
        * (1 / ((∑ m : Fin 256, expo KV (M h i) (Q i) h m) * (∑ m : Fin 256, expo KV (M h i) (Q i) h m))) * expo KV (M h i) (Q i) h m : ℝ) := fun m => by
    rw [show idx_main_v54 (ix2 h i) m = ix3 h i m from ext3 rfl rfl rfl, val_main_v53_apply, val_main_v52_apply, val_main_v51_apply,
      show idx_main_v51 (ix3 h i m) = ix3 h i 0 from ext3 rfl rfl rfl, Ideal.mulf_def, Ideal.mulf_def, EReal.coe_mul, EReal.coe_mul]
    exact congrArg₂ (fun x y : EReal => x * y) (congrArg₂ (fun x y : EReal => x * y) (v48_apply x1 x2 x3 G DY KV h1 h2 h3 h i m)
      (v37_apply x0 x1 Q KV h0 h1 M hM h i 0)) (v30_apply x0 x1 Q KV h0 h1 M hM h i m)
  refine (congrArg₂ (fun x y : EReal => x + y) Ideal.ofBits_zero_f32 ((Finset.sum_congr rfl fun m _ => et m).trans (coe_sum _ _))).trans ?_
  exact zero_add _

include h0 h1 h2 h3 hM in
/-- That part with its sign, summed over an axis of one element. -/
theorem v59_apply (h : Fin 4) (i : Fin 2048) :
    @Eq EReal (val_main_v59 (F := Ideal) x0 x1 x2 x3 (ix2 h i))
      (-(∑ m : Fin 256, dprob (part (gated (DY i) (G i)) h) (vals KV h) m
        * (1 / ((∑ m : Fin 256, expo KV (M h i) (Q i) h m) * (∑ m : Fin 256, expo KV (M h i) (Q i) h m))) * expo KV (M h i) (Q i) h m) : ℝ) := by
  rw [val_main_v59_apply, val_main_cst_11_apply]
  refine (congrArg₂ (fun x y : EReal => x + y) Ideal.ofBits_zero_f32 (Fintype.sum_unique _)).trans ?_
  rw [zero_add, val_main_v56_apply, val_main_v55_apply, Ideal.hostNegf_def, EReal.coe_neg]
  refine congrArg (fun x : EReal => -x) ?_
  have e : idx_main_v55 (idx_main_v59 (ix2 h i) default) = ix2 h i := ext2
    (show ((h.val * 2048 + i.val) * 1 + 0) / 2048 = h.val by omega)
    (show ((h.val * 2048 + i.val) * 1 + 0) % 2048 = i.val by omega)
  rw [e]
  exact v54_apply x0 x1 x2 x3 Q G DY KV h0 h1 h2 h3 M hM h i

include h0 h1 h2 h3 hM in
/-- The scores' cotangent, scaled. -/
theorem v64_apply (h : Fin 4) (i : Fin 2048) (m : Fin 256) :
    @Eq EReal (val_main_v64 (F := Ideal) x0 x1 x2 x3 (ix3 h i m))
      (dscore (part (Q i) h) (keys KV h) (vals KV h) (part (gated (DY i) (G i)) h) m : ℝ) := by
  rw [val_main_v64_apply, val_main_v63_apply, val_main_cst_12_apply, val_main_v62_apply, val_main_v61_apply, val_main_v60_apply,
    val_main_v58_apply, val_main_v57_apply, Ideal.mulf_def, Ideal.mulf_def, Ideal.addf_def, Ideal.hostDivf_def,
    show idx_main_v57 (ix3 h i m) = ix3 h i 0 from ext3 rfl rfl rfl, show idx_main_v60 (ix3 h i m) = ix2 h i from ext2 rfl rfl]
  have ediv := (congrArg₂ Ideal.div (v48_apply x1 x2 x3 G DY KV h1 h2 h3 h i m) (v32_apply x0 x1 Q KV h0 h1 M hM h i 0)).trans
    (coe_div _ (expo_sum_ne KV (M h i) (Q i) h))
  refine (congrArg₂ (fun x y : EReal => x * y) (congrArg₂ (fun x y : EReal => x * y) (congrArg₂ (fun x y : EReal => x + y) ediv
    (v59_apply x0 x1 x2 x3 Q G DY KV h0 h1 h2 h3 M hM h i)) (v30_apply x0 x1 Q KV h0 h1 M hM h i m)) ofBits_sixteenth).trans ?_
  simp only [← EReal.coe_mul, ← EReal.coe_add]
  exact congrArg _ (dscore_quotient (part (Q i) h) (keys KV h) (vals KV h) (part (gated (DY i) (G i)) h) (M h i) m _ fun _ => rfl)

end

include h0 h1 h2 h3 in
/-- The query's gradient. -/
theorem v73_apply (i : Fin 2048) (k : Fin 1024) :
    @Eq EReal (val_main_v73 (F := Ideal) x0 x1 x2 x3 (ix2 i k))
      (rowDq (Q i) KV (gated (DY i) (G i)) (headOf k) (laneOf k) : ℝ) := by
  choose M hM using v17_real x0 x1 Q KV h0 h1
  rw [val_main_v73_apply, Ideal.truncf_def, val_main_v71_apply, val_main_v68_apply]
  have e : idx_main_v68 (idx_main_v71 (ix2 i k)) = ix3 (headOf k) i (laneOf k) := ext3
    (show (i.val * 1024 + k.val) / 256 % 4 = k.val / 256 by omega)
    (show (i.val * 1024 + k.val) / 1024 = i.val by omega)
    (show (i.val * 1024 + k.val) % 256 = k.val % 256 by omega)
  rw [e, val_main_v67_apply]
  generalize headOf k = h
  generalize laneOf k = d
  have et : ∀ m : Fin 256, @Eq EReal (val_main_v64 (F := Ideal) x0 x1 x2 x3 (lidx_main_v67 (ix3 h i d) m) * val_main_v5 (F := Ideal) x1 (ridx_main_v67 (ix3 h i d) m))
      (dscore (part (Q i) h) (keys KV h) (vals KV h) (part (gated (DY i) (G i)) h) m * keys KV h m d : ℝ) := fun m => by
    rw [show lidx_main_v67 (ix3 h i d) m = ix3 h i m from ext3 rfl rfl rfl, show ridx_main_v67 (ix3 h i d) m = ix3 m h d from ext3 rfl rfl rfl, EReal.coe_mul]
    exact congrArg₂ (fun x y : EReal => x * y) (v64_apply x0 x1 x2 x3 Q G DY KV h0 h1 h2 h3 M hM h i m) (v5_apply x1 KV h1 m h d)
  exact (Finset.sum_congr rfl fun m _ => et m).trans (coe_sum _ _)

include h0 h1 h2 h3 in
/-- The keys' gradient. -/
theorem v70_apply (m : Fin 256) (h : Fin 4) (d : Fin 256) :
    @Eq EReal (val_main_v70 (F := Ideal) x0 x1 x2 x3 (ix2 m (qCol h d))) (∑ i, rowDk (Q i) KV (gated (DY i) (G i)) h m d : ℝ) := by
  choose M hM using v17_real x0 x1 Q KV h0 h1
  rw [val_main_v70_apply, val_main_v66_apply]
  have e : idx_main_v66 (idx_main_v70 (ix2 m (qCol h d))) = ix3 h m d := ext3
    (show (m.val * 1024 + (256 * h.val + d.val)) / 256 % 4 = h.val by omega)
    (show (m.val * 1024 + (256 * h.val + d.val)) / 1024 = m.val by omega)
    (show (m.val * 1024 + (256 * h.val + d.val)) % 256 = d.val by omega)
  rw [e, val_main_v65_apply]
  have et : ∀ i : Fin 2048, @Eq EReal (val_main_v64 (F := Ideal) x0 x1 x2 x3 (lidx_main_v65 (ix3 h m d) i) * val_main_v4 (F := Ideal) x0 (ridx_main_v65 (ix3 h m d) i))
      (rowDk (Q i) KV (gated (DY i) (G i)) h m d : ℝ) := fun i => by
    rw [show lidx_main_v65 (ix3 h m d) i = ix3 h i m from ext3 rfl rfl rfl, show ridx_main_v65 (ix3 h m d) i = ix3 i h d from ext3 rfl rfl rfl]
    refine (congrArg₂ (fun x y : EReal => x * y) (v64_apply x0 x1 x2 x3 Q G DY KV h0 h1 h2 h3 M hM h i m) (v4_apply x0 Q h0 i h d)).trans ?_
    rw [← EReal.coe_mul]; rfl
  exact (Finset.sum_congr rfl fun m _ => et m).trans (coe_sum _ _)

include h0 h1 h2 h3 in
/-- The values' gradient. -/
theorem v69_apply (m : Fin 256) (h : Fin 4) (d : Fin 256) :
    @Eq EReal (val_main_v69 (F := Ideal) x0 x1 x2 x3 (ix2 m (qCol h d))) (∑ i, rowDv (Q i) KV (gated (DY i) (G i)) h m d : ℝ) := by
  choose M hM using v17_real x0 x1 Q KV h0 h1
  rw [val_main_v69_apply, val_main_v50_apply]
  have e : idx_main_v50 (idx_main_v69 (ix2 m (qCol h d))) = ix3 h d m := ext3
    (show (m.val * 1024 + (256 * h.val + d.val)) / 256 % 4 = h.val by omega)
    (show (m.val * 1024 + (256 * h.val + d.val)) % 256 = d.val by omega)
    (show (m.val * 1024 + (256 * h.val + d.val)) / 1024 = m.val by omega)
  rw [e, val_main_v49_apply]
  have et : ∀ i : Fin 2048, @Eq EReal (val_main_v47 (F := Ideal) x2 x3 (lidx_main_v49 (ix3 h d m) i) * val_main_v34 (F := Ideal) x0 x1 (ridx_main_v49 (ix3 h d m) i))
      (rowDv (Q i) KV (gated (DY i) (G i)) h m d : ℝ) := fun i => by
    rw [show lidx_main_v49 (ix3 h d m) i = ix3 h d i from ext3 rfl rfl rfl, show ridx_main_v49 (ix3 h d m) i = ix3 h i m from ext3 rfl rfl rfl]
    refine (congrArg₂ (fun x y : EReal => x * y) (v47_apply x2 x3 G DY h2 h3 h d i) (v34_apply x0 x1 Q KV h0 h1 M hM h i m)).trans ?_
    rw [← EReal.coe_mul, mul_comm]; rfl
  exact (Finset.sum_congr rfl fun m _ => et m).trans (coe_sum _ _)

include h0 h1 h2 h3 in
/-- The memory's gradient: the keys' columns, then the values'. -/
theorem v72_apply (m : Fin 256) (k : Fin 2048) :
    @Eq EReal (val_main_v72 (F := Ideal) x0 x1 x2 x3 (ix2 m k)) (∑ i, rowDkv (Q i) KV (gated (DY i) (G i)) m k : ℝ) := by
  unfold val_main_v72
  rcases col_cases k with ⟨h, d, rfl⟩ | ⟨h, d, rfl⟩
  · refine (concatenate_apply_piece (t := S256x2048) 1
      [⟨S256x1024, val_main_v70 (F := Ideal) x0 x1 x2 x3⟩, ⟨S256x1024, val_main_v69 (F := Ideal) x0 x1 x2 x3⟩]
      concatenates_S256x1024_S256x1024_S256x2048_d1 (ix2 m (kCol h d)) 0 Nat.zero_lt_two S256x1024
      (val_main_v70 (F := Ideal) x0 x1 x2 x3) rfl rfl 0 rfl (ix2 m (qCol h d)) (fun b => match b with | ⟨0, _⟩ => fun _ => rfl | ⟨1, _⟩ => fun hb => absurd rfl hb)
      (show 0 + (256 * h.val + d.val) = 256 * h.val + d.val by omega)).trans ?_
    refine (v70_apply x0 x1 x2 x3 Q G DY KV h0 h1 h2 h3 m h d).trans ?_
    simp only [rowDkv_kCol]
  · refine (concatenate_apply_piece (t := S256x2048) 1
      [⟨S256x1024, val_main_v70 (F := Ideal) x0 x1 x2 x3⟩, ⟨S256x1024, val_main_v69 (F := Ideal) x0 x1 x2 x3⟩]
      concatenates_S256x1024_S256x1024_S256x2048_d1 (ix2 m (vCol h d)) 1 Nat.one_lt_two S256x1024
      (val_main_v69 (F := Ideal) x0 x1 x2 x3) rfl rfl 1024 rfl (ix2 m (qCol h d)) (fun b => match b with | ⟨0, _⟩ => fun _ => rfl | ⟨1, _⟩ => fun hb => absurd rfl hb)
      (show 1024 + (256 * h.val + d.val) = 1024 + 256 * h.val + d.val by omega)).trans ?_
    refine (v69_apply x0 x1 x2 x3 Q G DY KV h0 h1 h2 h3 m h d).trans ?_
    simp only [rowDkv_vCol]

end Cert.ReferenceIdeal.Hand
-- ==== Proof.Entry.lean ====
module

public import proofs.«01_k».proof.Proof.Gen.KernelIdeal.Value
public import proofs.«01_k».proof.Proof.Gen.ReferenceIdeal.Read
public import Idealize.ShloMosaic.Lib.Claim

/-!
What the kernel's region finds in the array of the attention's output: the host operations before it are the reference's
own first operations.
-/

@[expose] public section
set_option maxRecDepth 16384

noncomputable section
namespace Cert.KernelIdeal.Hand
open Cert.KernelIdeal Cert.KernelIdeal.Gen Idealize.ShloMosaic Idealize.ShloMosaic.TcCoe Idealize.SL.Sem Idealize.ShloMosaic.StableHlo

/-- The attention's output that the host hands to the region. -/
theorem entry_out (m : (ℓ : Loc nD τ sig) → Buf (Elt Ideal) ℓ) (c : Dev nD) :
    V m c main_v23 = Cert.ReferenceIdeal.Read.val_main_v40 (F := Ideal) (m ((c : Thread nD τ).loc main_arg0)) (m ((c : Thread nD τ).loc main_arg1)) := by
  entry_read
  rfl

end Cert.KernelIdeal.Hand
-- ==== Proof.Algebraic.lean ====
module

public import proofs.«01_k».proof.Defs
public import proofs.«01_k».proof.Proof.Gen.Pre_finite
public import proofs.«01_k».proof.Proof.Arrays
public import proofs.«01_k».proof.Proof.RefBackward
public import proofs.«01_k».proof.Proof.Entry

/-!
The equation: from arguments whose entries are all finite, the kernel and the reference end with equal results.
-/

@[expose] public section
set_option maxRecDepth 16384

noncomputable section
namespace Cert.Proof
open Idealize.ShloMosaic hiding ix2 eq_ix2
open Idealize.ShloMosaic.TcCoe Idealize.ShloMosaic.ValueIdx Idealize.SL.Sem Cert.Mem

/-- An extended real whose absolute value is below infinity is a real number. -/
theorem real_of_abs_lt (a : EReal) (h : Ideal.cmp .olt (max a (-a)) (Ideal.ofBits .f32 0x7F800000#32) = 1#1) : a = (a.toReal : EReal) := by
  rw [ofBits_inf] at h
  have hlt : max a (-a) < ⊤ := by
    by_contra hn
    simp [Ideal.cmp, hn] at h
  refine (EReal.coe_toReal (fun e => ?_) (fun e => ?_)).symm
  · rw [e] at hlt; simp at hlt
  · rw [e] at hlt; simp at hlt

/-- An array's entries as real numbers. -/
def reals {a b : ℕ} (x : (⟨2, ![a, b]⟩ : Shape).Idx → EReal) (i : Fin a) (k : Fin b) : ℝ := (x (ix2 i k)).toReal

section
open Cert.KernelIdeal Cert.KernelIdeal.Gen Cert.KernelIdeal.Hand Cert.ReferenceIdeal.Read
variable (m : (ℓ : Loc nD τ sig) → Buf (Elt Ideal) ℓ) (c : Dev nD)

/-- The query, as the program is launched. -/
abbrev argQ : S2048x1024.Idx → EReal := m ((c : Thread nD τ).loc main_arg0)
/-- The memory's keys and values. -/
abbrev argKV : S256x2048.Idx → EReal := m ((c : Thread nD τ).loc main_arg1)
/-- The gate. -/
abbrev argG : S2048x1024.Idx → EReal := m ((c : Thread nD τ).loc main_arg2)
/-- The cotangent of the branch's output. -/
abbrev argDY : S2048x1024.Idx → EReal := m ((c : Thread nD τ).loc main_arg3)

variable (h0 : ∀ i k, argQ m c (ix2 i k) = (reals (argQ m c) i k : EReal)) (h1 : ∀ i k, argKV m c (ix2 i k) = (reals (argKV m c) i k : EReal))
  (h2 : ∀ i k, argG m c (ix2 i k) = (reals (argG m c) i k : EReal)) (h3 : ∀ i k, argDY m c (ix2 i k) = (reals (argDY m c) i k : EReal))

include h0 h1 h2 h3 in
/-- The query's gradient. -/
theorem equal_dq : val_main_v73 (F := Ideal) (argQ m c) (argKV m c) (argG m c) (argDY m c) = (dats m 0 c).arrAt 5 cfg0.N := by
  rw [final_5 m c (reals (argQ m c)) (reals (argG m c)) (reals (argDY m c)) (reals (argKV m c))
    (fun i k => (congrFun (V_main_arg0 m c) (ix2 i k)).trans (h0 i k)) (fun i k => (congrFun (V_main_arg1 m c) (ix2 i k)).trans (h1 i k))
    (fun i k => (congrFun (V_main_arg2 m c) (ix2 i k)).trans (h2 i k)) (fun i k => (congrFun (V_main_arg3 m c) (ix2 i k)).trans (h3 i k))]
  funext y
  obtain ⟨i, k, rfl⟩ : ∃ (i : Fin 2048) (k : Fin 1024), y = ix2 i k := ⟨y 0, y 1, eq_ix2 y⟩
  exact Cert.ReferenceIdeal.Hand.v73_apply (argQ m c) (argKV m c) (argG m c) (argDY m c) (reals (argQ m c)) (reals (argG m c)) (reals (argDY m c))
    (reals (argKV m c)) h0 h1 h2 h3 i k

include h0 h1 h2 h3 in
/-- The gate's gradient. -/
theorem equal_dg : val_main_v74 (F := Ideal) (argQ m c) (argKV m c) (argG m c) (argDY m c) = (dats m 0 c).arrAt 6 cfg0.N := by
  have ho : ∀ i k, @Eq EReal (V m c main_v23 (ix2 i k)) (rowAttn (reals (argQ m c) i) (reals (argKV m c)) (headOf k) (laneOf k) : ℝ) := fun i k => by
    refine (congrFun (entry_out m c) (ix2 i k)).trans ?_
    have e := Cert.ReferenceIdeal.Hand.v40_apply (argQ m c) (argKV m c) (reals (argQ m c)) (reals (argKV m c)) h0 h1 i (headOf k) (laneOf k)
    rwa [qCol_headOf] at e
  rw [final_6 m c (reals (argG m c)) (fun i k => rowAttn (reals (argQ m c) i) (reals (argKV m c)) (headOf k) (laneOf k)) (reals (argDY m c))
    (fun i k => (congrFun (V_main_arg2 m c) (ix2 i k)).trans (h2 i k)) ho (fun i k => (congrFun (V_main_arg3 m c) (ix2 i k)).trans (h3 i k))]
  funext y
  obtain ⟨i, k, rfl⟩ : ∃ (i : Fin 2048) (k : Fin 1024), y = ix2 i k := ⟨y 0, y 1, eq_ix2 y⟩
  exact Cert.ReferenceIdeal.Hand.v74_apply (argQ m c) (argKV m c) (argG m c) (argDY m c) (reals (argQ m c)) (reals (argG m c)) (reals (argDY m c))
    (reals (argKV m c)) h0 h1 h2 h3 i k

include h0 h1 h2 h3 in
/-- The memory's gradient. -/
theorem equal_dkv : val_main_v72 (F := Ideal) (argQ m c) (argKV m c) (argG m c) (argDY m c) = (dats m 0 c).arrAt 7 cfg0.N := by
  rw [final_7 m c (reals (argQ m c)) (reals (argG m c)) (reals (argDY m c)) (reals (argKV m c))
    (fun i k => (congrFun (V_main_arg0 m c) (ix2 i k)).trans (h0 i k)) (fun i k => (congrFun (V_main_arg1 m c) (ix2 i k)).trans (h1 i k))
    (fun i k => (congrFun (V_main_arg2 m c) (ix2 i k)).trans (h2 i k)) (fun i k => (congrFun (V_main_arg3 m c) (ix2 i k)).trans (h3 i k))]
  funext y
  obtain ⟨i, k, rfl⟩ : ∃ (i : Fin 256) (k : Fin 2048), y = ix2 i k := ⟨y 0, y 1, eq_ix2 y⟩
  exact Cert.ReferenceIdeal.Hand.v72_apply (argQ m c) (argKV m c) (argG m c) (argDY m c) (reals (argQ m c)) (reals (argG m c)) (reals (argDY m c))
    (reals (argKV m c)) h0 h1 h2 h3 i k

end

/-- The kernel and the reference compute the same results over the extended reals. -/
theorem algebraic : @Cert.algebraic_KernelIdeal_ReferenceIdeal_pre_finite Cert.KernelIdeal.Gen.facts Cert.ReferenceIdeal.Gen.facts Cert.Pre_finite.Gen.facts := by
  pair_intro
  · run_from Cert.KernelIdeal.Value.run_blocks m g
  · have h0 := fun (c : Dev Cert.KernelIdeal.nD) i k => real_of_abs_lt (argQ m c (ix2 i k)) (congrFun (hpre c).1 (ix2 i k))
    have h1 := fun (c : Dev Cert.KernelIdeal.nD) i k => real_of_abs_lt (argKV m c (ix2 i k)) (congrFun (hpre c).2.1 (ix2 i k))
    have h2 := fun (c : Dev Cert.KernelIdeal.nD) i k => real_of_abs_lt (argG m c (ix2 i k)) (congrFun (hpre c).2.2.1 (ix2 i k))
    have h3 := fun (c : Dev Cert.KernelIdeal.nD) i k => real_of_abs_lt (argDY m c (ix2 i k)) (congrFun (hpre c).2.2.2 (ix2 i k))
    refine (θ_run _ _ _).mono (fun r hr c => ?_) (Cert.ReferenceIdeal.Value.run m' g')
    obtain ⟨r0, r1, r2, ra⟩ := hr c
    obtain ⟨a0, a1, a2, a3⟩ := hagree c
    refine ⟨r0.trans ?_, r1.trans ?_, r2.trans ?_, ra⟩
    · rw [Cert.ReferenceIdeal.Read.val_main_v73_eq, a0, a1, a2, a3]
      exact equal_dq m c (h0 c) (h1 c) (h2 c) (h3 c)
    · rw [Cert.ReferenceIdeal.Read.val_main_v74_eq, a0, a1, a2, a3]
      exact equal_dg m c (h0 c) (h1 c) (h2 c) (h3 c)
    · rw [Cert.ReferenceIdeal.Read.val_main_v72_eq, a0, a1, a2, a3]
      exact equal_dkv m c (h0 c) (h1 c) (h2 c) (h3 c)

end Cert.Proof
-- ==== Proof.Products.lean ====
module

public import Idealize.ShloMosaic.PureOps.Ideal.Laws
public import Idealize.ShloMosaic.Lib.ValueIdx

/-!
A product of blocks over the extended reals, read at an entry.
-/

@[expose] public section

noncomputable section
namespace Cert.Products
open Idealize.ShloMosaic Idealize.ShloMosaic.ValueIdx

/-- An entry of a product over one axis of length `K` is a sum of `K` products: `l k` and `r k` say which entries meet. -/
theorem entry_sum {sl sr so : Shape} (d : DotDims sl sr so) (K : ℕ) (h1 : d.contr.rank = 1) (h2 : d.contr.size ⟨0, by rw [h1]; exact Nat.zero_lt_one⟩ = K)
    (x : FVec Ideal sl .bf16) (y : FVec Ideal sr .bf16) (o : so.Idx) (l : Fin K → sl.Idx) (r : Fin K → sr.Idx)
    (hl : ∀ k, d.lhsIdx o ((contrEquiv1 d K h1 h2).symm k) = l k) (hr : ∀ k, d.rhsIdx o ((contrEquiv1 d K h1 h2).symm k) = r k) :
    matmul d none x y (constant (F := Ideal) so .f32 0x00000000#32) o = ∑ k : Fin K, x (l k) * y (r k) := by
  simp only [matmul]
  rw [Ideal.matmul_constant_zero_apply, ← Equiv.sum_comp (contrEquiv1 d K h1 h2).symm]
  exact Finset.sum_congr rfl fun k _ => congrArg₂ (· * ·) (congrArg x (hl k)) (congrArg y (hr k))

end Cert.Products
-- ==== Proof.InputWeightLeft.lean ====
module

public import proofs.«01_k».proof.Defs
public import proofs.«01_k».proof.Proof.Gen.WinLeftIdeal.Value
public import proofs.«01_k».proof.Proof.Gen.WinLeftRefIdeal.Run
public import proofs.«01_k».proof.Proof.Gen.WinLeftRefIdeal.Read
public import proofs.«01_k».proof.Proof.Products
public import Idealize.ShloMosaic.Lib.Pipeline.ValueKit

/-!
The gradient of the input projection's weight, its left half: row `j` and column `d` hold the sum over the tokens of the
projection's cotangent at `j` times the layer's input at `d`. The grid's point `t` computes the rows `1792 t` to
`1792 t + 1791` in one product over all the tokens.
-/

@[expose] public section
set_option maxRecDepth 16384

noncomputable section
namespace Cert.WinLeftIdeal.Hand
open Cert.WinLeftIdeal Cert.WinLeftIdeal.Gen
open Idealize.ShloMosaic hiding ix2 ix1 eq_ix2
open Idealize.ShloMosaic.TcCoe Idealize.ShloMosaic.ValueIdx Idealize.SL.Sem Cert.Products

/-- The block every window stages at a grid point. -/
theorem index_facts : ∀ t : Fin cfg0.N, win0_0.index t = ![0, t.val] ∧ win0_1.index t = ![0, 0] ∧ win0_2.index t = ![t.val, 0]
    ∧ (cfg0.win 2).flush t = true :=
  (by decide +kernel : ∀ t : Fin grid0.N, _)

/-- Row `r` of the block of point `t`. -/
def rowAt (t : Fin cfg0.N) (r : Fin 1792) : Fin 12544 :=
  ⟨1792 * t.val + r.val, by have h := t.isLt; have e : cfg0.N = 7 := N_0; omega⟩

/-- A column of the left half, in the whole width. -/
def colAt (d : Fin 1024) : Fin 2048 := ⟨d.val, by omega⟩

/-- The gradient, at an entry of its array. -/
def grad (x : S2048x12544.Idx → EReal) (h : S2048x2048.Idx → EReal) (y : S12544x1024.Idx) : EReal :=
  ∑ s : Fin 2048, x (ix2 s (y 0)) * h (ix2 s (colAt (y 1)))

/-- What a point computes from its blocks. -/
theorem out_apply (x : Vec Ideal S2048x1792 .bf16) (h : Vec Ideal S2048x1024 .bf16) (r : Fin 1792) (d : Fin 1024) :
    @Eq EReal (out0_2 x h (ix2 r d)) (∑ s : Fin 2048, (x (ix2 s r) : EReal) * h (ix2 s d)) := by
  unfold out0_2
  rw [View.canon_cons_unit_lit _ _ _ (by decide), View.ld_unit_lit _ _ (by decide), View.ld_unit_lit _ _ (by decide)]
  unfold k0_pay1
  refine (congrFun (shapeCast_self _ _) (ix2 r d)).trans ?_
  exact entry_sum dot_S2048x1792_S2048x1024_S1792x1024_0_0_1_1_n_n 2048 rfl rfl x h (ix2 r d) (fun s => ix2 s r) (fun s => ix2 s d)
    (fun s => funext fun a => match a with | ⟨0, _⟩ => rfl | ⟨1, _⟩ => rfl) (fun s => funext fun a => match a with | ⟨0, _⟩ => rfl | ⟨1, _⟩ => rfl)

variable (m : (ℓ : Loc nD τ sig) → Buf (Elt Ideal) ℓ) (c : Dev nD)

/-- The cotangent's block, read where the array has it. -/
theorem iblk_0 (t : Fin cfg0.N) (s : Fin 2048) (r : Fin 1792) :
    (iblk m c 0 t : Vec Ideal S2048x1792 .bf16) (ix2 s r) = V m c main_arg0 (ix2 s (rowAt t r)) := by
  refine congrArg (V m c main_arg0) (funext fun a => Fin.ext ?_)
  have h := (index_facts t).1
  match a with
  | ⟨0, _⟩ => exact (Pipeline.Window.rect_emb_val win0_0 t (ix2 s r) 0).trans (by rw [h]; show 0 * 2048 + s.val = s.val; omega)
  | ⟨1, _⟩ => exact (Pipeline.Window.rect_emb_val win0_0 t (ix2 s r) 1).trans (by rw [h]; show t.val * 1792 + r.val = 1792 * t.val + r.val; omega)

/-- The input's block, read where the array has it. -/
theorem iblk_1 (t : Fin cfg0.N) (s : Fin 2048) (d : Fin 1024) :
    (iblk m c 1 t : Vec Ideal S2048x1024 .bf16) (ix2 s d) = V m c main_arg1 (ix2 s (colAt d)) := by
  refine congrArg (V m c main_arg1) (funext fun a => Fin.ext ?_)
  have h := (index_facts t).2.1
  match a with
  | ⟨0, _⟩ => exact (Pipeline.Window.rect_emb_val win0_1 t (ix2 s d) 0).trans (by rw [h]; show 0 * 2048 + s.val = s.val; omega)
  | ⟨1, _⟩ => exact (Pipeline.Window.rect_emb_val win0_1 t (ix2 s d) 1).trans (by rw [h]; show 0 * 1024 + d.val = d.val; omega)

/-- Where a point's result lies in its array. -/
theorem emb_2 (t : Fin cfg0.N) (r : Fin 1792) (d : Fin 1024) :
    (((cfg0.win 2).blk t).view.emb (ix2 r d) : S12544x1024.Idx) = ix2 (rowAt t r) d := by
  refine funext fun a => Fin.ext ?_
  have h := (index_facts t).2.2.1
  match a with
  | ⟨0, _⟩ => exact (Pipeline.Window.rect_emb_val win0_2 t (ix2 r d) 0).trans (by rw [h]; show t.val * 1792 + r.val = 1792 * t.val + r.val; omega)
  | ⟨1, _⟩ => exact (Pipeline.Window.rect_emb_val win0_2 t (ix2 r d) 1).trans (by rw [h]; show 0 * 1024 + d.val = d.val; omega)

/-- Every row lies in the block of one point. -/
theorem row_cover (i : Fin 12544) : ∃ (t : Fin cfg0.N) (r : Fin 1792), i = rowAt t r :=
  ⟨⟨i.val / 1792, by have e : cfg0.N = 7 := N_0; have := i.isLt; omega⟩, ⟨i.val % 1792, by omega⟩,
    Fin.ext (by show i.val = 1792 * (i.val / 1792) + i.val % 1792; omega)⟩

/-- The array of the gradient after the run. -/
theorem final_2 : (dats m 0 c).arrAt 2 cfg0.N = grad (V m c main_arg0) (V m c main_arg1) := by
  refine Pipeline.Dat.arrAt_eq_of_cover (dats m 0 c) 2 _ (fun t _ => ?_) (fun i => ?_)
  · funext y
    obtain ⟨r, d, rfl⟩ : ∃ (r : Fin 1792) (d : Fin 1024), y = ix2 r d := ⟨y 0, y 1, eq_ix2 y⟩
    have e : @Eq EReal (((cfg0.win 2).blk t).view.read (Elt Ideal) (grad (V m c main_arg0) (V m c main_arg1)) (ix2 r d))
        (grad (V m c main_arg0) (V m c main_arg1) (ix2 (rowAt t r) d)) :=
      congrArg (grad (V m c main_arg0) (V m c main_arg1)) (emb_2 t r d)
    refine Eq.trans ?_ e.symm
    rw [Value.flushed2 m c t]
    refine (out_apply (iblk m c 0 t) (iblk m c 1 t) r d).trans (Finset.sum_congr rfl fun s _ => ?_)
    rw [iblk_0, iblk_1]
  · obtain ⟨i, d, rfl⟩ : ∃ (a : Fin 12544) (d : Fin 1024), i = ix2 a d := ⟨i 0, i 1, eq_ix2 i⟩
    obtain ⟨t, r, rfl⟩ := row_cover i
    exact ⟨t, (index_facts t).2.2.2, Eq.subst (motive := fun j => j ∈ ((cfg0.win 2).blk t).view.set) (emb_2 t r d)
      (((cfg0.win 2).blk t).view.emb_mem_set (ix2 r d))⟩

open Cert.WinLeftRefIdeal.Read in
/-- The reference's result is the gradient. -/
theorem reference_eq (x : S2048x12544.Idx → EReal) (h : S2048x2048.Idx → EReal) : val_main_v8 (F := Ideal) x h = grad x h := by
  funext y
  rw [val_main_v8_apply, val_main_v7_apply, val_main_v6_apply, val_main_v5_apply]
  refine (val_main_v4_apply x h _).trans (Finset.sum_congr rfl fun s _ => ?_)
  refine congrArg₂ (· * ·) (congrArg x (funext fun a => ?_)) (congrArg h (funext fun a => ?_))
  · match a with | ⟨0, _⟩ => rfl | ⟨1, _⟩ => rfl
  · match a with | ⟨0, _⟩ => rfl | ⟨1, _⟩ => rfl

end Cert.WinLeftIdeal.Hand

namespace Cert.Proof
open Idealize.ShloMosaic Idealize.ShloMosaic.TcCoe Idealize.SL.Sem

/-- The left half of the weight's gradient, kernel and reference. -/
theorem algebraic_left : @Cert.algebraic_WinLeftIdeal_WinLeftRefIdeal Cert.WinLeftIdeal.Gen.facts Cert.WinLeftRefIdeal.Gen.facts := by
  pair_intro
  · run_from Cert.WinLeftIdeal.Value.run_blocks m g
  · refine (θ_run _ _ _).mono (fun r hr c => ?_) (Cert.WinLeftRefIdeal.Value.run m' g')
    obtain ⟨r0, ra⟩ := hr c
    obtain ⟨a0, a1⟩ := hagree c
    refine ⟨r0.trans ?_, ra⟩
    rw [Cert.WinLeftRefIdeal.Read.val_main_v8_eq, a0, a1]
    exact (Cert.WinLeftIdeal.Hand.reference_eq _ _).trans (Cert.WinLeftIdeal.Hand.final_2 m c).symm

end Cert.Proof
-- ==== Proof.InputWeightRight.lean ====
module

public import proofs.«01_k».proof.Defs
public import proofs.«01_k».proof.Proof.Gen.WinRightIdeal.Value
public import proofs.«01_k».proof.Proof.Gen.WinRightRefIdeal.Run
public import proofs.«01_k».proof.Proof.Gen.WinRightRefIdeal.Read
public import proofs.«01_k».proof.Proof.Products
public import Idealize.ShloMosaic.Lib.Pipeline.ValueKit

/-!
The gradient of the input projection's weight, its right half: row `j` and column `d` hold the sum over the tokens of the
projection's cotangent at `j` times the layer's input at `d`. The grid's point `t` computes the rows `1792 t` to
`1792 t + 1791` in one product over all the tokens.
-/

@[expose] public section
set_option maxRecDepth 16384

noncomputable section
namespace Cert.WinRightIdeal.Hand
open Cert.WinRightIdeal Cert.WinRightIdeal.Gen
open Idealize.ShloMosaic hiding ix2 ix1 eq_ix2
open Idealize.ShloMosaic.TcCoe Idealize.ShloMosaic.ValueIdx Idealize.SL.Sem Cert.Products

/-- The block every window stages at a grid point. -/
theorem index_facts : ∀ t : Fin cfg0.N, win0_0.index t = ![0, t.val] ∧ win0_1.index t = ![0, 1] ∧ win0_2.index t = ![t.val, 0]
    ∧ (cfg0.win 2).flush t = true :=
  (by decide +kernel : ∀ t : Fin grid0.N, _)

/-- Row `r` of the block of point `t`. -/
def rowAt (t : Fin cfg0.N) (r : Fin 1792) : Fin 12544 :=
  ⟨1792 * t.val + r.val, by have h := t.isLt; have e : cfg0.N = 7 := N_0; omega⟩

/-- A column of the right half, in the whole width. -/
def colAt (d : Fin 1024) : Fin 2048 := ⟨1024 + d.val, by omega⟩

/-- The gradient, at an entry of its array. -/
def grad (x : S2048x12544.Idx → EReal) (h : S2048x2048.Idx → EReal) (y : S12544x1024.Idx) : EReal :=
  ∑ s : Fin 2048, x (ix2 s (y 0)) * h (ix2 s (colAt (y 1)))

/-- What a point computes from its blocks. -/
theorem out_apply (x : Vec Ideal S2048x1792 .bf16) (h : Vec Ideal S2048x1024 .bf16) (r : Fin 1792) (d : Fin 1024) :
    @Eq EReal (out0_2 x h (ix2 r d)) (∑ s : Fin 2048, (x (ix2 s r) : EReal) * h (ix2 s d)) := by
  unfold out0_2
  rw [View.canon_cons_unit_lit _ _ _ (by decide), View.ld_unit_lit _ _ (by decide), View.ld_unit_lit _ _ (by decide)]
  unfold k0_pay1
  refine (congrFun (shapeCast_self _ _) (ix2 r d)).trans ?_
  exact entry_sum dot_S2048x1792_S2048x1024_S1792x1024_0_0_1_1_n_n 2048 rfl rfl x h (ix2 r d) (fun s => ix2 s r) (fun s => ix2 s d)
    (fun s => funext fun a => match a with | ⟨0, _⟩ => rfl | ⟨1, _⟩ => rfl) (fun s => funext fun a => match a with | ⟨0, _⟩ => rfl | ⟨1, _⟩ => rfl)

variable (m : (ℓ : Loc nD τ sig) → Buf (Elt Ideal) ℓ) (c : Dev nD)

/-- The cotangent's block, read where the array has it. -/
theorem iblk_0 (t : Fin cfg0.N) (s : Fin 2048) (r : Fin 1792) :
    (iblk m c 0 t : Vec Ideal S2048x1792 .bf16) (ix2 s r) = V m c main_arg0 (ix2 s (rowAt t r)) := by
  refine congrArg (V m c main_arg0) (funext fun a => Fin.ext ?_)
  have h := (index_facts t).1
  match a with
  | ⟨0, _⟩ => exact (Pipeline.Window.rect_emb_val win0_0 t (ix2 s r) 0).trans (by rw [h]; show 0 * 2048 + s.val = s.val; omega)
  | ⟨1, _⟩ => exact (Pipeline.Window.rect_emb_val win0_0 t (ix2 s r) 1).trans (by rw [h]; show t.val * 1792 + r.val = 1792 * t.val + r.val; omega)

/-- The input's block, read where the array has it. -/
theorem iblk_1 (t : Fin cfg0.N) (s : Fin 2048) (d : Fin 1024) :
    (iblk m c 1 t : Vec Ideal S2048x1024 .bf16) (ix2 s d) = V m c main_arg1 (ix2 s (colAt d)) := by
  refine congrArg (V m c main_arg1) (funext fun a => Fin.ext ?_)
  have h := (index_facts t).2.1
  match a with
  | ⟨0, _⟩ => exact (Pipeline.Window.rect_emb_val win0_1 t (ix2 s d) 0).trans (by rw [h]; show 0 * 2048 + s.val = s.val; omega)
  | ⟨1, _⟩ => exact (Pipeline.Window.rect_emb_val win0_1 t (ix2 s d) 1).trans (by rw [h]; show 1 * 1024 + d.val = 1024 + d.val; omega)

/-- Where a point's result lies in its array. -/
theorem emb_2 (t : Fin cfg0.N) (r : Fin 1792) (d : Fin 1024) :
    (((cfg0.win 2).blk t).view.emb (ix2 r d) : S12544x1024.Idx) = ix2 (rowAt t r) d := by
  refine funext fun a => Fin.ext ?_
  have h := (index_facts t).2.2.1
  match a with
  | ⟨0, _⟩ => exact (Pipeline.Window.rect_emb_val win0_2 t (ix2 r d) 0).trans (by rw [h]; show t.val * 1792 + r.val = 1792 * t.val + r.val; omega)
  | ⟨1, _⟩ => exact (Pipeline.Window.rect_emb_val win0_2 t (ix2 r d) 1).trans (by rw [h]; show 0 * 1024 + d.val = d.val; omega)

/-- Every row lies in the block of one point. -/
theorem row_cover (i : Fin 12544) : ∃ (t : Fin cfg0.N) (r : Fin 1792), i = rowAt t r :=
  ⟨⟨i.val / 1792, by have e : cfg0.N = 7 := N_0; have := i.isLt; omega⟩, ⟨i.val % 1792, by omega⟩,
    Fin.ext (by show i.val = 1792 * (i.val / 1792) + i.val % 1792; omega)⟩

/-- The array of the gradient after the run. -/
theorem final_2 : (dats m 0 c).arrAt 2 cfg0.N = grad (V m c main_arg0) (V m c main_arg1) := by
  refine Pipeline.Dat.arrAt_eq_of_cover (dats m 0 c) 2 _ (fun t _ => ?_) (fun i => ?_)
  · funext y
    obtain ⟨r, d, rfl⟩ : ∃ (r : Fin 1792) (d : Fin 1024), y = ix2 r d := ⟨y 0, y 1, eq_ix2 y⟩
    have e : @Eq EReal (((cfg0.win 2).blk t).view.read (Elt Ideal) (grad (V m c main_arg0) (V m c main_arg1)) (ix2 r d))
        (grad (V m c main_arg0) (V m c main_arg1) (ix2 (rowAt t r) d)) :=
      congrArg (grad (V m c main_arg0) (V m c main_arg1)) (emb_2 t r d)
    refine Eq.trans ?_ e.symm
    rw [Value.flushed2 m c t]
    refine (out_apply (iblk m c 0 t) (iblk m c 1 t) r d).trans (Finset.sum_congr rfl fun s _ => ?_)
    rw [iblk_0, iblk_1]
  · obtain ⟨i, d, rfl⟩ : ∃ (a : Fin 12544) (d : Fin 1024), i = ix2 a d := ⟨i 0, i 1, eq_ix2 i⟩
    obtain ⟨t, r, rfl⟩ := row_cover i
    exact ⟨t, (index_facts t).2.2.2, Eq.subst (motive := fun j => j ∈ ((cfg0.win 2).blk t).view.set) (emb_2 t r d)
      (((cfg0.win 2).blk t).view.emb_mem_set (ix2 r d))⟩

open Cert.WinRightRefIdeal.Read in
/-- The reference's result is the gradient. -/
theorem reference_eq (x : S2048x12544.Idx → EReal) (h : S2048x2048.Idx → EReal) : val_main_v8 (F := Ideal) x h = grad x h := by
  funext y
  rw [val_main_v8_apply, val_main_v7_apply, val_main_v6_apply, val_main_v5_apply]
  refine (val_main_v4_apply x h _).trans (Finset.sum_congr rfl fun s _ => ?_)
  refine congrArg₂ (· * ·) (congrArg x (funext fun a => ?_)) (congrArg h (funext fun a => ?_))
  · match a with | ⟨0, _⟩ => rfl | ⟨1, _⟩ => rfl
  · match a with | ⟨0, _⟩ => rfl | ⟨1, _⟩ => rfl

end Cert.WinRightIdeal.Hand

namespace Cert.Proof
open Idealize.ShloMosaic Idealize.ShloMosaic.TcCoe Idealize.SL.Sem

/-- The right half of the weight's gradient, kernel and reference. -/
theorem algebraic_right : @Cert.algebraic_WinRightIdeal_WinRightRefIdeal Cert.WinRightIdeal.Gen.facts Cert.WinRightRefIdeal.Gen.facts := by
  pair_intro
  · run_from Cert.WinRightIdeal.Value.run_blocks m g
  · refine (θ_run _ _ _).mono (fun r hr c => ?_) (Cert.WinRightRefIdeal.Value.run m' g')
    obtain ⟨r0, ra⟩ := hr c
    obtain ⟨a0, a1⟩ := hagree c
    refine ⟨r0.trans ?_, ra⟩
    rw [Cert.WinRightRefIdeal.Read.val_main_v8_eq, a0, a1]
    exact (Cert.WinRightIdeal.Hand.reference_eq _ _).trans (Cert.WinRightIdeal.Hand.final_2 m c).symm

end Cert.Proof
-- ==== Proof.OutputWeight.lean ====
module

public import proofs.«01_k».proof.Defs
public import proofs.«01_k».proof.Proof.Gen.WoutIdeal.Value
public import proofs.«01_k».proof.Proof.Gen.WoutRefIdeal.Run
public import proofs.«01_k».proof.Proof.Gen.WoutRefIdeal.Read
public import proofs.«01_k».proof.Proof.Products
public import Idealize.ShloMosaic.Lib.Pipeline.ValueKit

/-!
The gradient of the output projection's weight, laid out in the blocks their owners take: entry `(b, a, r, e)` is row
`(2 a + b) 256 + r` and column `e` of the gradient, the sum over the tokens of the merged branches at the row times the cotangent at the column. The grid's point
`t` computes the rows `256 t` to `256 t + 255` in one product over all the tokens and writes the block `(t % 2, t / 2)`.
-/

@[expose] public section
set_option maxRecDepth 16384

noncomputable section
namespace Cert.WoutIdeal.Hand
open Cert.WoutIdeal Cert.WoutIdeal.Gen
open Idealize.ShloMosaic hiding ix2 ix1 ix4 eq_ix2 eq_ix4
open Idealize.ShloMosaic.TcCoe Idealize.ShloMosaic.ValueIdx Idealize.SL.Sem Cert.Products

/-- The block every window stages at a grid point. -/
theorem index_facts : ∀ t : Fin cfg0.N, win0_0.index t = ![0, t.val] ∧ win0_1.index t = ![0, 0]
    ∧ win0_2.index t = ![t.val % 2, t.val / 2, 0, 0] ∧ (cfg0.win 2).flush t = true :=
  (by decide +kernel : ∀ t : Fin grid0.N, _)

/-- Row `r` of the block of point `t`. -/
def rowAt (t : Fin cfg0.N) (r : Fin 256) : Fin 2048 :=
  ⟨256 * t.val + r.val, by have h := t.isLt; have e : cfg0.N = 8 := N_0; omega⟩

/-- The row held by the block `(b, a)` at its row `r`. -/
def rowOf (b : Fin 2) (a : Fin 4) (r : Fin 256) : Fin 2048 := ⟨256 * (2 * a.val + b.val) + r.val, by omega⟩

/-- The first two coordinates of the block a point writes. -/
def fstAt (t : Fin cfg0.N) : Fin 2 := ⟨t.val % 2, by omega⟩
def sndAt (t : Fin cfg0.N) : Fin 4 := ⟨t.val / 2, by have h := t.isLt; have e : cfg0.N = 8 := N_0; omega⟩

/-- The gradient, at an entry of its array. -/
def grad (x g : S2048x2048.Idx → EReal) (y : S2x4x256x2048.Idx) : EReal :=
  ∑ s : Fin 2048, x (ix2 s (rowOf (y 0) (y 1) (y 2))) * g (ix2 s (y 3))

/-- What a point computes from its blocks. -/
theorem out_apply (x : Vec Ideal S2048x256 .bf16) (g : Vec Ideal S2048x2048 .bf16) (r : Fin 256) (d : Fin 2048) :
    @Eq EReal (out0_2 x g (ix4 (0 : Fin 1) (0 : Fin 1) r d)) (∑ s : Fin 2048, (x (ix2 s r) : EReal) * g (ix2 s d)) := by
  unfold out0_2
  rw [View.canon_cons_unit_lit _ _ _ (by decide), View.ld_unit_lit _ _ (by decide), View.ld_unit_lit _ _ (by decide)]
  unfold k0_pay1
  refine (shapeCast_apply _ _ (ix4 (0 : Fin 1) (0 : Fin 1) r d) (ix2 r d) ?_).trans ?_
  · rw [Shape.rowMajor_val_two, Shape.rowMajor_val_four]
    show r.val * 2048 + d.val = ((0 * 1 + 0) * 256 + r.val) * 2048 + d.val
    omega
  exact entry_sum dot_S2048x256_S2048x2048_S256x2048_0_0_1_1_n_n 2048 rfl rfl x g (ix2 r d) (fun s => ix2 s r) (fun s => ix2 s d)
    (fun s => funext fun a => match a with | ⟨0, _⟩ => rfl | ⟨1, _⟩ => rfl) (fun s => funext fun a => match a with | ⟨0, _⟩ => rfl | ⟨1, _⟩ => rfl)

variable (m : (ℓ : Loc nD τ sig) → Buf (Elt Ideal) ℓ) (c : Dev nD)

/-- The branches' block, read where the array has it. -/
theorem iblk_0 (t : Fin cfg0.N) (s : Fin 2048) (r : Fin 256) :
    (iblk m c 0 t : Vec Ideal S2048x256 .bf16) (ix2 s r) = V m c main_arg0 (ix2 s (rowAt t r)) := by
  refine congrArg (V m c main_arg0) (funext fun a => Fin.ext ?_)
  have h := (index_facts t).1
  match a with
  | ⟨0, _⟩ => exact (Pipeline.Window.rect_emb_val win0_0 t (ix2 s r) 0).trans (by rw [h]; show 0 * 2048 + s.val = s.val; omega)
  | ⟨1, _⟩ => exact (Pipeline.Window.rect_emb_val win0_0 t (ix2 s r) 1).trans (by rw [h]; show t.val * 256 + r.val = 256 * t.val + r.val; omega)

/-- The cotangent's block is the array. -/
theorem iblk_1 (t : Fin cfg0.N) (s : Fin 2048) (d : Fin 2048) :
    (iblk m c 1 t : Vec Ideal S2048x2048 .bf16) (ix2 s d) = V m c main_arg1 (ix2 s d) := by
  refine congrArg (V m c main_arg1) (funext fun a => Fin.ext ?_)
  have h := (index_facts t).2.1
  match a with
  | ⟨0, _⟩ => exact (Pipeline.Window.rect_emb_val win0_1 t (ix2 s d) 0).trans (by rw [h]; show 0 * 2048 + s.val = s.val; omega)
  | ⟨1, _⟩ => exact (Pipeline.Window.rect_emb_val win0_1 t (ix2 s d) 1).trans (by rw [h]; show 0 * 2048 + d.val = d.val; omega)

/-- Where a point's result lies in its array. -/
theorem emb_2 (t : Fin cfg0.N) (r : Fin 256) (d : Fin 2048) :
    (((cfg0.win 2).blk t).view.emb (ix4 (0 : Fin 1) (0 : Fin 1) r d) : S2x4x256x2048.Idx) = ix4 (fstAt t) (sndAt t) r d := by
  refine funext fun a => Fin.ext ?_
  have h := (index_facts t).2.2.1
  match a with
  | ⟨0, _⟩ => exact (Pipeline.Window.rect_emb_val win0_2 t (ix4 (0 : Fin 1) (0 : Fin 1) r d) 0).trans (by rw [h]; show t.val % 2 * 1 + 0 = t.val % 2; omega)
  | ⟨1, _⟩ => exact (Pipeline.Window.rect_emb_val win0_2 t (ix4 (0 : Fin 1) (0 : Fin 1) r d) 1).trans (by rw [h]; show t.val / 2 * 1 + 0 = t.val / 2; omega)
  | ⟨2, _⟩ => exact (Pipeline.Window.rect_emb_val win0_2 t (ix4 (0 : Fin 1) (0 : Fin 1) r d) 2).trans (by rw [h]; show 0 * 256 + r.val = r.val; omega)
  | ⟨3, _⟩ => exact (Pipeline.Window.rect_emb_val win0_2 t (ix4 (0 : Fin 1) (0 : Fin 1) r d) 3).trans (by rw [h]; show 0 * 2048 + d.val = d.val; omega)

/-- The rows a point computes are the rows its block holds. -/
theorem row_block (t : Fin cfg0.N) (r : Fin 256) : rowOf (fstAt t) (sndAt t) r = rowAt t r :=
  Fin.ext (by show 256 * (2 * (t.val / 2) + t.val % 2) + r.val = 256 * t.val + r.val; omega)

/-- Every block is written by one point. -/
theorem block_cover (b : Fin 2) (a : Fin 4) : ∃ t : Fin cfg0.N, b = fstAt t ∧ a = sndAt t :=
  ⟨⟨2 * a.val + b.val, by have e : cfg0.N = 8 := N_0; omega⟩, Fin.ext (by show b.val = (2 * a.val + b.val) % 2; omega),
    Fin.ext (by show a.val = (2 * a.val + b.val) / 2; omega)⟩

/-- The array of the gradient after the run. -/
theorem final_2 : (dats m 0 c).arrAt 2 cfg0.N = grad (V m c main_arg0) (V m c main_arg1) := by
  refine Pipeline.Dat.arrAt_eq_of_cover (dats m 0 c) 2 _ (fun t _ => ?_) (fun i => ?_)
  · funext y
    obtain ⟨r, d, rfl⟩ : ∃ (r : Fin 256) (d : Fin 2048), y = ix4 (0 : Fin 1) (0 : Fin 1) r d :=
      ⟨y 2, y 3, (eq_ix4 y).trans (by rw [Fin.fin_one_eq_zero (y 0), Fin.fin_one_eq_zero (y 1)]; rfl)⟩
    have e : @Eq EReal (((cfg0.win 2).blk t).view.read (Elt Ideal) (grad (V m c main_arg0) (V m c main_arg1)) (ix4 (0 : Fin 1) (0 : Fin 1) r d))
        (grad (V m c main_arg0) (V m c main_arg1) (ix4 (fstAt t) (sndAt t) r d)) :=
      congrArg (grad (V m c main_arg0) (V m c main_arg1)) (emb_2 t r d)
    refine Eq.trans ?_ e.symm
    rw [Value.flushed2 m c t]
    refine (out_apply (iblk m c 0 t) (iblk m c 1 t) r d).trans (Finset.sum_congr rfl fun s _ => ?_)
    rw [iblk_0, iblk_1, ← row_block]
  · obtain ⟨b, a, r, d, rfl⟩ : ∃ (b : Fin 2) (a : Fin 4) (r : Fin 256) (d : Fin 2048), i = ix4 b a r d := ⟨i 0, i 1, i 2, i 3, eq_ix4 i⟩
    obtain ⟨t, rfl, rfl⟩ := block_cover b a
    exact ⟨t, (index_facts t).2.2.2, Eq.subst (motive := fun j => j ∈ ((cfg0.win 2).blk t).view.set) (emb_2 t r d)
      (((cfg0.win 2).blk t).view.emb_mem_set (ix4 (0 : Fin 1) (0 : Fin 1) r d))⟩

open Cert.WoutRefIdeal.Read in
/-- The reference's result is the gradient. -/
theorem reference_eq (x g : S2048x2048.Idx → EReal) : val_main_v8 (F := Ideal) x g = grad x g := by
  funext y
  obtain ⟨b, a, r, d, rfl⟩ : ∃ (b : Fin 2) (a : Fin 4) (r : Fin 256) (d : Fin 2048), y = ix4 b a r d := ⟨y 0, y 1, y 2, y 3, eq_ix4 y⟩
  rw [val_main_v8_apply, val_main_v7_apply, val_main_v6_apply, val_main_v5_apply]
  refine (val_main_v4_apply x g _).trans (Finset.sum_congr rfl fun s _ => ?_)
  refine (mul_comm _ _).trans (congrArg₂ (· * ·) (congrArg x (funext fun k => Fin.ext ?_)) (congrArg g (funext fun k => Fin.ext ?_)))
  · match k with
    | ⟨0, _⟩ => rfl
    | ⟨1, _⟩ => show (((a.val * 2 + b.val) * 256 + r.val) * 2048 + d.val) / 2048 = 256 * (2 * a.val + b.val) + r.val; omega
  · match k with
    | ⟨0, _⟩ => rfl
    | ⟨1, _⟩ => show (((a.val * 2 + b.val) * 256 + r.val) * 2048 + d.val) % 2048 = d.val; omega

end Cert.WoutIdeal.Hand

namespace Cert.Proof
open Idealize.ShloMosaic Idealize.ShloMosaic.TcCoe Idealize.SL.Sem

/-- The output weight's gradient, kernel and reference. -/
theorem algebraic_out : @Cert.algebraic_WoutIdeal_WoutRefIdeal Cert.WoutIdeal.Gen.facts Cert.WoutRefIdeal.Gen.facts := by
  pair_intro
  · run_from Cert.WoutIdeal.Value.run_blocks m g
  · refine (θ_run _ _ _).mono (fun r hr c => ?_) (Cert.WoutRefIdeal.Value.run m' g')
    obtain ⟨r0, ra⟩ := hr c
    obtain ⟨a0, a1⟩ := hagree c
    refine ⟨r0.trans ?_, ra⟩
    rw [Cert.WoutRefIdeal.Read.val_main_v8_eq, a0, a1]
    exact (Cert.WoutIdeal.Hand.reference_eq _ _).trans (Cert.WoutIdeal.Hand.final_2 m c).symm

end Cert.Proof
-- ==== Proof.BranchWeight.lean ====
module

public import proofs.«01_k».proof.Defs
public import proofs.«01_k».proof.Proof.Gen.WbrIdeal.Value
public import proofs.«01_k».proof.Proof.Gen.WbrRefIdeal.Run
public import proofs.«01_k».proof.Proof.Gen.WbrRefIdeal.Read
public import proofs.«01_k».proof.Proof.Products
public import Idealize.ShloMosaic.Lib.Pipeline.ValueKit

/-!
The gradient of the branch projections's weight (the same call for each of the three branches), laid out in the blocks their owners take: entry `(b, a, d, r)` is row
`d` and column `(2 a + b) 256 + r` of the gradient, the sum over the tokens of the branch at the row times the cotangent at the column. The grid's point
`t` computes the columns `256 t` to `256 t + 255` in one product over all the tokens and writes the block `(t % 2, t / 2)`.
-/

@[expose] public section
set_option maxRecDepth 16384

noncomputable section
namespace Cert.WbrIdeal.Hand
open Cert.WbrIdeal Cert.WbrIdeal.Gen
open Idealize.ShloMosaic hiding ix2 ix1 ix4 eq_ix2 eq_ix4
open Idealize.ShloMosaic.TcCoe Idealize.ShloMosaic.ValueIdx Idealize.SL.Sem Cert.Products

/-- The block every window stages at a grid point. -/
theorem index_facts : ∀ t : Fin cfg0.N, win0_0.index t = ![0, 0] ∧ win0_1.index t = ![0, t.val]
    ∧ win0_2.index t = ![t.val % 2, t.val / 2, 0, 0] ∧ (cfg0.win 2).flush t = true :=
  (by decide +kernel : ∀ t : Fin grid0.N, _)

/-- Column `r` of the block of point `t`. -/
def colAt (t : Fin cfg0.N) (r : Fin 256) : Fin 2048 :=
  ⟨256 * t.val + r.val, by have h := t.isLt; have e : cfg0.N = 8 := N_0; omega⟩

/-- The column held by the block `(b, a)` at its column `r`. -/
def colOf (b : Fin 2) (a : Fin 4) (r : Fin 256) : Fin 2048 := ⟨256 * (2 * a.val + b.val) + r.val, by omega⟩

/-- The first two coordinates of the block a point writes. -/
def fstAt (t : Fin cfg0.N) : Fin 2 := ⟨t.val % 2, by omega⟩
def sndAt (t : Fin cfg0.N) : Fin 4 := ⟨t.val / 2, by have h := t.isLt; have e : cfg0.N = 8 := N_0; omega⟩

/-- The gradient, at an entry of its array. -/
def grad (x : S2048x1024.Idx → EReal) (g : S2048x2048.Idx → EReal) (y : S2x4x1024x256.Idx) : EReal :=
  ∑ s : Fin 2048, x (ix2 s (y 2)) * g (ix2 s (colOf (y 0) (y 1) (y 3)))

/-- What a point computes from its blocks. -/
theorem out_apply (x : Vec Ideal S2048x1024 .bf16) (g : Vec Ideal S2048x256 .bf16) (d : Fin 1024) (r : Fin 256) :
    @Eq EReal (out0_2 x g (ix4 (0 : Fin 1) (0 : Fin 1) d r)) (∑ s : Fin 2048, (x (ix2 s d) : EReal) * g (ix2 s r)) := by
  unfold out0_2
  rw [View.canon_cons_unit_lit _ _ _ (by decide), View.ld_unit_lit _ _ (by decide), View.ld_unit_lit _ _ (by decide)]
  unfold k0_pay1
  refine (shapeCast_apply _ _ (ix4 (0 : Fin 1) (0 : Fin 1) d r) (ix2 d r) ?_).trans ?_
  · rw [Shape.rowMajor_val_two, Shape.rowMajor_val_four]
    show d.val * 256 + r.val = ((0 * 1 + 0) * 1024 + d.val) * 256 + r.val
    omega
  exact entry_sum dot_S2048x1024_S2048x256_S1024x256_0_0_1_1_n_n 2048 rfl rfl x g (ix2 d r) (fun s => ix2 s d) (fun s => ix2 s r)
    (fun s => funext fun a => match a with | ⟨0, _⟩ => rfl | ⟨1, _⟩ => rfl) (fun s => funext fun a => match a with | ⟨0, _⟩ => rfl | ⟨1, _⟩ => rfl)

variable (m : (ℓ : Loc nD τ sig) → Buf (Elt Ideal) ℓ) (c : Dev nD)

/-- The branch's block is the array. -/
theorem iblk_0 (t : Fin cfg0.N) (s : Fin 2048) (d : Fin 1024) :
    (iblk m c 0 t : Vec Ideal S2048x1024 .bf16) (ix2 s d) = V m c main_arg0 (ix2 s d) := by
  refine congrArg (V m c main_arg0) (funext fun a => Fin.ext ?_)
  have h := (index_facts t).1
  match a with
  | ⟨0, _⟩ => exact (Pipeline.Window.rect_emb_val win0_0 t (ix2 s d) 0).trans (by rw [h]; show 0 * 2048 + s.val = s.val; omega)
  | ⟨1, _⟩ => exact (Pipeline.Window.rect_emb_val win0_0 t (ix2 s d) 1).trans (by rw [h]; show 0 * 1024 + d.val = d.val; omega)

/-- The cotangent's block, read where the array has it. -/
theorem iblk_1 (t : Fin cfg0.N) (s : Fin 2048) (r : Fin 256) :
    (iblk m c 1 t : Vec Ideal S2048x256 .bf16) (ix2 s r) = V m c main_arg1 (ix2 s (colAt t r)) := by
  refine congrArg (V m c main_arg1) (funext fun a => Fin.ext ?_)
  have h := (index_facts t).2.1
  match a with
  | ⟨0, _⟩ => exact (Pipeline.Window.rect_emb_val win0_1 t (ix2 s r) 0).trans (by rw [h]; show 0 * 2048 + s.val = s.val; omega)
  | ⟨1, _⟩ => exact (Pipeline.Window.rect_emb_val win0_1 t (ix2 s r) 1).trans (by rw [h]; show t.val * 256 + r.val = 256 * t.val + r.val; omega)

/-- Where a point's result lies in its array. -/
theorem emb_2 (t : Fin cfg0.N) (d : Fin 1024) (r : Fin 256) :
    (((cfg0.win 2).blk t).view.emb (ix4 (0 : Fin 1) (0 : Fin 1) d r) : S2x4x1024x256.Idx) = ix4 (fstAt t) (sndAt t) d r := by
  refine funext fun a => Fin.ext ?_
  have h := (index_facts t).2.2.1
  match a with
  | ⟨0, _⟩ => exact (Pipeline.Window.rect_emb_val win0_2 t (ix4 (0 : Fin 1) (0 : Fin 1) d r) 0).trans (by rw [h]; show t.val % 2 * 1 + 0 = t.val % 2; omega)
  | ⟨1, _⟩ => exact (Pipeline.Window.rect_emb_val win0_2 t (ix4 (0 : Fin 1) (0 : Fin 1) d r) 1).trans (by rw [h]; show t.val / 2 * 1 + 0 = t.val / 2; omega)
  | ⟨2, _⟩ => exact (Pipeline.Window.rect_emb_val win0_2 t (ix4 (0 : Fin 1) (0 : Fin 1) d r) 2).trans (by rw [h]; show 0 * 1024 + d.val = d.val; omega)
  | ⟨3, _⟩ => exact (Pipeline.Window.rect_emb_val win0_2 t (ix4 (0 : Fin 1) (0 : Fin 1) d r) 3).trans (by rw [h]; show 0 * 256 + r.val = r.val; omega)

/-- The columns a point computes are the columns its block holds. -/
theorem col_block (t : Fin cfg0.N) (r : Fin 256) : colOf (fstAt t) (sndAt t) r = colAt t r :=
  Fin.ext (by show 256 * (2 * (t.val / 2) + t.val % 2) + r.val = 256 * t.val + r.val; omega)

/-- Every block is written by one point. -/
theorem block_cover (b : Fin 2) (a : Fin 4) : ∃ t : Fin cfg0.N, b = fstAt t ∧ a = sndAt t :=
  ⟨⟨2 * a.val + b.val, by have e : cfg0.N = 8 := N_0; omega⟩, Fin.ext (by show b.val = (2 * a.val + b.val) % 2; omega),
    Fin.ext (by show a.val = (2 * a.val + b.val) / 2; omega)⟩

/-- The array of the gradient after the run. -/
theorem final_2 : (dats m 0 c).arrAt 2 cfg0.N = grad (V m c main_arg0) (V m c main_arg1) := by
  refine Pipeline.Dat.arrAt_eq_of_cover (dats m 0 c) 2 _ (fun t _ => ?_) (fun i => ?_)
  · funext y
    obtain ⟨d, r, rfl⟩ : ∃ (d : Fin 1024) (r : Fin 256), y = ix4 (0 : Fin 1) (0 : Fin 1) d r :=
      ⟨y 2, y 3, (eq_ix4 y).trans (by rw [Fin.fin_one_eq_zero (y 0), Fin.fin_one_eq_zero (y 1)]; rfl)⟩
    have e : @Eq EReal (((cfg0.win 2).blk t).view.read (Elt Ideal) (grad (V m c main_arg0) (V m c main_arg1)) (ix4 (0 : Fin 1) (0 : Fin 1) d r))
        (grad (V m c main_arg0) (V m c main_arg1) (ix4 (fstAt t) (sndAt t) d r)) :=
      congrArg (grad (V m c main_arg0) (V m c main_arg1)) (emb_2 t d r)
    refine Eq.trans ?_ e.symm
    rw [Value.flushed2 m c t]
    refine (out_apply (iblk m c 0 t) (iblk m c 1 t) d r).trans (Finset.sum_congr rfl fun s _ => ?_)
    rw [iblk_0, iblk_1, ← col_block]
  · obtain ⟨b, a, d, r, rfl⟩ : ∃ (b : Fin 2) (a : Fin 4) (d : Fin 1024) (r : Fin 256), i = ix4 b a d r := ⟨i 0, i 1, i 2, i 3, eq_ix4 i⟩
    obtain ⟨t, rfl, rfl⟩ := block_cover b a
    exact ⟨t, (index_facts t).2.2.2, Eq.subst (motive := fun j => j ∈ ((cfg0.win 2).blk t).view.set) (emb_2 t d r)
      (((cfg0.win 2).blk t).view.emb_mem_set (ix4 (0 : Fin 1) (0 : Fin 1) d r))⟩

open Cert.WbrRefIdeal.Read in
/-- The reference's result is the gradient. -/
theorem reference_eq (x : S2048x1024.Idx → EReal) (g : S2048x2048.Idx → EReal) : val_main_v8 (F := Ideal) x g = grad x g := by
  funext y
  obtain ⟨b, a, d, r, rfl⟩ : ∃ (b : Fin 2) (a : Fin 4) (d : Fin 1024) (r : Fin 256), y = ix4 b a d r := ⟨y 0, y 1, y 2, y 3, eq_ix4 y⟩
  rw [val_main_v8_apply, val_main_v7_apply, val_main_v6_apply, val_main_v5_apply]
  refine (val_main_v4_apply x g _).trans (Finset.sum_congr rfl fun s _ => ?_)
  refine (mul_comm _ _).trans (congrArg₂ (· * ·) (congrArg x (funext fun k => Fin.ext ?_)) (congrArg g (funext fun k => Fin.ext ?_)))
  · match k with
    | ⟨0, _⟩ => rfl
    | ⟨1, _⟩ => show (((d.val * 4 + a.val) * 2 + b.val) * 256 + r.val) / 2048 = d.val; omega
  · match k with
    | ⟨0, _⟩ => rfl
    | ⟨1, _⟩ => show (((d.val * 4 + a.val) * 2 + b.val) * 256 + r.val) % 2048 = 256 * (2 * a.val + b.val) + r.val; omega

end Cert.WbrIdeal.Hand

namespace Cert.Proof
open Idealize.ShloMosaic Idealize.ShloMosaic.TcCoe Idealize.SL.Sem

/-- A branch weight's gradient, kernel and reference. -/
theorem algebraic_branch : @Cert.algebraic_WbrIdeal_WbrRefIdeal Cert.WbrIdeal.Gen.facts Cert.WbrRefIdeal.Gen.facts := by
  pair_intro
  · run_from Cert.WbrIdeal.Value.run_blocks m g
  · refine (θ_run _ _ _).mono (fun r hr c => ?_) (Cert.WbrRefIdeal.Value.run m' g')
    obtain ⟨r0, ra⟩ := hr c
    obtain ⟨a0, a1⟩ := hagree c
    refine ⟨r0.trans ?_, ra⟩
    rw [Cert.WbrRefIdeal.Read.val_main_v8_eq, a0, a1]
    exact (Cert.WbrIdeal.Hand.reference_eq _ _).trans (Cert.WbrIdeal.Hand.final_2 m c).symm

end Cert.Proof
-- ==== Proof.DxLoop.lean ====
module

public import proofs.«01_k».proof.Proof.Gen.DxIdeal.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.VecWindow

/-!
The counted loop at the end of a row of blocks, eight trips of sixty-four rows: what each trip stores into the block of the token
gradient and into the scale's gradient, and the loop by what the two buffers hold before each trip. The token gradient's block is only
written, so what a trip stores there does not depend on what the block held.
-/

@[expose] public section
set_option maxRecDepth 8192

noncomputable section
namespace Cert.DxIdeal.Loop
open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the runs of this program are stated over. -/
local notation "𝕄L" => MT nD τ sig Unit (Elt F) ℕ (UR sig nD τ) ℕ

/-- The sixty-four rows of a staged block that trip `k` works on lie in the block. -/
theorem rows_inb : ∀ k : Fin k0_t1_loop.trips, ∀ a, k0_off1 k a + S64x2048.size a ≤ S512x2048.size a := by decide +kernel

/-- The sixty-four rows of a staged block that trip `k` works on. -/
abbrev rows (k : Fin k0_t1_loop.trips) : Rect S512x2048 := Rect.unit (s := S512x2048) (k0_off1 k) S64x2048.size (rows_inb k)

/-- The whole of a staged row vector. -/
abbrev wholeRow : Rect S1x2048 := Rect.unit (s := S1x2048) ![0, 0] S1x2048.size inb_S1x2048_S1x2048_0_0

section Values

variable (acc x y : Vec F S512x2048 .f32) (g : Vec F S1x2048 .f32)

/-- What trip `k` stores into the block of the token gradient. -/
def dxPiece (k : Fin k0_t1_loop.trips) : View.Piece (Elt F) S512x2048 .f32 :=
  ⟨rows k, k0_pay7 (View.ld acc (rows k)) (View.ld x (rows k)) (View.ld g wholeRow) (View.ld y (rows k))⟩

/-- The stores of the trips before `k` into the block of the token gradient, the last first. -/
def dxPieces : ℕ → List (View.Piece (Elt F) S512x2048 .f32)
  | 0 => []
  | k + 1 => if hk : k < k0_t1_loop.trips then dxPiece acc x y g ⟨k, hk⟩ :: dxPieces k else dxPieces k

theorem dxPieces_succ (k : Fin k0_t1_loop.trips) :
    dxPieces acc x y g (k.val + 1) = dxPiece acc x y g k :: dxPieces acc x y g k.val := by
  rw [dxPieces]; exact dif_pos k.isLt

/-- What trip `k` makes of the scale's gradient `p`. -/
def preStep (p : Vec F S1x2048 .f32) (k : Fin k0_t1_loop.trips) : Vec F S1x2048 .f32 :=
  k0_pay6 (View.ld acc (rows k)) (View.ld x (rows k)) (View.ld p wholeRow)

/-- The scale's gradient after the trips before `k`, from `p` before the loop. -/
def preAfter (p : Vec F S1x2048 .f32) : ℕ → Vec F S1x2048 .f32
  | 0 => p
  | k + 1 => if hk : k < k0_t1_loop.trips then preStep acc x (preAfter p k) ⟨k, hk⟩ else preAfter p k

theorem preAfter_succ (p : Vec F S1x2048 .f32) (k : Fin k0_t1_loop.trips) :
    preAfter acc x p (k.val + 1) = preStep acc x (preAfter acc x p k.val) k := by
  rw [preAfter]; exact dif_pos k.isLt

variable (ps : Memref sig .tc .vmem S1x2048 .f32) (P : BufTy.Contents (Elt F) ps.view.ty)

/-- The stores of the trips before `k` into the scale's gradient, which holds `P` before the loop, the last first. -/
def prePieces : ℕ → List (View.Piece (Elt F) S1x2048 .f32)
  | 0 => []
  | k + 1 => if hk : k < k0_t1_loop.trips
      then ⟨wholeRow, preStep acc x (View.read (Elt F) ps.view (ps.view.writes (Elt F) P (prePieces k))) ⟨k, hk⟩⟩ :: prePieces k
      else prePieces k

theorem prePieces_succ (k : Fin k0_t1_loop.trips) : prePieces acc x ps P (k.val + 1)
    = ⟨wholeRow, preStep acc x (View.read (Elt F) ps.view (ps.view.writes (Elt F) P (prePieces acc x ps P k.val))) k⟩
      :: prePieces acc x ps P k.val := by
  rw [prePieces]; exact dif_pos k.isLt

/-- The buffer with those stores reads as the scale's gradient after the trips. -/
theorem read_prePieces (k : ℕ) : View.read (Elt F) ps.view (ps.view.writes (Elt F) P (prePieces acc x ps P k))
    = preAfter acc x (View.read (Elt F) ps.view P) k := by
  induction k with
  | zero => rfl
  | succ k ih =>
    by_cases hk : k < k0_t1_loop.trips
    · rw [prePieces_succ acc x ps P ⟨k, hk⟩, preAfter_succ acc x _ ⟨k, hk⟩, ← ih]
      exact View.read_writes_full ps.view P inb_S1x2048_S1x2048_0_0 _ _
    · rw [prePieces, preAfter, dif_neg hk, dif_neg hk, ih]

end Values

section Buffers

variable (c : Dev nD) (xs ys dxs accs : Memref sig .tc .vmem S512x2048 .f32) (gs ps : Memref sig .tc .vmem S1x2048 .f32)
  (X : BufTy.Contents (Elt F) xs.view.ty) (Y : BufTy.Contents (Elt F) ys.view.ty) (D : BufTy.Contents (Elt F) dxs.view.ty)
  (A : BufTy.Contents (Elt F) accs.view.ty) (Gn : BufTy.Contents (Elt F) gs.view.ty) (P : BufTy.Contents (Elt F) ps.view.ty)

/-- The staging buffers a trip reads, at their contents, and the two it writes. -/
abbrev held : sProp 𝕄L :=
  iprop((xs.view.loc (c : Thread nD τ) ↦[xs.view.set]{fullShare} X) ∗ (ys.view.loc (c : Thread nD τ) ↦[ys.view.set]{fullShare} Y)
    ∗ (gs.view.loc (c : Thread nD τ) ↦[gs.view.set]{fullShare} Gn) ∗ (accs.view.loc (c : Thread nD τ) ↦[accs.view.set]{fullShare} A)
    ∗ (dxs.view.loc (c : Thread nD τ) ↦[dxs.view.set]{fullShare} D) ∗ (ps.view.loc (c : Thread nD τ) ↦[ps.view.set]{fullShare} P))

/-- Before trip `k`: the stores of the trips before it written over what the two buffers held. -/
abbrev before (k : ℕ) : sProp 𝕄L :=
  iprop((xs.view.loc (c : Thread nD τ) ↦[xs.view.set]{fullShare} X) ∗ (ys.view.loc (c : Thread nD τ) ↦[ys.view.set]{fullShare} Y)
    ∗ (gs.view.loc (c : Thread nD τ) ↦[gs.view.set]{fullShare} Gn) ∗ (accs.view.loc (c : Thread nD τ) ↦[accs.view.set]{fullShare} A)
    ∗ (∃ f, (dxs.view.loc (c : Thread nD τ) ↦[dxs.view.set]{fullShare} f)
        ∗ ⌜f = dxs.view.writes (Elt F) D (dxPieces (View.read (Elt F) accs.view A) (View.read (Elt F) xs.view X)
          (View.read (Elt F) ys.view Y) (View.read (Elt F) gs.view Gn) k)⌝)
    ∗ (∃ f, (ps.view.loc (c : Thread nD τ) ↦[ps.view.set]{fullShare} f)
        ∗ ⌜f = ps.view.writes (Elt F) P (prePieces (View.read (Elt F) accs.view A) (View.read (Elt F) xs.view X) ps P k)⌝))

end Buffers

variable (𝒱 : Variants) (c : Dev nD) (bd : Option 𝒱.V) (E : Set ℕ) (i : grid0.Coords)
  (arg2 : Memref sig .tc .vmem S512x1792 .bf16) (harg2 : arg2.IsWhole) (arg3 : Memref sig .tc .vmem S1792x2048 .bf16) (harg3 : arg3.IsWhole)
  (arg4 : Memref sig .tc .vmem S512x2048 .f32) (harg4 : arg4.IsWhole) (arg5 : Memref sig .tc .vmem S512x2048 .f32) (harg5 : arg5.IsWhole)
  (arg6 : Memref sig .tc .vmem S1x2048 .f32) (harg6 : arg6.IsWhole) (arg7 : Memref sig .tc .vmem S512x2048 .f32) (harg7 : arg7.IsWhole)
  (arg8 : Memref sig .tc .vmem S1x2048 .f32) (harg8 : arg8.IsWhole) (arg9 : Memref sig .tc .vmem S512x2048 .f32) (harg9 : arg9.IsWhole)
  (h : k0_cond3 i = 1#1)
  (X : BufTy.Contents (Elt F) arg4.view.ty) (Y : BufTy.Contents (Elt F) arg5.view.ty) (Gn : BufTy.Contents (Elt F) arg6.view.ty)
  (A : BufTy.Contents (Elt F) arg9.view.ty) (D : BufTy.Contents (Elt F) arg7.view.ty) (P : BufTy.Contents (Elt F) arg8.view.ty)

/-- One trip. -/
theorem trip (k : Fin k0_t1_loop.trips) :
    held (F := F) c arg4 arg5 arg7 arg9 arg6 arg8 X Y D A Gn P
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 h k PUnit.unit)
        (fun _ => held (F := F) c arg4 arg5 arg7 arg9 arg6 arg8 X Y
          (arg7.view.writes (Elt F) D [dxPiece (View.read (Elt F) arg9.view A) (View.read (Elt F) arg4.view X)
            (View.read (Elt F) arg5.view Y) (View.read (Elt F) arg6.view Gn) k]) A Gn
          (arg8.view.writes (Elt F) P [⟨wholeRow, preStep (View.read (Elt F) arg9.view A) (View.read (Elt F) arg4.view X)
            (View.read (Elt F) arg8.view P) k⟩])) := by
  have hk : k.val < 8 := Nat.lt_of_lt_of_le k.isLt k0_t1_abs.2.1
  unfold k0_t1_body
  iintro ⟨HX, HY, HG, HA, HD, HP⟩
  sl_exec
  sl_step
  isplitl [HX]; · iexact HX
  isplitl [HY]; · iexact HY
  isplitl [HG]; · iexact HG
  isplitl [HA]; · iexact HA
  isplitl [HD]; · iexact HD
  iexact HP

set_option warn.classDefReducibility false in
/-- The loop, by what the two buffers hold before each trip. -/
@[sl_loop] def loop : LoopInvTy_k0_t1 (F := F) Unit ℕ (UR sig nD τ) ℕ 𝒱 c bd E i arg2 harg2 arg3 harg3 arg4 harg4 arg5 harg5
      arg6 harg6 arg7 harg7 arg8 harg8 arg9 harg9 h where
  inv k _ := before (F := F) c arg4 arg5 arg7 arg9 arg6 arg8 X Y D A Gn P k
  step k acc := by
    iintro ⟨HX, HY, HG, HA, ⟨%d, HD, %hd⟩, ⟨%p, HP, %hp⟩⟩
    iapply (wp_wand_r Idealize.ShloMosaic.frame (wpE (defs₀ (F := F)) 𝒱 (c : Thread nD τ) bd) E)
    isplitl [HX HY HG HA HD HP]
    · iapply (trip (F := F) 𝒱 c bd E i arg2 harg2 arg3 harg3 arg4 harg4 arg5 harg5 arg6 harg6 arg7 harg7 arg8 harg8 arg9 harg9 h
        X Y Gn A d p k)
      isplitl [HX]; · iexact HX
      isplitl [HY]; · iexact HY
      isplitl [HG]; · iexact HG
      isplitl [HA]; · iexact HA
      isplitl [HD]; · iexact HD
      iexact HP
    · iintro %_ ⟨HX, HY, HG, HA, HD, HP⟩
      isplitl [HX]; · iexact HX
      isplitl [HY]; · iexact HY
      isplitl [HG]; · iexact HG
      isplitl [HA]; · iexact HA
      isplitl [HD]
      · iexists _; isplitl [HD]; · iexact HD
        ipureintro; rw [dxPieces_succ, hd, ← View.writes_append]; rfl
      iexists _; isplitl [HP]; · iexact HP
      ipureintro; rw [prePieces_succ, hp, ← View.writes_append]; rfl

end Cert.DxIdeal.Loop
-- ==== Proof.DxRun.lean ====
module

public import proofs.«01_k».proof.Proof.DxLoop
public import proofs.«01_k».proof.Proof.Gen.DxIdeal.Frame.Runs
public import Idealize.ShloMosaic.Lib.ValueIdx
public import Idealize.ShloMosaic.Lib.Pipeline.Value

/-!
The body at each kind of point of the grid, by what its buffers hold: the product of a row of blocks is summed in a scratch over seven
points, and at the seventh the counted loop makes the token gradient of it.
-/

@[expose] public section
set_option maxRecDepth 16384

noncomputable section
namespace Cert.DxIdeal.Run
open Cert.DxIdeal Cert.DxIdeal.Gen Cert.DxIdeal.Loop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

variable {F : FTy → Type} [FloatOps F]

/-- The algebra the runs of this program are stated over. -/
local notation "𝕄L" => MT nD τ sig Unit (Elt F) ℕ (UR sig nD τ) ℕ

theorem trips_eq : k0_t1_loop.trips = 8 := by decide +kernel

/-- The trip that works on a row of a staged block. -/
def tripOf (p : S512x2048.Idx) : Fin k0_t1_loop.trips := ⟨(p 0).val / 64, by rw [trips_eq]; have : (p 0).val < 512 := (p 0).isLt; omega⟩

/-- The place of an element of a staged block among the rows of its trip. -/
def placeOf (p : S512x2048.Idx) : S64x2048.Idx := ix2 ⟨(p 0).val % 64, Nat.mod_lt _ (by decide)⟩ ⟨(p 1).val, (p 1).isLt⟩

/-- What the loop leaves in the block of the token gradient. -/
def dxBlock (acc x y : Vec F S512x2048 .f32) (g : Vec F S1x2048 .f32) : Vec F S512x2048 .f32 :=
  fun p => (dxPiece acc x y g (tripOf p)).2 (placeOf p)

theorem off_eq : ∀ k : Fin k0_t1_loop.trips, k0_off1 k 0 = 64 * k.val ∧ k0_off1 k 1 = 0 := by decide +kernel

theorem rows_emb_0 (k : Fin k0_t1_loop.trips) (q : (rows k).shape.Idx) : ((rows k).emb q 0).val = 64 * k.val + (q 0).val := by
  show k0_off1 k 0 + 1 * (q 0).val = _; rw [(off_eq k).1, Nat.one_mul]

theorem rows_emb_1 (k : Fin k0_t1_loop.trips) (q : (rows k).shape.Idx) : ((rows k).emb q 1).val = (q 1).val := by
  show k0_off1 k 1 + 1 * (q 1).val = _; rw [(off_eq k).2, Nat.one_mul, Nat.zero_add]

theorem tripOf_emb (k : Fin k0_t1_loop.trips) (q : (rows k).shape.Idx) : tripOf ((rows k).emb q) = k := by
  have h : (q 0).val < 64 := (q 0).isLt
  apply Fin.ext; show ((rows k).emb q 0).val / 64 = k.val; rw [rows_emb_0]; omega

theorem placeOf_emb (k : Fin k0_t1_loop.trips) (q : (rows k).shape.Idx) : placeOf ((rows k).emb q) = q := by
  have h : (q 0).val < 64 := (q 0).isLt
  funext a; apply Fin.ext
  match a with
  | ⟨0, _⟩ => show ((rows k).emb q 0).val % 64 = (q 0).val; rw [rows_emb_0]; omega
  | ⟨1, _⟩ => exact rows_emb_1 k q

theorem emb_placeOf (p : S512x2048.Idx) : (rows (tripOf p)).emb (placeOf p) = p := by
  funext a; apply Fin.ext
  match a with
  | ⟨0, _⟩ => exact (rows_emb_0 _ _).trans (Nat.div_add_mod (p 0).val 64)
  | ⟨1, _⟩ => exact rows_emb_1 _ _

section Pieces

variable (acc x y : Vec F S512x2048 .f32) (g : Vec F S1x2048 .f32)

theorem mem_dxPieces : ∀ (n : ℕ) (p : View.Piece (Elt F) S512x2048 .f32), p ∈ dxPieces acc x y g n → ∃ k, p = dxPiece acc x y g k
  | 0, _, h => absurd h List.not_mem_nil
  | n + 1, p, h => by
    by_cases hn : n < k0_t1_loop.trips
    · rw [dxPieces_succ acc x y g ⟨n, hn⟩] at h
      rcases List.mem_cons.1 h with h | h
      · exact ⟨_, h⟩
      · exact mem_dxPieces n p h
    · rw [dxPieces, dif_neg hn] at h; exact mem_dxPieces n p h

theorem dxPiece_mem (k : Fin k0_t1_loop.trips) : ∀ n : ℕ, k.val < n → dxPiece acc x y g k ∈ dxPieces acc x y g n
  | 0, h => absurd h (Nat.not_lt_zero _)
  | n + 1, h => by
    by_cases hn : n < k0_t1_loop.trips
    · rw [dxPieces_succ acc x y g ⟨n, hn⟩]
      rcases Nat.lt_succ_iff_lt_or_eq.1 h with h | h
      · exact List.mem_cons_of_mem _ (dxPiece_mem k n h)
      · have e : k = ⟨n, hn⟩ := Fin.ext h
        rw [e]; exact List.mem_cons_self
    · rw [dxPieces, dif_neg hn]; exact dxPiece_mem k n (Nat.lt_of_lt_of_le k.isLt (Nat.le_of_not_lt hn))

/-- The block of the token gradient after the loop. -/
theorem read_dxPieces (v : View sig .tc .vmem S512x2048 .f32) (f : v.ty.Contents (Elt F)) :
    v.read (Elt F) (v.writes (Elt F) f (dxPieces acc x y g k0_t1_loop.trips)) = dxBlock acc x y g := by
  funext p
  refine View.read_writes_apply_of_pieces v f (dxBlock acc x y g) _ (fun q hq z => ?_) p
    ⟨_, dxPiece_mem acc x y g (tripOf p) _ (tripOf p).isLt, ?_⟩
  · obtain ⟨k, rfl⟩ := mem_dxPieces acc x y g _ q hq
    unfold dxBlock
    rw [show tripOf ((dxPiece acc x y g k).1.emb z) = k from tripOf_emb k z, show placeOf ((dxPiece acc x y g k).1.emb z) = z from placeOf_emb k z]
  · exact Eq.subst (motive := fun j => j ∈ (rows (tripOf p)).set) (emb_placeOf p) ((rows (tripOf p)).idx_mem (placeOf p))

end Pieces

section Runs

variable (c : Dev nD) (i : grid0.Coords)
  (arg2 : Memref sig .tc .vmem S512x1792 .bf16) (harg2 : arg2.IsWhole) (arg3 : Memref sig .tc .vmem S1792x2048 .bf16) (harg3 : arg3.IsWhole)
  (arg4 : Memref sig .tc .vmem S512x2048 .f32) (harg4 : arg4.IsWhole) (arg5 : Memref sig .tc .vmem S512x2048 .f32) (harg5 : arg5.IsWhole)
  (arg6 : Memref sig .tc .vmem S1x2048 .f32) (harg6 : arg6.IsWhole) (arg7 : Memref sig .tc .vmem S512x2048 .f32) (harg7 : arg7.IsWhole)
  (arg8 : Memref sig .tc .vmem S1x2048 .f32) (harg8 : arg8.IsWhole) (arg9 : Memref sig .tc .vmem S512x2048 .f32) (harg9 : arg9.IsWhole)
  (x0 : Vec F S512x1792 .bf16) (x1 : Vec F S1792x2048 .bf16) (x2 x3 : Vec F S512x2048 .f32) (x4 : Vec F S1x2048 .f32)

/-- The staging buffers of one point and the scratch, at their contents: the five blocks read, the block of the token gradient, the
scale's gradient and the product summed so far. -/
abbrev bufs (d : Vec F S512x2048 .f32) (p : Vec F S1x2048 .f32) (a : Vec F S512x2048 .f32) : sProp 𝕄L :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare d
    ∗ owns (c : Thread nD τ) arg8 fullShare p ∗ owns (c : Thread nD τ) arg9 fullShare a)

variable (d : Vec F S512x2048 .f32) (p : Vec F S1x2048 .f32) (a : Vec F S512x2048 .f32) (E : Set ℕ)

/-- The buffers at contents that read so. -/
theorem bufs_intro (f0 : BufTy.Contents (Elt F) arg2.view.ty) (f1 : BufTy.Contents (Elt F) arg3.view.ty)
    (f2 : BufTy.Contents (Elt F) arg4.view.ty) (f3 : BufTy.Contents (Elt F) arg5.view.ty) (f4 : BufTy.Contents (Elt F) arg6.view.ty)
    (f5 : BufTy.Contents (Elt F) arg7.view.ty) (f6 : BufTy.Contents (Elt F) arg8.view.ty) (fs : BufTy.Contents (Elt F) arg9.view.ty)
    (h0 : View.read (Elt F) arg2.view f0 = x0) (h1 : View.read (Elt F) arg3.view f1 = x1) (h2 : View.read (Elt F) arg4.view f2 = x2)
    (h3 : View.read (Elt F) arg5.view f3 = x3) (h4 : View.read (Elt F) arg6.view f4 = x4) (h5 : View.read (Elt F) arg7.view f5 = d)
    (h6 : View.read (Elt F) arg8.view f6 = p) (hs : View.read (Elt F) arg9.view fs = a) :
    iprop((arg2.view.loc (c : Thread nD τ) ↦[arg2.view.set]{fullShare} f0) ∗ (arg3.view.loc (c : Thread nD τ) ↦[arg3.view.set]{fullShare} f1)
      ∗ (arg4.view.loc (c : Thread nD τ) ↦[arg4.view.set]{fullShare} f2) ∗ (arg5.view.loc (c : Thread nD τ) ↦[arg5.view.set]{fullShare} f3)
      ∗ (arg6.view.loc (c : Thread nD τ) ↦[arg6.view.set]{fullShare} f4) ∗ (arg7.view.loc (c : Thread nD τ) ↦[arg7.view.set]{fullShare} f5)
      ∗ (arg8.view.loc (c : Thread nD τ) ↦[arg8.view.set]{fullShare} f6) ∗ (arg9.view.loc (c : Thread nD τ) ↦[arg9.view.set]{fullShare} fs))
      ⊢ (bufs c arg2 arg3 arg4 arg5 arg6 arg7 arg8 arg9 x0 x1 x2 x3 x4 d p a : sProp 𝕄L) := by
  subst h0 h1 h2 h3 h4 h5 h6 hs
  unfold bufs
  iintro ⟨H0, H1, H2, H3, H4, H5, H6, HS⟩
  isplitl [H0]; · iapply (owns_intro (c : Thread nD τ) arg2 fullShare); iexact H0
  isplitl [H1]; · iapply (owns_intro (c : Thread nD τ) arg3 fullShare); iexact H1
  isplitl [H2]; · iapply (owns_intro (c : Thread nD τ) arg4 fullShare); iexact H2
  isplitl [H3]; · iapply (owns_intro (c : Thread nD τ) arg5 fullShare); iexact H3
  isplitl [H4]; · iapply (owns_intro (c : Thread nD τ) arg6 fullShare); iexact H4
  isplitl [H5]; · iapply (owns_intro (c : Thread nD τ) arg7 fullShare); iexact H5
  isplitl [H6]; · iapply (owns_intro (c : Thread nD τ) arg8 fullShare); iexact H6
  iapply (owns_intro (c : Thread nD τ) arg9 fullShare); iexact HS

omit [FloatOps F] in
/-- The offsets of a whole buffer's load are zero. -/
theorem zero_off : (![0, 0] : Fin 2 → ℕ) = fun _ => 0 := by decide

/-- The scratch after a point's product is added to what was read of it. -/
theorem read_acc (f0 : BufTy.Contents (Elt F) arg2.view.ty) (f1 : BufTy.Contents (Elt F) arg3.view.ty) (fs : BufTy.Contents (Elt F) arg9.view.ty)
    (L : List (View.Piece (Elt F) S512x2048 .f32)) (b : Vec F S512x2048 .f32) :
    View.read (Elt F) arg9.view (arg9.view.writes (Elt F) fs (⟨Rect.unit (s := S512x2048) ![0, 0] S512x2048.size inb_S512x2048_S512x2048_0_0,
      k0_pay3 b (View.readAt (Elt F) arg2.view (Rect.unit (s := S512x1792) ![0, 0] S512x1792.size inb_S512x1792_S512x1792_0_0).toLoadRect f0)
        (View.readAt (Elt F) arg3.view (Rect.unit (s := S1792x2048) ![0, 0] S1792x2048.size inb_S1792x2048_S1792x2048_0_0).toLoadRect f1)⟩ :: L))
      = k0_pay3 b (View.read (Elt F) arg2.view f0) (View.read (Elt F) arg3.view f1) := by
  refine (View.read_writes_full arg9.view _ inb_S512x2048_S512x2048_0_0 _ _).trans ?_
  rw [View.readAt_eq_ld, View.readAt_eq_ld, View.ld_unit_zero zero_off, View.ld_unit_zero zero_off]

/-- The scratch read whole, and read whole after a store of the whole. -/
theorem readAt_scratch (fs : BufTy.Contents (Elt F) arg9.view.ty) :
    View.readAt (Elt F) arg9.view (Rect.unit (s := S512x2048) ![0, 0] S512x2048.size inb_S512x2048_S512x2048_0_0).toLoadRect fs
      = View.read (Elt F) arg9.view fs := by
  rw [View.readAt_eq_ld, View.ld_unit_zero zero_off]

theorem readAt_stored (fs : BufTy.Contents (Elt F) arg9.view.ty) (L : List (View.Piece (Elt F) S512x2048 .f32)) (b : Vec F S512x2048 .f32) :
    View.readAt (Elt F) arg9.view (Rect.unit (s := S512x2048) ![0, 0] S512x2048.size inb_S512x2048_S512x2048_0_0).toLoadRect
      (arg9.view.writes (Elt F) fs (⟨Rect.unit (s := S512x2048) ![0, 0] S512x2048.size inb_S512x2048_S512x2048_0_0, b⟩ :: L)) = b :=
  (readAt_scratch arg9 _).trans (View.read_writes_full arg9.view _ inb_S512x2048_S512x2048_0_0 _ _)

/-- The first point of the grid: the scale's gradient starts at zero, and the product of the first row of blocks at its first summand. -/
theorem first (hc0 : cond0_0 i) (hc1 : cond0_1 i) (hc2 : ¬cond0_2 i) (K : PUnit → sProp 𝕄L) :
    iprop(bufs c arg2 arg3 arg4 arg5 arg6 arg7 arg8 arg9 x0 x1 x2 x3 x4 d p a
      ∗ (bufs c arg2 arg3 arg4 arg5 arg6 arg7 arg8 arg9 x0 x1 x2 x3 x4 d
          k0_pay1 (k0_pay3 k0_pay2 x0 x1) -∗ K ⟨⟩))
      ⊢ wp frame (wpE (defs₀ (F := F)) Variants.none c none) E
          (cc0_dh_dx i arg2 harg2 arg3 harg3 arg4 harg4 arg5 harg5 arg6 harg6 arg7 harg7 arg8 harg8 arg9 harg9) K := by
  simp only [cc0_dh_dx_eq_skeleton]; unfold cc0_dh_dx_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%fs, %hfs, HS⟩⟩, Hk⟩
  subst hf0 hf1 hf2 hf3 hf4 hf5 hf6 hfs
  sl_exec (disch := first | sl_exact hc0 | sl_exact hc1 | sl_exact hc2)
  sl_step
  iapply Hk
  iapply (bufs_intro c arg2 arg3 arg4 arg5 arg6 arg7 arg8 arg9 _ _ _ _ _ _ _ _ _ _ _ _ _ _ _ _ rfl rfl rfl rfl rfl rfl
    (View.read_writes_full arg8.view _ inb_S1x2048_S1x2048_0_0 _ _)
    ((read_acc arg2 arg3 arg9 f0 f1 _ _ _).trans
      (congrArg (fun b => k0_pay3 b (View.read (Elt F) arg2.view f0) (View.read (Elt F) arg3.view f1)) (readAt_stored arg9 _ _ _))))
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

/-- The first point of a later row of blocks: the product starts at its first summand. -/
theorem start (hc0 : ¬cond0_0 i) (hc1 : cond0_1 i) (hc2 : ¬cond0_2 i) (K : PUnit → sProp 𝕄L) :
    iprop(bufs c arg2 arg3 arg4 arg5 arg6 arg7 arg8 arg9 x0 x1 x2 x3 x4 d p a
      ∗ (bufs c arg2 arg3 arg4 arg5 arg6 arg7 arg8 arg9 x0 x1 x2 x3 x4 d
          p (k0_pay3 k0_pay2 x0 x1) -∗ K ⟨⟩))
      ⊢ wp frame (wpE (defs₀ (F := F)) Variants.none c none) E
          (cc0_dh_dx i arg2 harg2 arg3 harg3 arg4 harg4 arg5 harg5 arg6 harg6 arg7 harg7 arg8 harg8 arg9 harg9) K := by
  simp only [cc0_dh_dx_eq_skeleton]; unfold cc0_dh_dx_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%fs, %hfs, HS⟩⟩, Hk⟩
  subst hf0 hf1 hf2 hf3 hf4 hf5 hf6 hfs
  sl_exec (disch := first | sl_exact hc0 | sl_exact hc1 | sl_exact hc2)
  sl_step
  iapply Hk
  iapply (bufs_intro c arg2 arg3 arg4 arg5 arg6 arg7 arg8 arg9 _ _ _ _ _ _ _ _ _ _ _ _ _ _ _ _ rfl rfl rfl rfl rfl rfl
    rfl
    ((read_acc arg2 arg3 arg9 f0 f1 _ _ _).trans
      (congrArg (fun b => k0_pay3 b (View.read (Elt F) arg2.view f0) (View.read (Elt F) arg3.view f1)) (readAt_stored arg9 _ _ _))))
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

/-- A point within a row of blocks: the next summand of the product. -/
theorem middle (hc0 : ¬cond0_0 i) (hc1 : ¬cond0_1 i) (hc2 : ¬cond0_2 i) (K : PUnit → sProp 𝕄L) :
    iprop(bufs c arg2 arg3 arg4 arg5 arg6 arg7 arg8 arg9 x0 x1 x2 x3 x4 d p a
      ∗ (bufs c arg2 arg3 arg4 arg5 arg6 arg7 arg8 arg9 x0 x1 x2 x3 x4 d
          p (k0_pay3 a x0 x1) -∗ K ⟨⟩))
      ⊢ wp frame (wpE (defs₀ (F := F)) Variants.none c none) E
          (cc0_dh_dx i arg2 harg2 arg3 harg3 arg4 harg4 arg5 harg5 arg6 harg6 arg7 harg7 arg8 harg8 arg9 harg9) K := by
  simp only [cc0_dh_dx_eq_skeleton]; unfold cc0_dh_dx_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%fs, %hfs, HS⟩⟩, Hk⟩
  subst hf0 hf1 hf2 hf3 hf4 hf5 hf6 hfs
  sl_exec (disch := first | sl_exact hc0 | sl_exact hc1 | sl_exact hc2)
  sl_step
  iapply Hk
  iapply (bufs_intro c arg2 arg3 arg4 arg5 arg6 arg7 arg8 arg9 _ _ _ _ _ _ _ _ _ _ _ _ _ _ _ _ rfl rfl rfl rfl rfl rfl
    rfl
    ((read_acc arg2 arg3 arg9 f0 f1 _ _ _).trans
      (congrArg (fun b => k0_pay3 b (View.read (Elt F) arg2.view f0) (View.read (Elt F) arg3.view f1)) (readAt_scratch arg9 _))))
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

/-- The last point of a row of blocks: the product is complete, and the loop makes the block of the token gradient of it and adds to
the scale's gradient. -/
theorem last (hc0 : ¬cond0_0 i) (hc1 : ¬cond0_1 i) (hc2 : cond0_2 i) (K : PUnit → sProp 𝕄L) :
    iprop(bufs c arg2 arg3 arg4 arg5 arg6 arg7 arg8 arg9 x0 x1 x2 x3 x4 d p a
      ∗ (bufs c arg2 arg3 arg4 arg5 arg6 arg7 arg8 arg9 x0 x1 x2 x3 x4 (dxBlock (k0_pay3 a x0 x1) x2 x3 x4)
          (preAfter (k0_pay3 a x0 x1) x2 p k0_t1_loop.trips) (k0_pay3 a x0 x1) -∗ K ⟨⟩))
      ⊢ wp frame (wpE (defs₀ (F := F)) Variants.none c none) E
          (cc0_dh_dx i arg2 harg2 arg3 harg3 arg4 harg4 arg5 harg5 arg6 harg6 arg7 harg7 arg8 harg8 arg9 harg9) K := by
  simp only [cc0_dh_dx_eq_skeleton]; unfold cc0_dh_dx_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%fs, %hfs, HS⟩⟩, Hk⟩
  subst hf0 hf1 hf2 hf3 hf4 hf5 hf6 hfs
  sl_exec (disch := first | sl_exact hc0 | sl_exact hc1 | sl_exact hc2)
  sl_step
  have hs : View.read (Elt F) arg9.view (arg9.view.writes (Elt F) arg9.view.junk (last.sl.HS_1 c arg2 arg3 arg9 f0 f1 fs))
      = k0_pay3 (View.read (Elt F) arg9.view fs) (View.read (Elt F) arg2.view f0) (View.read (Elt F) arg3.view f1) :=
    (read_acc arg2 arg3 arg9 f0 f1 _ _ _).trans
      (congrArg (fun b => k0_pay3 b (View.read (Elt F) arg2.view f0) (View.read (Elt F) arg3.view f1)) (readAt_scratch arg9 _))
  rw [hs]
  iapply Hk
  iapply (bufs_intro c arg2 arg3 arg4 arg5 arg6 arg7 arg8 arg9 _ _ _ _ _ _ _ _ _ _ _ _ _ _ _ _ rfl rfl rfl rfl rfl (read_dxPieces _ _ _ _ _ _)
    (read_prePieces _ _ _ _ _)
    hs)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

end Runs

end Cert.DxIdeal.Run
-- ==== Proof.DxFrame.lean ====
module

public import proofs.«01_k».proof.Proof.DxRun
public import Idealize.ShloMosaic.Lib.Claim

/-!
The run of the program over its grid: what the staged buffers hold after each point, the body at every point, and that every run
ends with the arguments unchanged.
-/

@[expose] public section
set_option maxRecDepth 16384

noncomputable section
namespace Cert.DxIdeal.Run
open Cert.DxIdeal Cert.DxIdeal.Gen Cert.DxIdeal.Loop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The algebra the runs of this program are stated over. -/
local notation "𝕄L" => MT nD τ sig Unit (Elt F) ℕ (UR sig nD τ) ℕ

variable (m : (ℓ : Loc nD τ sig) → Buf (Elt F) ℓ) (ρ : Dev nD → PrngReg)

/-! ## What the buffers hold after each point -/

/-- The product of a row of blocks, summed up to and with point `n`. -/
def accAt (c : Dev nD) : (n : ℕ) → n < cfg0.N → Vec F S512x2048 .f32
  | 0, hn => k0_pay3 k0_pay2 (iblk m c 0 ⟨0, hn⟩) (iblk m c 1 ⟨0, hn⟩)
  | n + 1, hn => if (n + 1) % 7 = 0 then k0_pay3 k0_pay2 (iblk m c 0 ⟨n + 1, hn⟩) (iblk m c 1 ⟨n + 1, hn⟩)
    else k0_pay3 (accAt c n (Nat.lt_of_succ_lt hn)) (iblk m c 0 ⟨n + 1, hn⟩) (iblk m c 1 ⟨n + 1, hn⟩)

/-- The scale's gradient up to and with point `n`. -/
def preAt (c : Dev nD) : (n : ℕ) → n < cfg0.N → Vec F S1x2048 .f32
  | 0, _ => k0_pay1
  | n + 1, hn => if (n + 1) % 7 = 6 then preAfter (accAt m c (n + 1) hn) (iblk m c 2 ⟨n + 1, hn⟩) (preAt c n (Nat.lt_of_succ_lt hn)) k0_t1_loop.trips
    else preAt c n (Nat.lt_of_succ_lt hn)

/-- The block of the token gradient the loop makes at point `t`, if `t` is the last of its row of blocks. -/
def dxAt (c : Dev nD) (t : Fin cfg0.N) : Vec F S512x2048 .f32 :=
  dxBlock (accAt m c t.val t.isLt) (iblk m c 2 t) (iblk m c 3 t) (iblk m c 4 t)

theorem accAt_start (c : Dev nD) (t : Fin cfg0.N) (h : t.val % 7 = 0) :
    accAt m c t.val t.isLt = k0_pay3 k0_pay2 (iblk m c 0 t) (iblk m c 1 t) := by
  obtain ⟨n, hn⟩ := t
  cases n with
  | zero => rfl
  | succ n => exact if_pos h

theorem accAt_next (c : Dev nD) (t : Fin cfg0.N) (h : ¬t.val % 7 = 0) :
    accAt m c t.val t.isLt = k0_pay3 (accAt m c (t.val - 1) (Nat.lt_of_le_of_lt (Nat.sub_le _ _) t.isLt)) (iblk m c 0 t) (iblk m c 1 t) := by
  obtain ⟨n, hn⟩ := t
  cases n with
  | zero => exact absurd rfl h
  | succ n => exact if_neg h

theorem preAt_first (c : Dev nD) (t : Fin cfg0.N) (h : t.val = 0) : preAt m c t.val t.isLt = k0_pay1 := by
  obtain ⟨n, hn⟩ := t
  subst h; rfl

theorem preAt_last (c : Dev nD) (t : Fin cfg0.N) (h : t.val % 7 = 6) :
    preAt m c t.val t.isLt = preAfter (accAt m c t.val t.isLt) (iblk m c 2 t)
      (preAt m c (t.val - 1) (Nat.lt_of_le_of_lt (Nat.sub_le _ _) t.isLt)) k0_t1_loop.trips := by
  obtain ⟨n, hn⟩ := t
  cases n with
  | zero => exact absurd (show (0 : ℕ) % 7 = 6 from h) (by decide)
  | succ n => exact if_pos h

theorem preAt_keep (c : Dev nD) (t : Fin cfg0.N) (hz : t.val ≠ 0) (h : ¬t.val % 7 = 6) :
    preAt m c t.val t.isLt = preAt m c (t.val - 1) (Nat.lt_of_le_of_lt (Nat.sub_le _ _) t.isLt) := by
  obtain ⟨n, hn⟩ := t
  cases n with
  | zero => exact absurd rfl hz
  | succ n => exact if_neg h

/-! ## The proof data of the pipeline -/

/-- What the core holds beside the staged buffers before point `n`: the scratch, at the sum so far, and the generator's register. -/
def between (c : Dev nD) : (n : ℕ) → n ≤ cfg0.N → sProp 𝕄L
  | 0, _ => Pipeline.ΦA spec0 c
  | n + 1, hn => iprop(owns (c : Thread nD τ) scM0_0 fullShare (accAt m c n hn) ∗ (∃ r, prngReg c r))

theorem between_pos (c : Dev nD) (n : ℕ) (h : n ≤ cfg0.N) (hz : n ≠ 0) :
    between m c n h = iprop(owns (c : Thread nD τ) scM0_0 fullShare (accAt m c (n - 1) (by omega)) ∗ (∃ r, prngReg c r)) := by
  cases n with
  | zero => exact absurd rfl hz
  | succ n => rfl

/-- The arrays as launched, what each staged buffer holds after each point, and what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => preAt m c t.val t.isLt
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]

theorem Φ_castSucc (c : Dev nD) (t : Fin cfg0.N) : (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dxAt m c t := by dsimp only [dats]
theorem after_6 (c : Dev nD) (t : Fin cfg0.N) : (dats m 0 c).after 6 t = preAt m c t.val t.isLt := by dsimp only [dats]

/-- The staged inputs hold their blocks at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Between the ends of the rows of blocks the scale's gradient stays as it is. -/
theorem carry (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t hz hi _
  have hN : t.val < 28 := lt_of_lt_of_eq t.isLt N_0
  rw [after_6, after_6]
  by_cases h2 : t.val % 7 = 6
  · rw [liveAt0_6_C t (fun h => by have := (hcond0_0 t).mp h; omega) (fun h => by have := (hcond0_1 t).mp h; omega) ((hcond0_2 t).mpr h2)] at hi
    exact absurd hi Bool.false_ne_true
  · exact preAt_keep m c t hz h2

/-- At the end of a row of blocks the scale's gradient is what the point before left. -/
theorem before_6 (c : Dev nD) (t : Fin cfg0.N) (h2 : t.val % 7 = 6) (d) :
    (dats m 0 c).before 6 t d = preAt m c (t.val - 1) (Nat.lt_of_le_of_lt (Nat.sub_le _ _) t.isLt) := by
  have hN : t.val < 28 := lt_of_lt_of_eq t.isLt N_0
  rw [Dat.before_out_traj _ 6 rfl (fun _ _ => rfl) (carry m c) t.val t rfl d,
    if_neg (by rw [notFresh0_6_C t (fun h => by have := (hcond0_0 t).mp h; omega) (fun h => by have := (hcond0_1 t).mp h; omega)
      ((hcond0_2 t).mpr h2)]; exact Bool.false_ne_true)]
  dsimp only [dats]

/-! ## The body at any point -/

/-- What the body is called with at point `t`, -/
def bodyPre (c : Dev nD) (t : Fin cfg0.N) : sProp 𝕄L :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄L :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = iprop(owns (c : Thread nD τ) scM0_0 fullShare (accAt m c t.val t.isLt) ∗ (∃ r, prngReg c r)) from rfl,
    Φ_castSucc m c t,
    show (dats m 0 c).leavesExact 0 t = owns (c : Thread nD τ) (ms0_0 t) fullShare ((dats m 0 c).after 0 t) from by
      unfold Dat.leavesExact; rw [liveAt0_0 t], after_0,
    show (dats m 0 c).leavesExact 1 t = owns (c : Thread nD τ) (ms0_1 t) fullShare ((dats m 0 c).after 1 t) from by
      unfold Dat.leavesExact; rw [liveAt0_1 t], after_1,
    show (dats m 0 c).leavesExact 2 t = owns (c : Thread nD τ) (ms0_2 t) fullShare ((dats m 0 c).after 2 t) from by
      unfold Dat.leavesExact; rw [liveAt0_2 t], after_2,
    show (dats m 0 c).leavesExact 3 t = owns (c : Thread nD τ) (ms0_3 t) fullShare ((dats m 0 c).after 3 t) from by
      unfold Dat.leavesExact; rw [liveAt0_3 t], after_3,
    show (dats m 0 c).leavesExact 4 t = owns (c : Thread nD τ) (ms0_4 t) fullShare ((dats m 0 c).after 4 t) from by
      unfold Dat.leavesExact; rw [liveAt0_4 t], after_4]
  have hN : t.val < 28 := lt_of_lt_of_eq t.isLt N_0
  by_cases h0 : t.val = 0
  · have c0 : cond0_0 (grid0.coords t) := (hcond0_0 t).mpr (by omega)
    have c1 : cond0_1 (grid0.coords t) := (hcond0_1 t).mpr (by omega)
    have c2 : ¬cond0_2 (grid0.coords t) := fun h => by have := (hcond0_2 t).mp h; omega
    rw [Dat.leavesExact_idle (dats m 0 c) 5 t (idleAt0_5_A t c0 c1 c2) (noFlush0_5_A t c0 c1 c2),
      show (dats m 0 c).leavesExact 6 t = owns (c : Thread nD τ) (ms0_6 t) fullShare ((dats m 0 c).after 6 t) from by
        unfold Dat.leavesExact; rw [liveAt0_6_A t c0 c1 c2], after_6, preAt_first m c t h0, accAt_start m c t (by omega),
      show between m c t.val (Nat.le_of_lt t.isLt) = Pipeline.ΦA spec0 c from by
        obtain ⟨n, hn⟩ := t; subst h0; rfl, PhiA0_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
    iapply (Run.first c (grid0.coords t) _ _ _ _ _ _ _ _ _ _ _ _ _ _ _ _ (iblk m c 0 t) (iblk m c 1 t) (iblk m c 2 t) (iblk m c 3 t) (iblk m c 4 t) _ _ _ Set.univ c0 c1 c2 _)
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6
  · have c0 : ¬cond0_0 (grid0.coords t) := fun h => by have := (hcond0_0 t).mp h; omega
    rw [between_pos m c _ _ h0]
    by_cases h1 : t.val % 7 = 0
    · have c1 : cond0_1 (grid0.coords t) := (hcond0_1 t).mpr h1
      have c2 : ¬cond0_2 (grid0.coords t) := fun h => by have := (hcond0_2 t).mp h; omega
      rw [Dat.leavesExact_idle (dats m 0 c) 5 t (idleAt0_5_D t c0 c1 c2) (noFlush0_5_D t c0 c1 c2),
        Dat.leavesExact_idle (dats m 0 c) 6 t (idleAt0_6_D t c0 c1 c2) (noFlush0_6_D t c0 c1 c2), accAt_start m c t h1]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (Run.start c (grid0.coords t) _ _ _ _ _ _ _ _ _ _ _ _ _ _ _ _ (iblk m c 0 t) (iblk m c 1 t) (iblk m c 2 t) (iblk m c 3 t) (iblk m c 4 t) _ _ _ Set.univ c0 c1 c2 _)
      isplitl [H0 H1 H2 H3 H4 H5 H6 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · have c1 : ¬cond0_1 (grid0.coords t) := fun h => h1 ((hcond0_1 t).mp h)
      by_cases h2 : t.val % 7 = 6
      · have c2 : cond0_2 (grid0.coords t) := (hcond0_2 t).mpr h2
        rw [show (dats m 0 c).leavesExact 5 t = owns (c : Thread nD τ) (ms0_5 t) fullShare ((dats m 0 c).after 5 t) from by
            unfold Dat.leavesExact; rw [liveAt0_5_C t c0 c1 c2],
          show (dats m 0 c).leavesExact 6 t = owns (c : Thread nD τ) (ms0_6 t) fullShare ((dats m 0 c).after 6 t) from by
            unfold Dat.leavesExact; rw [liveAt0_6_C t c0 c1 c2], after_5, after_6, preAt_last m c t h2]
        unfold dxAt
        rw [accAt_next m c t h1]
        simp only [before_6 m c t h2]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (Run.last c (grid0.coords t) _ _ _ _ _ _ _ _ _ _ _ _ _ _ _ _ (iblk m c 0 t) (iblk m c 1 t) (iblk m c 2 t) (iblk m c 3 t) (iblk m c 4 t) _ _ _ Set.univ c0 c1 c2 _)
        isplitl [H0 H1 H2 H3 H4 H5 H6 HS]
        · isplitl [H0]; · iexact H0
          isplitl [H1]; · iexact H1
          isplitl [H2]; · iexact H2
          isplitl [H3]; · iexact H3
          isplitl [H4]; · iexact H4
          isplitl [H5]; · iexact H5
          isplitl [H6]; · iexact H6
          iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · have c2 : ¬cond0_2 (grid0.coords t) := fun h => h2 ((hcond0_2 t).mp h)
        rw [Dat.leavesExact_idle (dats m 0 c) 5 t (idleAt0_5_B t c0 c1 c2) (noFlush0_5_B t c0 c1 c2),
          Dat.leavesExact_idle (dats m 0 c) 6 t (idleAt0_6_B t c0 c1 c2) (noFlush0_6_B t c0 c1 c2), accAt_next m c t h1]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (Run.middle c (grid0.coords t) _ _ _ _ _ _ _ _ _ _ _ _ _ _ _ _ (iblk m c 0 t) (iblk m c 1 t) (iblk m c 2 t) (iblk m c 3 t) (iblk m c 4 t) _ _ _ Set.univ c0 c1 c2 _)
        isplitl [H0 H1 H2 H3 H4 H5 H6 HS]
        · isplitl [H0]; · iexact H0
          isplitl [H1]; · iexact H1
          isplitl [H2]; · iexact H2
          isplitl [H3]; · iexact H3
          isplitl [H4]; · iexact H4
          isplitl [H5]; · iexact H5
          isplitl [H6]; · iexact H6
          iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

theorem body_row (t : Fin cfg0.N) : defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands over is what is held before the first point, -/
theorem enter (c : Dev nD) : Pipeline.ΦA spec0 c ⊢ (dats m 0 c).Φ 0 := by
  rw [show (dats m 0 c).Φ 0 = Pipeline.ΦA spec0 c from rfl]

/-- and after the last point what is held is what the launch takes back. -/
theorem leave (c : Dev nD) : (dats m 0 c).Φ (Fin.last cfg0.N) ⊢ Pipeline.ΦA spec0 c := by
  have hN : cfg0.N = 28 := N_0
  rw [show (dats m 0 c).Φ (Fin.last cfg0.N) = between m c (Fin.last cfg0.N).val (Nat.le_of_lt_succ (Fin.last cfg0.N).isLt) from rfl,
    between_pos m c _ _ (by rw [Fin.val_last]; omega), PhiA0_eq]
  iintro ⟨HS, Hg⟩
  isplitl [HS]; · iexists _; iexact HS
  iexact Hg

/-! ## The run of the program -/

-- the launch's implicit arguments are found by unifying its conclusion with this one, which unfolds plain definitions in the
-- type of what is sought
set_option backward.isDefEq.respectTransparency.types false in
/-- Every run ends, every array at what the proof data say, every counter at zero. -/
theorem run_ends : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- Every run ends with every array at what the proof data say. -/
theorem run_main : θ_run defs (onTc (τ := τ) (main (F := F))) (s₀ m ρ) (Pipeline.FramePost cfgs (dats m) 0 (V m)) :=
  (θ_run defs _ _).mono (fun _ h => h.1) (run_ends m ρ)

/-- Every run ends with the arguments unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_ends m ρ))

end Cert.DxIdeal.Run
-- ==== Proof.DyRun.lean ====
module

public import proofs.«01_k».proof.Proof.Gen.DyBrIdeal.Skeleton
public import proofs.«01_k».proof.Proof.Gen.DyBrIdeal.Frame
public import Idealize.ShloMosaic.Lib.ValueIdx
public import Idealize.ShloMosaic.Lib.VecWindow
public import Idealize.ShloMosaic.Lib.Pipeline.Value

/-!
The body of the program that takes the three branches' cotangents back through their projections, at each kind of point of
its grid: a point of a branch multiplies a block of that branch's rows by its weight and leaves the other branches alone.
-/

@[expose] public section
set_option maxRecDepth 16384

noncomputable section
namespace Cert.DyBrIdeal.Run
open Cert.DyBrIdeal Cert.DyBrIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the runs of this program are stated over. -/
local notation "𝕄L" => MT nD τ sig Unit (Elt F) ℕ (UR sig nD τ) ℕ

variable (c : Dev nD) (i : grid0.Coords)
  (arg2 : Memref sig .tc .vmem S512x2048 .bf16) (harg2 : arg2.IsWhole)
  (arg3 : Memref sig .tc .vmem S512x2048 .bf16) (harg3 : arg3.IsWhole)
  (arg4 : Memref sig .tc .vmem S512x2048 .bf16) (harg4 : arg4.IsWhole)
  (arg5 : Memref sig .tc .vmem S2048x1024 .bf16) (harg5 : arg5.IsWhole)
  (arg6 : Memref sig .tc .vmem S2048x1024 .bf16) (harg6 : arg6.IsWhole)
  (arg7 : Memref sig .tc .vmem S2048x1024 .bf16) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S512x1024 .f32) (harg10 : arg10.IsWhole)
  (x0 x1 x2 : Vec F S512x2048 .bf16) (x3 x4 x5 : Vec F S2048x1024 .bf16)

/-- The staging buffers of one point at their contents: the three blocks of rows, the three weights and the three blocks of results. -/
abbrev bufs (y0 y1 y2 : Vec F S512x1024 .f32) : sProp 𝕄L :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare y0 ∗ owns (c : Thread nD τ) arg9 fullShare y1 ∗ owns (c : Thread nD τ) arg10 fullShare y2)

variable (y0 y1 y2 : Vec F S512x1024 .f32) (E : Set ℕ)

/-- The buffers at contents that read so. -/
theorem bufs_intro
    (f0 : BufTy.Contents (Elt F) arg2.view.ty)
    (f1 : BufTy.Contents (Elt F) arg3.view.ty)
    (f2 : BufTy.Contents (Elt F) arg4.view.ty)
    (f3 : BufTy.Contents (Elt F) arg5.view.ty)
    (f4 : BufTy.Contents (Elt F) arg6.view.ty)
    (f5 : BufTy.Contents (Elt F) arg7.view.ty)
    (f6 : BufTy.Contents (Elt F) arg8.view.ty)
    (f7 : BufTy.Contents (Elt F) arg9.view.ty)
    (f8 : BufTy.Contents (Elt F) arg10.view.ty)
    (h0 : View.read (Elt F) arg2.view f0 = x0) (h1 : View.read (Elt F) arg3.view f1 = x1) (h2 : View.read (Elt F) arg4.view f2 = x2)
    (h3 : View.read (Elt F) arg5.view f3 = x3) (h4 : View.read (Elt F) arg6.view f4 = x4) (h5 : View.read (Elt F) arg7.view f5 = x5)
    (h6 : View.read (Elt F) arg8.view f6 = y0) (h7 : View.read (Elt F) arg9.view f7 = y1) (h8 : View.read (Elt F) arg10.view f8 = y2) :
    iprop((arg2.view.loc (c : Thread nD τ) ↦[arg2.view.set]{fullShare} f0) ∗ (arg3.view.loc (c : Thread nD τ) ↦[arg3.view.set]{fullShare} f1)
      ∗ (arg4.view.loc (c : Thread nD τ) ↦[arg4.view.set]{fullShare} f2) ∗ (arg5.view.loc (c : Thread nD τ) ↦[arg5.view.set]{fullShare} f3)
      ∗ (arg6.view.loc (c : Thread nD τ) ↦[arg6.view.set]{fullShare} f4) ∗ (arg7.view.loc (c : Thread nD τ) ↦[arg7.view.set]{fullShare} f5)
      ∗ (arg8.view.loc (c : Thread nD τ) ↦[arg8.view.set]{fullShare} f6) ∗ (arg9.view.loc (c : Thread nD τ) ↦[arg9.view.set]{fullShare} f7)
      ∗ (arg10.view.loc (c : Thread nD τ) ↦[arg10.view.set]{fullShare} f8))
      ⊢ (bufs c arg2 arg3 arg4 arg5 arg6 arg7 arg8 arg9 arg10 x0 x1 x2 x3 x4 x5 y0 y1 y2 : sProp 𝕄L) := by
  subst h0 h1 h2 h3 h4 h5 h6 h7 h8
  unfold bufs
  iintro ⟨H0, H1, H2, H3, H4, H5, H6, H7, H8⟩
  isplitl [H0]; · iapply (owns_intro (c : Thread nD τ) arg2 fullShare); iexact H0
  isplitl [H1]; · iapply (owns_intro (c : Thread nD τ) arg3 fullShare); iexact H1
  isplitl [H2]; · iapply (owns_intro (c : Thread nD τ) arg4 fullShare); iexact H2
  isplitl [H3]; · iapply (owns_intro (c : Thread nD τ) arg5 fullShare); iexact H3
  isplitl [H4]; · iapply (owns_intro (c : Thread nD τ) arg6 fullShare); iexact H4
  isplitl [H5]; · iapply (owns_intro (c : Thread nD τ) arg7 fullShare); iexact H5
  isplitl [H6]; · iapply (owns_intro (c : Thread nD τ) arg8 fullShare); iexact H6
  isplitl [H7]; · iapply (owns_intro (c : Thread nD τ) arg9 fullShare); iexact H7
  iapply (owns_intro (c : Thread nD τ) arg10 fullShare); iexact H8

omit [FloatOps F] in
/-- The offsets of a whole buffer's load are zero. -/
theorem zero_off : (![0, 0] : Fin 2 → ℕ) = fun _ => 0 := by decide

omit [FloatOps F] in
/-- A block of results after the product of what was read is stored in it. -/
theorem read_product (o : Memref sig .tc .vmem S512x1024 .f32) (x : Memref sig .tc .vmem S512x2048 .bf16) (w : Memref sig .tc .vmem S2048x1024 .bf16)
    (f : BufTy.Contents (Elt F) x.view.ty) (g : BufTy.Contents (Elt F) w.view.ty) (h : BufTy.Contents (Elt F) o.view.ty)
    (L : List (View.Piece (Elt F) S512x1024 .f32)) (product : Vec F S512x2048 .bf16 → Vec F S2048x1024 .bf16 → Vec F S512x1024 .f32) :
    View.read (Elt F) o.view (o.view.writes (Elt F) h (⟨Rect.unit (s := S512x1024) ![0, 0] S512x1024.size inb_S512x1024_S512x1024_0_0,
      product (View.readAt (Elt F) x.view (Rect.unit (s := S512x2048) ![0, 0] S512x2048.size inb_S512x2048_S512x2048_0_0).toLoadRect f)
        (View.readAt (Elt F) w.view (Rect.unit (s := S2048x1024) ![0, 0] S2048x1024.size inb_S2048x1024_S2048x1024_0_0).toLoadRect g)⟩ :: L))
      = product (View.read (Elt F) x.view f) (View.read (Elt F) w.view g) := by
  refine (View.read_writes_full o.view _ inb_S512x1024_S512x1024_0_0 _ _).trans ?_
  rw [View.readAt_eq_ld, View.readAt_eq_ld, View.ld_unit_zero zero_off, View.ld_unit_zero zero_off]

/-- A point of the first branch. -/
theorem first (hc0 : k0_cond1 i = 1#1) (hc1 : ¬k0_cond2 i = 1#1) (hc2 : ¬k0_cond3 i = 1#1) (K : PUnit → sProp 𝕄L) :
    iprop(bufs c arg2 arg3 arg4 arg5 arg6 arg7 arg8 arg9 arg10 x0 x1 x2 x3 x4 x5 y0 y1 y2
      ∗ (bufs c arg2 arg3 arg4 arg5 arg6 arg7 arg8 arg9 arg10 x0 x1 x2 x3 x4 x5 (k0_pay1 x0 x3) y1 y2 -∗ K ⟨⟩))
      ⊢ wp frame (wpE (defs₀ (F := F)) Variants.none c none) E
          (cc0_dy_br i arg2 harg2 arg3 harg3 arg4 harg4 arg5 harg5 arg6 harg6 arg7 harg7 arg8 harg8 arg9 harg9 arg10 harg10) K := by
  simp only [cc0_dy_br_eq_skeleton]; unfold cc0_dy_br_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  sl_exec (disch := first | sl_exact hc0 | sl_exact hc1 | sl_exact hc2)
  sl_step
  iapply Hk
  iapply (bufs_intro c arg2 arg3 arg4 arg5 arg6 arg7 arg8 arg9 arg10 _ _ _ _ _ _ _ _ _ _ _ _ _ _ _ _ _ _ rfl rfl rfl rfl rfl rfl (read_product arg8 arg2 arg5 _ _ _ _ k0_pay1) rfl rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A point of the second branch. -/
theorem second (hc0 : ¬k0_cond1 i = 1#1) (hc1 : k0_cond2 i = 1#1) (hc2 : ¬k0_cond3 i = 1#1) (K : PUnit → sProp 𝕄L) :
    iprop(bufs c arg2 arg3 arg4 arg5 arg6 arg7 arg8 arg9 arg10 x0 x1 x2 x3 x4 x5 y0 y1 y2
      ∗ (bufs c arg2 arg3 arg4 arg5 arg6 arg7 arg8 arg9 arg10 x0 x1 x2 x3 x4 x5 y0 (k0_pay2 x1 x4) y2 -∗ K ⟨⟩))
      ⊢ wp frame (wpE (defs₀ (F := F)) Variants.none c none) E
          (cc0_dy_br i arg2 harg2 arg3 harg3 arg4 harg4 arg5 harg5 arg6 harg6 arg7 harg7 arg8 harg8 arg9 harg9 arg10 harg10) K := by
  simp only [cc0_dy_br_eq_skeleton]; unfold cc0_dy_br_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  sl_exec (disch := first | sl_exact hc0 | sl_exact hc1 | sl_exact hc2)
  sl_step
  iapply Hk
  iapply (bufs_intro c arg2 arg3 arg4 arg5 arg6 arg7 arg8 arg9 arg10 _ _ _ _ _ _ _ _ _ _ _ _ _ _ _ _ _ _ rfl rfl rfl rfl rfl rfl rfl (read_product arg9 arg3 arg6 _ _ _ _ k0_pay2) rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A point of the third branch. -/
theorem third (hc0 : ¬k0_cond1 i = 1#1) (hc1 : ¬k0_cond2 i = 1#1) (hc2 : k0_cond3 i = 1#1) (K : PUnit → sProp 𝕄L) :
    iprop(bufs c arg2 arg3 arg4 arg5 arg6 arg7 arg8 arg9 arg10 x0 x1 x2 x3 x4 x5 y0 y1 y2
      ∗ (bufs c arg2 arg3 arg4 arg5 arg6 arg7 arg8 arg9 arg10 x0 x1 x2 x3 x4 x5 y0 y1 (k0_pay3 x2 x5) -∗ K ⟨⟩))
      ⊢ wp frame (wpE (defs₀ (F := F)) Variants.none c none) E
          (cc0_dy_br i arg2 harg2 arg3 harg3 arg4 harg4 arg5 harg5 arg6 harg6 arg7 harg7 arg8 harg8 arg9 harg9 arg10 harg10) K := by
  simp only [cc0_dy_br_eq_skeleton]; unfold cc0_dy_br_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  sl_exec (disch := first | sl_exact hc0 | sl_exact hc1 | sl_exact hc2)
  sl_step
  iapply Hk
  iapply (bufs_intro c arg2 arg3 arg4 arg5 arg6 arg7 arg8 arg9 arg10 _ _ _ _ _ _ _ _ _ _ _ _ _ _ _ _ _ _ rfl rfl rfl rfl rfl rfl rfl rfl (read_product arg10 arg4 arg7 _ _ _ _ k0_pay3))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.DyBrIdeal.Run
-- ==== Proof.DyFrame.lean ====
module

public import proofs.«01_k».proof.Proof.DyRun
public import Idealize.ShloMosaic.Lib.Pipeline.TableIdle
public import Idealize.ShloMosaic.Lib.Claim

/-!
The run of the program that takes the branches' cotangents back through their projections. A point of one branch leaves the
other branches' buffers alone, and the last point of the grid writes two of them back: what they hold is what was stored
before, since a branch left alone stages one block from point to point.
-/

@[expose] public section
set_option maxRecDepth 16384

noncomputable section
namespace Cert.DyBrIdeal.Run
open Cert.DyBrIdeal Cert.DyBrIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The algebra the runs of this program are stated over. -/
local notation "𝕄L" => MT nD τ sig Unit (Elt F) ℕ (UR sig nD τ) ℕ

variable (m : (ℓ : Loc nD τ sig) → Buf (Elt F) ℓ) (ρ : Dev nD → PrngReg)

/-! ## The schedule -/

/-- The branch of a point, by the printed conditions. -/
theorem branch_facts : ∀ t : Fin cfg0.N, (k0_cond1 (grid0.coords t) = 1#1 ↔ t.val / 4 = 0) ∧ (k0_cond2 (grid0.coords t) = 1#1 ↔ t.val / 4 = 1)
    ∧ (k0_cond3 (grid0.coords t) = 1#1 ↔ t.val / 4 = 2) :=
  (by decide +kernel : ∀ t : Fin grid0.N, _)

/-- The points at which a branch's results are left alone. -/
theorem idle_facts : ∀ t : Fin cfg0.N, (cfg0.idle 6 (grid0.coords t) = true ↔ ¬t.val / 4 = 0) ∧ (cfg0.idle 7 (grid0.coords t) = true ↔ ¬t.val / 4 = 1)
    ∧ (cfg0.idle 8 (grid0.coords t) = true ↔ ¬t.val / 4 = 2) :=
  (by decide +kernel : ∀ t : Fin grid0.N, _)

/-- Where a branch's results are written back though left alone, an earlier point stored them. -/
theorem stored_facts : ∀ t : Fin cfg0.N,
    (cfg0.idle 6 (grid0.coords t) = true → (cfg0.win 6).flush t = true → t.val ≠ 0 ∧ cfg0.fresh 6 t.val = false)
    ∧ (cfg0.idle 7 (grid0.coords t) = true → (cfg0.win 7).flush t = true → t.val ≠ 0 ∧ cfg0.fresh 7 t.val = false)
    ∧ (cfg0.idle 8 (grid0.coords t) = true → (cfg0.win 8).flush t = true → t.val ≠ 0 ∧ cfg0.fresh 8 t.val = false) :=
  (by decide +kernel : ∀ t : Fin grid0.N, _)

/-- The point before a point. -/
abbrev prior (t : Fin cfg0.N) : Fin cfg0.N := ⟨t.val - 1, Nat.lt_of_le_of_lt (Nat.sub_le _ _) t.isLt⟩

/-- Where a branch is left alone its blocks are those of the point before. -/
theorem still_facts : ∀ (t : Fin cfg0.N) (_ : t.val ≠ 0),
    (¬t.val / 4 = 0 → win0_0.index t = win0_0.index (prior t)) ∧ (¬t.val / 4 = 1 → win0_1.index t = win0_1.index (prior t))
    ∧ (¬t.val / 4 = 2 → win0_2.index t = win0_2.index (prior t)) ∧ win0_3.index t = win0_3.index (prior t)
    ∧ win0_4.index t = win0_4.index (prior t) ∧ win0_5.index t = win0_5.index (prior t) :=
  (by decide +kernel : ∀ (t : Fin grid0.N) (_ : t.val ≠ 0), _)

/-- Blocks at one index are one. -/
theorem same_0 (c : Dev nD) (t u : Fin cfg0.N) (h : win0_0.index t = win0_0.index u) :
    (iblk m c 0 t : Vec F S512x2048 .bf16) = iblk m c 0 u :=
  funext fun y => congrArg (V m c main_arg0) (funext fun a => Fin.ext ((Pipeline.Window.rect_emb_val win0_0 t y a).trans
    ((congrArg (fun j : Fin 2 → ℕ => j a * win0_0.block.size a + (y a).val) h).trans (Pipeline.Window.rect_emb_val win0_0 u y a).symm)))
theorem same_1 (c : Dev nD) (t u : Fin cfg0.N) (h : win0_1.index t = win0_1.index u) :
    (iblk m c 1 t : Vec F S512x2048 .bf16) = iblk m c 1 u :=
  funext fun y => congrArg (V m c main_arg1) (funext fun a => Fin.ext ((Pipeline.Window.rect_emb_val win0_1 t y a).trans
    ((congrArg (fun j : Fin 2 → ℕ => j a * win0_1.block.size a + (y a).val) h).trans (Pipeline.Window.rect_emb_val win0_1 u y a).symm)))
theorem same_2 (c : Dev nD) (t u : Fin cfg0.N) (h : win0_2.index t = win0_2.index u) :
    (iblk m c 2 t : Vec F S512x2048 .bf16) = iblk m c 2 u :=
  funext fun y => congrArg (V m c main_arg2) (funext fun a => Fin.ext ((Pipeline.Window.rect_emb_val win0_2 t y a).trans
    ((congrArg (fun j : Fin 2 → ℕ => j a * win0_2.block.size a + (y a).val) h).trans (Pipeline.Window.rect_emb_val win0_2 u y a).symm)))
theorem same_3 (c : Dev nD) (t u : Fin cfg0.N) (h : win0_3.index t = win0_3.index u) :
    (iblk m c 3 t : Vec F S2048x1024 .bf16) = iblk m c 3 u :=
  funext fun y => congrArg (V m c main_arg3) (funext fun a => Fin.ext ((Pipeline.Window.rect_emb_val win0_3 t y a).trans
    ((congrArg (fun j : Fin 2 → ℕ => j a * win0_3.block.size a + (y a).val) h).trans (Pipeline.Window.rect_emb_val win0_3 u y a).symm)))
theorem same_4 (c : Dev nD) (t u : Fin cfg0.N) (h : win0_4.index t = win0_4.index u) :
    (iblk m c 4 t : Vec F S2048x1024 .bf16) = iblk m c 4 u :=
  funext fun y => congrArg (V m c main_arg4) (funext fun a => Fin.ext ((Pipeline.Window.rect_emb_val win0_4 t y a).trans
    ((congrArg (fun j : Fin 2 → ℕ => j a * win0_4.block.size a + (y a).val) h).trans (Pipeline.Window.rect_emb_val win0_4 u y a).symm)))
theorem same_5 (c : Dev nD) (t u : Fin cfg0.N) (h : win0_5.index t = win0_5.index u) :
    (iblk m c 5 t : Vec F S2048x1024 .bf16) = iblk m c 5 u :=
  funext fun y => congrArg (V m c main_arg5) (funext fun a => Fin.ext ((Pipeline.Window.rect_emb_val win0_5 t y a).trans
    ((congrArg (fun j : Fin 2 → ℕ => j a * win0_5.block.size a + (y a).val) h).trans (Pipeline.Window.rect_emb_val win0_5 u y a).symm)))

/-! ## The proof data of the pipeline -/

/-- The arrays as launched, what each staged buffer holds after each point, and what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay1 (iblk m c 0 t) (iblk m c 3 t)
    | ⟨7, _⟩ => k0_pay2 (iblk m c 1 t) (iblk m c 4 t)
    | ⟨8, _⟩ => k0_pay3 (iblk m c 2 t) (iblk m c 5 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay1 (iblk m c 0 t) (iblk m c 3 t) := by dsimp only [dats]
theorem after_7 (c : Dev nD) (t : Fin cfg0.N) : (dats m 0 c).after 7 t = k0_pay2 (iblk m c 1 t) (iblk m c 4 t) := by dsimp only [dats]
theorem after_8 (c : Dev nD) (t : Fin cfg0.N) : (dats m 0 c).after 8 t = k0_pay3 (iblk m c 2 t) (iblk m c 5 t) := by dsimp only [dats]

/-- The staged inputs hold their blocks at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A branch left alone holds what the point before left. -/
theorem carry_6 (c : Dev nD) (t : Fin cfg0.N) (hz : t.val ≠ 0) (hi : cfg0.idle 6 (grid0.coords t) = true) :
    (dats m 0 c).after 6 t = (dats m 0 c).after 6 ⟨t.val - 1, by omega⟩ := by
  rw [after_6, after_6]
  exact congrArg₂ k0_pay1 (same_0 m c t _ ((still_facts t hz).1 ((idle_facts t).1.1 hi))) (same_3 m c t _ (still_facts t hz).2.2.2.1)
theorem carry_7 (c : Dev nD) (t : Fin cfg0.N) (hz : t.val ≠ 0) (hi : cfg0.idle 7 (grid0.coords t) = true) :
    (dats m 0 c).after 7 t = (dats m 0 c).after 7 ⟨t.val - 1, by omega⟩ := by
  rw [after_7, after_7]
  exact congrArg₂ k0_pay2 (same_1 m c t _ ((still_facts t hz).2.1 ((idle_facts t).2.1.1 hi))) (same_4 m c t _ (still_facts t hz).2.2.2.2.1)
theorem carry_8 (c : Dev nD) (t : Fin cfg0.N) (hz : t.val ≠ 0) (hi : cfg0.idle 8 (grid0.coords t) = true) :
    (dats m 0 c).after 8 t = (dats m 0 c).after 8 ⟨t.val - 1, by omega⟩ := by
  rw [after_8, after_8]
  exact congrArg₂ k0_pay3 (same_2 m c t _ ((still_facts t hz).2.2.1 ((idle_facts t).2.2.1 hi))) (same_5 m c t _ (still_facts t hz).2.2.2.2.2)

/-- Where it is written back, that is the product of its blocks. -/
theorem before_6 (c : Dev nD) (t : Fin cfg0.N) (hi : cfg0.idle 6 (grid0.coords t) = true) (hf : (cfg0.win 6).flush t = true) (d) :
    (dats m 0 c).before 6 t d = (dats m 0 c).after 6 t := by
  obtain ⟨hz, h⟩ := (stored_facts t).1 hi hf
  rw [Dat.before_out_traj (dats m 0 c) 6 rfl (fun _ _ => rfl) (fun t hz hi _ => carry_6 m c t hz hi) t.val t rfl d,
    if_neg (by rw [h]; exact Bool.false_ne_true)]
  exact (carry_6 m c t hz hi).symm
theorem before_7 (c : Dev nD) (t : Fin cfg0.N) (hi : cfg0.idle 7 (grid0.coords t) = true) (hf : (cfg0.win 7).flush t = true) (d) :
    (dats m 0 c).before 7 t d = (dats m 0 c).after 7 t := by
  obtain ⟨hz, h⟩ := (stored_facts t).2.1 hi hf
  rw [Dat.before_out_traj (dats m 0 c) 7 rfl (fun _ _ => rfl) (fun t hz hi _ => carry_7 m c t hz hi) t.val t rfl d,
    if_neg (by rw [h]; exact Bool.false_ne_true)]
  exact (carry_7 m c t hz hi).symm
theorem before_8 (c : Dev nD) (t : Fin cfg0.N) (hi : cfg0.idle 8 (grid0.coords t) = true) (hf : (cfg0.win 8).flush t = true) (d) :
    (dats m 0 c).before 8 t d = (dats m 0 c).after 8 t := by
  obtain ⟨hz, h⟩ := (stored_facts t).2.2 hi hf
  rw [Dat.before_out_traj (dats m 0 c) 8 rfl (fun _ _ => rfl) (fun t hz hi _ => carry_8 m c t hz hi) t.val t rfl d,
    if_neg (by rw [h]; exact Bool.false_ne_true)]
  exact (carry_8 m c t hz hi).symm

/-! ## The body at any point -/

/-- A buffer left alone is handed back as the pipeline asks, -/
theorem leave_idle (c : Dev nD) (w : Fin cfg0.W) (t : Fin cfg0.N) (hi : cfg0.idle w (grid0.coords t) = true)
    (hb : (cfg0.win w).flush t = true → ∀ d, (dats m 0 c).before w t d = (dats m 0 c).after w t) (d) :
    (owns (c : Thread nD τ) ((cfg0.win w).stage (cfg0.slots t w)) fullShare ((dats m 0 c).before w t d) : sProp 𝕄L) ⊢ (dats m 0 c).leavesExact w t := by
  cases hf : (cfg0.win w).flush t
  · rw [Dat.leavesExact_idle (dats m 0 c) w t hi hf]
    iintro H; iexists d; iexact H
  · rw [hb hf d]; unfold Dat.leavesExact; rw [show cfg0.idle w (cfg0.grid.coords t) = true from hi, hf]

/-- and a buffer stored at what the proof data say. -/
theorem leave_live (c : Dev nD) (w : Fin cfg0.W) (t : Fin cfg0.N) (hi : cfg0.idle w (grid0.coords t) = false) :
    (owns (c : Thread nD τ) ((cfg0.win w).stage (cfg0.slots t w)) fullShare ((dats m 0 c).after w t) : sProp 𝕄L) ⊢ (dats m 0 c).leavesExact w t := by
  unfold Dat.leavesExact; rw [show cfg0.idle w (cfg0.grid.coords t) = false from hi]

/-- What the body is called with at point `t`, -/
def bodyPre (c : Dev nD) (t : Fin cfg0.N) : sProp 𝕄L :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄L :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t)

/-- The body at any point, by its branch. -/
theorem sound_body (c : Dev nD) (t : Fin cfg0.N) :
    bodyPre m c t ⊢ wp frame (wpE (defs₀ (F := F)) Variants.none c none) Set.univ (bodyAt0 t) (fun _ => bodyPost m c t) := by
  have hN : t.val < 12 := lt_of_lt_of_eq t.isLt N_0
  unfold bodyPre bodyPost bodyAt0
  simp only [before_0, before_1, before_2, before_3, before_4, before_5]
  rw [show (dats m 0 c).owesAt () t.succ = (dats m 0 c).owesAt () t.castSucc from rfl,
    show (dats m 0 c).Φ t.succ = (dats m 0 c).Φ t.castSucc from rfl]
  rcases (show t.val / 4 = 0 ∨ t.val / 4 = 1 ∨ t.val / 4 = 2 by omega) with hb | hb | hb
  · have c0 := (branch_facts t).1.2 hb
    have c1 : ¬k0_cond2 (grid0.coords t) = 1#1 := fun h => by have := (branch_facts t).2.1.1 h; omega
    have c2 : ¬k0_cond3 (grid0.coords t) = 1#1 := fun h => by have := (branch_facts t).2.2.1 h; omega
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (Run.first c (grid0.coords t) _ _ _ _ _ _ _ _ _ _ _ _ _ _ _ _ _ _ (iblk m c 0 t) (iblk m c 1 t) (iblk m c 2 t) (iblk m c 3 t) (iblk m c 4 t) (iblk m c 5 t) _ _ _ Set.univ c0 c1 c2 _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨H0, H1, H2, H3, H4, H5, H6, H7, H8⟩
    isplitl [Hg]; · iexact Hg
    isplitl [Ho]; · iexact Ho
    isplitl [H0]; · iapply (leave_live m c 0 t rfl); rw [after_0]; iexact H0
    isplitl [H1]; · iapply (leave_live m c 1 t rfl); rw [after_1]; iexact H1
    isplitl [H2]; · iapply (leave_live m c 2 t rfl); rw [after_2]; iexact H2
    isplitl [H3]; · iapply (leave_live m c 3 t rfl); rw [after_3]; iexact H3
    isplitl [H4]; · iapply (leave_live m c 4 t rfl); rw [after_4]; iexact H4
    isplitl [H5]; · iapply (leave_live m c 5 t rfl); rw [after_5]; iexact H5
    isplitl [H6]
    · iapply (leave_live m c 6 t (Bool.eq_false_iff.2 fun h => (idle_facts t).1.1 h hb)); rw [after_6]; iexact H6
    isplitl [H7]
    · iapply (leave_idle m c 7 t ((idle_facts t).2.1.2 (by omega)) (fun hf d => before_7 m c t ((idle_facts t).2.1.2 (by omega)) hf d) d7); iexact H7
    iapply (leave_idle m c 8 t ((idle_facts t).2.2.2 (by omega)) (fun hf d => before_8 m c t ((idle_facts t).2.2.2 (by omega)) hf d) d8); iexact H8
  · have c0 : ¬k0_cond1 (grid0.coords t) = 1#1 := fun h => by have := (branch_facts t).1.1 h; omega
    have c1 := (branch_facts t).2.1.2 hb
    have c2 : ¬k0_cond3 (grid0.coords t) = 1#1 := fun h => by have := (branch_facts t).2.2.1 h; omega
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (Run.second c (grid0.coords t) _ _ _ _ _ _ _ _ _ _ _ _ _ _ _ _ _ _ (iblk m c 0 t) (iblk m c 1 t) (iblk m c 2 t) (iblk m c 3 t) (iblk m c 4 t) (iblk m c 5 t) _ _ _ Set.univ c0 c1 c2 _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨H0, H1, H2, H3, H4, H5, H6, H7, H8⟩
    isplitl [Hg]; · iexact Hg
    isplitl [Ho]; · iexact Ho
    isplitl [H0]; · iapply (leave_live m c 0 t rfl); rw [after_0]; iexact H0
    isplitl [H1]; · iapply (leave_live m c 1 t rfl); rw [after_1]; iexact H1
    isplitl [H2]; · iapply (leave_live m c 2 t rfl); rw [after_2]; iexact H2
    isplitl [H3]; · iapply (leave_live m c 3 t rfl); rw [after_3]; iexact H3
    isplitl [H4]; · iapply (leave_live m c 4 t rfl); rw [after_4]; iexact H4
    isplitl [H5]; · iapply (leave_live m c 5 t rfl); rw [after_5]; iexact H5
    isplitl [H6]
    · iapply (leave_idle m c 6 t ((idle_facts t).1.2 (by omega)) (fun hf d => before_6 m c t ((idle_facts t).1.2 (by omega)) hf d) d6); iexact H6
    isplitl [H7]
    · iapply (leave_live m c 7 t (Bool.eq_false_iff.2 fun h => (idle_facts t).2.1.1 h hb)); rw [after_7]; iexact H7
    iapply (leave_idle m c 8 t ((idle_facts t).2.2.2 (by omega)) (fun hf d => before_8 m c t ((idle_facts t).2.2.2 (by omega)) hf d) d8); iexact H8
  · have c0 : ¬k0_cond1 (grid0.coords t) = 1#1 := fun h => by have := (branch_facts t).1.1 h; omega
    have c1 : ¬k0_cond2 (grid0.coords t) = 1#1 := fun h => by have := (branch_facts t).2.1.1 h; omega
    have c2 := (branch_facts t).2.2.2 hb
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (Run.third c (grid0.coords t) _ _ _ _ _ _ _ _ _ _ _ _ _ _ _ _ _ _ (iblk m c 0 t) (iblk m c 1 t) (iblk m c 2 t) (iblk m c 3 t) (iblk m c 4 t) (iblk m c 5 t) _ _ _ Set.univ c0 c1 c2 _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨H0, H1, H2, H3, H4, H5, H6, H7, H8⟩
    isplitl [Hg]; · iexact Hg
    isplitl [Ho]; · iexact Ho
    isplitl [H0]; · iapply (leave_live m c 0 t rfl); rw [after_0]; iexact H0
    isplitl [H1]; · iapply (leave_live m c 1 t rfl); rw [after_1]; iexact H1
    isplitl [H2]; · iapply (leave_live m c 2 t rfl); rw [after_2]; iexact H2
    isplitl [H3]; · iapply (leave_live m c 3 t rfl); rw [after_3]; iexact H3
    isplitl [H4]; · iapply (leave_live m c 4 t rfl); rw [after_4]; iexact H4
    isplitl [H5]; · iapply (leave_live m c 5 t rfl); rw [after_5]; iexact H5
    isplitl [H6]
    · iapply (leave_idle m c 6 t ((idle_facts t).1.2 (by omega)) (fun hf d => before_6 m c t ((idle_facts t).1.2 (by omega)) hf d) d6); iexact H6
    isplitl [H7]
    · iapply (leave_idle m c 7 t ((idle_facts t).2.1.2 (by omega)) (fun hf d => before_7 m c t ((idle_facts t).2.1.2 (by omega)) hf d) d7); iexact H7
    iapply (leave_live m c 8 t (Bool.eq_false_iff.2 fun h => (idle_facts t).2.2.1 h hb)); rw [after_8]; iexact H8

theorem body_row (t : Fin cfg0.N) : defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run of the program -/

-- the launch's implicit arguments are found by unifying its conclusion with this one, which unfolds plain definitions in the
-- type of what is sought
set_option backward.isDefEq.respectTransparency.types false in
/-- Every run ends, every array at what the proof data say, every counter at zero. -/
theorem run_ends : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- Every run ends with every array at what the proof data say. -/
theorem run_main : θ_run defs (onTc (τ := τ) (main (F := F))) (s₀ m ρ) (Pipeline.FramePost cfgs (dats m) 0 (V m)) :=
  (θ_run defs _ _).mono (fun _ h => h.1) (run_ends m ρ)

/-- Every run ends with the arguments unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_ends m ρ))

end Cert.DyBrIdeal.Run
-- ==== Proof.SameRun.lean ====
module

public import proofs.«01_k».proof.Defs
public import proofs.«01_k».proof.Proof.Gen.Dx
public import proofs.«01_k».proof.Proof.Gen.DyBr
public import proofs.«01_k».proof.Proof.DxFrame
public import proofs.«01_k».proof.Proof.DyFrame

/-!
The runs of DxFrame and DyFrame are stated over any float values. At the bits they are the runs of the kernels as printed, whose
body tables are the idealised programs' label by label.
-/

@[expose] public section

noncomputable section
namespace Cert.Proof
open Idealize.ShloMosaic Idealize.SL.Sem

/-- The two body tables of `dh_dx` are one. -/
theorem bodies_dx : @Cert.Dx.defs₀ Bits _ Cert.Dx.Gen.facts = @Cert.DxIdeal.defs₀ Bits _ Cert.DxIdeal.Gen.facts :=
  congrArg Defs.onTc (funext fun l => funext fun x => match l, x with
    | 0, (_, _) => rfl
    | ⟨_ + 1, h⟩, _ => absurd h (Nat.not_lt.2 (Nat.le_add_left _ _)))

/-- So are those of `dy_br`. -/
theorem bodies_dy : @Cert.DyBr.defs₀ Bits _ Cert.DyBr.Gen.facts = @Cert.DyBrIdeal.defs₀ Bits _ Cert.DyBrIdeal.Gen.facts :=
  congrArg Defs.onTc (funext fun l => funext fun x => match l, x with
    | 0, (_, _) => rfl
    | ⟨_ + 1, h⟩, _ => absurd h (Nat.not_lt.2 (Nat.le_add_left _ _)))

/-- The frame of `dh_dx` as printed. -/
theorem frame_dh_dx : @Cert.quiescent_Dx Cert.Dx.Gen.facts := fun m ρ _ =>
  have e : @Cert.Dx.defs Bits _ Cert.Dx.Gen.facts = @Cert.DxIdeal.defs Bits _ Cert.DxIdeal.Gen.facts := congrArg (Pipeline.defs _) bodies_dx
  e ▸ Cert.DxIdeal.Run.frame_claim (F := Bits) m ρ

/-- The frame of `dy_br` as printed. -/
theorem frame_dy_br : @Cert.quiescent_DyBr Cert.DyBr.Gen.facts := fun m ρ _ =>
  have e : @Cert.DyBr.defs Bits _ Cert.DyBr.Gen.facts = @Cert.DyBrIdeal.defs Bits _ Cert.DyBrIdeal.Gen.facts := congrArg (Pipeline.defs _) bodies_dy
  e ▸ Cert.DyBrIdeal.Run.frame_claim (F := Bits) m ρ

end Cert.Proof
-- ==== Proof.DxRow.lean ====
module

public import proofs.«01_k».proof.Proof.Spec
public import Idealize.ShloMosaic.Lib.ValueIdx

/-!
One row of the gradient of the normalised input. With `X` the input's row, `H` the row of the cotangent that reaches the normalised
input, `G` the scale, `z` the mean square of `X` plus a small constant and `r` the inverse root of `z`, the kernel forms
`r (H G - X r mean (H G X r)) + Y`, and the reference the sum of `Y`, `H G r` and twice `X` times the derivative of `z`. On real rows
the two are equal.
-/

@[expose] public section

noncomputable section
namespace Cert.DxRow
open Idealize.ShloMosaic
open Idealize.ShloMosaic.ValueIdx Cert.Mem

theorem ofBits_count : Ideal.ofBits .f32 0x45000000#32 = ((2048 : ℝ) : EReal) := by
  simp [Ideal.ofBits, Ideal.ieee]
  rw [← EReal.coe_mul]
  norm_num
theorem ofBits_small : Ideal.ofBits .f32 0x358637BD#32 = ((8796093 / 2 ^ 43 : ℝ) : EReal) := by
  simp [Ideal.ofBits, Ideal.ieee]
  rw [← EReal.coe_mul]
  norm_num
theorem ofBits_neg_half : Ideal.ofBits .f32 0xBF000000#32 = ((-(1 / 2) : ℝ) : EReal) := by
  simp [Ideal.ofBits, Ideal.ieee]
  rw [← EReal.coe_mul]
  norm_num

/-- The mean square of a row, plus the small constant. -/
def meanSq (X : Fin 2048 → EReal) : EReal := Ideal.div (∑ j, X j * X j) (Ideal.ofBits .f32 0x45000000#32) + Ideal.ofBits .f32 0x358637BD#32

/-- The inverse root of it. -/
def invRoot (X : Fin 2048 → EReal) : EReal := Ideal.rsqrt (meanSq X)

/-- An entry of the row the kernel forms. -/
def kernelRow (X H G : Fin 2048 → EReal) (Y : EReal) (d : Fin 2048) : EReal :=
  invRoot X * (H d * G d - X d * invRoot X * Ideal.div (∑ j, H j * G j * (X j * invRoot X)) (Ideal.ofBits .f32 0x45000000#32)) + Y

/-- The derivative of the mean square along the cotangent, over the number of columns. -/
def slope (X H G : Fin 2048 → EReal) : EReal :=
  Ideal.div ((∑ j, X j * (H j * G j)) * (Ideal.ofBits .f32 0xBF000000#32 * Ideal.div (invRoot X) (meanSq X))) (Ideal.ofBits .f32 0x45000000#32)

/-- An entry of the row the reference forms. -/
def referenceRow (X H G : Fin 2048 → EReal) (Y : EReal) (d : Fin 2048) : EReal :=
  Y + H d * G d * invRoot X + X d * slope X H G + slope X H G * X d

section
variable (X H G : Fin 2048 → ℝ)

/-- The mean square of a real row, plus the small constant. -/
def realSq : ℝ := (∑ j, X j * X j) / 2048 + 8796093 / 2 ^ 43

theorem realSq_pos : 0 < realSq X :=
  add_pos_of_nonneg_of_pos (div_nonneg (Finset.sum_nonneg fun j _ => mul_self_nonneg (X j)) (by norm_num)) (by norm_num)

theorem meanSq_coe : meanSq (fun j => (X j : EReal)) = (realSq X : EReal) := by
  unfold meanSq realSq
  simp only [← EReal.coe_mul]
  rw [coe_sum, ofBits_count, coe_div _ (by norm_num), ofBits_small, ← EReal.coe_add]

theorem invRoot_coe : invRoot (fun j => (X j : EReal)) = (((Real.sqrt (realSq X))⁻¹ : ℝ) : EReal) := by
  unfold invRoot
  rw [meanSq_coe, Ideal.rsqrt_coe, if_neg (not_lt.2 (realSq_pos X).le), if_neg (realSq_pos X).ne']

theorem slope_coe : slope (fun j => (X j : EReal)) (fun j => (H j : EReal)) (fun j => (G j : EReal))
    = ((((∑ j, X j * (H j * G j)) * (-(1 / 2) * ((Real.sqrt (realSq X))⁻¹ / realSq X))) / 2048 : ℝ) : EReal) := by
  unfold slope
  simp only [← EReal.coe_mul]
  rw [coe_sum, invRoot_coe, meanSq_coe, ofBits_neg_half, ofBits_count, coe_div _ (realSq_pos X).ne', ← EReal.coe_mul, ← EReal.coe_mul,
    coe_div _ (by norm_num)]

/-- The two forms over the reals: the inverse root over the mean square is the inverse root's cube. -/
theorem real_rows (r z S h x : ℝ) (hr : r * r * z = 1) (hz : z ≠ 0) :
    r * (h - x * r * (S * r / 2048)) = h * r + (x * (S * (-(1 / 2) * (r / z)) / 2048) + S * (-(1 / 2) * (r / z)) / 2048 * x) := by
  have e : r / z = r * r * r := by
    rw [div_eq_iff hz]
    calc r = r * (r * r * z) := by rw [hr, mul_one]
      _ = r * r * r * z := by ring
  rw [e]; ring

/-- On real rows the kernel's entry is the reference's. -/
theorem rows_eq (Y : EReal) (d : Fin 2048) :
    kernelRow (fun j => (X j : EReal)) (fun j => (H j : EReal)) (fun j => (G j : EReal)) Y d
      = referenceRow (fun j => (X j : EReal)) (fun j => (H j : EReal)) (fun j => (G j : EReal)) Y d := by
  have hz := realSq_pos X
  have hr : (Real.sqrt (realSq X))⁻¹ * (Real.sqrt (realSq X))⁻¹ * realSq X = 1 := by
    rw [← mul_inv, Real.mul_self_sqrt hz.le, inv_mul_cancel₀ hz.ne']
  have hs : ∑ j, H j * G j * (X j * (Real.sqrt (realSq X))⁻¹) = (∑ j, X j * (H j * G j)) * (Real.sqrt (realSq X))⁻¹ := by
    rw [Finset.sum_mul]; exact Finset.sum_congr rfl fun j _ => by ring
  unfold kernelRow referenceRow
  rw [slope_coe, invRoot_coe]
  simp only [← EReal.coe_mul]
  rw [coe_sum, ofBits_count, coe_div _ (by norm_num), hs, ← EReal.coe_mul, ← EReal.coe_sub, ← EReal.coe_mul, add_assoc, add_assoc,
    ← EReal.coe_add, ← EReal.coe_add, real_rows _ _ _ _ _ hr hz.ne', add_comm]

end

/-! ## The arrays -/

/-- A row of an array. -/
abbrev row {n : ℕ} (x : (⟨2, ![n, 2048]⟩ : Shape).Idx → EReal) (i : Fin n) (k : Fin 2048) : EReal := x (ix2 i k)

section
variable (D : (⟨2, ![2048, 12544]⟩ : Shape).Idx → EReal) (W : (⟨2, ![12544, 2048]⟩ : Shape).Idx → EReal)
  (X Y : (⟨2, ![2048, 2048]⟩ : Shape).Idx → EReal) (G : (⟨2, ![1, 2048]⟩ : Shape).Idx → EReal)

/-- The cotangent that reaches the normalised input. -/
def cotangent (s d : Fin 2048) : EReal := ∑ k : Fin 12544, D (ix2 s k) * W (ix2 k d)

/-- The input's gradient. -/
def inputGrad (y : (⟨2, ![2048, 2048]⟩ : Shape).Idx) : EReal :=
  kernelRow (row X (y 0)) (cotangent D W (y 0)) (row G 0) (row Y (y 0) (y 1)) (y 1)

/-- What token `s` adds to the scale's gradient. -/
def scaleTerm (s d : Fin 2048) : EReal := cotangent D W s d * (row X s d * invRoot (row X s))

/-- The scale's gradient. -/
def scaleGrad (y : (⟨2, ![1, 2048]⟩ : Shape).Idx) : EReal := ∑ s : Fin 2048, scaleTerm D W X s (y 1)

end

end Cert.DxRow
-- ==== Proof.DxEntry.lean ====
module

public import proofs.«01_k».proof.Proof.DxRun
public import proofs.«01_k».proof.Proof.DxRow
public import proofs.«01_k».proof.Proof.Products
public import Idealize.ShloMosaic.Lib.Pipeline.ValueKit

/-!
What the body computes from its blocks, entry by entry.
-/

@[expose] public section
set_option maxRecDepth 16384

noncomputable section
namespace Cert.DxIdeal.Hand
open Cert.DxIdeal Cert.DxIdeal.Gen Cert.DxIdeal.Loop Cert.DxIdeal.Run
open Idealize.ShloMosaic hiding ix2 ix1 eq_ix2
open Idealize.ShloMosaic.TcCoe Idealize.ShloMosaic.ValueIdx Idealize.SL.Sem Cert.Products Cert.DxRow

/-- The sum of a row of sixty-four, as a column. -/
theorem rowSum_apply (x : FVec Ideal S64x2048 .f32) (i : Fin 64) :
    @Eq EReal (shapeCast S64x1 (multiReduction .add [1] S64 x 0x00000000#32 reduces_S64x2048_S64 (.inl rfl) rfl) shapeCasts_S64_S64x1 (ix2 i (0 : Fin 1)))
      (∑ k : Fin 2048, row x i k) := by
  rw [shapeCast_apply _ _ (ix2 i (0 : Fin 1)) (ix1 i) (by rfl)]
  refine (Ideal.multiReduction_add_single x _ _ _ _ (ix1 i)).trans ?_
  refine Finset.sum_congr rfl fun k _ => congrArg x ?_
  funext a; match a with | ⟨0, _⟩ => rfl | ⟨1, _⟩ => rfl

/-- The sum of a column of sixty-four, as a row. -/
theorem colSum_apply (x : FVec Ideal S64x2048 .f32) (d : Fin 2048) :
    @Eq EReal (shapeCast S1x2048 (multiReduction .add [0] S2048 x 0x00000000#32 reduces_S64x2048_S2048 (.inl rfl) rfl) shapeCasts_S2048_S1x2048 (ix2 (0 : Fin 1) d))
      (∑ i : Fin 64, row x i d) := by
  rw [shapeCast_apply _ _ (ix2 (0 : Fin 1) d) (ix1 d)
    (by rw [Shape.rowMajor_val_one, Shape.rowMajor_val_two]; show d.val = 0 * 2048 + d.val; omega)]
  refine (Ideal.multiReduction_add_single x _ _ _ _ (ix1 d)).trans ?_
  refine Finset.sum_congr rfl fun k _ => congrArg x ?_
  funext a; match a with | ⟨0, _⟩ => rfl | ⟨1, _⟩ => rfl

/-- A column spread over the row's places. -/
theorem spread_apply (x : FVec Ideal S64x1 .f32) (i : Fin 64) (d : Fin 2048) :
    broadcastTo S64x2048 x broadcasts_S64x1_S64x2048 (ix2 i d) = x (ix2 i (0 : Fin 1)) :=
  broadcastTo_apply _ _ (ix2 i d) (ix2 i (0 : Fin 1)) (by intro a; match a with | ⟨0, _⟩ => rfl | ⟨1, _⟩ => rfl)

/-- The inverse root of a row's mean square. -/
theorem pay4_apply (x : Vec Ideal S64x2048 .f32) (i : Fin 64) : @Eq EReal (k0_pay4 x (ix2 i (0 : Fin 1))) (invRoot (row x i)) := by
  unfold k0_pay4 invRoot meanSq
  refine congrArg Ideal.rsqrt (congrArg (· + _) (congrArg (Ideal.div · _) ?_))
  exact rowSum_apply (mulf x x) i

/-- The normalised row. -/
theorem pay5_apply (x : Vec Ideal S64x2048 .f32) (i : Fin 64) (d : Fin 2048) :
    @Eq EReal (k0_pay5 x (ix2 i d)) (row x i d * invRoot (row x i)) := by
  unfold k0_pay5
  exact congrArg (row x i d * ·) ((spread_apply (k0_pay4 x) i d).trans (pay4_apply x i))

/-- What a trip adds to the scale's gradient. -/
theorem pay6_apply (acc x : Vec Ideal S64x2048 .f32) (p : Vec Ideal S1x2048 .f32) (d : Fin 2048) :
    @Eq EReal (k0_pay6 acc x p (ix2 (0 : Fin 1) d)) (row p 0 d + ∑ i : Fin 64, row acc i d * (row x i d * invRoot (row x i))) := by
  unfold k0_pay6
  refine congrArg₂ (· + ·) (congrFun (shapeCast_self p _) (ix2 (0 : Fin 1) d)) ((colSum_apply _ d).trans (Finset.sum_congr rfl fun i _ => ?_))
  exact congrArg (row acc i d * ·) (pay5_apply x i d)

/-- An entry of the token gradient a trip stores. -/
theorem pay7_apply (acc x y : Vec Ideal S64x2048 .f32) (g : Vec Ideal S1x2048 .f32) (i : Fin 64) (d : Fin 2048) :
    @Eq EReal (k0_pay7 acc x g y (ix2 i d)) (kernelRow (row x i) (row acc i) (row g 0) (row y i d) d) := by
  have hg : ∀ j : Fin 2048, @Eq EReal (broadcastTo S64x2048 g broadcasts_S1x2048_S64x2048 (ix2 i j)) (row g 0 j) := fun j =>
    broadcastTo_apply _ _ (ix2 i j) (ix2 (0 : Fin 1) j) (by intro a; match a with | ⟨0, _⟩ => rfl | ⟨1, _⟩ => rfl)
  unfold k0_pay7 kernelRow
  refine congrArg (· + row y i d) (congrArg₂ (· * ·) ((spread_apply (k0_pay4 x) i d).trans (pay4_apply x i)) (congrArg₂ (· - ·) (congrArg (row acc i d * ·) (hg d))
    (congrArg₂ (· * ·) (pay5_apply x i d) ((spread_apply _ i d).trans (congrArg (Ideal.div · _) ((rowSum_apply _ i).trans (Finset.sum_congr rfl fun j _ => ?_)))))))
  exact congrArg₂ (· * ·) (congrArg (row acc i j * ·) (hg j)) (pay5_apply x i j)

/-- What a point adds to the product. -/
theorem pay3_apply (acc : Vec Ideal S512x2048 .f32) (x : Vec Ideal S512x1792 .bf16) (w : Vec Ideal S1792x2048 .bf16) (r : Fin 512) (d : Fin 2048) :
    @Eq EReal (k0_pay3 acc x w (ix2 r d)) (row acc r d + ∑ k : Fin 1792, (x (ix2 r k) : EReal) * w (ix2 k d)) := by
  unfold k0_pay3
  refine (congrFun (shapeCast_self _ _) (ix2 r d)).trans (congrArg (row acc r d + ·) ?_)
  exact entry_sum dot_S512x1792_S1792x2048_S512x2048_1_0_0_1_n_n 1792 rfl rfl x w (ix2 r d) (fun k => ix2 r k) (fun k => ix2 k d)
    (fun k => funext fun a => match a with | ⟨0, _⟩ => rfl | ⟨1, _⟩ => rfl) (fun k => funext fun a => match a with | ⟨0, _⟩ => rfl | ⟨1, _⟩ => rfl)

/-- The product begins at zero, -/
theorem pay2_apply (r : Fin 512) (d : Fin 2048) : @Eq EReal (k0_pay2 (F := Ideal) (ix2 r d)) 0 := by
  unfold k0_pay2
  exact (congrFun (shapeCast_self _ _) (ix2 r d)).trans Ideal.ofBits_zero_f32

/-- and the scale's gradient too. -/
theorem pay1_apply (d : Fin 2048) : @Eq EReal (k0_pay1 (F := Ideal) (ix2 (0 : Fin 1) d)) 0 := by
  unfold k0_pay1
  exact Ideal.ofBits_zero_f32

/-! ## The loop -/

/-- Row `i` of trip `k`, in the block. -/
def tripRow (k : Fin k0_t1_loop.trips) (i : Fin 64) : Fin 512 := ⟨64 * k.val + i.val, by have h := k.isLt; have e := trips_eq; omega⟩

theorem rows_ix (k : Fin k0_t1_loop.trips) (i : Fin 64) (d : Fin 2048) : ((rows k).emb (ix2 i d) : S512x2048.Idx) = ix2 (tripRow k i) d :=
  funext fun a => Fin.ext (match a with | ⟨0, _⟩ => rows_emb_0 k (ix2 i d) | ⟨1, _⟩ => rows_emb_1 k (ix2 i d))

/-- A block's rows, as a trip reads them. -/
theorem ld_row (x : Vec Ideal S512x2048 .f32) (k : Fin k0_t1_loop.trips) (i : Fin 64) :
    row (View.ld x (rows k) : Vec Ideal S64x2048 .f32) i = row x (tripRow k i) :=
  funext fun d => congrArg x (rows_ix k i d)

/-- A row vector, as a trip reads it. -/
theorem ld_whole (g : Vec Ideal S1x2048 .f32) : (View.ld g wholeRow : Vec Ideal S1x2048 .f32) = g :=
  View.ld_unit_zero (S := S1x2048) zero_off inb_S1x2048_S1x2048_0_0 g

/-- An entry of the block of the token gradient. -/
theorem dxBlock_apply (acc x y : Vec Ideal S512x2048 .f32) (g : Vec Ideal S1x2048 .f32) (r : Fin 512) (d : Fin 2048) :
    @Eq EReal (dxBlock acc x y g (ix2 r d)) (kernelRow (row x r) (row acc r) (row g 0) (row y r d) d) := by
  have e : tripRow (tripOf (ix2 r d)) ⟨r.val % 64, Nat.mod_lt _ (by decide)⟩ = r := Fin.ext (Nat.div_add_mod r.val 64)
  unfold dxBlock dxPiece
  refine (pay7_apply _ _ _ _ ⟨r.val % 64, Nat.mod_lt _ (by decide)⟩ d).trans ?_
  rw [ld_row, ld_row, ld_row, ld_whole, e]

/-- What row `i` of a block adds to the scale's gradient. -/
def preTerm (acc x : Vec Ideal S512x2048 .f32) (d : Fin 2048) (i : ℕ) : EReal :=
  if h : i < 512 then row acc ⟨i, h⟩ d * (row x ⟨i, h⟩ d * invRoot (row x ⟨i, h⟩)) else 0

/-- The scale's gradient after the trips before `n`. -/
theorem preAfter_apply (acc x : Vec Ideal S512x2048 .f32) (p : Vec Ideal S1x2048 .f32) (d : Fin 2048) :
    ∀ n, n ≤ k0_t1_loop.trips → @Eq EReal (preAfter acc x p n (ix2 (0 : Fin 1) d)) (row p 0 d + ∑ i ∈ Finset.range (64 * n), preTerm acc x d i)
  | 0, _ => by
    rw [Nat.mul_zero, Finset.sum_range_zero, add_zero]; rfl
  | n + 1, hn => by
    rw [preAfter_succ acc x p ⟨n, hn⟩, Nat.mul_succ, Finset.sum_range_add, ← add_assoc, ← preAfter_apply acc x p d n (Nat.le_of_succ_le hn)]
    unfold preStep
    refine (pay6_apply _ _ _ d).trans ?_
    rw [ld_whole, ← Fin.sum_univ_eq_sum_range (fun i => preTerm acc x d (64 * n + i)) 64]
    refine congrArg (_ + ·) (Finset.sum_congr rfl fun i _ => ?_)
    rw [ld_row, ld_row]
    show _ = preTerm acc x d (tripRow ⟨n, hn⟩ i).val
    unfold preTerm
    rw [dif_pos (tripRow ⟨n, hn⟩ i).isLt]

end Cert.DxIdeal.Hand
-- ==== Proof.DxValue.lean ====
module

public import proofs.«01_k».proof.Proof.DxFrame
public import proofs.«01_k».proof.Proof.DxEntry

/-!
The arrays of the idealised program after its run: the input's gradient row by row, and the scale's gradient as one sum over the tokens.
The grid's point `7 i + k` adds to the product of the rows `512 i` to `512 i + 511` what the terms `1792 k` to `1792 k + 1791` give.
-/

@[expose] public section
set_option maxRecDepth 16384

noncomputable section
namespace Cert.DxIdeal.Hand
open Cert.DxIdeal Cert.DxIdeal.Gen Cert.DxIdeal.Loop Cert.DxIdeal.Run
open Idealize.ShloMosaic hiding ix2 ix1 eq_ix2
open Idealize.ShloMosaic.TcCoe Idealize.ShloMosaic.ValueIdx Idealize.SL.Sem Cert.Products Cert.DxRow

/-- The block every window stages at a grid point. -/
theorem index_facts : ∀ t : Fin cfg0.N, win0_0.index t = ![t.val / 7, t.val % 7] ∧ win0_1.index t = ![t.val % 7, 0]
    ∧ win0_2.index t = ![t.val / 7, 0] ∧ win0_3.index t = ![t.val / 7, 0] ∧ win0_4.index t = ![0, 0]
    ∧ win0_5.index t = ![t.val / 7, 0] ∧ win0_6.index t = ![0, 0] :=
  (by decide +kernel : ∀ t : Fin grid0.N, _)

/-- The points whose results are written back. -/
theorem flush_facts : ∀ t : Fin cfg0.N, ((cfg0.win 5).flush t = true ↔ t.val % 7 = 6) ∧ ((cfg0.win 6).flush t = true ↔ t.val = 27) :=
  (by decide +kernel : ∀ t : Fin grid0.N, _)

/-- Row `r` of the block of point `t`. -/
def rowAt (t : Fin cfg0.N) (r : Fin 512) : Fin 2048 :=
  ⟨512 * (t.val / 7) + r.val, by have h := t.isLt; have e : cfg0.N = 28 := N_0; omega⟩

/-- Term `k` of the block of point `t`. -/
def termAt (t : Fin cfg0.N) (k : Fin 1792) : Fin 12544 := ⟨1792 * (t.val % 7) + k.val, by omega⟩

variable (m : (ℓ : Loc nD τ sig) → Buf (Elt Ideal) ℓ) (c : Dev nD)

theorem iblk_0 (t : Fin cfg0.N) (r : Fin 512) (k : Fin 1792) :
    (iblk m c 0 t : Vec Ideal S512x1792 .bf16) (ix2 r k) = V m c main_arg0 (ix2 (rowAt t r) (termAt t k)) := by
  refine congrArg (V m c main_arg0) (funext fun a => Fin.ext ?_)
  have h := (index_facts t).1
  match a with
  | ⟨0, _⟩ => exact (Pipeline.Window.rect_emb_val win0_0 t (ix2 r k) 0).trans (by rw [h]; show t.val / 7 * 512 + r.val = 512 * (t.val / 7) + r.val; omega)
  | ⟨1, _⟩ => exact (Pipeline.Window.rect_emb_val win0_0 t (ix2 r k) 1).trans (by rw [h]; show t.val % 7 * 1792 + k.val = 1792 * (t.val % 7) + k.val; omega)

theorem iblk_1 (t : Fin cfg0.N) (k : Fin 1792) (d : Fin 2048) :
    (iblk m c 1 t : Vec Ideal S1792x2048 .bf16) (ix2 k d) = V m c main_arg1 (ix2 (termAt t k) d) := by
  refine congrArg (V m c main_arg1) (funext fun a => Fin.ext ?_)
  have h := (index_facts t).2.1
  match a with
  | ⟨0, _⟩ => exact (Pipeline.Window.rect_emb_val win0_1 t (ix2 k d) 0).trans (by rw [h]; show t.val % 7 * 1792 + k.val = 1792 * (t.val % 7) + k.val; omega)
  | ⟨1, _⟩ => exact (Pipeline.Window.rect_emb_val win0_1 t (ix2 k d) 1).trans (by rw [h]; show 0 * 2048 + d.val = d.val; omega)

theorem iblk_2 (t : Fin cfg0.N) (r : Fin 512) : row (iblk m c 2 t : Vec Ideal S512x2048 .f32) r = row (V m c main_arg2) (rowAt t r) := by
  funext d
  refine congrArg (V m c main_arg2) (funext fun a => Fin.ext ?_)
  have h := (index_facts t).2.2.1
  match a with
  | ⟨0, _⟩ => exact (Pipeline.Window.rect_emb_val win0_2 t (ix2 r d) 0).trans (by rw [h]; show t.val / 7 * 512 + r.val = 512 * (t.val / 7) + r.val; omega)
  | ⟨1, _⟩ => exact (Pipeline.Window.rect_emb_val win0_2 t (ix2 r d) 1).trans (by rw [h]; show 0 * 2048 + d.val = d.val; omega)

theorem iblk_3 (t : Fin cfg0.N) (r : Fin 512) : row (iblk m c 3 t : Vec Ideal S512x2048 .f32) r = row (V m c main_arg3) (rowAt t r) := by
  funext d
  refine congrArg (V m c main_arg3) (funext fun a => Fin.ext ?_)
  have h := (index_facts t).2.2.2.1
  match a with
  | ⟨0, _⟩ => exact (Pipeline.Window.rect_emb_val win0_3 t (ix2 r d) 0).trans (by rw [h]; show t.val / 7 * 512 + r.val = 512 * (t.val / 7) + r.val; omega)
  | ⟨1, _⟩ => exact (Pipeline.Window.rect_emb_val win0_3 t (ix2 r d) 1).trans (by rw [h]; show 0 * 2048 + d.val = d.val; omega)

theorem iblk_4 (t : Fin cfg0.N) : row (iblk m c 4 t : Vec Ideal S1x2048 .f32) 0 = row (V m c main_arg4) 0 := by
  funext d
  refine congrArg (V m c main_arg4) (funext fun a => Fin.ext ?_)
  have h := (index_facts t).2.2.2.2.1
  match a with
  | ⟨0, _⟩ => exact (Pipeline.Window.rect_emb_val win0_4 t (ix2 0 d) 0).trans (by rw [h]; rfl)
  | ⟨1, _⟩ => exact (Pipeline.Window.rect_emb_val win0_4 t (ix2 0 d) 1).trans (by rw [h]; show 0 * 2048 + d.val = d.val; omega)

theorem emb_5 (t : Fin cfg0.N) (r : Fin 512) (d : Fin 2048) :
    (((cfg0.win 5).blk t).view.emb (ix2 r d) : S2048x2048.Idx) = ix2 (rowAt t r) d := by
  refine funext fun a => Fin.ext ?_
  have h := (index_facts t).2.2.2.2.2.1
  match a with
  | ⟨0, _⟩ => exact (Pipeline.Window.rect_emb_val win0_5 t (ix2 r d) 0).trans (by rw [h]; show t.val / 7 * 512 + r.val = 512 * (t.val / 7) + r.val; omega)
  | ⟨1, _⟩ => exact (Pipeline.Window.rect_emb_val win0_5 t (ix2 r d) 1).trans (by rw [h]; show 0 * 2048 + d.val = d.val; omega)

theorem emb_6 (t : Fin cfg0.N) (u : Fin 1) (d : Fin 2048) : (((cfg0.win 6).blk t).view.emb (ix2 u d) : S1x2048.Idx) = ix2 u d := by
  refine funext fun a => Fin.ext ?_
  have h := (index_facts t).2.2.2.2.2.2
  match a with
  | ⟨0, _⟩ => exact (Pipeline.Window.rect_emb_val win0_6 t (ix2 u d) 0).trans (by rw [h]; show 0 * 1 + u.val = u.val; omega)
  | ⟨1, _⟩ => exact (Pipeline.Window.rect_emb_val win0_6 t (ix2 u d) 1).trans (by rw [h]; show 0 * 2048 + d.val = d.val; omega)

/-! ## The product -/

/-- Term `j` of an entry of the product. -/
def term (D : S2048x12544.Idx → EReal) (W : S12544x2048.Idx → EReal) (s d : Fin 2048) (j : ℕ) : EReal :=
  if h : j < 12544 then D (ix2 s ⟨j, h⟩) * W (ix2 ⟨j, h⟩ d) else 0

theorem term_lt (D : S2048x12544.Idx → EReal) (W : S12544x2048.Idx → EReal) (s d : Fin 2048) (k : Fin 12544) :
    term D W s d k.val = D (ix2 s k) * W (ix2 k d) := dif_pos k.isLt

/-- What point `t` adds to an entry of the product. -/
theorem added (acc : Vec Ideal S512x2048 .f32) (t : Fin cfg0.N) (r : Fin 512) (d : Fin 2048) :
    @Eq EReal (k0_pay3 acc (iblk m c 0 t) (iblk m c 1 t) (ix2 r d))
      (row acc r d + ∑ k ∈ Finset.range 1792, term (V m c main_arg0) (V m c main_arg1) (rowAt t r) d (1792 * (t.val % 7) + k)) := by
  refine (pay3_apply acc _ _ r d).trans (congrArg (row acc r d + ·) ?_)
  rw [← Fin.sum_univ_eq_sum_range (fun k => term (V m c main_arg0) (V m c main_arg1) (rowAt t r) d (1792 * (t.val % 7) + k)) 1792]
  refine Finset.sum_congr rfl fun k _ => ?_
  rw [iblk_0, iblk_1]
  exact (term_lt _ _ _ d (termAt t k)).symm

/-- An entry of the product after point `n`. -/
theorem acc_apply (r : Fin 512) (d : Fin 2048) : ∀ (n : ℕ) (hn : n < cfg0.N), @Eq EReal (accAt m c n hn (ix2 r d))
    (∑ k ∈ Finset.range (1792 * (n % 7) + 1792), term (V m c main_arg0) (V m c main_arg1) (rowAt ⟨n, hn⟩ r) d k) := by
  intro n
  induction n with
  | zero =>
    intro hn
    rw [accAt_start m c ⟨0, hn⟩ rfl]
    refine (added m c _ ⟨0, hn⟩ r d).trans ?_
    rw [Finset.sum_range_add]
    exact congrArg (· + _) (pay2_apply r d)
  | succ n ih =>
    intro hn
    by_cases h : (n + 1) % 7 = 0
    · rw [accAt_start m c ⟨n + 1, hn⟩ h, Finset.sum_range_add]
      refine (added m c _ ⟨n + 1, hn⟩ r d).trans (congrArg (· + _) ?_)
      rw [h]; exact pay2_apply r d
    · rw [accAt_next m c ⟨n + 1, hn⟩ h, Finset.sum_range_add]
      refine (added m c _ ⟨n + 1, hn⟩ r d).trans (congrArg (· + _) ((ih (Nat.lt_of_succ_lt hn)).trans ?_))
      rw [show rowAt ⟨n + 1, hn⟩ r = rowAt ⟨n, Nat.lt_of_succ_lt hn⟩ r from Fin.ext (by show 512 * ((n + 1) / 7) + r.val = 512 * (n / 7) + r.val; omega),
        show 1792 * ((n + 1) % 7) = 1792 * (n % 7) + 1792 from by omega]

/-- At the last point of a row of blocks the product is whole. -/
theorem acc_last (t : Fin cfg0.N) (h : t.val % 7 = 6) (r : Fin 512) :
    row (accAt m c t.val t.isLt) r = cotangent (V m c main_arg0) (V m c main_arg1) (rowAt t r) := by
  funext d
  refine (acc_apply m c r d t.val t.isLt).trans ?_
  rw [h, ← Fin.sum_univ_eq_sum_range (term (V m c main_arg0) (V m c main_arg1) (rowAt ⟨t.val, t.isLt⟩ r) d) 12544]
  exact Finset.sum_congr rfl fun k _ => term_lt _ _ _ d k

/-! ## The scale's gradient -/

/-- What token `s` adds to the scale's gradient. -/
def tokenTerm (d : Fin 2048) (s : ℕ) : EReal :=
  if h : s < 2048 then scaleTerm (V m c main_arg0) (V m c main_arg1) (V m c main_arg2) ⟨s, h⟩ d else 0

/-- The scale's gradient after point `n`. -/
theorem pre_apply (d : Fin 2048) : ∀ (n : ℕ) (hn : n < cfg0.N), @Eq EReal (preAt m c n hn (ix2 (0 : Fin 1) d))
    (∑ s ∈ Finset.range (512 * ((n + 1) / 7)), tokenTerm m c d s) := by
  intro n
  induction n with
  | zero => intro hn; rw [preAt_first m c ⟨0, hn⟩ rfl]; exact pay1_apply d
  | succ n ih =>
    intro hn
    by_cases h : (n + 1) % 7 = 6
    · rw [preAt_last m c ⟨n + 1, hn⟩ h]
      refine (preAfter_apply _ _ _ d _ le_rfl).trans ?_
      rw [show 512 * ((n + 1 + 1) / 7) = 512 * ((n + 1) / 7) + 512 from by omega, Finset.sum_range_add, trips_eq]
      refine congrArg₂ (· + ·) (ih (Nat.lt_of_succ_lt hn)) (Finset.sum_congr rfl fun i hi => ?_)
      have hi' : i < 512 := Finset.mem_range.1 hi
      unfold preTerm
      rw [dif_pos hi', acc_last m c ⟨n + 1, hn⟩ h, iblk_2]
      show _ = tokenTerm m c d (rowAt ⟨n + 1, hn⟩ ⟨i, hi'⟩).val
      unfold tokenTerm
      rw [dif_pos (rowAt ⟨n + 1, hn⟩ ⟨i, hi'⟩).isLt]; rfl
    · rw [preAt_keep m c ⟨n + 1, hn⟩ (Nat.succ_ne_zero n) h, show (n + 1 + 1) / 7 = (n + 1) / 7 from by omega]
      exact ih (Nat.lt_of_succ_lt hn)

/-! ## The arrays after the run -/

theorem flushed_5 (t : Fin cfg0.N) : (dats m 0 c).flushed 5 t = (cfg0.win 5).cut (grid0.coords t) (dxAt m c t) := by
  show (cfg0.win 5).cut (grid0.coords t) ((dats m 0 c).after 5 t) = _
  rw [after_5]

theorem flushed_6 (t : Fin cfg0.N) : (dats m 0 c).flushed 6 t = (cfg0.win 6).cut (grid0.coords t) (preAt m c t.val t.isLt) := by
  show (cfg0.win 6).cut (grid0.coords t) ((dats m 0 c).after 6 t) = _
  rw [after_6]

/-- Every row lies in the block of one point that writes it back. -/
theorem row_cover (i : Fin 2048) : ∃ (t : Fin cfg0.N) (r : Fin 512), t.val % 7 = 6 ∧ i = rowAt t r :=
  ⟨⟨7 * (i.val / 512) + 6, by have e : cfg0.N = 28 := N_0; have := i.isLt; omega⟩, ⟨i.val % 512, by omega⟩,
    by show (7 * (i.val / 512) + 6) % 7 = 6; omega,
    Fin.ext (by show i.val = 512 * ((7 * (i.val / 512) + 6) / 7) + i.val % 512; omega)⟩

/-- The array of the input's gradient. -/
theorem final_5 : (dats m 0 c).arrAt 5 cfg0.N
    = inputGrad (V m c main_arg0) (V m c main_arg1) (V m c main_arg2) (V m c main_arg3) (V m c main_arg4) := by
  refine Pipeline.Dat.arrAt_eq_of_cover (dats m 0 c) 5 _ (fun t ht => ?_) (fun i => ?_)
  · have h6 := (flush_facts t).1.1 ht
    funext y
    obtain ⟨r, d, rfl⟩ : ∃ (r : Fin 512) (d : Fin 2048), y = ix2 r d := ⟨y 0, y 1, eq_ix2 y⟩
    have e : @Eq EReal (((cfg0.win 5).blk t).view.read (Elt Ideal) (inputGrad (V m c main_arg0) (V m c main_arg1) (V m c main_arg2) (V m c main_arg3) (V m c main_arg4)) (ix2 r d))
        (inputGrad (V m c main_arg0) (V m c main_arg1) (V m c main_arg2) (V m c main_arg3) (V m c main_arg4) (ix2 (rowAt t r) d)) :=
      congrArg (inputGrad (V m c main_arg0) (V m c main_arg1) (V m c main_arg2) (V m c main_arg3) (V m c main_arg4)) (emb_5 t r d)
    refine Eq.trans ?_ e.symm
    rw [flushed_5 m c t]
    refine (dxBlock_apply _ _ _ _ r d).trans ?_
    rw [acc_last m c t h6, iblk_2, iblk_3, iblk_4]
    rfl
  · obtain ⟨i, d, rfl⟩ : ∃ (a : Fin 2048) (d : Fin 2048), i = ix2 a d := ⟨i 0, i 1, eq_ix2 i⟩
    obtain ⟨t, r, h6, rfl⟩ := row_cover i
    exact ⟨t, (flush_facts t).1.2 h6, Eq.subst (motive := fun j => j ∈ ((cfg0.win 5).blk t).view.set) (emb_5 t r d)
      (((cfg0.win 5).blk t).view.emb_mem_set (ix2 r d))⟩

/-- The array of the scale's gradient. -/
theorem final_6 : (dats m 0 c).arrAt 6 cfg0.N = scaleGrad (V m c main_arg0) (V m c main_arg1) (V m c main_arg2) := by
  refine Pipeline.Dat.arrAt_eq_of_cover (dats m 0 c) 6 _ (fun t ht => ?_) (fun i => ?_)
  · have h27 := (flush_facts t).2.1 ht
    funext y
    obtain ⟨u, d, rfl⟩ : ∃ (u : Fin 1) (d : Fin 2048), y = ix2 u d := ⟨y 0, y 1, eq_ix2 y⟩
    obtain rfl : u = 0 := Subsingleton.elim _ _
    have e : @Eq EReal (((cfg0.win 6).blk t).view.read (Elt Ideal) (scaleGrad (V m c main_arg0) (V m c main_arg1) (V m c main_arg2)) (ix2 (0 : Fin 1) d))
        (scaleGrad (V m c main_arg0) (V m c main_arg1) (V m c main_arg2) (ix2 (0 : Fin 1) d)) :=
      congrArg (scaleGrad (V m c main_arg0) (V m c main_arg1) (V m c main_arg2)) (emb_6 t 0 d)
    refine Eq.trans ?_ e.symm
    rw [flushed_6 m c t]
    refine (pre_apply m c d t.val t.isLt).trans ?_
    rw [h27, ← Fin.sum_univ_eq_sum_range (tokenTerm m c d) 2048]
    exact Finset.sum_congr rfl fun s _ => dif_pos s.isLt
  · obtain ⟨u, d, rfl⟩ : ∃ (u : Fin 1) (d : Fin 2048), i = ix2 u d := ⟨i 0, i 1, eq_ix2 i⟩
    have e : cfg0.N = 28 := N_0
    exact ⟨⟨27, by omega⟩, (flush_facts _).2.2 rfl, Eq.subst (motive := fun j => j ∈ ((cfg0.win 6).blk _).view.set) (emb_6 ⟨27, by omega⟩ u d)
      (((cfg0.win 6).blk _).view.emb_mem_set (ix2 u d))⟩

end Cert.DxIdeal.Hand
-- ==== Proof.DxReference.lean ====
module

public import proofs.«01_k».proof.Proof.DxRow
public import proofs.«01_k».proof.Proof.Gen.DxRefIdeal.Read

/-!
The reference's gradients of the layer's input and of its norm's scale, entry by entry.
-/

@[expose] public section
set_option maxRecDepth 16384

noncomputable section
namespace Cert.DxRefIdeal.Hand
open Cert.DxRefIdeal Cert.DxRefIdeal.Gen Cert.DxRefIdeal.Read
open Idealize.ShloMosaic
open Idealize.ShloMosaic.ValueIdx Cert.DxRow

/-- Two places of an array whose coordinates agree. -/
theorem ext2 {a b : ℕ} (i j : (⟨2, ![a, b]⟩ : Shape).Idx) (h0 : (i 0).val = (j 0).val) (h1 : (i 1).val = (j 1).val) : i = j :=
  funext fun q => Fin.ext (match q with | ⟨0, _⟩ => h0 | ⟨1, _⟩ => h1)

variable (D : S2048x12544.Idx → EReal) (W : S12544x2048.Idx → EReal) (X Y : S2048x2048.Idx → EReal) (G : S1x2048.Idx → EReal)

/-- A sum that begins at the printed zero. -/
theorem zero_sum (a b : EReal) (h : a = b) : (FloatOps.ofBits (F := Ideal) .f32 0x00000000#32 : EReal) + a = b := by
  rw [h]; exact (congrArg (· + b) Ideal.ofBits_zero_f32).trans (zero_add b)

/-- The mean square of a row. -/
theorem v6_apply (s : Fin 2048) : @Eq EReal (val_main_v6 (F := Ideal) X (ix2 s (0 : Fin 1))) (meanSq (row X s)) := by
  rw [val_main_v6_apply, val_main_v4_apply, val_main_v5_apply, val_main_v3_apply, val_main_v2_apply]
  refine congrArg (· + _) (congrArg (Ideal.div · _) ((val_main_v1_apply X _).trans (zero_sum _ _ (Finset.sum_congr rfl fun k _ => ?_))))
  exact congrArg₂ (· * ·) (congrArg X (ext2 _ _ rfl rfl)) (congrArg X (ext2 _ _ rfl rfl))

/-- The inverse root. -/
theorem v7_apply (s : Fin 2048) : @Eq EReal (val_main_v7 (F := Ideal) X (ix2 s (0 : Fin 1))) (invRoot (row X s)) := by
  unfold invRoot
  rw [val_main_v7_apply, Ideal.hostUnary_rsqrt_def]
  exact congrArg Ideal.rsqrt (v6_apply X s)

/-- The cotangent that reaches the normalised input. -/
theorem v19_apply (s d : Fin 2048) : @Eq EReal (val_main_v19 (F := Ideal) D W (ix2 s d)) (cotangent D W s d) := by
  refine (val_main_v19_apply D W _).trans (Finset.sum_congr rfl fun k _ => ?_)
  rw [val_main_v18_apply, val_main_v16_apply, val_main_v15_apply]
  exact congrArg₂ (· * ·) (congrArg D (ext2 _ _ rfl rfl)) (congrArg W (ext2 _ _ rfl rfl))

/-- The scale's gradient. -/
theorem v22_eq : val_main_v22 (F := Ideal) D W X = scaleGrad D W X := by
  funext y
  obtain ⟨u, d, rfl⟩ : ∃ (u : Fin 1) (d : Fin 2048), y = ix2 u d := ⟨y 0, y 1, eq_ix2 y⟩
  rw [val_main_v22_apply]
  refine (val_main_v21_apply D W X _).trans (zero_sum _ _ (Finset.sum_congr rfl fun s _ => ?_))
  have e : idx_main_v21 (idx_main_v22 (ix2 u d)) s = ix2 s d :=
    ext2 _ _ rfl (by show u.val * 2048 + d.val = d.val; omega)
  rw [e, val_main_v20_apply, val_main_v12_apply, val_main_v11_apply]
  refine (mul_comm _ _).trans (congrArg₂ (· * ·) (v19_apply D W s d) (congrArg (row X s d * ·) ?_))
  rw [show idx_main_v11 (ix2 s d) = ix2 s (0 : Fin 1) from ext2 _ _ rfl rfl]
  exact v7_apply X s

/-- The cotangent through the scale. -/
theorem v24_apply (s d : Fin 2048) : @Eq EReal (val_main_v24 (F := Ideal) D W G (ix2 s d)) (cotangent D W s d * row G 0 d) := by
  rw [val_main_v24_apply, val_main_v23_apply]
  exact congrArg₂ (· * ·) (v19_apply D W s d) (congrArg G (ext2 _ _ rfl rfl))

/-- The derivative of the mean square along the cotangent, over the number of columns. -/
theorem v33_apply (s : Fin 2048) :
    @Eq EReal (val_main_v33 (F := Ideal) D W X G (ix2 s (0 : Fin 1))) (slope (row X s) (cotangent D W s) (row G 0)) := by
  rw [val_main_v33_apply, val_main_v32_apply, val_main_v31_apply, val_main_v27_apply, val_main_v10_apply, val_main_v9_apply, val_main_v8_apply]
  refine congrArg (Ideal.div · _) (congrArg₂ (· * ·) ((val_main_v26_apply D W X G _).trans (zero_sum _ _ (Finset.sum_congr rfl fun k _ => ?_)))
    (congrArg (_ * ·) (congrArg₂ Ideal.div (v7_apply X s) (v6_apply X s))))
  have e : idx_main_v26 (idx_main_v27 (ix2 s (0 : Fin 1))) k = ix2 s k := ext2 _ _ (by show s.val * 1 + 0 = s.val; omega) rfl
  rw [e, val_main_v25_apply]
  exact congrArg (row X s k * ·) (v24_apply D W G s k)

/-- The same, spread over a row. -/
theorem v35_apply (s d : Fin 2048) :
    @Eq EReal (val_main_v35 (F := Ideal) D W X G (ix2 s d)) (slope (row X s) (cotangent D W s) (row G 0)) := by
  rw [val_main_v35_apply]
  refine (val_main_v34_apply D W X G _).trans (zero_sum _ _ ?_)
  rw [Fin.sum_univ_one, show idx_main_v34 (idx_main_v35 (ix2 s d)) 0 = ix2 s (0 : Fin 1) from ext2 _ _ rfl rfl]
  exact v33_apply D W X G s

/-- An entry of the input's gradient. -/
theorem v39_apply (s d : Fin 2048) :
    @Eq EReal (val_main_v39 (F := Ideal) D W X Y G (ix2 s d)) (referenceRow (row X s) (cotangent D W s) (row G 0) (row Y s d) d) := by
  rw [val_main_v39_apply, val_main_v38_apply, val_main_v37_apply, val_main_v36_apply, val_main_v30_apply, val_main_v29_apply, val_main_v28_apply]
  refine congrArg₂ (· + ·) (congrArg₂ (· + ·) (congrArg (row Y s d + ·) (congrArg₂ (· * ·) (v24_apply D W G s d) ?_))
    (congrArg (row X s d * ·) (v35_apply D W X G s d))) (congrArg (· * row X s d) (v35_apply D W X G s d))
  rw [show idx_main_v28 (ix2 s d) = ix2 s (0 : Fin 1) from ext2 _ _ rfl rfl]
  exact v7_apply X s

end Cert.DxRefIdeal.Hand
-- ==== Proof.DxAlgebraic.lean ====
module

public import proofs.«01_k».proof.Defs
public import proofs.«01_k».proof.Proof.DxValue
public import proofs.«01_k».proof.Proof.DxReference
public import proofs.«01_k».proof.Proof.Algebraic
public import proofs.«01_k».proof.Proof.Gen.DxRefIdeal.Run
public import proofs.«01_k».proof.Proof.Gen.Pre_finite_dx

/-!
The gradients of the layer's input and of its norm's scale: kernel and reference compute the same over the extended reals.
-/

@[expose] public section
set_option maxRecDepth 16384

noncomputable section
namespace Cert.DxRow
open Idealize.ShloMosaic hiding ix2 ix1 eq_ix2
open Idealize.ShloMosaic.ValueIdx

/-- An entry that is a real number. -/
def IsReal (a : EReal) : Prop := a = (a.toReal : EReal)

/-- A sum of products of real numbers is a real number. -/
theorem cotangent_real (D : (⟨2, ![2048, 12544]⟩ : Shape).Idx → EReal) (W : (⟨2, ![12544, 2048]⟩ : Shape).Idx → EReal)
    (hD : ∀ i, IsReal (D i)) (hW : ∀ i, IsReal (W i)) (s d : Fin 2048) :
    cotangent D W s d = ((∑ k : Fin 12544, (D (ix2 s k)).toReal * (W (ix2 k d)).toReal : ℝ) : EReal) := by
  unfold cotangent
  rw [← Cert.Mem.coe_sum]
  refine Finset.sum_congr rfl fun k _ => ?_
  rw [EReal.coe_mul, ← hD, ← hW]

/-- The reference's array of the input's gradient is the kernel's, on real arguments; the gradient `Y` that passes by may be anything. -/
theorem reference_eq (D : (⟨2, ![2048, 12544]⟩ : Shape).Idx → EReal) (W : (⟨2, ![12544, 2048]⟩ : Shape).Idx → EReal)
    (X Y : (⟨2, ![2048, 2048]⟩ : Shape).Idx → EReal) (G : (⟨2, ![1, 2048]⟩ : Shape).Idx → EReal)
    (hD : ∀ i, IsReal (D i)) (hW : ∀ i, IsReal (W i)) (hX : ∀ i, IsReal (X i)) (hG : ∀ i, IsReal (G i)) :
    Cert.DxRefIdeal.Read.val_main_v39 (F := Idealize.ShloMosaic.Ideal) D W X Y G = inputGrad D W X Y G := by
  funext y
  obtain ⟨s, d, rfl⟩ : ∃ (s d : Fin 2048), y = ix2 s d := ⟨y 0, y 1, eq_ix2 y⟩
  refine (Cert.DxRefIdeal.Hand.v39_apply D W X Y G s d).trans ?_
  show _ = kernelRow (row X s) (cotangent D W s) (row G 0) (row Y s d) d
  rw [show row X s = fun j => ((X (ix2 s j)).toReal : EReal) from funext fun j => hX (ix2 s j),
    show row G 0 = fun j => ((G (ix2 0 j)).toReal : EReal) from funext fun j => hG (ix2 0 j),
    show cotangent D W s = _ from funext fun j => cotangent_real D W hD hW s j]
  exact (rows_eq _ _ _ _ d).symm

end Cert.DxRow

namespace Cert.DxIdeal.Run
open Cert.DxIdeal Cert.DxIdeal.Gen
open Idealize.ShloMosaic Idealize.ShloMosaic.TcCoe Idealize.SL.Sem

variable (m : (ℓ : Loc nD τ sig) → Buf (Elt Ideal) ℓ) (ρ : Dev nD → PrngReg)

/-- The run with both result arrays named and the arguments unchanged. -/
theorem run_arrays : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.DxIdeal.Run

namespace Cert.Proof
open Idealize.ShloMosaic Idealize.ShloMosaic.TcCoe Idealize.SL.Sem Cert.DxRow

/-- The gradients of the layer's input and of its norm's scale, kernel and reference. -/
theorem algebraic_dx : @Cert.algebraic_DxIdeal_DxRefIdeal_pre_finite_dx Cert.DxIdeal.Gen.facts Cert.DxRefIdeal.Gen.facts Cert.Pre_finite_dx.Gen.facts := by
  pair_intro
  · run_from Cert.DxIdeal.Run.run_arrays m g
  · refine (θ_run _ _ _).mono (fun r hr c => ?_) (Cert.DxRefIdeal.Value.run m' g')
    obtain ⟨r0, r1, ra⟩ := hr c
    obtain ⟨a0, a1, a2, a3, a4⟩ := hagree c
    have h0 := fun i => real_of_abs_lt (m ((c.tc : Thread Cert.DxIdeal.nD Cert.DxIdeal.τ).loc Cert.DxIdeal.main_arg0) i) (congrFun (hpre c).1 i)
    have h1 := fun i => real_of_abs_lt (m ((c.tc : Thread Cert.DxIdeal.nD Cert.DxIdeal.τ).loc Cert.DxIdeal.main_arg1) i) (congrFun (hpre c).2.1 i)
    have h2 := fun i => real_of_abs_lt (m ((c.tc : Thread Cert.DxIdeal.nD Cert.DxIdeal.τ).loc Cert.DxIdeal.main_arg2) i) (congrFun (hpre c).2.2.1 i)
    have h4 := fun i => real_of_abs_lt (m ((c.tc : Thread Cert.DxIdeal.nD Cert.DxIdeal.τ).loc Cert.DxIdeal.main_arg4) i) (congrFun (hpre c).2.2.2 i)
    refine ⟨r0.trans ?_, r1.trans ?_, ra⟩
    · rw [Cert.DxRefIdeal.Read.val_main_v39_eq, a0, a1, a2, a3, a4]
      exact (reference_eq _ _ _ _ _ h0 h1 h2 h4).trans (Cert.DxIdeal.Hand.final_5 m c).symm
    · rw [Cert.DxRefIdeal.Read.val_main_v22_eq, a0, a1, a2]
      exact (Cert.DxRefIdeal.Hand.v22_eq _ _ _).trans (Cert.DxIdeal.Hand.final_6 m c).symm

end Cert.Proof
-- ==== Proof.MergeKernel.lean ====
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import proofs.«01_k».proof.Proof.Products
public import proofs.«01_k».proof.Proof.Spec
public import Idealize.ShloMosaic.Lib.Pipeline.ValueKit
public import Idealize.ShloMosaic.Lib.KernelVsHost

/-!
The gradient of the gated merge of the three branches. The merged rows' cotangent is the output's cotangent times the
output projection's weight; a branch's cotangent is that times the branch's gate, and the gate's logit gets that times the
branch and times the logistic function's derivative. The grid's point `t` computes the rows `1024 (t / 8)` on and the
columns `256 (t % 8)` on of all six arrays, from one product.
-/

@[expose] public section
set_option maxRecDepth 16384

noncomputable section
namespace Cert.MergeIdeal.Hand
open Cert.MergeIdeal Cert.MergeIdeal.Gen
open Idealize.ShloMosaic hiding ix2 ix1 ix3 eq_ix2 eq_ix3
open Idealize.ShloMosaic.TcCoe Idealize.ShloMosaic.ValueIdx Idealize.SL.Sem Cert.Products

/-- The logistic function over the extended reals. -/
def gate (x : EReal) : EReal := Ideal.div 1 (1 + Ideal.exp (-x))

/-- The merged rows' cotangent. -/
def dmerged (x w : S2048x2048.Idx → EReal) (s j : Fin 2048) : EReal := ∑ k : Fin 2048, x (ix2 s k) * w (ix2 j k)

/-- The cotangent of branch `b`. -/
def dbranch (x w : S2048x2048.Idx → EReal) (g : S3x2048x2048.Idx → EReal) (b : Fin 3) (y : S2048x2048.Idx) : EReal :=
  dmerged x w (y 0) (y 1) * gate (g (ix3 b (y 0) (y 1)))

/-- The cotangent of the logits of branch `b`, whose rows are `p`. -/
def dlogit (x w p : S2048x2048.Idx → EReal) (g : S3x2048x2048.Idx → EReal) (b : Fin 3) (y : S2048x2048.Idx) : EReal :=
  dmerged x w (y 0) (y 1) * p y * gate (g (ix3 b (y 0) (y 1))) * (1 - gate (g (ix3 b (y 0) (y 1))))

theorem one_bits : Ideal.ofBits .f32 0x3F800000#32 = (1 : EReal) := Cert.Mem.ofBits_one

/-! ## One block -/

/-- The product of a block of rows and a block of columns. -/
theorem product_apply (x : Vec Ideal S1024x2048 .bf16) (w : Vec Ideal S256x2048 .bf16) (r : Fin 1024) (d : Fin 256) :
    @Eq EReal (k0_pay7 x w (ix2 r d)) (∑ k : Fin 2048, (x (ix2 r k) : EReal) * w (ix2 d k)) := by
  unfold k0_pay7
  exact entry_sum dot_S1024x2048_S256x2048_S1024x256_1_1_0_0_n_n 2048 rfl rfl x w (ix2 r d) (fun k => ix2 r k) (fun k => ix2 d k)
    (fun k => funext fun a => match a with | ⟨0, _⟩ => rfl | ⟨1, _⟩ => rfl) (fun k => funext fun a => match a with | ⟨0, _⟩ => rfl | ⟨1, _⟩ => rfl)

/-- The gate of a block of logits. -/
theorem gate_apply (g : Vec Ideal S1x1024x256 .f32) (r : Fin 1024) (d : Fin 256) :
    @Eq EReal (k0_pay8 g (ix2 r d)) (gate (g (ix3 (0 : Fin 1) r d))) := by
  have e : @Eq EReal (shapeCast S1024x256 g shapeCasts_S1x1024x256_S1024x256 (ix2 r d)) (g (ix3 (0 : Fin 1) r d)) :=
    shapeCast_apply _ _ (ix2 r d) (ix3 (0 : Fin 1) r d) (by
      rw [Shape.rowMajor_val_two, Shape.rowMajor_val_three]; show (0 * 1024 + r.val) * 256 + d.val = r.val * 256 + d.val; omega)
  unfold k0_pay8
  show Ideal.div (Ideal.ofBits .f32 0x3F800000#32) (Ideal.ofBits .f32 0x3F800000#32 + Ideal.exp (Ideal.ofBits .f32 0x00000000#32
    - (shapeCast S1024x256 g shapeCasts_S1x1024x256_S1024x256 (ix2 r d) : EReal))) = _
  rw [e, one_bits, Ideal.ofBits_zero_f32, zero_sub]
  rfl

/-- A block of the logits' cotangent. -/
theorem dlogit_block (x : Vec Ideal S1024x2048 .bf16) (w : Vec Ideal S256x2048 .bf16) (g : Vec Ideal S1x1024x256 .f32)
    (p : Vec Ideal S1024x256 .bf16) (r : Fin 1024) (d : Fin 256) :
    @Eq EReal (k0_pay9 x w g p (ix2 r d))
      ((∑ k : Fin 2048, (x (ix2 r k) : EReal) * w (ix2 d k)) * p (ix2 r d) * gate (g (ix3 (0 : Fin 1) r d)) * (1 - gate (g (ix3 (0 : Fin 1) r d)))) := by
  unfold k0_pay9
  show (k0_pay7 x w (ix2 r d) : EReal) * p (ix2 r d) * (k0_pay8 g (ix2 r d) : EReal) * (Ideal.ofBits .f32 0x3F800000#32 - (k0_pay8 g (ix2 r d) : EReal)) = _
  rw [product_apply, gate_apply, one_bits]

/-- A block of a branch's cotangent. -/
theorem dbranch_block (x : Vec Ideal S1024x2048 .bf16) (w : Vec Ideal S256x2048 .bf16) (g : Vec Ideal S1x1024x256 .f32) (r : Fin 1024) (d : Fin 256) :
    @Eq EReal (k0_pay10 x w g (ix2 r d)) ((∑ k : Fin 2048, (x (ix2 r k) : EReal) * w (ix2 d k)) * gate (g (ix3 (0 : Fin 1) r d))) := by
  unfold k0_pay10
  show (k0_pay7 x w (ix2 r d) : EReal) * (k0_pay8 g (ix2 r d) : EReal) = _
  rw [product_apply, gate_apply]

section
variable (x0 : Vec Ideal S1024x2048 .bf16) (x1 : Vec Ideal S256x2048 .bf16) (x2 x3 x4 : Vec Ideal S1024x256 .bf16) (x5 x6 x7 : Vec Ideal S1x1024x256 .f32)

/-- The three branches' blocks are one function of their own operands. -/
theorem out_8 : out0_8 x0 x1 x2 x3 x4 x5 x6 x7 = k0_pay9 x0 x1 x5 x2 := by
  unfold out0_8
  rw [View.canon_cons_unit_lit _ _ _ (by decide), View.ld_unit_lit _ _ (by decide), View.ld_unit_lit _ _ (by decide), View.ld_unit_lit _ _ (by decide), View.ld_unit_lit _ _ (by decide)]
theorem out_9 : out0_9 x0 x1 x2 x3 x4 x5 x6 x7 = k0_pay9 x0 x1 x6 x3 := by
  unfold out0_9 k0_pay13 k0_pay14 k0_pay15
  rw [View.canon_cons_unit_lit _ _ _ (by decide), View.ld_unit_lit _ _ (by decide), View.ld_unit_lit _ _ (by decide), View.ld_unit_lit _ _ (by decide), View.ld_unit_lit _ _ (by decide)]
  rfl
theorem out_10 : out0_10 x0 x1 x2 x3 x4 x5 x6 x7 = k0_pay9 x0 x1 x7 x4 := by
  unfold out0_10 k0_pay13
  rw [View.canon_cons_unit_lit _ _ _ (by decide), View.ld_unit_lit _ _ (by decide), View.ld_unit_lit _ _ (by decide), View.ld_unit_lit _ _ (by decide), View.ld_unit_lit _ _ (by decide)]
  rfl
theorem out_11 : out0_11 x0 x1 x2 x3 x4 x5 x6 x7 = k0_pay10 x0 x1 x5 := by
  unfold out0_11
  rw [View.canon_cons_unit_lit _ _ _ (by decide), View.ld_unit_lit _ _ (by decide), View.ld_unit_lit _ _ (by decide), View.ld_unit_lit _ _ (by decide)]
theorem out_12 : out0_12 x0 x1 x2 x3 x4 x5 x6 x7 = k0_pay10 x0 x1 x6 := by
  unfold out0_12 k0_pay13 k0_pay14 k0_pay15
  rw [View.canon_cons_unit_lit _ _ _ (by decide), View.ld_unit_lit _ _ (by decide), View.ld_unit_lit _ _ (by decide), View.ld_unit_lit _ _ (by decide)]
  rfl
theorem out_13 : out0_13 x0 x1 x2 x3 x4 x5 x6 x7 = k0_pay10 x0 x1 x7 := by
  unfold out0_13 k0_pay13
  rw [View.canon_cons_unit_lit _ _ _ (by decide), View.ld_unit_lit _ _ (by decide), View.ld_unit_lit _ _ (by decide), View.ld_unit_lit _ _ (by decide)]
  rfl
end

/-! ## Where the blocks lie -/

/-- The blocks the two operands of the product stage. -/
theorem operand_facts : ∀ t : Fin cfg0.N, win0_0.index t = ![t.val / 8, 0] ∧ win0_1.index t = ![t.val % 8, 0] :=
  (by decide +kernel : ∀ t : Fin grid0.N, _)

/-- The blocks the branches and the logits stage. -/
theorem tile_facts : ∀ t : Fin cfg0.N, (win0_2.index t = ![t.val / 8, t.val % 8] ∧ win0_3.index t = ![t.val / 8, t.val % 8]
    ∧ win0_4.index t = ![t.val / 8, t.val % 8]) ∧ win0_5.index t = ![0, t.val / 8, t.val % 8] ∧ win0_6.index t = ![1, t.val / 8, t.val % 8]
    ∧ win0_7.index t = ![2, t.val / 8, t.val % 8] :=
  (by decide +kernel : ∀ t : Fin grid0.N, _)

/-- The blocks the results go to. -/
theorem result_facts : ∀ t : Fin cfg0.N, win0_8.index t = ![t.val / 8, t.val % 8] ∧ win0_9.index t = ![t.val / 8, t.val % 8]
    ∧ win0_10.index t = ![t.val / 8, t.val % 8] ∧ win0_11.index t = ![t.val / 8, t.val % 8] ∧ win0_12.index t = ![t.val / 8, t.val % 8]
    ∧ win0_13.index t = ![t.val / 8, t.val % 8] :=
  (by decide +kernel : ∀ t : Fin grid0.N, _)

/-- Every point writes every result back. -/
theorem flush_facts : ∀ t : Fin cfg0.N, (cfg0.win 8).flush t = true ∧ (cfg0.win 9).flush t = true ∧ (cfg0.win 10).flush t = true
    ∧ (cfg0.win 11).flush t = true ∧ (cfg0.win 12).flush t = true ∧ (cfg0.win 13).flush t = true :=
  (by decide +kernel : ∀ t : Fin grid0.N, _)

/-- Row `r` of the block of point `t`. -/
def rowAt (t : Fin cfg0.N) (r : Fin 1024) : Fin 2048 :=
  ⟨1024 * (t.val / 8) + r.val, by have h := t.isLt; have e : cfg0.N = 16 := N_0; omega⟩

/-- Column `d` of the block of point `t`. -/
def colAt (t : Fin cfg0.N) (d : Fin 256) : Fin 2048 := ⟨256 * (t.val % 8) + d.val, by omega⟩

/-- Every entry lies in the block of one point. -/
theorem tile_cover (i j : Fin 2048) : ∃ (t : Fin cfg0.N) (r : Fin 1024) (d : Fin 256), i = rowAt t r ∧ j = colAt t d :=
  ⟨⟨i.val / 1024 * 8 + j.val / 256, by have e : cfg0.N = 16 := N_0; omega⟩, ⟨i.val % 1024, by omega⟩, ⟨j.val % 256, by omega⟩,
    Fin.ext (by show i.val = 1024 * ((i.val / 1024 * 8 + j.val / 256) / 8) + i.val % 1024; omega),
    Fin.ext (by show j.val = 256 * ((i.val / 1024 * 8 + j.val / 256) % 8) + j.val % 256; omega)⟩

/-- An entry with the coordinates of a tile's entry is that entry. -/
theorem tile_entry (t : Fin cfg0.N) (r : Fin 1024) (d : Fin 256) (y : S2048x2048.Idx) (h : (y 0).val = t.val / 8 * 1024 + r.val)
    (h' : (y 1).val = t.val % 8 * 256 + d.val) : y = ix2 (rowAt t r) (colAt t d) :=
  funext fun a => Fin.ext (match a with
    | ⟨0, _⟩ => h.trans (by show _ = 1024 * (t.val / 8) + r.val; omega)
    | ⟨1, _⟩ => h'.trans (by show _ = 256 * (t.val % 8) + d.val; omega))

/-- The same among the logits. -/
theorem logit_entry (t : Fin cfg0.N) (r : Fin 1024) (d : Fin 256) (b : Fin 3) (y : S3x2048x2048.Idx) (h0 : (y 0).val = b.val * 1 + 0)
    (h : (y 1).val = t.val / 8 * 1024 + r.val) (h' : (y 2).val = t.val % 8 * 256 + d.val) : y = ix3 b (rowAt t r) (colAt t d) :=
  funext fun a => Fin.ext (match a with
    | ⟨0, _⟩ => h0.trans (by show _ = b.val; omega)
    | ⟨1, _⟩ => h.trans (by show _ = 1024 * (t.val / 8) + r.val; omega)
    | ⟨2, _⟩ => h'.trans (by show _ = 256 * (t.val % 8) + d.val; omega))

section
variable (m : (ℓ : Loc nD τ sig) → Buf (Elt Ideal) ℓ) (c : Dev nD)

/-- The output's cotangent's block, read where the array has it. -/
theorem iblk_0 (t : Fin cfg0.N) (r : Fin 1024) (k : Fin 2048) :
    (iblk m c 0 t : Vec Ideal S1024x2048 .bf16) (ix2 r k) = V m c main_arg0 (ix2 (rowAt t r) k) := by
  refine congrArg (V m c main_arg0) (funext fun a => Fin.ext ?_)
  have h := (operand_facts t).1
  match a with
  | ⟨0, _⟩ => exact (Pipeline.Window.rect_emb_val win0_0 t (ix2 r k) 0).trans (by rw [h]; show t.val / 8 * 1024 + r.val = 1024 * (t.val / 8) + r.val; omega)
  | ⟨1, _⟩ => exact (Pipeline.Window.rect_emb_val win0_0 t (ix2 r k) 1).trans (by rw [h]; show 0 * 2048 + k.val = k.val; omega)

/-- The weight's block, read where the array has it. -/
theorem iblk_1 (t : Fin cfg0.N) (d : Fin 256) (k : Fin 2048) :
    (iblk m c 1 t : Vec Ideal S256x2048 .bf16) (ix2 d k) = V m c main_arg1 (ix2 (colAt t d) k) := by
  refine congrArg (V m c main_arg1) (funext fun a => Fin.ext ?_)
  have h := (operand_facts t).2
  match a with
  | ⟨0, _⟩ => exact (Pipeline.Window.rect_emb_val win0_1 t (ix2 d k) 0).trans (by rw [h]; show t.val % 8 * 256 + d.val = 256 * (t.val % 8) + d.val; omega)
  | ⟨1, _⟩ => exact (Pipeline.Window.rect_emb_val win0_1 t (ix2 d k) 1).trans (by rw [h]; show 0 * 2048 + k.val = k.val; omega)

/-- The branches' blocks, read where their arrays have them. -/
theorem iblk_2 (t : Fin cfg0.N) (r : Fin 1024) (d : Fin 256) :
    (iblk m c 2 t : Vec Ideal S1024x256 .bf16) (ix2 r d) = V m c main_arg2 (ix2 (rowAt t r) (colAt t d)) :=
  congrArg (V m c main_arg2) (tile_entry t r d _
    ((Pipeline.Window.rect_emb_val win0_2 t (ix2 r d) 0).trans (by rw [(tile_facts t).1.1]; rfl)) ((Pipeline.Window.rect_emb_val win0_2 t (ix2 r d) 1).trans (by rw [(tile_facts t).1.1]; rfl)))

theorem iblk_3 (t : Fin cfg0.N) (r : Fin 1024) (d : Fin 256) :
    (iblk m c 3 t : Vec Ideal S1024x256 .bf16) (ix2 r d) = V m c main_arg3 (ix2 (rowAt t r) (colAt t d)) :=
  congrArg (V m c main_arg3) (tile_entry t r d _
    ((Pipeline.Window.rect_emb_val win0_3 t (ix2 r d) 0).trans (by rw [(tile_facts t).1.2.1]; rfl)) ((Pipeline.Window.rect_emb_val win0_3 t (ix2 r d) 1).trans (by rw [(tile_facts t).1.2.1]; rfl)))

theorem iblk_4 (t : Fin cfg0.N) (r : Fin 1024) (d : Fin 256) :
    (iblk m c 4 t : Vec Ideal S1024x256 .bf16) (ix2 r d) = V m c main_arg4 (ix2 (rowAt t r) (colAt t d)) :=
  congrArg (V m c main_arg4) (tile_entry t r d _
    ((Pipeline.Window.rect_emb_val win0_4 t (ix2 r d) 0).trans (by rw [(tile_facts t).1.2.2]; rfl)) ((Pipeline.Window.rect_emb_val win0_4 t (ix2 r d) 1).trans (by rw [(tile_facts t).1.2.2]; rfl)))

/-- The logits' blocks, read where the stacked array has them. -/
theorem iblk_5 (t : Fin cfg0.N) (r : Fin 1024) (d : Fin 256) :
    (iblk m c 5 t : Vec Ideal S1x1024x256 .f32) (ix3 (0 : Fin 1) r d) = V m c main_arg5 (ix3 (0 : Fin 3) (rowAt t r) (colAt t d)) :=
  congrArg (V m c main_arg5) (logit_entry t r d 0 _ ((Pipeline.Window.rect_emb_val win0_5 t (ix3 (0 : Fin 1) r d) 0).trans (by rw [(tile_facts t).2.1]; rfl))
    ((Pipeline.Window.rect_emb_val win0_5 t (ix3 (0 : Fin 1) r d) 1).trans (by rw [(tile_facts t).2.1]; rfl)) ((Pipeline.Window.rect_emb_val win0_5 t (ix3 (0 : Fin 1) r d) 2).trans (by rw [(tile_facts t).2.1]; rfl)))

theorem iblk_6 (t : Fin cfg0.N) (r : Fin 1024) (d : Fin 256) :
    (iblk m c 6 t : Vec Ideal S1x1024x256 .f32) (ix3 (0 : Fin 1) r d) = V m c main_arg5 (ix3 (1 : Fin 3) (rowAt t r) (colAt t d)) :=
  congrArg (V m c main_arg5) (logit_entry t r d 1 _ ((Pipeline.Window.rect_emb_val win0_6 t (ix3 (0 : Fin 1) r d) 0).trans (by rw [(tile_facts t).2.2.1]; rfl))
    ((Pipeline.Window.rect_emb_val win0_6 t (ix3 (0 : Fin 1) r d) 1).trans (by rw [(tile_facts t).2.2.1]; rfl)) ((Pipeline.Window.rect_emb_val win0_6 t (ix3 (0 : Fin 1) r d) 2).trans (by rw [(tile_facts t).2.2.1]; rfl)))

theorem iblk_7 (t : Fin cfg0.N) (r : Fin 1024) (d : Fin 256) :
    (iblk m c 7 t : Vec Ideal S1x1024x256 .f32) (ix3 (0 : Fin 1) r d) = V m c main_arg5 (ix3 (2 : Fin 3) (rowAt t r) (colAt t d)) :=
  congrArg (V m c main_arg5) (logit_entry t r d 2 _ ((Pipeline.Window.rect_emb_val win0_7 t (ix3 (0 : Fin 1) r d) 0).trans (by rw [(tile_facts t).2.2.2]; rfl))
    ((Pipeline.Window.rect_emb_val win0_7 t (ix3 (0 : Fin 1) r d) 1).trans (by rw [(tile_facts t).2.2.2]; rfl)) ((Pipeline.Window.rect_emb_val win0_7 t (ix3 (0 : Fin 1) r d) 2).trans (by rw [(tile_facts t).2.2.2]; rfl)))

/-- Where a point's results lie in their arrays. -/
theorem emb_8 (t : Fin cfg0.N) (r : Fin 1024) (d : Fin 256) :
    (((cfg0.win 8).blk t).view.emb (ix2 r d) : S2048x2048.Idx) = ix2 (rowAt t r) (colAt t d) :=
  tile_entry t r d _ ((Pipeline.Window.rect_emb_val win0_8 t (ix2 r d) 0).trans (by rw [(result_facts t).1]; rfl))
    ((Pipeline.Window.rect_emb_val win0_8 t (ix2 r d) 1).trans (by rw [(result_facts t).1]; rfl))

theorem emb_9 (t : Fin cfg0.N) (r : Fin 1024) (d : Fin 256) :
    (((cfg0.win 9).blk t).view.emb (ix2 r d) : S2048x2048.Idx) = ix2 (rowAt t r) (colAt t d) :=
  tile_entry t r d _ ((Pipeline.Window.rect_emb_val win0_9 t (ix2 r d) 0).trans (by rw [(result_facts t).2.1]; rfl))
    ((Pipeline.Window.rect_emb_val win0_9 t (ix2 r d) 1).trans (by rw [(result_facts t).2.1]; rfl))

theorem emb_10 (t : Fin cfg0.N) (r : Fin 1024) (d : Fin 256) :
    (((cfg0.win 10).blk t).view.emb (ix2 r d) : S2048x2048.Idx) = ix2 (rowAt t r) (colAt t d) :=
  tile_entry t r d _ ((Pipeline.Window.rect_emb_val win0_10 t (ix2 r d) 0).trans (by rw [(result_facts t).2.2.1]; rfl))
    ((Pipeline.Window.rect_emb_val win0_10 t (ix2 r d) 1).trans (by rw [(result_facts t).2.2.1]; rfl))

theorem emb_11 (t : Fin cfg0.N) (r : Fin 1024) (d : Fin 256) :
    (((cfg0.win 11).blk t).view.emb (ix2 r d) : S2048x2048.Idx) = ix2 (rowAt t r) (colAt t d) :=
  tile_entry t r d _ ((Pipeline.Window.rect_emb_val win0_11 t (ix2 r d) 0).trans (by rw [(result_facts t).2.2.2.1]; rfl))
    ((Pipeline.Window.rect_emb_val win0_11 t (ix2 r d) 1).trans (by rw [(result_facts t).2.2.2.1]; rfl))

theorem emb_12 (t : Fin cfg0.N) (r : Fin 1024) (d : Fin 256) :
    (((cfg0.win 12).blk t).view.emb (ix2 r d) : S2048x2048.Idx) = ix2 (rowAt t r) (colAt t d) :=
  tile_entry t r d _ ((Pipeline.Window.rect_emb_val win0_12 t (ix2 r d) 0).trans (by rw [(result_facts t).2.2.2.2.1]; rfl))
    ((Pipeline.Window.rect_emb_val win0_12 t (ix2 r d) 1).trans (by rw [(result_facts t).2.2.2.2.1]; rfl))

theorem emb_13 (t : Fin cfg0.N) (r : Fin 1024) (d : Fin 256) :
    (((cfg0.win 13).blk t).view.emb (ix2 r d) : S2048x2048.Idx) = ix2 (rowAt t r) (colAt t d) :=
  tile_entry t r d _ ((Pipeline.Window.rect_emb_val win0_13 t (ix2 r d) 0).trans (by rw [(result_facts t).2.2.2.2.2]; rfl))
    ((Pipeline.Window.rect_emb_val win0_13 t (ix2 r d) 1).trans (by rw [(result_facts t).2.2.2.2.2]; rfl))

/-- A point's block of a branch's cotangent is that block of the whole. -/
theorem dbranch_at {b : Fin 3} {g : Vec Ideal S1x1024x256 .f32} (t : Fin cfg0.N) (r : Fin 1024) (d : Fin 256)
    (hg : g (ix3 (0 : Fin 1) r d) = V m c main_arg5 (ix3 b (rowAt t r) (colAt t d))) :
    @Eq EReal (k0_pay10 (iblk m c 0 t) (iblk m c 1 t) g (ix2 r d))
      (dbranch (V m c main_arg0) (V m c main_arg1) (V m c main_arg5) b (ix2 (rowAt t r) (colAt t d))) := by
  refine (dbranch_block _ _ g r d).trans (congrArg₂ (· * ·) (Finset.sum_congr rfl fun k _ => ?_) (congrArg gate hg))
  rw [iblk_0, iblk_1]

/-- A point's block of a logit's cotangent is that block of the whole. -/
theorem dlogit_at {b : Fin 3} {g : Vec Ideal S1x1024x256 .f32} {p : Vec Ideal S1024x256 .bf16} {P : S2048x2048.Idx → EReal} (t : Fin cfg0.N) (r : Fin 1024) (d : Fin 256)
    (hg : g (ix3 (0 : Fin 1) r d) = V m c main_arg5 (ix3 b (rowAt t r) (colAt t d))) (hp : @Eq EReal (p (ix2 r d)) (P (ix2 (rowAt t r) (colAt t d)))) :
    @Eq EReal (k0_pay9 (iblk m c 0 t) (iblk m c 1 t) g p (ix2 r d))
      (dlogit (V m c main_arg0) (V m c main_arg1) P (V m c main_arg5) b (ix2 (rowAt t r) (colAt t d))) := by
  refine (dlogit_block _ _ g p r d).trans ?_
  rw [hg, hp]
  refine congrArg (· * _ * _ * _) (Finset.sum_congr rfl fun k _ => ?_)
  rw [iblk_0, iblk_1]

/-- The six arrays after the run. -/
theorem final_8 : (dats m 0 c).arrAt 8 cfg0.N = dlogit (V m c main_arg0) (V m c main_arg1) (V m c main_arg2) (V m c main_arg5) 0 := by
  refine Pipeline.Dat.arrAt_eq_of_cover (dats m 0 c) 8 _ (fun t _ => ?_) (fun i => ?_)
  · funext y
    obtain ⟨r, d, rfl⟩ : ∃ (r : Fin 1024) (d : Fin 256), y = ix2 r d := ⟨y 0, y 1, eq_ix2 y⟩
    refine Eq.trans ?_ (congrArg (dlogit (V m c main_arg0) (V m c main_arg1) (V m c main_arg2) (V m c main_arg5) 0) (emb_8 t r d)).symm
    rw [Value.flushed8 m c t, out_8]
    exact dlogit_at m c t r d (iblk_5 m c t r d) (iblk_2 m c t r d)
  · obtain ⟨i, j, rfl⟩ : ∃ i j : Fin 2048, _ = ix2 i j := ⟨i 0, i 1, eq_ix2 i⟩
    obtain ⟨t, r, d, rfl, rfl⟩ := tile_cover i j
    exact ⟨t, (flush_facts t).1, Eq.subst (motive := fun j => j ∈ ((cfg0.win 8).blk t).view.set) (emb_8 t r d)
      (((cfg0.win 8).blk t).view.emb_mem_set (ix2 r d))⟩

theorem final_9 : (dats m 0 c).arrAt 9 cfg0.N = dlogit (V m c main_arg0) (V m c main_arg1) (V m c main_arg3) (V m c main_arg5) 1 := by
  refine Pipeline.Dat.arrAt_eq_of_cover (dats m 0 c) 9 _ (fun t _ => ?_) (fun i => ?_)
  · funext y
    obtain ⟨r, d, rfl⟩ : ∃ (r : Fin 1024) (d : Fin 256), y = ix2 r d := ⟨y 0, y 1, eq_ix2 y⟩
    refine Eq.trans ?_ (congrArg (dlogit (V m c main_arg0) (V m c main_arg1) (V m c main_arg3) (V m c main_arg5) 1) (emb_9 t r d)).symm
    rw [Value.flushed9 m c t, out_9]
    exact dlogit_at m c t r d (iblk_6 m c t r d) (iblk_3 m c t r d)
  · obtain ⟨i, j, rfl⟩ : ∃ i j : Fin 2048, _ = ix2 i j := ⟨i 0, i 1, eq_ix2 i⟩
    obtain ⟨t, r, d, rfl, rfl⟩ := tile_cover i j
    exact ⟨t, (flush_facts t).2.1, Eq.subst (motive := fun j => j ∈ ((cfg0.win 9).blk t).view.set) (emb_9 t r d)
      (((cfg0.win 9).blk t).view.emb_mem_set (ix2 r d))⟩

theorem final_10 : (dats m 0 c).arrAt 10 cfg0.N = dlogit (V m c main_arg0) (V m c main_arg1) (V m c main_arg4) (V m c main_arg5) 2 := by
  refine Pipeline.Dat.arrAt_eq_of_cover (dats m 0 c) 10 _ (fun t _ => ?_) (fun i => ?_)
  · funext y
    obtain ⟨r, d, rfl⟩ : ∃ (r : Fin 1024) (d : Fin 256), y = ix2 r d := ⟨y 0, y 1, eq_ix2 y⟩
    refine Eq.trans ?_ (congrArg (dlogit (V m c main_arg0) (V m c main_arg1) (V m c main_arg4) (V m c main_arg5) 2) (emb_10 t r d)).symm
    rw [Value.flushed10 m c t, out_10]
    exact dlogit_at m c t r d (iblk_7 m c t r d) (iblk_4 m c t r d)
  · obtain ⟨i, j, rfl⟩ : ∃ i j : Fin 2048, _ = ix2 i j := ⟨i 0, i 1, eq_ix2 i⟩
    obtain ⟨t, r, d, rfl, rfl⟩ := tile_cover i j
    exact ⟨t, (flush_facts t).2.2.1, Eq.subst (motive := fun j => j ∈ ((cfg0.win 10).blk t).view.set) (emb_10 t r d)
      (((cfg0.win 10).blk t).view.emb_mem_set (ix2 r d))⟩

theorem final_11 : (dats m 0 c).arrAt 11 cfg0.N = dbranch (V m c main_arg0) (V m c main_arg1) (V m c main_arg5) 0 := by
  refine Pipeline.Dat.arrAt_eq_of_cover (dats m 0 c) 11 _ (fun t _ => ?_) (fun i => ?_)
  · funext y
    obtain ⟨r, d, rfl⟩ : ∃ (r : Fin 1024) (d : Fin 256), y = ix2 r d := ⟨y 0, y 1, eq_ix2 y⟩
    refine Eq.trans ?_ (congrArg (dbranch (V m c main_arg0) (V m c main_arg1) (V m c main_arg5) 0) (emb_11 t r d)).symm
    rw [Value.flushed11 m c t, out_11]
    exact dbranch_at m c t r d (iblk_5 m c t r d)
  · obtain ⟨i, j, rfl⟩ : ∃ i j : Fin 2048, _ = ix2 i j := ⟨i 0, i 1, eq_ix2 i⟩
    obtain ⟨t, r, d, rfl, rfl⟩ := tile_cover i j
    exact ⟨t, (flush_facts t).2.2.2.1, Eq.subst (motive := fun j => j ∈ ((cfg0.win 11).blk t).view.set) (emb_11 t r d)
      (((cfg0.win 11).blk t).view.emb_mem_set (ix2 r d))⟩

theorem final_12 : (dats m 0 c).arrAt 12 cfg0.N = dbranch (V m c main_arg0) (V m c main_arg1) (V m c main_arg5) 1 := by
  refine Pipeline.Dat.arrAt_eq_of_cover (dats m 0 c) 12 _ (fun t _ => ?_) (fun i => ?_)
  · funext y
    obtain ⟨r, d, rfl⟩ : ∃ (r : Fin 1024) (d : Fin 256), y = ix2 r d := ⟨y 0, y 1, eq_ix2 y⟩
    refine Eq.trans ?_ (congrArg (dbranch (V m c main_arg0) (V m c main_arg1) (V m c main_arg5) 1) (emb_12 t r d)).symm
    rw [Value.flushed12 m c t, out_12]
    exact dbranch_at m c t r d (iblk_6 m c t r d)
  · obtain ⟨i, j, rfl⟩ : ∃ i j : Fin 2048, _ = ix2 i j := ⟨i 0, i 1, eq_ix2 i⟩
    obtain ⟨t, r, d, rfl, rfl⟩ := tile_cover i j
    exact ⟨t, (flush_facts t).2.2.2.2.1, Eq.subst (motive := fun j => j ∈ ((cfg0.win 12).blk t).view.set) (emb_12 t r d)
      (((cfg0.win 12).blk t).view.emb_mem_set (ix2 r d))⟩

theorem final_13 : (dats m 0 c).arrAt 13 cfg0.N = dbranch (V m c main_arg0) (V m c main_arg1) (V m c main_arg5) 2 := by
  refine Pipeline.Dat.arrAt_eq_of_cover (dats m 0 c) 13 _ (fun t _ => ?_) (fun i => ?_)
  · funext y
    obtain ⟨r, d, rfl⟩ : ∃ (r : Fin 1024) (d : Fin 256), y = ix2 r d := ⟨y 0, y 1, eq_ix2 y⟩
    refine Eq.trans ?_ (congrArg (dbranch (V m c main_arg0) (V m c main_arg1) (V m c main_arg5) 2) (emb_13 t r d)).symm
    rw [Value.flushed13 m c t, out_13]
    exact dbranch_at m c t r d (iblk_7 m c t r d)
  · obtain ⟨i, j, rfl⟩ : ∃ i j : Fin 2048, _ = ix2 i j := ⟨i 0, i 1, eq_ix2 i⟩
    obtain ⟨t, r, d, rfl, rfl⟩ := tile_cover i j
    exact ⟨t, (flush_facts t).2.2.2.2.2, Eq.subst (motive := fun j => j ∈ ((cfg0.win 13).blk t).view.set) (emb_13 t r d)
      (((cfg0.win 13).blk t).view.emb_mem_set (ix2 r d))⟩

end
end Cert.MergeIdeal.Hand
-- ==== Proof.MergeReference.lean ====
module

public import proofs.«01_k».proof.Proof.MergeKernel

/-!
The reference's gradient of the gated merge, entry by entry: the six arrays of the module on the kernel.
-/

@[expose] public section
set_option maxRecDepth 16384

noncomputable section
namespace Cert.MergeIdeal.Hand
open Cert.MergeRefIdeal Cert.MergeRefIdeal.Read Cert.MergeRefIdeal.Gen
open Idealize.ShloMosaic hiding ix2 ix1 ix3 eq_ix2 eq_ix3
open Idealize.ShloMosaic.TcCoe Idealize.ShloMosaic.ValueIdx Idealize.SL.Sem

variable (x w p0 p1 p2 : S2048x2048.Idx → EReal) (g : S3x2048x2048.Idx → EReal)

/-- The gates. -/
theorem v9_apply (y : S3x2048x2048.Idx) : @Eq EReal (val_main_v9 (F := Ideal) g y) (gate (g y)) := by
  show Ideal.div (Ideal.ofBits .f32 0x3F800000#32) (Ideal.ofBits .f32 0x3F800000#32 + Ideal.exp (-(g y))) = _
  rw [one_bits]
  rfl

/-- The logistic function's derivative at the logits. -/
theorem v12_apply (y : S3x2048x2048.Idx) : @Eq EReal (val_main_v12 (F := Ideal) g y) (gate (g y) * (1 - gate (g y))) := by
  show (val_main_v9 (F := Ideal) g y : EReal) * (Ideal.ofBits .f32 0x3F800000#32 - (val_main_v9 (F := Ideal) g y : EReal)) = _
  rw [v9_apply, one_bits]

/-- The merged rows' cotangent. -/
theorem v26_apply (s j : Fin 2048) : @Eq EReal (val_main_v26 (F := Ideal) x w (ix2 s j)) (dmerged x w s j) :=
  (val_main_v26_apply x w _).trans (Finset.sum_congr rfl fun k _ =>
    congrArg₂ (· * ·) (congrArg x (funext fun a => match a with | ⟨0, _⟩ => rfl | ⟨1, _⟩ => rfl)) (congrArg w (funext fun a => match a with | ⟨0, _⟩ => rfl | ⟨1, _⟩ => rfl)))

/-- A slab of three, read at an entry. -/
theorem slab {b : Fin 3} (s j : Fin 2048) (y : S3x2048x2048.Idx) (h0 : (y 0).val = b.val)
    (h : (y 1).val = (s.val * 2048 + j.val) / 2048 % 2048) (h' : (y 2).val = (s.val * 2048 + j.val) % 2048) : y = ix3 b s j :=
  funext fun a => Fin.ext (match a with
    | ⟨0, _⟩ => h0
    | ⟨1, _⟩ => h.trans (by show _ = s.val; omega)
    | ⟨2, _⟩ => h'.trans (by show _ = j.val; omega))

/-- A branch's product with the cotangent, put into its slab of the three, others zero. -/
theorem pad_apply (lo hi : Fin 3 → ℕ) (P : FVec Ideal S1x2048x2048 .f32) (z : FVec Ideal S_ .f32) (hp : S1x2048x2048.Pads lo hi ![0, 0, 0] S3x2048x2048) (b : Fin 3)
    (hlo : lo = ![b.val, 0, 0]) (hz : ∀ i, @Eq EReal (z i) 0) (b' : Fin 3) (s j : Fin 2048) :
    @Eq EReal (pad S3x2048x2048 lo hi ![0, 0, 0] P z hp h_S_ (ix3 b' s j)) (if b' = b then P (ix3 (0 : Fin 1) s j) else 0) := by
  subst hlo
  split
  · rename_i e
    subst e
    refine pad_apply_of_inside _ _ _ P z hp h_S_ _ (ix3 (0 : Fin 1) s j) fun a => ?_
    match a with
    | ⟨0, _⟩ => rfl
    | ⟨1, _⟩ => show s.val = 0 + s.val * (0 + 1); omega
    | ⟨2, _⟩ => show j.val = 0 + j.val * (0 + 1); omega
  · rename_i e
    refine (pad_apply_of_not_inside _ _ _ P z hp h_S_ _ 0 ?_).trans (hz _)
    rintro ⟨h1, _, h3⟩
    change b.val ≤ b'.val at h1
    change (b'.val - b.val) / (0 + 1) < 1 at h3
    exact e (Fin.ext (by omega))

/-- A branch's product with the merged rows' cotangent. -/
theorem v28_apply (s j : Fin 2048) : @Eq EReal (val_main_v29 (F := Ideal) x w p2 (ix3 (0 : Fin 1) s j)) (dmerged x w s j * p2 (ix2 s j)) := by
  refine (val_main_v29_apply (F := Ideal) x w p2 _).trans ?_
  rw [show idx_main_v29 (ix3 (0 : Fin 1) s j) = ix2 s j from funext fun a => match a with | ⟨0, _⟩ => rfl | ⟨1, _⟩ => rfl]
  show (val_main_v26 (F := Ideal) x w (ix2 s j) : EReal) * p2 (ix2 s j) = _
  rw [v26_apply]
theorem v32_apply (s j : Fin 2048) : @Eq EReal (val_main_v33 (F := Ideal) x w p1 (ix3 (0 : Fin 1) s j)) (dmerged x w s j * p1 (ix2 s j)) := v28_apply x w p1 s j
theorem v37_apply (s j : Fin 2048) : @Eq EReal (val_main_v38 (F := Ideal) x w p0 (ix3 (0 : Fin 1) s j)) (dmerged x w s j * p0 (ix2 s j)) := v28_apply x w p0 s j

/-- The stacked cotangents of the gates. -/
theorem v40_apply (b : Fin 3) (s j : Fin 2048) :
    @Eq EReal (val_main_v40 (F := Ideal) x w p0 p1 p2 (ix3 b s j)) (dmerged x w s j * (![p0, p1, p2] b) (ix2 s j)) := by
  have h2 := pad_apply _ _ (val_main_v29 (F := Ideal) x w p2) _ pads_S1x2048x2048_S3x2048x2048_200_000_000 2 rfl (fun _ => Ideal.ofBits_zero_f32) b s j
  have h1 := pad_apply _ _ (val_main_v33 (F := Ideal) x w p1) _ pads_S1x2048x2048_S3x2048x2048_110_000_000 1 rfl (fun _ => Ideal.ofBits_zero_f32) b s j
  have h0 := pad_apply _ _ (val_main_v38 (F := Ideal) x w p0) _ pads_S1x2048x2048_S3x2048x2048_020_000_000 0 rfl (fun _ => Ideal.ofBits_zero_f32) b s j
  show ((val_main_v30 (F := Ideal) x w p2 (ix3 b s j) : EReal) + (val_main_v34 (F := Ideal) x w p1 (ix3 b s j) : EReal)) + (val_main_v39 (F := Ideal) x w p0 (ix3 b s j) : EReal) = _
  refine (congrArg₂ (· + ·) (congrArg₂ (· + ·) h2 h1) h0).trans ?_
  rw [v28_apply, v32_apply, v37_apply]
  match b with
  | 0 => rw [if_neg (by decide), if_neg (by decide), if_pos rfl]; exact (congrArg (· + _) (add_zero (0 : EReal))).trans (zero_add _)
  | 1 => rw [if_neg (by decide), if_pos rfl, if_neg (by decide)]; exact (add_zero _).trans (zero_add _)
  | 2 => rw [if_pos rfl, if_neg (by decide), if_neg (by decide)]; exact (add_zero _).trans (add_zero _)

/-- The stacked cotangents of the logits. -/
theorem v42_apply (b : Fin 3) (s j : Fin 2048) :
    @Eq EReal (val_main_v42 (F := Ideal) x w p0 p1 p2 g (ix3 b s j)) (dlogit x w (![p0, p1, p2] b) g b (ix2 s j)) := by
  show (val_main_v40 (F := Ideal) x w p0 p1 p2 (ix3 b s j) : EReal) * (val_main_v12 (F := Ideal) g (ix3 b s j) : EReal) = _
  rw [v40_apply, v12_apply]
  exact (mul_assoc _ _ _).symm

/-- The reference's six results. -/
theorem reference_8 : val_main_v44 (F := Ideal) x w p0 p1 p2 g = dlogit x w p0 g 0 := by
  funext y
  obtain ⟨s, j, rfl⟩ : ∃ s j : Fin 2048, y = ix2 s j := ⟨y 0, y 1, eq_ix2 y⟩
  exact ((val_main_v44_apply (F := Ideal) x w p0 p1 p2 g _).trans (val_main_v43_apply (F := Ideal) x w p0 p1 p2 g _)).trans
    ((congrArg (val_main_v42 (F := Ideal) x w p0 p1 p2 g) (slab (b := 0) s j _ rfl rfl rfl)).trans (v42_apply x w p0 p1 p2 g 0 s j))
theorem reference_9 : val_main_v46 (F := Ideal) x w p0 p1 p2 g = dlogit x w p1 g 1 := by
  funext y
  obtain ⟨s, j, rfl⟩ : ∃ s j : Fin 2048, y = ix2 s j := ⟨y 0, y 1, eq_ix2 y⟩
  exact ((val_main_v46_apply (F := Ideal) x w p0 p1 p2 g _).trans (val_main_v45_apply (F := Ideal) x w p0 p1 p2 g _)).trans
    ((congrArg (val_main_v42 (F := Ideal) x w p0 p1 p2 g) (slab (b := 1) s j _ rfl rfl rfl)).trans (v42_apply x w p0 p1 p2 g 1 s j))
theorem reference_10 : val_main_v48 (F := Ideal) x w p0 p1 p2 g = dlogit x w p2 g 2 := by
  funext y
  obtain ⟨s, j, rfl⟩ : ∃ s j : Fin 2048, y = ix2 s j := ⟨y 0, y 1, eq_ix2 y⟩
  exact ((val_main_v48_apply (F := Ideal) x w p0 p1 p2 g _).trans (val_main_v47_apply (F := Ideal) x w p0 p1 p2 g _)).trans
    ((congrArg (val_main_v42 (F := Ideal) x w p0 p1 p2 g) (slab (b := 2) s j _ rfl rfl rfl)).trans (v42_apply x w p0 p1 p2 g 2 s j))
theorem reference_11 : val_main_v49 (F := Ideal) x w g = dbranch x w g 0 := by
  funext y
  obtain ⟨s, j, rfl⟩ : ∃ s j : Fin 2048, y = ix2 s j := ⟨y 0, y 1, eq_ix2 y⟩
  show (val_main_v14 (F := Ideal) g (ix2 s j) : EReal) * (val_main_v26 (F := Ideal) x w (ix2 s j) : EReal) = _
  refine (congrArg₂ (· * ·) (((val_main_v14_apply (F := Ideal) g _).trans (val_main_v13_apply (F := Ideal) g _)).trans
    ((congrArg (val_main_v9 (F := Ideal) g) (slab (b := 0) s j _ rfl rfl rfl)).trans (v9_apply g _))) (v26_apply x w s j)).trans ?_
  exact mul_comm _ _
theorem reference_12 : val_main_v50 (F := Ideal) x w g = dbranch x w g 1 := by
  funext y
  obtain ⟨s, j, rfl⟩ : ∃ s j : Fin 2048, y = ix2 s j := ⟨y 0, y 1, eq_ix2 y⟩
  show (val_main_v17 (F := Ideal) g (ix2 s j) : EReal) * (val_main_v26 (F := Ideal) x w (ix2 s j) : EReal) = _
  refine (congrArg₂ (· * ·) (((val_main_v17_apply (F := Ideal) g _).trans (val_main_v16_apply (F := Ideal) g _)).trans
    ((congrArg (val_main_v9 (F := Ideal) g) (slab (b := 1) s j _ rfl rfl rfl)).trans (v9_apply g _))) (v26_apply x w s j)).trans ?_
  exact mul_comm _ _
theorem reference_13 : val_main_v51 (F := Ideal) x w g = dbranch x w g 2 := by
  funext y
  obtain ⟨s, j, rfl⟩ : ∃ s j : Fin 2048, y = ix2 s j := ⟨y 0, y 1, eq_ix2 y⟩
  show (val_main_v21 (F := Ideal) g (ix2 s j) : EReal) * (val_main_v26 (F := Ideal) x w (ix2 s j) : EReal) = _
  refine (congrArg₂ (· * ·) (((val_main_v21_apply (F := Ideal) g _).trans (val_main_v20_apply (F := Ideal) g _)).trans
    ((congrArg (val_main_v9 (F := Ideal) g) (slab (b := 2) s j _ rfl rfl rfl)).trans (v9_apply g _))) (v26_apply x w s j)).trans ?_
  exact mul_comm _ _

end Cert.MergeIdeal.Hand

namespace Cert.Proof
open Idealize.ShloMosaic Idealize.ShloMosaic.TcCoe Idealize.SL.Sem

/-- The gated merge's gradient, kernel and reference. -/
theorem algebraic_merge : @Cert.algebraic_MergeIdeal_MergeRefIdeal Cert.MergeIdeal.Gen.facts Cert.MergeRefIdeal.Gen.facts := by
  pair_intro
  · run_from Cert.MergeIdeal.Value.run_blocks m g
  · refine (θ_run _ _ _).mono (fun r hr c => ?_) (Cert.MergeRefIdeal.Value.run m' g')
    obtain ⟨r0, r1, r2, r3, r4, r5, ra⟩ := hr c
    obtain ⟨a0, a1, a2, a3, a4, a5⟩ := hagree c
    refine ⟨r0.trans ?_, r1.trans ?_, r2.trans ?_, r3.trans ?_, r4.trans ?_, r5.trans ?_, ra⟩
    · rw [Cert.MergeRefIdeal.Read.val_main_v44_eq, a0, a1, a2, a3, a4, a5]
      exact (Cert.MergeIdeal.Hand.reference_8 _ _ _ _ _ _).trans (Cert.MergeIdeal.Hand.final_8 m c).symm
    · rw [Cert.MergeRefIdeal.Read.val_main_v46_eq, a0, a1, a2, a3, a4, a5]
      exact (Cert.MergeIdeal.Hand.reference_9 _ _ _ _ _ _).trans (Cert.MergeIdeal.Hand.final_9 m c).symm
    · rw [Cert.MergeRefIdeal.Read.val_main_v48_eq, a0, a1, a2, a3, a4, a5]
      exact (Cert.MergeIdeal.Hand.reference_10 _ _ _ _ _ _).trans (Cert.MergeIdeal.Hand.final_10 m c).symm
    · rw [Cert.MergeRefIdeal.Read.val_main_v49_eq, a0, a1, a5]
      exact (Cert.MergeIdeal.Hand.reference_11 _ _ _).trans (Cert.MergeIdeal.Hand.final_11 m c).symm
    · rw [Cert.MergeRefIdeal.Read.val_main_v50_eq, a0, a1, a5]
      exact (Cert.MergeIdeal.Hand.reference_12 _ _ _).trans (Cert.MergeIdeal.Hand.final_12 m c).symm
    · rw [Cert.MergeRefIdeal.Read.val_main_v51_eq, a0, a1, a5]
      exact (Cert.MergeIdeal.Hand.reference_13 _ _ _).trans (Cert.MergeIdeal.Hand.final_13 m c).symm

end Cert.Proof
-- ==== Proof.MergeForward.lean ====
module

public import proofs.«01_k».proof.Defs
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Products
public import proofs.«01_k».proof.Proof.Spec
public import Idealize.ShloMosaic.Lib.Pipeline.ValueKit
public import Idealize.ShloMosaic.Lib.KernelVsHost

/-!
The branches' projections and their gated sum. Branch `b`'s projection is the product of its rows with its weight's rows
(the weight is kept transposed), and the merged rows are the sum over the branches of the gate times the projection. The
grid's point `t` computes the rows `1024 (t / 4)` on and the columns `512 (t % 4)` on of all four arrays.
-/

@[expose] public section
set_option maxRecDepth 16384

noncomputable section
namespace Cert.MergeFwdIdeal.Hand
open Cert.MergeFwdIdeal Cert.MergeFwdIdeal.Gen
open Idealize.ShloMosaic hiding ix2 ix1 ix3 eq_ix2 eq_ix3
open Idealize.ShloMosaic.TcCoe Idealize.ShloMosaic.ValueIdx Idealize.SL.Sem Cert.Products

/-- The logistic function over the extended reals. -/
def gate (x : EReal) : EReal := Ideal.div 1 (1 + Ideal.exp (-x))

/-- A branch's projection. -/
def projected (y w : S2048x1024.Idx → EReal) (i : S2048x2048.Idx) : EReal := ∑ k : Fin 1024, y (ix2 (i 0) k) * w (ix2 (i 1) k)

/-- The gated sum of the three. -/
def merged (y0 y1 y2 w0 w1 w2 : S2048x1024.Idx → EReal) (g : S3x2048x2048.Idx → EReal) (i : S2048x2048.Idx) : EReal :=
  gate (g (ix3 (0 : Fin 3) (i 0) (i 1))) * projected y0 w0 i + gate (g (ix3 (1 : Fin 3) (i 0) (i 1))) * projected y1 w1 i
    + gate (g (ix3 (2 : Fin 3) (i 0) (i 1))) * projected y2 w2 i

/-! ## One block -/

/-- The product of a block of rows and a block of the weight's rows. -/
theorem product_apply (x : Vec Ideal S1024x1024 .bf16) (w : Vec Ideal S512x1024 .bf16) (r : Fin 1024) (d : Fin 512) :
    @Eq EReal (k0_pay4 x w (ix2 r d)) (∑ k : Fin 1024, (x (ix2 r k) : EReal) * w (ix2 d k)) := by
  unfold k0_pay4
  exact entry_sum dot_S1024x1024_S512x1024_S1024x512_1_1_0_0_n_n 1024 rfl rfl x w (ix2 r d) (fun k => ix2 r k) (fun k => ix2 d k)
    (fun k => funext fun a => match a with | ⟨0, _⟩ => rfl | ⟨1, _⟩ => rfl) (fun k => funext fun a => match a with | ⟨0, _⟩ => rfl | ⟨1, _⟩ => rfl)

/-- A branch's term of the sum, in a block. -/
theorem term_apply (x : Vec Ideal S1024x1024 .bf16) (w : Vec Ideal S512x1024 .bf16) (g : Vec Ideal S1x1024x512 .f32) (r : Fin 1024) (d : Fin 512) :
    @Eq EReal (k0_pay6 x w g (ix2 r d)) (gate (g (ix3 (0 : Fin 1) r d)) * ∑ k : Fin 1024, (x (ix2 r k) : EReal) * w (ix2 d k)) := by
  have e : @Eq EReal (shapeCast S1024x512 g shapeCasts_S1x1024x512_S1024x512 (ix2 r d)) (g (ix3 (0 : Fin 1) r d)) :=
    shapeCast_apply _ _ (ix2 r d) (ix3 (0 : Fin 1) r d) (by
      rw [Shape.rowMajor_val_two, Shape.rowMajor_val_three]; show (0 * 1024 + r.val) * 512 + d.val = r.val * 512 + d.val; omega)
  unfold k0_pay6
  show Ideal.div (Ideal.ofBits .f32 0x3F800000#32) (Ideal.ofBits .f32 0x3F800000#32 + Ideal.exp (Ideal.ofBits .f32 0x00000000#32
    - (shapeCast S1024x512 g shapeCasts_S1x1024x512_S1024x512 (ix2 r d) : EReal))) * (k0_pay4 x w (ix2 r d) : EReal) = _
  rw [e, Cert.Mem.ofBits_one, Ideal.ofBits_zero_f32, zero_sub, product_apply]
  rfl

/-- The kernel's last sum, of two terms and the third branch's. -/
theorem sum_eq (u v : FVec Ideal S1024x512 .f32) (x : Vec Ideal S1024x1024 .bf16) (w : Vec Ideal S512x1024 .bf16) (g : Vec Ideal S1x1024x512 .f32) (i : S1024x512.Idx) :
    @Eq EReal (k0_pay3 u v x w g i) ((u i : EReal) + v i + (k0_pay6 x w g i : EReal)) := rfl

section
variable (x0 x1 x2 : Vec Ideal S1024x1024 .bf16) (x3 x4 x5 : Vec Ideal S512x1024 .bf16) (x6 x7 x8 : Vec Ideal S1x1024x512 .f32)

/-- The four blocks as functions of the operands' blocks. -/
theorem out_9 : out0_9 x0 x1 x2 x3 x4 x5 x6 x7 x8 = k0_pay3 (k0_pay6 x0 x3 x6) (k0_pay6 x1 x4 x7) x2 x5 x8 := by
  unfold out0_9
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide), View.ld_unit_lit _ _ (by decide),
    View.ld_unit_lit _ _ (by decide), View.ld_unit_lit _ _ (by decide)]
  rfl
theorem out_10 : out0_10 x0 x1 x2 x3 x4 x5 x6 x7 x8 = k0_pay5 x0 x3 := by
  unfold out0_10
  rw [View.canon_cons_unit_lit _ _ _ (by decide), View.ld_unit_lit _ _ (by decide), View.ld_unit_lit _ _ (by decide)]
theorem out_11 : out0_11 x0 x1 x2 x3 x4 x5 x6 x7 x8 = k0_pay5 x1 x4 := by
  unfold out0_11
  rw [View.canon_cons_unit_lit _ _ _ (by decide), View.ld_unit_lit _ _ (by decide), View.ld_unit_lit _ _ (by decide)]
  rfl
theorem out_12 : out0_12 x0 x1 x2 x3 x4 x5 x6 x7 x8 = k0_pay5 x2 x5 := by
  unfold out0_12
  rw [View.canon_cons_unit_lit _ _ _ (by decide), View.ld_unit_lit _ _ (by decide), View.ld_unit_lit _ _ (by decide)]
  rfl
end

/-! ## Where the blocks lie -/

/-- The blocks the branches' rows stage. -/
theorem row_facts : ∀ t : Fin cfg0.N, win0_0.index t = ![t.val / 4, 0] ∧ win0_1.index t = ![t.val / 4, 0] ∧ win0_2.index t = ![t.val / 4, 0] :=
  (by decide +kernel : ∀ t : Fin grid0.N, _)

/-- The blocks the weights stage. -/
theorem weight_facts : ∀ t : Fin cfg0.N, win0_3.index t = ![t.val % 4, 0] ∧ win0_4.index t = ![t.val % 4, 0] ∧ win0_5.index t = ![t.val % 4, 0] :=
  (by decide +kernel : ∀ t : Fin grid0.N, _)

/-- The blocks the logits stage. -/
theorem logit_facts : ∀ t : Fin cfg0.N, win0_6.index t = ![0, t.val / 4, t.val % 4] ∧ win0_7.index t = ![1, t.val / 4, t.val % 4]
    ∧ win0_8.index t = ![2, t.val / 4, t.val % 4] :=
  (by decide +kernel : ∀ t : Fin grid0.N, _)

/-- The blocks the results go to. -/
theorem result_facts : ∀ t : Fin cfg0.N, win0_9.index t = ![t.val / 4, t.val % 4] ∧ win0_10.index t = ![t.val / 4, t.val % 4]
    ∧ win0_11.index t = ![t.val / 4, t.val % 4] ∧ win0_12.index t = ![t.val / 4, t.val % 4] :=
  (by decide +kernel : ∀ t : Fin grid0.N, _)

/-- Every point writes every result back. -/
theorem flush_facts : ∀ t : Fin cfg0.N, (cfg0.win 9).flush t = true ∧ (cfg0.win 10).flush t = true ∧ (cfg0.win 11).flush t = true
    ∧ (cfg0.win 12).flush t = true :=
  (by decide +kernel : ∀ t : Fin grid0.N, _)

/-- Row `r` of the block of point `t`. -/
def rowAt (t : Fin cfg0.N) (r : Fin 1024) : Fin 2048 :=
  ⟨1024 * (t.val / 4) + r.val, by have h := t.isLt; have e : cfg0.N = 8 := N_0; omega⟩

/-- Column `d` of the block of point `t`. -/
def colAt (t : Fin cfg0.N) (d : Fin 512) : Fin 2048 := ⟨512 * (t.val % 4) + d.val, by omega⟩

/-- Every entry lies in the block of one point. -/
theorem tile_cover (i : S2048x2048.Idx) : ∃ (t : Fin cfg0.N) (r : Fin 1024) (d : Fin 512), i = ix2 (rowAt t r) (colAt t d) := by
  obtain ⟨i, j, rfl⟩ : ∃ i' j' : Fin 2048, i = ix2 i' j' := ⟨i 0, i 1, eq_ix2 i⟩
  refine ⟨⟨i.val / 1024 * 4 + j.val / 512, by have e : cfg0.N = 8 := N_0; omega⟩, ⟨i.val % 1024, by omega⟩, ⟨j.val % 512, by omega⟩,
    congrArg₂ ix2 (Fin.ext ?_) (Fin.ext ?_)⟩
  · show i.val = 1024 * ((i.val / 1024 * 4 + j.val / 512) / 4) + i.val % 1024; omega
  · show j.val = 512 * ((i.val / 1024 * 4 + j.val / 512) % 4) + j.val % 512; omega

/-- An entry with the coordinates of a tile's entry is that entry. -/
theorem tile_entry (t : Fin cfg0.N) (r : Fin 1024) (d : Fin 512) (y : S2048x2048.Idx) (h : (y 0).val = t.val / 4 * 1024 + r.val)
    (h' : (y 1).val = t.val % 4 * 512 + d.val) : y = ix2 (rowAt t r) (colAt t d) :=
  funext fun a => Fin.ext (match a with
    | ⟨0, _⟩ => h.trans (by show _ = 1024 * (t.val / 4) + r.val; omega)
    | ⟨1, _⟩ => h'.trans (by show _ = 512 * (t.val % 4) + d.val; omega))

/-- The same among the logits. -/
theorem logit_entry (t : Fin cfg0.N) (r : Fin 1024) (d : Fin 512) (b : Fin 3) (y : S3x2048x2048.Idx) (h0 : (y 0).val = b.val * 1 + 0)
    (h : (y 1).val = t.val / 4 * 1024 + r.val) (h' : (y 2).val = t.val % 4 * 512 + d.val) : y = ix3 b (rowAt t r) (colAt t d) :=
  funext fun a => Fin.ext (match a with
    | ⟨0, _⟩ => h0.trans (by show _ = b.val; omega)
    | ⟨1, _⟩ => h.trans (by show _ = 1024 * (t.val / 4) + r.val; omega)
    | ⟨2, _⟩ => h'.trans (by show _ = 512 * (t.val % 4) + d.val; omega))

/-- The same among a branch's rows. -/
theorem row_entry (t : Fin cfg0.N) (r k : Fin 1024) (y : S2048x1024.Idx) (h : (y 0).val = t.val / 4 * 1024 + r.val)
    (h' : (y 1).val = 0 * 1024 + k.val) : y = ix2 (rowAt t r) k :=
  funext fun a => Fin.ext (match a with
    | ⟨0, _⟩ => h.trans (by show _ = 1024 * (t.val / 4) + r.val; omega)
    | ⟨1, _⟩ => h'.trans (by show _ = k.val; omega))

/-- The same among a weight's rows. -/
theorem weight_entry (t : Fin cfg0.N) (d : Fin 512) (k : Fin 1024) (y : S2048x1024.Idx) (h : (y 0).val = t.val % 4 * 512 + d.val)
    (h' : (y 1).val = 0 * 1024 + k.val) : y = ix2 (colAt t d) k :=
  funext fun a => Fin.ext (match a with
    | ⟨0, _⟩ => h.trans (by show _ = 512 * (t.val % 4) + d.val; omega)
    | ⟨1, _⟩ => h'.trans (by show _ = k.val; omega))

section
variable (m : (ℓ : Loc nD τ sig) → Buf (Elt Ideal) ℓ) (c : Dev nD)

/-- The branches' blocks, read where their arrays have them. -/
theorem iblk_0 (t : Fin cfg0.N) (r k : Fin 1024) : (iblk m c 0 t : Vec Ideal S1024x1024 .bf16) (ix2 r k) = V m c main_arg0 (ix2 (rowAt t r) k) :=
  congrArg (V m c main_arg0) (row_entry t r k _ ((Pipeline.Window.rect_emb_val win0_0 t (ix2 r k) 0).trans (by rw [(row_facts t).1]; rfl))
    ((Pipeline.Window.rect_emb_val win0_0 t (ix2 r k) 1).trans (by rw [(row_facts t).1]; rfl)))
theorem iblk_1 (t : Fin cfg0.N) (r k : Fin 1024) : (iblk m c 1 t : Vec Ideal S1024x1024 .bf16) (ix2 r k) = V m c main_arg1 (ix2 (rowAt t r) k) :=
  congrArg (V m c main_arg1) (row_entry t r k _ ((Pipeline.Window.rect_emb_val win0_1 t (ix2 r k) 0).trans (by rw [(row_facts t).2.1]; rfl))
    ((Pipeline.Window.rect_emb_val win0_1 t (ix2 r k) 1).trans (by rw [(row_facts t).2.1]; rfl)))
theorem iblk_2 (t : Fin cfg0.N) (r k : Fin 1024) : (iblk m c 2 t : Vec Ideal S1024x1024 .bf16) (ix2 r k) = V m c main_arg2 (ix2 (rowAt t r) k) :=
  congrArg (V m c main_arg2) (row_entry t r k _ ((Pipeline.Window.rect_emb_val win0_2 t (ix2 r k) 0).trans (by rw [(row_facts t).2.2]; rfl))
    ((Pipeline.Window.rect_emb_val win0_2 t (ix2 r k) 1).trans (by rw [(row_facts t).2.2]; rfl)))

/-- The weights' blocks, read where their arrays have them. -/
theorem iblk_3 (t : Fin cfg0.N) (d : Fin 512) (k : Fin 1024) : (iblk m c 3 t : Vec Ideal S512x1024 .bf16) (ix2 d k) = V m c main_arg3 (ix2 (colAt t d) k) :=
  congrArg (V m c main_arg3) (weight_entry t d k _ ((Pipeline.Window.rect_emb_val win0_3 t (ix2 d k) 0).trans (by rw [(weight_facts t).1]; rfl))
    ((Pipeline.Window.rect_emb_val win0_3 t (ix2 d k) 1).trans (by rw [(weight_facts t).1]; rfl)))
theorem iblk_4 (t : Fin cfg0.N) (d : Fin 512) (k : Fin 1024) : (iblk m c 4 t : Vec Ideal S512x1024 .bf16) (ix2 d k) = V m c main_arg4 (ix2 (colAt t d) k) :=
  congrArg (V m c main_arg4) (weight_entry t d k _ ((Pipeline.Window.rect_emb_val win0_4 t (ix2 d k) 0).trans (by rw [(weight_facts t).2.1]; rfl))
    ((Pipeline.Window.rect_emb_val win0_4 t (ix2 d k) 1).trans (by rw [(weight_facts t).2.1]; rfl)))
theorem iblk_5 (t : Fin cfg0.N) (d : Fin 512) (k : Fin 1024) : (iblk m c 5 t : Vec Ideal S512x1024 .bf16) (ix2 d k) = V m c main_arg5 (ix2 (colAt t d) k) :=
  congrArg (V m c main_arg5) (weight_entry t d k _ ((Pipeline.Window.rect_emb_val win0_5 t (ix2 d k) 0).trans (by rw [(weight_facts t).2.2]; rfl))
    ((Pipeline.Window.rect_emb_val win0_5 t (ix2 d k) 1).trans (by rw [(weight_facts t).2.2]; rfl)))

/-- The logits' blocks, read where the stacked array has them. -/
theorem iblk_6 (t : Fin cfg0.N) (r : Fin 1024) (d : Fin 512) :
    (iblk m c 6 t : Vec Ideal S1x1024x512 .f32) (ix3 (0 : Fin 1) r d) = V m c main_arg6 (ix3 (0 : Fin 3) (rowAt t r) (colAt t d)) :=
  congrArg (V m c main_arg6) (logit_entry t r d 0 _ ((Pipeline.Window.rect_emb_val win0_6 t (ix3 (0 : Fin 1) r d) 0).trans (by rw [(logit_facts t).1]; rfl))
    ((Pipeline.Window.rect_emb_val win0_6 t (ix3 (0 : Fin 1) r d) 1).trans (by rw [(logit_facts t).1]; rfl)) ((Pipeline.Window.rect_emb_val win0_6 t (ix3 (0 : Fin 1) r d) 2).trans (by rw [(logit_facts t).1]; rfl)))
theorem iblk_7 (t : Fin cfg0.N) (r : Fin 1024) (d : Fin 512) :
    (iblk m c 7 t : Vec Ideal S1x1024x512 .f32) (ix3 (0 : Fin 1) r d) = V m c main_arg6 (ix3 (1 : Fin 3) (rowAt t r) (colAt t d)) :=
  congrArg (V m c main_arg6) (logit_entry t r d 1 _ ((Pipeline.Window.rect_emb_val win0_7 t (ix3 (0 : Fin 1) r d) 0).trans (by rw [(logit_facts t).2.1]; rfl))
    ((Pipeline.Window.rect_emb_val win0_7 t (ix3 (0 : Fin 1) r d) 1).trans (by rw [(logit_facts t).2.1]; rfl)) ((Pipeline.Window.rect_emb_val win0_7 t (ix3 (0 : Fin 1) r d) 2).trans (by rw [(logit_facts t).2.1]; rfl)))
theorem iblk_8 (t : Fin cfg0.N) (r : Fin 1024) (d : Fin 512) :
    (iblk m c 8 t : Vec Ideal S1x1024x512 .f32) (ix3 (0 : Fin 1) r d) = V m c main_arg6 (ix3 (2 : Fin 3) (rowAt t r) (colAt t d)) :=
  congrArg (V m c main_arg6) (logit_entry t r d 2 _ ((Pipeline.Window.rect_emb_val win0_8 t (ix3 (0 : Fin 1) r d) 0).trans (by rw [(logit_facts t).2.2]; rfl))
    ((Pipeline.Window.rect_emb_val win0_8 t (ix3 (0 : Fin 1) r d) 1).trans (by rw [(logit_facts t).2.2]; rfl)) ((Pipeline.Window.rect_emb_val win0_8 t (ix3 (0 : Fin 1) r d) 2).trans (by rw [(logit_facts t).2.2]; rfl)))

/-- Where a point's results lie in their arrays. -/
theorem emb_9 (t : Fin cfg0.N) (r : Fin 1024) (d : Fin 512) : (((cfg0.win 9).blk t).view.emb (ix2 r d) : S2048x2048.Idx) = ix2 (rowAt t r) (colAt t d) :=
  tile_entry t r d _ ((Pipeline.Window.rect_emb_val win0_9 t (ix2 r d) 0).trans (by rw [(result_facts t).1]; rfl))
    ((Pipeline.Window.rect_emb_val win0_9 t (ix2 r d) 1).trans (by rw [(result_facts t).1]; rfl))
theorem emb_10 (t : Fin cfg0.N) (r : Fin 1024) (d : Fin 512) : (((cfg0.win 10).blk t).view.emb (ix2 r d) : S2048x2048.Idx) = ix2 (rowAt t r) (colAt t d) :=
  tile_entry t r d _ ((Pipeline.Window.rect_emb_val win0_10 t (ix2 r d) 0).trans (by rw [(result_facts t).2.1]; rfl))
    ((Pipeline.Window.rect_emb_val win0_10 t (ix2 r d) 1).trans (by rw [(result_facts t).2.1]; rfl))
theorem emb_11 (t : Fin cfg0.N) (r : Fin 1024) (d : Fin 512) : (((cfg0.win 11).blk t).view.emb (ix2 r d) : S2048x2048.Idx) = ix2 (rowAt t r) (colAt t d) :=
  tile_entry t r d _ ((Pipeline.Window.rect_emb_val win0_11 t (ix2 r d) 0).trans (by rw [(result_facts t).2.2.1]; rfl))
    ((Pipeline.Window.rect_emb_val win0_11 t (ix2 r d) 1).trans (by rw [(result_facts t).2.2.1]; rfl))
theorem emb_12 (t : Fin cfg0.N) (r : Fin 1024) (d : Fin 512) : (((cfg0.win 12).blk t).view.emb (ix2 r d) : S2048x2048.Idx) = ix2 (rowAt t r) (colAt t d) :=
  tile_entry t r d _ ((Pipeline.Window.rect_emb_val win0_12 t (ix2 r d) 0).trans (by rw [(result_facts t).2.2.2]; rfl))
    ((Pipeline.Window.rect_emb_val win0_12 t (ix2 r d) 1).trans (by rw [(result_facts t).2.2.2]; rfl))

/-- A point's product is that block of the whole, if its operands' blocks are. -/
theorem projected_at {x : Vec Ideal S1024x1024 .bf16} {w : Vec Ideal S512x1024 .bf16} {X W : S2048x1024.Idx → EReal} (t : Fin cfg0.N) (r : Fin 1024) (d : Fin 512)
    (hx : ∀ k, @Eq EReal (x (ix2 r k)) (X (ix2 (rowAt t r) k))) (hw : ∀ k, @Eq EReal (w (ix2 d k)) (W (ix2 (colAt t d) k))) :
    ∑ k : Fin 1024, (x (ix2 r k) : EReal) * w (ix2 d k) = projected X W (ix2 (rowAt t r) (colAt t d)) :=
  Finset.sum_congr rfl fun k _ => congrArg₂ (· * ·) (hx k) (hw k)

/-- The four arrays after the run. -/
theorem final_9 : (dats m 0 c).arrAt 9 cfg0.N = merged (V m c main_arg0) (V m c main_arg1) (V m c main_arg2) (V m c main_arg3) (V m c main_arg4) (V m c main_arg5) (V m c main_arg6) := by
  refine Pipeline.Dat.arrAt_eq_of_cover (dats m 0 c) 9 _ (fun t _ => ?_) (fun i => ?_)
  · funext y
    obtain ⟨r, d, rfl⟩ : ∃ (r : Fin 1024) (d : Fin 512), y = ix2 r d := ⟨y 0, y 1, eq_ix2 y⟩
    refine Eq.trans ?_ (congrArg (merged (V m c main_arg0) (V m c main_arg1) (V m c main_arg2) (V m c main_arg3) (V m c main_arg4) (V m c main_arg5) (V m c main_arg6)) (emb_9 t r d)).symm
    rw [Value.flushed9 m c t, out_9]
    refine (sum_eq _ _ _ _ _ (ix2 r d)).trans ?_
    rw [term_apply, term_apply, term_apply, projected_at t r d (iblk_0 m c t r) (iblk_3 m c t d), projected_at t r d (iblk_1 m c t r) (iblk_4 m c t d),
      projected_at t r d (iblk_2 m c t r) (iblk_5 m c t d), iblk_6, iblk_7, iblk_8]
    rfl
  · obtain ⟨t, r, d, rfl⟩ := tile_cover i
    exact ⟨t, (flush_facts t).1, Eq.subst (motive := fun j => j ∈ ((cfg0.win 9).blk t).view.set) (emb_9 t r d) (((cfg0.win 9).blk t).view.emb_mem_set (ix2 r d))⟩

theorem final_10 : (dats m 0 c).arrAt 10 cfg0.N = projected (V m c main_arg0) (V m c main_arg3) := by
  refine Pipeline.Dat.arrAt_eq_of_cover (dats m 0 c) 10 _ (fun t _ => ?_) (fun i => ?_)
  · funext y
    obtain ⟨r, d, rfl⟩ : ∃ (r : Fin 1024) (d : Fin 512), y = ix2 r d := ⟨y 0, y 1, eq_ix2 y⟩
    refine Eq.trans ?_ (congrArg (projected (V m c main_arg0) (V m c main_arg3)) (emb_10 t r d)).symm
    rw [Value.flushed10 m c t, out_10]
    exact (product_apply _ _ r d).trans (projected_at t r d (iblk_0 m c t r) (iblk_3 m c t d))
  · obtain ⟨t, r, d, rfl⟩ := tile_cover i
    exact ⟨t, (flush_facts t).2.1, Eq.subst (motive := fun j => j ∈ ((cfg0.win 10).blk t).view.set) (emb_10 t r d) (((cfg0.win 10).blk t).view.emb_mem_set (ix2 r d))⟩

theorem final_11 : (dats m 0 c).arrAt 11 cfg0.N = projected (V m c main_arg1) (V m c main_arg4) := by
  refine Pipeline.Dat.arrAt_eq_of_cover (dats m 0 c) 11 _ (fun t _ => ?_) (fun i => ?_)
  · funext y
    obtain ⟨r, d, rfl⟩ : ∃ (r : Fin 1024) (d : Fin 512), y = ix2 r d := ⟨y 0, y 1, eq_ix2 y⟩
    refine Eq.trans ?_ (congrArg (projected (V m c main_arg1) (V m c main_arg4)) (emb_11 t r d)).symm
    rw [Value.flushed11 m c t, out_11]
    exact (product_apply _ _ r d).trans (projected_at t r d (iblk_1 m c t r) (iblk_4 m c t d))
  · obtain ⟨t, r, d, rfl⟩ := tile_cover i
    exact ⟨t, (flush_facts t).2.2.1, Eq.subst (motive := fun j => j ∈ ((cfg0.win 11).blk t).view.set) (emb_11 t r d) (((cfg0.win 11).blk t).view.emb_mem_set (ix2 r d))⟩

theorem final_12 : (dats m 0 c).arrAt 12 cfg0.N = projected (V m c main_arg2) (V m c main_arg5) := by
  refine Pipeline.Dat.arrAt_eq_of_cover (dats m 0 c) 12 _ (fun t _ => ?_) (fun i => ?_)
  · funext y
    obtain ⟨r, d, rfl⟩ : ∃ (r : Fin 1024) (d : Fin 512), y = ix2 r d := ⟨y 0, y 1, eq_ix2 y⟩
    refine Eq.trans ?_ (congrArg (projected (V m c main_arg2) (V m c main_arg5)) (emb_12 t r d)).symm
    rw [Value.flushed12 m c t, out_12]
    exact (product_apply _ _ r d).trans (projected_at t r d (iblk_2 m c t r) (iblk_5 m c t d))
  · obtain ⟨t, r, d, rfl⟩ := tile_cover i
    exact ⟨t, (flush_facts t).2.2.2, Eq.subst (motive := fun j => j ∈ ((cfg0.win 12).blk t).view.set) (emb_12 t r d) (((cfg0.win 12).blk t).view.emb_mem_set (ix2 r d))⟩
end

/-! ## The reference -/

section
open Cert.MergeFwdRefIdeal Cert.MergeFwdRefIdeal.Read Cert.MergeFwdRefIdeal.Gen
variable (y0 y1 y2 w0 w1 w2 : S2048x1024.Idx → EReal) (g : S3x2048x2048.Idx → EReal)

/-- The reference's gates. -/
theorem gates_apply (y : S3x2048x2048.Idx) : @Eq EReal (val_main_v5 (F := Ideal) g y) (gate (g y)) := by
  show Ideal.div (Ideal.ofBits .f32 0x3F800000#32) (Ideal.ofBits .f32 0x3F800000#32 + Ideal.exp (-(g y))) = _
  rw [Cert.Mem.ofBits_one]
  rfl

/-- A slab of three, read at an entry. -/
theorem slab {b : Fin 3} (s j : Fin 2048) (y : S3x2048x2048.Idx) (h0 : (y 0).val = b.val)
    (h : (y 1).val = (s.val * 2048 + j.val) / 2048 % 2048) (h' : (y 2).val = (s.val * 2048 + j.val) % 2048) : y = ix3 b s j :=
  funext fun a => Fin.ext (match a with
    | ⟨0, _⟩ => h0
    | ⟨1, _⟩ => h.trans (by show _ = s.val; omega)
    | ⟨2, _⟩ => h'.trans (by show _ = j.val; omega))

/-- The reference's projections. -/
theorem reference_10 : val_main_v30 (F := Ideal) y0 w0 = projected y0 w0 := by
  funext y
  obtain ⟨s, j, rfl⟩ : ∃ s j : Fin 2048, y = ix2 s j := ⟨y 0, y 1, eq_ix2 y⟩
  refine (val_main_v9_apply y0 w0 _).trans (Finset.sum_congr rfl fun k _ => congrArg₂ (· * ·)
    (congrArg y0 (funext fun a => match a with | ⟨0, _⟩ => rfl | ⟨1, _⟩ => rfl)) ((val_main_v8_apply (F := Ideal) w0 _).trans
      (congrArg w0 (funext fun a => match a with | ⟨0, _⟩ => rfl | ⟨1, _⟩ => rfl))))
theorem reference_11 : val_main_v31 (F := Ideal) y1 w1 = projected y1 w1 := reference_10 y1 w1
theorem reference_12 : val_main_v32 (F := Ideal) y2 w2 = projected y2 w2 := reference_10 y2 w2

/-- The reference's gated sum. -/
theorem reference_9 : val_main_v29 (F := Ideal) y0 y1 y2 w0 w1 w2 g = merged y0 y1 y2 w0 w1 w2 g := by
  funext y
  obtain ⟨s, j, rfl⟩ : ∃ s j : Fin 2048, y = ix2 s j := ⟨y 0, y 1, eq_ix2 y⟩
  refine congrArg₂ (· + ·) (congrArg₂ (· + ·) (congrArg₂ (· * ·) ?_ (congrFun (reference_10 y0 w0) _)) (congrArg₂ (· * ·) ?_ (congrFun (reference_11 y1 w1) _)))
    (congrArg₂ (· * ·) ?_ (congrFun (reference_12 y2 w2) _))
  · exact ((val_main_v19_apply (F := Ideal) g _).trans (val_main_v18_apply (F := Ideal) g _)).trans
      ((congrArg (val_main_v5 (F := Ideal) g) (slab (b := 0) s j _ rfl rfl rfl)).trans (gates_apply g _))
  · exact ((val_main_v22_apply (F := Ideal) g _).trans (val_main_v21_apply (F := Ideal) g _)).trans
      ((congrArg (val_main_v5 (F := Ideal) g) (slab (b := 1) s j _ rfl rfl rfl)).trans (gates_apply g _))
  · exact ((val_main_v26_apply (F := Ideal) g _).trans (val_main_v25_apply (F := Ideal) g _)).trans
      ((congrArg (val_main_v5 (F := Ideal) g) (slab (b := 2) s j _ rfl rfl rfl)).trans (gates_apply g _))
end
end Cert.MergeFwdIdeal.Hand

namespace Cert.Proof
open Idealize.ShloMosaic Idealize.ShloMosaic.TcCoe Idealize.SL.Sem

/-- The gated merge, kernel and reference. -/
theorem algebraic_merge_forward : @Cert.algebraic_MergeFwdIdeal_MergeFwdRefIdeal Cert.MergeFwdIdeal.Gen.facts Cert.MergeFwdRefIdeal.Gen.facts := by
  pair_intro
  · run_from Cert.MergeFwdIdeal.Value.run_blocks m g
  · refine (θ_run _ _ _).mono (fun r hr c => ?_) (Cert.MergeFwdRefIdeal.Value.run m' g')
    obtain ⟨r0, r1, r2, r3, ra⟩ := hr c
    obtain ⟨a0, a1, a2, a3, a4, a5, a6⟩ := hagree c
    refine ⟨r0.trans ?_, r1.trans ?_, r2.trans ?_, r3.trans ?_, ra⟩
    · rw [Cert.MergeFwdRefIdeal.Read.val_main_v29_eq, a0, a1, a2, a3, a4, a5, a6]
      exact (Cert.MergeFwdIdeal.Hand.reference_9 _ _ _ _ _ _ _).trans (Cert.MergeFwdIdeal.Hand.final_9 m c).symm
    · rw [Cert.MergeFwdRefIdeal.Read.val_main_v30_eq, a0, a3]
      exact (Cert.MergeFwdIdeal.Hand.reference_10 _ _).trans (Cert.MergeFwdIdeal.Hand.final_10 m c).symm
    · rw [Cert.MergeFwdRefIdeal.Read.val_main_v31_eq, a1, a4]
      exact (Cert.MergeFwdIdeal.Hand.reference_11 _ _).trans (Cert.MergeFwdIdeal.Hand.final_11 m c).symm
    · rw [Cert.MergeFwdRefIdeal.Read.val_main_v32_eq, a2, a5]
      exact (Cert.MergeFwdIdeal.Hand.reference_12 _ _).trans (Cert.MergeFwdIdeal.Hand.final_12 m c).symm

end Cert.Proof
-- ==== Proof.LossRow.lean ====
module

public import proofs.«01_k».proof.Proof.DxRow

/-!
The loss head of one token. With `m` the merged row, `W` the output weight, `x` the layer's input row, `g` the norm's gain and `t`
the target, the output's row is the norm of `m W` times `g` beside `x`, the error its difference to `t`; the loss is half the mean
square of the error, summed over the tokens.
-/

@[expose] public section

noncomputable section
namespace Cert.LossRow
open Idealize.ShloMosaic
open Idealize.ShloMosaic.ValueIdx Cert.Mem Cert.DxRow

theorem ofBits_mean : Ideal.ofBits .f32 0x3A000000#32 = ((1 / 2048 : ℝ) : EReal) := by
  simp [Ideal.ofBits, Ideal.ieee]
  rw [← EReal.coe_mul]
  norm_num
theorem ofBits_half_mean : Ideal.ofBits .f32 0x39800000#32 = ((1 / 4096 : ℝ) : EReal) := by
  simp [Ideal.ofBits, Ideal.ieee]
  rw [← EReal.coe_mul]
  norm_num
theorem ofBits_half : Ideal.ofBits .f32 0x3F000000#32 = ((1 / 2 : ℝ) : EReal) := by
  simp [Ideal.ofBits, Ideal.ieee]
  rw [← EReal.coe_mul]
  norm_num
theorem ofBits_two : Ideal.ofBits .f32 0x40000000#32 = ((2 : ℝ) : EReal) := by
  simp [Ideal.ofBits, Ideal.ieee]
  rw [← EReal.coe_mul]
  norm_num

/-! ## One token -/

section
variable (m : Fin 2048 → EReal) (W : (⟨2, ![2048, 2048]⟩ : Shape).Idx → EReal) (x g t : Fin 2048 → EReal)

/-- The merged row's product with the weight. -/
def output (d : Fin 2048) : EReal := ∑ k : Fin 2048, m k * W (ix2 k d)

/-- Its norm. -/
def normed (d : Fin 2048) : EReal := output m W d * invRoot (output m W)

/-- The error. -/
def error (d : Fin 2048) : EReal := x d + normed m W d * g d - t d

/-- The loss's derivative in the layer's output. -/
def step (d : Fin 2048) : EReal := error m W x g t d * Ideal.ofBits .f32 0x3A000000#32

/-- What the token adds to the gain's gradient. -/
def gainTerm (d : Fin 2048) : EReal := step m W x g t d * normed m W d

/-- The error's square. -/
def square : EReal := ∑ d : Fin 2048, error m W x g t d * error m W x g t d

/-- What the token adds to the loss. -/
def lossTerm : EReal := square m W x g t * Ideal.ofBits .f32 0x39800000#32

/-- The loss's derivative in the product. -/
def productGrad (d : Fin 2048) : EReal := kernelRow (output m W) (step m W x g t) g 0 d

end

/-! ## Sums of squares -/

theorem mul_self_nonneg (a : EReal) : 0 ≤ a * a := by
  induction a with
  | bot => simp
  | coe a => rw [← EReal.coe_mul]; exact EReal.coe_nonneg.2 (_root_.mul_self_nonneg a)
  | top => simp

theorem square_nonneg (m : Fin 2048 → EReal) (W : (⟨2, ![2048, 2048]⟩ : Shape).Idx → EReal) (x g t : Fin 2048 → EReal) :
    0 ≤ square m W x g t := Finset.sum_nonneg fun _ _ => mul_self_nonneg _

/-- A product with a sum of entries that are not negative. -/
theorem mul_sum_of_nonneg {ι : Type*} (c : EReal) (s : Finset ι) (f : ι → EReal) (h : ∀ i, 0 ≤ f i) : c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

/-- The loss of several tokens as the kernel takes it, the squares summed before the factor. -/
theorem sum_mul_eq {ι : Type*} (s : Finset ι) (f : ι → EReal) (c : EReal) (h : ∀ i, 0 ≤ f i) : (∑ i ∈ s, f i) * c = ∑ i ∈ s, f i * c := by
  rw [mul_comm, mul_sum_of_nonneg c s f h]
  exact Finset.sum_congr rfl fun i _ => mul_comm _ _

/-- The loss as the reference takes it, half the sum of the means. -/
theorem half_sum_means {ι : Type*} (s : Finset ι) (f : ι → EReal) (h : ∀ i, 0 ≤ f i) :
    Ideal.ofBits .f32 0x3F000000#32 * ∑ i ∈ s, Ideal.div (f i) (Ideal.ofBits .f32 0x45000000#32) = ∑ i ∈ s, f i * Ideal.ofBits .f32 0x39800000#32 := by
  have e : ∀ i, Ideal.div (f i) (Ideal.ofBits .f32 0x45000000#32) = f i * ((2048⁻¹ : ℝ) : EReal) := fun i => by
    rw [ofBits_count, Ideal.div_coe (by norm_num)]
    norm_num
  simp only [e]
  rw [mul_sum_of_nonneg _ _ _ fun i => EReal.mul_nonneg (h i) (EReal.coe_nonneg.2 (by norm_num))]
  refine Finset.sum_congr rfl fun i _ => ?_
  rw [ofBits_half, ofBits_half_mean, mul_left_comm, ← EReal.coe_mul]
  norm_num

/-- The reference's derivative of half a mean square. -/
theorem step_reference (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [ofBits_half, ofBits_one, ← EReal.coe_mul, ofBits_count, coe_div _ (by norm_num), ofBits_two, ← mul_assoc, ← EReal.coe_mul, mul_comm, ofBits_mean]
  norm_num

/-! ## The arrays -/

section
variable (M W X T : (⟨2, ![2048, 2048]⟩ : Shape).Idx → EReal) (G : (⟨2, ![1, 2048]⟩ : Shape).Idx → EReal)

/-- The derivative in the product. -/
def productGrads (y : (⟨2, ![2048, 2048]⟩ : Shape).Idx) : EReal :=
  productGrad (row M (y 0)) W (row X (y 0)) (row G 0) (row T (y 0)) (y 1)

/-- The derivative in the layer's output. -/
def steps (y : (⟨2, ![2048, 2048]⟩ : Shape).Idx) : EReal := step (row M (y 0)) W (row X (y 0)) (row G 0) (row T (y 0)) (y 1)

/-- The loss, at every place of a tile. -/
def losses (_ : (⟨2, ![8, 128]⟩ : Shape).Idx) : EReal := ∑ s : Fin 2048, lossTerm (row M s) W (row X s) (row G 0) (row T s)

/-- The gain's gradient. -/
def gainGrad (y : (⟨2, ![1, 2048]⟩ : Shape).Idx) : EReal := ∑ s : Fin 2048, gainTerm (row M s) W (row X s) (row G 0) (row T s) (y 1)

end

end Cert.LossRow
-- ==== Proof.LossBlocks.lean ====
module

public import proofs.«01_k».proof.Proof.LossRow
public import proofs.«01_k».proof.Proof.Products
public import proofs.«01_k».proof.Proof.Gen.OutLossIdeal.Value
public import Idealize.ShloMosaic.Lib.Pipeline.ValueKit
public import Idealize.ShloMosaic.Lib.VecWindow

/-!
What a point of the loss head's grid leaves in its result blocks, in the terms of the body.
-/

@[expose] public section
set_option maxRecDepth 16384

noncomputable section
namespace Cert.OutLossIdeal.Hand
open Cert.OutLossIdeal Cert.OutLossIdeal.Gen
open Idealize.ShloMosaic hiding ix2 ix1 eq_ix2
open Idealize.ShloMosaic.TcCoe Idealize.ShloMosaic.ValueIdx Idealize.SL.Sem Cert.Products Cert.DxRow Cert.LossRow Idealize.ShloMosaic.Tactic

/-- A load of a whole window's contents. -/
theorem load {s : Shape} {e : EltTy} (M : Memref sig .tc .vmem s e) (h : M.IsWhole) (x : s.Idx → Elt Ideal e) {off : Fin s.rank → ℕ}
    (inb : ∀ a, off a + s.size a ≤ s.size a) : M.view.readAt (Elt Ideal) (Rect.unit off s.size inb).toLoadRect (h.unread x) = x :=
  (View.readAt_full _ _ _).trans (h.read_unread x)

section
variable (c : Dev nD) (i : grid0.Coords) (arg1 : Memref sig .tc .vmem S256x2048 .bf16) (harg1 : arg1.IsWhole)
  (arg2 : Memref sig .tc .vmem S2048x2048 .bf16) (harg2 : arg2.IsWhole) (arg3 : Memref sig .tc .vmem S256x2048 .f32) (harg3 : arg3.IsWhole)
  (arg4 : Memref sig .tc .vmem S256x2048 .f32) (harg4 : arg4.IsWhole) (arg5 : Memref sig .tc .vmem S1x2048 .f32) (harg5 : arg5.IsWhole)
  (arg6 : Memref sig .tc .vmem S256x2048 .bf16) (harg6 : arg6.IsWhole) (arg7 : Memref sig .tc .vmem S256x2048 .f32) (harg7 : arg7.IsWhole)
  (arg8 : Memref sig .tc .vmem S8x128 .f32) (harg8 : arg8.IsWhole) (arg9 : Memref sig .tc .vmem S1x2048 .f32) (harg9 : arg9.IsWhole)
  (x0 : Vec Ideal S256x2048 .bf16) (x1 : Vec Ideal S2048x2048 .bf16) (x2 x3 : Vec Ideal S256x2048 .f32) (x4 : Vec Ideal S1x2048 .f32)
  (xo7 : Vec Ideal S8x128 .f32) (xo8 : Vec Ideal S1x2048 .f32)

/-- What the first point leaves in the block of the product's gradient. -/
theorem out_A_5 (hc : cond0_0 i) : out0_A_5 c i arg1 harg1 arg2 harg2 arg3 harg3 arg4 harg4 arg5 harg5 arg6 harg6 arg7 harg7 arg8 harg8 arg9 harg9 hc x0 x1 x2 x3 x4 = k0_pay3 (k0_pay7 x0 x1) (k0_pay8 x0 x1) x4 (k0_pay9 x0 x1 x4 x2 x3) := by
  unfold out0_A_5 kernelRun0_A
  dsimp only
  sl_unfold_run_names
  exact (View.read_writes_full _ _ _ _ _).trans (congr (congr (congrArg₂ k0_pay3 (congrArg₂ k0_pay7 (load arg1 harg1 x0 _) (load arg2 harg2 x1 _)) (congrArg₂ k0_pay8 (load arg1 harg1 x0 _) (load arg2 harg2 x1 _))) (load arg5 harg5 x4 _)) (congr (congr (congr (congrArg₂ k0_pay9 (load arg1 harg1 x0 _) (load arg2 harg2 x1 _)) (load arg5 harg5 x4 _)) (load arg3 harg3 x2 _)) (load arg4 harg4 x3 _)))

/-- What the first point leaves in the block of the output's gradient. -/
theorem out_A_6 (hc : cond0_0 i) : out0_A_6 c i arg1 harg1 arg2 harg2 arg3 harg3 arg4 harg4 arg5 harg5 arg6 harg6 arg7 harg7 arg8 harg8 arg9 harg9 hc x0 x1 x2 x3 x4 = k0_pay1 (k0_pay9 x0 x1 x4 x2 x3) := by
  unfold out0_A_6 kernelRun0_A
  dsimp only
  sl_unfold_run_names
  exact (View.read_writes_full _ _ _ _ _).trans (congrArg k0_pay1 (congr (congr (congr (congrArg₂ k0_pay9 (load arg1 harg1 x0 _) (load arg2 harg2 x1 _)) (load arg5 harg5 x4 _)) (load arg3 harg3 x2 _)) (load arg4 harg4 x3 _)))

/-- What the first point leaves in the loss's tile. -/
theorem out_A_7 (hc : cond0_0 i) : out0_A_7 c i arg1 harg1 arg2 harg2 arg3 harg3 arg4 harg4 arg5 harg5 arg6 harg6 arg7 harg7 arg8 harg8 arg9 harg9 hc x0 x1 x2 x3 x4 = k0_pay10 x0 x1 x4 x2 x3 (k0_pay4 (F := Ideal)) := by
  unfold out0_A_7 kernelRun0_A
  dsimp only
  sl_unfold_run_names
  exact (View.read_writes_full _ _ _ _ _).trans (congr (congr (congr (congr (congrArg₂ k0_pay10 (load arg1 harg1 x0 _) (load arg2 harg2 x1 _)) (load arg5 harg5 x4 _)) (load arg3 harg3 x2 _)) (load arg4 harg4 x3 _)) (View.readCov_full _ _ _ _ _))

/-- What the first point leaves in the gain's gradient. -/
theorem out_A_8 (hc : cond0_0 i) : out0_A_8 c i arg1 harg1 arg2 harg2 arg3 harg3 arg4 harg4 arg5 harg5 arg6 harg6 arg7 harg7 arg8 harg8 arg9 harg9 hc x0 x1 x2 x3 x4 = k0_pay2 (k0_pay8 x0 x1) (k0_pay9 x0 x1 x4 x2 x3) (k0_pay5 (F := Ideal)) := by
  unfold out0_A_8 kernelRun0_A
  dsimp only
  sl_unfold_run_names
  exact (View.read_writes_full _ _ _ _ _).trans (congr (congrArg₂ k0_pay2 (congrArg₂ k0_pay8 (load arg1 harg1 x0 _) (load arg2 harg2 x1 _)) (congr (congr (congr (congrArg₂ k0_pay9 (load arg1 harg1 x0 _) (load arg2 harg2 x1 _)) (load arg5 harg5 x4 _)) (load arg3 harg3 x2 _)) (load arg4 harg4 x3 _))) (View.readCov_full _ _ _ _ _))

/-- What a later point leaves in the block of the product's gradient. -/
theorem out_B_5 (hc : ¬cond0_0 i) : out0_B_5 c i arg1 harg1 arg2 harg2 arg3 harg3 arg4 harg4 arg5 harg5 arg6 harg6 arg7 harg7 arg8 harg8 arg9 harg9 hc x0 x1 x2 x3 x4 xo7 xo8 = k0_pay3 (k0_pay7 x0 x1) (k0_pay8 x0 x1) x4 (k0_pay9 x0 x1 x4 x2 x3) := by
  unfold out0_B_5 kernelRun0_B
  dsimp only
  sl_unfold_run_names
  exact (View.read_writes_full _ _ _ _ _).trans (congr (congr (congrArg₂ k0_pay3 (congrArg₂ k0_pay7 (load arg1 harg1 x0 _) (load arg2 harg2 x1 _)) (congrArg₂ k0_pay8 (load arg1 harg1 x0 _) (load arg2 harg2 x1 _))) (load arg5 harg5 x4 _)) (congr (congr (congr (congrArg₂ k0_pay9 (load arg1 harg1 x0 _) (load arg2 harg2 x1 _)) (load arg5 harg5 x4 _)) (load arg3 harg3 x2 _)) (load arg4 harg4 x3 _)))

/-- What a later point leaves in the block of the output's gradient. -/
theorem out_B_6 (hc : ¬cond0_0 i) : out0_B_6 c i arg1 harg1 arg2 harg2 arg3 harg3 arg4 harg4 arg5 harg5 arg6 harg6 arg7 harg7 arg8 harg8 arg9 harg9 hc x0 x1 x2 x3 x4 xo7 xo8 = k0_pay1 (k0_pay9 x0 x1 x4 x2 x3) := by
  unfold out0_B_6 kernelRun0_B
  dsimp only
  sl_unfold_run_names
  exact (View.read_writes_full _ _ _ _ _).trans (congrArg k0_pay1 (congr (congr (congr (congrArg₂ k0_pay9 (load arg1 harg1 x0 _) (load arg2 harg2 x1 _)) (load arg5 harg5 x4 _)) (load arg3 harg3 x2 _)) (load arg4 harg4 x3 _)))

/-- What a later point leaves in the loss's tile. -/
theorem out_B_7 (hc : ¬cond0_0 i) : out0_B_7 c i arg1 harg1 arg2 harg2 arg3 harg3 arg4 harg4 arg5 harg5 arg6 harg6 arg7 harg7 arg8 harg8 arg9 harg9 hc x0 x1 x2 x3 x4 xo7 xo8 = k0_pay10 x0 x1 x4 x2 x3 xo7 := by
  unfold out0_B_7 kernelRun0_B
  dsimp only
  sl_unfold_run_names
  exact (View.read_writes_full _ _ _ _ _).trans (congr (congr (congr (congr (congrArg₂ k0_pay10 (load arg1 harg1 x0 _) (load arg2 harg2 x1 _)) (load arg5 harg5 x4 _)) (load arg3 harg3 x2 _)) (load arg4 harg4 x3 _)) (load arg8 harg8 xo7 _))

/-- What a later point leaves in the gain's gradient. -/
theorem out_B_8 (hc : ¬cond0_0 i) : out0_B_8 c i arg1 harg1 arg2 harg2 arg3 harg3 arg4 harg4 arg5 harg5 arg6 harg6 arg7 harg7 arg8 harg8 arg9 harg9 hc x0 x1 x2 x3 x4 xo7 xo8 = k0_pay2 (k0_pay8 x0 x1) (k0_pay9 x0 x1 x4 x2 x3) xo8 := by
  unfold out0_B_8 kernelRun0_B
  dsimp only
  sl_unfold_run_names
  exact (View.read_writes_full _ _ _ _ _).trans (congr (congrArg₂ k0_pay2 (congrArg₂ k0_pay8 (load arg1 harg1 x0 _) (load arg2 harg2 x1 _)) (congr (congr (congr (congrArg₂ k0_pay9 (load arg1 harg1 x0 _) (load arg2 harg2 x1 _)) (load arg5 harg5 x4 _)) (load arg3 harg3 x2 _)) (load arg4 harg4 x3 _))) (load arg9 harg9 xo8 _))

end
end Cert.OutLossIdeal.Hand
-- ==== Proof.LossKernel.lean ====
module

public import proofs.«01_k».proof.Proof.LossBlocks

/-!
The loss head's arrays after the run. The grid's point `t` has the tokens `256 t` to `256 t + 255`.
-/

@[expose] public section
set_option maxRecDepth 16384

noncomputable section
namespace Cert.OutLossIdeal.Hand
open Cert.OutLossIdeal Cert.OutLossIdeal.Gen
open Idealize.ShloMosaic hiding ix2 ix1 eq_ix2
open Idealize.ShloMosaic.TcCoe Idealize.ShloMosaic.ValueIdx Idealize.SL.Sem Cert.Products Cert.DxRow Cert.LossRow

/-! ## The body, entry by entry -/

/-- The sum of a row, as a column. -/
theorem rowSum_apply (x : FVec Ideal S256x2048 .f32) (i : Fin 256) :
    @Eq EReal (shapeCast S256x1 (multiReduction .add [1] S256 x 0x00000000#32 reduces_S256x2048_S256 (.inl rfl) rfl) shapeCasts_S256_S256x1 (ix2 i (0 : Fin 1)))
      (∑ k : Fin 2048, row x i k) := by
  rw [shapeCast_apply _ _ (ix2 i (0 : Fin 1)) (ix1 i) (by rw [Shape.rowMajor_val_one, Shape.rowMajor_val_two]; show i.val = i.val * 1 + 0; omega)]
  refine (Ideal.multiReduction_add_single x _ _ _ _ (ix1 i)).trans ?_
  refine Finset.sum_congr rfl fun k _ => congrArg x ?_
  funext a; match a with | ⟨0, _⟩ => rfl | ⟨1, _⟩ => rfl

/-- The sum of a column, as a row. -/
theorem colSum_apply (x : FVec Ideal S256x2048 .f32) (d : Fin 2048) :
    @Eq EReal (shapeCast S1x2048 (multiReduction .add [0] S2048 x 0x00000000#32 reduces_S256x2048_S2048 (.inl rfl) rfl) shapeCasts_S2048_S1x2048 (ix2 (0 : Fin 1) d))
      (∑ i : Fin 256, row x i d) := by
  rw [shapeCast_apply _ _ (ix2 (0 : Fin 1) d) (ix1 d)
    (by rw [Shape.rowMajor_val_one, Shape.rowMajor_val_two]; show d.val = 0 * 2048 + d.val; omega)]
  refine (Ideal.multiReduction_add_single x _ _ _ _ (ix1 d)).trans ?_
  refine Finset.sum_congr rfl fun k _ => congrArg x ?_
  funext a; match a with | ⟨0, _⟩ => rfl | ⟨1, _⟩ => rfl

/-- The sum of a column of one place. -/
theorem total_apply (x : FVec Ideal S256x1 .f32) :
    @Eq EReal (shapeCast S1x1 (multiReduction .add [0] S1 x 0x00000000#32 reduces_S256x1_S1 (.inl rfl) rfl) shapeCasts_S1_S1x1 (ix2 (0 : Fin 1) (0 : Fin 1)))
      (∑ i : Fin 256, x (ix2 i (0 : Fin 1))) := by
  rw [shapeCast_apply _ _ (ix2 (0 : Fin 1) (0 : Fin 1)) (ix1 (0 : Fin 1)) (by rfl)]
  refine (Ideal.multiReduction_add_single x _ _ _ _ (ix1 (0 : Fin 1))).trans ?_
  refine Finset.sum_congr rfl fun k _ => congrArg x ?_
  funext a; match a with | ⟨0, _⟩ => rfl | ⟨1, _⟩ => rfl

/-- A column spread over the row's places. -/
theorem spread_apply (x : FVec Ideal S256x1 .f32) (i : Fin 256) (d : Fin 2048) :
    broadcastTo S256x2048 x broadcasts_S256x1_S256x2048 (ix2 i d) = x (ix2 i (0 : Fin 1)) :=
  broadcastTo_apply _ _ (ix2 i d) (ix2 i (0 : Fin 1)) (by intro a; match a with | ⟨0, _⟩ => rfl | ⟨1, _⟩ => rfl)

/-- A row spread over the block's rows. -/
theorem gain_apply (g : Vec Ideal S1x2048 .f32) (i : Fin 256) (d : Fin 2048) :
    @Eq EReal (broadcastTo S256x2048 g broadcasts_S1x2048_S256x2048 (ix2 i d)) (row g 0 d) :=
  broadcastTo_apply _ _ (ix2 i d) (ix2 (0 : Fin 1) d) (by intro a; match a with | ⟨0, _⟩ => rfl | ⟨1, _⟩ => rfl)

section
variable (x0 : Vec Ideal S256x2048 .bf16) (x1 : Vec Ideal S2048x2048 .bf16) (x2 x3 : Vec Ideal S256x2048 .f32) (x4 : Vec Ideal S1x2048 .f32)

theorem pay6_apply (i : Fin 256) (d : Fin 2048) : @Eq EReal (k0_pay6 x0 x1 (ix2 i d)) (output (row x0 i) x1 d) := by
  unfold k0_pay6
  exact entry_sum dot_S256x2048_S2048x2048_S256x2048_1_0_0_1_n_n 2048 rfl rfl x0 x1 (ix2 i d) (fun k => ix2 i k) (fun k => ix2 k d)
    (fun k => funext fun a => match a with | ⟨0, _⟩ => rfl | ⟨1, _⟩ => rfl) (fun k => funext fun a => match a with | ⟨0, _⟩ => rfl | ⟨1, _⟩ => rfl)

theorem pay7_apply (i : Fin 256) : @Eq EReal (k0_pay7 x0 x1 (ix2 i (0 : Fin 1))) (invRoot (output (row x0 i) x1)) := by
  unfold k0_pay7 invRoot meanSq
  refine congrArg Ideal.rsqrt (congrArg (· + _) (congrArg (Ideal.div · _) ((rowSum_apply _ i).trans (Finset.sum_congr rfl fun k _ => ?_))))
  exact congrArg₂ (· * ·) (pay6_apply x0 x1 i k) (pay6_apply x0 x1 i k)

theorem pay8_apply (i : Fin 256) (d : Fin 2048) : @Eq EReal (k0_pay8 x0 x1 (ix2 i d)) (normed (row x0 i) x1 d) := by
  unfold k0_pay8
  exact congrArg₂ (· * ·) (pay6_apply x0 x1 i d) ((spread_apply _ i d).trans (pay7_apply x0 x1 i))

theorem pay9_apply (i : Fin 256) (d : Fin 2048) :
    @Eq EReal (k0_pay9 x0 x1 x4 x2 x3 (ix2 i d)) (error (row x0 i) x1 (row x2 i) (row x4 0) (row x3 i) d) := by
  unfold k0_pay9
  exact congrArg (· - row x3 i d) (congrArg (row x2 i d + ·) (congrArg₂ (· * ·) (pay8_apply x0 x1 i d) (gain_apply x4 i d)))

/-- An entry of the output's gradient. -/
theorem step_apply (i : Fin 256) (d : Fin 2048) :
    @Eq EReal (k0_pay1 (k0_pay9 x0 x1 x4 x2 x3) (ix2 i d)) (step (row x0 i) x1 (row x2 i) (row x4 0) (row x3 i) d) := by
  unfold k0_pay1
  exact congrArg (· * _) (pay9_apply x0 x1 x2 x3 x4 i d)

/-- An entry of the product's gradient. -/
theorem productGrad_apply (i : Fin 256) (d : Fin 2048) :
    @Eq EReal (k0_pay3 (k0_pay7 x0 x1) (k0_pay8 x0 x1) x4 (k0_pay9 x0 x1 x4 x2 x3) (ix2 i d))
      (productGrad (row x0 i) x1 (row x2 i) (row x4 0) (row x3 i) d) := by
  have hs : ∀ j, @Eq EReal (mulf (k0_pay1 (k0_pay9 x0 x1 x4 x2 x3)) (broadcastTo S256x2048 x4 broadcasts_S1x2048_S256x2048) (ix2 i j))
      (step (row x0 i) x1 (row x2 i) (row x4 0) (row x3 i) j * row x4 0 j) := fun j =>
    congrArg₂ (· * ·) (step_apply x0 x1 x2 x3 x4 i j) (gain_apply x4 i j)
  unfold k0_pay3 productGrad kernelRow
  refine (congrArg₂ (· * ·) ((spread_apply _ i d).trans (pay7_apply x0 x1 i)) (congrArg₂ (· - ·) (hs d) (congrArg₂ (· * ·) (pay8_apply x0 x1 i d)
    ((spread_apply _ i d).trans (congrArg (Ideal.div · _) ((rowSum_apply _ i).trans (Finset.sum_congr rfl fun j _ =>
      congrArg₂ (· * ·) (hs j) (pay8_apply x0 x1 i j)))))))).trans (add_zero _).symm

/-- What the block adds to the loss. -/
theorem loss_apply (p : Vec Ideal S8x128 .f32) (y : S8x128.Idx) :
    @Eq EReal (k0_pay10 x0 x1 x4 x2 x3 p y) ((p y : EReal) + ∑ i : Fin 256, lossTerm (row x0 i) x1 (row x2 i) (row x4 0) (row x3 i)) := by
  unfold k0_pay10
  refine congrArg₂ (· + ·) (congrFun (shapeCast_self p _) y) ?_
  refine (broadcastTo_apply _ _ y (ix2 (0 : Fin 1) (0 : Fin 1)) (by intro a; match a with | ⟨0, _⟩ => rfl | ⟨1, _⟩ => rfl)).trans ?_
  refine Eq.trans (congrArg (· * Ideal.ofBits .f32 0x39800000#32) ((total_apply _).trans (Finset.sum_congr rfl fun i _ => ?_)))
    (sum_mul_eq Finset.univ (fun i : Fin 256 => square (row x0 i) x1 (row x2 i) (row x4 0) (row x3 i)) _ fun i => square_nonneg _ _ _ _ _)
  refine (rowSum_apply _ i).trans (Finset.sum_congr rfl fun d _ => ?_)
  exact congrArg₂ (· * ·) (pay9_apply x0 x1 x2 x3 x4 i d) (pay9_apply x0 x1 x2 x3 x4 i d)

/-- What the block adds to the gain's gradient. -/
theorem gainGrad_apply (p : Vec Ideal S1x2048 .f32) (d : Fin 2048) :
    @Eq EReal (k0_pay2 (k0_pay8 x0 x1) (k0_pay9 x0 x1 x4 x2 x3) p (ix2 (0 : Fin 1) d))
      (row p 0 d + ∑ i : Fin 256, gainTerm (row x0 i) x1 (row x2 i) (row x4 0) (row x3 i) d) := by
  unfold k0_pay2
  refine congrArg₂ (· + ·) (congrFun (shapeCast_self p _) (ix2 (0 : Fin 1) d)) ((colSum_apply _ d).trans (Finset.sum_congr rfl fun i _ => ?_))
  exact congrArg₂ (· * ·) (step_apply x0 x1 x2 x3 x4 i d) (pay8_apply x0 x1 i d)

end

/-- The loss begins at zero, -/
theorem pay4_apply (y : S8x128.Idx) : @Eq EReal (k0_pay4 (F := Ideal) y) 0 := by
  unfold k0_pay4
  exact Ideal.ofBits_zero_f32

/-- and the gain's gradient too. -/
theorem pay5_apply (y : S1x2048.Idx) : @Eq EReal (k0_pay5 (F := Ideal) y) 0 := by
  unfold k0_pay5
  exact Ideal.ofBits_zero_f32

/-! ## The blocks -/

/-- The block every window stages at a grid point. -/
theorem index_facts : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- The points whose results are written back. -/
theorem flush_facts : ∀ t : Fin cfg0.N, (cfg0.win 5).flush t = true ∧ (cfg0.win 6).flush t = true
    ∧ ((cfg0.win 7).flush t = true ↔ t.val = 7) ∧ ((cfg0.win 8).flush t = true ↔ t.val = 7) :=
  (by decide +kernel : ∀ t : Fin grid0.N, _)

/-- Row `r` of the block of point `t`. -/
def rowAt (t : Fin cfg0.N) (r : Fin 256) : Fin 2048 :=
  ⟨256 * t.val + r.val, by have h := t.isLt; have e : cfg0.N = 8 := N_0; omega⟩

variable (m : (ℓ : Loc nD τ sig) → Buf (Elt Ideal) ℓ) (c : Dev nD)

theorem iblk_0 (t : Fin cfg0.N) (r : Fin 256) : row (iblk m c 0 t : Vec Ideal S256x2048 .bf16) r = row (V m c main_arg0) (rowAt t r) := by
  funext d
  refine congrArg (V m c main_arg0) (funext fun a => Fin.ext ?_)
  have h := (index_facts t).1
  match a with
  | ⟨0, _⟩ => exact (Pipeline.Window.rect_emb_val win0_0 t (ix2 r d) 0).trans (by rw [h]; show t.val * 256 + r.val = 256 * t.val + r.val; omega)
  | ⟨1, _⟩ => exact (Pipeline.Window.rect_emb_val win0_0 t (ix2 r d) 1).trans (by rw [h]; show 0 * 2048 + d.val = d.val; omega)

theorem iblk_1 (t : Fin cfg0.N) : (iblk m c 1 t : S2048x2048.Idx → EReal) = V m c main_arg1 := by
  funext y
  refine congrArg (V m c main_arg1) (funext fun a => Fin.ext ?_)
  have h := (index_facts t).2.1
  match a with
  | ⟨0, _⟩ => exact (Pipeline.Window.rect_emb_val win0_1 t y 0).trans (by rw [h]; show 0 * 2048 + (y 0).val = (y 0).val; omega)
  | ⟨1, _⟩ => exact (Pipeline.Window.rect_emb_val win0_1 t y 1).trans (by rw [h]; show 0 * 2048 + (y 1).val = (y 1).val; omega)

theorem iblk_2 (t : Fin cfg0.N) (r : Fin 256) : row (iblk m c 2 t : Vec Ideal S256x2048 .f32) r = row (V m c main_arg2) (rowAt t r) := by
  funext d
  refine congrArg (V m c main_arg2) (funext fun a => Fin.ext ?_)
  have h := (index_facts t).2.2.1
  match a with
  | ⟨0, _⟩ => exact (Pipeline.Window.rect_emb_val win0_2 t (ix2 r d) 0).trans (by rw [h]; show t.val * 256 + r.val = 256 * t.val + r.val; omega)
  | ⟨1, _⟩ => exact (Pipeline.Window.rect_emb_val win0_2 t (ix2 r d) 1).trans (by rw [h]; show 0 * 2048 + d.val = d.val; omega)

theorem iblk_3 (t : Fin cfg0.N) (r : Fin 256) : row (iblk m c 3 t : Vec Ideal S256x2048 .f32) r = row (V m c main_arg3) (rowAt t r) := by
  funext d
  refine congrArg (V m c main_arg3) (funext fun a => Fin.ext ?_)
  have h := (index_facts t).2.2.2.1
  match a with
  | ⟨0, _⟩ => exact (Pipeline.Window.rect_emb_val win0_3 t (ix2 r d) 0).trans (by rw [h]; show t.val * 256 + r.val = 256 * t.val + r.val; omega)
  | ⟨1, _⟩ => exact (Pipeline.Window.rect_emb_val win0_3 t (ix2 r d) 1).trans (by rw [h]; show 0 * 2048 + d.val = d.val; omega)

theorem iblk_4 (t : Fin cfg0.N) : row (iblk m c 4 t : Vec Ideal S1x2048 .f32) 0 = row (V m c main_arg4) 0 := by
  funext d
  refine congrArg (V m c main_arg4) (funext fun a => Fin.ext ?_)
  have h := (index_facts t).2.2.2.2.1
  match a with
  | ⟨0, _⟩ => exact (Pipeline.Window.rect_emb_val win0_4 t (ix2 0 d) 0).trans (by rw [h]; rfl)
  | ⟨1, _⟩ => exact (Pipeline.Window.rect_emb_val win0_4 t (ix2 0 d) 1).trans (by rw [h]; show 0 * 2048 + d.val = d.val; omega)

theorem emb_5 (t : Fin cfg0.N) (r : Fin 256) (d : Fin 2048) :
    (((cfg0.win 5).blk t).view.emb (ix2 r d) : S2048x2048.Idx) = ix2 (rowAt t r) d := by
  refine funext fun a => Fin.ext ?_
  have h := (index_facts t).2.2.2.2.2.1
  match a with
  | ⟨0, _⟩ => exact (Pipeline.Window.rect_emb_val win0_5 t (ix2 r d) 0).trans (by rw [h]; show t.val * 256 + r.val = 256 * t.val + r.val; omega)
  | ⟨1, _⟩ => exact (Pipeline.Window.rect_emb_val win0_5 t (ix2 r d) 1).trans (by rw [h]; show 0 * 2048 + d.val = d.val; omega)

theorem emb_6 (t : Fin cfg0.N) (r : Fin 256) (d : Fin 2048) :
    (((cfg0.win 6).blk t).view.emb (ix2 r d) : S2048x2048.Idx) = ix2 (rowAt t r) d := by
  refine funext fun a => Fin.ext ?_
  have h := (index_facts t).2.2.2.2.2.2.1
  match a with
  | ⟨0, _⟩ => exact (Pipeline.Window.rect_emb_val win0_6 t (ix2 r d) 0).trans (by rw [h]; show t.val * 256 + r.val = 256 * t.val + r.val; omega)
  | ⟨1, _⟩ => exact (Pipeline.Window.rect_emb_val win0_6 t (ix2 r d) 1).trans (by rw [h]; show 0 * 2048 + d.val = d.val; omega)

theorem emb_7 (t : Fin cfg0.N) (y : S8x128.Idx) : (((cfg0.win 7).blk t).view.emb y : S8x128.Idx) = y := by
  refine funext fun a => Fin.ext ?_
  have h := (index_facts t).2.2.2.2.2.2.2.1
  match a with
  | ⟨0, _⟩ => exact (Pipeline.Window.rect_emb_val win0_7 t y 0).trans (by rw [h]; show 0 * 8 + (y 0).val = (y 0).val; omega)
  | ⟨1, _⟩ => exact (Pipeline.Window.rect_emb_val win0_7 t y 1).trans (by rw [h]; show 0 * 128 + (y 1).val = (y 1).val; omega)

theorem emb_8 (t : Fin cfg0.N) (y : S1x2048.Idx) : (((cfg0.win 8).blk t).view.emb y : S1x2048.Idx) = y := by
  refine funext fun a => Fin.ext ?_
  have h := (index_facts t).2.2.2.2.2.2.2.2
  match a with
  | ⟨0, _⟩ => exact (Pipeline.Window.rect_emb_val win0_8 t y 0).trans (by rw [h]; show 0 * 1 + (y 0).val = (y 0).val; omega)
  | ⟨1, _⟩ => exact (Pipeline.Window.rect_emb_val win0_8 t y 1).trans (by rw [h]; show 0 * 2048 + (y 1).val = (y 1).val; omega)

/-- Every row lies in the block of one point. -/
theorem row_cover (i : Fin 2048) : ∃ (t : Fin cfg0.N) (r : Fin 256), i = rowAt t r :=
  ⟨⟨i.val / 256, by have e : cfg0.N = 8 := N_0; have := i.isLt; omega⟩, ⟨i.val % 256, by omega⟩,
    Fin.ext (by show i.val = 256 * (i.val / 256) + i.val % 256; omega)⟩

/-! ## The arrays written row by row -/

/-- The array of the product's gradient after the run. -/
theorem final_5 : (dats m 0 c).arrAt 5 cfg0.N = productGrads (V m c main_arg0) (V m c main_arg1) (V m c main_arg2) (V m c main_arg3) (V m c main_arg4) := by
  refine Pipeline.Dat.arrAt_eq_of_cover (dats m 0 c) 5 _ (fun t _ => ?_) (fun i => ?_)
  · funext y
    obtain ⟨r, d, rfl⟩ : ∃ (r : Fin 256) (d : Fin 2048), y = ix2 r d := ⟨y 0, y 1, eq_ix2 y⟩
    have e : (((cfg0.win 5).blk t).view.read (Elt Ideal) (productGrads (V m c main_arg0) (V m c main_arg1) (V m c main_arg2) (V m c main_arg3)
          (V m c main_arg4)) : S256x2048.Idx → EReal) (ix2 r d)
        = productGrad (row (iblk m c 0 t : Vec Ideal S256x2048 .bf16) r) (iblk m c 1 t : S2048x2048.Idx → EReal)
          (row (iblk m c 2 t : Vec Ideal S256x2048 .f32) r) (row (iblk m c 4 t : Vec Ideal S1x2048 .f32) 0) (row (iblk m c 3 t : Vec Ideal S256x2048 .f32) r) d := by
      rw [iblk_0, iblk_1, iblk_2, iblk_3, iblk_4]
      show productGrads _ _ _ _ _ (((cfg0.win 5).blk t).view.emb (ix2 r d)) = _
      rw [emb_5]; rfl
    refine Eq.trans ?_ e.symm
    by_cases h0 : t.val % 8 = 0
    · rw [Value.flushed5_A m c t h0, out_A_5]
      exact productGrad_apply (iblk m c 0 t) (iblk m c 1 t) (iblk m c 2 t) (iblk m c 3 t) (iblk m c 4 t) r d
    · rw [Value.flushed5_B m c t h0, out_B_5]
      exact productGrad_apply (iblk m c 0 t) (iblk m c 1 t) (iblk m c 2 t) (iblk m c 3 t) (iblk m c 4 t) r d
  · obtain ⟨i, k, rfl⟩ : ∃ (a : Fin 2048) (k : Fin 2048), i = ix2 a k := ⟨i 0, i 1, eq_ix2 i⟩
    obtain ⟨t, r, rfl⟩ := row_cover i
    exact ⟨t, (flush_facts t).1, Eq.subst (motive := fun j => j ∈ ((cfg0.win 5).blk t).view.set) (emb_5 t r k)
      (((cfg0.win 5).blk t).view.emb_mem_set (ix2 r k))⟩

/-- The array of the output's gradient after the run. -/
theorem final_6 : (dats m 0 c).arrAt 6 cfg0.N = steps (V m c main_arg0) (V m c main_arg1) (V m c main_arg2) (V m c main_arg3) (V m c main_arg4) := by
  refine Pipeline.Dat.arrAt_eq_of_cover (dats m 0 c) 6 _ (fun t _ => ?_) (fun i => ?_)
  · funext y
    obtain ⟨r, d, rfl⟩ : ∃ (r : Fin 256) (d : Fin 2048), y = ix2 r d := ⟨y 0, y 1, eq_ix2 y⟩
    have e : (((cfg0.win 6).blk t).view.read (Elt Ideal) (steps (V m c main_arg0) (V m c main_arg1) (V m c main_arg2) (V m c main_arg3)
          (V m c main_arg4)) : S256x2048.Idx → EReal) (ix2 r d)
        = step (row (iblk m c 0 t : Vec Ideal S256x2048 .bf16) r) (iblk m c 1 t : S2048x2048.Idx → EReal)
          (row (iblk m c 2 t : Vec Ideal S256x2048 .f32) r) (row (iblk m c 4 t : Vec Ideal S1x2048 .f32) 0) (row (iblk m c 3 t : Vec Ideal S256x2048 .f32) r) d := by
      rw [iblk_0, iblk_1, iblk_2, iblk_3, iblk_4]
      show steps _ _ _ _ _ (((cfg0.win 6).blk t).view.emb (ix2 r d)) = _
      rw [emb_6]; rfl
    refine Eq.trans ?_ e.symm
    by_cases h0 : t.val % 8 = 0
    · rw [Value.flushed6_A m c t h0, out_A_6]
      exact step_apply (iblk m c 0 t) (iblk m c 1 t) (iblk m c 2 t) (iblk m c 3 t) (iblk m c 4 t) r d
    · rw [Value.flushed6_B m c t h0, out_B_6]
      exact step_apply (iblk m c 0 t) (iblk m c 1 t) (iblk m c 2 t) (iblk m c 3 t) (iblk m c 4 t) r d
  · obtain ⟨i, k, rfl⟩ : ∃ (a : Fin 2048) (k : Fin 2048), i = ix2 a k := ⟨i 0, i 1, eq_ix2 i⟩
    obtain ⟨t, r, rfl⟩ := row_cover i
    exact ⟨t, (flush_facts t).2.1, Eq.subst (motive := fun j => j ∈ ((cfg0.win 6).blk t).view.set) (emb_6 t r k)
      (((cfg0.win 6).blk t).view.emb_mem_set (ix2 r k))⟩

end Cert.OutLossIdeal.Hand
-- ==== Proof.LossSums.lean ====
module

public import proofs.«01_k».proof.Proof.LossKernel

/-!
The loss and the gain's gradient after the run: sums over the tokens, which the points add up one after another.
-/

@[expose] public section
set_option maxRecDepth 16384

noncomputable section
namespace Cert.OutLossIdeal.Hand
open Cert.OutLossIdeal Cert.OutLossIdeal.Gen
open Idealize.ShloMosaic hiding ix2 ix1 eq_ix2
open Idealize.ShloMosaic.TcCoe Idealize.ShloMosaic.ValueIdx Idealize.SL.Sem Cert.Products Cert.DxRow Cert.LossRow

variable (m : (ℓ : Loc nD τ sig) → Buf (Elt Ideal) ℓ) (c : Dev nD)

/-- What a token adds to the loss. -/
abbrev lossOf (s : Fin 2048) : EReal :=
  lossTerm (row (V m c main_arg0) s) (V m c main_arg1) (row (V m c main_arg2) s) (row (V m c main_arg4) 0) (row (V m c main_arg3) s)

/-- What a token adds to the gain's gradient. -/
abbrev gainOf (d : Fin 2048) (s : Fin 2048) : EReal :=
  gainTerm (row (V m c main_arg0) s) (V m c main_arg1) (row (V m c main_arg2) s) (row (V m c main_arg4) 0) (row (V m c main_arg3) s) d

/-- The tokens of point `n` continue those of the points before it. -/
theorem add_tokens (f : Fin 2048 → EReal) (n : ℕ) (hn : n < cfg0.N) :
    ∑ i ∈ Finset.range (256 * n), f (Fin.ofNat 2048 i) + ∑ r : Fin 256, f (rowAt ⟨n, hn⟩ r) = ∑ i ∈ Finset.range (256 * (n + 1)), f (Fin.ofNat 2048 i) := by
  rw [Nat.mul_add, Nat.mul_one, Finset.sum_range_add, Finset.sum_range (n := 256)]
  refine congrArg _ (Finset.sum_congr rfl fun r _ => congrArg f (Fin.ext ?_))
  have := (rowAt ⟨n, hn⟩ r).isLt
  exact (Nat.mod_eq_of_lt this).symm

/-- All the tokens. -/
theorem all_tokens (f : Fin 2048 → EReal) : ∑ i ∈ Finset.range (256 * (7 + 1)), f (Fin.ofNat 2048 i) = ∑ s : Fin 2048, f s := by
  rw [show 256 * (7 + 1) = 2048 from rfl, Finset.sum_range (n := 2048)]
  exact Finset.sum_congr rfl fun i _ => congrArg f (Fin.ext (Nat.mod_eq_of_lt i.isLt))

/-- What a block adds to the loss, by the tokens. -/
theorem lossAdd (t : Fin cfg0.N) (p : Vec Ideal S8x128 .f32) (y : S8x128.Idx) :
    @Eq EReal (k0_pay10 (F := Ideal) (iblk m c 0 t) (iblk m c 1 t) (iblk m c 4 t) (iblk m c 2 t) (iblk m c 3 t) p y)
      ((p y : EReal) + ∑ r : Fin 256, lossOf m c (rowAt t r)) := by
  refine (loss_apply (iblk m c 0 t) (iblk m c 1 t) (iblk m c 2 t) (iblk m c 3 t) (iblk m c 4 t) p y).trans
    (congrArg ((p y : EReal) + ·) (Finset.sum_congr rfl fun r _ => ?_))
  rw [iblk_0, iblk_1, iblk_2, iblk_3, iblk_4]

/-- What a block adds to the gain's gradient, by the tokens. -/
theorem gainAdd (t : Fin cfg0.N) (p : Vec Ideal S1x2048 .f32) (d : Fin 2048) :
    @Eq EReal (k0_pay2 (F := Ideal) (k0_pay8 (F := Ideal) (iblk m c 0 t) (iblk m c 1 t)) (k0_pay9 (F := Ideal) (iblk m c 0 t) (iblk m c 1 t) (iblk m c 4 t) (iblk m c 2 t) (iblk m c 3 t)) p (ix2 (0 : Fin 1) d))
      (row p 0 d + ∑ r : Fin 256, gainOf m c d (rowAt t r)) := by
  refine (gainGrad_apply (iblk m c 0 t) (iblk m c 1 t) (iblk m c 2 t) (iblk m c 3 t) (iblk m c 4 t) p d).trans
    (congrArg (row p 0 d + ·) (Finset.sum_congr rfl fun r _ => ?_))
  rw [iblk_0, iblk_1, iblk_2, iblk_3, iblk_4]

/-- What the first point leaves in the loss's tile, -/
theorem first_7 (t : Fin cfg0.N) (h0 : t.val % 8 = 0) : @Eq (Vec Ideal S8x128 .f32) (outsAt0 m c t.val t.isLt).2.2.1
    (k0_pay10 (F := Ideal) (iblk m c 0 t) (iblk m c 1 t) (iblk m c 4 t) (iblk m c 2 t) (iblk m c 3 t) (k0_pay4 (F := Ideal))) :=
  (congrArg (fun p => p.2.2.1) (outsAt0_A m c t h0)).trans
    (out_A_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0))

/-- and what a later point leaves there, over what the point before it left. -/
theorem next_7 (t : Fin cfg0.N) (h0 : ¬t.val % 8 = 0) : @Eq (Vec Ideal S8x128 .f32) (outsAt0 m c t.val t.isLt).2.2.1
    (k0_pay10 (F := Ideal) (iblk m c 0 t) (iblk m c 1 t) (iblk m c 4 t) (iblk m c 2 t) (iblk m c 3 t) (outsAt0 m c (t.val - 1) (Nat.lt_of_le_of_lt (Nat.sub_le _ _) t.isLt)).2.2.1) :=
  (congrArg (fun p => p.2.2.1) (outsAt0_B m c t h0)).trans
    (out_B_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t)
      (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)))

/-- What the first point leaves in the gain's gradient, -/
theorem first_8 (t : Fin cfg0.N) (h0 : t.val % 8 = 0) : @Eq (Vec Ideal S1x2048 .f32) (outsAt0 m c t.val t.isLt).2.2.2
    (k0_pay2 (F := Ideal) (k0_pay8 (F := Ideal) (iblk m c 0 t) (iblk m c 1 t)) (k0_pay9 (F := Ideal) (iblk m c 0 t) (iblk m c 1 t) (iblk m c 4 t) (iblk m c 2 t) (iblk m c 3 t)) (k0_pay5 (F := Ideal))) := by
  rw [outsAt0_A m c t h0]
  dsimp only
  exact (out_A_8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0))

/-- and a later point. -/
theorem next_8 (t : Fin cfg0.N) (h0 : ¬t.val % 8 = 0) : @Eq (Vec Ideal S1x2048 .f32) (outsAt0 m c t.val t.isLt).2.2.2
    (k0_pay2 (F := Ideal) (k0_pay8 (F := Ideal) (iblk m c 0 t) (iblk m c 1 t)) (k0_pay9 (F := Ideal) (iblk m c 0 t) (iblk m c 1 t) (iblk m c 4 t) (iblk m c 2 t) (iblk m c 3 t)) (outsAt0 m c (t.val - 1) (Nat.lt_of_le_of_lt (Nat.sub_le _ _) t.isLt)).2.2.2) := by
  rw [outsAt0_B m c t h0]
  dsimp only
  exact (out_B_8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t)
      (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)))

/-- The loss after point `n`. -/
theorem partial_7 (y : S8x128.Idx) : ∀ (n : ℕ) (hn : n < cfg0.N),
    @Eq EReal ((outsAt0 m c n hn).2.2.1 y) (∑ i ∈ Finset.range (256 * (n + 1)), lossOf m c (Fin.ofNat 2048 i)) := by
  intro n
  induction n with
  | zero =>
    intro hn
    rw [← add_tokens (lossOf m c) 0 hn]
    refine (congrFun (first_7 m c ⟨0, hn⟩ rfl) y).trans ((lossAdd m c ⟨0, hn⟩ _ y).trans (congrArg (· + _) (pay4_apply y)))
  | succ n ih =>
    intro hn
    have h0 : ¬(⟨n + 1, hn⟩ : Fin cfg0.N).val % 8 = 0 := by have hN : cfg0.N = 8 := N_0; show ¬(n + 1) % 8 = 0; omega
    rw [← add_tokens (lossOf m c) (n + 1) hn]
    refine (congrFun (next_7 m c ⟨n + 1, hn⟩ h0) y).trans ((lossAdd m c ⟨n + 1, hn⟩ _ y).trans ?_)
    exact congrArg (· + _) (ih (Nat.lt_of_succ_lt hn))

/-- The gain's gradient after point `n`. -/
theorem partial_8 (d : Fin 2048) : ∀ (n : ℕ) (hn : n < cfg0.N),
    @Eq EReal ((outsAt0 m c n hn).2.2.2 (ix2 (0 : Fin 1) d)) (∑ i ∈ Finset.range (256 * (n + 1)), gainOf m c d (Fin.ofNat 2048 i)) := by
  intro n
  induction n with
  | zero =>
    intro hn
    rw [← add_tokens (gainOf m c d) 0 hn]
    refine (congrFun (first_8 m c ⟨0, hn⟩ rfl) (ix2 (0 : Fin 1) d)).trans ((gainAdd m c ⟨0, hn⟩ _ d).trans (congrArg (· + _) (pay5_apply (ix2 (0 : Fin 1) d))))
  | succ n ih =>
    intro hn
    have h0 : ¬(⟨n + 1, hn⟩ : Fin cfg0.N).val % 8 = 0 := by have hN : cfg0.N = 8 := N_0; show ¬(n + 1) % 8 = 0; omega
    rw [← add_tokens (gainOf m c d) (n + 1) hn]
    refine (congrFun (next_8 m c ⟨n + 1, hn⟩ h0) (ix2 (0 : Fin 1) d)).trans ((gainAdd m c ⟨n + 1, hn⟩ _ d).trans ?_)
    exact congrArg (· + _) (ih (Nat.lt_of_succ_lt hn))

/-- The loss's tile after the run. -/
theorem final_7 : (dats m 0 c).arrAt 7 cfg0.N = losses (V m c main_arg0) (V m c main_arg1) (V m c main_arg2) (V m c main_arg3) (V m c main_arg4) := by
  have h7 : 7 < cfg0.N := by have e : cfg0.N = 8 := N_0; omega
  refine Pipeline.Dat.arrAt_eq_of_cover (dats m 0 c) 7 _ (fun t ht => ?_) (fun i => ?_)
  · funext y
    refine Eq.trans ?_ (congrArg (losses (V m c main_arg0) (V m c main_arg1) (V m c main_arg2) (V m c main_arg3) (V m c main_arg4)) (emb_7 t y)).symm
    rw [Value.flushed7 m c t]
    refine (partial_7 m c y t.val t.isLt).trans ?_
    rw [(flush_facts t).2.2.1.1 ht]
    exact all_tokens (lossOf m c)
  · exact ⟨⟨7, h7⟩, (flush_facts ⟨7, h7⟩).2.2.1.2 rfl, Eq.subst (motive := fun j => j ∈ ((cfg0.win 7).blk ⟨7, h7⟩).view.set) (emb_7 ⟨7, h7⟩ i)
      (((cfg0.win 7).blk ⟨7, h7⟩).view.emb_mem_set i)⟩

/-- The array of the gain's gradient after the run. -/
theorem final_8 : (dats m 0 c).arrAt 8 cfg0.N = gainGrad (V m c main_arg0) (V m c main_arg1) (V m c main_arg2) (V m c main_arg3) (V m c main_arg4) := by
  have h7 : 7 < cfg0.N := by have e : cfg0.N = 8 := N_0; omega
  refine Pipeline.Dat.arrAt_eq_of_cover (dats m 0 c) 8 _ (fun t ht => ?_) (fun i => ?_)
  · funext y
    obtain ⟨d, rfl⟩ : ∃ d : Fin 2048, y = ix2 (0 : Fin 1) d := ⟨y 1, (eq_ix2 y).trans (congrArg (ix2 · (y 1)) (Subsingleton.elim (α := Fin 1) _ _))⟩
    refine Eq.trans ?_ (congrArg (gainGrad (V m c main_arg0) (V m c main_arg1) (V m c main_arg2) (V m c main_arg3) (V m c main_arg4)) (emb_8 t (ix2 (0 : Fin 1) d))).symm
    rw [Value.flushed8 m c t]
    refine (partial_8 m c d t.val t.isLt).trans ?_
    rw [(flush_facts t).2.2.2.1 ht]
    exact all_tokens (gainOf m c d)
  · exact ⟨⟨7, h7⟩, (flush_facts ⟨7, h7⟩).2.2.2.2 rfl, Eq.subst (motive := fun j => j ∈ ((cfg0.win 8).blk ⟨7, h7⟩).view.set) (emb_8 ⟨7, h7⟩ i)
      (((cfg0.win 8).blk ⟨7, h7⟩).view.emb_mem_set i)⟩

end Cert.OutLossIdeal.Hand
-- ==== Proof.LossReference.lean ====
module

public import proofs.«01_k».proof.Proof.LossRow
public import proofs.«01_k».proof.Proof.Gen.OutLossRefIdeal.Read

/-!
The reference's loss and its gradients, entry by entry.
-/

@[expose] public section
set_option maxRecDepth 16384

noncomputable section
namespace Cert.OutLossRefIdeal.Hand
open Cert.OutLossRefIdeal Cert.OutLossRefIdeal.Gen Cert.OutLossRefIdeal.Read
open Idealize.ShloMosaic
open Idealize.ShloMosaic.ValueIdx Cert.DxRow Cert.LossRow

/-- Two places of an array whose coordinates agree. -/
theorem ext2 {a b : ℕ} (i j : (⟨2, ![a, b]⟩ : Shape).Idx) (h0 : (i 0).val = (j 0).val) (h1 : (i 1).val = (j 1).val) : i = j :=
  funext fun q => Fin.ext (match q with | ⟨0, _⟩ => h0 | ⟨1, _⟩ => h1)

variable (M W X T : S2048x2048.Idx → EReal) (G : S1x2048.Idx → EReal)

/-- A sum that begins at the printed zero. -/
theorem zero_sum (a b : EReal) (h : a = b) : (FloatOps.ofBits (F := Ideal) .f32 0x00000000#32 : EReal) + a = b := by
  rw [h]; exact (congrArg (· + b) Ideal.ofBits_zero_f32).trans (zero_add b)

/-- The merged rows' product with the weight. -/
theorem v2_apply (s d : Fin 2048) : @Eq EReal (val_main_v2 (F := Ideal) M W (ix2 s d)) (output (row M s) W d) := by
  refine (val_main_v2_apply M W _).trans (Finset.sum_congr rfl fun k _ => ?_)
  rw [val_main_v0_apply, val_main_v1_apply]
  exact congrArg₂ (· * ·) (congrArg M (ext2 _ _ rfl rfl)) (congrArg W (ext2 _ _ rfl rfl))

/-- The mean square of a row of it. -/
theorem v9_apply (s : Fin 2048) : @Eq EReal (val_main_v9 (F := Ideal) M W (ix2 s (0 : Fin 1))) (meanSq (output (row M s) W)) := by
  rw [val_main_v9_apply, val_main_v7_apply, val_main_v8_apply, val_main_v6_apply, val_main_v5_apply]
  refine congrArg (· + _) (congrArg (Ideal.div · _) ((val_main_v4_apply M W _).trans (zero_sum _ _ (Finset.sum_congr rfl fun k _ => ?_))))
  have e : idx_main_v4 (idx_main_v5 (ix2 s (0 : Fin 1))) k = ix2 s k := ext2 _ _ rfl rfl
  rw [e, val_main_v3_apply]
  exact congrArg₂ (· * ·) (v2_apply M W s k) (v2_apply M W s k)

/-- The inverse root. -/
theorem v10_apply (s : Fin 2048) : @Eq EReal (val_main_v10 (F := Ideal) M W (ix2 s (0 : Fin 1))) (invRoot (output (row M s) W)) := by
  unfold invRoot
  rw [val_main_v10_apply, Ideal.hostUnary_rsqrt_def]
  exact congrArg Ideal.rsqrt (v9_apply M W s)

/-- The norm. -/
theorem v15_apply (s d : Fin 2048) : @Eq EReal (val_main_v15 (F := Ideal) M W (ix2 s d)) (normed (row M s) W d) := by
  rw [val_main_v15_apply, val_main_v14_apply]
  refine congrArg₂ (· * ·) (v2_apply M W s d) ?_
  rw [show idx_main_v14 (ix2 s d) = ix2 s (0 : Fin 1) from ext2 _ _ rfl rfl]
  exact v10_apply M W s

/-- The error. -/
theorem v19_apply (s d : Fin 2048) :
    @Eq EReal (val_main_v19 (F := Ideal) M W X T G (ix2 s d)) (error (row M s) W (row X s) (row G 0) (row T s) d) := by
  rw [val_main_v19_apply, val_main_v18_apply, val_main_v17_apply, val_main_v16_apply]
  exact congrArg (· - row T s d) (congrArg (row X s d + ·) (congrArg₂ (· * ·) (v15_apply M W s d) (congrArg G (ext2 _ _ rfl rfl))))

/-- The mean square of a token's error. -/
theorem v25_apply (s : Fin 2048) : @Eq EReal (val_main_v25 (F := Ideal) M W X T G (ix1 s))
    (Ideal.div (square (row M s) W (row X s) (row G 0) (row T s)) (Ideal.ofBits .f32 0x45000000#32)) := by
  rw [val_main_v25_apply, val_main_v24_apply]
  refine congrArg (Ideal.div · _) ((val_main_v23_apply M W X T G (ix1 s)).trans (zero_sum _ _ (Finset.sum_congr rfl fun k _ => ?_)))
  rw [show idx_main_v23 (ix1 s) k = ix2 s k from ext2 _ _ rfl rfl, val_main_v20_apply]
  exact congrArg₂ (· * ·) (v19_apply M W X T G s k) (v19_apply M W X T G s k)

/-- The tokens, as places of a vector. -/
def places : S2048.Idx ≃ Fin 2048 where
  toFun j := j 0
  invFun s := ix1 s
  left_inv j := funext fun a => match a with | ⟨0, _⟩ => rfl
  right_inv _ := rfl

/-- The sum of the means. -/
theorem v26_apply (j : S_.Idx) : @Eq EReal (val_main_v26 (F := Ideal) M W X T G j)
    (∑ s : Fin 2048, Ideal.div (square (row M s) W (row X s) (row G 0) (row T s)) (Ideal.ofBits .f32 0x45000000#32)) := by
  refine (val_main_v26_apply M W X T G j).trans (zero_sum _ _ (Fintype.sum_equiv places _ _ fun i => ?_))
  obtain ⟨s, rfl⟩ : ∃ s : Fin 2048, i = ix1 s := ⟨places i, (places.left_inv i).symm⟩
  exact v25_apply M W X T G s

/-- The loss before it is spread over the tile. -/
theorem v27_apply (j : S_.Idx) : @Eq EReal (val_main_v27 (F := Ideal) M W X T G j)
    (∑ s : Fin 2048, lossTerm (row M s) W (row X s) (row G 0) (row T s)) := by
  rw [val_main_v27_apply]
  refine Eq.trans (congrArg (Ideal.ofBits .f32 0x3F000000#32 * ·) (v26_apply M W X T G j)) ?_
  exact half_sum_means Finset.univ (fun s : Fin 2048 => square (row M s) W (row X s) (row G 0) (row T s)) fun s => square_nonneg _ _ _ _ _

/-- The loss. -/
theorem v54_eq : val_main_v54 (F := Ideal) M W X T G = losses M W X T G := by
  funext y
  rw [val_main_v54_apply]
  exact v27_apply M W X T G _

/-- An entry of the output's gradient. -/
theorem v33_apply (s d : Fin 2048) :
    @Eq EReal (val_main_v33 (F := Ideal) M W X T G (ix2 s d)) (step (row M s) W (row X s) (row G 0) (row T s) d) := by
  rw [val_main_v33_apply, val_main_v22_apply, val_main_v21_apply, val_main_v32_apply, val_main_v31_apply, val_main_v30_apply, val_main_v29_apply,
    val_main_v28_apply]
  refine Eq.trans ?_ (step_reference (error (row M s) W (row X s) (row G 0) (row T s) d))
  exact congrArg (_ * ·) (congrArg (_ * ·) (v19_apply M W X T G s d))

/-- The output's gradient. -/
theorem v33_eq : val_main_v33 (F := Ideal) M W X T G = steps M W X T G := by
  funext y
  obtain ⟨s, d, rfl⟩ : ∃ (s d : Fin 2048), y = ix2 s d := ⟨y 0, y 1, eq_ix2 y⟩
  exact v33_apply M W X T G s d

/-- The gain's gradient. -/
theorem v36_eq : val_main_v36 (F := Ideal) M W X T G = gainGrad M W X T G := by
  funext y
  obtain ⟨u, d, rfl⟩ : ∃ (u : Fin 1) (d : Fin 2048), y = ix2 u d := ⟨y 0, y 1, eq_ix2 y⟩
  rw [val_main_v36_apply]
  refine (val_main_v35_apply M W X T G _).trans (zero_sum _ _ (Finset.sum_congr rfl fun s _ => ?_))
  have e : idx_main_v35 (idx_main_v36 (ix2 u d)) s = ix2 s d :=
    ext2 _ _ rfl (by show u.val * 2048 + d.val = d.val; omega)
  rw [e, val_main_v34_apply]
  exact (mul_comm _ _).trans (congrArg₂ (· * ·) (v33_apply M W X T G s d) (v15_apply M W s d))

/-- The cotangent through the gain. -/
theorem v38_apply (s d : Fin 2048) :
    @Eq EReal (val_main_v38 (F := Ideal) M W X T G (ix2 s d)) (step (row M s) W (row X s) (row G 0) (row T s) d * row G 0 d) := by
  rw [val_main_v38_apply, val_main_v37_apply]
  exact congrArg₂ (· * ·) (v33_apply M W X T G s d) (congrArg G (ext2 _ _ rfl rfl))

/-- The derivative of the mean square along the cotangent, over the number of columns. -/
theorem v46_apply (s : Fin 2048) : @Eq EReal (val_main_v46 (F := Ideal) M W X T G (ix2 s (0 : Fin 1)))
    (slope (output (row M s) W) (step (row M s) W (row X s) (row G 0) (row T s)) (row G 0)) := by
  rw [val_main_v46_apply, val_main_v45_apply, val_main_v44_apply, val_main_v41_apply, val_main_v13_apply, val_main_v12_apply, val_main_v11_apply]
  refine congrArg (Ideal.div · _) (congrArg₂ (· * ·) ((val_main_v40_apply M W X T G _).trans (zero_sum _ _ (Finset.sum_congr rfl fun k _ => ?_)))
    (congrArg (_ * ·) (congrArg₂ Ideal.div (v10_apply M W s) (v9_apply M W s))))
  have e : idx_main_v40 (idx_main_v41 (ix2 s (0 : Fin 1))) k = ix2 s k := ext2 _ _ (by show s.val * 1 + 0 = s.val; omega) rfl
  rw [e, val_main_v39_apply]
  exact congrArg₂ (· * ·) (v2_apply M W s k) (v38_apply M W X T G s k)

/-- The same, spread over a row. -/
theorem v48_apply (s d : Fin 2048) : @Eq EReal (val_main_v48 (F := Ideal) M W X T G (ix2 s d))
    (slope (output (row M s) W) (step (row M s) W (row X s) (row G 0) (row T s)) (row G 0)) := by
  rw [val_main_v48_apply]
  refine (val_main_v47_apply M W X T G _).trans (zero_sum _ _ ?_)
  rw [Fin.sum_univ_one, show idx_main_v47 (idx_main_v48 (ix2 s d)) 0 = ix2 s (0 : Fin 1) from ext2 _ _ rfl rfl]
  exact v46_apply M W X T G s

/-- An entry of the product's gradient. -/
theorem v53_apply (s d : Fin 2048) : @Eq EReal (val_main_v53 (F := Ideal) M W X T G (ix2 s d))
    (referenceRow (output (row M s) W) (step (row M s) W (row X s) (row G 0) (row T s)) (row G 0) 0 d) := by
  rw [val_main_v53_apply, val_main_v52_apply, val_main_v51_apply, val_main_v50_apply, val_main_v49_apply, val_main_v43_apply, val_main_v42_apply]
  unfold referenceRow
  rw [zero_add]
  refine congrArg₂ (· + ·) (congrArg₂ (· + ·) (congrArg₂ (· * ·) (v38_apply M W X T G s d) ?_)
    (congrArg₂ (· * ·) (v2_apply M W s d) (v48_apply M W X T G s d))) (congrArg₂ (· * ·) (v48_apply M W X T G s d) (v2_apply M W s d))
  rw [show idx_main_v42 (ix2 s d) = ix2 s (0 : Fin 1) from ext2 _ _ rfl rfl]
  exact v10_apply M W s

end Cert.OutLossRefIdeal.Hand
-- ==== Proof.OutLoss.lean ====
module

public import proofs.«01_k».proof.Defs
public import proofs.«01_k».proof.Proof.LossSums
public import proofs.«01_k».proof.Proof.LossReference
public import proofs.«01_k».proof.Proof.DxAlgebraic
public import proofs.«01_k».proof.Proof.Gen.OutLossRefIdeal.Run
public import proofs.«01_k».proof.Proof.Gen.Pre_finite_loss

/-!
The loss head: kernel and reference compute the same loss and the same gradients over the extended reals.
-/

@[expose] public section
set_option maxRecDepth 16384

noncomputable section
namespace Cert.LossRow
open Idealize.ShloMosaic hiding ix2 ix1 eq_ix2
open Idealize.ShloMosaic.ValueIdx Cert.DxRow

/-! ## Real entries -/

theorem isReal_coe (r : ℝ) : IsReal (r : EReal) := by unfold IsReal; rw [EReal.toReal_coe]

theorem real_add {a b : EReal} (ha : IsReal a) (hb : IsReal b) : IsReal (a + b) := by
  rw [ha, hb, ← EReal.coe_add]; exact isReal_coe _
theorem real_sub {a b : EReal} (ha : IsReal a) (hb : IsReal b) : IsReal (a - b) := by
  rw [ha, hb, ← EReal.coe_sub]; exact isReal_coe _
theorem real_mul {a b : EReal} (ha : IsReal a) (hb : IsReal b) : IsReal (a * b) := by
  rw [ha, hb, ← EReal.coe_mul]; exact isReal_coe _
theorem isReal_sum {n : ℕ} (f : Fin n → EReal) (h : ∀ i, IsReal (f i)) : IsReal (∑ i, f i) := by
  rw [show f = fun i => ((f i).toReal : EReal) from funext h, Cert.Mem.coe_sum]; exact isReal_coe _

/-- The inverse root of a real row is a real number. -/
theorem isReal_invRoot (X : Fin 2048 → EReal) (h : ∀ j, IsReal (X j)) : IsReal (invRoot X) := by
  rw [show X = fun j => ((X j).toReal : EReal) from funext h, invRoot_coe]; exact isReal_coe _

section
variable (m : Fin 2048 → EReal) (W : (⟨2, ![2048, 2048]⟩ : Shape).Idx → EReal) (x g t : Fin 2048 → EReal)
  (hm : ∀ j, IsReal (m j)) (hW : ∀ i, IsReal (W i)) (hx : ∀ j, IsReal (x j)) (hg : ∀ j, IsReal (g j)) (ht : ∀ j, IsReal (t j))
include hm hW

theorem isReal_output (d : Fin 2048) : IsReal (output m W d) := isReal_sum _ fun k => real_mul (hm k) (hW _)

theorem isReal_normed (d : Fin 2048) : IsReal (normed m W d) :=
  real_mul (isReal_output m W hm hW d) (isReal_invRoot _ (isReal_output m W hm hW))

include hx hg ht

theorem isReal_step (d : Fin 2048) : IsReal (step m W x g t d) :=
  real_mul (real_sub (real_add (hx d) (real_mul (isReal_normed m W hm hW d) (hg d))) (ht d)) (by rw [ofBits_mean]; exact isReal_coe _)

/-- The reference's entry of the product's gradient is the kernel's. -/
theorem productGrad_eq (d : Fin 2048) : referenceRow (output m W) (step m W x g t) g 0 d = productGrad m W x g t d := by
  unfold productGrad
  have hO : output m W = fun j => ((output m W j).toReal : EReal) := funext (isReal_output m W hm hW)
  have hS : step m W x g t = fun j => ((step m W x g t j).toReal : EReal) := funext (isReal_step m W x g t hm hW hx hg ht)
  have hG : g = fun j => ((g j).toReal : EReal) := funext hg
  generalize output m W = o at *
  generalize step m W x g t = s at *
  rw [hO, hS, hG]
  exact (rows_eq _ _ _ 0 d).symm

end

/-- The reference's array of the product's gradient is the kernel's, on real arguments. -/
theorem products_eq (M W X T : (⟨2, ![2048, 2048]⟩ : Shape).Idx → EReal) (G : (⟨2, ![1, 2048]⟩ : Shape).Idx → EReal)
    (hM : ∀ i, IsReal (M i)) (hW : ∀ i, IsReal (W i)) (hX : ∀ i, IsReal (X i)) (hT : ∀ i, IsReal (T i)) (hG : ∀ i, IsReal (G i)) :
    Cert.OutLossRefIdeal.Read.val_main_v53 (F := Idealize.ShloMosaic.Ideal) M W X T G = productGrads M W X T G := by
  funext y
  obtain ⟨s, d, rfl⟩ : ∃ (s d : Fin 2048), y = ix2 s d := ⟨y 0, y 1, eq_ix2 y⟩
  exact (Cert.OutLossRefIdeal.Hand.v53_apply M W X T G s d).trans
    (productGrad_eq _ W _ _ _ (fun j => hM (ix2 s j)) hW (fun j => hX (ix2 s j)) (fun j => hG (ix2 0 j)) (fun j => hT (ix2 s j)) d)

end Cert.LossRow

namespace Cert.Proof
open Idealize.ShloMosaic Idealize.ShloMosaic.TcCoe Idealize.SL.Sem

/-- The loss head's loss and gradients, kernel and reference. -/
theorem algebraic_loss :
    @Cert.algebraic_OutLossIdeal_OutLossRefIdeal_pre_finite_loss Cert.OutLossIdeal.Gen.facts Cert.OutLossRefIdeal.Gen.facts Cert.Pre_finite_loss.Gen.facts := by
  pair_intro
  · run_from Cert.OutLossIdeal.Value.run_blocks m g
  · refine (θ_run _ _ _).mono (fun r hr c => ?_) (Cert.OutLossRefIdeal.Value.run m' g')
    obtain ⟨r0, r1, r2, r3, ra⟩ := hr c
    obtain ⟨a0, a1, a2, a3, a4⟩ := hagree c
    have h0 := fun i => real_of_abs_lt (m ((c.tc : Thread Cert.OutLossIdeal.nD Cert.OutLossIdeal.τ).loc Cert.OutLossIdeal.main_arg0) i) (congrFun (hpre c).1 i)
    have h1 := fun i => real_of_abs_lt (m ((c.tc : Thread Cert.OutLossIdeal.nD Cert.OutLossIdeal.τ).loc Cert.OutLossIdeal.main_arg1) i) (congrFun (hpre c).2.1 i)
    have h2 := fun i => real_of_abs_lt (m ((c.tc : Thread Cert.OutLossIdeal.nD Cert.OutLossIdeal.τ).loc Cert.OutLossIdeal.main_arg2) i) (congrFun (hpre c).2.2.1 i)
    have h3 := fun i => real_of_abs_lt (m ((c.tc : Thread Cert.OutLossIdeal.nD Cert.OutLossIdeal.τ).loc Cert.OutLossIdeal.main_arg3) i) (congrFun (hpre c).2.2.2.1 i)
    have h4 := fun i => real_of_abs_lt (m ((c.tc : Thread Cert.OutLossIdeal.nD Cert.OutLossIdeal.τ).loc Cert.OutLossIdeal.main_arg4) i) (congrFun (hpre c).2.2.2.2 i)
    refine ⟨r0.trans ?_, r1.trans ?_, r2.trans ?_, r3.trans ?_, ra⟩
    · rw [Cert.OutLossRefIdeal.Read.val_main_v53_eq, a0, a1, a2, a3, a4]
      exact (Cert.LossRow.products_eq _ _ _ _ _ h0 h1 h2 h3 h4).trans (Cert.OutLossIdeal.Hand.final_5 m c).symm
    · rw [Cert.OutLossRefIdeal.Read.val_main_v33_eq, a0, a1, a2, a3, a4]
      exact (Cert.OutLossRefIdeal.Hand.v33_eq _ _ _ _ _).trans (Cert.OutLossIdeal.Hand.final_6 m c).symm
    · rw [Cert.OutLossRefIdeal.Read.val_main_v54_eq, a0, a1, a2, a3, a4]
      exact (Cert.OutLossRefIdeal.Hand.v54_eq _ _ _ _ _).trans (Cert.OutLossIdeal.Hand.final_7 m c).symm
    · rw [Cert.OutLossRefIdeal.Read.val_main_v36_eq, a0, a1, a2, a3, a4]
      exact (Cert.OutLossRefIdeal.Hand.v36_eq _ _ _ _ _).trans (Cert.OutLossIdeal.Hand.final_8 m c).symm

end Cert.Proof
-- ==== Proof.DyAlgebraic.lean ====
module

public import proofs.«01_k».proof.Defs
public import proofs.«01_k».proof.Proof.DyFrame
public import proofs.«01_k».proof.Proof.Gen.DyBrRefIdeal.Run
public import proofs.«01_k».proof.Proof.Gen.DyBrRefIdeal.Read
public import proofs.«01_k».proof.Proof.Products
public import Idealize.ShloMosaic.Lib.Pipeline.ValueKit
public import Idealize.ShloMosaic.Lib.KernelVsHost

/-!
The branches' cotangents, kernel and reference: each is the product of the cotangent of the branch's projection with the
branch's weight. A branch's four points compute its rows 512 at a time.
-/

@[expose] public section
set_option maxRecDepth 16384

noncomputable section
namespace Cert.DyBrIdeal.Hand
open Cert.DyBrIdeal Cert.DyBrIdeal.Gen Cert.DyBrIdeal.Run
open Idealize.ShloMosaic hiding ix2 ix1 eq_ix2
open Idealize.ShloMosaic.TcCoe Idealize.ShloMosaic.ValueIdx Idealize.SL.Sem Cert.Products

/-- A branch's cotangent. -/
def taken (x : S2048x2048.Idx → EReal) (w : S2048x1024.Idx → EReal) (i : S2048x1024.Idx) : EReal := ∑ k : Fin 2048, x (ix2 (i 0) k) * w (ix2 k (i 1))

/-! ## One block -/

section
variable (x : Vec Ideal S512x2048 .bf16) (w : Vec Ideal S2048x1024 .bf16) (r : Fin 512) (d : Fin 1024)

/-- The product of a block of rows and the weight, the same for every branch. -/
theorem product_1 : @Eq EReal (k0_pay1 x w (ix2 r d)) (∑ k : Fin 2048, (x (ix2 r k) : EReal) * w (ix2 k d)) := by
  unfold k0_pay1
  exact entry_sum dot_S512x2048_S2048x1024_S512x1024_1_0_0_1_n_n 2048 rfl rfl x w (ix2 r d) (fun k => ix2 r k) (fun k => ix2 k d)
    (fun k => funext fun a => match a with | ⟨0, _⟩ => rfl | ⟨1, _⟩ => rfl) (fun k => funext fun a => match a with | ⟨0, _⟩ => rfl | ⟨1, _⟩ => rfl)
theorem product_2 : @Eq EReal (k0_pay2 x w (ix2 r d)) (∑ k : Fin 2048, (x (ix2 r k) : EReal) * w (ix2 k d)) := product_1 x w r d
theorem product_3 : @Eq EReal (k0_pay3 x w (ix2 r d)) (∑ k : Fin 2048, (x (ix2 r k) : EReal) * w (ix2 k d)) := product_1 x w r d
end

/-! ## Where the blocks lie -/

/-- The block of rows of branch `b` at a point: its own four points go through them, before them it is the first and after them the last. -/
def slot (b : ℕ) (t : Fin cfg0.N) : Fin 4 := if t.val / 4 = b then ⟨t.val % 4, by omega⟩ else if t.val / 4 < b then 0 else 3

/-- The blocks the rows stage and the results go to. -/
theorem row_facts : ∀ t : Fin cfg0.N, win0_0.index t = ![(slot 0 t).val, 0] ∧ win0_1.index t = ![(slot 1 t).val, 0] ∧ win0_2.index t = ![(slot 2 t).val, 0]
    ∧ win0_6.index t = ![(slot 0 t).val, 0] ∧ win0_7.index t = ![(slot 1 t).val, 0] ∧ win0_8.index t = ![(slot 2 t).val, 0] :=
  (by decide +kernel : ∀ t : Fin grid0.N, _)

/-- Every point stages the weights whole. -/
theorem weight_facts : ∀ t : Fin cfg0.N, win0_3.index t = ![0, 0] ∧ win0_4.index t = ![0, 0] ∧ win0_5.index t = ![0, 0] :=
  (by decide +kernel : ∀ t : Fin grid0.N, _)

/-- Every block of a branch's results is written back at some point. -/
theorem written : ∀ j : Fin 4, (∃ t : Fin cfg0.N, (cfg0.win 6).flush t = true ∧ slot 0 t = j) ∧ (∃ t : Fin cfg0.N, (cfg0.win 7).flush t = true ∧ slot 1 t = j)
    ∧ (∃ t : Fin cfg0.N, (cfg0.win 8).flush t = true ∧ slot 2 t = j) :=
  (by decide +kernel : ∀ j : Fin 4, (∃ t : Fin grid0.N, _) ∧ (∃ t : Fin grid0.N, _) ∧ (∃ t : Fin grid0.N, _))

/-- Row `r` of a block. -/
def rowAt (j : Fin 4) (r : Fin 512) : Fin 2048 := ⟨512 * j.val + r.val, by omega⟩

/-- Every entry of the results lies in one block. -/
theorem block_cover (i : S2048x1024.Idx) : ∃ (j : Fin 4) (r : Fin 512) (d : Fin 1024), i = ix2 (rowAt j r) d := by
  obtain ⟨i, d, rfl⟩ : ∃ (a : Fin 2048) (d : Fin 1024), i = ix2 a d := ⟨i 0, i 1, eq_ix2 i⟩
  exact ⟨⟨i.val / 512, by omega⟩, ⟨i.val % 512, by omega⟩, d, congrArg (ix2 · d) (Fin.ext (by show i.val = 512 * (i.val / 512) + i.val % 512; omega))⟩

/-- A place with the coordinates of a block's place is that place. -/
theorem block_entry {n : ℕ} (j : Fin 4) (r : Fin 512) (d : Fin n) (y : (⟨2, ![2048, n]⟩ : Shape).Idx) (h : (y 0).val = j.val * 512 + r.val)
    (h' : (y 1).val = 0 * n + d.val) : y = ix2 (rowAt j r) d :=
  funext fun a => Fin.ext (match a with
    | ⟨0, _⟩ => h.trans (by show _ = 512 * j.val + r.val; omega)
    | ⟨1, _⟩ => h'.trans (by show _ = d.val; omega))

/-- The same in the weights. -/
theorem weight_entry (k : Fin 2048) (d : Fin 1024) (y : S2048x1024.Idx) (h : (y 0).val = 0 * 2048 + k.val) (h' : (y 1).val = 0 * 1024 + d.val) : y = ix2 k d :=
  funext fun a => Fin.ext (match a with
    | ⟨0, _⟩ => h.trans (by show _ = k.val; omega)
    | ⟨1, _⟩ => h'.trans (by show _ = d.val; omega))

section
variable (m : (ℓ : Loc nD τ sig) → Buf (Elt Ideal) ℓ) (c : Dev nD)

/-- The blocks of rows, read where their arrays have them, -/
theorem iblk_0 (t : Fin cfg0.N) (r : Fin 512) (k : Fin 2048) : (iblk m c 0 t : Vec Ideal S512x2048 .bf16) (ix2 r k) = V m c main_arg0 (ix2 (rowAt (slot 0 t) r) k) :=
  congrArg (V m c main_arg0) (block_entry _ r k _ ((Pipeline.Window.rect_emb_val win0_0 t (ix2 r k) 0).trans (by rw [(row_facts t).1]; rfl))
    ((Pipeline.Window.rect_emb_val win0_0 t (ix2 r k) 1).trans (by rw [(row_facts t).1]; rfl)))
theorem iblk_1 (t : Fin cfg0.N) (r : Fin 512) (k : Fin 2048) : (iblk m c 1 t : Vec Ideal S512x2048 .bf16) (ix2 r k) = V m c main_arg1 (ix2 (rowAt (slot 1 t) r) k) :=
  congrArg (V m c main_arg1) (block_entry _ r k _ ((Pipeline.Window.rect_emb_val win0_1 t (ix2 r k) 0).trans (by rw [(row_facts t).2.1]; rfl))
    ((Pipeline.Window.rect_emb_val win0_1 t (ix2 r k) 1).trans (by rw [(row_facts t).2.1]; rfl)))
theorem iblk_2 (t : Fin cfg0.N) (r : Fin 512) (k : Fin 2048) : (iblk m c 2 t : Vec Ideal S512x2048 .bf16) (ix2 r k) = V m c main_arg2 (ix2 (rowAt (slot 2 t) r) k) :=
  congrArg (V m c main_arg2) (block_entry _ r k _ ((Pipeline.Window.rect_emb_val win0_2 t (ix2 r k) 0).trans (by rw [(row_facts t).2.2.1]; rfl))
    ((Pipeline.Window.rect_emb_val win0_2 t (ix2 r k) 1).trans (by rw [(row_facts t).2.2.1]; rfl)))

/-- the weights, -/
theorem iblk_3 (t : Fin cfg0.N) (k : Fin 2048) (d : Fin 1024) : (iblk m c 3 t : Vec Ideal S2048x1024 .bf16) (ix2 k d) = V m c main_arg3 (ix2 k d) :=
  congrArg (V m c main_arg3) (weight_entry k d _ ((Pipeline.Window.rect_emb_val win0_3 t (ix2 k d) 0).trans (by rw [(weight_facts t).1]; rfl))
    ((Pipeline.Window.rect_emb_val win0_3 t (ix2 k d) 1).trans (by rw [(weight_facts t).1]; rfl)))
theorem iblk_4 (t : Fin cfg0.N) (k : Fin 2048) (d : Fin 1024) : (iblk m c 4 t : Vec Ideal S2048x1024 .bf16) (ix2 k d) = V m c main_arg4 (ix2 k d) :=
  congrArg (V m c main_arg4) (weight_entry k d _ ((Pipeline.Window.rect_emb_val win0_4 t (ix2 k d) 0).trans (by rw [(weight_facts t).2.1]; rfl))
    ((Pipeline.Window.rect_emb_val win0_4 t (ix2 k d) 1).trans (by rw [(weight_facts t).2.1]; rfl)))
theorem iblk_5 (t : Fin cfg0.N) (k : Fin 2048) (d : Fin 1024) : (iblk m c 5 t : Vec Ideal S2048x1024 .bf16) (ix2 k d) = V m c main_arg5 (ix2 k d) :=
  congrArg (V m c main_arg5) (weight_entry k d _ ((Pipeline.Window.rect_emb_val win0_5 t (ix2 k d) 0).trans (by rw [(weight_facts t).2.2]; rfl))
    ((Pipeline.Window.rect_emb_val win0_5 t (ix2 k d) 1).trans (by rw [(weight_facts t).2.2]; rfl)))

/-- and where the blocks of results go. -/
theorem emb_6 (t : Fin cfg0.N) (r : Fin 512) (d : Fin 1024) : ((cfg0.win 6).blk t).view.emb (ix2 r d) = ix2 (rowAt (slot 0 t) r) d :=
  block_entry _ r d _ ((Pipeline.Window.rect_emb_val win0_6 t (ix2 r d) 0).trans (by rw [(row_facts t).2.2.2.1]; rfl))
    ((Pipeline.Window.rect_emb_val win0_6 t (ix2 r d) 1).trans (by rw [(row_facts t).2.2.2.1]; rfl))
theorem emb_7 (t : Fin cfg0.N) (r : Fin 512) (d : Fin 1024) : ((cfg0.win 7).blk t).view.emb (ix2 r d) = ix2 (rowAt (slot 1 t) r) d :=
  block_entry _ r d _ ((Pipeline.Window.rect_emb_val win0_7 t (ix2 r d) 0).trans (by rw [(row_facts t).2.2.2.2.1]; rfl))
    ((Pipeline.Window.rect_emb_val win0_7 t (ix2 r d) 1).trans (by rw [(row_facts t).2.2.2.2.1]; rfl))
theorem emb_8 (t : Fin cfg0.N) (r : Fin 512) (d : Fin 1024) : ((cfg0.win 8).blk t).view.emb (ix2 r d) = ix2 (rowAt (slot 2 t) r) d :=
  block_entry _ r d _ ((Pipeline.Window.rect_emb_val win0_8 t (ix2 r d) 0).trans (by rw [(row_facts t).2.2.2.2.2]; rfl))
    ((Pipeline.Window.rect_emb_val win0_8 t (ix2 r d) 1).trans (by rw [(row_facts t).2.2.2.2.2]; rfl))

/-- The three arrays after the run. -/
theorem final_6 : (dats m 0 c).arrAt 6 cfg0.N = taken (V m c main_arg0) (V m c main_arg3) := by
  refine Pipeline.Dat.arrAt_eq_of_cover (dats m 0 c) 6 _ (fun t _ => ?_) (fun i => ?_)
  · funext y
    obtain ⟨r, d, rfl⟩ : ∃ (r : Fin 512) (d : Fin 1024), y = ix2 r d := ⟨y 0, y 1, eq_ix2 y⟩
    refine Eq.trans ?_ (congrArg (taken (V m c main_arg0) (V m c main_arg3)) (emb_6 t r d)).symm
    rw [show (dats m 0 c).flushed 6 t = (cfg0.win 6).cut (grid0.coords t) (k0_pay1 (iblk m c 0 t) (iblk m c 3 t)) from
      congrArg ((cfg0.win 6).cut (grid0.coords t)) (after_6 m c t)]
    exact (product_1 _ _ r d).trans (Finset.sum_congr rfl fun k _ => congrArg₂ (· * ·) (iblk_0 m c t r k) (iblk_3 m c t k d))
  · obtain ⟨j, r, d, rfl⟩ := block_cover i
    obtain ⟨t, hf, rfl⟩ := (written j).1
    exact ⟨t, hf, Eq.subst (motive := fun j => j ∈ ((cfg0.win 6).blk t).view.set) (emb_6 t r d) (((cfg0.win 6).blk t).view.emb_mem_set (ix2 r d))⟩

theorem final_7 : (dats m 0 c).arrAt 7 cfg0.N = taken (V m c main_arg1) (V m c main_arg4) := by
  refine Pipeline.Dat.arrAt_eq_of_cover (dats m 0 c) 7 _ (fun t _ => ?_) (fun i => ?_)
  · funext y
    obtain ⟨r, d, rfl⟩ : ∃ (r : Fin 512) (d : Fin 1024), y = ix2 r d := ⟨y 0, y 1, eq_ix2 y⟩
    refine Eq.trans ?_ (congrArg (taken (V m c main_arg1) (V m c main_arg4)) (emb_7 t r d)).symm
    rw [show (dats m 0 c).flushed 7 t = (cfg0.win 7).cut (grid0.coords t) (k0_pay2 (iblk m c 1 t) (iblk m c 4 t)) from
      congrArg ((cfg0.win 7).cut (grid0.coords t)) (after_7 m c t)]
    exact (product_2 _ _ r d).trans (Finset.sum_congr rfl fun k _ => congrArg₂ (· * ·) (iblk_1 m c t r k) (iblk_4 m c t k d))
  · obtain ⟨j, r, d, rfl⟩ := block_cover i
    obtain ⟨t, hf, rfl⟩ := (written j).2.1
    exact ⟨t, hf, Eq.subst (motive := fun j => j ∈ ((cfg0.win 7).blk t).view.set) (emb_7 t r d) (((cfg0.win 7).blk t).view.emb_mem_set (ix2 r d))⟩

theorem final_8 : (dats m 0 c).arrAt 8 cfg0.N = taken (V m c main_arg2) (V m c main_arg5) := by
  refine Pipeline.Dat.arrAt_eq_of_cover (dats m 0 c) 8 _ (fun t _ => ?_) (fun i => ?_)
  · funext y
    obtain ⟨r, d, rfl⟩ : ∃ (r : Fin 512) (d : Fin 1024), y = ix2 r d := ⟨y 0, y 1, eq_ix2 y⟩
    refine Eq.trans ?_ (congrArg (taken (V m c main_arg2) (V m c main_arg5)) (emb_8 t r d)).symm
    rw [show (dats m 0 c).flushed 8 t = (cfg0.win 8).cut (grid0.coords t) (k0_pay3 (iblk m c 2 t) (iblk m c 5 t)) from
      congrArg ((cfg0.win 8).cut (grid0.coords t)) (after_8 m c t)]
    exact (product_3 _ _ r d).trans (Finset.sum_congr rfl fun k _ => congrArg₂ (· * ·) (iblk_2 m c t r k) (iblk_5 m c t k d))
  · obtain ⟨j, r, d, rfl⟩ := block_cover i
    obtain ⟨t, hf, rfl⟩ := (written j).2.2
    exact ⟨t, hf, Eq.subst (motive := fun j => j ∈ ((cfg0.win 8).blk t).view.set) (emb_8 t r d) (((cfg0.win 8).blk t).view.emb_mem_set (ix2 r d))⟩

/-- The run with the three result arrays named and the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)
end

/-! ## The reference -/

section
open Cert.DyBrRefIdeal Cert.DyBrRefIdeal.Read Cert.DyBrRefIdeal.Gen
variable (x : S2048x2048.Idx → EReal) (w : S2048x1024.Idx → EReal)

/-- The reference's cotangents, the weights transposed there and back. -/
theorem reference_0 : val_main_v15 (F := Ideal) x w = taken x w := by
  funext y
  obtain ⟨s, d, rfl⟩ : ∃ (s : Fin 2048) (d : Fin 1024), y = ix2 s d := ⟨y 0, y 1, eq_ix2 y⟩
  refine (val_main_v15_apply x w _).trans (Finset.sum_congr rfl fun k _ => congrArg₂ (· * ·)
    (congrArg x (funext fun a => match a with | ⟨0, _⟩ => rfl | ⟨1, _⟩ => rfl)) ((val_main_v2_apply (F := Ideal) w _).trans
      (congrArg w (funext fun a => match a with | ⟨0, _⟩ => rfl | ⟨1, _⟩ => rfl))))
theorem reference_1 : val_main_v14 (F := Ideal) x w = taken x w := by
  funext y
  obtain ⟨s, d, rfl⟩ : ∃ (s : Fin 2048) (d : Fin 1024), y = ix2 s d := ⟨y 0, y 1, eq_ix2 y⟩
  refine (val_main_v14_apply x w _).trans (Finset.sum_congr rfl fun k _ => congrArg₂ (· * ·)
    (congrArg x (funext fun a => match a with | ⟨0, _⟩ => rfl | ⟨1, _⟩ => rfl)) ((val_main_v5_apply (F := Ideal) w _).trans
      (congrArg w (funext fun a => match a with | ⟨0, _⟩ => rfl | ⟨1, _⟩ => rfl))))
theorem reference_2 : val_main_v13 (F := Ideal) x w = taken x w := by
  funext y
  obtain ⟨s, d, rfl⟩ : ∃ (s : Fin 2048) (d : Fin 1024), y = ix2 s d := ⟨y 0, y 1, eq_ix2 y⟩
  refine (val_main_v13_apply x w _).trans (Finset.sum_congr rfl fun k _ => congrArg₂ (· * ·)
    (congrArg x (funext fun a => match a with | ⟨0, _⟩ => rfl | ⟨1, _⟩ => rfl)) ((val_main_v8_apply (F := Ideal) w _).trans
      (congrArg w (funext fun a => match a with | ⟨0, _⟩ => rfl | ⟨1, _⟩ => rfl))))
end
end Cert.DyBrIdeal.Hand

namespace Cert.Proof
open Idealize.ShloMosaic Idealize.ShloMosaic.TcCoe Idealize.SL.Sem

/-- The branches' cotangents, kernel and reference. -/
theorem algebraic_dy : @Cert.algebraic_DyBrIdeal_DyBrRefIdeal Cert.DyBrIdeal.Gen.facts Cert.DyBrRefIdeal.Gen.facts := by
  pair_intro
  · run_from Cert.DyBrIdeal.Hand.run_arrays m g
  · refine (θ_run _ _ _).mono (fun r hr c => ?_) (Cert.DyBrRefIdeal.Value.run m' g')
    obtain ⟨r0, r1, r2, ra⟩ := hr c
    obtain ⟨a0, a1, a2, a3, a4, a5⟩ := hagree c
    refine ⟨r0.trans ?_, r1.trans ?_, r2.trans ?_, ra⟩
    · rw [Cert.DyBrRefIdeal.Read.val_main_v15_eq, a0, a3]
      exact (Cert.DyBrIdeal.Hand.reference_0 _ _).trans (Cert.DyBrIdeal.Hand.final_6 m c).symm
    · rw [Cert.DyBrRefIdeal.Read.val_main_v14_eq, a1, a4]
      exact (Cert.DyBrIdeal.Hand.reference_1 _ _).trans (Cert.DyBrIdeal.Hand.final_7 m c).symm
    · rw [Cert.DyBrRefIdeal.Read.val_main_v13_eq, a2, a5]
      exact (Cert.DyBrIdeal.Hand.reference_2 _ _).trans (Cert.DyBrIdeal.Hand.final_8 m c).symm

end Cert.Proof
-- ==== Proof.MemoryKv.lean ====
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Products
public import Idealize.ShloMosaic.Lib.Pipeline.ValueKit

/-!
The memory's keys and values: the product of the normed memory with their weight. The grid's point `t` computes the columns
`512 t` to `512 t + 511` of all 256 memory tokens.
-/

@[expose] public section
set_option maxRecDepth 16384

noncomputable section
namespace Cert.MemKvIdeal.Hand
open Cert.MemKvIdeal Cert.MemKvIdeal.Gen
open Idealize.ShloMosaic hiding ix2 ix1 eq_ix2
open Idealize.ShloMosaic.TcCoe Idealize.ShloMosaic.ValueIdx Idealize.SL.Sem Cert.Products

/-- The block every window stages at a grid point. -/
theorem index_facts : ∀ t : Fin cfg0.N, win0_0.index t = ![0, 0] ∧ win0_1.index t = ![0, t.val] ∧ win0_2.index t = ![0, t.val]
    ∧ (cfg0.win 2).flush t = true :=
  (by decide +kernel : ∀ t : Fin grid0.N, _)

/-- Column `d` of the block of point `t`. -/
def colAt (t : Fin cfg0.N) (d : Fin 512) : Fin 2048 :=
  ⟨512 * t.val + d.val, by have h := t.isLt; have e : cfg0.N = 4 := N_0; omega⟩

/-- The product, at an entry of its array. -/
def product (x : S256x2048.Idx → EReal) (w : S2048x2048.Idx → EReal) (y : S256x2048.Idx) : EReal :=
  ∑ k : Fin 2048, x (ix2 (y 0) k) * w (ix2 k (y 1))

/-- What a point computes from its blocks. -/
theorem out_apply (x : Vec Ideal S256x2048 .bf16) (w : Vec Ideal S2048x512 .bf16) (r : Fin 256) (d : Fin 512) :
    @Eq EReal (out0_2 x w (ix2 r d)) (∑ k : Fin 2048, (x (ix2 r k) : EReal) * w (ix2 k d)) := by
  unfold out0_2
  rw [View.canon_cons_unit_lit _ _ _ (by decide), View.ld_unit_lit _ _ (by decide), View.ld_unit_lit _ _ (by decide)]
  unfold k0_pay1
  exact entry_sum dot_S256x2048_S2048x512_S256x512_1_0_0_1_n_n 2048 rfl rfl x w (ix2 r d) (fun k => ix2 r k) (fun k => ix2 k d)
    (fun k => funext fun a => match a with | ⟨0, _⟩ => rfl | ⟨1, _⟩ => rfl) (fun k => funext fun a => match a with | ⟨0, _⟩ => rfl | ⟨1, _⟩ => rfl)

variable (m : (ℓ : Loc nD τ sig) → Buf (Elt Ideal) ℓ) (c : Dev nD)

/-- The memory's block is the array. -/
theorem iblk_0 (t : Fin cfg0.N) (r : Fin 256) (k : Fin 2048) :
    (iblk m c 0 t : Vec Ideal S256x2048 .bf16) (ix2 r k) = V m c main_arg0 (ix2 r k) := by
  refine congrArg (V m c main_arg0) (funext fun a => Fin.ext ?_)
  have h := (index_facts t).1
  match a with
  | ⟨0, _⟩ => exact (Pipeline.Window.rect_emb_val win0_0 t (ix2 r k) 0).trans (by rw [h]; show 0 * 256 + r.val = r.val; omega)
  | ⟨1, _⟩ => exact (Pipeline.Window.rect_emb_val win0_0 t (ix2 r k) 1).trans (by rw [h]; show 0 * 2048 + k.val = k.val; omega)

/-- The weight's block, read where the array has it. -/
theorem iblk_1 (t : Fin cfg0.N) (k : Fin 2048) (d : Fin 512) :
    (iblk m c 1 t : Vec Ideal S2048x512 .bf16) (ix2 k d) = V m c main_arg1 (ix2 k (colAt t d)) := by
  refine congrArg (V m c main_arg1) (funext fun a => Fin.ext ?_)
  have h := (index_facts t).2.1
  match a with
  | ⟨0, _⟩ => exact (Pipeline.Window.rect_emb_val win0_1 t (ix2 k d) 0).trans (by rw [h]; show 0 * 2048 + k.val = k.val; omega)
  | ⟨1, _⟩ => exact (Pipeline.Window.rect_emb_val win0_1 t (ix2 k d) 1).trans (by rw [h]; show t.val * 512 + d.val = 512 * t.val + d.val; omega)

/-- Where a point's result lies in its array. -/
theorem emb_2 (t : Fin cfg0.N) (r : Fin 256) (d : Fin 512) :
    (((cfg0.win 2).blk t).view.emb (ix2 r d) : S256x2048.Idx) = ix2 r (colAt t d) := by
  refine funext fun a => Fin.ext ?_
  have h := (index_facts t).2.2.1
  match a with
  | ⟨0, _⟩ => exact (Pipeline.Window.rect_emb_val win0_2 t (ix2 r d) 0).trans (by rw [h]; show 0 * 256 + r.val = r.val; omega)
  | ⟨1, _⟩ => exact (Pipeline.Window.rect_emb_val win0_2 t (ix2 r d) 1).trans (by rw [h]; show t.val * 512 + d.val = 512 * t.val + d.val; omega)

/-- Every column lies in the block of one point. -/
theorem col_cover (i : Fin 2048) : ∃ (t : Fin cfg0.N) (d : Fin 512), i = colAt t d :=
  ⟨⟨i.val / 512, by have e : cfg0.N = 4 := N_0; have := i.isLt; omega⟩, ⟨i.val % 512, by omega⟩,
    Fin.ext (by show i.val = 512 * (i.val / 512) + i.val % 512; omega)⟩

/-- The array of the product after the run. -/
theorem final_2 : (dats m 0 c).arrAt 2 cfg0.N = product (V m c main_arg0) (V m c main_arg1) := by
  refine Pipeline.Dat.arrAt_eq_of_cover (dats m 0 c) 2 _ (fun t _ => ?_) (fun i => ?_)
  · funext y
    obtain ⟨r, d, rfl⟩ : ∃ (r : Fin 256) (d : Fin 512), y = ix2 r d := ⟨y 0, y 1, eq_ix2 y⟩
    have e : @Eq EReal (((cfg0.win 2).blk t).view.read (Elt Ideal) (product (V m c main_arg0) (V m c main_arg1)) (ix2 r d))
        (product (V m c main_arg0) (V m c main_arg1) (ix2 r (colAt t d))) :=
      congrArg (product (V m c main_arg0) (V m c main_arg1)) (emb_2 t r d)
    refine Eq.trans ?_ e.symm
    rw [Value.flushed2 m c t]
    refine (out_apply (iblk m c 0 t) (iblk m c 1 t) r d).trans (Finset.sum_congr rfl fun k _ => ?_)
    rw [iblk_0, iblk_1]
  · obtain ⟨r, i, rfl⟩ : ∃ (r : Fin 256) (a : Fin 2048), i = ix2 r a := ⟨i 0, i 1, eq_ix2 i⟩
    obtain ⟨t, d, rfl⟩ := col_cover i
    exact ⟨t, (index_facts t).2.2.2, Eq.subst (motive := fun j => j ∈ ((cfg0.win 2).blk t).view.set) (emb_2 t r d)
      (((cfg0.win 2).blk t).view.emb_mem_set (ix2 r d))⟩

open Cert.MemKvRefIdeal.Read in
/-- The reference's result is the product. -/
theorem reference_eq (x : S256x2048.Idx → EReal) (w : S2048x2048.Idx → EReal) : val_main_v3 (F := Ideal) x w = product x w := by
  funext y
  rw [val_main_v3_apply]
  refine (val_main_v2_apply x w _).trans (Finset.sum_congr rfl fun k _ => ?_)
  refine congrArg₂ (· * ·) (congrArg x (funext fun a => ?_)) (congrArg w (funext fun a => ?_))
  · match a with | ⟨0, _⟩ => rfl | ⟨1, _⟩ => rfl
  · match a with | ⟨0, _⟩ => rfl | ⟨1, _⟩ => rfl

end Cert.MemKvIdeal.Hand

namespace Cert.Proof
open Idealize.ShloMosaic Idealize.ShloMosaic.TcCoe Idealize.SL.Sem

/-- The memory's keys and values, kernel and reference. -/
theorem algebraic_memory : @Cert.algebraic_MemKvIdeal_MemKvRefIdeal Cert.MemKvIdeal.Gen.facts Cert.MemKvRefIdeal.Gen.facts := by
  pair_intro
  · run_from Cert.MemKvIdeal.Value.run_blocks m g
  · refine (θ_run _ _ _).mono (fun r hr c => ?_) (Cert.MemKvRefIdeal.Value.run m' g')
    obtain ⟨r0, ra⟩ := hr c
    obtain ⟨a0, a1⟩ := hagree c
    refine ⟨r0.trans ?_, ra⟩
    rw [Cert.MemKvRefIdeal.Read.val_main_v3_eq, a0, a1]
    exact (Cert.MemKvIdeal.Hand.reference_eq _ _).trans (Cert.MemKvIdeal.Hand.final_2 m c).symm

end Cert.Proof
-- ==== Proof.MemoryWeight.lean ====
module

public import proofs.«01_k».proof.Defs
public import proofs.«01_k».proof.Proof.Gen.WmemIdeal.Value
public import proofs.«01_k».proof.Proof.Gen.WmemRefIdeal.Run
public import proofs.«01_k».proof.Proof.Gen.WmemRefIdeal.Read
public import proofs.«01_k».proof.Proof.Products
public import Idealize.ShloMosaic.Lib.Pipeline.ValueKit

/-!
The gradient of the memory's keys' and values' weight, laid out in the blocks their owners take: entry `(b, a, r, e)` is row
`(2 a + b) 256 + r` and column `e` of the gradient, the sum over the memory tokens of the memory at the row times the cotangent at the column. The grid's point
`t` computes the rows `256 t` to `256 t + 255` in one product over all the memory tokens and writes the block `(t % 2, t / 2)`.
-/

@[expose] public section
set_option maxRecDepth 16384

noncomputable section
namespace Cert.WmemIdeal.Hand
open Cert.WmemIdeal Cert.WmemIdeal.Gen
open Idealize.ShloMosaic hiding ix2 ix1 ix4 eq_ix2 eq_ix4
open Idealize.ShloMosaic.TcCoe Idealize.ShloMosaic.ValueIdx Idealize.SL.Sem Cert.Products

/-- The block every window stages at a grid point. -/
theorem index_facts : ∀ t : Fin cfg0.N, win0_0.index t = ![0, t.val] ∧ win0_1.index t = ![0, 0]
    ∧ win0_2.index t = ![t.val % 2, t.val / 2, 0, 0] ∧ (cfg0.win 2).flush t = true :=
  (by decide +kernel : ∀ t : Fin grid0.N, _)

/-- Row `r` of the block of point `t`. -/
def rowAt (t : Fin cfg0.N) (r : Fin 256) : Fin 2048 :=
  ⟨256 * t.val + r.val, by have h := t.isLt; have e : cfg0.N = 8 := N_0; omega⟩

/-- The row held by the block `(b, a)` at its row `r`. -/
def rowOf (b : Fin 2) (a : Fin 4) (r : Fin 256) : Fin 2048 := ⟨256 * (2 * a.val + b.val) + r.val, by omega⟩

/-- The first two coordinates of the block a point writes. -/
def fstAt (t : Fin cfg0.N) : Fin 2 := ⟨t.val % 2, by omega⟩
def sndAt (t : Fin cfg0.N) : Fin 4 := ⟨t.val / 2, by have h := t.isLt; have e : cfg0.N = 8 := N_0; omega⟩

/-- The gradient, at an entry of its array. -/
def grad (x g : S256x2048.Idx → EReal) (y : S2x4x256x2048.Idx) : EReal :=
  ∑ s : Fin 256, x (ix2 s (rowOf (y 0) (y 1) (y 2))) * g (ix2 s (y 3))

/-- What a point computes from its blocks. -/
theorem out_apply (x : Vec Ideal S256x256 .bf16) (g : Vec Ideal S256x2048 .bf16) (r : Fin 256) (d : Fin 2048) :
    @Eq EReal (out0_2 x g (ix4 (0 : Fin 1) (0 : Fin 1) r d)) (∑ s : Fin 256, (x (ix2 s r) : EReal) * g (ix2 s d)) := by
  unfold out0_2
  rw [View.canon_cons_unit_lit _ _ _ (by decide), View.ld_unit_lit _ _ (by decide), View.ld_unit_lit _ _ (by decide)]
  unfold k0_pay1
  refine (shapeCast_apply _ _ (ix4 (0 : Fin 1) (0 : Fin 1) r d) (ix2 r d) ?_).trans ?_
  · rw [Shape.rowMajor_val_two, Shape.rowMajor_val_four]
    show r.val * 2048 + d.val = ((0 * 1 + 0) * 256 + r.val) * 2048 + d.val
    omega
  exact entry_sum dot_S256x256_S256x2048_S256x2048_0_0_1_1_n_n 256 rfl rfl x g (ix2 r d) (fun s => ix2 s r) (fun s => ix2 s d)
    (fun s => funext fun a => match a with | ⟨0, _⟩ => rfl | ⟨1, _⟩ => rfl) (fun s => funext fun a => match a with | ⟨0, _⟩ => rfl | ⟨1, _⟩ => rfl)

variable (m : (ℓ : Loc nD τ sig) → Buf (Elt Ideal) ℓ) (c : Dev nD)

/-- The memory's block, read where the array has it. -/
theorem iblk_0 (t : Fin cfg0.N) (s : Fin 256) (r : Fin 256) :
    (iblk m c 0 t : Vec Ideal S256x256 .bf16) (ix2 s r) = V m c main_arg0 (ix2 s (rowAt t r)) := by
  refine congrArg (V m c main_arg0) (funext fun a => Fin.ext ?_)
  have h := (index_facts t).1
  match a with
  | ⟨0, _⟩ => exact (Pipeline.Window.rect_emb_val win0_0 t (ix2 s r) 0).trans (by rw [h]; show 0 * 256 + s.val = s.val; omega)
  | ⟨1, _⟩ => exact (Pipeline.Window.rect_emb_val win0_0 t (ix2 s r) 1).trans (by rw [h]; show t.val * 256 + r.val = 256 * t.val + r.val; omega)

/-- The cotangent's block is the array. -/
theorem iblk_1 (t : Fin cfg0.N) (s : Fin 256) (d : Fin 2048) :
    (iblk m c 1 t : Vec Ideal S256x2048 .bf16) (ix2 s d) = V m c main_arg1 (ix2 s d) := by
  refine congrArg (V m c main_arg1) (funext fun a => Fin.ext ?_)
  have h := (index_facts t).2.1
  match a with
  | ⟨0, _⟩ => exact (Pipeline.Window.rect_emb_val win0_1 t (ix2 s d) 0).trans (by rw [h]; show 0 * 256 + s.val = s.val; omega)
  | ⟨1, _⟩ => exact (Pipeline.Window.rect_emb_val win0_1 t (ix2 s d) 1).trans (by rw [h]; show 0 * 2048 + d.val = d.val; omega)

/-- Where a point's result lies in its array. -/
theorem emb_2 (t : Fin cfg0.N) (r : Fin 256) (d : Fin 2048) :
    (((cfg0.win 2).blk t).view.emb (ix4 (0 : Fin 1) (0 : Fin 1) r d) : S2x4x256x2048.Idx) = ix4 (fstAt t) (sndAt t) r d := by
  refine funext fun a => Fin.ext ?_
  have h := (index_facts t).2.2.1
  match a with
  | ⟨0, _⟩ => exact (Pipeline.Window.rect_emb_val win0_2 t (ix4 (0 : Fin 1) (0 : Fin 1) r d) 0).trans (by rw [h]; show t.val % 2 * 1 + 0 = t.val % 2; omega)
  | ⟨1, _⟩ => exact (Pipeline.Window.rect_emb_val win0_2 t (ix4 (0 : Fin 1) (0 : Fin 1) r d) 1).trans (by rw [h]; show t.val / 2 * 1 + 0 = t.val / 2; omega)
  | ⟨2, _⟩ => exact (Pipeline.Window.rect_emb_val win0_2 t (ix4 (0 : Fin 1) (0 : Fin 1) r d) 2).trans (by rw [h]; show 0 * 256 + r.val = r.val; omega)
  | ⟨3, _⟩ => exact (Pipeline.Window.rect_emb_val win0_2 t (ix4 (0 : Fin 1) (0 : Fin 1) r d) 3).trans (by rw [h]; show 0 * 2048 + d.val = d.val; omega)

/-- The rows a point computes are the rows its block holds. -/
theorem row_block (t : Fin cfg0.N) (r : Fin 256) : rowOf (fstAt t) (sndAt t) r = rowAt t r :=
  Fin.ext (by show 256 * (2 * (t.val / 2) + t.val % 2) + r.val = 256 * t.val + r.val; omega)

/-- Every block is written by one point. -/
theorem block_cover (b : Fin 2) (a : Fin 4) : ∃ t : Fin cfg0.N, b = fstAt t ∧ a = sndAt t :=
  ⟨⟨2 * a.val + b.val, by have e : cfg0.N = 8 := N_0; omega⟩, Fin.ext (by show b.val = (2 * a.val + b.val) % 2; omega),
    Fin.ext (by show a.val = (2 * a.val + b.val) / 2; omega)⟩

/-- The array of the gradient after the run. -/
theorem final_2 : (dats m 0 c).arrAt 2 cfg0.N = grad (V m c main_arg0) (V m c main_arg1) := by
  refine Pipeline.Dat.arrAt_eq_of_cover (dats m 0 c) 2 _ (fun t _ => ?_) (fun i => ?_)
  · funext y
    obtain ⟨r, d, rfl⟩ : ∃ (r : Fin 256) (d : Fin 2048), y = ix4 (0 : Fin 1) (0 : Fin 1) r d :=
      ⟨y 2, y 3, (eq_ix4 y).trans (by rw [Fin.fin_one_eq_zero (y 0), Fin.fin_one_eq_zero (y 1)]; rfl)⟩
    have e : @Eq EReal (((cfg0.win 2).blk t).view.read (Elt Ideal) (grad (V m c main_arg0) (V m c main_arg1)) (ix4 (0 : Fin 1) (0 : Fin 1) r d))
        (grad (V m c main_arg0) (V m c main_arg1) (ix4 (fstAt t) (sndAt t) r d)) :=
      congrArg (grad (V m c main_arg0) (V m c main_arg1)) (emb_2 t r d)
    refine Eq.trans ?_ e.symm
    rw [Value.flushed2 m c t]
    refine (out_apply (iblk m c 0 t) (iblk m c 1 t) r d).trans (Finset.sum_congr rfl fun s _ => ?_)
    rw [iblk_0, iblk_1, ← row_block]
  · obtain ⟨b, a, r, d, rfl⟩ : ∃ (b : Fin 2) (a : Fin 4) (r : Fin 256) (d : Fin 2048), i = ix4 b a r d := ⟨i 0, i 1, i 2, i 3, eq_ix4 i⟩
    obtain ⟨t, rfl, rfl⟩ := block_cover b a
    exact ⟨t, (index_facts t).2.2.2, Eq.subst (motive := fun j => j ∈ ((cfg0.win 2).blk t).view.set) (emb_2 t r d)
      (((cfg0.win 2).blk t).view.emb_mem_set (ix4 (0 : Fin 1) (0 : Fin 1) r d))⟩

open Cert.WmemRefIdeal.Read in
/-- The reference's result is the gradient. -/
theorem reference_eq (x g : S256x2048.Idx → EReal) : val_main_v8 (F := Ideal) x g = grad x g := by
  funext y
  obtain ⟨b, a, r, d, rfl⟩ : ∃ (b : Fin 2) (a : Fin 4) (r : Fin 256) (d : Fin 2048), y = ix4 b a r d := ⟨y 0, y 1, y 2, y 3, eq_ix4 y⟩
  rw [val_main_v8_apply, val_main_v7_apply, val_main_v6_apply, val_main_v5_apply]
  refine (val_main_v4_apply x g _).trans (Finset.sum_congr rfl fun s _ => ?_)
  refine (mul_comm _ _).trans (congrArg₂ (· * ·) (congrArg x (funext fun k => Fin.ext ?_)) (congrArg g (funext fun k => Fin.ext ?_)))
  · match k with
    | ⟨0, _⟩ => rfl
    | ⟨1, _⟩ => show (((a.val * 2 + b.val) * 256 + r.val) * 2048 + d.val) / 2048 = 256 * (2 * a.val + b.val) + r.val; omega
  · match k with
    | ⟨0, _⟩ => rfl
    | ⟨1, _⟩ => show (((a.val * 2 + b.val) * 256 + r.val) * 2048 + d.val) % 2048 = d.val; omega

end Cert.WmemIdeal.Hand

namespace Cert.Proof
open Idealize.ShloMosaic Idealize.ShloMosaic.TcCoe Idealize.SL.Sem

/-- The weight's gradient, kernel and reference. -/
theorem algebraic_memory_weight : @Cert.algebraic_WmemIdeal_WmemRefIdeal Cert.WmemIdeal.Gen.facts Cert.WmemRefIdeal.Gen.facts := by
  pair_intro
  · run_from Cert.WmemIdeal.Value.run_blocks m g
  · refine (θ_run _ _ _).mono (fun r hr c => ?_) (Cert.WmemRefIdeal.Value.run m' g')
    obtain ⟨r0, ra⟩ := hr c
    obtain ⟨a0, a1⟩ := hagree c
    refine ⟨r0.trans ?_, ra⟩
    rw [Cert.WmemRefIdeal.Read.val_main_v8_eq, a0, a1]
    exact (Cert.WmemIdeal.Hand.reference_eq _ _).trans (Cert.WmemIdeal.Hand.final_2 m c).symm

end Cert.Proof
-- ==== Proof.MemoryInput.lean ====
module

public import proofs.«01_k».proof.Defs
public import proofs.«01_k».proof.Proof.Gen.DmemnIdeal.Value
public import proofs.«01_k».proof.Proof.Gen.DmemnRefIdeal.Run
public import proofs.«01_k».proof.Proof.Gen.DmemnRefIdeal.Read
public import proofs.«01_k».proof.Proof.Products
public import Idealize.ShloMosaic.Lib.Pipeline.ValueKit

/-!
The gradient of the normed memory: the product of its keys' and values' cotangent with their weight, transposed. The grid's point
`t` computes the columns `512 t` to `512 t + 511` of all 256 memory tokens.
-/

@[expose] public section
set_option maxRecDepth 16384

noncomputable section
namespace Cert.DmemnIdeal.Hand
open Cert.DmemnIdeal Cert.DmemnIdeal.Gen
open Idealize.ShloMosaic hiding ix2 ix1 eq_ix2
open Idealize.ShloMosaic.TcCoe Idealize.ShloMosaic.ValueIdx Idealize.SL.Sem Cert.Products

/-- The block every window stages at a grid point. -/
theorem index_facts : ∀ t : Fin cfg0.N, win0_0.index t = ![0, 0] ∧ win0_1.index t = ![t.val, 0] ∧ win0_2.index t = ![0, t.val]
    ∧ (cfg0.win 2).flush t = true :=
  (by decide +kernel : ∀ t : Fin grid0.N, _)

/-- Column `d` of the block of point `t`. -/
def colAt (t : Fin cfg0.N) (d : Fin 512) : Fin 2048 :=
  ⟨512 * t.val + d.val, by have h := t.isLt; have e : cfg0.N = 4 := N_0; omega⟩

/-- The product with the transposed weight, at an entry of its array. -/
def product (x : S256x2048.Idx → EReal) (w : S2048x2048.Idx → EReal) (y : S256x2048.Idx) : EReal :=
  ∑ k : Fin 2048, x (ix2 (y 0) k) * w (ix2 (y 1) k)

/-- What a point computes from its blocks. -/
theorem out_apply (x : Vec Ideal S256x2048 .bf16) (w : Vec Ideal S512x2048 .bf16) (r : Fin 256) (d : Fin 512) :
    @Eq EReal (out0_2 x w (ix2 r d)) (∑ k : Fin 2048, (x (ix2 r k) : EReal) * w (ix2 d k)) := by
  unfold out0_2
  rw [View.canon_cons_unit_lit _ _ _ (by decide), View.ld_unit_lit _ _ (by decide), View.ld_unit_lit _ _ (by decide)]
  unfold k0_pay1
  exact entry_sum dot_S256x2048_S512x2048_S256x512_1_1_0_0_n_n 2048 rfl rfl x w (ix2 r d) (fun k => ix2 r k) (fun k => ix2 d k)
    (fun k => funext fun a => match a with | ⟨0, _⟩ => rfl | ⟨1, _⟩ => rfl) (fun k => funext fun a => match a with | ⟨0, _⟩ => rfl | ⟨1, _⟩ => rfl)

variable (m : (ℓ : Loc nD τ sig) → Buf (Elt Ideal) ℓ) (c : Dev nD)

/-- The cotangent's block is the array. -/
theorem iblk_0 (t : Fin cfg0.N) (r : Fin 256) (k : Fin 2048) :
    (iblk m c 0 t : Vec Ideal S256x2048 .bf16) (ix2 r k) = V m c main_arg0 (ix2 r k) := by
  refine congrArg (V m c main_arg0) (funext fun a => Fin.ext ?_)
  have h := (index_facts t).1
  match a with
  | ⟨0, _⟩ => exact (Pipeline.Window.rect_emb_val win0_0 t (ix2 r k) 0).trans (by rw [h]; show 0 * 256 + r.val = r.val; omega)
  | ⟨1, _⟩ => exact (Pipeline.Window.rect_emb_val win0_0 t (ix2 r k) 1).trans (by rw [h]; show 0 * 2048 + k.val = k.val; omega)

/-- The weight's block, read where the array has it. -/
theorem iblk_1 (t : Fin cfg0.N) (k : Fin 2048) (d : Fin 512) :
    (iblk m c 1 t : Vec Ideal S512x2048 .bf16) (ix2 d k) = V m c main_arg1 (ix2 (colAt t d) k) := by
  refine congrArg (V m c main_arg1) (funext fun a => Fin.ext ?_)
  have h := (index_facts t).2.1
  match a with
  | ⟨0, _⟩ => exact (Pipeline.Window.rect_emb_val win0_1 t (ix2 d k) 0).trans (by rw [h]; show t.val * 512 + d.val = 512 * t.val + d.val; omega)
  | ⟨1, _⟩ => exact (Pipeline.Window.rect_emb_val win0_1 t (ix2 d k) 1).trans (by rw [h]; show 0 * 2048 + k.val = k.val; omega)

/-- Where a point's result lies in its array. -/
theorem emb_2 (t : Fin cfg0.N) (r : Fin 256) (d : Fin 512) :
    (((cfg0.win 2).blk t).view.emb (ix2 r d) : S256x2048.Idx) = ix2 r (colAt t d) := by
  refine funext fun a => Fin.ext ?_
  have h := (index_facts t).2.2.1
  match a with
  | ⟨0, _⟩ => exact (Pipeline.Window.rect_emb_val win0_2 t (ix2 r d) 0).trans (by rw [h]; show 0 * 256 + r.val = r.val; omega)
  | ⟨1, _⟩ => exact (Pipeline.Window.rect_emb_val win0_2 t (ix2 r d) 1).trans (by rw [h]; show t.val * 512 + d.val = 512 * t.val + d.val; omega)

/-- Every column lies in the block of one point. -/
theorem col_cover (i : Fin 2048) : ∃ (t : Fin cfg0.N) (d : Fin 512), i = colAt t d :=
  ⟨⟨i.val / 512, by have e : cfg0.N = 4 := N_0; have := i.isLt; omega⟩, ⟨i.val % 512, by omega⟩,
    Fin.ext (by show i.val = 512 * (i.val / 512) + i.val % 512; omega)⟩

/-- The array of the product after the run. -/
theorem final_2 : (dats m 0 c).arrAt 2 cfg0.N = product (V m c main_arg0) (V m c main_arg1) := by
  refine Pipeline.Dat.arrAt_eq_of_cover (dats m 0 c) 2 _ (fun t _ => ?_) (fun i => ?_)
  · funext y
    obtain ⟨r, d, rfl⟩ : ∃ (r : Fin 256) (d : Fin 512), y = ix2 r d := ⟨y 0, y 1, eq_ix2 y⟩
    have e : @Eq EReal (((cfg0.win 2).blk t).view.read (Elt Ideal) (product (V m c main_arg0) (V m c main_arg1)) (ix2 r d))
        (product (V m c main_arg0) (V m c main_arg1) (ix2 r (colAt t d))) :=
      congrArg (product (V m c main_arg0) (V m c main_arg1)) (emb_2 t r d)
    refine Eq.trans ?_ e.symm
    rw [Value.flushed2 m c t]
    refine (out_apply (iblk m c 0 t) (iblk m c 1 t) r d).trans (Finset.sum_congr rfl fun k _ => ?_)
    rw [iblk_0, iblk_1]
  · obtain ⟨r, i, rfl⟩ : ∃ (r : Fin 256) (a : Fin 2048), i = ix2 r a := ⟨i 0, i 1, eq_ix2 i⟩
    obtain ⟨t, d, rfl⟩ := col_cover i
    exact ⟨t, (index_facts t).2.2.2, Eq.subst (motive := fun j => j ∈ ((cfg0.win 2).blk t).view.set) (emb_2 t r d)
      (((cfg0.win 2).blk t).view.emb_mem_set (ix2 r d))⟩

open Cert.DmemnRefIdeal.Read in
/-- The reference's result is the product. -/
theorem reference_eq (x : S256x2048.Idx → EReal) (w : S2048x2048.Idx → EReal) : val_main_v4 (F := Ideal) x w = product x w := by
  funext y
  refine (val_main_v4_apply x w _).trans (Finset.sum_congr rfl fun k _ => ?_)
  refine congrArg₂ (· * ·) (congrArg x (funext fun a => ?_)) (congrArg w (funext fun a => ?_))
  · match a with | ⟨0, _⟩ => rfl | ⟨1, _⟩ => rfl
  · match a with | ⟨0, _⟩ => rfl | ⟨1, _⟩ => rfl

end Cert.DmemnIdeal.Hand

namespace Cert.Proof
open Idealize.ShloMosaic Idealize.ShloMosaic.TcCoe Idealize.SL.Sem

/-- The normed memory's gradient, kernel and reference. -/
theorem algebraic_memory_input : @Cert.algebraic_DmemnIdeal_DmemnRefIdeal Cert.DmemnIdeal.Gen.facts Cert.DmemnRefIdeal.Gen.facts := by
  pair_intro
  · run_from Cert.DmemnIdeal.Value.run_blocks m g
  · refine (θ_run _ _ _).mono (fun r hr c => ?_) (Cert.DmemnRefIdeal.Value.run m' g')
    obtain ⟨r0, ra⟩ := hr c
    obtain ⟨a0, a1⟩ := hagree c
    refine ⟨r0.trans ?_, ra⟩
    rw [Cert.DmemnRefIdeal.Read.val_main_v4_eq, a0, a1]
    exact (Cert.DmemnIdeal.Hand.reference_eq _ _).trans (Cert.DmemnIdeal.Hand.final_2 m c).symm

end Cert.Proof
-- ==== Proof.Optimiser.lean ====
module

public import Idealize.ShloMosaic.Lib.Pipeline.ValueKit
public import Idealize.ShloMosaic.Lib.KernelVsHost
public import Idealize.ShloMosaic.Lib.WholeRead

/-!
The optimiser's step at one entry of a weight, over the extended reals: the gradient is the sum of four devices'
parts, the device's own read from its sums and the three others from what landed; the moments move towards the
gradient and its square, and the step divides one by the root of the other.
-/

@[expose] public section

noncomputable section
namespace Cert.Optimiser
open Idealize.ShloMosaic hiding ix2 ix1 ix3 eq_ix2 eq_ix3
open Idealize.ShloMosaic.ValueIdx

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The weight's change. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

section
variable {R C : ℕ} (k : Fin 4) (land sums : (⟨3, ![4, R, C]⟩ : Shape).Idx → EReal) (w m v : (⟨3, ![1, R, C]⟩ : Shape).Idx → EReal)

/-- The gradient on device `k`: its own part, then the other devices' in order. -/
def gathered (y : (⟨3, ![1, R, C]⟩ : Shape).Idx) : EReal :=
  sums (ix3 k (y 1) (y 2)) + land (ix3 (k.succAbove 0) (y 1) (y 2)) + land (ix3 (k.succAbove 1) (y 1) (y 2)) + land (ix3 (k.succAbove 2) (y 1) (y 2))

/-- The arrays after the step. -/
def firsts (y : (⟨3, ![1, R, C]⟩ : Shape).Idx) : EReal := first (gathered k land sums y) (m y)
def seconds (y : (⟨3, ![1, R, C]⟩ : Shape).Idx) : EReal := second (gathered k land sums y) (v y)
def changes (y : (⟨3, ![1, R, C]⟩ : Shape).Idx) : EReal := change (w y) (gathered k land sums y) (m y) (v y)

/-- A sum over the devices of the own part at one and the landed part at the others is the gradient. -/
theorem sum_parts (y : (⟨3, ![1, R, C]⟩ : Shape).Idx) :
    ∑ j : Fin 4, (if j = k then sums (ix3 j (y 1) (y 2)) else land (ix3 j (y 1) (y 2))) = gathered k land sums y := by
  rw [Fin.sum_univ_succAbove _ k, Fin.sum_univ_three, if_pos rfl, if_neg (Fin.succAbove_ne k 0), if_neg (Fin.succAbove_ne k 1), if_neg (Fin.succAbove_ne k 2)]
  unfold gathered
  rw [add_assoc, add_assoc, add_assoc]

end

/-- An array of one word has one index. -/
theorem one_index (x y : (⟨1, ![1]⟩ : Shape).Idx) : x = y := funext fun a => match a with | ⟨0, _⟩ => Subsingleton.elim (α := Fin 1) _ _

/-- A word between 0 and 4 is a device's number. -/
theorem word_cases (x : BitVec 32) (h0 : IntOp.cmpi .sge x 0#32 = 1#1) (h4 : IntOp.cmpi .slt x 4#32 = 1#1) :
    ∃ k : Fin 4, x = BitVec.ofNat 32 k.val := by
  have h0' : 0 ≤ x.toInt := by
    by_contra hn; simp [IntOp.cmpi, BitVec.sle, hn] at h0
  have h4' : x.toInt < 4 := by
    by_contra hn; simp [IntOp.cmpi, BitVec.slt, hn] at h4
  have hx : x.toNat < 4 := by rw [BitVec.toInt_eq_toNat_cond] at h0' h4'; split at h0' <;> omega
  exact ⟨⟨x.toNat, hx⟩, by simp⟩

/-- Two devices' numbers agree as words only if they agree. -/
theorem word_eq (j k : Fin 4) : (BitVec.ofNat 32 j.val = BitVec.ofNat 32 k.val) ↔ j = k := by
  revert j k; decide

/-- A choice by comparing two devices' numbers. -/
theorem choose_eq (j k : Fin 4) (a b : EReal) :
    Scalar.select (IntOp.cmpi .eq (BitVec.ofNat 32 j.val) (BitVec.ofNat 32 k.val)) a b = if j = k then a else b := by
  by_cases h : j = k
  · subst h; simp [Scalar.select, IntOp.cmpi]
  · have e : ¬ BitVec.ofNat 32 j.val = BitVec.ofNat 32 k.val := fun e => h ((word_eq j k).1 e)
    rw [if_neg h]
    simp only [IntOp.cmpi, beq_eq_false_iff_ne.2 e]
    rfl

end Cert.Optimiser
-- ==== Proof.OptRows.lean ====
module

public import proofs.«01_k».proof.Defs
public import proofs.«01_k».proof.Proof.Gen.OptRows.Frame
public import proofs.«01_k».proof.Proof.Gen.OptRowsIdeal.Frame
public import proofs.«01_k».proof.Proof.Gen.OptRowsRefIdeal.Run
public import proofs.«01_k».proof.Proof.Gen.OptRowsRefIdeal.Read
public import proofs.«01_k».proof.Proof.Gen.Pre_a_chip
public import proofs.«01_k».proof.Proof.Optimiser
public import proofs.«01_k».proof.Proof.Products
public import proofs.«01_k».proof.Proof.Spec

/-!
The optimiser's step of a weight that the devices share by rows. The device's number is again a table read before the grid
runs; the grid has one point, whose blocks are a whole part.
-/

@[expose] public section
set_option maxRecDepth 16384

noncomputable section

namespace Cert.OptRows.Hand
open Cert.OptRows Cert.OptRows.Gen Idealize.ShloMosaic Idealize.ShloMosaic.TcCoe Idealize.SL.Sem

set_option backward.proofsInPublic true in
/-- The table that holds device `k`'s number. -/
def pinned (k : Fin 4) : pre0.Contents (Elt Bits) := fun | ⟨0, _⟩ => fun _ => BitVec.ofNat 32 k.val | ⟨_ + 1, h⟩ => absurd h (by simp)

/-- The precondition makes the table one of the four. -/
theorem tbl_of_pre (m : (ℓ : Loc nD τ sig) → Buf (Elt Bits) ℓ) (h : Cert.Pre_OptRows m) : ∃ k, tbl m = pinned k := by
  obtain ⟨k, hk⟩ := Cert.Optimiser.word_cases _ (congrFun (h 0).1 (ValueIdx.ix1 0)) (congrFun (h 0).2 (ValueIdx.ix1 0))
  refine ⟨k, funext fun j => ?_⟩
  match j with
  | ⟨0, _⟩ => exact funext fun x => (congrArg _ (Cert.Optimiser.one_index x _)).trans hk

/-- At each of them every block lies in its array. -/
theorem ok_pinned : ∀ k, ok0 (pinned k) := by decide +kernel

/-- So the precondition gives what the run needs of the table. -/
theorem ok_of_pre (m : (ℓ : Loc nD τ sig) → Buf (Elt Bits) ℓ) (h : Cert.Pre_OptRows m) : Ok (F := Bits) m := by
  obtain ⟨k, hk⟩ := tbl_of_pre m h
  exact (congrArg ok0 hk).mpr (ok_pinned k)

end Cert.OptRows.Hand

namespace Cert.OptRowsIdeal.Hand
open Cert.OptRowsIdeal Cert.OptRowsIdeal.Gen Cert.Optimiser
open Idealize.ShloMosaic hiding ix2 ix1 ix3 eq_ix2 eq_ix3
open Idealize.ShloMosaic.TcCoe Idealize.ShloMosaic.ValueIdx Idealize.SL.Sem

set_option backward.proofsInPublic true in
/-- The table that holds device `k`'s number. -/
def pinned (k : Fin 4) : pre0.Contents (Elt Ideal) := fun | ⟨0, _⟩ => fun _ => BitVec.ofNat 32 k.val | ⟨_ + 1, h⟩ => absurd h (by simp)

/-- The precondition makes the table one of the four. -/
theorem tbl_of_pre (m : (ℓ : Loc nD τ sig) → Buf (Elt Ideal) ℓ) (h : Cert.Pre_OptRowsIdeal m) : ∃ k, tbl m = pinned k := by
  obtain ⟨k, hk⟩ := word_cases _ (congrFun (h 0).1 (ValueIdx.ix1 0)) (congrFun (h 0).2 (ValueIdx.ix1 0))
  refine ⟨k, funext fun j => ?_⟩
  match j with
  | ⟨0, _⟩ => exact funext fun x => (congrArg _ (Cert.Optimiser.one_index x _)).trans hk

/-- At each of them every block lies in its array. -/
theorem ok_pinned : ∀ k, ok0 (pinned k) := by decide +kernel

/-- So the precondition gives what the run needs of the table. -/
theorem ok_of_pre (m : (ℓ : Loc nD τ sig) → Buf (Elt Ideal) ℓ) (h : Cert.Pre_OptRowsIdeal m) : Ok (F := Ideal) m := by
  obtain ⟨k, hk⟩ := tbl_of_pre m h
  exact (congrArg ok0 hk).mpr (ok_pinned k)

/-! ## One block -/

/-- A block of rows as a matrix. -/
theorem squeeze {e : EltTy} (x : Vec Ideal S1x256x2048 e) (r : Fin 256) (d : Fin 2048) :
    shapeCast S256x2048 x shapeCasts_S1x256x2048_S256x2048 (ix2 r d) = x (ix3 (0 : Fin 1) r d) :=
  shapeCast_apply _ _ (ix2 r d) (ix3 (0 : Fin 1) r d) (by
    rw [Shape.rowMajor_val_two, Shape.rowMajor_val_three]; show (0 * 256 + r.val) * 2048 + d.val = r.val * 2048 + d.val; omega)

/-- A matrix as a block of rows. -/
theorem unsqueeze {e : EltTy} (x : Vec Ideal S256x2048 e) (r : Fin 256) (d : Fin 2048) :
    shapeCast S1x256x2048 x shapeCasts_S256x2048_S1x256x2048 (ix3 (0 : Fin 1) r d) = x (ix2 r d) :=
  shapeCast_apply _ _ (ix3 (0 : Fin 1) r d) (ix2 r d) (by
    rw [Shape.rowMajor_val_two, Shape.rowMajor_val_three]; show r.val * 2048 + d.val = (0 * 256 + r.val) * 2048 + d.val; omega)

section
variable (x0 x1 x2 x3 : Vec Ideal S1x256x2048 .bf16) (x4 x5 x6 : Vec Ideal S1x256x2048 .f32) (r : Fin 256) (d : Fin 2048)

/-- The gradient of a block: the own part first, then the three that landed. -/
def part : EReal := (x3 (ix3 (0 : Fin 1) r d) : EReal) + x0 (ix3 (0 : Fin 1) r d) + x1 (ix3 (0 : Fin 1) r d) + x2 (ix3 (0 : Fin 1) r d)

theorem gradient_apply : @Eq EReal (k0_pay4 x3 x0 x1 x2 (ix2 r d)) (part x0 x1 x2 x3 r d) := by
  unfold k0_pay4
  show (shapeCast S256x2048 x3 shapeCasts_S1x256x2048_S256x2048 (ix2 r d) : EReal) + shapeCast S256x2048 x0 shapeCasts_S1x256x2048_S256x2048 (ix2 r d)
    + shapeCast S256x2048 x1 shapeCasts_S1x256x2048_S256x2048 (ix2 r d) + shapeCast S256x2048 x2 shapeCasts_S1x256x2048_S256x2048 (ix2 r d) = _
  rw [squeeze, squeeze, squeeze, squeeze]
  rfl

theorem first_apply : @Eq EReal (k0_pay5 x3 x0 x1 x2 x5 (ix2 r d)) (first (part x0 x1 x2 x3 r d) (x5 (ix3 (0 : Fin 1) r d))) := by
  unfold k0_pay5
  show Ideal.ofBits .f32 0x3F666666#32 * (shapeCast S256x2048 x5 shapeCasts_S1x256x2048_S256x2048 (ix2 r d) : EReal)
    + Ideal.ofBits .f32 0x3DCCCCCD#32 * (k0_pay4 x3 x0 x1 x2 (ix2 r d) : EReal) = _
  rw [squeeze, gradient_apply]
  rfl

theorem second_apply : @Eq EReal (k0_pay6 x3 x0 x1 x2 x6 (ix2 r d)) (second (part x0 x1 x2 x3 r d) (x6 (ix3 (0 : Fin 1) r d))) := by
  unfold k0_pay6
  show Ideal.ofBits .f32 0x3F7FBE77#32 * (shapeCast S256x2048 x6 shapeCasts_S1x256x2048_S256x2048 (ix2 r d) : EReal)
    + Ideal.ofBits .f32 0x3A83126F#32 * ((k0_pay4 x3 x0 x1 x2 (ix2 r d) : EReal) * (k0_pay4 x3 x0 x1 x2 (ix2 r d) : EReal)) = _
  rw [squeeze, gradient_apply]
  rfl

theorem change_apply : @Eq EReal (k0_pay3 (k0_pay5 x3 x0 x1 x2 x5) (k0_pay6 x3 x0 x1 x2 x6) x4 (ix3 (0 : Fin 1) r d))
    (change (x4 (ix3 (0 : Fin 1) r d)) (part x0 x1 x2 x3 r d) (x5 (ix3 (0 : Fin 1) r d)) (x6 (ix3 (0 : Fin 1) r d))) := by
  unfold k0_pay3
  refine Eq.trans (α := EReal) (unsqueeze (e := .f32) _ r d) ?_
  show Ideal.ofBits .f32 0xBA83126F#32 * (Ideal.div (Ideal.div (k0_pay5 x3 x0 x1 x2 x5 (ix2 r d) : EReal) (Ideal.ofBits .f32 0x3F26BD02#32))
    (Ideal.sqrt (Ideal.div (k0_pay6 x3 x0 x1 x2 x6 (ix2 r d) : EReal) (Ideal.ofBits .f32 0x3C231ACC#32)) + Ideal.ofBits .f32 0x322BCC77#32)
    + Ideal.ofBits .f32 0x3C23D70A#32 * (shapeCast S256x2048 x4 shapeCasts_S1x256x2048_S256x2048 (ix2 r d) : EReal)) = _
  rw [squeeze, first_apply, second_apply]
  rfl

/-- The stored blocks are the computed ones. -/
theorem gradient_stored : k0_pay7 x3 x0 x1 x2 (ix3 (0 : Fin 1) r d) = k0_pay4 x3 x0 x1 x2 (ix2 r d) :=
  unsqueeze (e := .f32) (k0_pay4 x3 x0 x1 x2) r d
theorem first_stored (x : Vec Ideal S256x2048 .f32) : k0_pay1 (F := Ideal) x (ix3 (0 : Fin 1) r d) = x (ix2 r d) := unsqueeze x r d
theorem second_stored (x : Vec Ideal S256x2048 .f32) : k0_pay2 (F := Ideal) x (ix3 (0 : Fin 1) r d) = x (ix2 r d) := unsqueeze x r d

end

/-! ## What the body leaves -/

/-- Loading a whole block. -/
theorem load_block {e : EltTy} {M : Memref sig .tc .vmem S1x256x2048 e} (hM : M.IsWhole) (x : Vec Ideal S1x256x2048 e)
    (inb : ∀ a, (![0, 0, 0] : Fin 3 → ℕ) a + S1x256x2048.size a ≤ S1x256x2048.size a) :
    View.readAt (Elt Ideal) M.view (Rect.unit (s := S1x256x2048) ![0, 0, 0] S1x256x2048.size inb).toLoadRect (hM.unread x) = x := by
  funext y
  rw [hM.readAt_unread]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A store of a whole block puts every entry at its place. -/
theorem emb_block (inb : ∀ a, (![0, 0, 0] : Fin 3 → ℕ) a + S1x256x2048.size a ≤ S1x256x2048.size a) (y : S1x256x2048.Idx) :
    (Rect.unit (s := S1x256x2048) ![0, 0, 0] S1x256x2048.size inb).emb y = y := by
  refine funext fun a => Fin.ext ?_
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

section
variable (c : Dev nD) (i : grid0.Coords) (arg2 : Memref sig .tc .vmem S1x256x2048 .bf16) (harg2 : arg2.IsWhole)
  (arg3 : Memref sig .tc .vmem S1x256x2048 .bf16) (harg3 : arg3.IsWhole) (arg4 : Memref sig .tc .vmem S1x256x2048 .bf16) (harg4 : arg4.IsWhole)
  (arg5 : Memref sig .tc .vmem S1x256x2048 .bf16) (harg5 : arg5.IsWhole) (arg6 : Memref sig .tc .vmem S1x256x2048 .f32) (harg6 : arg6.IsWhole)
  (arg7 : Memref sig .tc .vmem S1x256x2048 .f32) (harg7 : arg7.IsWhole) (arg8 : Memref sig .tc .vmem S1x256x2048 .f32) (harg8 : arg8.IsWhole)
  (arg9 : Memref sig .tc .vmem S1x256x2048 .f32) (harg9 : arg9.IsWhole) (arg10 : Memref sig .tc .vmem S1x256x2048 .f32) (harg10 : arg10.IsWhole)
  (arg11 : Memref sig .tc .vmem S1x256x2048 .f32) (harg11 : arg11.IsWhole) (arg12 : Memref sig .tc .vmem S1x256x2048 .f32) (harg12 : arg12.IsWhole)
variable (x0 x1 x2 x3 : Vec Ideal S1x256x2048 .bf16) (x4 x5 x6 : Vec Ideal S1x256x2048 .f32) (xt : TbBuf0 (F := Ideal) c tbM0_0) (y : S1x256x2048.Idx)

theorem out_7 : out0_A_7 c i arg2 harg2 arg3 harg3 arg4 harg4 arg5 harg5 arg6 harg6 arg7 harg7 arg8 harg8 arg9 harg9 arg10 harg10 arg11 harg11
    arg12 harg12 x0 x1 x2 x3 x4 x5 x6 xt y = k0_pay7 x3 x0 x1 x2 y := by
  have hcov := cover0_A_7 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_7
  refine View.read_writes_apply_of_pieces _ _ (k0_pay7 x3 x0 x1 x2) _ ?_ y hcov
  clear hcov
  unfold kernelRun0_A
  dsimp only
  sl_unfold_run_names
  refine List.forall_mem_singleton.2 fun x => ?_
  dsimp only
  rw [load_block harg5, load_block harg2, load_block harg3, load_block harg4]
  exact congrArg _ (emb_block _ x).symm

theorem out_8 : out0_A_8 c i arg2 harg2 arg3 harg3 arg4 harg4 arg5 harg5 arg6 harg6 arg7 harg7 arg8 harg8 arg9 harg9 arg10 harg10 arg11 harg11
    arg12 harg12 x0 x1 x2 x3 x4 x5 x6 xt y = k0_pay3 (k0_pay5 x3 x0 x1 x2 x5) (k0_pay6 x3 x0 x1 x2 x6) x4 y := by
  have hcov := cover0_A_8 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_8
  refine View.read_writes_apply_of_pieces _ _ (k0_pay3 (k0_pay5 x3 x0 x1 x2 x5) (k0_pay6 x3 x0 x1 x2 x6) x4) _ ?_ y hcov
  clear hcov
  unfold kernelRun0_A
  dsimp only
  sl_unfold_run_names
  refine List.forall_mem_singleton.2 fun x => ?_
  dsimp only
  rw [load_block harg5, load_block harg2, load_block harg3, load_block harg4, load_block harg7, load_block harg8, load_block harg6]
  exact congrArg _ (emb_block _ x).symm

theorem out_9 : out0_A_9 c i arg2 harg2 arg3 harg3 arg4 harg4 arg5 harg5 arg6 harg6 arg7 harg7 arg8 harg8 arg9 harg9 arg10 harg10 arg11 harg11
    arg12 harg12 x0 x1 x2 x3 x4 x5 x6 xt y = k0_pay1 (k0_pay5 x3 x0 x1 x2 x5) y := by
  have hcov := cover0_A_9 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_9
  refine View.read_writes_apply_of_pieces _ _ (k0_pay1 (k0_pay5 x3 x0 x1 x2 x5)) _ ?_ y hcov
  clear hcov
  unfold kernelRun0_A
  dsimp only
  sl_unfold_run_names
  refine List.forall_mem_singleton.2 fun x => ?_
  dsimp only
  rw [load_block harg5, load_block harg2, load_block harg3, load_block harg4, load_block harg7]
  exact congrArg _ (emb_block _ x).symm

theorem out_10 : out0_A_10 c i arg2 harg2 arg3 harg3 arg4 harg4 arg5 harg5 arg6 harg6 arg7 harg7 arg8 harg8 arg9 harg9 arg10 harg10 arg11 harg11
    arg12 harg12 x0 x1 x2 x3 x4 x5 x6 xt y = k0_pay2 (k0_pay6 x3 x0 x1 x2 x6) y := by
  have hcov := cover0_A_10 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_10
  refine View.read_writes_apply_of_pieces _ _ (k0_pay2 (k0_pay6 x3 x0 x1 x2 x6)) _ ?_ y hcov
  clear hcov
  unfold kernelRun0_A
  dsimp only
  sl_unfold_run_names
  refine List.forall_mem_singleton.2 fun x => ?_
  dsimp only
  rw [load_block harg5, load_block harg2, load_block harg3, load_block harg4, load_block harg8]
  exact congrArg _ (emb_block _ x).symm

end

/-! ## Where the blocks lie -/

/-- The parts that landed, and the own part. -/
theorem part_facts : ∀ (k : Fin 4) (t : Fin grid0.N),
    cc0_transform_0 Facts₀.inb_S1_S1_0 Facts₀.numel1_S1 (pinned k) (grid0.coords t) = ![(k.succAbove 0).val, 0, 0]
    ∧ cc0_transform_1 Facts₀.inb_S1_S1_0 Facts₀.numel1_S1 (pinned k) (grid0.coords t) = ![(k.succAbove 1).val, 0, 0]
    ∧ cc0_transform_2 Facts₀.inb_S1_S1_0 Facts₀.numel1_S1 (pinned k) (grid0.coords t) = ![(k.succAbove 2).val, 0, 0]
    ∧ cc0_transform_3 Facts₀.inb_S1_S1_0 Facts₀.numel1_S1 (pinned k) (grid0.coords t) = ![k.val, 0, 0] := by decide +kernel

/-- The weight, its moments and the results. -/
theorem weight_facts : ∀ t : Fin grid0.N, cc0_transform_4 (grid0.coords t) = ![0, 0, 0] ∧ cc0_transform_5 (grid0.coords t) = ![0, 0, 0]
    ∧ cc0_transform_6 (grid0.coords t) = ![0, 0, 0] := by decide +kernel
theorem result_facts : ∀ t : Fin grid0.N, cc0_transform_7 (grid0.coords t) = ![0, 0, 0] ∧ cc0_transform_8 (grid0.coords t) = ![0, 0, 0]
    ∧ cc0_transform_9 (grid0.coords t) = ![0, 0, 0] ∧ cc0_transform_10 (grid0.coords t) = ![0, 0, 0] := by decide +kernel

/-- An entry with a block's coordinates is that block's entry. -/
theorem entry {n : ℕ} (r : Fin 256) (d : Fin 2048) (p : Fin n) (y : (⟨3, ![n, 256, 2048]⟩ : Shape).Idx) (h0 : (y 0).val = p.val * 1 + 0)
    (h : (y 1).val = 0 * 256 + r.val) (h' : (y 2).val = 0 * 2048 + d.val) : y = ix3 p r d :=
  funext fun a => Fin.ext (match a with
    | ⟨0, _⟩ => h0.trans (by show _ = p.val; omega)
    | ⟨1, _⟩ => h.trans (by show _ = r.val; omega)
    | ⟨2, _⟩ => h'.trans (by show _ = d.val; omega))

/-- A block's entry, which is also a result's. -/
theorem block_entry (y : S1x256x2048.Idx) : ∃ (r : Fin 256) (d : Fin 2048), y = ix3 (0 : Fin 1) r d :=
  ⟨y 1, y 2, (eq_ix3 y).trans (congrArg (fun a => ix3 a (y 1) (y 2)) (Subsingleton.elim (α := Fin 1) _ _))⟩
theorem rows_cover (i : S1x256x2048.Idx) : ∃ (_ : Fin grid0.N) (r : Fin 256) (d : Fin 2048), i = ix3 (0 : Fin 1) r d := by
  obtain ⟨r, d, h⟩ := block_entry i
  exact ⟨⟨0, by have e : grid0.N = 1 := N_0; omega⟩, r, d, h⟩

section
variable (m : (ℓ : Loc nD τ sig) → Buf (Elt Ideal) ℓ) (hO : Ok m) (c : Dev nD) {k : Fin 4} (hk : tbl m = pinned k)
variable (t : Fin grid0.N) (r : Fin 256) (d : Fin 2048)

include hk in
/-- The parts' blocks at a device's table. -/
theorem part_index : (win0 (adm m hO) 0).index t = ![(k.succAbove 0).val, 0, 0] ∧ (win0 (adm m hO) 1).index t = ![(k.succAbove 1).val, 0, 0]
    ∧ (win0 (adm m hO) 2).index t = ![(k.succAbove 2).val, 0, 0] ∧ (win0 (adm m hO) 3).index t = ![k.val, 0, 0] := by
  have h := part_facts k t
  rw [← hk] at h
  exact h

include hk in
theorem iblk_0 : (iblk m hO c 0 t : Vec Ideal S1x256x2048 .bf16) (ix3 (0 : Fin 1) r d) = V m c main_arg0 (ix3 (k.succAbove 0) (r) d) :=
  congrArg (V m c main_arg0) (entry r d _ _ ((Pipeline.Window.rect_emb_val (win0 (adm m hO) 0) t (ix3 (0 : Fin 1) r d) 0).trans (by rw [(part_index m hO hk t).1]; rfl))
    ((Pipeline.Window.rect_emb_val (win0 (adm m hO) 0) t (ix3 (0 : Fin 1) r d) 1).trans (by rw [(part_index m hO hk t).1]; rfl))
    ((Pipeline.Window.rect_emb_val (win0 (adm m hO) 0) t (ix3 (0 : Fin 1) r d) 2).trans (by rw [(part_index m hO hk t).1]; rfl)))
include hk in
theorem iblk_1 : (iblk m hO c 1 t : Vec Ideal S1x256x2048 .bf16) (ix3 (0 : Fin 1) r d) = V m c main_arg0 (ix3 (k.succAbove 1) (r) d) :=
  congrArg (V m c main_arg0) (entry r d _ _ ((Pipeline.Window.rect_emb_val (win0 (adm m hO) 1) t (ix3 (0 : Fin 1) r d) 0).trans (by rw [(part_index m hO hk t).2.1]; rfl))
    ((Pipeline.Window.rect_emb_val (win0 (adm m hO) 1) t (ix3 (0 : Fin 1) r d) 1).trans (by rw [(part_index m hO hk t).2.1]; rfl))
    ((Pipeline.Window.rect_emb_val (win0 (adm m hO) 1) t (ix3 (0 : Fin 1) r d) 2).trans (by rw [(part_index m hO hk t).2.1]; rfl)))
include hk in
theorem iblk_2 : (iblk m hO c 2 t : Vec Ideal S1x256x2048 .bf16) (ix3 (0 : Fin 1) r d) = V m c main_arg0 (ix3 (k.succAbove 2) (r) d) :=
  congrArg (V m c main_arg0) (entry r d _ _ ((Pipeline.Window.rect_emb_val (win0 (adm m hO) 2) t (ix3 (0 : Fin 1) r d) 0).trans (by rw [(part_index m hO hk t).2.2.1]; rfl))
    ((Pipeline.Window.rect_emb_val (win0 (adm m hO) 2) t (ix3 (0 : Fin 1) r d) 1).trans (by rw [(part_index m hO hk t).2.2.1]; rfl))
    ((Pipeline.Window.rect_emb_val (win0 (adm m hO) 2) t (ix3 (0 : Fin 1) r d) 2).trans (by rw [(part_index m hO hk t).2.2.1]; rfl)))
include hk in
theorem iblk_3 : (iblk m hO c 3 t : Vec Ideal S1x256x2048 .bf16) (ix3 (0 : Fin 1) r d) = V m c main_arg1 (ix3 k (r) d) :=
  congrArg (V m c main_arg1) (entry r d _ _ ((Pipeline.Window.rect_emb_val (win0 (adm m hO) 3) t (ix3 (0 : Fin 1) r d) 0).trans (by rw [(part_index m hO hk t).2.2.2]; rfl))
    ((Pipeline.Window.rect_emb_val (win0 (adm m hO) 3) t (ix3 (0 : Fin 1) r d) 1).trans (by rw [(part_index m hO hk t).2.2.2]; rfl))
    ((Pipeline.Window.rect_emb_val (win0 (adm m hO) 3) t (ix3 (0 : Fin 1) r d) 2).trans (by rw [(part_index m hO hk t).2.2.2]; rfl)))

/-- The weight's and its moments' blocks. -/
theorem weight_index : (win0 (adm m hO) 4).index t = ![0, 0, 0] ∧ (win0 (adm m hO) 5).index t = ![0, 0, 0]
    ∧ (win0 (adm m hO) 6).index t = ![0, 0, 0] := weight_facts t
theorem iblk_4 : (iblk m hO c 4 t : Vec Ideal S1x256x2048 .f32) (ix3 (0 : Fin 1) r d) = V m c main_arg3 (ix3 (0 : Fin 1) (r) d) :=
  congrArg (V m c main_arg3) (entry r d _ _ ((Pipeline.Window.rect_emb_val (win0 (adm m hO) 4) t (ix3 (0 : Fin 1) r d) 0).trans (by rw [(weight_index m hO t).1]; rfl))
    ((Pipeline.Window.rect_emb_val (win0 (adm m hO) 4) t (ix3 (0 : Fin 1) r d) 1).trans (by rw [(weight_index m hO t).1]; rfl))
    ((Pipeline.Window.rect_emb_val (win0 (adm m hO) 4) t (ix3 (0 : Fin 1) r d) 2).trans (by rw [(weight_index m hO t).1]; rfl)))
theorem iblk_5 : (iblk m hO c 5 t : Vec Ideal S1x256x2048 .f32) (ix3 (0 : Fin 1) r d) = V m c main_arg4 (ix3 (0 : Fin 1) (r) d) :=
  congrArg (V m c main_arg4) (entry r d _ _ ((Pipeline.Window.rect_emb_val (win0 (adm m hO) 5) t (ix3 (0 : Fin 1) r d) 0).trans (by rw [(weight_index m hO t).2.1]; rfl))
    ((Pipeline.Window.rect_emb_val (win0 (adm m hO) 5) t (ix3 (0 : Fin 1) r d) 1).trans (by rw [(weight_index m hO t).2.1]; rfl))
    ((Pipeline.Window.rect_emb_val (win0 (adm m hO) 5) t (ix3 (0 : Fin 1) r d) 2).trans (by rw [(weight_index m hO t).2.1]; rfl)))
theorem iblk_6 : (iblk m hO c 6 t : Vec Ideal S1x256x2048 .f32) (ix3 (0 : Fin 1) r d) = V m c main_arg5 (ix3 (0 : Fin 1) (r) d) :=
  congrArg (V m c main_arg5) (entry r d _ _ ((Pipeline.Window.rect_emb_val (win0 (adm m hO) 6) t (ix3 (0 : Fin 1) r d) 0).trans (by rw [(weight_index m hO t).2.2]; rfl))
    ((Pipeline.Window.rect_emb_val (win0 (adm m hO) 6) t (ix3 (0 : Fin 1) r d) 1).trans (by rw [(weight_index m hO t).2.2]; rfl))
    ((Pipeline.Window.rect_emb_val (win0 (adm m hO) 6) t (ix3 (0 : Fin 1) r d) 2).trans (by rw [(weight_index m hO t).2.2]; rfl)))

/-- Where a point's results lie, and that every point writes them back. -/
theorem result_index : (win0 (adm m hO) 7).index t = ![0, 0, 0] ∧ (win0 (adm m hO) 8).index t = ![0, 0, 0]
    ∧ (win0 (adm m hO) 9).index t = ![0, 0, 0] ∧ (win0 (adm m hO) 10).index t = ![0, 0, 0] := result_facts t
theorem emb_7 : (((cfgM m hO).win 7).blk t).view.emb (ix3 (0 : Fin 1) r d) = (ix3 (0 : Fin 1) (r) d : S1x256x2048.Idx) :=
  entry r d _ _ ((Pipeline.Window.rect_emb_val (win0 (adm m hO) 7) t (ix3 (0 : Fin 1) r d) 0).trans (by rw [(result_index m hO t).1]; rfl))
    ((Pipeline.Window.rect_emb_val (win0 (adm m hO) 7) t (ix3 (0 : Fin 1) r d) 1).trans (by rw [(result_index m hO t).1]; rfl))
    ((Pipeline.Window.rect_emb_val (win0 (adm m hO) 7) t (ix3 (0 : Fin 1) r d) 2).trans (by rw [(result_index m hO t).1]; rfl))
theorem emb_8 : (((cfgM m hO).win 8).blk t).view.emb (ix3 (0 : Fin 1) r d) = (ix3 (0 : Fin 1) (r) d : S1x256x2048.Idx) :=
  entry r d _ _ ((Pipeline.Window.rect_emb_val (win0 (adm m hO) 8) t (ix3 (0 : Fin 1) r d) 0).trans (by rw [(result_index m hO t).2.1]; rfl))
    ((Pipeline.Window.rect_emb_val (win0 (adm m hO) 8) t (ix3 (0 : Fin 1) r d) 1).trans (by rw [(result_index m hO t).2.1]; rfl))
    ((Pipeline.Window.rect_emb_val (win0 (adm m hO) 8) t (ix3 (0 : Fin 1) r d) 2).trans (by rw [(result_index m hO t).2.1]; rfl))
theorem emb_9 : (((cfgM m hO).win 9).blk t).view.emb (ix3 (0 : Fin 1) r d) = (ix3 (0 : Fin 1) (r) d : S1x256x2048.Idx) :=
  entry r d _ _ ((Pipeline.Window.rect_emb_val (win0 (adm m hO) 9) t (ix3 (0 : Fin 1) r d) 0).trans (by rw [(result_index m hO t).2.2.1]; rfl))
    ((Pipeline.Window.rect_emb_val (win0 (adm m hO) 9) t (ix3 (0 : Fin 1) r d) 1).trans (by rw [(result_index m hO t).2.2.1]; rfl))
    ((Pipeline.Window.rect_emb_val (win0 (adm m hO) 9) t (ix3 (0 : Fin 1) r d) 2).trans (by rw [(result_index m hO t).2.2.1]; rfl))
theorem emb_10 : (((cfgM m hO).win 10).blk t).view.emb (ix3 (0 : Fin 1) r d) = (ix3 (0 : Fin 1) (r) d : S1x256x2048.Idx) :=
  entry r d _ _ ((Pipeline.Window.rect_emb_val (win0 (adm m hO) 10) t (ix3 (0 : Fin 1) r d) 0).trans (by rw [(result_index m hO t).2.2.2]; rfl))
    ((Pipeline.Window.rect_emb_val (win0 (adm m hO) 10) t (ix3 (0 : Fin 1) r d) 1).trans (by rw [(result_index m hO t).2.2.2]; rfl))
    ((Pipeline.Window.rect_emb_val (win0 (adm m hO) 10) t (ix3 (0 : Fin 1) r d) 2).trans (by rw [(result_index m hO t).2.2.2]; rfl))

theorem flush_facts : ∀ t : Fin grid0.N, (win0 ⟨pinned 0, ok_pinned 0⟩ 7).flush t = true ∧ (win0 ⟨pinned 0, ok_pinned 0⟩ 8).flush t = true
    ∧ (win0 ⟨pinned 0, ok_pinned 0⟩ 9).flush t = true ∧ (win0 ⟨pinned 0, ok_pinned 0⟩ 10).flush t = true := by decide +kernel

/-- What a point leaves in the results' buffers. -/
theorem left_7 (y : S1x256x2048.Idx) : (outsAt0 m hO c t).1 y
    = k0_pay7 (iblk m hO c 3 t) (iblk m hO c 0 t) (iblk m hO c 1 t) (iblk m hO c 2 t) y := by
  unfold outsAt0
  dsimp only
  apply out_7
theorem left_8 (y : S1x256x2048.Idx) : (outsAt0 m hO c t).2.1 y
    = k0_pay3 (k0_pay5 (iblk m hO c 3 t) (iblk m hO c 0 t) (iblk m hO c 1 t) (iblk m hO c 2 t) (iblk m hO c 5 t))
      (k0_pay6 (iblk m hO c 3 t) (iblk m hO c 0 t) (iblk m hO c 1 t) (iblk m hO c 2 t) (iblk m hO c 6 t)) (iblk m hO c 4 t) y := by
  unfold outsAt0
  dsimp only
  apply out_8
theorem left_9 (y : S1x256x2048.Idx) : (outsAt0 m hO c t).2.2.1 y
    = k0_pay1 (k0_pay5 (iblk m hO c 3 t) (iblk m hO c 0 t) (iblk m hO c 1 t) (iblk m hO c 2 t) (iblk m hO c 5 t)) y := by
  unfold outsAt0
  dsimp only
  apply out_9
theorem left_10 (y : S1x256x2048.Idx) : (outsAt0 m hO c t).2.2.2 y
    = k0_pay2 (k0_pay6 (iblk m hO c 3 t) (iblk m hO c 0 t) (iblk m hO c 1 t) (iblk m hO c 2 t) (iblk m hO c 6 t)) y := by
  unfold outsAt0
  dsimp only
  apply out_10

include hk in
/-- A point's gradient is its block of the whole gradient. -/
theorem part_at : part (iblk m hO c 0 t) (iblk m hO c 1 t) (iblk m hO c 2 t) (iblk m hO c 3 t) r d
    = gathered k (V m c main_arg0) (V m c main_arg1) (ix3 (0 : Fin 1) (r) d) := by
  unfold part gathered
  rw [iblk_0 m hO c hk t r d, iblk_1 m hO c hk t r d, iblk_2 m hO c hk t r d, iblk_3 m hO c hk t r d]

/-! ## The arrays after the run -/

include hk in
theorem final_7 : (dats m hO 0 c).arrAt 7 (cfgM m hO).N = gathered k (V m c main_arg0) (V m c main_arg1) := by
  refine Pipeline.Dat.arrAt_eq_of_cover (dats m hO 0 c) 7 _ (fun t _ => ?_) (fun i => ?_)
  · funext y
    obtain ⟨r, d, rfl⟩ := block_entry y
    refine Eq.trans ?_ (congrArg (gathered k (V m c main_arg0) (V m c main_arg1)) (emb_7 m hO t r d)).symm
    show (dats m hO 0 c).after 7 t (ix3 (0 : Fin 1) r d) = _
    rw [after0_7]
    refine (left_7 m hO c t _).trans ?_
    refine Eq.trans (α := EReal) (gradient_stored _ _ _ _ r d) ?_
    exact (gradient_apply _ _ _ _ r d).trans (part_at m hO c hk t r d)
  · obtain ⟨t, r, d, rfl⟩ := rows_cover i
    exact ⟨t, (flush_facts t).1, Eq.subst (motive := fun j => j ∈ (((cfgM m hO).win 7).blk t).view.set) (emb_7 m hO t r d) ((((cfgM m hO).win 7).blk t).view.emb_mem_set (ix3 (0 : Fin 1) r d))⟩

include hk in
theorem final_8 : (dats m hO 0 c).arrAt 8 (cfgM m hO).N
    = changes k (V m c main_arg0) (V m c main_arg1) (V m c main_arg3) (V m c main_arg4) (V m c main_arg5) := by
  refine Pipeline.Dat.arrAt_eq_of_cover (dats m hO 0 c) 8 _ (fun t _ => ?_) (fun i => ?_)
  · funext y
    obtain ⟨r, d, rfl⟩ := block_entry y
    refine Eq.trans ?_ (congrArg (changes k (V m c main_arg0) (V m c main_arg1) (V m c main_arg3) (V m c main_arg4) (V m c main_arg5)) (emb_8 m hO t r d)).symm
    show (dats m hO 0 c).after 8 t (ix3 (0 : Fin 1) r d) = _
    rw [after0_8]
    refine (left_8 m hO c t _).trans ?_
    refine (change_apply _ _ _ _ _ _ _ r d).trans ?_
    rw [part_at m hO c hk t r d, iblk_4, iblk_5, iblk_6]
    rfl
  · obtain ⟨t, r, d, rfl⟩ := rows_cover i
    exact ⟨t, (flush_facts t).2.1, Eq.subst (motive := fun j => j ∈ (((cfgM m hO).win 8).blk t).view.set) (emb_8 m hO t r d) ((((cfgM m hO).win 8).blk t).view.emb_mem_set (ix3 (0 : Fin 1) r d))⟩

include hk in
theorem final_9 : (dats m hO 0 c).arrAt 9 (cfgM m hO).N = firsts k (V m c main_arg0) (V m c main_arg1) (V m c main_arg4) := by
  refine Pipeline.Dat.arrAt_eq_of_cover (dats m hO 0 c) 9 _ (fun t _ => ?_) (fun i => ?_)
  · funext y
    obtain ⟨r, d, rfl⟩ := block_entry y
    refine Eq.trans ?_ (congrArg (firsts k (V m c main_arg0) (V m c main_arg1) (V m c main_arg4)) (emb_9 m hO t r d)).symm
    show (dats m hO 0 c).after 9 t (ix3 (0 : Fin 1) r d) = _
    rw [after0_9]
    refine (left_9 m hO c t _).trans ?_
    refine Eq.trans (α := EReal) (first_stored r d _) ((first_apply _ _ _ _ _ r d).trans ?_)
    rw [part_at m hO c hk t r d, iblk_5]
    rfl
  · obtain ⟨t, r, d, rfl⟩ := rows_cover i
    exact ⟨t, (flush_facts t).2.2.1, Eq.subst (motive := fun j => j ∈ (((cfgM m hO).win 9).blk t).view.set) (emb_9 m hO t r d) ((((cfgM m hO).win 9).blk t).view.emb_mem_set (ix3 (0 : Fin 1) r d))⟩

include hk in
theorem final_10 : (dats m hO 0 c).arrAt 10 (cfgM m hO).N = seconds k (V m c main_arg0) (V m c main_arg1) (V m c main_arg5) := by
  refine Pipeline.Dat.arrAt_eq_of_cover (dats m hO 0 c) 10 _ (fun t _ => ?_) (fun i => ?_)
  · funext y
    obtain ⟨r, d, rfl⟩ := block_entry y
    refine Eq.trans ?_ (congrArg (seconds k (V m c main_arg0) (V m c main_arg1) (V m c main_arg5)) (emb_10 m hO t r d)).symm
    show (dats m hO 0 c).after 10 t (ix3 (0 : Fin 1) r d) = _
    rw [after0_10]
    refine (left_10 m hO c t _).trans ?_
    refine Eq.trans (α := EReal) (second_stored r d _) ((second_apply _ _ _ _ _ r d).trans ?_)
    rw [part_at m hO c hk t r d, iblk_6]
    rfl
  · obtain ⟨t, r, d, rfl⟩ := rows_cover i
    exact ⟨t, (flush_facts t).2.2.2, Eq.subst (motive := fun j => j ∈ (((cfgM m hO).win 10).blk t).view.set) (emb_10 m hO t r d) ((((cfgM m hO).win 10).blk t).view.emb_mem_set (ix3 (0 : Fin 1) r d))⟩

end

/-- The run, its results named and its arguments kept. -/
theorem run_arrays (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v0_0) = (dats m hO 0 c).arrAt 7 (cfgM m hO).N
      ∧ r.2.mem ((c.tc : Thread nD τ).loc main_v0_1) = (dats m hO 0 c).arrAt 8 (cfgM m hO).N
      ∧ r.2.mem ((c.tc : Thread nD τ).loc main_v0_2) = (dats m hO 0 c).arrAt 9 (cfgM m hO).N
      ∧ r.2.mem ((c.tc : Thread nD τ).loc main_v0_3) = (dats m hO 0 c).arrAt 10 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 7, (h.1 c).1 8, (h.1 c).1 9, (h.1 c).1 10, h.2 c⟩) (θ_run_and (run_main m ρ hO) (unchanged m ρ hO))

/-! ## The reference -/

section
open Cert.OptRowsRefIdeal Cert.OptRowsRefIdeal.Read Cert.OptRowsRefIdeal.Gen
variable {k : Fin 4} (land sums : S4x256x2048.Idx → EReal) (chip : S1.Idx → BitVec 32) (w u v : S1x256x2048.Idx → EReal)

/-- The reference's choice between the own part and a landed one. -/
theorem choice_apply (hc : ∀ i, chip i = BitVec.ofNat 32 k.val) (j : Fin 4) (s : Fin 256) (d : Fin 2048) :
    @Eq EReal (val_main_v7 (F := Ideal) land sums chip (ix3 j s d)) (if j = k then sums (ix3 j s d) else land (ix3 j s d)) := by
  rw [val_main_v7_apply, val_main_call0_v0_apply, val_main_v4_apply, val_main_v1_apply, val_main_v0_apply, val_main_v3_apply, val_main_v2_apply, hc]
  exact choose_eq j k _ _

/-- The reference's four results. -/
theorem reference_7 (hc : ∀ i, chip i = BitVec.ofNat 32 k.val) : val_main_v9 (F := Ideal) land sums chip = gathered k land sums := by
  funext y
  rw [val_main_v9_apply]
  refine (val_main_v8_apply land sums chip _).trans ?_
  refine Eq.trans (congrArg₂ (· + ·) Ideal.ofBits_zero_f32 (Finset.sum_congr rfl fun j _ => ?_)) ((zero_add _).trans (sum_parts k land sums y))
  refine Eq.trans (congrArg (val_main_v7 (F := Ideal) land sums chip) ?_) (choice_apply land sums chip hc j (y 1) (y 2))
  exact funext fun a => match a with | ⟨0, _⟩ => rfl | ⟨1, _⟩ => rfl | ⟨2, _⟩ => rfl

theorem reference_9 (hc : ∀ i, chip i = BitVec.ofNat 32 k.val) : val_main_v14 (F := Ideal) land sums chip u = firsts k land sums u := by
  funext y
  show Ideal.ofBits .f32 0x3F666666#32 * u y + Ideal.ofBits .f32 0x3DCCCCCD#32 * (val_main_v9 (F := Ideal) land sums chip y : EReal) = _
  rw [reference_7 land sums chip hc]
  rfl

theorem reference_10 (hc : ∀ i, chip i = BitVec.ofNat 32 k.val) : val_main_v20 (F := Ideal) land sums chip v = seconds k land sums v := by
  funext y
  show Ideal.ofBits .f32 0x3F7FBE77#32 * v y + Ideal.ofBits .f32 0x3A83126F#32
    * ((val_main_v9 (F := Ideal) land sums chip y : EReal) * (val_main_v9 (F := Ideal) land sums chip y : EReal)) = _
  rw [reference_7 land sums chip hc]
  rfl

theorem reference_8 (hc : ∀ i, chip i = BitVec.ofNat 32 k.val) : val_main_v33 (F := Ideal) land sums chip w u v = changes k land sums w u v := by
  funext y
  show Ideal.ofBits .f32 0xBA83126F#32 * (Ideal.div (Ideal.div (val_main_v14 (F := Ideal) land sums chip u y : EReal) (Ideal.ofBits .f32 0x3F26BD02#32))
    (Ideal.sqrt (Ideal.div (val_main_v20 (F := Ideal) land sums chip v y : EReal) (Ideal.ofBits .f32 0x3C231ACC#32)) + Ideal.ofBits .f32 0x322BCC77#32)
    + Ideal.ofBits .f32 0x3C23D70A#32 * w y) = _
  rw [reference_9 land sums chip u hc, reference_10 land sums chip v hc]
  rfl
end
end Cert.OptRowsIdeal.Hand

namespace Cert.Proof
open Idealize.ShloMosaic Idealize.ShloMosaic.TcCoe Idealize.SL.Sem

/-- The optimiser's step of a weight shared by rows, kernel and reference. -/
theorem algebraic_opt_rows : @Cert.algebraic_OptRowsIdeal_OptRowsRefIdeal Cert.OptRowsIdeal.Gen.facts Cert.OptRowsRefIdeal.Gen.facts
    Cert.Pre_a_chip.Gen.facts := by
  pair_intro
  · run_from Cert.OptRowsIdeal.Hand.run_arrays m g (Cert.OptRowsIdeal.Hand.ok_of_pre m hpre)
  · refine (θ_run _ _ _).mono (fun r hr c => ?_) (Cert.OptRowsRefIdeal.Value.run m' g')
    obtain ⟨r0, r1, r2, r3, ra⟩ := hr c
    obtain ⟨a0, a1, a2, a3, a4, a5⟩ := hagree c
    obtain ⟨k, hk⟩ := Cert.OptRowsIdeal.Hand.tbl_of_pre m hpre
    have hO := Cert.OptRowsIdeal.Hand.ok_of_pre m hpre
    have hc : ∀ i, m ((c.tc : Thread Cert.OptRowsIdeal.nD Cert.OptRowsIdeal.τ).loc Cert.OptRowsIdeal.main_arg2) i = BitVec.ofNat 32 k.val :=
      fun i => congrFun ((Cert.OptRowsIdeal.Gen.V_pre m c 0).trans (congrFun hk 0)) i
    refine ⟨r0.trans ?_, r1.trans ?_, r2.trans ?_, r3.trans ?_, ra⟩
    · rw [Cert.OptRowsRefIdeal.Read.val_main_v9_eq, a0, a1, a2]
      exact (Cert.OptRowsIdeal.Hand.reference_7 _ _ _ hc).trans (Cert.OptRowsIdeal.Hand.final_7 m hO c hk).symm
    · rw [Cert.OptRowsRefIdeal.Read.val_main_v33_eq, a0, a1, a2, a3, a4, a5]
      exact (Cert.OptRowsIdeal.Hand.reference_8 _ _ _ _ _ _ hc).trans (Cert.OptRowsIdeal.Hand.final_8 m hO c hk).symm
    · rw [Cert.OptRowsRefIdeal.Read.val_main_v14_eq, a0, a1, a2, a4]
      exact (Cert.OptRowsIdeal.Hand.reference_9 _ _ _ _ hc).trans (Cert.OptRowsIdeal.Hand.final_9 m hO c hk).symm
    · rw [Cert.OptRowsRefIdeal.Read.val_main_v20_eq, a0, a1, a2, a5]
      exact (Cert.OptRowsIdeal.Hand.reference_10 _ _ _ _ hc).trans (Cert.OptRowsIdeal.Hand.final_10 m hO c hk).symm

end Cert.Proof
end
-- ==== Proof.OptColumns.lean ====
module

public import proofs.«01_k».proof.Defs
public import proofs.«01_k».proof.Proof.Gen.OptColumns.Frame
public import proofs.«01_k».proof.Proof.Gen.OptColumnsIdeal.Frame
public import proofs.«01_k».proof.Proof.Gen.OptColumnsRefIdeal.Run
public import proofs.«01_k».proof.Proof.Gen.OptColumnsRefIdeal.Read
public import proofs.«01_k».proof.Proof.Gen.Pre_a_chip_columns
public import proofs.«01_k».proof.Proof.Optimiser
public import proofs.«01_k».proof.Proof.Products
public import proofs.«01_k».proof.Proof.Spec

/-!
The optimiser's step of a weight that the devices share by columns. The device's number is a table read before the grid
runs: it says which part of the sums is the device's own and which landed parts are the others'. The grid's point `t`
takes the rows `256 t` on of every array.
-/

@[expose] public section
set_option maxRecDepth 16384

noncomputable section

namespace Cert.OptColumns.Hand
open Cert.OptColumns Cert.OptColumns.Gen Idealize.ShloMosaic Idealize.ShloMosaic.TcCoe Idealize.SL.Sem

set_option backward.proofsInPublic true in
/-- The table that holds device `k`'s number. -/
def pinned (k : Fin 4) : pre0.Contents (Elt Bits) := fun | ⟨0, _⟩ => fun _ => BitVec.ofNat 32 k.val | ⟨_ + 1, h⟩ => absurd h (by simp)

/-- The precondition makes the table one of the four. -/
theorem tbl_of_pre (m : (ℓ : Loc nD τ sig) → Buf (Elt Bits) ℓ) (h : Cert.Pre_OptColumns m) : ∃ k, tbl m = pinned k := by
  obtain ⟨k, hk⟩ := Cert.Optimiser.word_cases _ (congrFun (h 0).1 (ValueIdx.ix1 0)) (congrFun (h 0).2 (ValueIdx.ix1 0))
  refine ⟨k, funext fun j => ?_⟩
  match j with
  | ⟨0, _⟩ => exact funext fun x => (congrArg _ (Cert.Optimiser.one_index x _)).trans hk

/-- At each of them every block lies in its array. -/
theorem ok_pinned : ∀ k, ok0 (pinned k) := by decide +kernel

/-- So the precondition gives what the run needs of the table. -/
theorem ok_of_pre (m : (ℓ : Loc nD τ sig) → Buf (Elt Bits) ℓ) (h : Cert.Pre_OptColumns m) : Ok (F := Bits) m := by
  obtain ⟨k, hk⟩ := tbl_of_pre m h
  exact (congrArg ok0 hk).mpr (ok_pinned k)

end Cert.OptColumns.Hand

namespace Cert.OptColumnsIdeal.Hand
open Cert.OptColumnsIdeal Cert.OptColumnsIdeal.Gen Cert.Optimiser
open Idealize.ShloMosaic hiding ix2 ix1 ix3 eq_ix2 eq_ix3
open Idealize.ShloMosaic.TcCoe Idealize.ShloMosaic.ValueIdx Idealize.SL.Sem

set_option backward.proofsInPublic true in
/-- The table that holds device `k`'s number. -/
def pinned (k : Fin 4) : pre0.Contents (Elt Ideal) := fun | ⟨0, _⟩ => fun _ => BitVec.ofNat 32 k.val | ⟨_ + 1, h⟩ => absurd h (by simp)

/-- The precondition makes the table one of the four. -/
theorem tbl_of_pre (m : (ℓ : Loc nD τ sig) → Buf (Elt Ideal) ℓ) (h : Cert.Pre_OptColumnsIdeal m) : ∃ k, tbl m = pinned k := by
  obtain ⟨k, hk⟩ := word_cases _ (congrFun (h 0).1 (ValueIdx.ix1 0)) (congrFun (h 0).2 (ValueIdx.ix1 0))
  refine ⟨k, funext fun j => ?_⟩
  match j with
  | ⟨0, _⟩ => exact funext fun x => (congrArg _ (Cert.Optimiser.one_index x _)).trans hk

/-- At each of them every block lies in its array. -/
theorem ok_pinned : ∀ k, ok0 (pinned k) := by decide +kernel

/-- So the precondition gives what the run needs of the table. -/
theorem ok_of_pre (m : (ℓ : Loc nD τ sig) → Buf (Elt Ideal) ℓ) (h : Cert.Pre_OptColumnsIdeal m) : Ok (F := Ideal) m := by
  obtain ⟨k, hk⟩ := tbl_of_pre m h
  exact (congrArg ok0 hk).mpr (ok_pinned k)

/-! ## One block -/

/-- A block of rows as a matrix. -/
theorem squeeze {e : EltTy} (x : Vec Ideal S1x256x256 e) (r d : Fin 256) :
    shapeCast S256x256 x shapeCasts_S1x256x256_S256x256 (ix2 r d) = x (ix3 (0 : Fin 1) r d) :=
  shapeCast_apply _ _ (ix2 r d) (ix3 (0 : Fin 1) r d) (by
    rw [Shape.rowMajor_val_two, Shape.rowMajor_val_three]; show (0 * 256 + r.val) * 256 + d.val = r.val * 256 + d.val; omega)

/-- A matrix as a block of rows. -/
theorem unsqueeze {e : EltTy} (x : Vec Ideal S256x256 e) (r d : Fin 256) :
    shapeCast S1x256x256 x shapeCasts_S256x256_S1x256x256 (ix3 (0 : Fin 1) r d) = x (ix2 r d) :=
  shapeCast_apply _ _ (ix3 (0 : Fin 1) r d) (ix2 r d) (by
    rw [Shape.rowMajor_val_two, Shape.rowMajor_val_three]; show r.val * 256 + d.val = (0 * 256 + r.val) * 256 + d.val; omega)

section
variable (x0 x1 x2 x3 : Vec Ideal S1x256x256 .bf16) (x4 x5 x6 : Vec Ideal S1x256x256 .f32) (r d : Fin 256)

/-- The gradient of a block: the own part first, then the three that landed. -/
def part : EReal := (x3 (ix3 (0 : Fin 1) r d) : EReal) + x0 (ix3 (0 : Fin 1) r d) + x1 (ix3 (0 : Fin 1) r d) + x2 (ix3 (0 : Fin 1) r d)

theorem gradient_apply : @Eq EReal (k0_pay4 x3 x0 x1 x2 (ix2 r d)) (part x0 x1 x2 x3 r d) := by
  unfold k0_pay4
  show (shapeCast S256x256 x3 shapeCasts_S1x256x256_S256x256 (ix2 r d) : EReal) + shapeCast S256x256 x0 shapeCasts_S1x256x256_S256x256 (ix2 r d)
    + shapeCast S256x256 x1 shapeCasts_S1x256x256_S256x256 (ix2 r d) + shapeCast S256x256 x2 shapeCasts_S1x256x256_S256x256 (ix2 r d) = _
  rw [squeeze, squeeze, squeeze, squeeze]
  rfl

theorem first_apply : @Eq EReal (k0_pay5 x3 x0 x1 x2 x5 (ix2 r d)) (first (part x0 x1 x2 x3 r d) (x5 (ix3 (0 : Fin 1) r d))) := by
  unfold k0_pay5
  show Ideal.ofBits .f32 0x3F666666#32 * (shapeCast S256x256 x5 shapeCasts_S1x256x256_S256x256 (ix2 r d) : EReal)
    + Ideal.ofBits .f32 0x3DCCCCCD#32 * (k0_pay4 x3 x0 x1 x2 (ix2 r d) : EReal) = _
  rw [squeeze, gradient_apply]
  rfl

theorem second_apply : @Eq EReal (k0_pay6 x3 x0 x1 x2 x6 (ix2 r d)) (second (part x0 x1 x2 x3 r d) (x6 (ix3 (0 : Fin 1) r d))) := by
  unfold k0_pay6
  show Ideal.ofBits .f32 0x3F7FBE77#32 * (shapeCast S256x256 x6 shapeCasts_S1x256x256_S256x256 (ix2 r d) : EReal)
    + Ideal.ofBits .f32 0x3A83126F#32 * ((k0_pay4 x3 x0 x1 x2 (ix2 r d) : EReal) * (k0_pay4 x3 x0 x1 x2 (ix2 r d) : EReal)) = _
  rw [squeeze, gradient_apply]
  rfl

theorem change_apply : @Eq EReal (k0_pay3 (k0_pay5 x3 x0 x1 x2 x5) (k0_pay6 x3 x0 x1 x2 x6) x4 (ix3 (0 : Fin 1) r d))
    (change (x4 (ix3 (0 : Fin 1) r d)) (part x0 x1 x2 x3 r d) (x5 (ix3 (0 : Fin 1) r d)) (x6 (ix3 (0 : Fin 1) r d))) := by
  unfold k0_pay3
  refine Eq.trans (α := EReal) (unsqueeze (e := .f32) _ r d) ?_
  show Ideal.ofBits .f32 0xBA83126F#32 * (Ideal.div (Ideal.div (k0_pay5 x3 x0 x1 x2 x5 (ix2 r d) : EReal) (Ideal.ofBits .f32 0x3F26BD02#32))
    (Ideal.sqrt (Ideal.div (k0_pay6 x3 x0 x1 x2 x6 (ix2 r d) : EReal) (Ideal.ofBits .f32 0x3C231ACC#32)) + Ideal.ofBits .f32 0x322BCC77#32)
    + Ideal.ofBits .f32 0x3C23D70A#32 * (shapeCast S256x256 x4 shapeCasts_S1x256x256_S256x256 (ix2 r d) : EReal)) = _
  rw [squeeze, first_apply, second_apply]
  rfl

/-- The stored blocks are the computed ones. -/
theorem gradient_stored : k0_pay7 x3 x0 x1 x2 (ix3 (0 : Fin 1) r d) = k0_pay4 x3 x0 x1 x2 (ix2 r d) :=
  unsqueeze (e := .f32) (k0_pay4 x3 x0 x1 x2) r d
theorem first_stored (x : Vec Ideal S256x256 .f32) : k0_pay1 (F := Ideal) x (ix3 (0 : Fin 1) r d) = x (ix2 r d) := unsqueeze x r d
theorem second_stored (x : Vec Ideal S256x256 .f32) : k0_pay2 (F := Ideal) x (ix3 (0 : Fin 1) r d) = x (ix2 r d) := unsqueeze x r d

end

/-! ## What the body leaves -/

/-- Loading a whole block. -/
theorem load_block {e : EltTy} {M : Memref sig .tc .vmem S1x256x256 e} (hM : M.IsWhole) (x : Vec Ideal S1x256x256 e)
    (inb : ∀ a, (![0, 0, 0] : Fin 3 → ℕ) a + S1x256x256.size a ≤ S1x256x256.size a) :
    View.readAt (Elt Ideal) M.view (Rect.unit (s := S1x256x256) ![0, 0, 0] S1x256x256.size inb).toLoadRect (hM.unread x) = x := by
  funext y
  rw [hM.readAt_unread]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A store of a whole block puts every entry at its place. -/
theorem emb_block (inb : ∀ a, (![0, 0, 0] : Fin 3 → ℕ) a + S1x256x256.size a ≤ S1x256x256.size a) (y : S1x256x256.Idx) :
    (Rect.unit (s := S1x256x256) ![0, 0, 0] S1x256x256.size inb).emb y = y := by
  refine funext fun a => Fin.ext ?_
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

section
variable (c : Dev nD) (i : grid0.Coords) (arg2 : Memref sig .tc .vmem S1x256x256 .bf16) (harg2 : arg2.IsWhole)
  (arg3 : Memref sig .tc .vmem S1x256x256 .bf16) (harg3 : arg3.IsWhole) (arg4 : Memref sig .tc .vmem S1x256x256 .bf16) (harg4 : arg4.IsWhole)
  (arg5 : Memref sig .tc .vmem S1x256x256 .bf16) (harg5 : arg5.IsWhole) (arg6 : Memref sig .tc .vmem S1x256x256 .f32) (harg6 : arg6.IsWhole)
  (arg7 : Memref sig .tc .vmem S1x256x256 .f32) (harg7 : arg7.IsWhole) (arg8 : Memref sig .tc .vmem S1x256x256 .f32) (harg8 : arg8.IsWhole)
  (arg9 : Memref sig .tc .vmem S1x256x256 .f32) (harg9 : arg9.IsWhole) (arg10 : Memref sig .tc .vmem S1x256x256 .f32) (harg10 : arg10.IsWhole)
  (arg11 : Memref sig .tc .vmem S1x256x256 .f32) (harg11 : arg11.IsWhole) (arg12 : Memref sig .tc .vmem S1x256x256 .f32) (harg12 : arg12.IsWhole)
variable (x0 x1 x2 x3 : Vec Ideal S1x256x256 .bf16) (x4 x5 x6 : Vec Ideal S1x256x256 .f32) (xt : TbBuf0 (F := Ideal) c tbM0_0) (y : S1x256x256.Idx)

theorem out_7 : out0_A_7 c i arg2 harg2 arg3 harg3 arg4 harg4 arg5 harg5 arg6 harg6 arg7 harg7 arg8 harg8 arg9 harg9 arg10 harg10 arg11 harg11
    arg12 harg12 x0 x1 x2 x3 x4 x5 x6 xt y = k0_pay7 x3 x0 x1 x2 y := by
  have hcov := cover0_A_7 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_7
  refine View.read_writes_apply_of_pieces _ _ (k0_pay7 x3 x0 x1 x2) _ ?_ y hcov
  clear hcov
  unfold kernelRun0_A
  dsimp only
  sl_unfold_run_names
  refine List.forall_mem_singleton.2 fun x => ?_
  dsimp only
  rw [load_block harg5, load_block harg2, load_block harg3, load_block harg4]
  exact congrArg _ (emb_block _ x).symm

theorem out_8 : out0_A_8 c i arg2 harg2 arg3 harg3 arg4 harg4 arg5 harg5 arg6 harg6 arg7 harg7 arg8 harg8 arg9 harg9 arg10 harg10 arg11 harg11
    arg12 harg12 x0 x1 x2 x3 x4 x5 x6 xt y = k0_pay3 (k0_pay5 x3 x0 x1 x2 x5) (k0_pay6 x3 x0 x1 x2 x6) x4 y := by
  have hcov := cover0_A_8 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_8
  refine View.read_writes_apply_of_pieces _ _ (k0_pay3 (k0_pay5 x3 x0 x1 x2 x5) (k0_pay6 x3 x0 x1 x2 x6) x4) _ ?_ y hcov
  clear hcov
  unfold kernelRun0_A
  dsimp only
  sl_unfold_run_names
  refine List.forall_mem_singleton.2 fun x => ?_
  dsimp only
  rw [load_block harg5, load_block harg2, load_block harg3, load_block harg4, load_block harg7, load_block harg8, load_block harg6]
  exact congrArg _ (emb_block _ x).symm

theorem out_9 : out0_A_9 c i arg2 harg2 arg3 harg3 arg4 harg4 arg5 harg5 arg6 harg6 arg7 harg7 arg8 harg8 arg9 harg9 arg10 harg10 arg11 harg11
    arg12 harg12 x0 x1 x2 x3 x4 x5 x6 xt y = k0_pay1 (k0_pay5 x3 x0 x1 x2 x5) y := by
  have hcov := cover0_A_9 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_9
  refine View.read_writes_apply_of_pieces _ _ (k0_pay1 (k0_pay5 x3 x0 x1 x2 x5)) _ ?_ y hcov
  clear hcov
  unfold kernelRun0_A
  dsimp only
  sl_unfold_run_names
  refine List.forall_mem_singleton.2 fun x => ?_
  dsimp only
  rw [load_block harg5, load_block harg2, load_block harg3, load_block harg4, load_block harg7]
  exact congrArg _ (emb_block _ x).symm

theorem out_10 : out0_A_10 c i arg2 harg2 arg3 harg3 arg4 harg4 arg5 harg5 arg6 harg6 arg7 harg7 arg8 harg8 arg9 harg9 arg10 harg10 arg11 harg11
    arg12 harg12 x0 x1 x2 x3 x4 x5 x6 xt y = k0_pay2 (k0_pay6 x3 x0 x1 x2 x6) y := by
  have hcov := cover0_A_10 c i arg2 harg2 arg3 harg3 arg4 harg4 arg5 harg5 arg6 harg6 arg7 harg7 arg8 harg8 arg9 harg9 arg10 harg10 arg11 harg11
    arg12 harg12 x0 x1 x2 x3 x4 x5 x6 xt y
  unfold out0_A_10
  refine View.read_writes_apply_of_pieces _ _ (k0_pay2 (k0_pay6 x3 x0 x1 x2 x6)) _ ?_ y hcov
  clear hcov
  unfold kernelRun0_A
  dsimp only
  sl_unfold_run_names
  refine List.forall_mem_singleton.2 fun x => ?_
  dsimp only
  rw [load_block harg5, load_block harg2, load_block harg3, load_block harg4, load_block harg8]
  exact congrArg _ (emb_block _ x).symm

end

/-! ## Where the blocks lie -/

/-- The parts that landed, and the own part. -/
theorem part_facts : ∀ (k : Fin 4) (t : Fin grid0.N),
    cc0_transform_0 Facts₀.inb_S1_S1_0 Facts₀.numel1_S1 (pinned k) (grid0.coords t) = ![(k.succAbove 0).val, t.val, 0]
    ∧ cc0_transform_1 Facts₀.inb_S1_S1_0 Facts₀.numel1_S1 (pinned k) (grid0.coords t) = ![(k.succAbove 1).val, t.val, 0]
    ∧ cc0_transform_2 Facts₀.inb_S1_S1_0 Facts₀.numel1_S1 (pinned k) (grid0.coords t) = ![(k.succAbove 2).val, t.val, 0]
    ∧ cc0_transform_3 Facts₀.inb_S1_S1_0 Facts₀.numel1_S1 (pinned k) (grid0.coords t) = ![k.val, t.val, 0] := by decide +kernel

/-- The weight, its moments and the results. -/
theorem weight_facts : ∀ t : Fin grid0.N, cc0_transform_4 (grid0.coords t) = ![0, t.val, 0] ∧ cc0_transform_5 (grid0.coords t) = ![0, t.val, 0]
    ∧ cc0_transform_6 (grid0.coords t) = ![0, t.val, 0] := by decide +kernel
theorem result_facts : ∀ t : Fin grid0.N, cc0_transform_7 (grid0.coords t) = ![0, t.val, 0] ∧ cc0_transform_8 (grid0.coords t) = ![0, t.val, 0]
    ∧ cc0_transform_9 (grid0.coords t) = ![0, t.val, 0] ∧ cc0_transform_10 (grid0.coords t) = ![0, t.val, 0] := by decide +kernel

/-- Row `r` of the block of point `t`. -/
def rowAt (t : Fin grid0.N) (r : Fin 256) : Fin 1024 :=
  ⟨256 * t.val + r.val, by have h := t.isLt; have e : grid0.N = 4 := N_0; omega⟩

/-- An entry with a block's coordinates is that block's entry. -/
theorem entry {n : ℕ} (t : Fin grid0.N) (r d : Fin 256) (p : Fin n) (y : (⟨3, ![n, 1024, 256]⟩ : Shape).Idx) (h0 : (y 0).val = p.val * 1 + 0)
    (h : (y 1).val = t.val * 256 + r.val) (h' : (y 2).val = 0 * 256 + d.val) : y = ix3 p (rowAt t r) d :=
  funext fun a => Fin.ext (match a with
    | ⟨0, _⟩ => h0.trans (by show _ = p.val; omega)
    | ⟨1, _⟩ => h.trans (by show _ = 256 * t.val + r.val; omega)
    | ⟨2, _⟩ => h'.trans (by show _ = d.val; omega))

/-- A block's entry, and every entry of a result lies in one point's block. -/
theorem block_entry (y : S1x256x256.Idx) : ∃ r d : Fin 256, y = ix3 (0 : Fin 1) r d :=
  ⟨y 1, y 2, (eq_ix3 y).trans (congrArg (fun a => ix3 a (y 1) (y 2)) (Subsingleton.elim (α := Fin 1) _ _))⟩
theorem rows_cover (i : S1x1024x256.Idx) : ∃ (t : Fin grid0.N) (r d : Fin 256), i = ix3 (0 : Fin 1) (rowAt t r) d := by
  obtain ⟨a, b, e, rfl⟩ : ∃ (a : Fin 1) (b : Fin 1024) (e : Fin 256), i = ix3 a b e := ⟨i 0, i 1, i 2, eq_ix3 i⟩
  obtain rfl : a = 0 := Subsingleton.elim _ _
  refine ⟨⟨b.val / 256, by have e : grid0.N = 4 := N_0; omega⟩, ⟨b.val % 256, by omega⟩, e, congrArg (fun q => ix3 (0 : Fin 1) q e) (Fin.ext ?_)⟩
  show b.val = 256 * (b.val / 256) + b.val % 256; omega

section
variable (m : (ℓ : Loc nD τ sig) → Buf (Elt Ideal) ℓ) (hO : Ok m) (c : Dev nD) {k : Fin 4} (hk : tbl m = pinned k)
variable (t : Fin grid0.N) (r d : Fin 256)

include hk in
/-- The parts' blocks at a device's table. -/
theorem part_index : (win0 (adm m hO) 0).index t = ![(k.succAbove 0).val, t.val, 0] ∧ (win0 (adm m hO) 1).index t = ![(k.succAbove 1).val, t.val, 0]
    ∧ (win0 (adm m hO) 2).index t = ![(k.succAbove 2).val, t.val, 0] ∧ (win0 (adm m hO) 3).index t = ![k.val, t.val, 0] := by
  have h := part_facts k t
  rw [← hk] at h
  exact h

include hk in
theorem iblk_0 : (iblk m hO c 0 t : Vec Ideal S1x256x256 .bf16) (ix3 (0 : Fin 1) r d) = V m c main_arg0 (ix3 (k.succAbove 0) (rowAt t r) d) :=
  congrArg (V m c main_arg0) (entry t r d _ _ ((Pipeline.Window.rect_emb_val (win0 (adm m hO) 0) t (ix3 (0 : Fin 1) r d) 0).trans (by rw [(part_index m hO hk t).1]; rfl))
    ((Pipeline.Window.rect_emb_val (win0 (adm m hO) 0) t (ix3 (0 : Fin 1) r d) 1).trans (by rw [(part_index m hO hk t).1]; rfl))
    ((Pipeline.Window.rect_emb_val (win0 (adm m hO) 0) t (ix3 (0 : Fin 1) r d) 2).trans (by rw [(part_index m hO hk t).1]; rfl)))
include hk in
theorem iblk_1 : (iblk m hO c 1 t : Vec Ideal S1x256x256 .bf16) (ix3 (0 : Fin 1) r d) = V m c main_arg0 (ix3 (k.succAbove 1) (rowAt t r) d) :=
  congrArg (V m c main_arg0) (entry t r d _ _ ((Pipeline.Window.rect_emb_val (win0 (adm m hO) 1) t (ix3 (0 : Fin 1) r d) 0).trans (by rw [(part_index m hO hk t).2.1]; rfl))
    ((Pipeline.Window.rect_emb_val (win0 (adm m hO) 1) t (ix3 (0 : Fin 1) r d) 1).trans (by rw [(part_index m hO hk t).2.1]; rfl))
    ((Pipeline.Window.rect_emb_val (win0 (adm m hO) 1) t (ix3 (0 : Fin 1) r d) 2).trans (by rw [(part_index m hO hk t).2.1]; rfl)))
include hk in
theorem iblk_2 : (iblk m hO c 2 t : Vec Ideal S1x256x256 .bf16) (ix3 (0 : Fin 1) r d) = V m c main_arg0 (ix3 (k.succAbove 2) (rowAt t r) d) :=
  congrArg (V m c main_arg0) (entry t r d _ _ ((Pipeline.Window.rect_emb_val (win0 (adm m hO) 2) t (ix3 (0 : Fin 1) r d) 0).trans (by rw [(part_index m hO hk t).2.2.1]; rfl))
    ((Pipeline.Window.rect_emb_val (win0 (adm m hO) 2) t (ix3 (0 : Fin 1) r d) 1).trans (by rw [(part_index m hO hk t).2.2.1]; rfl))
    ((Pipeline.Window.rect_emb_val (win0 (adm m hO) 2) t (ix3 (0 : Fin 1) r d) 2).trans (by rw [(part_index m hO hk t).2.2.1]; rfl)))
include hk in
theorem iblk_3 : (iblk m hO c 3 t : Vec Ideal S1x256x256 .bf16) (ix3 (0 : Fin 1) r d) = V m c main_arg1 (ix3 k (rowAt t r) d) :=
  congrArg (V m c main_arg1) (entry t r d _ _ ((Pipeline.Window.rect_emb_val (win0 (adm m hO) 3) t (ix3 (0 : Fin 1) r d) 0).trans (by rw [(part_index m hO hk t).2.2.2]; rfl))
    ((Pipeline.Window.rect_emb_val (win0 (adm m hO) 3) t (ix3 (0 : Fin 1) r d) 1).trans (by rw [(part_index m hO hk t).2.2.2]; rfl))
    ((Pipeline.Window.rect_emb_val (win0 (adm m hO) 3) t (ix3 (0 : Fin 1) r d) 2).trans (by rw [(part_index m hO hk t).2.2.2]; rfl)))

/-- The weight's and its moments' blocks. -/
theorem weight_index : (win0 (adm m hO) 4).index t = ![0, t.val, 0] ∧ (win0 (adm m hO) 5).index t = ![0, t.val, 0]
    ∧ (win0 (adm m hO) 6).index t = ![0, t.val, 0] := weight_facts t
theorem iblk_4 : (iblk m hO c 4 t : Vec Ideal S1x256x256 .f32) (ix3 (0 : Fin 1) r d) = V m c main_arg3 (ix3 (0 : Fin 1) (rowAt t r) d) :=
  congrArg (V m c main_arg3) (entry t r d _ _ ((Pipeline.Window.rect_emb_val (win0 (adm m hO) 4) t (ix3 (0 : Fin 1) r d) 0).trans (by rw [(weight_index m hO t).1]; rfl))
    ((Pipeline.Window.rect_emb_val (win0 (adm m hO) 4) t (ix3 (0 : Fin 1) r d) 1).trans (by rw [(weight_index m hO t).1]; rfl))
    ((Pipeline.Window.rect_emb_val (win0 (adm m hO) 4) t (ix3 (0 : Fin 1) r d) 2).trans (by rw [(weight_index m hO t).1]; rfl)))
theorem iblk_5 : (iblk m hO c 5 t : Vec Ideal S1x256x256 .f32) (ix3 (0 : Fin 1) r d) = V m c main_arg4 (ix3 (0 : Fin 1) (rowAt t r) d) :=
  congrArg (V m c main_arg4) (entry t r d _ _ ((Pipeline.Window.rect_emb_val (win0 (adm m hO) 5) t (ix3 (0 : Fin 1) r d) 0).trans (by rw [(weight_index m hO t).2.1]; rfl))
    ((Pipeline.Window.rect_emb_val (win0 (adm m hO) 5) t (ix3 (0 : Fin 1) r d) 1).trans (by rw [(weight_index m hO t).2.1]; rfl))
    ((Pipeline.Window.rect_emb_val (win0 (adm m hO) 5) t (ix3 (0 : Fin 1) r d) 2).trans (by rw [(weight_index m hO t).2.1]; rfl)))
theorem iblk_6 : (iblk m hO c 6 t : Vec Ideal S1x256x256 .f32) (ix3 (0 : Fin 1) r d) = V m c main_arg5 (ix3 (0 : Fin 1) (rowAt t r) d) :=
  congrArg (V m c main_arg5) (entry t r d _ _ ((Pipeline.Window.rect_emb_val (win0 (adm m hO) 6) t (ix3 (0 : Fin 1) r d) 0).trans (by rw [(weight_index m hO t).2.2]; rfl))
    ((Pipeline.Window.rect_emb_val (win0 (adm m hO) 6) t (ix3 (0 : Fin 1) r d) 1).trans (by rw [(weight_index m hO t).2.2]; rfl))
    ((Pipeline.Window.rect_emb_val (win0 (adm m hO) 6) t (ix3 (0 : Fin 1) r d) 2).trans (by rw [(weight_index m hO t).2.2]; rfl)))

/-- Where a point's results lie, and that every point writes them back. -/
theorem result_index : (win0 (adm m hO) 7).index t = ![0, t.val, 0] ∧ (win0 (adm m hO) 8).index t = ![0, t.val, 0]
    ∧ (win0 (adm m hO) 9).index t = ![0, t.val, 0] ∧ (win0 (adm m hO) 10).index t = ![0, t.val, 0] := result_facts t
theorem emb_7 : (((cfgM m hO).win 7).blk t).view.emb (ix3 (0 : Fin 1) r d) = (ix3 (0 : Fin 1) (rowAt t r) d : S1x1024x256.Idx) :=
  entry t r d _ _ ((Pipeline.Window.rect_emb_val (win0 (adm m hO) 7) t (ix3 (0 : Fin 1) r d) 0).trans (by rw [(result_index m hO t).1]; rfl))
    ((Pipeline.Window.rect_emb_val (win0 (adm m hO) 7) t (ix3 (0 : Fin 1) r d) 1).trans (by rw [(result_index m hO t).1]; rfl))
    ((Pipeline.Window.rect_emb_val (win0 (adm m hO) 7) t (ix3 (0 : Fin 1) r d) 2).trans (by rw [(result_index m hO t).1]; rfl))
theorem emb_8 : (((cfgM m hO).win 8).blk t).view.emb (ix3 (0 : Fin 1) r d) = (ix3 (0 : Fin 1) (rowAt t r) d : S1x1024x256.Idx) :=
  entry t r d _ _ ((Pipeline.Window.rect_emb_val (win0 (adm m hO) 8) t (ix3 (0 : Fin 1) r d) 0).trans (by rw [(result_index m hO t).2.1]; rfl))
    ((Pipeline.Window.rect_emb_val (win0 (adm m hO) 8) t (ix3 (0 : Fin 1) r d) 1).trans (by rw [(result_index m hO t).2.1]; rfl))
    ((Pipeline.Window.rect_emb_val (win0 (adm m hO) 8) t (ix3 (0 : Fin 1) r d) 2).trans (by rw [(result_index m hO t).2.1]; rfl))
theorem emb_9 : (((cfgM m hO).win 9).blk t).view.emb (ix3 (0 : Fin 1) r d) = (ix3 (0 : Fin 1) (rowAt t r) d : S1x1024x256.Idx) :=
  entry t r d _ _ ((Pipeline.Window.rect_emb_val (win0 (adm m hO) 9) t (ix3 (0 : Fin 1) r d) 0).trans (by rw [(result_index m hO t).2.2.1]; rfl))
    ((Pipeline.Window.rect_emb_val (win0 (adm m hO) 9) t (ix3 (0 : Fin 1) r d) 1).trans (by rw [(result_index m hO t).2.2.1]; rfl))
    ((Pipeline.Window.rect_emb_val (win0 (adm m hO) 9) t (ix3 (0 : Fin 1) r d) 2).trans (by rw [(result_index m hO t).2.2.1]; rfl))
theorem emb_10 : (((cfgM m hO).win 10).blk t).view.emb (ix3 (0 : Fin 1) r d) = (ix3 (0 : Fin 1) (rowAt t r) d : S1x1024x256.Idx) :=
  entry t r d _ _ ((Pipeline.Window.rect_emb_val (win0 (adm m hO) 10) t (ix3 (0 : Fin 1) r d) 0).trans (by rw [(result_index m hO t).2.2.2]; rfl))
    ((Pipeline.Window.rect_emb_val (win0 (adm m hO) 10) t (ix3 (0 : Fin 1) r d) 1).trans (by rw [(result_index m hO t).2.2.2]; rfl))
    ((Pipeline.Window.rect_emb_val (win0 (adm m hO) 10) t (ix3 (0 : Fin 1) r d) 2).trans (by rw [(result_index m hO t).2.2.2]; rfl))

theorem flush_facts : ∀ t : Fin grid0.N, (win0 ⟨pinned 0, ok_pinned 0⟩ 7).flush t = true ∧ (win0 ⟨pinned 0, ok_pinned 0⟩ 8).flush t = true
    ∧ (win0 ⟨pinned 0, ok_pinned 0⟩ 9).flush t = true ∧ (win0 ⟨pinned 0, ok_pinned 0⟩ 10).flush t = true := by decide +kernel

/-- What a point leaves in the results' buffers. -/
theorem left_7 (y : S1x256x256.Idx) : (outsAt0 m hO c t).1 y
    = k0_pay7 (iblk m hO c 3 t) (iblk m hO c 0 t) (iblk m hO c 1 t) (iblk m hO c 2 t) y := by
  unfold outsAt0
  dsimp only
  apply out_7
theorem left_8 (y : S1x256x256.Idx) : (outsAt0 m hO c t).2.1 y
    = k0_pay3 (k0_pay5 (iblk m hO c 3 t) (iblk m hO c 0 t) (iblk m hO c 1 t) (iblk m hO c 2 t) (iblk m hO c 5 t))
      (k0_pay6 (iblk m hO c 3 t) (iblk m hO c 0 t) (iblk m hO c 1 t) (iblk m hO c 2 t) (iblk m hO c 6 t)) (iblk m hO c 4 t) y := by
  unfold outsAt0
  dsimp only
  apply out_8
theorem left_9 (y : S1x256x256.Idx) : (outsAt0 m hO c t).2.2.1 y
    = k0_pay1 (k0_pay5 (iblk m hO c 3 t) (iblk m hO c 0 t) (iblk m hO c 1 t) (iblk m hO c 2 t) (iblk m hO c 5 t)) y := by
  unfold outsAt0
  dsimp only
  apply out_9
theorem left_10 (y : S1x256x256.Idx) : (outsAt0 m hO c t).2.2.2 y
    = k0_pay2 (k0_pay6 (iblk m hO c 3 t) (iblk m hO c 0 t) (iblk m hO c 1 t) (iblk m hO c 2 t) (iblk m hO c 6 t)) y := by
  unfold outsAt0
  dsimp only
  apply out_10

include hk in
/-- A point's gradient is its block of the whole gradient. -/
theorem part_at : part (iblk m hO c 0 t) (iblk m hO c 1 t) (iblk m hO c 2 t) (iblk m hO c 3 t) r d
    = gathered k (V m c main_arg0) (V m c main_arg1) (ix3 (0 : Fin 1) (rowAt t r) d) := by
  unfold part gathered
  rw [iblk_0 m hO c hk t r d, iblk_1 m hO c hk t r d, iblk_2 m hO c hk t r d, iblk_3 m hO c hk t r d]

/-! ## The arrays after the run -/

include hk in
theorem final_7 : (dats m hO 0 c).arrAt 7 (cfgM m hO).N = gathered k (V m c main_arg0) (V m c main_arg1) := by
  refine Pipeline.Dat.arrAt_eq_of_cover (dats m hO 0 c) 7 _ (fun t _ => ?_) (fun i => ?_)
  · funext y
    obtain ⟨r, d, rfl⟩ := block_entry y
    refine Eq.trans ?_ (congrArg (gathered k (V m c main_arg0) (V m c main_arg1)) (emb_7 m hO t r d)).symm
    show (dats m hO 0 c).after 7 t (ix3 (0 : Fin 1) r d) = _
    rw [after0_7]
    refine (left_7 m hO c t _).trans ?_
    refine Eq.trans (α := EReal) (gradient_stored _ _ _ _ r d) ?_
    exact (gradient_apply _ _ _ _ r d).trans (part_at m hO c hk t r d)
  · obtain ⟨t, r, d, rfl⟩ := rows_cover i
    exact ⟨t, (flush_facts t).1, Eq.subst (motive := fun j => j ∈ (((cfgM m hO).win 7).blk t).view.set) (emb_7 m hO t r d) ((((cfgM m hO).win 7).blk t).view.emb_mem_set (ix3 (0 : Fin 1) r d))⟩

include hk in
theorem final_8 : (dats m hO 0 c).arrAt 8 (cfgM m hO).N
    = changes k (V m c main_arg0) (V m c main_arg1) (V m c main_arg3) (V m c main_arg4) (V m c main_arg5) := by
  refine Pipeline.Dat.arrAt_eq_of_cover (dats m hO 0 c) 8 _ (fun t _ => ?_) (fun i => ?_)
  · funext y
    obtain ⟨r, d, rfl⟩ := block_entry y
    refine Eq.trans ?_ (congrArg (changes k (V m c main_arg0) (V m c main_arg1) (V m c main_arg3) (V m c main_arg4) (V m c main_arg5)) (emb_8 m hO t r d)).symm
    show (dats m hO 0 c).after 8 t (ix3 (0 : Fin 1) r d) = _
    rw [after0_8]
    refine (left_8 m hO c t _).trans ?_
    refine (change_apply _ _ _ _ _ _ _ r d).trans ?_
    rw [part_at m hO c hk t r d, iblk_4, iblk_5, iblk_6]
    rfl
  · obtain ⟨t, r, d, rfl⟩ := rows_cover i
    exact ⟨t, (flush_facts t).2.1, Eq.subst (motive := fun j => j ∈ (((cfgM m hO).win 8).blk t).view.set) (emb_8 m hO t r d) ((((cfgM m hO).win 8).blk t).view.emb_mem_set (ix3 (0 : Fin 1) r d))⟩

include hk in
theorem final_9 : (dats m hO 0 c).arrAt 9 (cfgM m hO).N = firsts k (V m c main_arg0) (V m c main_arg1) (V m c main_arg4) := by
  refine Pipeline.Dat.arrAt_eq_of_cover (dats m hO 0 c) 9 _ (fun t _ => ?_) (fun i => ?_)
  · funext y
    obtain ⟨r, d, rfl⟩ := block_entry y
    refine Eq.trans ?_ (congrArg (firsts k (V m c main_arg0) (V m c main_arg1) (V m c main_arg4)) (emb_9 m hO t r d)).symm
    show (dats m hO 0 c).after 9 t (ix3 (0 : Fin 1) r d) = _
    rw [after0_9]
    refine (left_9 m hO c t _).trans ?_
    refine Eq.trans (α := EReal) (first_stored r d _) ((first_apply _ _ _ _ _ r d).trans ?_)
    rw [part_at m hO c hk t r d, iblk_5]
    rfl
  · obtain ⟨t, r, d, rfl⟩ := rows_cover i
    exact ⟨t, (flush_facts t).2.2.1, Eq.subst (motive := fun j => j ∈ (((cfgM m hO).win 9).blk t).view.set) (emb_9 m hO t r d) ((((cfgM m hO).win 9).blk t).view.emb_mem_set (ix3 (0 : Fin 1) r d))⟩

include hk in
theorem final_10 : (dats m hO 0 c).arrAt 10 (cfgM m hO).N = seconds k (V m c main_arg0) (V m c main_arg1) (V m c main_arg5) := by
  refine Pipeline.Dat.arrAt_eq_of_cover (dats m hO 0 c) 10 _ (fun t _ => ?_) (fun i => ?_)
  · funext y
    obtain ⟨r, d, rfl⟩ := block_entry y
    refine Eq.trans ?_ (congrArg (seconds k (V m c main_arg0) (V m c main_arg1) (V m c main_arg5)) (emb_10 m hO t r d)).symm
    show (dats m hO 0 c).after 10 t (ix3 (0 : Fin 1) r d) = _
    rw [after0_10]
    refine (left_10 m hO c t _).trans ?_
    refine Eq.trans (α := EReal) (second_stored r d _) ((second_apply _ _ _ _ _ r d).trans ?_)
    rw [part_at m hO c hk t r d, iblk_6]
    rfl
  · obtain ⟨t, r, d, rfl⟩ := rows_cover i
    exact ⟨t, (flush_facts t).2.2.2, Eq.subst (motive := fun j => j ∈ (((cfgM m hO).win 10).blk t).view.set) (emb_10 m hO t r d) ((((cfgM m hO).win 10).blk t).view.emb_mem_set (ix3 (0 : Fin 1) r d))⟩

end

/-- The run, its results named and its arguments kept. -/
theorem run_arrays (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v0_0) = (dats m hO 0 c).arrAt 7 (cfgM m hO).N
      ∧ r.2.mem ((c.tc : Thread nD τ).loc main_v0_1) = (dats m hO 0 c).arrAt 8 (cfgM m hO).N
      ∧ r.2.mem ((c.tc : Thread nD τ).loc main_v0_2) = (dats m hO 0 c).arrAt 9 (cfgM m hO).N
      ∧ r.2.mem ((c.tc : Thread nD τ).loc main_v0_3) = (dats m hO 0 c).arrAt 10 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 7, (h.1 c).1 8, (h.1 c).1 9, (h.1 c).1 10, h.2 c⟩) (θ_run_and (run_main m ρ hO) (unchanged m ρ hO))

/-! ## The reference -/

section
open Cert.OptColumnsRefIdeal Cert.OptColumnsRefIdeal.Read Cert.OptColumnsRefIdeal.Gen
variable {k : Fin 4} (land sums : S4x1024x256.Idx → EReal) (chip : S1.Idx → BitVec 32) (w u v : S1x1024x256.Idx → EReal)

/-- The reference's choice between the own part and a landed one. -/
theorem choice_apply (hc : ∀ i, chip i = BitVec.ofNat 32 k.val) (j : Fin 4) (s : Fin 1024) (d : Fin 256) :
    @Eq EReal (val_main_v7 (F := Ideal) land sums chip (ix3 j s d)) (if j = k then sums (ix3 j s d) else land (ix3 j s d)) := by
  rw [val_main_v7_apply, val_main_call0_v0_apply, val_main_v4_apply, val_main_v1_apply, val_main_v0_apply, val_main_v3_apply, val_main_v2_apply, hc]
  exact choose_eq j k _ _

/-- The reference's four results. -/
theorem reference_7 (hc : ∀ i, chip i = BitVec.ofNat 32 k.val) : val_main_v9 (F := Ideal) land sums chip = gathered k land sums := by
  funext y
  rw [val_main_v9_apply]
  refine (val_main_v8_apply land sums chip _).trans ?_
  refine Eq.trans (congrArg₂ (· + ·) Ideal.ofBits_zero_f32 (Finset.sum_congr rfl fun j _ => ?_)) ((zero_add _).trans (sum_parts k land sums y))
  refine Eq.trans (congrArg (val_main_v7 (F := Ideal) land sums chip) ?_) (choice_apply land sums chip hc j (y 1) (y 2))
  exact funext fun a => match a with | ⟨0, _⟩ => rfl | ⟨1, _⟩ => rfl | ⟨2, _⟩ => rfl

theorem reference_9 (hc : ∀ i, chip i = BitVec.ofNat 32 k.val) : val_main_v14 (F := Ideal) land sums chip u = firsts k land sums u := by
  funext y
  show Ideal.ofBits .f32 0x3F666666#32 * u y + Ideal.ofBits .f32 0x3DCCCCCD#32 * (val_main_v9 (F := Ideal) land sums chip y : EReal) = _
  rw [reference_7 land sums chip hc]
  rfl

theorem reference_10 (hc : ∀ i, chip i = BitVec.ofNat 32 k.val) : val_main_v20 (F := Ideal) land sums chip v = seconds k land sums v := by
  funext y
  show Ideal.ofBits .f32 0x3F7FBE77#32 * v y + Ideal.ofBits .f32 0x3A83126F#32
    * ((val_main_v9 (F := Ideal) land sums chip y : EReal) * (val_main_v9 (F := Ideal) land sums chip y : EReal)) = _
  rw [reference_7 land sums chip hc]
  rfl

theorem reference_8 (hc : ∀ i, chip i = BitVec.ofNat 32 k.val) : val_main_v33 (F := Ideal) land sums chip w u v = changes k land sums w u v := by
  funext y
  show Ideal.ofBits .f32 0xBA83126F#32 * (Ideal.div (Ideal.div (val_main_v14 (F := Ideal) land sums chip u y : EReal) (Ideal.ofBits .f32 0x3F26BD02#32))
    (Ideal.sqrt (Ideal.div (val_main_v20 (F := Ideal) land sums chip v y : EReal) (Ideal.ofBits .f32 0x3C231ACC#32)) + Ideal.ofBits .f32 0x322BCC77#32)
    + Ideal.ofBits .f32 0x3C23D70A#32 * w y) = _
  rw [reference_9 land sums chip u hc, reference_10 land sums chip v hc]
  rfl
end
end Cert.OptColumnsIdeal.Hand

namespace Cert.Proof
open Idealize.ShloMosaic Idealize.ShloMosaic.TcCoe Idealize.SL.Sem

/-- The optimiser's step of a weight shared by columns, kernel and reference. -/
theorem algebraic_opt_columns : @Cert.algebraic_OptColumnsIdeal_OptColumnsRefIdeal Cert.OptColumnsIdeal.Gen.facts Cert.OptColumnsRefIdeal.Gen.facts
    Cert.Pre_a_chip_columns.Gen.facts := by
  pair_intro
  · run_from Cert.OptColumnsIdeal.Hand.run_arrays m g (Cert.OptColumnsIdeal.Hand.ok_of_pre m hpre)
  · refine (θ_run _ _ _).mono (fun r hr c => ?_) (Cert.OptColumnsRefIdeal.Value.run m' g')
    obtain ⟨r0, r1, r2, r3, ra⟩ := hr c
    obtain ⟨a0, a1, a2, a3, a4, a5⟩ := hagree c
    obtain ⟨k, hk⟩ := Cert.OptColumnsIdeal.Hand.tbl_of_pre m hpre
    have hO := Cert.OptColumnsIdeal.Hand.ok_of_pre m hpre
    have hc : ∀ i, m ((c.tc : Thread Cert.OptColumnsIdeal.nD Cert.OptColumnsIdeal.τ).loc Cert.OptColumnsIdeal.main_arg2) i = BitVec.ofNat 32 k.val :=
      fun i => congrFun ((Cert.OptColumnsIdeal.Gen.V_pre m c 0).trans (congrFun hk 0)) i
    refine ⟨r0.trans ?_, r1.trans ?_, r2.trans ?_, r3.trans ?_, ra⟩
    · rw [Cert.OptColumnsRefIdeal.Read.val_main_v9_eq, a0, a1, a2]
      exact (Cert.OptColumnsIdeal.Hand.reference_7 _ _ _ hc).trans (Cert.OptColumnsIdeal.Hand.final_7 m hO c hk).symm
    · rw [Cert.OptColumnsRefIdeal.Read.val_main_v33_eq, a0, a1, a2, a3, a4, a5]
      exact (Cert.OptColumnsIdeal.Hand.reference_8 _ _ _ _ _ _ hc).trans (Cert.OptColumnsIdeal.Hand.final_8 m hO c hk).symm
    · rw [Cert.OptColumnsRefIdeal.Read.val_main_v14_eq, a0, a1, a2, a4]
      exact (Cert.OptColumnsIdeal.Hand.reference_9 _ _ _ _ hc).trans (Cert.OptColumnsIdeal.Hand.final_9 m hO c hk).symm
    · rw [Cert.OptColumnsRefIdeal.Read.val_main_v20_eq, a0, a1, a2, a5]
      exact (Cert.OptColumnsIdeal.Hand.reference_10 _ _ _ _ hc).trans (Cert.OptColumnsIdeal.Hand.final_10 m hO c hk).symm

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.WinLeft.Frame
public import proofs.«01_k».proof.Proof.Gen.WinLeftIdeal.Value
public import proofs.«01_k».proof.Proof.Gen.WinLeftRefIdeal.Run
public import proofs.«01_k».proof.Proof.Gen.WinLeftRefIdeal.Read
public import proofs.«01_k».proof.Proof.Gen.WinRight.Frame
public import proofs.«01_k».proof.Proof.Gen.WinRightIdeal.Value
public import proofs.«01_k».proof.Proof.Gen.WinRightRefIdeal.Run
public import proofs.«01_k».proof.Proof.Gen.WinRightRefIdeal.Read
public import proofs.«01_k».proof.Proof.Gen.Wout.Frame
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.Wbr.Frame
public import proofs.«01_k».proof.Proof.Gen.WbrIdeal.Value
public import proofs.«01_k».proof.Proof.Gen.WbrRefIdeal.Run
public import proofs.«01_k».proof.Proof.Gen.WbrRefIdeal.Read
public import proofs.«01_k».proof.Proof.Gen.DxRefIdeal.Run
public import proofs.«01_k».proof.Proof.Gen.DxRefIdeal.Read
public import proofs.«01_k».proof.Proof.Gen.Pre_finite_dx
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.OutLoss.Frame
public import proofs.«01_k».proof.Proof.Gen.OutLossIdeal.Value
public import proofs.«01_k».proof.Proof.Gen.OutLossRefIdeal.Run
public import proofs.«01_k».proof.Proof.Gen.OutLossRefIdeal.Read
public import proofs.«01_k».proof.Proof.Gen.MemKv.Frame
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.Wmem.Frame
public import proofs.«01_k».proof.Proof.Gen.WmemIdeal.Value
public import proofs.«01_k».proof.Proof.Gen.WmemRefIdeal.Run
public import proofs.«01_k».proof.Proof.Gen.WmemRefIdeal.Read
public import proofs.«01_k».proof.Proof.Gen.Dmemn.Frame
public import proofs.«01_k».proof.Proof.Gen.DmemnIdeal.Value
public import proofs.«01_k».proof.Proof.Gen.DmemnRefIdeal.Run
public import proofs.«01_k».proof.Proof.Gen.DmemnRefIdeal.Read
public import proofs.«01_k».proof.Proof.Gen.OptRows.Frame
public import proofs.«01_k».proof.Proof.Gen.OptRowsIdeal.Frame
public import proofs.«01_k».proof.Proof.Gen.OptRowsRefIdeal.Run
public import proofs.«01_k».proof.Proof.Gen.OptRowsRefIdeal.Read
public import proofs.«01_k».proof.Proof.Gen.OptColumns.Frame
public import proofs.«01_k».proof.Proof.Gen.OptColumnsIdeal.Frame
public import proofs.«01_k».proof.Proof.Gen.OptColumnsRefIdeal.Run
public import proofs.«01_k».proof.Proof.Gen.OptColumnsRefIdeal.Read
public import proofs.«01_k».proof.Proof.Gen.Pre_a_chip
public import proofs.«01_k».proof.Proof.Gen.Pre_a_chip_columns
public import proofs.«01_k».proof.Proof.Gen.Pre_finite_loss
public import proofs.«01_k».proof.Proof.Algebraic
public import proofs.«01_k».proof.Proof.InputWeightLeft
public import proofs.«01_k».proof.Proof.InputWeightRight
public import proofs.«01_k».proof.Proof.OutputWeight
public import proofs.«01_k».proof.Proof.BranchWeight
public import proofs.«01_k».proof.Proof.SameRun
public import proofs.«01_k».proof.Proof.DxAlgebraic
public import proofs.«01_k».proof.Proof.MergeReference
public import proofs.«01_k».proof.Proof.MergeForward
public import proofs.«01_k».proof.Proof.OutLoss
public import proofs.«01_k».proof.Proof.DyAlgebraic
public import proofs.«01_k».proof.Proof.MemoryKv
public import proofs.«01_k».proof.Proof.MemoryWeight
public import proofs.«01_k».proof.Proof.MemoryInput
public import proofs.«01_k».proof.Proof.OptRows
public import proofs.«01_k».proof.Proof.OptColumns
public import Idealize.ShloMosaic.Adequacy
public import Idealize.ShloMosaic.Init

@[expose] public section

noncomputable section

namespace Cert.Proof

open Idealize.ShloMosaic Idealize.SL.Sem Cert.Kernel

/-- The reference is host code without a semaphore: it keeps its arguments and leaves every counter at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same of the reference for the left half of the input weight's gradient. -/
theorem frame_WinLeft : Cert.quiescent_WinLeftRefIdeal := fun m ρ _ =>
  (θ_run Cert.WinLeftRefIdeal.defs _ _).mono (fun r h => ⟨fun c => (h c).2, sem_eq_zero_of_no_sems (by decide) r.2⟩)
    (Cert.WinLeftRefIdeal.Value.run (F := Ideal) m ρ)

/-- The same of the reference for the right half of the input weight's gradient. -/
theorem frame_WinRight : Cert.quiescent_WinRightRefIdeal := fun m ρ _ =>
  (θ_run Cert.WinRightRefIdeal.defs _ _).mono (fun r h => ⟨fun c => (h c).2, sem_eq_zero_of_no_sems (by decide) r.2⟩)
    (Cert.WinRightRefIdeal.Value.run (F := Ideal) m ρ)

/-- The same of the reference for the gradients of the layer's input and of its norm's scale. -/
theorem frame_Dx : Cert.quiescent_DxRefIdeal := fun m ρ _ =>
  (θ_run Cert.DxRefIdeal.defs _ _).mono (fun r h => ⟨fun c => (h c).2.2, sem_eq_zero_of_no_sems (by decide) r.2⟩)
    (Cert.DxRefIdeal.Value.run (F := Ideal) m ρ)

/-- The same of the reference for the gated merge's gradient. -/
theorem frame_Merge : Cert.quiescent_MergeRefIdeal := fun m ρ _ =>
  (θ_run Cert.MergeRefIdeal.defs _ _).mono (fun r h => ⟨fun c => (h c).2.2.2.2.2.2, sem_eq_zero_of_no_sems (by decide) r.2⟩)
    (Cert.MergeRefIdeal.Value.run (F := Ideal) m ρ)

/-- The same of the reference for the output weight's gradient. -/
theorem frame_Wout : Cert.quiescent_WoutRefIdeal := fun m ρ _ =>
  (θ_run Cert.WoutRefIdeal.defs _ _).mono (fun r h => ⟨fun c => (h c).2, sem_eq_zero_of_no_sems (by decide) r.2⟩)
    (Cert.WoutRefIdeal.Value.run (F := Ideal) m ρ)

/-- The same of the reference for the branch weight's gradient. -/
theorem frame_Wbr : Cert.quiescent_WbrRefIdeal := fun m ρ _ =>
  (θ_run Cert.WbrRefIdeal.defs _ _).mono (fun r h => ⟨fun c => (h c).2, sem_eq_zero_of_no_sems (by decide) r.2⟩)
    (Cert.WbrRefIdeal.Value.run (F := Ideal) m ρ)

/-- The same of the reference for the gated merge. -/
theorem frame_MergeFwd : Cert.quiescent_MergeFwdRefIdeal := fun m ρ _ =>
  (θ_run Cert.MergeFwdRefIdeal.defs _ _).mono (fun r h => ⟨fun c => (h c).2.2.2.2, sem_eq_zero_of_no_sems (by decide) r.2⟩)
    (Cert.MergeFwdRefIdeal.Value.run (F := Ideal) m ρ)

/-- The same of the reference for the loss head. -/
theorem frame_OutLoss : Cert.quiescent_OutLossRefIdeal := fun m ρ _ =>
  (θ_run Cert.OutLossRefIdeal.defs _ _).mono (fun r h => ⟨fun c => (h c).2.2.2.2, sem_eq_zero_of_no_sems (by decide) r.2⟩)
    (Cert.OutLossRefIdeal.Value.run (F := Ideal) m ρ)

/-- The same of the reference for the branches' cotangents. -/
theorem frame_Dy : Cert.quiescent_DyBrRefIdeal := fun m ρ _ =>
  (θ_run Cert.DyBrRefIdeal.defs _ _).mono (fun r h => ⟨fun c => (h c).2.2.2, sem_eq_zero_of_no_sems (by decide) r.2⟩)
    (Cert.DyBrRefIdeal.Value.run (F := Ideal) m ρ)

/-- The same of the reference for the memory's keys and values. -/
theorem frame_MemKv : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

/-- The same of the reference for the gradient of their weight. -/
theorem frame_Wmem : Cert.quiescent_WmemRefIdeal := fun m ρ _ =>
  (θ_run Cert.WmemRefIdeal.defs _ _).mono (fun r h => ⟨fun c => (h c).2, sem_eq_zero_of_no_sems (by decide) r.2⟩)
    (Cert.WmemRefIdeal.Value.run (F := Ideal) m ρ)

/-- The same of the reference for the normed memory's gradient. -/
theorem frame_Dmemn : Cert.quiescent_DmemnRefIdeal := fun m ρ _ =>
  (θ_run Cert.DmemnRefIdeal.defs _ _).mono (fun r h => ⟨fun c => (h c).2, sem_eq_zero_of_no_sems (by decide) r.2⟩)
    (Cert.DmemnRefIdeal.Value.run (F := Ideal) m ρ)

/-- The same of the reference for the optimiser's step of a weight shared by rows. -/
theorem frame_OptRows : Cert.quiescent_OptRowsRefIdeal := fun m ρ _ =>
  (θ_run Cert.OptRowsRefIdeal.defs _ _).mono (fun r h => ⟨fun c => (h c).2.2.2.2, sem_eq_zero_of_no_sems (by decide) r.2⟩)
    (Cert.OptRowsRefIdeal.Value.run (F := Ideal) m ρ)

/-- The same of the reference for the optimiser's step of a weight shared by columns. -/
theorem frame_OptColumns : Cert.quiescent_OptColumnsRefIdeal := fun m ρ _ =>
  (θ_run Cert.OptColumnsRefIdeal.defs _ _).mono (fun r h => ⟨fun c => (h c).2.2.2.2, sem_eq_zero_of_no_sems (by decide) r.2⟩)
    (Cert.OptColumnsRefIdeal.Value.run (F := Ideal) m ρ)

/-- The frames, the ideal programs' origin, and the equations. -/
theorem claim : Cert.Claim := ⟨Cert.Kernel.Gen.facts, Cert.KernelIdeal.Gen.facts, Cert.ReferenceIdeal.Gen.facts,
  Cert.WinLeft.Gen.facts, Cert.WinLeftIdeal.Gen.facts, Cert.WinLeftRefIdeal.Gen.facts,
  Cert.WinRight.Gen.facts, Cert.WinRightIdeal.Gen.facts, Cert.WinRightRefIdeal.Gen.facts,
  Cert.Dx.Gen.facts, Cert.DxIdeal.Gen.facts, Cert.DxRefIdeal.Gen.facts,
  Cert.Merge.Gen.facts, Cert.MergeIdeal.Gen.facts, Cert.MergeRefIdeal.Gen.facts,
  Cert.Wout.Gen.facts, Cert.WoutIdeal.Gen.facts, Cert.WoutRefIdeal.Gen.facts,
  Cert.Wbr.Gen.facts, Cert.WbrIdeal.Gen.facts, Cert.WbrRefIdeal.Gen.facts,
  Cert.MergeFwd.Gen.facts, Cert.MergeFwdIdeal.Gen.facts, Cert.MergeFwdRefIdeal.Gen.facts,
  Cert.OutLoss.Gen.facts, Cert.OutLossIdeal.Gen.facts, Cert.OutLossRefIdeal.Gen.facts,
  Cert.DyBr.Gen.facts, Cert.DyBrIdeal.Gen.facts, Cert.DyBrRefIdeal.Gen.facts,
  Cert.MemKv.Gen.facts, Cert.MemKvIdeal.Gen.facts, Cert.MemKvRefIdeal.Gen.facts,
  Cert.Wmem.Gen.facts, Cert.WmemIdeal.Gen.facts, Cert.WmemRefIdeal.Gen.facts,
  Cert.Dmemn.Gen.facts, Cert.DmemnIdeal.Gen.facts, Cert.DmemnRefIdeal.Gen.facts,
  Cert.OptRows.Gen.facts, Cert.OptRowsIdeal.Gen.facts, Cert.OptRowsRefIdeal.Gen.facts,
  Cert.OptColumns.Gen.facts, Cert.OptColumnsIdeal.Gen.facts, Cert.OptColumnsRefIdeal.Gen.facts,
  Cert.Pre_finite.Gen.facts, Cert.Pre_finite_dx.Gen.facts, Cert.Pre_finite_loss.Gen.facts, Cert.Pre_a_chip.Gen.facts, Cert.Pre_a_chip_columns.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.WinLeft.Gen.frame m ρ, fun m ρ _ => Cert.WinLeftIdeal.Gen.frame m ρ, frame_WinLeft,
  fun m ρ _ => Cert.WinRight.Gen.frame m ρ, fun m ρ _ => Cert.WinRightIdeal.Gen.frame m ρ, frame_WinRight,
  frame_dh_dx, fun m ρ _ => Cert.DxIdeal.Run.frame_claim m ρ, fun m ρ _ => Cert.DxIdeal.Run.frame_claim m ρ,
  frame_Dx, fun m ρ _ => frame_Dx m ρ trivial,
  fun m ρ _ => Cert.Merge.Gen.frame m ρ, fun m ρ _ => Cert.MergeIdeal.Gen.frame m ρ, frame_Merge,
  fun m ρ _ => Cert.Wout.Gen.frame m ρ, fun m ρ _ => Cert.WoutIdeal.Gen.frame m ρ, frame_Wout,
  fun m ρ _ => Cert.Wbr.Gen.frame m ρ, fun m ρ _ => Cert.WbrIdeal.Gen.frame m ρ, frame_Wbr,
  fun m ρ _ => Cert.MergeFwd.Gen.frame m ρ, fun m ρ _ => Cert.MergeFwdIdeal.Gen.frame m ρ, frame_MergeFwd,
  fun m ρ _ => Cert.OutLoss.Gen.frame m ρ, fun m ρ _ => Cert.OutLossIdeal.Gen.frame m ρ, fun m ρ _ => Cert.OutLossIdeal.Gen.frame m ρ,
  frame_OutLoss, fun m ρ _ => frame_OutLoss m ρ trivial,
  frame_dy_br, fun m ρ _ => Cert.DyBrIdeal.Run.frame_claim m ρ, frame_Dy,
  fun m ρ _ => Cert.MemKv.Gen.frame m ρ, fun m ρ _ => Cert.MemKvIdeal.Gen.frame m ρ, frame_MemKv,
  fun m ρ _ => Cert.Wmem.Gen.frame m ρ, fun m ρ _ => Cert.WmemIdeal.Gen.frame m ρ, frame_Wmem,
  fun m ρ _ => Cert.Dmemn.Gen.frame m ρ, fun m ρ _ => Cert.DmemnIdeal.Gen.frame m ρ, frame_Dmemn,
  fun m ρ h => Cert.OptRows.Gen.frame m ρ (Cert.OptRows.Hand.ok_of_pre m h),
  fun m ρ h => Cert.OptRowsIdeal.Gen.frame m ρ (Cert.OptRowsIdeal.Hand.ok_of_pre m h),
  frame_OptRows, fun m ρ _ => frame_OptRows m ρ trivial,
  fun m ρ h => Cert.OptColumns.Gen.frame m ρ (Cert.OptColumns.Hand.ok_of_pre m h),
  fun m ρ h => Cert.OptColumnsIdeal.Gen.frame m ρ (Cert.OptColumnsIdeal.Hand.ok_of_pre m h),
  frame_OptColumns, fun m ρ _ => frame_OptColumns m ρ trivial,
  trivial, algebraic, trivial, algebraic_left, trivial, algebraic_right, trivial, algebraic_dx, trivial, algebraic_merge,
  trivial, algebraic_out, trivial, algebraic_branch, trivial, algebraic_merge_forward, trivial, algebraic_loss, trivial, algebraic_dy,
  trivial, algebraic_memory, trivial, algebraic_memory_weight, trivial, algebraic_memory_input,
  trivial, algebraic_opt_rows, trivial, algebraic_opt_columns⟩

end Cert.Proof

end
